-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v42_0) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x12160 : Shape := ⟨3, ![4, 256, 12160]⟩
abbrev S17024x12160 : Shape := ⟨2, ![17024, 12160]⟩
abbrev S17024x380 : Shape := ⟨2, ![17024, 380]⟩
abbrev S1024x12160 : Shape := ⟨2, ![1024, 12160]⟩
abbrev S1024x17024 : Shape := ⟨2, ![1024, 17024]⟩
abbrev S1024x1 : Shape := ⟨2, ![1024, 1]⟩
abbrev S1024x12288 : Shape := ⟨2, ![1024, 12288]⟩
abbrev S3x2x256x12160 : Shape := ⟨4, ![3, 2, 256, 12160]⟩
abbrev S3x2x256x380 : Shape := ⟨4, ![3, 2, 256, 380]⟩
abbrev S2x256x384 : Shape := ⟨3, ![2, 256, 384]⟩
abbrev S1024x128 : Shape := ⟨2, ![1024, 128]⟩
abbrev S2x1024x256 : Shape := ⟨3, ![2, 1024, 256]⟩
abbrev S2x32x12160 : Shape := ⟨3, ![2, 32, 12160]⟩
abbrev S32 : Shape := ⟨1, ![32]⟩
abbrev S3x12 : Shape := ⟨2, ![3, 12]⟩
abbrev S2 : Shape := ⟨1, ![2]⟩
abbrev S1 : Shape := ⟨1, ![1]⟩
abbrev S_ : Shape := ⟨0, ![]⟩
abbrev S32x12160 : Shape := ⟨2, ![32, 12160]⟩
abbrev S1x1 : Shape := ⟨2, ![1, 1]⟩
abbrev S1x1x256x12160 : Shape := ⟨4, ![1, 1, 256, 12160]⟩
abbrev S256x12160 : Shape := ⟨2, ![256, 12160]⟩
abbrev S1x1x256x380 : Shape := ⟨4, ![1, 1, 256, 380]⟩
abbrev S256x380 : Shape := ⟨2, ![256, 380]⟩
abbrev S1x32x12160 : Shape := ⟨3, ![1, 32, 12160]⟩
abbrev S32x128 : Shape := ⟨2, ![32, 128]⟩
abbrev S32x1 : Shape := ⟨2, ![32, 1]⟩
abbrev S1x32x128 : Shape := ⟨3, ![1, 32, 128]⟩
abbrev S256x128 : Shape := ⟨2, ![256, 128]⟩
abbrev S256x256 : Shape := ⟨2, ![256, 256]⟩
abbrev S1x256x380 : Shape := ⟨3, ![1, 256, 380]⟩
abbrev S1x256x128 : Shape := ⟨3, ![1, 256, 128]⟩
abbrev S256x128x1 : Shape := ⟨3, ![256, 128, 1]⟩
abbrev S1x1x256x128 : Shape := ⟨4, ![1, 1, 256, 128]⟩
abbrev S1024x256 : Shape := ⟨2, ![1024, 256]⟩
abbrev S1x1024x256 : Shape := ⟨3, ![1, 1024, 256]⟩
abbrev S1x1x128x12160 : Shape := ⟨4, ![1, 1, 128, 12160]⟩
abbrev S128x12160 : Shape := ⟨2, ![128, 12160]⟩
abbrev S1x1x128x380 : Shape := ⟨4, ![1, 1, 128, 380]⟩
abbrev S128x380 : Shape := ⟨2, ![128, 380]⟩
abbrev S1x256x256 : Shape := ⟨3, ![1, 256, 256]⟩
abbrev S1x1024x128 : Shape := ⟨3, ![1, 1024, 128]⟩
abbrev S4x256x17024 : Shape := ⟨3, ![4, 256, 17024]⟩
abbrev S4x256x1 : Shape := ⟨3, ![4, 256, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x256x12160, .bf16⟩
  | .hbm, ⟨1, _⟩ => ⟨S17024x12160, .fp8e4m3⟩
  | .hbm, ⟨2, _⟩ => ⟨S17024x380, .i8⟩
  | .hbm, ⟨3, _⟩ => ⟨S17024x12160, .fp8e4m3⟩
  | .hbm, ⟨4, _⟩ => ⟨S17024x380, .i8⟩
  | .hbm, ⟨5, _⟩ => ⟨S1024x12160, .bf16⟩
  | .hbm, ⟨6, _⟩ => ⟨S1024x17024, .bf16⟩
  | .hbm, ⟨7, _⟩ => ⟨S1024x12160, .fp8e4m3⟩
  | .hbm, ⟨8, _⟩ => ⟨S1024x1, .f32⟩
  | .hbm, ⟨9, _⟩ => ⟨S4x256x17024, .bf16⟩
  | .hbm, ⟨10, _⟩ => ⟨S4x256x12160, .fp8e4m3⟩
  | .hbm, ⟨11, _⟩ => ⟨S4x256x1, .f32⟩
  | .local _ .vmem, ⟨0, _⟩ => ⟨S1024x1, .f32⟩
  | .local _ .vmem, ⟨1, _⟩ => ⟨S1024x12288, .bf16⟩
  | .local _ .vmem, ⟨2, _⟩ => ⟨S3x2x256x12160, .fp8e4m3⟩
  | .local _ .vmem, ⟨3, _⟩ => ⟨S3x2x256x380, .i8⟩
  | .local _ .vmem, ⟨4, _⟩ => ⟨S2x256x384, .bf16⟩
  | .local _ .vmem, ⟨5, _⟩ => ⟨S1024x128, .f32⟩
  | .local _ .vmem, ⟨6, _⟩ => ⟨S2x1024x256, .bf16⟩
  | .local _ .vmem, ⟨7, _⟩ => ⟨S2x32x12160, .fp8e4m3⟩
  | _, _ => ⟨S4x256x12160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0

abbrev nD : Nat := 1
abbrev τ : Topo := Topo.v7x

variable {F : FTy → Type} [FloatOps F]

abbrev grid0 : Pipeline.Grid := .none

def k0_off1 (c0_i32_97 : BitVec 32) : Fin 2 → Nat :=
  let c3_i32_98 : BitVec 32 := 3#32
  let v128 : BitVec 32 := Scalar.remsi c0_i32_97 c3_i32_98
  let c0_i32_100 : BitVec 32 := 0#32
  ![v128.toNat, 0]
def k0_off2 (c0_i32_97 : BitVec 32) : Fin 4 → Nat :=
  let c3_i32_98 : BitVec 32 := 3#32
  let v128 : BitVec 32 := Scalar.remsi c0_i32_97 c3_i32_98
  let c0_i32_99 : BitVec 32 := 0#32
  let c0_i32_101 : BitVec 32 := 0#32
  let c0_i32_102 : BitVec 32 := 0#32
  ![v128.toNat, 0, 0, 0]
def k0_off3 (c0_i32_97 : BitVec 32) : Fin 2 → Nat :=
  let c3_i32_98 : BitVec 32 := 3#32
  let v128 : BitVec 32 := Scalar.remsi c0_i32_97 c3_i32_98
  let c1_i32_106 : BitVec 32 := 1#32
  ![v128.toNat, 1]
def k0_off4 (c0_i32_97 : BitVec 32) : Fin 4 → Nat :=
  let c3_i32_98 : BitVec 32 := 3#32
  let v128 : BitVec 32 := Scalar.remsi c0_i32_97 c3_i32_98
  let c0_i32_105 : BitVec 32 := 0#32
  let c0_i32_107 : BitVec 32 := 0#32
  let c0_i32_108 : BitVec 32 := 0#32
  ![v128.toNat, 0, 0, 0]
def k0_off5 (c0_i32_97 : BitVec 32) : Fin 2 → Nat :=
  let c3_i32_98 : BitVec 32 := 3#32
  let v128 : BitVec 32 := Scalar.remsi c0_i32_97 c3_i32_98
  let c2_i32_112 : BitVec 32 := 2#32
  ![v128.toNat, 2]
def k0_off6 (c0_i32_97 : BitVec 32) : Fin 4 → Nat :=
  let c3_i32_98 : BitVec 32 := 3#32
  let v128 : BitVec 32 := Scalar.remsi c0_i32_97 c3_i32_98
  let c1_i32_111 : BitVec 32 := 1#32
  let c0_i32_113 : BitVec 32 := 0#32
  let c0_i32_114 : BitVec 32 := 0#32
  ![v128.toNat, 1, 0, 0]
def k0_off7 (c0_i32_97 : BitVec 32) : Fin 2 → Nat :=
  let c3_i32_98 : BitVec 32 := 3#32
  let v128 : BitVec 32 := Scalar.remsi c0_i32_97 c3_i32_98
  let c3_i32_118 : BitVec 32 := 3#32
  ![v128.toNat, 3]
def k0_off8 (c0_i32_97 : BitVec 32) : Fin 4 → Nat :=
  let c3_i32_98 : BitVec 32 := 3#32
  let v128 : BitVec 32 := Scalar.remsi c0_i32_97 c3_i32_98
  let c1_i32_117 : BitVec 32 := 1#32
  let c0_i32_119 : BitVec 32 := 0#32
  let c0_i32_120 : BitVec 32 := 0#32
  ![v128.toNat, 1, 0, 0]
@[reducible] def k0_t1_loop : Scf.Loop 32 :=
  let c0_i32_149 : BitVec 32 := 0#32
  let c32_i32_150 : BitVec 32 := 32#32
  let v170 : BitVec 32 := Scalar.addi c0_i32_149 c32_i32_150
  let c1_i32_151 : BitVec 32 := 1#32
  ⟨c0_i32_149, v170, c1_i32_151⟩
def k0_off9 (k0_t1 : Fin k0_t1_loop.trips) : Fin 1 → Nat :=
  let c0_i32_149 : BitVec 32 := 0#32
  let c1_i32_151 : BitVec 32 := 1#32
  let arg19 : BitVec 32 := Scf.iv c0_i32_149 c1_i32_151 k0_t1
  ![arg19.toNat]
def k0_off10 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_160 : BitVec 32 := 32#32
  let v196 : BitVec 32 := Scalar.muli arg19 c32_i32_160
  let c0_i32_161 : BitVec 32 := 0#32
  ![v196.toNat, 0]
def k0_off11 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_160 : BitVec 32 := 32#32
  let v196 : BitVec 32 := Scalar.muli arg19 c32_i32_160
  let c0_i32_162 : BitVec 32 := 0#32
  ![v196.toNat, 0]
def k0_cond1 (k0_t1 : Fin k0_t1_loop.trips) : BitVec 1 :=
  let c0_i32_149 : BitVec 32 := 0#32
  let c1_i32_151 : BitVec 32 := 1#32
  let arg19 : BitVec 32 := Scf.iv c0_i32_149 c1_i32_151 k0_t1
  let c2_i32_163 : BitVec 32 := 2#32
  let v201 : BitVec 1 := Scalar.cmpi .sge arg19 c2_i32_163
  let v202 : BitVec 32 := Scalar.extui v201
  let c0_i32_164 : BitVec 32 := 0#32
  let v203 : BitVec 1 := Scalar.cmpi .ne v202 c0_i32_164
  v203

def k0_off12 (k0_t1 : Fin k0_t1_loop.trips) : Fin 1 → Nat :=
  let c0_i32_149 : BitVec 32 := 0#32
  let c1_i32_151 : BitVec 32 := 1#32
  let arg19 : BitVec 32 := Scf.iv c0_i32_149 c1_i32_151 k0_t1
  let c2_i32_769 : BitVec 32 := 2#32
  let v2497 : BitVec 32 := Scalar.subi arg19 c2_i32_769
  let c2_i32_770 : BitVec 32 := 2#32
  let v2498 : BitVec 32 := Scalar.remsi v2497 c2_i32_770
  ![v2498.toNat]
def k0_off13 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c2_i32_769 : BitVec 32 := 2#32
  let v2497 : BitVec 32 := Scalar.subi arg19 c2_i32_769
  let c32_i32_771 : BitVec 32 := 32#32
  let v2499 : BitVec 32 := Scalar.muli v2497 c32_i32_771
  let c0_i32_772 : BitVec 32 := 0#32
  ![v2499.toNat, 0]
def k0_off14 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_769 : BitVec 32 := 2#32
  let v2497 : BitVec 32 := Scalar.subi arg19 c2_i32_769
  let c2_i32_770 : BitVec 32 := 2#32
  let v2498 : BitVec 32 := Scalar.remsi v2497 c2_i32_770
  let c0_i32_773 : BitVec 32 := 0#32
  let c0_i32_774 : BitVec 32 := 0#32
  ![v2498.toNat, 0, 0]
def k0_mult1 (k0_t1 : Fin k0_t1_loop.trips) : BitVec 32 :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  v204
def k0_off15 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v206 : Index := Scalar.indexCast v205
  let c0 : Index := 0#32
  ![v206.toNat, 0]
def k0_off16 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v209 : Index := Scalar.indexCast v205
  let c128 : Index := 128#32
  ![v209.toNat, 128]
def k0_off17 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v213 : Index := Scalar.indexCast v205
  let c256 : Index := 256#32
  ![v213.toNat, 256]
def k0_off18 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v217 : Index := Scalar.indexCast v205
  let c384 : Index := 384#32
  ![v217.toNat, 384]
def k0_off19 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v221 : Index := Scalar.indexCast v205
  let c512 : Index := 512#32
  ![v221.toNat, 512]
def k0_off20 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v225 : Index := Scalar.indexCast v205
  let c640 : Index := 640#32
  ![v225.toNat, 640]
def k0_off21 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v229 : Index := Scalar.indexCast v205
  let c768 : Index := 768#32
  ![v229.toNat, 768]
def k0_off22 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v233 : Index := Scalar.indexCast v205
  let c896 : Index := 896#32
  ![v233.toNat, 896]
def k0_off23 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v237 : Index := Scalar.indexCast v205
  let c1024 : Index := 1024#32
  ![v237.toNat, 1024]
def k0_off24 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v241 : Index := Scalar.indexCast v205
  let c1152 : Index := 1152#32
  ![v241.toNat, 1152]
def k0_off25 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v245 : Index := Scalar.indexCast v205
  let c1280 : Index := 1280#32
  ![v245.toNat, 1280]
def k0_off26 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v249 : Index := Scalar.indexCast v205
  let c1408 : Index := 1408#32
  ![v249.toNat, 1408]
def k0_off27 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v253 : Index := Scalar.indexCast v205
  let c1536 : Index := 1536#32
  ![v253.toNat, 1536]
def k0_off28 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v257 : Index := Scalar.indexCast v205
  let c1664 : Index := 1664#32
  ![v257.toNat, 1664]
def k0_off29 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v261 : Index := Scalar.indexCast v205
  let c1792 : Index := 1792#32
  ![v261.toNat, 1792]
def k0_off30 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v265 : Index := Scalar.indexCast v205
  let c1920 : Index := 1920#32
  ![v265.toNat, 1920]
def k0_off31 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v269 : Index := Scalar.indexCast v205
  let c2048 : Index := 2048#32
  ![v269.toNat, 2048]
def k0_off32 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v273 : Index := Scalar.indexCast v205
  let c2176 : Index := 2176#32
  ![v273.toNat, 2176]
def k0_off33 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v277 : Index := Scalar.indexCast v205
  let c2304 : Index := 2304#32
  ![v277.toNat, 2304]
def k0_off34 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v281 : Index := Scalar.indexCast v205
  let c2432 : Index := 2432#32
  ![v281.toNat, 2432]
def k0_off35 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v285 : Index := Scalar.indexCast v205
  let c2560 : Index := 2560#32
  ![v285.toNat, 2560]
def k0_off36 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v289 : Index := Scalar.indexCast v205
  let c2688 : Index := 2688#32
  ![v289.toNat, 2688]
def k0_off37 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v293 : Index := Scalar.indexCast v205
  let c2816 : Index := 2816#32
  ![v293.toNat, 2816]
def k0_off38 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v297 : Index := Scalar.indexCast v205
  let c2944 : Index := 2944#32
  ![v297.toNat, 2944]
def k0_off39 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v301 : Index := Scalar.indexCast v205
  let c3072 : Index := 3072#32
  ![v301.toNat, 3072]
def k0_off40 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v305 : Index := Scalar.indexCast v205
  let c3200 : Index := 3200#32
  ![v305.toNat, 3200]
def k0_off41 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v309 : Index := Scalar.indexCast v205
  let c3328 : Index := 3328#32
  ![v309.toNat, 3328]
def k0_off42 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v313 : Index := Scalar.indexCast v205
  let c3456 : Index := 3456#32
  ![v313.toNat, 3456]
def k0_off43 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v317 : Index := Scalar.indexCast v205
  let c3584 : Index := 3584#32
  ![v317.toNat, 3584]
def k0_off44 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v321 : Index := Scalar.indexCast v205
  let c3712 : Index := 3712#32
  ![v321.toNat, 3712]
def k0_off45 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v325 : Index := Scalar.indexCast v205
  let c3840 : Index := 3840#32
  ![v325.toNat, 3840]
def k0_off46 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v329 : Index := Scalar.indexCast v205
  let c3968 : Index := 3968#32
  ![v329.toNat, 3968]
def k0_off47 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v333 : Index := Scalar.indexCast v205
  let c4096 : Index := 4096#32
  ![v333.toNat, 4096]
def k0_off48 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v337 : Index := Scalar.indexCast v205
  let c4224 : Index := 4224#32
  ![v337.toNat, 4224]
def k0_off49 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v341 : Index := Scalar.indexCast v205
  let c4352 : Index := 4352#32
  ![v341.toNat, 4352]
def k0_off50 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v345 : Index := Scalar.indexCast v205
  let c4480 : Index := 4480#32
  ![v345.toNat, 4480]
def k0_off51 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v349 : Index := Scalar.indexCast v205
  let c4608 : Index := 4608#32
  ![v349.toNat, 4608]
def k0_off52 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v353 : Index := Scalar.indexCast v205
  let c4736 : Index := 4736#32
  ![v353.toNat, 4736]
def k0_off53 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v357 : Index := Scalar.indexCast v205
  let c4864 : Index := 4864#32
  ![v357.toNat, 4864]
def k0_off54 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v361 : Index := Scalar.indexCast v205
  let c4992 : Index := 4992#32
  ![v361.toNat, 4992]
def k0_off55 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v365 : Index := Scalar.indexCast v205
  let c5120 : Index := 5120#32
  ![v365.toNat, 5120]
def k0_off56 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v369 : Index := Scalar.indexCast v205
  let c5248 : Index := 5248#32
  ![v369.toNat, 5248]
def k0_off57 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v373 : Index := Scalar.indexCast v205
  let c5376 : Index := 5376#32
  ![v373.toNat, 5376]
def k0_off58 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v377 : Index := Scalar.indexCast v205
  let c5504 : Index := 5504#32
  ![v377.toNat, 5504]
def k0_off59 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v381 : Index := Scalar.indexCast v205
  let c5632 : Index := 5632#32
  ![v381.toNat, 5632]
def k0_off60 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v385 : Index := Scalar.indexCast v205
  let c5760 : Index := 5760#32
  ![v385.toNat, 5760]
def k0_off61 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v389 : Index := Scalar.indexCast v205
  let c5888 : Index := 5888#32
  ![v389.toNat, 5888]
def k0_off62 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v393 : Index := Scalar.indexCast v205
  let c6016 : Index := 6016#32
  ![v393.toNat, 6016]
def k0_off63 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v397 : Index := Scalar.indexCast v205
  let c6144 : Index := 6144#32
  ![v397.toNat, 6144]
def k0_off64 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v401 : Index := Scalar.indexCast v205
  let c6272 : Index := 6272#32
  ![v401.toNat, 6272]
def k0_off65 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v405 : Index := Scalar.indexCast v205
  let c6400 : Index := 6400#32
  ![v405.toNat, 6400]
def k0_off66 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v409 : Index := Scalar.indexCast v205
  let c6528 : Index := 6528#32
  ![v409.toNat, 6528]
def k0_off67 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v413 : Index := Scalar.indexCast v205
  let c6656 : Index := 6656#32
  ![v413.toNat, 6656]
def k0_off68 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v417 : Index := Scalar.indexCast v205
  let c6784 : Index := 6784#32
  ![v417.toNat, 6784]
def k0_off69 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v421 : Index := Scalar.indexCast v205
  let c6912 : Index := 6912#32
  ![v421.toNat, 6912]
def k0_off70 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v425 : Index := Scalar.indexCast v205
  let c7040 : Index := 7040#32
  ![v425.toNat, 7040]
def k0_off71 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v429 : Index := Scalar.indexCast v205
  let c7168 : Index := 7168#32
  ![v429.toNat, 7168]
def k0_off72 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v433 : Index := Scalar.indexCast v205
  let c7296 : Index := 7296#32
  ![v433.toNat, 7296]
def k0_off73 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v437 : Index := Scalar.indexCast v205
  let c7424 : Index := 7424#32
  ![v437.toNat, 7424]
def k0_off74 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v441 : Index := Scalar.indexCast v205
  let c7552 : Index := 7552#32
  ![v441.toNat, 7552]
def k0_off75 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v445 : Index := Scalar.indexCast v205
  let c7680 : Index := 7680#32
  ![v445.toNat, 7680]
def k0_off76 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v449 : Index := Scalar.indexCast v205
  let c7808 : Index := 7808#32
  ![v449.toNat, 7808]
def k0_off77 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v453 : Index := Scalar.indexCast v205
  let c7936 : Index := 7936#32
  ![v453.toNat, 7936]
def k0_off78 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v457 : Index := Scalar.indexCast v205
  let c8064 : Index := 8064#32
  ![v457.toNat, 8064]
def k0_off79 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v461 : Index := Scalar.indexCast v205
  let c8192 : Index := 8192#32
  ![v461.toNat, 8192]
def k0_off80 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v465 : Index := Scalar.indexCast v205
  let c8320 : Index := 8320#32
  ![v465.toNat, 8320]
def k0_off81 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v469 : Index := Scalar.indexCast v205
  let c8448 : Index := 8448#32
  ![v469.toNat, 8448]
def k0_off82 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v473 : Index := Scalar.indexCast v205
  let c8576 : Index := 8576#32
  ![v473.toNat, 8576]
def k0_off83 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v477 : Index := Scalar.indexCast v205
  let c8704 : Index := 8704#32
  ![v477.toNat, 8704]
def k0_off84 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v481 : Index := Scalar.indexCast v205
  let c8832 : Index := 8832#32
  ![v481.toNat, 8832]
def k0_off85 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v485 : Index := Scalar.indexCast v205
  let c8960 : Index := 8960#32
  ![v485.toNat, 8960]
def k0_off86 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v489 : Index := Scalar.indexCast v205
  let c9088 : Index := 9088#32
  ![v489.toNat, 9088]
def k0_off87 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v493 : Index := Scalar.indexCast v205
  let c9216 : Index := 9216#32
  ![v493.toNat, 9216]
def k0_off88 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v497 : Index := Scalar.indexCast v205
  let c9344 : Index := 9344#32
  ![v497.toNat, 9344]
def k0_off89 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v501 : Index := Scalar.indexCast v205
  let c9472 : Index := 9472#32
  ![v501.toNat, 9472]
def k0_off90 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v505 : Index := Scalar.indexCast v205
  let c9600 : Index := 9600#32
  ![v505.toNat, 9600]
def k0_off91 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v509 : Index := Scalar.indexCast v205
  let c9728 : Index := 9728#32
  ![v509.toNat, 9728]
def k0_off92 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v513 : Index := Scalar.indexCast v205
  let c9856 : Index := 9856#32
  ![v513.toNat, 9856]
def k0_off93 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v517 : Index := Scalar.indexCast v205
  let c9984 : Index := 9984#32
  ![v517.toNat, 9984]
def k0_off94 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v521 : Index := Scalar.indexCast v205
  let c10112 : Index := 10112#32
  ![v521.toNat, 10112]
def k0_off95 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v525 : Index := Scalar.indexCast v205
  let c10240 : Index := 10240#32
  ![v525.toNat, 10240]
def k0_off96 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v529 : Index := Scalar.indexCast v205
  let c10368 : Index := 10368#32
  ![v529.toNat, 10368]
def k0_off97 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v533 : Index := Scalar.indexCast v205
  let c10496 : Index := 10496#32
  ![v533.toNat, 10496]
def k0_off98 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v537 : Index := Scalar.indexCast v205
  let c10624 : Index := 10624#32
  ![v537.toNat, 10624]
def k0_off99 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v541 : Index := Scalar.indexCast v205
  let c10752 : Index := 10752#32
  ![v541.toNat, 10752]
def k0_off100 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v545 : Index := Scalar.indexCast v205
  let c10880 : Index := 10880#32
  ![v545.toNat, 10880]
def k0_off101 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v549 : Index := Scalar.indexCast v205
  let c11008 : Index := 11008#32
  ![v549.toNat, 11008]
def k0_off102 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v553 : Index := Scalar.indexCast v205
  let c11136 : Index := 11136#32
  ![v553.toNat, 11136]
def k0_off103 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v557 : Index := Scalar.indexCast v205
  let c11264 : Index := 11264#32
  ![v557.toNat, 11264]
def k0_off104 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v561 : Index := Scalar.indexCast v205
  let c11392 : Index := 11392#32
  ![v561.toNat, 11392]
def k0_off105 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v565 : Index := Scalar.indexCast v205
  let c11520 : Index := 11520#32
  ![v565.toNat, 11520]
def k0_off106 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v569 : Index := Scalar.indexCast v205
  let c11648 : Index := 11648#32
  ![v569.toNat, 11648]
def k0_off107 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v573 : Index := Scalar.indexCast v205
  let c11776 : Index := 11776#32
  ![v573.toNat, 11776]
def k0_off108 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v577 : Index := Scalar.indexCast v205
  let c11904 : Index := 11904#32
  ![v577.toNat, 11904]
def k0_off109 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v581 : Index := Scalar.indexCast v205
  let c12032 : Index := 12032#32
  ![v581.toNat, 12032]
def k0_off110 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v661 : Index := Scalar.indexCast v205
  let c0_187 : Index := 0#32
  ![v661.toNat, 0]
def k0_off111 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v665 : Index := Scalar.indexCast v205
  let c0_188 : Index := 0#32
  ![v665.toNat, 0]
def k0_off112 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v690 : Index := Scalar.indexCast v679
  let c0_196 : Index := 0#32
  let c0_197 : Index := 0#32
  ![v690.toNat, 0, 0]
def k0_off113 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v709 : Index := Scalar.indexCast v679
  let c0_202 : Index := 0#32
  let c128_203 : Index := 128#32
  ![v709.toNat, 0, 128]
def k0_off114 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v728 : Index := Scalar.indexCast v679
  let c0_208 : Index := 0#32
  let c256_209 : Index := 256#32
  ![v728.toNat, 0, 256]
def k0_off115 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v747 : Index := Scalar.indexCast v679
  let c0_214 : Index := 0#32
  let c384_215 : Index := 384#32
  ![v747.toNat, 0, 384]
def k0_off116 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v766 : Index := Scalar.indexCast v679
  let c0_220 : Index := 0#32
  let c512_221 : Index := 512#32
  ![v766.toNat, 0, 512]
def k0_off117 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v785 : Index := Scalar.indexCast v679
  let c0_226 : Index := 0#32
  let c640_227 : Index := 640#32
  ![v785.toNat, 0, 640]
def k0_off118 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v804 : Index := Scalar.indexCast v679
  let c0_232 : Index := 0#32
  let c768_233 : Index := 768#32
  ![v804.toNat, 0, 768]
def k0_off119 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v823 : Index := Scalar.indexCast v679
  let c0_238 : Index := 0#32
  let c896_239 : Index := 896#32
  ![v823.toNat, 0, 896]
def k0_off120 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v842 : Index := Scalar.indexCast v679
  let c0_244 : Index := 0#32
  let c1024_245 : Index := 1024#32
  ![v842.toNat, 0, 1024]
def k0_off121 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v861 : Index := Scalar.indexCast v679
  let c0_250 : Index := 0#32
  let c1152_251 : Index := 1152#32
  ![v861.toNat, 0, 1152]
def k0_off122 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v880 : Index := Scalar.indexCast v679
  let c0_256 : Index := 0#32
  let c1280_257 : Index := 1280#32
  ![v880.toNat, 0, 1280]
def k0_off123 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v899 : Index := Scalar.indexCast v679
  let c0_262 : Index := 0#32
  let c1408_263 : Index := 1408#32
  ![v899.toNat, 0, 1408]
def k0_off124 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v918 : Index := Scalar.indexCast v679
  let c0_268 : Index := 0#32
  let c1536_269 : Index := 1536#32
  ![v918.toNat, 0, 1536]
def k0_off125 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v937 : Index := Scalar.indexCast v679
  let c0_274 : Index := 0#32
  let c1664_275 : Index := 1664#32
  ![v937.toNat, 0, 1664]
def k0_off126 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v956 : Index := Scalar.indexCast v679
  let c0_280 : Index := 0#32
  let c1792_281 : Index := 1792#32
  ![v956.toNat, 0, 1792]
def k0_off127 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v975 : Index := Scalar.indexCast v679
  let c0_286 : Index := 0#32
  let c1920_287 : Index := 1920#32
  ![v975.toNat, 0, 1920]
def k0_off128 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v994 : Index := Scalar.indexCast v679
  let c0_292 : Index := 0#32
  let c2048_293 : Index := 2048#32
  ![v994.toNat, 0, 2048]
def k0_off129 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1013 : Index := Scalar.indexCast v679
  let c0_298 : Index := 0#32
  let c2176_299 : Index := 2176#32
  ![v1013.toNat, 0, 2176]
def k0_off130 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1032 : Index := Scalar.indexCast v679
  let c0_304 : Index := 0#32
  let c2304_305 : Index := 2304#32
  ![v1032.toNat, 0, 2304]
def k0_off131 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1051 : Index := Scalar.indexCast v679
  let c0_310 : Index := 0#32
  let c2432_311 : Index := 2432#32
  ![v1051.toNat, 0, 2432]
def k0_off132 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1070 : Index := Scalar.indexCast v679
  let c0_316 : Index := 0#32
  let c2560_317 : Index := 2560#32
  ![v1070.toNat, 0, 2560]
def k0_off133 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1089 : Index := Scalar.indexCast v679
  let c0_322 : Index := 0#32
  let c2688_323 : Index := 2688#32
  ![v1089.toNat, 0, 2688]
def k0_off134 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1108 : Index := Scalar.indexCast v679
  let c0_328 : Index := 0#32
  let c2816_329 : Index := 2816#32
  ![v1108.toNat, 0, 2816]
def k0_off135 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1127 : Index := Scalar.indexCast v679
  let c0_334 : Index := 0#32
  let c2944_335 : Index := 2944#32
  ![v1127.toNat, 0, 2944]
def k0_off136 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1146 : Index := Scalar.indexCast v679
  let c0_340 : Index := 0#32
  let c3072_341 : Index := 3072#32
  ![v1146.toNat, 0, 3072]
def k0_off137 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1165 : Index := Scalar.indexCast v679
  let c0_346 : Index := 0#32
  let c3200_347 : Index := 3200#32
  ![v1165.toNat, 0, 3200]
def k0_off138 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1184 : Index := Scalar.indexCast v679
  let c0_352 : Index := 0#32
  let c3328_353 : Index := 3328#32
  ![v1184.toNat, 0, 3328]
def k0_off139 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1203 : Index := Scalar.indexCast v679
  let c0_358 : Index := 0#32
  let c3456_359 : Index := 3456#32
  ![v1203.toNat, 0, 3456]
def k0_off140 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1222 : Index := Scalar.indexCast v679
  let c0_364 : Index := 0#32
  let c3584_365 : Index := 3584#32
  ![v1222.toNat, 0, 3584]
def k0_off141 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1241 : Index := Scalar.indexCast v679
  let c0_370 : Index := 0#32
  let c3712_371 : Index := 3712#32
  ![v1241.toNat, 0, 3712]
def k0_off142 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1260 : Index := Scalar.indexCast v679
  let c0_376 : Index := 0#32
  let c3840_377 : Index := 3840#32
  ![v1260.toNat, 0, 3840]
def k0_off143 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1279 : Index := Scalar.indexCast v679
  let c0_382 : Index := 0#32
  let c3968_383 : Index := 3968#32
  ![v1279.toNat, 0, 3968]
def k0_off144 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1298 : Index := Scalar.indexCast v679
  let c0_388 : Index := 0#32
  let c4096_389 : Index := 4096#32
  ![v1298.toNat, 0, 4096]
def k0_off145 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1317 : Index := Scalar.indexCast v679
  let c0_394 : Index := 0#32
  let c4224_395 : Index := 4224#32
  ![v1317.toNat, 0, 4224]
def k0_off146 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1336 : Index := Scalar.indexCast v679
  let c0_400 : Index := 0#32
  let c4352_401 : Index := 4352#32
  ![v1336.toNat, 0, 4352]
def k0_off147 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1355 : Index := Scalar.indexCast v679
  let c0_406 : Index := 0#32
  let c4480_407 : Index := 4480#32
  ![v1355.toNat, 0, 4480]
def k0_off148 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1374 : Index := Scalar.indexCast v679
  let c0_412 : Index := 0#32
  let c4608_413 : Index := 4608#32
  ![v1374.toNat, 0, 4608]
def k0_off149 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1393 : Index := Scalar.indexCast v679
  let c0_418 : Index := 0#32
  let c4736_419 : Index := 4736#32
  ![v1393.toNat, 0, 4736]
def k0_off150 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1412 : Index := Scalar.indexCast v679
  let c0_424 : Index := 0#32
  let c4864_425 : Index := 4864#32
  ![v1412.toNat, 0, 4864]
def k0_off151 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1431 : Index := Scalar.indexCast v679
  let c0_430 : Index := 0#32
  let c4992_431 : Index := 4992#32
  ![v1431.toNat, 0, 4992]
def k0_off152 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1450 : Index := Scalar.indexCast v679
  let c0_436 : Index := 0#32
  let c5120_437 : Index := 5120#32
  ![v1450.toNat, 0, 5120]
def k0_off153 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1469 : Index := Scalar.indexCast v679
  let c0_442 : Index := 0#32
  let c5248_443 : Index := 5248#32
  ![v1469.toNat, 0, 5248]
def k0_off154 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1488 : Index := Scalar.indexCast v679
  let c0_448 : Index := 0#32
  let c5376_449 : Index := 5376#32
  ![v1488.toNat, 0, 5376]
def k0_off155 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1507 : Index := Scalar.indexCast v679
  let c0_454 : Index := 0#32
  let c5504_455 : Index := 5504#32
  ![v1507.toNat, 0, 5504]
def k0_off156 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1526 : Index := Scalar.indexCast v679
  let c0_460 : Index := 0#32
  let c5632_461 : Index := 5632#32
  ![v1526.toNat, 0, 5632]
def k0_off157 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1545 : Index := Scalar.indexCast v679
  let c0_466 : Index := 0#32
  let c5760_467 : Index := 5760#32
  ![v1545.toNat, 0, 5760]
def k0_off158 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1564 : Index := Scalar.indexCast v679
  let c0_472 : Index := 0#32
  let c5888_473 : Index := 5888#32
  ![v1564.toNat, 0, 5888]
def k0_off159 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1583 : Index := Scalar.indexCast v679
  let c0_478 : Index := 0#32
  let c6016_479 : Index := 6016#32
  ![v1583.toNat, 0, 6016]
def k0_off160 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1602 : Index := Scalar.indexCast v679
  let c0_484 : Index := 0#32
  let c6144_485 : Index := 6144#32
  ![v1602.toNat, 0, 6144]
def k0_off161 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1621 : Index := Scalar.indexCast v679
  let c0_490 : Index := 0#32
  let c6272_491 : Index := 6272#32
  ![v1621.toNat, 0, 6272]
def k0_off162 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1640 : Index := Scalar.indexCast v679
  let c0_496 : Index := 0#32
  let c6400_497 : Index := 6400#32
  ![v1640.toNat, 0, 6400]
def k0_off163 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1659 : Index := Scalar.indexCast v679
  let c0_502 : Index := 0#32
  let c6528_503 : Index := 6528#32
  ![v1659.toNat, 0, 6528]
def k0_off164 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1678 : Index := Scalar.indexCast v679
  let c0_508 : Index := 0#32
  let c6656_509 : Index := 6656#32
  ![v1678.toNat, 0, 6656]
def k0_off165 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1697 : Index := Scalar.indexCast v679
  let c0_514 : Index := 0#32
  let c6784_515 : Index := 6784#32
  ![v1697.toNat, 0, 6784]
def k0_off166 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1716 : Index := Scalar.indexCast v679
  let c0_520 : Index := 0#32
  let c6912_521 : Index := 6912#32
  ![v1716.toNat, 0, 6912]
def k0_off167 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1735 : Index := Scalar.indexCast v679
  let c0_526 : Index := 0#32
  let c7040_527 : Index := 7040#32
  ![v1735.toNat, 0, 7040]
def k0_off168 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1754 : Index := Scalar.indexCast v679
  let c0_532 : Index := 0#32
  let c7168_533 : Index := 7168#32
  ![v1754.toNat, 0, 7168]
def k0_off169 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1773 : Index := Scalar.indexCast v679
  let c0_538 : Index := 0#32
  let c7296_539 : Index := 7296#32
  ![v1773.toNat, 0, 7296]
def k0_off170 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1792 : Index := Scalar.indexCast v679
  let c0_544 : Index := 0#32
  let c7424_545 : Index := 7424#32
  ![v1792.toNat, 0, 7424]
def k0_off171 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1811 : Index := Scalar.indexCast v679
  let c0_550 : Index := 0#32
  let c7552_551 : Index := 7552#32
  ![v1811.toNat, 0, 7552]
def k0_off172 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1830 : Index := Scalar.indexCast v679
  let c0_556 : Index := 0#32
  let c7680_557 : Index := 7680#32
  ![v1830.toNat, 0, 7680]
def k0_off173 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1849 : Index := Scalar.indexCast v679
  let c0_562 : Index := 0#32
  let c7808_563 : Index := 7808#32
  ![v1849.toNat, 0, 7808]
def k0_off174 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1868 : Index := Scalar.indexCast v679
  let c0_568 : Index := 0#32
  let c7936_569 : Index := 7936#32
  ![v1868.toNat, 0, 7936]
def k0_off175 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1887 : Index := Scalar.indexCast v679
  let c0_574 : Index := 0#32
  let c8064_575 : Index := 8064#32
  ![v1887.toNat, 0, 8064]
def k0_off176 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1906 : Index := Scalar.indexCast v679
  let c0_580 : Index := 0#32
  let c8192_581 : Index := 8192#32
  ![v1906.toNat, 0, 8192]
def k0_off177 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1925 : Index := Scalar.indexCast v679
  let c0_586 : Index := 0#32
  let c8320_587 : Index := 8320#32
  ![v1925.toNat, 0, 8320]
def k0_off178 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1944 : Index := Scalar.indexCast v679
  let c0_592 : Index := 0#32
  let c8448_593 : Index := 8448#32
  ![v1944.toNat, 0, 8448]
def k0_off179 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1963 : Index := Scalar.indexCast v679
  let c0_598 : Index := 0#32
  let c8576_599 : Index := 8576#32
  ![v1963.toNat, 0, 8576]
def k0_off180 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v1982 : Index := Scalar.indexCast v679
  let c0_604 : Index := 0#32
  let c8704_605 : Index := 8704#32
  ![v1982.toNat, 0, 8704]
def k0_off181 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2001 : Index := Scalar.indexCast v679
  let c0_610 : Index := 0#32
  let c8832_611 : Index := 8832#32
  ![v2001.toNat, 0, 8832]
def k0_off182 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2020 : Index := Scalar.indexCast v679
  let c0_616 : Index := 0#32
  let c8960_617 : Index := 8960#32
  ![v2020.toNat, 0, 8960]
def k0_off183 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2039 : Index := Scalar.indexCast v679
  let c0_622 : Index := 0#32
  let c9088_623 : Index := 9088#32
  ![v2039.toNat, 0, 9088]
def k0_off184 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2058 : Index := Scalar.indexCast v679
  let c0_628 : Index := 0#32
  let c9216_629 : Index := 9216#32
  ![v2058.toNat, 0, 9216]
def k0_off185 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2077 : Index := Scalar.indexCast v679
  let c0_634 : Index := 0#32
  let c9344_635 : Index := 9344#32
  ![v2077.toNat, 0, 9344]
def k0_off186 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2096 : Index := Scalar.indexCast v679
  let c0_640 : Index := 0#32
  let c9472_641 : Index := 9472#32
  ![v2096.toNat, 0, 9472]
def k0_off187 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2115 : Index := Scalar.indexCast v679
  let c0_646 : Index := 0#32
  let c9600_647 : Index := 9600#32
  ![v2115.toNat, 0, 9600]
def k0_off188 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2134 : Index := Scalar.indexCast v679
  let c0_652 : Index := 0#32
  let c9728_653 : Index := 9728#32
  ![v2134.toNat, 0, 9728]
def k0_off189 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2153 : Index := Scalar.indexCast v679
  let c0_658 : Index := 0#32
  let c9856_659 : Index := 9856#32
  ![v2153.toNat, 0, 9856]
def k0_off190 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2172 : Index := Scalar.indexCast v679
  let c0_664 : Index := 0#32
  let c9984_665 : Index := 9984#32
  ![v2172.toNat, 0, 9984]
def k0_off191 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2191 : Index := Scalar.indexCast v679
  let c0_670 : Index := 0#32
  let c10112_671 : Index := 10112#32
  ![v2191.toNat, 0, 10112]
def k0_off192 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2210 : Index := Scalar.indexCast v679
  let c0_676 : Index := 0#32
  let c10240_677 : Index := 10240#32
  ![v2210.toNat, 0, 10240]
def k0_off193 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2229 : Index := Scalar.indexCast v679
  let c0_682 : Index := 0#32
  let c10368_683 : Index := 10368#32
  ![v2229.toNat, 0, 10368]
def k0_off194 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2248 : Index := Scalar.indexCast v679
  let c0_688 : Index := 0#32
  let c10496_689 : Index := 10496#32
  ![v2248.toNat, 0, 10496]
def k0_off195 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2267 : Index := Scalar.indexCast v679
  let c0_694 : Index := 0#32
  let c10624_695 : Index := 10624#32
  ![v2267.toNat, 0, 10624]
def k0_off196 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2286 : Index := Scalar.indexCast v679
  let c0_700 : Index := 0#32
  let c10752_701 : Index := 10752#32
  ![v2286.toNat, 0, 10752]
def k0_off197 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2305 : Index := Scalar.indexCast v679
  let c0_706 : Index := 0#32
  let c10880_707 : Index := 10880#32
  ![v2305.toNat, 0, 10880]
def k0_off198 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2324 : Index := Scalar.indexCast v679
  let c0_712 : Index := 0#32
  let c11008_713 : Index := 11008#32
  ![v2324.toNat, 0, 11008]
def k0_off199 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2343 : Index := Scalar.indexCast v679
  let c0_718 : Index := 0#32
  let c11136_719 : Index := 11136#32
  ![v2343.toNat, 0, 11136]
def k0_off200 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2362 : Index := Scalar.indexCast v679
  let c0_724 : Index := 0#32
  let c11264_725 : Index := 11264#32
  ![v2362.toNat, 0, 11264]
def k0_off201 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2381 : Index := Scalar.indexCast v679
  let c0_730 : Index := 0#32
  let c11392_731 : Index := 11392#32
  ![v2381.toNat, 0, 11392]
def k0_off202 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2400 : Index := Scalar.indexCast v679
  let c0_736 : Index := 0#32
  let c11520_737 : Index := 11520#32
  ![v2400.toNat, 0, 11520]
def k0_off203 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2419 : Index := Scalar.indexCast v679
  let c0_742 : Index := 0#32
  let c11648_743 : Index := 11648#32
  ![v2419.toNat, 0, 11648]
def k0_off204 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2438 : Index := Scalar.indexCast v679
  let c0_748 : Index := 0#32
  let c11776_749 : Index := 11776#32
  ![v2438.toNat, 0, 11776]
def k0_off205 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2457 : Index := Scalar.indexCast v679
  let c0_754 : Index := 0#32
  let c11904_755 : Index := 11904#32
  ![v2457.toNat, 0, 11904]
def k0_off206 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_192 : BitVec 32 := 2#32
  let v679 : BitVec 32 := Scalar.remsi arg19 c2_i32_192
  let v2476 : Index := Scalar.indexCast v679
  let c0_760 : Index := 0#32
  let c12032_761 : Index := 12032#32
  ![v2476.toNat, 0, 12032]
def k0_off207 (k0_t1 : Fin k0_t1_loop.trips) : Fin 2 → Nat :=
  let c0_i32_149 : BitVec 32 := 0#32
  let c1_i32_151 : BitVec 32 := 1#32
  let arg19 : BitVec 32 := Scf.iv c0_i32_149 c1_i32_151 k0_t1
  let c32_i32_165 : BitVec 32 := 32#32
  let v204 : BitVec 32 := Scalar.muli arg19 c32_i32_165
  let v205 : BitVec 32 := v204
  let v2486 : Index := Scalar.indexCast v205
  let c12160 : Index := 12160#32
  ![v2486.toNat, 12160]
def k0_off208 (k0_t1 : Fin k0_t1_loop.trips) : Fin 1 → Nat :=
  let c0_i32_149 : BitVec 32 := 0#32
  let c1_i32_151 : BitVec 32 := 1#32
  let arg19 : BitVec 32 := Scf.iv c0_i32_149 c1_i32_151 k0_t1
  let c2_i32_764 : BitVec 32 := 2#32
  let v2490 : BitVec 32 := Scalar.remsi arg19 c2_i32_764
  ![v2490.toNat]
def k0_off209 (k0_t1 : Fin k0_t1_loop.trips) : Fin 3 → Nat :=
  let c0_i32_149 : BitVec 32 := 0#32
  let c1_i32_151 : BitVec 32 := 1#32
  let arg19 : BitVec 32 := Scf.iv c0_i32_149 c1_i32_151 k0_t1
  let c2_i32_764 : BitVec 32 := 2#32
  let v2490 : BitVec 32 := Scalar.remsi arg19 c2_i32_764
  let c0_i32_767 : BitVec 32 := 0#32
  let c0_i32_768 : BitVec 32 := 0#32
  ![v2490.toNat, 0, 0]
@[reducible] def k0_t2_loop : Scf.Loop 32 :=
  let c0_i32_272_r0 : BitVec 32 := 0#32
  let c66_i32_r0 : BitVec 32 := 66#32
  let v385_r0 : BitVec 32 := Scalar.addi c0_i32_272_r0 c66_i32_r0
  let c1_i32_273_r0 : BitVec 32 := 1#32
  ⟨c0_i32_272_r0, v385_r0, c1_i32_273_r0⟩
def k0_cond2 (k0_t2 : Fin k0_t2_loop.trips) : BitVec 1 :=
  let c0_i32_272_r0 : BitVec 32 := 0#32
  let c1_i32_273_r0 : BitVec 32 := 1#32
  let arg19_r0 : BitVec 32 := Scf.iv c0_i32_272_r0 c1_i32_273_r0 k0_t2
  let c2_i32_375_r0 : BitVec 32 := 2#32
  let v536_r0 : BitVec 1 := Scalar.cmpi .sge arg19_r0 c2_i32_375_r0
  let v537_r0 : BitVec 32 := Scalar.extui v536_r0
  let c0_i32_376_r0 : BitVec 32 := 0#32
  let v538_r0 : BitVec 1 := Scalar.cmpi .ne v537_r0 c0_i32_376_r0
  v538_r0

def k0_off210 (k0_t2 : Fin k0_t2_loop.trips) : Fin 1 → Nat :=
  let c0_i32_272_r0 : BitVec 32 := 0#32
  let c1_i32_273_r0 : BitVec 32 := 1#32
  let arg19_r0 : BitVec 32 := Scf.iv c0_i32_272_r0 c1_i32_273_r0 k0_t2
  let c2_i32_535_r0 : BitVec 32 := 2#32
  let v840_r0 : BitVec 32 := Scalar.subi arg19_r0 c2_i32_535_r0
  let c2_i32_536_r0 : BitVec 32 := 2#32
  let v841_r0 : BitVec 32 := Scalar.remsi v840_r0 c2_i32_536_r0
  ![v841_r0.toNat]
def k0_off211 (k0_t2 : Fin k0_t2_loop.trips) : Fin 2 → Nat :=
  let c0_i32_538_r0 : BitVec 32 := 0#32
  let c0_i32_272_r0 : BitVec 32 := 0#32
  let c1_i32_273_r0 : BitVec 32 := 1#32
  let arg19_r0 : BitVec 32 := Scf.iv c0_i32_272_r0 c1_i32_273_r0 k0_t2
  let c2_i32_535_r0 : BitVec 32 := 2#32
  let v840_r0 : BitVec 32 := Scalar.subi arg19_r0 c2_i32_535_r0
  let c256_i32_537_r0 : BitVec 32 := 256#32
  let v842_r0 : BitVec 32 := Scalar.muli v840_r0 c256_i32_537_r0
  ![0, v842_r0.toNat]
def k0_off212 (k0_t2 : Fin k0_t2_loop.trips) : Fin 3 → Nat :=
  let c0_i32_272_r0 : BitVec 32 := 0#32
  let c1_i32_273_r0 : BitVec 32 := 1#32
  let arg19_r0 : BitVec 32 := Scf.iv c0_i32_272_r0 c1_i32_273_r0 k0_t2
  let c2_i32_535_r0 : BitVec 32 := 2#32
  let v840_r0 : BitVec 32 := Scalar.subi arg19_r0 c2_i32_535_r0
  let c2_i32_536_r0 : BitVec 32 := 2#32
  let v841_r0 : BitVec 32 := Scalar.remsi v840_r0 c2_i32_536_r0
  let c0_i32_539_r0 : BitVec 32 := 0#32
  let c0_i32_540_r0 : BitVec 32 := 0#32
  ![v841_r0.toNat, 0, 0]
def k0_cond3 (k0_t2 : Fin k0_t2_loop.trips) : BitVec 1 :=
  let c0_i32_272_r0 : BitVec 32 := 0#32
  let c1_i32_273_r0 : BitVec 32 := 1#32
  let arg19_r0 : BitVec 32 := Scf.iv c0_i32_272_r0 c1_i32_273_r0 k0_t2
  let c1_i32_377_r0 : BitVec 32 := 1#32
  let v539_r0 : BitVec 1 := Scalar.cmpi .sge arg19_r0 c1_i32_377_r0
  let v540_r0 : BitVec 32 := Scalar.extui v539_r0
  let c0_i32_378_r0 : BitVec 32 := 0#32
  let v541_r0 : BitVec 1 := Scalar.cmpi .ne v540_r0 c0_i32_378_r0
  v541_r0

def k0_off213 (k0_t2 : Fin k0_t2_loop.trips) : Fin 1 → Nat :=
  let c0_i32_272_r0 : BitVec 32 := 0#32
  let c1_i32_273_r0 : BitVec 32 := 1#32
  let arg19_r0 : BitVec 32 := Scf.iv c0_i32_272_r0 c1_i32_273_r0 k0_t2
  let c1_i32_535_r0 : BitVec 32 := 1#32
  let v840_r0 : BitVec 32 := Scalar.subi arg19_r0 c1_i32_535_r0
  let c2_i32_536_r0 : BitVec 32 := 2#32
  let v841_r0 : BitVec 32 := Scalar.remsi v840_r0 c2_i32_536_r0
  ![v841_r0.toNat]
def k0_off214 (k0_t2 : Fin k0_t2_loop.trips) : Fin 2 → Nat :=
  let c0_i32_538_r0 : BitVec 32 := 0#32
  let c0_i32_272_r0 : BitVec 32 := 0#32
  let c1_i32_273_r0 : BitVec 32 := 1#32
  let arg19_r0 : BitVec 32 := Scf.iv c0_i32_272_r0 c1_i32_273_r0 k0_t2
  let c1_i32_535_r0 : BitVec 32 := 1#32
  let v840_r0 : BitVec 32 := Scalar.subi arg19_r0 c1_i32_535_r0
  let c256_i32_537_r0 : BitVec 32 := 256#32
  let v842_r0 : BitVec 32 := Scalar.muli v840_r0 c256_i32_537_r0
  ![0, v842_r0.toNat]
def k0_off215 (k0_t2 : Fin k0_t2_loop.trips) : Fin 3 → Nat :=
  let c0_i32_272_r0 : BitVec 32 := 0#32
  let c1_i32_273_r0 : BitVec 32 := 1#32
  let arg19_r0 : BitVec 32 := Scf.iv c0_i32_272_r0 c1_i32_273_r0 k0_t2
  let c1_i32_535_r0 : BitVec 32 := 1#32
  let v840_r0 : BitVec 32 := Scalar.subi arg19_r0 c1_i32_535_r0
  let c2_i32_536_r0 : BitVec 32 := 2#32
  let v841_r0 : BitVec 32 := Scalar.remsi v840_r0 c2_i32_536_r0
  let c0_i32_539_r0 : BitVec 32 := 0#32
  let c0_i32_540_r0 : BitVec 32 := 0#32
  ![v841_r0.toNat, 0, 0]
def k0_cond4 (k0_t2 : Fin k0_t2_loop.trips) : BitVec 1 :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c66_i32_381_r0 : BitVec 32 := 66#32
  let v544_r0 : BitVec 1 := Scalar.cmpi .slt v542_r0 c66_i32_381_r0
  let v545_r0 : BitVec 32 := Scalar.extui v544_r0
  let c0_i32_382_r0 : BitVec 32 := 0#32
  let v546_r0 : BitVec 1 := Scalar.cmpi .ne v545_r0 c0_i32_382_r0
  v546_r0

def k0_off216 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c0_i32_537_r0 : BitVec 32 := 0#32
  ![v543_r0.toNat, 0]
def k0_off217 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c0_i32_536_r0 : BitVec 32 := 0#32
  let c0_i32_538_r0 : BitVec 32 := 0#32
  let c0_i32_539_r0 : BitVec 32 := 0#32
  ![v543_r0.toNat, 0, 0, 0]
def k0_off218 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c256_i32_535_r0 : BitVec 32 := 256#32
  let v840_r0 : BitVec 32 := Scalar.muli v542_r0 c256_i32_535_r0
  let c0_i32_540_r0 : BitVec 32 := 0#32
  ![v840_r0.toNat, 0]
def k0_off219 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c1_i32_542_r0 : BitVec 32 := 1#32
  ![v543_r0.toNat, 1]
def k0_off220 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c0_i32_541_r0 : BitVec 32 := 0#32
  let c0_i32_543_r0 : BitVec 32 := 0#32
  let c0_i32_544_r0 : BitVec 32 := 0#32
  ![v543_r0.toNat, 0, 0, 0]
def k0_off221 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c256_i32_535_r0 : BitVec 32 := 256#32
  let v840_r0 : BitVec 32 := Scalar.muli v542_r0 c256_i32_535_r0
  let c0_i32_545_r0 : BitVec 32 := 0#32
  ![v840_r0.toNat, 0]
def k0_off222 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c2_i32_547_r0 : BitVec 32 := 2#32
  ![v543_r0.toNat, 2]
def k0_off223 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c1_i32_546_r0 : BitVec 32 := 1#32
  let c0_i32_548_r0 : BitVec 32 := 0#32
  let c0_i32_549_r0 : BitVec 32 := 0#32
  ![v543_r0.toNat, 1, 0, 0]
def k0_off224 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c3_i32_552_r0 : BitVec 32 := 3#32
  ![v543_r0.toNat, 3]
def k0_off225 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c1_i32_551_r0 : BitVec 32 := 1#32
  let c0_i32_553_r0 : BitVec 32 := 0#32
  let c0_i32_554_r0 : BitVec 32 := 0#32
  ![v543_r0.toNat, 1, 0, 0]
def k0_cond5 (k0_t2 : Fin k0_t2_loop.trips) : BitVec 1 :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c66_i32_383_r0 : BitVec 32 := 66#32
  let v547_r0 : BitVec 1 := Scalar.cmpi .eq v542_r0 c66_i32_383_r0
  let v548_r0 : BitVec 32 := Scalar.extui v547_r0
  let c0_i32_384_r0 : BitVec 32 := 0#32
  let v549_r0 : BitVec 1 := Scalar.cmpi .ne v548_r0 c0_i32_384_r0
  v549_r0

def k0_off226 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c4_i32_536_r0 : BitVec 32 := 4#32
  ![v543_r0.toNat, 4]
def k0_off227 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c0_i32_535_r0 : BitVec 32 := 0#32
  let c0_i32_537_r0 : BitVec 32 := 0#32
  let c0_i32_538_r0 : BitVec 32 := 0#32
  ![v543_r0.toNat, 0, 0, 0]
def k0_off228 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c5_i32_542_r0 : BitVec 32 := 5#32
  ![v543_r0.toNat, 5]
def k0_off229 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c0_i32_541_r0 : BitVec 32 := 0#32
  let c0_i32_543_r0 : BitVec 32 := 0#32
  let c0_i32_544_r0 : BitVec 32 := 0#32
  ![v543_r0.toNat, 0, 0, 0]
def k0_off230 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c6_i32_548_r0 : BitVec 32 := 6#32
  ![v543_r0.toNat, 6]
def k0_off231 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c0_i32_547_r0 : BitVec 32 := 0#32
  let c128_i32_549_r0 : BitVec 32 := 128#32
  let c0_i32_550_r0 : BitVec 32 := 0#32
  ![v543_r0.toNat, 0, 128, 0]
def k0_off232 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c7_i32_554_r0 : BitVec 32 := 7#32
  ![v543_r0.toNat, 7]
def k0_off233 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c0_i32_553_r0 : BitVec 32 := 0#32
  let c128_i32_555_r0 : BitVec 32 := 128#32
  let c0_i32_556_r0 : BitVec 32 := 0#32
  ![v543_r0.toNat, 0, 128, 0]
def k0_off234 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c8_i32_560_r0 : BitVec 32 := 8#32
  ![v543_r0.toNat, 8]
def k0_off235 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c1_i32_559_r0 : BitVec 32 := 1#32
  let c0_i32_561_r0 : BitVec 32 := 0#32
  let c0_i32_562_r0 : BitVec 32 := 0#32
  ![v543_r0.toNat, 1, 0, 0]
def k0_off236 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c9_i32_566_r0 : BitVec 32 := 9#32
  ![v543_r0.toNat, 9]
def k0_off237 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c1_i32_565_r0 : BitVec 32 := 1#32
  let c0_i32_567_r0 : BitVec 32 := 0#32
  let c0_i32_568_r0 : BitVec 32 := 0#32
  ![v543_r0.toNat, 1, 0, 0]
def k0_off238 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c10_i32_572_r0 : BitVec 32 := 10#32
  ![v543_r0.toNat, 10]
def k0_off239 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c1_i32_571_r0 : BitVec 32 := 1#32
  let c128_i32_573_r0 : BitVec 32 := 128#32
  let c0_i32_574_r0 : BitVec 32 := 0#32
  ![v543_r0.toNat, 1, 128, 0]
def k0_off240 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c11_i32_578_r0 : BitVec 32 := 11#32
  ![v543_r0.toNat, 11]
def k0_off241 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_379_r0 : BitVec 32 := 1#32
  let v542_r0 : BitVec 32 := Scalar.addi arg19_r0 c1_i32_379_r0
  let c3_i32_380_r0 : BitVec 32 := 3#32
  let v543_r0 : BitVec 32 := Scalar.remsi v542_r0 c3_i32_380_r0
  let c1_i32_577_r0 : BitVec 32 := 1#32
  let c128_i32_579_r0 : BitVec 32 := 128#32
  let c0_i32_580_r0 : BitVec 32 := 0#32
  ![v543_r0.toNat, 1, 128, 0]
def k0_cond6 (k0_t2 : Fin k0_t2_loop.trips) : BitVec 1 :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c66_i32_387_r0 : BitVec 32 := 66#32
  let v552_r0 : BitVec 1 := Scalar.cmpi .slt v550_r0 c66_i32_387_r0
  let v553_r0 : BitVec 32 := Scalar.extui v552_r0
  let c0_i32_388_r0 : BitVec 32 := 0#32
  let v554_r0 : BitVec 1 := Scalar.cmpi .ne v553_r0 c0_i32_388_r0
  v554_r0

def k0_off242 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c0_i32_537_r0 : BitVec 32 := 0#32
  ![v551_r0.toNat, 0]
def k0_off243 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c0_i32_536_r0 : BitVec 32 := 0#32
  let c0_i32_538_r0 : BitVec 32 := 0#32
  let c0_i32_539_r0 : BitVec 32 := 0#32
  ![v551_r0.toNat, 0, 0, 0]
def k0_off244 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c256_i32_535_r0 : BitVec 32 := 256#32
  let v840_r0 : BitVec 32 := Scalar.muli v550_r0 c256_i32_535_r0
  let c0_i32_540_r0 : BitVec 32 := 0#32
  ![v840_r0.toNat, 0]
def k0_off245 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c1_i32_542_r0 : BitVec 32 := 1#32
  ![v551_r0.toNat, 1]
def k0_off246 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c0_i32_541_r0 : BitVec 32 := 0#32
  let c0_i32_543_r0 : BitVec 32 := 0#32
  let c0_i32_544_r0 : BitVec 32 := 0#32
  ![v551_r0.toNat, 0, 0, 0]
def k0_off247 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c256_i32_535_r0 : BitVec 32 := 256#32
  let v840_r0 : BitVec 32 := Scalar.muli v550_r0 c256_i32_535_r0
  let c0_i32_545_r0 : BitVec 32 := 0#32
  ![v840_r0.toNat, 0]
def k0_off248 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c2_i32_547_r0 : BitVec 32 := 2#32
  ![v551_r0.toNat, 2]
def k0_off249 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c1_i32_546_r0 : BitVec 32 := 1#32
  let c0_i32_548_r0 : BitVec 32 := 0#32
  let c0_i32_549_r0 : BitVec 32 := 0#32
  ![v551_r0.toNat, 1, 0, 0]
def k0_off250 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c3_i32_552_r0 : BitVec 32 := 3#32
  ![v551_r0.toNat, 3]
def k0_off251 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c1_i32_551_r0 : BitVec 32 := 1#32
  let c0_i32_553_r0 : BitVec 32 := 0#32
  let c0_i32_554_r0 : BitVec 32 := 0#32
  ![v551_r0.toNat, 1, 0, 0]
def k0_cond7 (k0_t2 : Fin k0_t2_loop.trips) : BitVec 1 :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c66_i32_389_r0 : BitVec 32 := 66#32
  let v555_r0 : BitVec 1 := Scalar.cmpi .eq v550_r0 c66_i32_389_r0
  let v556_r0 : BitVec 32 := Scalar.extui v555_r0
  let c0_i32_390_r0 : BitVec 32 := 0#32
  let v557_r0 : BitVec 1 := Scalar.cmpi .ne v556_r0 c0_i32_390_r0
  v557_r0

def k0_off252 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c4_i32_536_r0 : BitVec 32 := 4#32
  ![v551_r0.toNat, 4]
def k0_off253 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c0_i32_535_r0 : BitVec 32 := 0#32
  let c0_i32_537_r0 : BitVec 32 := 0#32
  let c0_i32_538_r0 : BitVec 32 := 0#32
  ![v551_r0.toNat, 0, 0, 0]
def k0_off254 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c5_i32_542_r0 : BitVec 32 := 5#32
  ![v551_r0.toNat, 5]
def k0_off255 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c0_i32_541_r0 : BitVec 32 := 0#32
  let c0_i32_543_r0 : BitVec 32 := 0#32
  let c0_i32_544_r0 : BitVec 32 := 0#32
  ![v551_r0.toNat, 0, 0, 0]
def k0_off256 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c6_i32_548_r0 : BitVec 32 := 6#32
  ![v551_r0.toNat, 6]
def k0_off257 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c0_i32_547_r0 : BitVec 32 := 0#32
  let c128_i32_549_r0 : BitVec 32 := 128#32
  let c0_i32_550_r0 : BitVec 32 := 0#32
  ![v551_r0.toNat, 0, 128, 0]
def k0_off258 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c7_i32_554_r0 : BitVec 32 := 7#32
  ![v551_r0.toNat, 7]
def k0_off259 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c0_i32_553_r0 : BitVec 32 := 0#32
  let c128_i32_555_r0 : BitVec 32 := 128#32
  let c0_i32_556_r0 : BitVec 32 := 0#32
  ![v551_r0.toNat, 0, 128, 0]
def k0_off260 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c8_i32_560_r0 : BitVec 32 := 8#32
  ![v551_r0.toNat, 8]
def k0_off261 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c1_i32_559_r0 : BitVec 32 := 1#32
  let c0_i32_561_r0 : BitVec 32 := 0#32
  let c0_i32_562_r0 : BitVec 32 := 0#32
  ![v551_r0.toNat, 1, 0, 0]
def k0_off262 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c9_i32_566_r0 : BitVec 32 := 9#32
  ![v551_r0.toNat, 9]
def k0_off263 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c1_i32_565_r0 : BitVec 32 := 1#32
  let c0_i32_567_r0 : BitVec 32 := 0#32
  let c0_i32_568_r0 : BitVec 32 := 0#32
  ![v551_r0.toNat, 1, 0, 0]
def k0_off264 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c10_i32_572_r0 : BitVec 32 := 10#32
  ![v551_r0.toNat, 10]
def k0_off265 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c1_i32_571_r0 : BitVec 32 := 1#32
  let c128_i32_573_r0 : BitVec 32 := 128#32
  let c0_i32_574_r0 : BitVec 32 := 0#32
  ![v551_r0.toNat, 1, 128, 0]
def k0_off266 (k0_t2 : Fin k0_t2_loop.trips) : Fin 2 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c11_i32_578_r0 : BitVec 32 := 11#32
  ![v551_r0.toNat, 11]
def k0_off267 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c2_i32_385_r0 : BitVec 32 := 2#32
  let v550_r0 : BitVec 32 := Scalar.addi arg19_r0 c2_i32_385_r0
  let c3_i32_386_r0 : BitVec 32 := 3#32
  let v551_r0 : BitVec 32 := Scalar.remsi v550_r0 c3_i32_386_r0
  let c1_i32_577_r0 : BitVec 32 := 1#32
  let c128_i32_579_r0 : BitVec 32 := 128#32
  let c0_i32_580_r0 : BitVec 32 := 0#32
  ![v551_r0.toNat, 1, 128, 0]
@[reducible] def k0_t3_loop : Scf.Loop 32 :=
  let c0_i32_392_r0 : BitVec 32 := 0#32
  let c3_i32_393_r0 : BitVec 32 := 3#32
  let v558_r0 : BitVec 32 := Scalar.addi c0_i32_392_r0 c3_i32_393_r0
  let c1_i32_394_r0 : BitVec 32 := 1#32
  ⟨c0_i32_392_r0, v558_r0, c1_i32_394_r0⟩
def k0_mult2 (k0_t3 : Fin k0_t3_loop.trips) : BitVec 32 :=
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let c0_i32_537_r0 : BitVec 32 := 0#32
  let v842_r0 : BitVec 32 := Scalar.addi v841_r0 c0_i32_537_r0
  let c256_i32_538_r0 : BitVec 32 := 256#32
  let v843_r0 : BitVec 32 := Scalar.muli v842_r0 c256_i32_538_r0
  v843_r0
def k0_off268 (k0_t3 : Fin k0_t3_loop.trips) (c0_i32_537_r0 : BitVec 32) : Fin 2 → Nat :=
  let c0_539_r0 : Index := 0#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c256_i32_538_r0 : BitVec 32 := 256#32
  let v843_r0 : BitVec 32 := Scalar.muli v842_r0 c256_i32_538_r0
  let v844_r0 : BitVec 32 := v843_r0
  let v845_r0 : Index := Scalar.indexCast v844_r0
  ![0, v845_r0.toNat]
def k0_mult3 (k0_t3 : Fin k0_t3_loop.trips) : BitVec 32 :=
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let c0_i32_537_r0 : BitVec 32 := 0#32
  let v842_r0 : BitVec 32 := Scalar.addi v841_r0 c0_i32_537_r0
  let c1_i32_540_r0 : BitVec 32 := 1#32
  let v847_r0 : BitVec 32 := Scalar.addi v842_r0 c1_i32_540_r0
  let c8_i32_541_r0 : BitVec 32 := 8#32
  let v848_r0 : BitVec 32 := Scalar.muli v847_r0 c8_i32_541_r0
  let c0_i32_543_r0 : BitVec 32 := 0#32
  let v850_r0 : BitVec 1 := Scalar.cmpi .sgt v848_r0 c0_i32_543_r0
  let v851_r0 : BitVec 32 := Scalar.extui v850_r0
  let c0_i32_544_r0 : BitVec 32 := 0#32
  let v852_r0 : BitVec 1 := Scalar.cmpi .slt v848_r0 c0_i32_544_r0
  let v853_r0 : BitVec 32 := Scalar.extui v852_r0
  let v854_r0 : BitVec 32 := Scalar.subi v851_r0 v853_r0
  let c128_i32_542_r0 : BitVec 32 := 128#32
  let c0_i32_545_r0 : BitVec 32 := 0#32
  let v855_r0 : BitVec 1 := Scalar.cmpi .sgt c128_i32_542_r0 c0_i32_545_r0
  let v856_r0 : BitVec 32 := Scalar.extui v855_r0
  let c0_i32_546_r0 : BitVec 32 := 0#32
  let v857_r0 : BitVec 1 := Scalar.cmpi .slt c128_i32_542_r0 c0_i32_546_r0
  let v858_r0 : BitVec 32 := Scalar.extui v857_r0
  let v859_r0 : BitVec 32 := Scalar.subi v856_r0 v858_r0
  let v860_r0 : BitVec 1 := Scalar.cmpi .ne v854_r0 v859_r0
  let v861_r0 : BitVec 32 := Scalar.remsi v848_r0 c128_i32_542_r0
  let c0_i32_547_r0 : BitVec 32 := 0#32
  let v862_r0 : BitVec 1 := Scalar.cmpi .ne v861_r0 c0_i32_547_r0
  let v863_r0 : BitVec 1 := Scalar.andi v860_r0 v862_r0
  let v849_r0 : BitVec 32 := Scalar.divsi v848_r0 c128_i32_542_r0
  let c1_i32_548_r0 : BitVec 32 := 1#32
  let v864_r0 : BitVec 32 := Scalar.subi v849_r0 c1_i32_548_r0
  let v865_r0 : BitVec 32 := Scalar.select v863_r0 v864_r0 v849_r0
  let c128_i32_556_r0 : BitVec 32 := 128#32
  let v877_r0 : BitVec 32 := Scalar.muli v865_r0 c128_i32_556_r0
  v877_r0
def k0_mult4 (k0_t3 : Fin k0_t3_loop.trips) : BitVec 32 :=
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let c0_i32_537_r0 : BitVec 32 := 0#32
  let v842_r0 : BitVec 32 := Scalar.addi v841_r0 c0_i32_537_r0
  let c1_i32_540_r0 : BitVec 32 := 1#32
  let v847_r0 : BitVec 32 := Scalar.addi v842_r0 c1_i32_540_r0
  let c256_i32_555_r0 : BitVec 32 := 256#32
  let v876_r0 : BitVec 32 := Scalar.muli v847_r0 c256_i32_555_r0
  v876_r0
def k0_off269 (k0_t3 : Fin k0_t3_loop.trips) (c0_i32_537_r0 : BitVec 32) : Fin 3 → Nat :=
  let c0_557_r0 : Index := 0#32
  let c0_558_r0 : Index := 0#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c1_i32_540_r0 : BitVec 32 := 1#32
  let v847_r0 : BitVec 32 := Scalar.addi v842_r0 c1_i32_540_r0
  let c8_i32_541_r0 : BitVec 32 := 8#32
  let v848_r0 : BitVec 32 := Scalar.muli v847_r0 c8_i32_541_r0
  let c0_i32_543_r0 : BitVec 32 := 0#32
  let v850_r0 : BitVec 1 := Scalar.cmpi .sgt v848_r0 c0_i32_543_r0
  let v851_r0 : BitVec 32 := Scalar.extui v850_r0
  let c0_i32_544_r0 : BitVec 32 := 0#32
  let v852_r0 : BitVec 1 := Scalar.cmpi .slt v848_r0 c0_i32_544_r0
  let v853_r0 : BitVec 32 := Scalar.extui v852_r0
  let v854_r0 : BitVec 32 := Scalar.subi v851_r0 v853_r0
  let c128_i32_542_r0 : BitVec 32 := 128#32
  let c0_i32_545_r0 : BitVec 32 := 0#32
  let v855_r0 : BitVec 1 := Scalar.cmpi .sgt c128_i32_542_r0 c0_i32_545_r0
  let v856_r0 : BitVec 32 := Scalar.extui v855_r0
  let c0_i32_546_r0 : BitVec 32 := 0#32
  let v857_r0 : BitVec 1 := Scalar.cmpi .slt c128_i32_542_r0 c0_i32_546_r0
  let v858_r0 : BitVec 32 := Scalar.extui v857_r0
  let v859_r0 : BitVec 32 := Scalar.subi v856_r0 v858_r0
  let v860_r0 : BitVec 1 := Scalar.cmpi .ne v854_r0 v859_r0
  let v861_r0 : BitVec 32 := Scalar.remsi v848_r0 c128_i32_542_r0
  let c0_i32_547_r0 : BitVec 32 := 0#32
  let v862_r0 : BitVec 1 := Scalar.cmpi .ne v861_r0 c0_i32_547_r0
  let v863_r0 : BitVec 1 := Scalar.andi v860_r0 v862_r0
  let v849_r0 : BitVec 32 := Scalar.divsi v848_r0 c128_i32_542_r0
  let c1_i32_548_r0 : BitVec 32 := 1#32
  let v864_r0 : BitVec 32 := Scalar.subi v849_r0 c1_i32_548_r0
  let v865_r0 : BitVec 32 := Scalar.select v863_r0 v864_r0 v849_r0
  let c128_i32_556_r0 : BitVec 32 := 128#32
  let v877_r0 : BitVec 32 := Scalar.muli v865_r0 c128_i32_556_r0
  let v878_r0 : BitVec 32 := v877_r0
  let v880_r0 : Index := Scalar.indexCast v878_r0
  ![0, 0, v880_r0.toNat]
def k0_off270 (k0_t2 : Fin k0_t2_loop.trips) (k0_t3 : Fin k0_t3_loop.trips) (c0_i32_537_r0 : BitVec 32) (c0_i32_562_r0 : BitVec 32) : Fin 4 → Nat :=
  let c0_i32_272_r0 : BitVec 32 := 0#32
  let c1_i32_273_r0 : BitVec 32 := 1#32
  let arg19_r0 : BitVec 32 := Scf.iv c0_i32_272_r0 c1_i32_273_r0 k0_t2
  let c3_i32_372_r0 : BitVec 32 := 3#32
  let v533_r0 : BitVec 32 := Scalar.remsi arg19_r0 c3_i32_372_r0
  let v896_r0 : Index := Scalar.indexCast v533_r0
  let c0_563_r0 : Index := 0#32
  let c0_564_r0 : Index := 0#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c1_i32_540_r0 : BitVec 32 := 1#32
  let v847_r0 : BitVec 32 := Scalar.addi v842_r0 c1_i32_540_r0
  let c256_i32_555_r0 : BitVec 32 := 256#32
  let v876_r0 : BitVec 32 := Scalar.muli v847_r0 c256_i32_555_r0
  let v879_r0 : BitVec 32 := v876_r0
  let v895_r0 : BitVec 32 := Scalar.addi v879_r0 c0_i32_562_r0
  let v897_r0 : Index := Scalar.indexCast v895_r0
  ![v896_r0.toNat, 0, 0, v897_r0.toNat]
def k0_off271 (k0_t3 : Fin k0_t3_loop.trips) (c0_i32_537_r0 : BitVec 32) : Fin 3 → Nat :=
  let c1_571_r0 : Index := 1#32
  let c0_572_r0 : Index := 0#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c1_i32_540_r0 : BitVec 32 := 1#32
  let v847_r0 : BitVec 32 := Scalar.addi v842_r0 c1_i32_540_r0
  let c8_i32_541_r0 : BitVec 32 := 8#32
  let v848_r0 : BitVec 32 := Scalar.muli v847_r0 c8_i32_541_r0
  let c0_i32_543_r0 : BitVec 32 := 0#32
  let v850_r0 : BitVec 1 := Scalar.cmpi .sgt v848_r0 c0_i32_543_r0
  let v851_r0 : BitVec 32 := Scalar.extui v850_r0
  let c0_i32_544_r0 : BitVec 32 := 0#32
  let v852_r0 : BitVec 1 := Scalar.cmpi .slt v848_r0 c0_i32_544_r0
  let v853_r0 : BitVec 32 := Scalar.extui v852_r0
  let v854_r0 : BitVec 32 := Scalar.subi v851_r0 v853_r0
  let c128_i32_542_r0 : BitVec 32 := 128#32
  let c0_i32_545_r0 : BitVec 32 := 0#32
  let v855_r0 : BitVec 1 := Scalar.cmpi .sgt c128_i32_542_r0 c0_i32_545_r0
  let v856_r0 : BitVec 32 := Scalar.extui v855_r0
  let c0_i32_546_r0 : BitVec 32 := 0#32
  let v857_r0 : BitVec 1 := Scalar.cmpi .slt c128_i32_542_r0 c0_i32_546_r0
  let v858_r0 : BitVec 32 := Scalar.extui v857_r0
  let v859_r0 : BitVec 32 := Scalar.subi v856_r0 v858_r0
  let v860_r0 : BitVec 1 := Scalar.cmpi .ne v854_r0 v859_r0
  let v861_r0 : BitVec 32 := Scalar.remsi v848_r0 c128_i32_542_r0
  let c0_i32_547_r0 : BitVec 32 := 0#32
  let v862_r0 : BitVec 1 := Scalar.cmpi .ne v861_r0 c0_i32_547_r0
  let v863_r0 : BitVec 1 := Scalar.andi v860_r0 v862_r0
  let v849_r0 : BitVec 32 := Scalar.divsi v848_r0 c128_i32_542_r0
  let c1_i32_548_r0 : BitVec 32 := 1#32
  let v864_r0 : BitVec 32 := Scalar.subi v849_r0 c1_i32_548_r0
  let v865_r0 : BitVec 32 := Scalar.select v863_r0 v864_r0 v849_r0
  let c128_i32_556_r0 : BitVec 32 := 128#32
  let v877_r0 : BitVec 32 := Scalar.muli v865_r0 c128_i32_556_r0
  let v878_r0 : BitVec 32 := v877_r0
  let v923_r0 : Index := Scalar.indexCast v878_r0
  ![1, 0, v923_r0.toNat]
def k0_off272 (k0_t2 : Fin k0_t2_loop.trips) (k0_t3 : Fin k0_t3_loop.trips) (c0_i32_537_r0 : BitVec 32) (c0_i32_576_r0 : BitVec 32) : Fin 4 → Nat :=
  let c0_i32_272_r0 : BitVec 32 := 0#32
  let c1_i32_273_r0 : BitVec 32 := 1#32
  let arg19_r0 : BitVec 32 := Scf.iv c0_i32_272_r0 c1_i32_273_r0 k0_t2
  let c3_i32_372_r0 : BitVec 32 := 3#32
  let v533_r0 : BitVec 32 := Scalar.remsi arg19_r0 c3_i32_372_r0
  let v939_r0 : Index := Scalar.indexCast v533_r0
  let c1_577_r0 : Index := 1#32
  let c0_578_r0 : Index := 0#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c1_i32_540_r0 : BitVec 32 := 1#32
  let v847_r0 : BitVec 32 := Scalar.addi v842_r0 c1_i32_540_r0
  let c256_i32_555_r0 : BitVec 32 := 256#32
  let v876_r0 : BitVec 32 := Scalar.muli v847_r0 c256_i32_555_r0
  let v879_r0 : BitVec 32 := v876_r0
  let v938_r0 : BitVec 32 := Scalar.addi v879_r0 c0_i32_576_r0
  let v940_r0 : Index := Scalar.indexCast v938_r0
  ![v939_r0.toNat, 1, 0, v940_r0.toNat]
def k0_mult5 (k0_t3 : Fin k0_t3_loop.trips) : BitVec 32 :=
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let c0_i32_537_r0 : BitVec 32 := 0#32
  let v842_r0 : BitVec 32 := Scalar.addi v841_r0 c0_i32_537_r0
  let c256_i32_585_r0 : BitVec 32 := 256#32
  let v966_r0 : BitVec 32 := Scalar.muli v842_r0 c256_i32_585_r0
  v966_r0
def k0_off273 (k0_t3 : Fin k0_t3_loop.trips) (c0_i32_537_r0 : BitVec 32) : Fin 2 → Nat :=
  let c256_586_r0 : Index := 256#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c256_i32_585_r0 : BitVec 32 := 256#32
  let v966_r0 : BitVec 32 := Scalar.muli v842_r0 c256_i32_585_r0
  let v967_r0 : BitVec 32 := v966_r0
  let v968_r0 : Index := Scalar.indexCast v967_r0
  ![256, v968_r0.toNat]
def k0_mult6 (k0_t3 : Fin k0_t3_loop.trips) : BitVec 32 :=
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let c0_i32_537_r0 : BitVec 32 := 0#32
  let v842_r0 : BitVec 32 := Scalar.addi v841_r0 c0_i32_537_r0
  let c256_i32_587_r0 : BitVec 32 := 256#32
  let v970_r0 : BitVec 32 := Scalar.muli v842_r0 c256_i32_587_r0
  v970_r0
def k0_off274 (k0_t3 : Fin k0_t3_loop.trips) (c0_i32_537_r0 : BitVec 32) : Fin 2 → Nat :=
  let c512_588_r0 : Index := 512#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c256_i32_587_r0 : BitVec 32 := 256#32
  let v970_r0 : BitVec 32 := Scalar.muli v842_r0 c256_i32_587_r0
  let v971_r0 : BitVec 32 := v970_r0
  let v972_r0 : Index := Scalar.indexCast v971_r0
  ![512, v972_r0.toNat]
def k0_mult7 (k0_t3 : Fin k0_t3_loop.trips) : BitVec 32 :=
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let c0_i32_537_r0 : BitVec 32 := 0#32
  let v842_r0 : BitVec 32 := Scalar.addi v841_r0 c0_i32_537_r0
  let c256_i32_589_r0 : BitVec 32 := 256#32
  let v974_r0 : BitVec 32 := Scalar.muli v842_r0 c256_i32_589_r0
  v974_r0
def k0_off275 (k0_t3 : Fin k0_t3_loop.trips) (c0_i32_537_r0 : BitVec 32) : Fin 2 → Nat :=
  let c768_590_r0 : Index := 768#32
  let c1_i32_536_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_535_r0 : BitVec 32 := 15#32
  let v840_r0 : BitVec 32 := Scalar.muli arg21_r0 c15_i32_535_r0
  let v841_r0 : BitVec 32 := Scalar.addi c1_i32_536_r0 v840_r0
  let v842_r0 : BitVec 32 := Scalar.addi v841_r0 c0_i32_537_r0
  let c256_i32_589_r0 : BitVec 32 := 256#32
  let v974_r0 : BitVec 32 := Scalar.muli v842_r0 c256_i32_589_r0
  let v975_r0 : BitVec 32 := v974_r0
  let v976_r0 : Index := Scalar.indexCast v975_r0
  ![768, v976_r0.toNat]
def k0_mult8 (k0_t3 : Fin k0_t3_loop.trips) : BitVec 32 :=
  let c1_i32_592_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_591_r0 : BitVec 32 := 15#32
  let v978_r0 : BitVec 32 := Scalar.muli arg21_r0 c15_i32_591_r0
  let v979_r0 : BitVec 32 := Scalar.addi c1_i32_592_r0 v978_r0
  let c1_i32_593_r0 : BitVec 32 := 1#32
  let v980_r0 : BitVec 32 := Scalar.addi v979_r0 c1_i32_593_r0
  let c256_i32_594_r0 : BitVec 32 := 256#32
  let v981_r0 : BitVec 32 := Scalar.muli v980_r0 c256_i32_594_r0
  v981_r0
def k0_mult9 (k0_t3 : Fin k0_t3_loop.trips) : BitVec 32 :=
  let c1_i32_592_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_591_r0 : BitVec 32 := 15#32
  let v978_r0 : BitVec 32 := Scalar.muli arg21_r0 c15_i32_591_r0
  let v979_r0 : BitVec 32 := Scalar.addi c1_i32_592_r0 v978_r0
  let c1_i32_593_r0 : BitVec 32 := 1#32
  let v980_r0 : BitVec 32 := Scalar.addi v979_r0 c1_i32_593_r0
  let c1_i32_596_r0 : BitVec 32 := 1#32
  let v985_r0 : BitVec 32 := Scalar.addi v980_r0 c1_i32_596_r0
  let c8_i32_597_r0 : BitVec 32 := 8#32
  let v986_r0 : BitVec 32 := Scalar.muli v985_r0 c8_i32_597_r0
  let c0_i32_599_r0 : BitVec 32 := 0#32
  let v988_r0 : BitVec 1 := Scalar.cmpi .sgt v986_r0 c0_i32_599_r0
  let v989_r0 : BitVec 32 := Scalar.extui v988_r0
  let c0_i32_600_r0 : BitVec 32 := 0#32
  let v990_r0 : BitVec 1 := Scalar.cmpi .slt v986_r0 c0_i32_600_r0
  let v991_r0 : BitVec 32 := Scalar.extui v990_r0
  let v992_r0 : BitVec 32 := Scalar.subi v989_r0 v991_r0
  let c128_i32_598_r0 : BitVec 32 := 128#32
  let c0_i32_601_r0 : BitVec 32 := 0#32
  let v993_r0 : BitVec 1 := Scalar.cmpi .sgt c128_i32_598_r0 c0_i32_601_r0
  let v994_r0 : BitVec 32 := Scalar.extui v993_r0
  let c0_i32_602_r0 : BitVec 32 := 0#32
  let v995_r0 : BitVec 1 := Scalar.cmpi .slt c128_i32_598_r0 c0_i32_602_r0
  let v996_r0 : BitVec 32 := Scalar.extui v995_r0
  let v997_r0 : BitVec 32 := Scalar.subi v994_r0 v996_r0
  let v998_r0 : BitVec 1 := Scalar.cmpi .ne v992_r0 v997_r0
  let v999_r0 : BitVec 32 := Scalar.remsi v986_r0 c128_i32_598_r0
  let c0_i32_603_r0 : BitVec 32 := 0#32
  let v1000_r0 : BitVec 1 := Scalar.cmpi .ne v999_r0 c0_i32_603_r0
  let v1001_r0 : BitVec 1 := Scalar.andi v998_r0 v1000_r0
  let v987_r0 : BitVec 32 := Scalar.divsi v986_r0 c128_i32_598_r0
  let c1_i32_604_r0 : BitVec 32 := 1#32
  let v1002_r0 : BitVec 32 := Scalar.subi v987_r0 c1_i32_604_r0
  let v1003_r0 : BitVec 32 := Scalar.select v1001_r0 v1002_r0 v987_r0
  let c128_i32_612_r0 : BitVec 32 := 128#32
  let v1015_r0 : BitVec 32 := Scalar.muli v1003_r0 c128_i32_612_r0
  v1015_r0
def k0_mult10 (k0_t3 : Fin k0_t3_loop.trips) : BitVec 32 :=
  let c1_i32_592_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_591_r0 : BitVec 32 := 15#32
  let v978_r0 : BitVec 32 := Scalar.muli arg21_r0 c15_i32_591_r0
  let v979_r0 : BitVec 32 := Scalar.addi c1_i32_592_r0 v978_r0
  let c1_i32_593_r0 : BitVec 32 := 1#32
  let v980_r0 : BitVec 32 := Scalar.addi v979_r0 c1_i32_593_r0
  let c1_i32_596_r0 : BitVec 32 := 1#32
  let v985_r0 : BitVec 32 := Scalar.addi v980_r0 c1_i32_596_r0
  let c256_i32_611_r0 : BitVec 32 := 256#32
  let v1014_r0 : BitVec 32 := Scalar.muli v985_r0 c256_i32_611_r0
  v1014_r0
def k0_mult11 (k0_t3 : Fin k0_t3_loop.trips) : BitVec 32 :=
  let c1_i32_592_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_591_r0 : BitVec 32 := 15#32
  let v978_r0 : BitVec 32 := Scalar.muli arg21_r0 c15_i32_591_r0
  let v979_r0 : BitVec 32 := Scalar.addi c1_i32_592_r0 v978_r0
  let c1_i32_593_r0 : BitVec 32 := 1#32
  let v980_r0 : BitVec 32 := Scalar.addi v979_r0 c1_i32_593_r0
  let c256_i32_641_r0 : BitVec 32 := 256#32
  let v1104_r0 : BitVec 32 := Scalar.muli v980_r0 c256_i32_641_r0
  v1104_r0
def k0_mult12 (k0_t3 : Fin k0_t3_loop.trips) : BitVec 32 :=
  let c1_i32_592_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_591_r0 : BitVec 32 := 15#32
  let v978_r0 : BitVec 32 := Scalar.muli arg21_r0 c15_i32_591_r0
  let v979_r0 : BitVec 32 := Scalar.addi c1_i32_592_r0 v978_r0
  let c1_i32_593_r0 : BitVec 32 := 1#32
  let v980_r0 : BitVec 32 := Scalar.addi v979_r0 c1_i32_593_r0
  let c256_i32_643_r0 : BitVec 32 := 256#32
  let v1108_r0 : BitVec 32 := Scalar.muli v980_r0 c256_i32_643_r0
  v1108_r0
def k0_mult13 (k0_t3 : Fin k0_t3_loop.trips) : BitVec 32 :=
  let c1_i32_592_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_591_r0 : BitVec 32 := 15#32
  let v978_r0 : BitVec 32 := Scalar.muli arg21_r0 c15_i32_591_r0
  let v979_r0 : BitVec 32 := Scalar.addi c1_i32_592_r0 v978_r0
  let c1_i32_593_r0 : BitVec 32 := 1#32
  let v980_r0 : BitVec 32 := Scalar.addi v979_r0 c1_i32_593_r0
  let c256_i32_645_r0 : BitVec 32 := 256#32
  let v1112_r0 : BitVec 32 := Scalar.muli v980_r0 c256_i32_645_r0
  v1112_r0
def k0_mult14 (k0_t3 : Fin k0_t3_loop.trips) : BitVec 32 :=
  let c1_i32_648_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_647_r0 : BitVec 32 := 15#32
  let v1116_r0 : BitVec 32 := Scalar.muli arg21_r0 c15_i32_647_r0
  let v1117_r0 : BitVec 32 := Scalar.addi c1_i32_648_r0 v1116_r0
  let c2_i32_649_r0 : BitVec 32 := 2#32
  let v1118_r0 : BitVec 32 := Scalar.addi v1117_r0 c2_i32_649_r0
  let c256_i32_650_r0 : BitVec 32 := 256#32
  let v1119_r0 : BitVec 32 := Scalar.muli v1118_r0 c256_i32_650_r0
  v1119_r0
def k0_mult15 (k0_t3 : Fin k0_t3_loop.trips) : BitVec 32 :=
  let c1_i32_648_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_647_r0 : BitVec 32 := 15#32
  let v1116_r0 : BitVec 32 := Scalar.muli arg21_r0 c15_i32_647_r0
  let v1117_r0 : BitVec 32 := Scalar.addi c1_i32_648_r0 v1116_r0
  let c2_i32_649_r0 : BitVec 32 := 2#32
  let v1118_r0 : BitVec 32 := Scalar.addi v1117_r0 c2_i32_649_r0
  let c1_i32_652_r0 : BitVec 32 := 1#32
  let v1123_r0 : BitVec 32 := Scalar.addi v1118_r0 c1_i32_652_r0
  let c8_i32_653_r0 : BitVec 32 := 8#32
  let v1124_r0 : BitVec 32 := Scalar.muli v1123_r0 c8_i32_653_r0
  let c0_i32_655_r0 : BitVec 32 := 0#32
  let v1126_r0 : BitVec 1 := Scalar.cmpi .sgt v1124_r0 c0_i32_655_r0
  let v1127_r0 : BitVec 32 := Scalar.extui v1126_r0
  let c0_i32_656_r0 : BitVec 32 := 0#32
  let v1128_r0 : BitVec 1 := Scalar.cmpi .slt v1124_r0 c0_i32_656_r0
  let v1129_r0 : BitVec 32 := Scalar.extui v1128_r0
  let v1130_r0 : BitVec 32 := Scalar.subi v1127_r0 v1129_r0
  let c128_i32_654_r0 : BitVec 32 := 128#32
  let c0_i32_657_r0 : BitVec 32 := 0#32
  let v1131_r0 : BitVec 1 := Scalar.cmpi .sgt c128_i32_654_r0 c0_i32_657_r0
  let v1132_r0 : BitVec 32 := Scalar.extui v1131_r0
  let c0_i32_658_r0 : BitVec 32 := 0#32
  let v1133_r0 : BitVec 1 := Scalar.cmpi .slt c128_i32_654_r0 c0_i32_658_r0
  let v1134_r0 : BitVec 32 := Scalar.extui v1133_r0
  let v1135_r0 : BitVec 32 := Scalar.subi v1132_r0 v1134_r0
  let v1136_r0 : BitVec 1 := Scalar.cmpi .ne v1130_r0 v1135_r0
  let v1137_r0 : BitVec 32 := Scalar.remsi v1124_r0 c128_i32_654_r0
  let c0_i32_659_r0 : BitVec 32 := 0#32
  let v1138_r0 : BitVec 1 := Scalar.cmpi .ne v1137_r0 c0_i32_659_r0
  let v1139_r0 : BitVec 1 := Scalar.andi v1136_r0 v1138_r0
  let v1125_r0 : BitVec 32 := Scalar.divsi v1124_r0 c128_i32_654_r0
  let c1_i32_660_r0 : BitVec 32 := 1#32
  let v1140_r0 : BitVec 32 := Scalar.subi v1125_r0 c1_i32_660_r0
  let v1141_r0 : BitVec 32 := Scalar.select v1139_r0 v1140_r0 v1125_r0
  let c128_i32_668_r0 : BitVec 32 := 128#32
  let v1153_r0 : BitVec 32 := Scalar.muli v1141_r0 c128_i32_668_r0
  v1153_r0
def k0_mult16 (k0_t3 : Fin k0_t3_loop.trips) : BitVec 32 :=
  let c1_i32_648_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_647_r0 : BitVec 32 := 15#32
  let v1116_r0 : BitVec 32 := Scalar.muli arg21_r0 c15_i32_647_r0
  let v1117_r0 : BitVec 32 := Scalar.addi c1_i32_648_r0 v1116_r0
  let c2_i32_649_r0 : BitVec 32 := 2#32
  let v1118_r0 : BitVec 32 := Scalar.addi v1117_r0 c2_i32_649_r0
  let c1_i32_652_r0 : BitVec 32 := 1#32
  let v1123_r0 : BitVec 32 := Scalar.addi v1118_r0 c1_i32_652_r0
  let c256_i32_667_r0 : BitVec 32 := 256#32
  let v1152_r0 : BitVec 32 := Scalar.muli v1123_r0 c256_i32_667_r0
  v1152_r0
def k0_mult17 (k0_t3 : Fin k0_t3_loop.trips) : BitVec 32 :=
  let c1_i32_648_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_647_r0 : BitVec 32 := 15#32
  let v1116_r0 : BitVec 32 := Scalar.muli arg21_r0 c15_i32_647_r0
  let v1117_r0 : BitVec 32 := Scalar.addi c1_i32_648_r0 v1116_r0
  let c2_i32_649_r0 : BitVec 32 := 2#32
  let v1118_r0 : BitVec 32 := Scalar.addi v1117_r0 c2_i32_649_r0
  let c256_i32_697_r0 : BitVec 32 := 256#32
  let v1242_r0 : BitVec 32 := Scalar.muli v1118_r0 c256_i32_697_r0
  v1242_r0
def k0_mult18 (k0_t3 : Fin k0_t3_loop.trips) : BitVec 32 :=
  let c1_i32_648_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_647_r0 : BitVec 32 := 15#32
  let v1116_r0 : BitVec 32 := Scalar.muli arg21_r0 c15_i32_647_r0
  let v1117_r0 : BitVec 32 := Scalar.addi c1_i32_648_r0 v1116_r0
  let c2_i32_649_r0 : BitVec 32 := 2#32
  let v1118_r0 : BitVec 32 := Scalar.addi v1117_r0 c2_i32_649_r0
  let c256_i32_699_r0 : BitVec 32 := 256#32
  let v1246_r0 : BitVec 32 := Scalar.muli v1118_r0 c256_i32_699_r0
  v1246_r0
def k0_mult19 (k0_t3 : Fin k0_t3_loop.trips) : BitVec 32 :=
  let c1_i32_648_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_647_r0 : BitVec 32 := 15#32
  let v1116_r0 : BitVec 32 := Scalar.muli arg21_r0 c15_i32_647_r0
  let v1117_r0 : BitVec 32 := Scalar.addi c1_i32_648_r0 v1116_r0
  let c2_i32_649_r0 : BitVec 32 := 2#32
  let v1118_r0 : BitVec 32 := Scalar.addi v1117_r0 c2_i32_649_r0
  let c256_i32_701_r0 : BitVec 32 := 256#32
  let v1250_r0 : BitVec 32 := Scalar.muli v1118_r0 c256_i32_701_r0
  v1250_r0
def k0_mult20 (k0_t3 : Fin k0_t3_loop.trips) : BitVec 32 :=
  let c1_i32_704_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_703_r0 : BitVec 32 := 15#32
  let v1254_r0 : BitVec 32 := Scalar.muli arg21_r0 c15_i32_703_r0
  let v1255_r0 : BitVec 32 := Scalar.addi c1_i32_704_r0 v1254_r0
  let c3_i32_705_r0 : BitVec 32 := 3#32
  let v1256_r0 : BitVec 32 := Scalar.addi v1255_r0 c3_i32_705_r0
  let c256_i32_706_r0 : BitVec 32 := 256#32
  let v1257_r0 : BitVec 32 := Scalar.muli v1256_r0 c256_i32_706_r0
  v1257_r0
def k0_mult21 (k0_t3 : Fin k0_t3_loop.trips) : BitVec 32 :=
  let c1_i32_704_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_703_r0 : BitVec 32 := 15#32
  let v1254_r0 : BitVec 32 := Scalar.muli arg21_r0 c15_i32_703_r0
  let v1255_r0 : BitVec 32 := Scalar.addi c1_i32_704_r0 v1254_r0
  let c3_i32_705_r0 : BitVec 32 := 3#32
  let v1256_r0 : BitVec 32 := Scalar.addi v1255_r0 c3_i32_705_r0
  let c1_i32_708_r0 : BitVec 32 := 1#32
  let v1261_r0 : BitVec 32 := Scalar.addi v1256_r0 c1_i32_708_r0
  let c8_i32_709_r0 : BitVec 32 := 8#32
  let v1262_r0 : BitVec 32 := Scalar.muli v1261_r0 c8_i32_709_r0
  let c0_i32_711_r0 : BitVec 32 := 0#32
  let v1264_r0 : BitVec 1 := Scalar.cmpi .sgt v1262_r0 c0_i32_711_r0
  let v1265_r0 : BitVec 32 := Scalar.extui v1264_r0
  let c0_i32_712_r0 : BitVec 32 := 0#32
  let v1266_r0 : BitVec 1 := Scalar.cmpi .slt v1262_r0 c0_i32_712_r0
  let v1267_r0 : BitVec 32 := Scalar.extui v1266_r0
  let v1268_r0 : BitVec 32 := Scalar.subi v1265_r0 v1267_r0
  let c128_i32_710_r0 : BitVec 32 := 128#32
  let c0_i32_713_r0 : BitVec 32 := 0#32
  let v1269_r0 : BitVec 1 := Scalar.cmpi .sgt c128_i32_710_r0 c0_i32_713_r0
  let v1270_r0 : BitVec 32 := Scalar.extui v1269_r0
  let c0_i32_714_r0 : BitVec 32 := 0#32
  let v1271_r0 : BitVec 1 := Scalar.cmpi .slt c128_i32_710_r0 c0_i32_714_r0
  let v1272_r0 : BitVec 32 := Scalar.extui v1271_r0
  let v1273_r0 : BitVec 32 := Scalar.subi v1270_r0 v1272_r0
  let v1274_r0 : BitVec 1 := Scalar.cmpi .ne v1268_r0 v1273_r0
  let v1275_r0 : BitVec 32 := Scalar.remsi v1262_r0 c128_i32_710_r0
  let c0_i32_715_r0 : BitVec 32 := 0#32
  let v1276_r0 : BitVec 1 := Scalar.cmpi .ne v1275_r0 c0_i32_715_r0
  let v1277_r0 : BitVec 1 := Scalar.andi v1274_r0 v1276_r0
  let v1263_r0 : BitVec 32 := Scalar.divsi v1262_r0 c128_i32_710_r0
  let c1_i32_716_r0 : BitVec 32 := 1#32
  let v1278_r0 : BitVec 32 := Scalar.subi v1263_r0 c1_i32_716_r0
  let v1279_r0 : BitVec 32 := Scalar.select v1277_r0 v1278_r0 v1263_r0
  let c128_i32_724_r0 : BitVec 32 := 128#32
  let v1291_r0 : BitVec 32 := Scalar.muli v1279_r0 c128_i32_724_r0
  v1291_r0
def k0_mult22 (k0_t3 : Fin k0_t3_loop.trips) : BitVec 32 :=
  let c1_i32_704_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_703_r0 : BitVec 32 := 15#32
  let v1254_r0 : BitVec 32 := Scalar.muli arg21_r0 c15_i32_703_r0
  let v1255_r0 : BitVec 32 := Scalar.addi c1_i32_704_r0 v1254_r0
  let c3_i32_705_r0 : BitVec 32 := 3#32
  let v1256_r0 : BitVec 32 := Scalar.addi v1255_r0 c3_i32_705_r0
  let c1_i32_708_r0 : BitVec 32 := 1#32
  let v1261_r0 : BitVec 32 := Scalar.addi v1256_r0 c1_i32_708_r0
  let c256_i32_723_r0 : BitVec 32 := 256#32
  let v1290_r0 : BitVec 32 := Scalar.muli v1261_r0 c256_i32_723_r0
  v1290_r0
def k0_mult23 (k0_t3 : Fin k0_t3_loop.trips) : BitVec 32 :=
  let c1_i32_704_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_703_r0 : BitVec 32 := 15#32
  let v1254_r0 : BitVec 32 := Scalar.muli arg21_r0 c15_i32_703_r0
  let v1255_r0 : BitVec 32 := Scalar.addi c1_i32_704_r0 v1254_r0
  let c3_i32_705_r0 : BitVec 32 := 3#32
  let v1256_r0 : BitVec 32 := Scalar.addi v1255_r0 c3_i32_705_r0
  let c256_i32_753_r0 : BitVec 32 := 256#32
  let v1380_r0 : BitVec 32 := Scalar.muli v1256_r0 c256_i32_753_r0
  v1380_r0
def k0_mult24 (k0_t3 : Fin k0_t3_loop.trips) : BitVec 32 :=
  let c1_i32_704_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_703_r0 : BitVec 32 := 15#32
  let v1254_r0 : BitVec 32 := Scalar.muli arg21_r0 c15_i32_703_r0
  let v1255_r0 : BitVec 32 := Scalar.addi c1_i32_704_r0 v1254_r0
  let c3_i32_705_r0 : BitVec 32 := 3#32
  let v1256_r0 : BitVec 32 := Scalar.addi v1255_r0 c3_i32_705_r0
  let c256_i32_755_r0 : BitVec 32 := 256#32
  let v1384_r0 : BitVec 32 := Scalar.muli v1256_r0 c256_i32_755_r0
  v1384_r0
def k0_mult25 (k0_t3 : Fin k0_t3_loop.trips) : BitVec 32 :=
  let c1_i32_704_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_703_r0 : BitVec 32 := 15#32
  let v1254_r0 : BitVec 32 := Scalar.muli arg21_r0 c15_i32_703_r0
  let v1255_r0 : BitVec 32 := Scalar.addi c1_i32_704_r0 v1254_r0
  let c3_i32_705_r0 : BitVec 32 := 3#32
  let v1256_r0 : BitVec 32 := Scalar.addi v1255_r0 c3_i32_705_r0
  let c256_i32_757_r0 : BitVec 32 := 256#32
  let v1388_r0 : BitVec 32 := Scalar.muli v1256_r0 c256_i32_757_r0
  v1388_r0
def k0_mult26 (k0_t3 : Fin k0_t3_loop.trips) : BitVec 32 :=
  let c1_i32_760_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_759_r0 : BitVec 32 := 15#32
  let v1392_r0 : BitVec 32 := Scalar.muli arg21_r0 c15_i32_759_r0
  let v1393_r0 : BitVec 32 := Scalar.addi c1_i32_760_r0 v1392_r0
  let c4_i32_761_r0 : BitVec 32 := 4#32
  let v1394_r0 : BitVec 32 := Scalar.addi v1393_r0 c4_i32_761_r0
  let c256_i32_762_r0 : BitVec 32 := 256#32
  let v1395_r0 : BitVec 32 := Scalar.muli v1394_r0 c256_i32_762_r0
  v1395_r0
def k0_mult27 (k0_t3 : Fin k0_t3_loop.trips) : BitVec 32 :=
  let c1_i32_760_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_759_r0 : BitVec 32 := 15#32
  let v1392_r0 : BitVec 32 := Scalar.muli arg21_r0 c15_i32_759_r0
  let v1393_r0 : BitVec 32 := Scalar.addi c1_i32_760_r0 v1392_r0
  let c4_i32_761_r0 : BitVec 32 := 4#32
  let v1394_r0 : BitVec 32 := Scalar.addi v1393_r0 c4_i32_761_r0
  let c1_i32_764_r0 : BitVec 32 := 1#32
  let v1399_r0 : BitVec 32 := Scalar.addi v1394_r0 c1_i32_764_r0
  let c8_i32_765_r0 : BitVec 32 := 8#32
  let v1400_r0 : BitVec 32 := Scalar.muli v1399_r0 c8_i32_765_r0
  let c0_i32_767_r0 : BitVec 32 := 0#32
  let v1402_r0 : BitVec 1 := Scalar.cmpi .sgt v1400_r0 c0_i32_767_r0
  let v1403_r0 : BitVec 32 := Scalar.extui v1402_r0
  let c0_i32_768_r0 : BitVec 32 := 0#32
  let v1404_r0 : BitVec 1 := Scalar.cmpi .slt v1400_r0 c0_i32_768_r0
  let v1405_r0 : BitVec 32 := Scalar.extui v1404_r0
  let v1406_r0 : BitVec 32 := Scalar.subi v1403_r0 v1405_r0
  let c128_i32_766_r0 : BitVec 32 := 128#32
  let c0_i32_769_r0 : BitVec 32 := 0#32
  let v1407_r0 : BitVec 1 := Scalar.cmpi .sgt c128_i32_766_r0 c0_i32_769_r0
  let v1408_r0 : BitVec 32 := Scalar.extui v1407_r0
  let c0_i32_770_r0 : BitVec 32 := 0#32
  let v1409_r0 : BitVec 1 := Scalar.cmpi .slt c128_i32_766_r0 c0_i32_770_r0
  let v1410_r0 : BitVec 32 := Scalar.extui v1409_r0
  let v1411_r0 : BitVec 32 := Scalar.subi v1408_r0 v1410_r0
  let v1412_r0 : BitVec 1 := Scalar.cmpi .ne v1406_r0 v1411_r0
  let v1413_r0 : BitVec 32 := Scalar.remsi v1400_r0 c128_i32_766_r0
  let c0_i32_771_r0 : BitVec 32 := 0#32
  let v1414_r0 : BitVec 1 := Scalar.cmpi .ne v1413_r0 c0_i32_771_r0
  let v1415_r0 : BitVec 1 := Scalar.andi v1412_r0 v1414_r0
  let v1401_r0 : BitVec 32 := Scalar.divsi v1400_r0 c128_i32_766_r0
  let c1_i32_772_r0 : BitVec 32 := 1#32
  let v1416_r0 : BitVec 32 := Scalar.subi v1401_r0 c1_i32_772_r0
  let v1417_r0 : BitVec 32 := Scalar.select v1415_r0 v1416_r0 v1401_r0
  let c128_i32_780_r0 : BitVec 32 := 128#32
  let v1429_r0 : BitVec 32 := Scalar.muli v1417_r0 c128_i32_780_r0
  v1429_r0
def k0_mult28 (k0_t3 : Fin k0_t3_loop.trips) : BitVec 32 :=
  let c1_i32_760_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_759_r0 : BitVec 32 := 15#32
  let v1392_r0 : BitVec 32 := Scalar.muli arg21_r0 c15_i32_759_r0
  let v1393_r0 : BitVec 32 := Scalar.addi c1_i32_760_r0 v1392_r0
  let c4_i32_761_r0 : BitVec 32 := 4#32
  let v1394_r0 : BitVec 32 := Scalar.addi v1393_r0 c4_i32_761_r0
  let c1_i32_764_r0 : BitVec 32 := 1#32
  let v1399_r0 : BitVec 32 := Scalar.addi v1394_r0 c1_i32_764_r0
  let c256_i32_779_r0 : BitVec 32 := 256#32
  let v1428_r0 : BitVec 32 := Scalar.muli v1399_r0 c256_i32_779_r0
  v1428_r0
def k0_mult29 (k0_t3 : Fin k0_t3_loop.trips) : BitVec 32 :=
  let c1_i32_760_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_759_r0 : BitVec 32 := 15#32
  let v1392_r0 : BitVec 32 := Scalar.muli arg21_r0 c15_i32_759_r0
  let v1393_r0 : BitVec 32 := Scalar.addi c1_i32_760_r0 v1392_r0
  let c4_i32_761_r0 : BitVec 32 := 4#32
  let v1394_r0 : BitVec 32 := Scalar.addi v1393_r0 c4_i32_761_r0
  let c256_i32_809_r0 : BitVec 32 := 256#32
  let v1518_r0 : BitVec 32 := Scalar.muli v1394_r0 c256_i32_809_r0
  v1518_r0
def k0_mult30 (k0_t3 : Fin k0_t3_loop.trips) : BitVec 32 :=
  let c1_i32_760_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_759_r0 : BitVec 32 := 15#32
  let v1392_r0 : BitVec 32 := Scalar.muli arg21_r0 c15_i32_759_r0
  let v1393_r0 : BitVec 32 := Scalar.addi c1_i32_760_r0 v1392_r0
  let c4_i32_761_r0 : BitVec 32 := 4#32
  let v1394_r0 : BitVec 32 := Scalar.addi v1393_r0 c4_i32_761_r0
  let c256_i32_811_r0 : BitVec 32 := 256#32
  let v1522_r0 : BitVec 32 := Scalar.muli v1394_r0 c256_i32_811_r0
  v1522_r0
def k0_mult31 (k0_t3 : Fin k0_t3_loop.trips) : BitVec 32 :=
  let c1_i32_760_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_759_r0 : BitVec 32 := 15#32
  let v1392_r0 : BitVec 32 := Scalar.muli arg21_r0 c15_i32_759_r0
  let v1393_r0 : BitVec 32 := Scalar.addi c1_i32_760_r0 v1392_r0
  let c4_i32_761_r0 : BitVec 32 := 4#32
  let v1394_r0 : BitVec 32 := Scalar.addi v1393_r0 c4_i32_761_r0
  let c256_i32_813_r0 : BitVec 32 := 256#32
  let v1526_r0 : BitVec 32 := Scalar.muli v1394_r0 c256_i32_813_r0
  v1526_r0
def k0_mult32 (k0_t3 : Fin k0_t3_loop.trips) : BitVec 32 :=
  let c1_i32_816_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_815_r0 : BitVec 32 := 15#32
  let v1530_r0 : BitVec 32 := Scalar.muli arg21_r0 c15_i32_815_r0
  let v1531_r0 : BitVec 32 := Scalar.addi c1_i32_816_r0 v1530_r0
  let c5_i32_817_r0 : BitVec 32 := 5#32
  let v1532_r0 : BitVec 32 := Scalar.addi v1531_r0 c5_i32_817_r0
  let c256_i32_818_r0 : BitVec 32 := 256#32
  let v1533_r0 : BitVec 32 := Scalar.muli v1532_r0 c256_i32_818_r0
  v1533_r0
def k0_mult33 (k0_t3 : Fin k0_t3_loop.trips) : BitVec 32 :=
  let c1_i32_816_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_815_r0 : BitVec 32 := 15#32
  let v1530_r0 : BitVec 32 := Scalar.muli arg21_r0 c15_i32_815_r0
  let v1531_r0 : BitVec 32 := Scalar.addi c1_i32_816_r0 v1530_r0
  let c5_i32_817_r0 : BitVec 32 := 5#32
  let v1532_r0 : BitVec 32 := Scalar.addi v1531_r0 c5_i32_817_r0
  let c1_i32_820_r0 : BitVec 32 := 1#32
  let v1537_r0 : BitVec 32 := Scalar.addi v1532_r0 c1_i32_820_r0
  let c8_i32_821_r0 : BitVec 32 := 8#32
  let v1538_r0 : BitVec 32 := Scalar.muli v1537_r0 c8_i32_821_r0
  let c0_i32_823_r0 : BitVec 32 := 0#32
  let v1540_r0 : BitVec 1 := Scalar.cmpi .sgt v1538_r0 c0_i32_823_r0
  let v1541_r0 : BitVec 32 := Scalar.extui v1540_r0
  let c0_i32_824_r0 : BitVec 32 := 0#32
  let v1542_r0 : BitVec 1 := Scalar.cmpi .slt v1538_r0 c0_i32_824_r0
  let v1543_r0 : BitVec 32 := Scalar.extui v1542_r0
  let v1544_r0 : BitVec 32 := Scalar.subi v1541_r0 v1543_r0
  let c128_i32_822_r0 : BitVec 32 := 128#32
  let c0_i32_825_r0 : BitVec 32 := 0#32
  let v1545_r0 : BitVec 1 := Scalar.cmpi .sgt c128_i32_822_r0 c0_i32_825_r0
  let v1546_r0 : BitVec 32 := Scalar.extui v1545_r0
  let c0_i32_826_r0 : BitVec 32 := 0#32
  let v1547_r0 : BitVec 1 := Scalar.cmpi .slt c128_i32_822_r0 c0_i32_826_r0
  let v1548_r0 : BitVec 32 := Scalar.extui v1547_r0
  let v1549_r0 : BitVec 32 := Scalar.subi v1546_r0 v1548_r0
  let v1550_r0 : BitVec 1 := Scalar.cmpi .ne v1544_r0 v1549_r0
  let v1551_r0 : BitVec 32 := Scalar.remsi v1538_r0 c128_i32_822_r0
  let c0_i32_827_r0 : BitVec 32 := 0#32
  let v1552_r0 : BitVec 1 := Scalar.cmpi .ne v1551_r0 c0_i32_827_r0
  let v1553_r0 : BitVec 1 := Scalar.andi v1550_r0 v1552_r0
  let v1539_r0 : BitVec 32 := Scalar.divsi v1538_r0 c128_i32_822_r0
  let c1_i32_828_r0 : BitVec 32 := 1#32
  let v1554_r0 : BitVec 32 := Scalar.subi v1539_r0 c1_i32_828_r0
  let v1555_r0 : BitVec 32 := Scalar.select v1553_r0 v1554_r0 v1539_r0
  let c128_i32_836_r0 : BitVec 32 := 128#32
  let v1567_r0 : BitVec 32 := Scalar.muli v1555_r0 c128_i32_836_r0
  v1567_r0
def k0_mult34 (k0_t3 : Fin k0_t3_loop.trips) : BitVec 32 :=
  let c1_i32_816_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_815_r0 : BitVec 32 := 15#32
  let v1530_r0 : BitVec 32 := Scalar.muli arg21_r0 c15_i32_815_r0
  let v1531_r0 : BitVec 32 := Scalar.addi c1_i32_816_r0 v1530_r0
  let c5_i32_817_r0 : BitVec 32 := 5#32
  let v1532_r0 : BitVec 32 := Scalar.addi v1531_r0 c5_i32_817_r0
  let c1_i32_820_r0 : BitVec 32 := 1#32
  let v1537_r0 : BitVec 32 := Scalar.addi v1532_r0 c1_i32_820_r0
  let c256_i32_835_r0 : BitVec 32 := 256#32
  let v1566_r0 : BitVec 32 := Scalar.muli v1537_r0 c256_i32_835_r0
  v1566_r0
def k0_mult35 (k0_t3 : Fin k0_t3_loop.trips) : BitVec 32 :=
  let c1_i32_816_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_815_r0 : BitVec 32 := 15#32
  let v1530_r0 : BitVec 32 := Scalar.muli arg21_r0 c15_i32_815_r0
  let v1531_r0 : BitVec 32 := Scalar.addi c1_i32_816_r0 v1530_r0
  let c5_i32_817_r0 : BitVec 32 := 5#32
  let v1532_r0 : BitVec 32 := Scalar.addi v1531_r0 c5_i32_817_r0
  let c256_i32_865_r0 : BitVec 32 := 256#32
  let v1656_r0 : BitVec 32 := Scalar.muli v1532_r0 c256_i32_865_r0
  v1656_r0
def k0_mult36 (k0_t3 : Fin k0_t3_loop.trips) : BitVec 32 :=
  let c1_i32_816_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_815_r0 : BitVec 32 := 15#32
  let v1530_r0 : BitVec 32 := Scalar.muli arg21_r0 c15_i32_815_r0
  let v1531_r0 : BitVec 32 := Scalar.addi c1_i32_816_r0 v1530_r0
  let c5_i32_817_r0 : BitVec 32 := 5#32
  let v1532_r0 : BitVec 32 := Scalar.addi v1531_r0 c5_i32_817_r0
  let c256_i32_867_r0 : BitVec 32 := 256#32
  let v1660_r0 : BitVec 32 := Scalar.muli v1532_r0 c256_i32_867_r0
  v1660_r0
def k0_mult37 (k0_t3 : Fin k0_t3_loop.trips) : BitVec 32 :=
  let c1_i32_816_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_815_r0 : BitVec 32 := 15#32
  let v1530_r0 : BitVec 32 := Scalar.muli arg21_r0 c15_i32_815_r0
  let v1531_r0 : BitVec 32 := Scalar.addi c1_i32_816_r0 v1530_r0
  let c5_i32_817_r0 : BitVec 32 := 5#32
  let v1532_r0 : BitVec 32 := Scalar.addi v1531_r0 c5_i32_817_r0
  let c256_i32_869_r0 : BitVec 32 := 256#32
  let v1664_r0 : BitVec 32 := Scalar.muli v1532_r0 c256_i32_869_r0
  v1664_r0
def k0_mult38 (k0_t3 : Fin k0_t3_loop.trips) : BitVec 32 :=
  let c1_i32_872_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_871_r0 : BitVec 32 := 15#32
  let v1668_r0 : BitVec 32 := Scalar.muli arg21_r0 c15_i32_871_r0
  let v1669_r0 : BitVec 32 := Scalar.addi c1_i32_872_r0 v1668_r0
  let c6_i32_873_r0 : BitVec 32 := 6#32
  let v1670_r0 : BitVec 32 := Scalar.addi v1669_r0 c6_i32_873_r0
  let c256_i32_874_r0 : BitVec 32 := 256#32
  let v1671_r0 : BitVec 32 := Scalar.muli v1670_r0 c256_i32_874_r0
  v1671_r0
def k0_mult39 (k0_t3 : Fin k0_t3_loop.trips) : BitVec 32 :=
  let c1_i32_872_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_871_r0 : BitVec 32 := 15#32
  let v1668_r0 : BitVec 32 := Scalar.muli arg21_r0 c15_i32_871_r0
  let v1669_r0 : BitVec 32 := Scalar.addi c1_i32_872_r0 v1668_r0
  let c6_i32_873_r0 : BitVec 32 := 6#32
  let v1670_r0 : BitVec 32 := Scalar.addi v1669_r0 c6_i32_873_r0
  let c1_i32_876_r0 : BitVec 32 := 1#32
  let v1675_r0 : BitVec 32 := Scalar.addi v1670_r0 c1_i32_876_r0
  let c8_i32_877_r0 : BitVec 32 := 8#32
  let v1676_r0 : BitVec 32 := Scalar.muli v1675_r0 c8_i32_877_r0
  let c0_i32_879_r0 : BitVec 32 := 0#32
  let v1678_r0 : BitVec 1 := Scalar.cmpi .sgt v1676_r0 c0_i32_879_r0
  let v1679_r0 : BitVec 32 := Scalar.extui v1678_r0
  let c0_i32_880_r0 : BitVec 32 := 0#32
  let v1680_r0 : BitVec 1 := Scalar.cmpi .slt v1676_r0 c0_i32_880_r0
  let v1681_r0 : BitVec 32 := Scalar.extui v1680_r0
  let v1682_r0 : BitVec 32 := Scalar.subi v1679_r0 v1681_r0
  let c128_i32_878_r0 : BitVec 32 := 128#32
  let c0_i32_881_r0 : BitVec 32 := 0#32
  let v1683_r0 : BitVec 1 := Scalar.cmpi .sgt c128_i32_878_r0 c0_i32_881_r0
  let v1684_r0 : BitVec 32 := Scalar.extui v1683_r0
  let c0_i32_882_r0 : BitVec 32 := 0#32
  let v1685_r0 : BitVec 1 := Scalar.cmpi .slt c128_i32_878_r0 c0_i32_882_r0
  let v1686_r0 : BitVec 32 := Scalar.extui v1685_r0
  let v1687_r0 : BitVec 32 := Scalar.subi v1684_r0 v1686_r0
  let v1688_r0 : BitVec 1 := Scalar.cmpi .ne v1682_r0 v1687_r0
  let v1689_r0 : BitVec 32 := Scalar.remsi v1676_r0 c128_i32_878_r0
  let c0_i32_883_r0 : BitVec 32 := 0#32
  let v1690_r0 : BitVec 1 := Scalar.cmpi .ne v1689_r0 c0_i32_883_r0
  let v1691_r0 : BitVec 1 := Scalar.andi v1688_r0 v1690_r0
  let v1677_r0 : BitVec 32 := Scalar.divsi v1676_r0 c128_i32_878_r0
  let c1_i32_884_r0 : BitVec 32 := 1#32
  let v1692_r0 : BitVec 32 := Scalar.subi v1677_r0 c1_i32_884_r0
  let v1693_r0 : BitVec 32 := Scalar.select v1691_r0 v1692_r0 v1677_r0
  let c128_i32_892_r0 : BitVec 32 := 128#32
  let v1705_r0 : BitVec 32 := Scalar.muli v1693_r0 c128_i32_892_r0
  v1705_r0
def k0_mult40 (k0_t3 : Fin k0_t3_loop.trips) : BitVec 32 :=
  let c1_i32_872_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_871_r0 : BitVec 32 := 15#32
  let v1668_r0 : BitVec 32 := Scalar.muli arg21_r0 c15_i32_871_r0
  let v1669_r0 : BitVec 32 := Scalar.addi c1_i32_872_r0 v1668_r0
  let c6_i32_873_r0 : BitVec 32 := 6#32
  let v1670_r0 : BitVec 32 := Scalar.addi v1669_r0 c6_i32_873_r0
  let c1_i32_876_r0 : BitVec 32 := 1#32
  let v1675_r0 : BitVec 32 := Scalar.addi v1670_r0 c1_i32_876_r0
  let c256_i32_891_r0 : BitVec 32 := 256#32
  let v1704_r0 : BitVec 32 := Scalar.muli v1675_r0 c256_i32_891_r0
  v1704_r0
def k0_mult41 (k0_t3 : Fin k0_t3_loop.trips) : BitVec 32 :=
  let c1_i32_872_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_871_r0 : BitVec 32 := 15#32
  let v1668_r0 : BitVec 32 := Scalar.muli arg21_r0 c15_i32_871_r0
  let v1669_r0 : BitVec 32 := Scalar.addi c1_i32_872_r0 v1668_r0
  let c6_i32_873_r0 : BitVec 32 := 6#32
  let v1670_r0 : BitVec 32 := Scalar.addi v1669_r0 c6_i32_873_r0
  let c256_i32_921_r0 : BitVec 32 := 256#32
  let v1794_r0 : BitVec 32 := Scalar.muli v1670_r0 c256_i32_921_r0
  v1794_r0
def k0_mult42 (k0_t3 : Fin k0_t3_loop.trips) : BitVec 32 :=
  let c1_i32_872_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_871_r0 : BitVec 32 := 15#32
  let v1668_r0 : BitVec 32 := Scalar.muli arg21_r0 c15_i32_871_r0
  let v1669_r0 : BitVec 32 := Scalar.addi c1_i32_872_r0 v1668_r0
  let c6_i32_873_r0 : BitVec 32 := 6#32
  let v1670_r0 : BitVec 32 := Scalar.addi v1669_r0 c6_i32_873_r0
  let c256_i32_923_r0 : BitVec 32 := 256#32
  let v1798_r0 : BitVec 32 := Scalar.muli v1670_r0 c256_i32_923_r0
  v1798_r0
def k0_mult43 (k0_t3 : Fin k0_t3_loop.trips) : BitVec 32 :=
  let c1_i32_872_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_871_r0 : BitVec 32 := 15#32
  let v1668_r0 : BitVec 32 := Scalar.muli arg21_r0 c15_i32_871_r0
  let v1669_r0 : BitVec 32 := Scalar.addi c1_i32_872_r0 v1668_r0
  let c6_i32_873_r0 : BitVec 32 := 6#32
  let v1670_r0 : BitVec 32 := Scalar.addi v1669_r0 c6_i32_873_r0
  let c256_i32_925_r0 : BitVec 32 := 256#32
  let v1802_r0 : BitVec 32 := Scalar.muli v1670_r0 c256_i32_925_r0
  v1802_r0
def k0_mult44 (k0_t3 : Fin k0_t3_loop.trips) : BitVec 32 :=
  let c1_i32_928_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_927_r0 : BitVec 32 := 15#32
  let v1806_r0 : BitVec 32 := Scalar.muli arg21_r0 c15_i32_927_r0
  let v1807_r0 : BitVec 32 := Scalar.addi c1_i32_928_r0 v1806_r0
  let c7_i32_929_r0 : BitVec 32 := 7#32
  let v1808_r0 : BitVec 32 := Scalar.addi v1807_r0 c7_i32_929_r0
  let c256_i32_930_r0 : BitVec 32 := 256#32
  let v1809_r0 : BitVec 32 := Scalar.muli v1808_r0 c256_i32_930_r0
  v1809_r0
def k0_mult45 (k0_t3 : Fin k0_t3_loop.trips) : BitVec 32 :=
  let c1_i32_928_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_927_r0 : BitVec 32 := 15#32
  let v1806_r0 : BitVec 32 := Scalar.muli arg21_r0 c15_i32_927_r0
  let v1807_r0 : BitVec 32 := Scalar.addi c1_i32_928_r0 v1806_r0
  let c7_i32_929_r0 : BitVec 32 := 7#32
  let v1808_r0 : BitVec 32 := Scalar.addi v1807_r0 c7_i32_929_r0
  let c1_i32_932_r0 : BitVec 32 := 1#32
  let v1813_r0 : BitVec 32 := Scalar.addi v1808_r0 c1_i32_932_r0
  let c8_i32_933_r0 : BitVec 32 := 8#32
  let v1814_r0 : BitVec 32 := Scalar.muli v1813_r0 c8_i32_933_r0
  let c0_i32_935_r0 : BitVec 32 := 0#32
  let v1816_r0 : BitVec 1 := Scalar.cmpi .sgt v1814_r0 c0_i32_935_r0
  let v1817_r0 : BitVec 32 := Scalar.extui v1816_r0
  let c0_i32_936_r0 : BitVec 32 := 0#32
  let v1818_r0 : BitVec 1 := Scalar.cmpi .slt v1814_r0 c0_i32_936_r0
  let v1819_r0 : BitVec 32 := Scalar.extui v1818_r0
  let v1820_r0 : BitVec 32 := Scalar.subi v1817_r0 v1819_r0
  let c128_i32_934_r0 : BitVec 32 := 128#32
  let c0_i32_937_r0 : BitVec 32 := 0#32
  let v1821_r0 : BitVec 1 := Scalar.cmpi .sgt c128_i32_934_r0 c0_i32_937_r0
  let v1822_r0 : BitVec 32 := Scalar.extui v1821_r0
  let c0_i32_938_r0 : BitVec 32 := 0#32
  let v1823_r0 : BitVec 1 := Scalar.cmpi .slt c128_i32_934_r0 c0_i32_938_r0
  let v1824_r0 : BitVec 32 := Scalar.extui v1823_r0
  let v1825_r0 : BitVec 32 := Scalar.subi v1822_r0 v1824_r0
  let v1826_r0 : BitVec 1 := Scalar.cmpi .ne v1820_r0 v1825_r0
  let v1827_r0 : BitVec 32 := Scalar.remsi v1814_r0 c128_i32_934_r0
  let c0_i32_939_r0 : BitVec 32 := 0#32
  let v1828_r0 : BitVec 1 := Scalar.cmpi .ne v1827_r0 c0_i32_939_r0
  let v1829_r0 : BitVec 1 := Scalar.andi v1826_r0 v1828_r0
  let v1815_r0 : BitVec 32 := Scalar.divsi v1814_r0 c128_i32_934_r0
  let c1_i32_940_r0 : BitVec 32 := 1#32
  let v1830_r0 : BitVec 32 := Scalar.subi v1815_r0 c1_i32_940_r0
  let v1831_r0 : BitVec 32 := Scalar.select v1829_r0 v1830_r0 v1815_r0
  let c128_i32_948_r0 : BitVec 32 := 128#32
  let v1843_r0 : BitVec 32 := Scalar.muli v1831_r0 c128_i32_948_r0
  v1843_r0
def k0_mult46 (k0_t3 : Fin k0_t3_loop.trips) : BitVec 32 :=
  let c1_i32_928_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_927_r0 : BitVec 32 := 15#32
  let v1806_r0 : BitVec 32 := Scalar.muli arg21_r0 c15_i32_927_r0
  let v1807_r0 : BitVec 32 := Scalar.addi c1_i32_928_r0 v1806_r0
  let c7_i32_929_r0 : BitVec 32 := 7#32
  let v1808_r0 : BitVec 32 := Scalar.addi v1807_r0 c7_i32_929_r0
  let c1_i32_932_r0 : BitVec 32 := 1#32
  let v1813_r0 : BitVec 32 := Scalar.addi v1808_r0 c1_i32_932_r0
  let c256_i32_947_r0 : BitVec 32 := 256#32
  let v1842_r0 : BitVec 32 := Scalar.muli v1813_r0 c256_i32_947_r0
  v1842_r0
def k0_mult47 (k0_t3 : Fin k0_t3_loop.trips) : BitVec 32 :=
  let c1_i32_928_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_927_r0 : BitVec 32 := 15#32
  let v1806_r0 : BitVec 32 := Scalar.muli arg21_r0 c15_i32_927_r0
  let v1807_r0 : BitVec 32 := Scalar.addi c1_i32_928_r0 v1806_r0
  let c7_i32_929_r0 : BitVec 32 := 7#32
  let v1808_r0 : BitVec 32 := Scalar.addi v1807_r0 c7_i32_929_r0
  let c256_i32_977_r0 : BitVec 32 := 256#32
  let v1932_r0 : BitVec 32 := Scalar.muli v1808_r0 c256_i32_977_r0
  v1932_r0
def k0_mult48 (k0_t3 : Fin k0_t3_loop.trips) : BitVec 32 :=
  let c1_i32_928_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_927_r0 : BitVec 32 := 15#32
  let v1806_r0 : BitVec 32 := Scalar.muli arg21_r0 c15_i32_927_r0
  let v1807_r0 : BitVec 32 := Scalar.addi c1_i32_928_r0 v1806_r0
  let c7_i32_929_r0 : BitVec 32 := 7#32
  let v1808_r0 : BitVec 32 := Scalar.addi v1807_r0 c7_i32_929_r0
  let c256_i32_979_r0 : BitVec 32 := 256#32
  let v1936_r0 : BitVec 32 := Scalar.muli v1808_r0 c256_i32_979_r0
  v1936_r0
def k0_mult49 (k0_t3 : Fin k0_t3_loop.trips) : BitVec 32 :=
  let c1_i32_928_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_927_r0 : BitVec 32 := 15#32
  let v1806_r0 : BitVec 32 := Scalar.muli arg21_r0 c15_i32_927_r0
  let v1807_r0 : BitVec 32 := Scalar.addi c1_i32_928_r0 v1806_r0
  let c7_i32_929_r0 : BitVec 32 := 7#32
  let v1808_r0 : BitVec 32 := Scalar.addi v1807_r0 c7_i32_929_r0
  let c256_i32_981_r0 : BitVec 32 := 256#32
  let v1940_r0 : BitVec 32 := Scalar.muli v1808_r0 c256_i32_981_r0
  v1940_r0
def k0_mult50 (k0_t3 : Fin k0_t3_loop.trips) : BitVec 32 :=
  let c1_i32_984_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_983_r0 : BitVec 32 := 15#32
  let v1944_r0 : BitVec 32 := Scalar.muli arg21_r0 c15_i32_983_r0
  let v1945_r0 : BitVec 32 := Scalar.addi c1_i32_984_r0 v1944_r0
  let c8_i32_985_r0 : BitVec 32 := 8#32
  let v1946_r0 : BitVec 32 := Scalar.addi v1945_r0 c8_i32_985_r0
  let c256_i32_986_r0 : BitVec 32 := 256#32
  let v1947_r0 : BitVec 32 := Scalar.muli v1946_r0 c256_i32_986_r0
  v1947_r0
def k0_mult51 (k0_t3 : Fin k0_t3_loop.trips) : BitVec 32 :=
  let c1_i32_984_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_983_r0 : BitVec 32 := 15#32
  let v1944_r0 : BitVec 32 := Scalar.muli arg21_r0 c15_i32_983_r0
  let v1945_r0 : BitVec 32 := Scalar.addi c1_i32_984_r0 v1944_r0
  let c8_i32_985_r0 : BitVec 32 := 8#32
  let v1946_r0 : BitVec 32 := Scalar.addi v1945_r0 c8_i32_985_r0
  let c1_i32_988_r0 : BitVec 32 := 1#32
  let v1951_r0 : BitVec 32 := Scalar.addi v1946_r0 c1_i32_988_r0
  let c8_i32_989_r0 : BitVec 32 := 8#32
  let v1952_r0 : BitVec 32 := Scalar.muli v1951_r0 c8_i32_989_r0
  let c0_i32_991_r0 : BitVec 32 := 0#32
  let v1954_r0 : BitVec 1 := Scalar.cmpi .sgt v1952_r0 c0_i32_991_r0
  let v1955_r0 : BitVec 32 := Scalar.extui v1954_r0
  let c0_i32_992_r0 : BitVec 32 := 0#32
  let v1956_r0 : BitVec 1 := Scalar.cmpi .slt v1952_r0 c0_i32_992_r0
  let v1957_r0 : BitVec 32 := Scalar.extui v1956_r0
  let v1958_r0 : BitVec 32 := Scalar.subi v1955_r0 v1957_r0
  let c128_i32_990_r0 : BitVec 32 := 128#32
  let c0_i32_993_r0 : BitVec 32 := 0#32
  let v1959_r0 : BitVec 1 := Scalar.cmpi .sgt c128_i32_990_r0 c0_i32_993_r0
  let v1960_r0 : BitVec 32 := Scalar.extui v1959_r0
  let c0_i32_994_r0 : BitVec 32 := 0#32
  let v1961_r0 : BitVec 1 := Scalar.cmpi .slt c128_i32_990_r0 c0_i32_994_r0
  let v1962_r0 : BitVec 32 := Scalar.extui v1961_r0
  let v1963_r0 : BitVec 32 := Scalar.subi v1960_r0 v1962_r0
  let v1964_r0 : BitVec 1 := Scalar.cmpi .ne v1958_r0 v1963_r0
  let v1965_r0 : BitVec 32 := Scalar.remsi v1952_r0 c128_i32_990_r0
  let c0_i32_995_r0 : BitVec 32 := 0#32
  let v1966_r0 : BitVec 1 := Scalar.cmpi .ne v1965_r0 c0_i32_995_r0
  let v1967_r0 : BitVec 1 := Scalar.andi v1964_r0 v1966_r0
  let v1953_r0 : BitVec 32 := Scalar.divsi v1952_r0 c128_i32_990_r0
  let c1_i32_996_r0 : BitVec 32 := 1#32
  let v1968_r0 : BitVec 32 := Scalar.subi v1953_r0 c1_i32_996_r0
  let v1969_r0 : BitVec 32 := Scalar.select v1967_r0 v1968_r0 v1953_r0
  let c128_i32_1004_r0 : BitVec 32 := 128#32
  let v1981_r0 : BitVec 32 := Scalar.muli v1969_r0 c128_i32_1004_r0
  v1981_r0
def k0_mult52 (k0_t3 : Fin k0_t3_loop.trips) : BitVec 32 :=
  let c1_i32_984_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_983_r0 : BitVec 32 := 15#32
  let v1944_r0 : BitVec 32 := Scalar.muli arg21_r0 c15_i32_983_r0
  let v1945_r0 : BitVec 32 := Scalar.addi c1_i32_984_r0 v1944_r0
  let c8_i32_985_r0 : BitVec 32 := 8#32
  let v1946_r0 : BitVec 32 := Scalar.addi v1945_r0 c8_i32_985_r0
  let c1_i32_988_r0 : BitVec 32 := 1#32
  let v1951_r0 : BitVec 32 := Scalar.addi v1946_r0 c1_i32_988_r0
  let c256_i32_1003_r0 : BitVec 32 := 256#32
  let v1980_r0 : BitVec 32 := Scalar.muli v1951_r0 c256_i32_1003_r0
  v1980_r0
def k0_mult53 (k0_t3 : Fin k0_t3_loop.trips) : BitVec 32 :=
  let c1_i32_984_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_983_r0 : BitVec 32 := 15#32
  let v1944_r0 : BitVec 32 := Scalar.muli arg21_r0 c15_i32_983_r0
  let v1945_r0 : BitVec 32 := Scalar.addi c1_i32_984_r0 v1944_r0
  let c8_i32_985_r0 : BitVec 32 := 8#32
  let v1946_r0 : BitVec 32 := Scalar.addi v1945_r0 c8_i32_985_r0
  let c256_i32_1033_r0 : BitVec 32 := 256#32
  let v2070_r0 : BitVec 32 := Scalar.muli v1946_r0 c256_i32_1033_r0
  v2070_r0
def k0_mult54 (k0_t3 : Fin k0_t3_loop.trips) : BitVec 32 :=
  let c1_i32_984_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_983_r0 : BitVec 32 := 15#32
  let v1944_r0 : BitVec 32 := Scalar.muli arg21_r0 c15_i32_983_r0
  let v1945_r0 : BitVec 32 := Scalar.addi c1_i32_984_r0 v1944_r0
  let c8_i32_985_r0 : BitVec 32 := 8#32
  let v1946_r0 : BitVec 32 := Scalar.addi v1945_r0 c8_i32_985_r0
  let c256_i32_1035_r0 : BitVec 32 := 256#32
  let v2074_r0 : BitVec 32 := Scalar.muli v1946_r0 c256_i32_1035_r0
  v2074_r0
def k0_mult55 (k0_t3 : Fin k0_t3_loop.trips) : BitVec 32 :=
  let c1_i32_984_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_983_r0 : BitVec 32 := 15#32
  let v1944_r0 : BitVec 32 := Scalar.muli arg21_r0 c15_i32_983_r0
  let v1945_r0 : BitVec 32 := Scalar.addi c1_i32_984_r0 v1944_r0
  let c8_i32_985_r0 : BitVec 32 := 8#32
  let v1946_r0 : BitVec 32 := Scalar.addi v1945_r0 c8_i32_985_r0
  let c256_i32_1037_r0 : BitVec 32 := 256#32
  let v2078_r0 : BitVec 32 := Scalar.muli v1946_r0 c256_i32_1037_r0
  v2078_r0
def k0_mult56 (k0_t3 : Fin k0_t3_loop.trips) : BitVec 32 :=
  let c1_i32_1040_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1039_r0 : BitVec 32 := 15#32
  let v2082_r0 : BitVec 32 := Scalar.muli arg21_r0 c15_i32_1039_r0
  let v2083_r0 : BitVec 32 := Scalar.addi c1_i32_1040_r0 v2082_r0
  let c9_i32_1041_r0 : BitVec 32 := 9#32
  let v2084_r0 : BitVec 32 := Scalar.addi v2083_r0 c9_i32_1041_r0
  let c256_i32_1042_r0 : BitVec 32 := 256#32
  let v2085_r0 : BitVec 32 := Scalar.muli v2084_r0 c256_i32_1042_r0
  v2085_r0
def k0_mult57 (k0_t3 : Fin k0_t3_loop.trips) : BitVec 32 :=
  let c1_i32_1040_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1039_r0 : BitVec 32 := 15#32
  let v2082_r0 : BitVec 32 := Scalar.muli arg21_r0 c15_i32_1039_r0
  let v2083_r0 : BitVec 32 := Scalar.addi c1_i32_1040_r0 v2082_r0
  let c9_i32_1041_r0 : BitVec 32 := 9#32
  let v2084_r0 : BitVec 32 := Scalar.addi v2083_r0 c9_i32_1041_r0
  let c1_i32_1044_r0 : BitVec 32 := 1#32
  let v2089_r0 : BitVec 32 := Scalar.addi v2084_r0 c1_i32_1044_r0
  let c8_i32_1045_r0 : BitVec 32 := 8#32
  let v2090_r0 : BitVec 32 := Scalar.muli v2089_r0 c8_i32_1045_r0
  let c0_i32_1047_r0 : BitVec 32 := 0#32
  let v2092_r0 : BitVec 1 := Scalar.cmpi .sgt v2090_r0 c0_i32_1047_r0
  let v2093_r0 : BitVec 32 := Scalar.extui v2092_r0
  let c0_i32_1048_r0 : BitVec 32 := 0#32
  let v2094_r0 : BitVec 1 := Scalar.cmpi .slt v2090_r0 c0_i32_1048_r0
  let v2095_r0 : BitVec 32 := Scalar.extui v2094_r0
  let v2096_r0 : BitVec 32 := Scalar.subi v2093_r0 v2095_r0
  let c128_i32_1046_r0 : BitVec 32 := 128#32
  let c0_i32_1049_r0 : BitVec 32 := 0#32
  let v2097_r0 : BitVec 1 := Scalar.cmpi .sgt c128_i32_1046_r0 c0_i32_1049_r0
  let v2098_r0 : BitVec 32 := Scalar.extui v2097_r0
  let c0_i32_1050_r0 : BitVec 32 := 0#32
  let v2099_r0 : BitVec 1 := Scalar.cmpi .slt c128_i32_1046_r0 c0_i32_1050_r0
  let v2100_r0 : BitVec 32 := Scalar.extui v2099_r0
  let v2101_r0 : BitVec 32 := Scalar.subi v2098_r0 v2100_r0
  let v2102_r0 : BitVec 1 := Scalar.cmpi .ne v2096_r0 v2101_r0
  let v2103_r0 : BitVec 32 := Scalar.remsi v2090_r0 c128_i32_1046_r0
  let c0_i32_1051_r0 : BitVec 32 := 0#32
  let v2104_r0 : BitVec 1 := Scalar.cmpi .ne v2103_r0 c0_i32_1051_r0
  let v2105_r0 : BitVec 1 := Scalar.andi v2102_r0 v2104_r0
  let v2091_r0 : BitVec 32 := Scalar.divsi v2090_r0 c128_i32_1046_r0
  let c1_i32_1052_r0 : BitVec 32 := 1#32
  let v2106_r0 : BitVec 32 := Scalar.subi v2091_r0 c1_i32_1052_r0
  let v2107_r0 : BitVec 32 := Scalar.select v2105_r0 v2106_r0 v2091_r0
  let c128_i32_1060_r0 : BitVec 32 := 128#32
  let v2119_r0 : BitVec 32 := Scalar.muli v2107_r0 c128_i32_1060_r0
  v2119_r0
def k0_mult58 (k0_t3 : Fin k0_t3_loop.trips) : BitVec 32 :=
  let c1_i32_1040_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1039_r0 : BitVec 32 := 15#32
  let v2082_r0 : BitVec 32 := Scalar.muli arg21_r0 c15_i32_1039_r0
  let v2083_r0 : BitVec 32 := Scalar.addi c1_i32_1040_r0 v2082_r0
  let c9_i32_1041_r0 : BitVec 32 := 9#32
  let v2084_r0 : BitVec 32 := Scalar.addi v2083_r0 c9_i32_1041_r0
  let c1_i32_1044_r0 : BitVec 32 := 1#32
  let v2089_r0 : BitVec 32 := Scalar.addi v2084_r0 c1_i32_1044_r0
  let c256_i32_1059_r0 : BitVec 32 := 256#32
  let v2118_r0 : BitVec 32 := Scalar.muli v2089_r0 c256_i32_1059_r0
  v2118_r0
def k0_mult59 (k0_t3 : Fin k0_t3_loop.trips) : BitVec 32 :=
  let c1_i32_1040_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1039_r0 : BitVec 32 := 15#32
  let v2082_r0 : BitVec 32 := Scalar.muli arg21_r0 c15_i32_1039_r0
  let v2083_r0 : BitVec 32 := Scalar.addi c1_i32_1040_r0 v2082_r0
  let c9_i32_1041_r0 : BitVec 32 := 9#32
  let v2084_r0 : BitVec 32 := Scalar.addi v2083_r0 c9_i32_1041_r0
  let c256_i32_1089_r0 : BitVec 32 := 256#32
  let v2208_r0 : BitVec 32 := Scalar.muli v2084_r0 c256_i32_1089_r0
  v2208_r0
def k0_mult60 (k0_t3 : Fin k0_t3_loop.trips) : BitVec 32 :=
  let c1_i32_1040_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1039_r0 : BitVec 32 := 15#32
  let v2082_r0 : BitVec 32 := Scalar.muli arg21_r0 c15_i32_1039_r0
  let v2083_r0 : BitVec 32 := Scalar.addi c1_i32_1040_r0 v2082_r0
  let c9_i32_1041_r0 : BitVec 32 := 9#32
  let v2084_r0 : BitVec 32 := Scalar.addi v2083_r0 c9_i32_1041_r0
  let c256_i32_1091_r0 : BitVec 32 := 256#32
  let v2212_r0 : BitVec 32 := Scalar.muli v2084_r0 c256_i32_1091_r0
  v2212_r0
def k0_mult61 (k0_t3 : Fin k0_t3_loop.trips) : BitVec 32 :=
  let c1_i32_1040_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1039_r0 : BitVec 32 := 15#32
  let v2082_r0 : BitVec 32 := Scalar.muli arg21_r0 c15_i32_1039_r0
  let v2083_r0 : BitVec 32 := Scalar.addi c1_i32_1040_r0 v2082_r0
  let c9_i32_1041_r0 : BitVec 32 := 9#32
  let v2084_r0 : BitVec 32 := Scalar.addi v2083_r0 c9_i32_1041_r0
  let c256_i32_1093_r0 : BitVec 32 := 256#32
  let v2216_r0 : BitVec 32 := Scalar.muli v2084_r0 c256_i32_1093_r0
  v2216_r0
def k0_mult62 (k0_t3 : Fin k0_t3_loop.trips) : BitVec 32 :=
  let c1_i32_1096_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1095_r0 : BitVec 32 := 15#32
  let v2220_r0 : BitVec 32 := Scalar.muli arg21_r0 c15_i32_1095_r0
  let v2221_r0 : BitVec 32 := Scalar.addi c1_i32_1096_r0 v2220_r0
  let c10_i32_1097_r0 : BitVec 32 := 10#32
  let v2222_r0 : BitVec 32 := Scalar.addi v2221_r0 c10_i32_1097_r0
  let c256_i32_1098_r0 : BitVec 32 := 256#32
  let v2223_r0 : BitVec 32 := Scalar.muli v2222_r0 c256_i32_1098_r0
  v2223_r0
def k0_mult63 (k0_t3 : Fin k0_t3_loop.trips) : BitVec 32 :=
  let c1_i32_1096_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1095_r0 : BitVec 32 := 15#32
  let v2220_r0 : BitVec 32 := Scalar.muli arg21_r0 c15_i32_1095_r0
  let v2221_r0 : BitVec 32 := Scalar.addi c1_i32_1096_r0 v2220_r0
  let c10_i32_1097_r0 : BitVec 32 := 10#32
  let v2222_r0 : BitVec 32 := Scalar.addi v2221_r0 c10_i32_1097_r0
  let c1_i32_1100_r0 : BitVec 32 := 1#32
  let v2227_r0 : BitVec 32 := Scalar.addi v2222_r0 c1_i32_1100_r0
  let c8_i32_1101_r0 : BitVec 32 := 8#32
  let v2228_r0 : BitVec 32 := Scalar.muli v2227_r0 c8_i32_1101_r0
  let c0_i32_1103_r0 : BitVec 32 := 0#32
  let v2230_r0 : BitVec 1 := Scalar.cmpi .sgt v2228_r0 c0_i32_1103_r0
  let v2231_r0 : BitVec 32 := Scalar.extui v2230_r0
  let c0_i32_1104_r0 : BitVec 32 := 0#32
  let v2232_r0 : BitVec 1 := Scalar.cmpi .slt v2228_r0 c0_i32_1104_r0
  let v2233_r0 : BitVec 32 := Scalar.extui v2232_r0
  let v2234_r0 : BitVec 32 := Scalar.subi v2231_r0 v2233_r0
  let c128_i32_1102_r0 : BitVec 32 := 128#32
  let c0_i32_1105_r0 : BitVec 32 := 0#32
  let v2235_r0 : BitVec 1 := Scalar.cmpi .sgt c128_i32_1102_r0 c0_i32_1105_r0
  let v2236_r0 : BitVec 32 := Scalar.extui v2235_r0
  let c0_i32_1106_r0 : BitVec 32 := 0#32
  let v2237_r0 : BitVec 1 := Scalar.cmpi .slt c128_i32_1102_r0 c0_i32_1106_r0
  let v2238_r0 : BitVec 32 := Scalar.extui v2237_r0
  let v2239_r0 : BitVec 32 := Scalar.subi v2236_r0 v2238_r0
  let v2240_r0 : BitVec 1 := Scalar.cmpi .ne v2234_r0 v2239_r0
  let v2241_r0 : BitVec 32 := Scalar.remsi v2228_r0 c128_i32_1102_r0
  let c0_i32_1107_r0 : BitVec 32 := 0#32
  let v2242_r0 : BitVec 1 := Scalar.cmpi .ne v2241_r0 c0_i32_1107_r0
  let v2243_r0 : BitVec 1 := Scalar.andi v2240_r0 v2242_r0
  let v2229_r0 : BitVec 32 := Scalar.divsi v2228_r0 c128_i32_1102_r0
  let c1_i32_1108_r0 : BitVec 32 := 1#32
  let v2244_r0 : BitVec 32 := Scalar.subi v2229_r0 c1_i32_1108_r0
  let v2245_r0 : BitVec 32 := Scalar.select v2243_r0 v2244_r0 v2229_r0
  let c128_i32_1116_r0 : BitVec 32 := 128#32
  let v2257_r0 : BitVec 32 := Scalar.muli v2245_r0 c128_i32_1116_r0
  v2257_r0
def k0_mult64 (k0_t3 : Fin k0_t3_loop.trips) : BitVec 32 :=
  let c1_i32_1096_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1095_r0 : BitVec 32 := 15#32
  let v2220_r0 : BitVec 32 := Scalar.muli arg21_r0 c15_i32_1095_r0
  let v2221_r0 : BitVec 32 := Scalar.addi c1_i32_1096_r0 v2220_r0
  let c10_i32_1097_r0 : BitVec 32 := 10#32
  let v2222_r0 : BitVec 32 := Scalar.addi v2221_r0 c10_i32_1097_r0
  let c1_i32_1100_r0 : BitVec 32 := 1#32
  let v2227_r0 : BitVec 32 := Scalar.addi v2222_r0 c1_i32_1100_r0
  let c256_i32_1115_r0 : BitVec 32 := 256#32
  let v2256_r0 : BitVec 32 := Scalar.muli v2227_r0 c256_i32_1115_r0
  v2256_r0
def k0_mult65 (k0_t3 : Fin k0_t3_loop.trips) : BitVec 32 :=
  let c1_i32_1096_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1095_r0 : BitVec 32 := 15#32
  let v2220_r0 : BitVec 32 := Scalar.muli arg21_r0 c15_i32_1095_r0
  let v2221_r0 : BitVec 32 := Scalar.addi c1_i32_1096_r0 v2220_r0
  let c10_i32_1097_r0 : BitVec 32 := 10#32
  let v2222_r0 : BitVec 32 := Scalar.addi v2221_r0 c10_i32_1097_r0
  let c256_i32_1145_r0 : BitVec 32 := 256#32
  let v2346_r0 : BitVec 32 := Scalar.muli v2222_r0 c256_i32_1145_r0
  v2346_r0
def k0_mult66 (k0_t3 : Fin k0_t3_loop.trips) : BitVec 32 :=
  let c1_i32_1096_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1095_r0 : BitVec 32 := 15#32
  let v2220_r0 : BitVec 32 := Scalar.muli arg21_r0 c15_i32_1095_r0
  let v2221_r0 : BitVec 32 := Scalar.addi c1_i32_1096_r0 v2220_r0
  let c10_i32_1097_r0 : BitVec 32 := 10#32
  let v2222_r0 : BitVec 32 := Scalar.addi v2221_r0 c10_i32_1097_r0
  let c256_i32_1147_r0 : BitVec 32 := 256#32
  let v2350_r0 : BitVec 32 := Scalar.muli v2222_r0 c256_i32_1147_r0
  v2350_r0
def k0_mult67 (k0_t3 : Fin k0_t3_loop.trips) : BitVec 32 :=
  let c1_i32_1096_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1095_r0 : BitVec 32 := 15#32
  let v2220_r0 : BitVec 32 := Scalar.muli arg21_r0 c15_i32_1095_r0
  let v2221_r0 : BitVec 32 := Scalar.addi c1_i32_1096_r0 v2220_r0
  let c10_i32_1097_r0 : BitVec 32 := 10#32
  let v2222_r0 : BitVec 32 := Scalar.addi v2221_r0 c10_i32_1097_r0
  let c256_i32_1149_r0 : BitVec 32 := 256#32
  let v2354_r0 : BitVec 32 := Scalar.muli v2222_r0 c256_i32_1149_r0
  v2354_r0
def k0_mult68 (k0_t3 : Fin k0_t3_loop.trips) : BitVec 32 :=
  let c1_i32_1152_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1151_r0 : BitVec 32 := 15#32
  let v2358_r0 : BitVec 32 := Scalar.muli arg21_r0 c15_i32_1151_r0
  let v2359_r0 : BitVec 32 := Scalar.addi c1_i32_1152_r0 v2358_r0
  let c11_i32_1153_r0 : BitVec 32 := 11#32
  let v2360_r0 : BitVec 32 := Scalar.addi v2359_r0 c11_i32_1153_r0
  let c256_i32_1154_r0 : BitVec 32 := 256#32
  let v2361_r0 : BitVec 32 := Scalar.muli v2360_r0 c256_i32_1154_r0
  v2361_r0
def k0_mult69 (k0_t3 : Fin k0_t3_loop.trips) : BitVec 32 :=
  let c1_i32_1152_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1151_r0 : BitVec 32 := 15#32
  let v2358_r0 : BitVec 32 := Scalar.muli arg21_r0 c15_i32_1151_r0
  let v2359_r0 : BitVec 32 := Scalar.addi c1_i32_1152_r0 v2358_r0
  let c11_i32_1153_r0 : BitVec 32 := 11#32
  let v2360_r0 : BitVec 32 := Scalar.addi v2359_r0 c11_i32_1153_r0
  let c1_i32_1156_r0 : BitVec 32 := 1#32
  let v2365_r0 : BitVec 32 := Scalar.addi v2360_r0 c1_i32_1156_r0
  let c8_i32_1157_r0 : BitVec 32 := 8#32
  let v2366_r0 : BitVec 32 := Scalar.muli v2365_r0 c8_i32_1157_r0
  let c0_i32_1159_r0 : BitVec 32 := 0#32
  let v2368_r0 : BitVec 1 := Scalar.cmpi .sgt v2366_r0 c0_i32_1159_r0
  let v2369_r0 : BitVec 32 := Scalar.extui v2368_r0
  let c0_i32_1160_r0 : BitVec 32 := 0#32
  let v2370_r0 : BitVec 1 := Scalar.cmpi .slt v2366_r0 c0_i32_1160_r0
  let v2371_r0 : BitVec 32 := Scalar.extui v2370_r0
  let v2372_r0 : BitVec 32 := Scalar.subi v2369_r0 v2371_r0
  let c128_i32_1158_r0 : BitVec 32 := 128#32
  let c0_i32_1161_r0 : BitVec 32 := 0#32
  let v2373_r0 : BitVec 1 := Scalar.cmpi .sgt c128_i32_1158_r0 c0_i32_1161_r0
  let v2374_r0 : BitVec 32 := Scalar.extui v2373_r0
  let c0_i32_1162_r0 : BitVec 32 := 0#32
  let v2375_r0 : BitVec 1 := Scalar.cmpi .slt c128_i32_1158_r0 c0_i32_1162_r0
  let v2376_r0 : BitVec 32 := Scalar.extui v2375_r0
  let v2377_r0 : BitVec 32 := Scalar.subi v2374_r0 v2376_r0
  let v2378_r0 : BitVec 1 := Scalar.cmpi .ne v2372_r0 v2377_r0
  let v2379_r0 : BitVec 32 := Scalar.remsi v2366_r0 c128_i32_1158_r0
  let c0_i32_1163_r0 : BitVec 32 := 0#32
  let v2380_r0 : BitVec 1 := Scalar.cmpi .ne v2379_r0 c0_i32_1163_r0
  let v2381_r0 : BitVec 1 := Scalar.andi v2378_r0 v2380_r0
  let v2367_r0 : BitVec 32 := Scalar.divsi v2366_r0 c128_i32_1158_r0
  let c1_i32_1164_r0 : BitVec 32 := 1#32
  let v2382_r0 : BitVec 32 := Scalar.subi v2367_r0 c1_i32_1164_r0
  let v2383_r0 : BitVec 32 := Scalar.select v2381_r0 v2382_r0 v2367_r0
  let c128_i32_1172_r0 : BitVec 32 := 128#32
  let v2395_r0 : BitVec 32 := Scalar.muli v2383_r0 c128_i32_1172_r0
  v2395_r0
def k0_mult70 (k0_t3 : Fin k0_t3_loop.trips) : BitVec 32 :=
  let c1_i32_1152_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1151_r0 : BitVec 32 := 15#32
  let v2358_r0 : BitVec 32 := Scalar.muli arg21_r0 c15_i32_1151_r0
  let v2359_r0 : BitVec 32 := Scalar.addi c1_i32_1152_r0 v2358_r0
  let c11_i32_1153_r0 : BitVec 32 := 11#32
  let v2360_r0 : BitVec 32 := Scalar.addi v2359_r0 c11_i32_1153_r0
  let c1_i32_1156_r0 : BitVec 32 := 1#32
  let v2365_r0 : BitVec 32 := Scalar.addi v2360_r0 c1_i32_1156_r0
  let c256_i32_1171_r0 : BitVec 32 := 256#32
  let v2394_r0 : BitVec 32 := Scalar.muli v2365_r0 c256_i32_1171_r0
  v2394_r0
def k0_mult71 (k0_t3 : Fin k0_t3_loop.trips) : BitVec 32 :=
  let c1_i32_1152_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1151_r0 : BitVec 32 := 15#32
  let v2358_r0 : BitVec 32 := Scalar.muli arg21_r0 c15_i32_1151_r0
  let v2359_r0 : BitVec 32 := Scalar.addi c1_i32_1152_r0 v2358_r0
  let c11_i32_1153_r0 : BitVec 32 := 11#32
  let v2360_r0 : BitVec 32 := Scalar.addi v2359_r0 c11_i32_1153_r0
  let c256_i32_1201_r0 : BitVec 32 := 256#32
  let v2484_r0 : BitVec 32 := Scalar.muli v2360_r0 c256_i32_1201_r0
  v2484_r0
def k0_mult72 (k0_t3 : Fin k0_t3_loop.trips) : BitVec 32 :=
  let c1_i32_1152_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1151_r0 : BitVec 32 := 15#32
  let v2358_r0 : BitVec 32 := Scalar.muli arg21_r0 c15_i32_1151_r0
  let v2359_r0 : BitVec 32 := Scalar.addi c1_i32_1152_r0 v2358_r0
  let c11_i32_1153_r0 : BitVec 32 := 11#32
  let v2360_r0 : BitVec 32 := Scalar.addi v2359_r0 c11_i32_1153_r0
  let c256_i32_1203_r0 : BitVec 32 := 256#32
  let v2488_r0 : BitVec 32 := Scalar.muli v2360_r0 c256_i32_1203_r0
  v2488_r0
def k0_mult73 (k0_t3 : Fin k0_t3_loop.trips) : BitVec 32 :=
  let c1_i32_1152_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1151_r0 : BitVec 32 := 15#32
  let v2358_r0 : BitVec 32 := Scalar.muli arg21_r0 c15_i32_1151_r0
  let v2359_r0 : BitVec 32 := Scalar.addi c1_i32_1152_r0 v2358_r0
  let c11_i32_1153_r0 : BitVec 32 := 11#32
  let v2360_r0 : BitVec 32 := Scalar.addi v2359_r0 c11_i32_1153_r0
  let c256_i32_1205_r0 : BitVec 32 := 256#32
  let v2492_r0 : BitVec 32 := Scalar.muli v2360_r0 c256_i32_1205_r0
  v2492_r0
def k0_mult74 (k0_t3 : Fin k0_t3_loop.trips) : BitVec 32 :=
  let c1_i32_1208_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1207_r0 : BitVec 32 := 15#32
  let v2496_r0 : BitVec 32 := Scalar.muli arg21_r0 c15_i32_1207_r0
  let v2497_r0 : BitVec 32 := Scalar.addi c1_i32_1208_r0 v2496_r0
  let c12_i32_1209_r0 : BitVec 32 := 12#32
  let v2498_r0 : BitVec 32 := Scalar.addi v2497_r0 c12_i32_1209_r0
  let c256_i32_1210_r0 : BitVec 32 := 256#32
  let v2499_r0 : BitVec 32 := Scalar.muli v2498_r0 c256_i32_1210_r0
  v2499_r0
def k0_mult75 (k0_t3 : Fin k0_t3_loop.trips) : BitVec 32 :=
  let c1_i32_1208_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1207_r0 : BitVec 32 := 15#32
  let v2496_r0 : BitVec 32 := Scalar.muli arg21_r0 c15_i32_1207_r0
  let v2497_r0 : BitVec 32 := Scalar.addi c1_i32_1208_r0 v2496_r0
  let c12_i32_1209_r0 : BitVec 32 := 12#32
  let v2498_r0 : BitVec 32 := Scalar.addi v2497_r0 c12_i32_1209_r0
  let c1_i32_1212_r0 : BitVec 32 := 1#32
  let v2503_r0 : BitVec 32 := Scalar.addi v2498_r0 c1_i32_1212_r0
  let c8_i32_1213_r0 : BitVec 32 := 8#32
  let v2504_r0 : BitVec 32 := Scalar.muli v2503_r0 c8_i32_1213_r0
  let c0_i32_1215_r0 : BitVec 32 := 0#32
  let v2506_r0 : BitVec 1 := Scalar.cmpi .sgt v2504_r0 c0_i32_1215_r0
  let v2507_r0 : BitVec 32 := Scalar.extui v2506_r0
  let c0_i32_1216_r0 : BitVec 32 := 0#32
  let v2508_r0 : BitVec 1 := Scalar.cmpi .slt v2504_r0 c0_i32_1216_r0
  let v2509_r0 : BitVec 32 := Scalar.extui v2508_r0
  let v2510_r0 : BitVec 32 := Scalar.subi v2507_r0 v2509_r0
  let c128_i32_1214_r0 : BitVec 32 := 128#32
  let c0_i32_1217_r0 : BitVec 32 := 0#32
  let v2511_r0 : BitVec 1 := Scalar.cmpi .sgt c128_i32_1214_r0 c0_i32_1217_r0
  let v2512_r0 : BitVec 32 := Scalar.extui v2511_r0
  let c0_i32_1218_r0 : BitVec 32 := 0#32
  let v2513_r0 : BitVec 1 := Scalar.cmpi .slt c128_i32_1214_r0 c0_i32_1218_r0
  let v2514_r0 : BitVec 32 := Scalar.extui v2513_r0
  let v2515_r0 : BitVec 32 := Scalar.subi v2512_r0 v2514_r0
  let v2516_r0 : BitVec 1 := Scalar.cmpi .ne v2510_r0 v2515_r0
  let v2517_r0 : BitVec 32 := Scalar.remsi v2504_r0 c128_i32_1214_r0
  let c0_i32_1219_r0 : BitVec 32 := 0#32
  let v2518_r0 : BitVec 1 := Scalar.cmpi .ne v2517_r0 c0_i32_1219_r0
  let v2519_r0 : BitVec 1 := Scalar.andi v2516_r0 v2518_r0
  let v2505_r0 : BitVec 32 := Scalar.divsi v2504_r0 c128_i32_1214_r0
  let c1_i32_1220_r0 : BitVec 32 := 1#32
  let v2520_r0 : BitVec 32 := Scalar.subi v2505_r0 c1_i32_1220_r0
  let v2521_r0 : BitVec 32 := Scalar.select v2519_r0 v2520_r0 v2505_r0
  let c128_i32_1228_r0 : BitVec 32 := 128#32
  let v2533_r0 : BitVec 32 := Scalar.muli v2521_r0 c128_i32_1228_r0
  v2533_r0
def k0_mult76 (k0_t3 : Fin k0_t3_loop.trips) : BitVec 32 :=
  let c1_i32_1208_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1207_r0 : BitVec 32 := 15#32
  let v2496_r0 : BitVec 32 := Scalar.muli arg21_r0 c15_i32_1207_r0
  let v2497_r0 : BitVec 32 := Scalar.addi c1_i32_1208_r0 v2496_r0
  let c12_i32_1209_r0 : BitVec 32 := 12#32
  let v2498_r0 : BitVec 32 := Scalar.addi v2497_r0 c12_i32_1209_r0
  let c1_i32_1212_r0 : BitVec 32 := 1#32
  let v2503_r0 : BitVec 32 := Scalar.addi v2498_r0 c1_i32_1212_r0
  let c256_i32_1227_r0 : BitVec 32 := 256#32
  let v2532_r0 : BitVec 32 := Scalar.muli v2503_r0 c256_i32_1227_r0
  v2532_r0
def k0_mult77 (k0_t3 : Fin k0_t3_loop.trips) : BitVec 32 :=
  let c1_i32_1208_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1207_r0 : BitVec 32 := 15#32
  let v2496_r0 : BitVec 32 := Scalar.muli arg21_r0 c15_i32_1207_r0
  let v2497_r0 : BitVec 32 := Scalar.addi c1_i32_1208_r0 v2496_r0
  let c12_i32_1209_r0 : BitVec 32 := 12#32
  let v2498_r0 : BitVec 32 := Scalar.addi v2497_r0 c12_i32_1209_r0
  let c256_i32_1257_r0 : BitVec 32 := 256#32
  let v2622_r0 : BitVec 32 := Scalar.muli v2498_r0 c256_i32_1257_r0
  v2622_r0
def k0_mult78 (k0_t3 : Fin k0_t3_loop.trips) : BitVec 32 :=
  let c1_i32_1208_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1207_r0 : BitVec 32 := 15#32
  let v2496_r0 : BitVec 32 := Scalar.muli arg21_r0 c15_i32_1207_r0
  let v2497_r0 : BitVec 32 := Scalar.addi c1_i32_1208_r0 v2496_r0
  let c12_i32_1209_r0 : BitVec 32 := 12#32
  let v2498_r0 : BitVec 32 := Scalar.addi v2497_r0 c12_i32_1209_r0
  let c256_i32_1259_r0 : BitVec 32 := 256#32
  let v2626_r0 : BitVec 32 := Scalar.muli v2498_r0 c256_i32_1259_r0
  v2626_r0
def k0_mult79 (k0_t3 : Fin k0_t3_loop.trips) : BitVec 32 :=
  let c1_i32_1208_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1207_r0 : BitVec 32 := 15#32
  let v2496_r0 : BitVec 32 := Scalar.muli arg21_r0 c15_i32_1207_r0
  let v2497_r0 : BitVec 32 := Scalar.addi c1_i32_1208_r0 v2496_r0
  let c12_i32_1209_r0 : BitVec 32 := 12#32
  let v2498_r0 : BitVec 32 := Scalar.addi v2497_r0 c12_i32_1209_r0
  let c256_i32_1261_r0 : BitVec 32 := 256#32
  let v2630_r0 : BitVec 32 := Scalar.muli v2498_r0 c256_i32_1261_r0
  v2630_r0
def k0_mult80 (k0_t3 : Fin k0_t3_loop.trips) : BitVec 32 :=
  let c1_i32_1264_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1263_r0 : BitVec 32 := 15#32
  let v2634_r0 : BitVec 32 := Scalar.muli arg21_r0 c15_i32_1263_r0
  let v2635_r0 : BitVec 32 := Scalar.addi c1_i32_1264_r0 v2634_r0
  let c13_i32_1265_r0 : BitVec 32 := 13#32
  let v2636_r0 : BitVec 32 := Scalar.addi v2635_r0 c13_i32_1265_r0
  let c256_i32_1266_r0 : BitVec 32 := 256#32
  let v2637_r0 : BitVec 32 := Scalar.muli v2636_r0 c256_i32_1266_r0
  v2637_r0
def k0_mult81 (k0_t3 : Fin k0_t3_loop.trips) : BitVec 32 :=
  let c1_i32_1264_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1263_r0 : BitVec 32 := 15#32
  let v2634_r0 : BitVec 32 := Scalar.muli arg21_r0 c15_i32_1263_r0
  let v2635_r0 : BitVec 32 := Scalar.addi c1_i32_1264_r0 v2634_r0
  let c13_i32_1265_r0 : BitVec 32 := 13#32
  let v2636_r0 : BitVec 32 := Scalar.addi v2635_r0 c13_i32_1265_r0
  let c1_i32_1268_r0 : BitVec 32 := 1#32
  let v2641_r0 : BitVec 32 := Scalar.addi v2636_r0 c1_i32_1268_r0
  let c8_i32_1269_r0 : BitVec 32 := 8#32
  let v2642_r0 : BitVec 32 := Scalar.muli v2641_r0 c8_i32_1269_r0
  let c0_i32_1271_r0 : BitVec 32 := 0#32
  let v2644_r0 : BitVec 1 := Scalar.cmpi .sgt v2642_r0 c0_i32_1271_r0
  let v2645_r0 : BitVec 32 := Scalar.extui v2644_r0
  let c0_i32_1272_r0 : BitVec 32 := 0#32
  let v2646_r0 : BitVec 1 := Scalar.cmpi .slt v2642_r0 c0_i32_1272_r0
  let v2647_r0 : BitVec 32 := Scalar.extui v2646_r0
  let v2648_r0 : BitVec 32 := Scalar.subi v2645_r0 v2647_r0
  let c128_i32_1270_r0 : BitVec 32 := 128#32
  let c0_i32_1273_r0 : BitVec 32 := 0#32
  let v2649_r0 : BitVec 1 := Scalar.cmpi .sgt c128_i32_1270_r0 c0_i32_1273_r0
  let v2650_r0 : BitVec 32 := Scalar.extui v2649_r0
  let c0_i32_1274_r0 : BitVec 32 := 0#32
  let v2651_r0 : BitVec 1 := Scalar.cmpi .slt c128_i32_1270_r0 c0_i32_1274_r0
  let v2652_r0 : BitVec 32 := Scalar.extui v2651_r0
  let v2653_r0 : BitVec 32 := Scalar.subi v2650_r0 v2652_r0
  let v2654_r0 : BitVec 1 := Scalar.cmpi .ne v2648_r0 v2653_r0
  let v2655_r0 : BitVec 32 := Scalar.remsi v2642_r0 c128_i32_1270_r0
  let c0_i32_1275_r0 : BitVec 32 := 0#32
  let v2656_r0 : BitVec 1 := Scalar.cmpi .ne v2655_r0 c0_i32_1275_r0
  let v2657_r0 : BitVec 1 := Scalar.andi v2654_r0 v2656_r0
  let v2643_r0 : BitVec 32 := Scalar.divsi v2642_r0 c128_i32_1270_r0
  let c1_i32_1276_r0 : BitVec 32 := 1#32
  let v2658_r0 : BitVec 32 := Scalar.subi v2643_r0 c1_i32_1276_r0
  let v2659_r0 : BitVec 32 := Scalar.select v2657_r0 v2658_r0 v2643_r0
  let c128_i32_1284_r0 : BitVec 32 := 128#32
  let v2671_r0 : BitVec 32 := Scalar.muli v2659_r0 c128_i32_1284_r0
  v2671_r0
def k0_mult82 (k0_t3 : Fin k0_t3_loop.trips) : BitVec 32 :=
  let c1_i32_1264_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1263_r0 : BitVec 32 := 15#32
  let v2634_r0 : BitVec 32 := Scalar.muli arg21_r0 c15_i32_1263_r0
  let v2635_r0 : BitVec 32 := Scalar.addi c1_i32_1264_r0 v2634_r0
  let c13_i32_1265_r0 : BitVec 32 := 13#32
  let v2636_r0 : BitVec 32 := Scalar.addi v2635_r0 c13_i32_1265_r0
  let c1_i32_1268_r0 : BitVec 32 := 1#32
  let v2641_r0 : BitVec 32 := Scalar.addi v2636_r0 c1_i32_1268_r0
  let c256_i32_1283_r0 : BitVec 32 := 256#32
  let v2670_r0 : BitVec 32 := Scalar.muli v2641_r0 c256_i32_1283_r0
  v2670_r0
def k0_mult83 (k0_t3 : Fin k0_t3_loop.trips) : BitVec 32 :=
  let c1_i32_1264_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1263_r0 : BitVec 32 := 15#32
  let v2634_r0 : BitVec 32 := Scalar.muli arg21_r0 c15_i32_1263_r0
  let v2635_r0 : BitVec 32 := Scalar.addi c1_i32_1264_r0 v2634_r0
  let c13_i32_1265_r0 : BitVec 32 := 13#32
  let v2636_r0 : BitVec 32 := Scalar.addi v2635_r0 c13_i32_1265_r0
  let c256_i32_1313_r0 : BitVec 32 := 256#32
  let v2760_r0 : BitVec 32 := Scalar.muli v2636_r0 c256_i32_1313_r0
  v2760_r0
def k0_mult84 (k0_t3 : Fin k0_t3_loop.trips) : BitVec 32 :=
  let c1_i32_1264_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1263_r0 : BitVec 32 := 15#32
  let v2634_r0 : BitVec 32 := Scalar.muli arg21_r0 c15_i32_1263_r0
  let v2635_r0 : BitVec 32 := Scalar.addi c1_i32_1264_r0 v2634_r0
  let c13_i32_1265_r0 : BitVec 32 := 13#32
  let v2636_r0 : BitVec 32 := Scalar.addi v2635_r0 c13_i32_1265_r0
  let c256_i32_1315_r0 : BitVec 32 := 256#32
  let v2764_r0 : BitVec 32 := Scalar.muli v2636_r0 c256_i32_1315_r0
  v2764_r0
def k0_mult85 (k0_t3 : Fin k0_t3_loop.trips) : BitVec 32 :=
  let c1_i32_1264_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1263_r0 : BitVec 32 := 15#32
  let v2634_r0 : BitVec 32 := Scalar.muli arg21_r0 c15_i32_1263_r0
  let v2635_r0 : BitVec 32 := Scalar.addi c1_i32_1264_r0 v2634_r0
  let c13_i32_1265_r0 : BitVec 32 := 13#32
  let v2636_r0 : BitVec 32 := Scalar.addi v2635_r0 c13_i32_1265_r0
  let c256_i32_1317_r0 : BitVec 32 := 256#32
  let v2768_r0 : BitVec 32 := Scalar.muli v2636_r0 c256_i32_1317_r0
  v2768_r0
def k0_mult86 (k0_t3 : Fin k0_t3_loop.trips) : BitVec 32 :=
  let c1_i32_1320_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1319_r0 : BitVec 32 := 15#32
  let v2772_r0 : BitVec 32 := Scalar.muli arg21_r0 c15_i32_1319_r0
  let v2773_r0 : BitVec 32 := Scalar.addi c1_i32_1320_r0 v2772_r0
  let c14_i32_1321_r0 : BitVec 32 := 14#32
  let v2774_r0 : BitVec 32 := Scalar.addi v2773_r0 c14_i32_1321_r0
  let c256_i32_1322_r0 : BitVec 32 := 256#32
  let v2775_r0 : BitVec 32 := Scalar.muli v2774_r0 c256_i32_1322_r0
  v2775_r0
def k0_mult87 (k0_t3 : Fin k0_t3_loop.trips) : BitVec 32 :=
  let c1_i32_1320_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1319_r0 : BitVec 32 := 15#32
  let v2772_r0 : BitVec 32 := Scalar.muli arg21_r0 c15_i32_1319_r0
  let v2773_r0 : BitVec 32 := Scalar.addi c1_i32_1320_r0 v2772_r0
  let c14_i32_1321_r0 : BitVec 32 := 14#32
  let v2774_r0 : BitVec 32 := Scalar.addi v2773_r0 c14_i32_1321_r0
  let c1_i32_1324_r0 : BitVec 32 := 1#32
  let v2779_r0 : BitVec 32 := Scalar.addi v2774_r0 c1_i32_1324_r0
  let c8_i32_1325_r0 : BitVec 32 := 8#32
  let v2780_r0 : BitVec 32 := Scalar.muli v2779_r0 c8_i32_1325_r0
  let c0_i32_1327_r0 : BitVec 32 := 0#32
  let v2782_r0 : BitVec 1 := Scalar.cmpi .sgt v2780_r0 c0_i32_1327_r0
  let v2783_r0 : BitVec 32 := Scalar.extui v2782_r0
  let c0_i32_1328_r0 : BitVec 32 := 0#32
  let v2784_r0 : BitVec 1 := Scalar.cmpi .slt v2780_r0 c0_i32_1328_r0
  let v2785_r0 : BitVec 32 := Scalar.extui v2784_r0
  let v2786_r0 : BitVec 32 := Scalar.subi v2783_r0 v2785_r0
  let c128_i32_1326_r0 : BitVec 32 := 128#32
  let c0_i32_1329_r0 : BitVec 32 := 0#32
  let v2787_r0 : BitVec 1 := Scalar.cmpi .sgt c128_i32_1326_r0 c0_i32_1329_r0
  let v2788_r0 : BitVec 32 := Scalar.extui v2787_r0
  let c0_i32_1330_r0 : BitVec 32 := 0#32
  let v2789_r0 : BitVec 1 := Scalar.cmpi .slt c128_i32_1326_r0 c0_i32_1330_r0
  let v2790_r0 : BitVec 32 := Scalar.extui v2789_r0
  let v2791_r0 : BitVec 32 := Scalar.subi v2788_r0 v2790_r0
  let v2792_r0 : BitVec 1 := Scalar.cmpi .ne v2786_r0 v2791_r0
  let v2793_r0 : BitVec 32 := Scalar.remsi v2780_r0 c128_i32_1326_r0
  let c0_i32_1331_r0 : BitVec 32 := 0#32
  let v2794_r0 : BitVec 1 := Scalar.cmpi .ne v2793_r0 c0_i32_1331_r0
  let v2795_r0 : BitVec 1 := Scalar.andi v2792_r0 v2794_r0
  let v2781_r0 : BitVec 32 := Scalar.divsi v2780_r0 c128_i32_1326_r0
  let c1_i32_1332_r0 : BitVec 32 := 1#32
  let v2796_r0 : BitVec 32 := Scalar.subi v2781_r0 c1_i32_1332_r0
  let v2797_r0 : BitVec 32 := Scalar.select v2795_r0 v2796_r0 v2781_r0
  let c128_i32_1340_r0 : BitVec 32 := 128#32
  let v2809_r0 : BitVec 32 := Scalar.muli v2797_r0 c128_i32_1340_r0
  v2809_r0
def k0_mult88 (k0_t3 : Fin k0_t3_loop.trips) : BitVec 32 :=
  let c1_i32_1320_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1319_r0 : BitVec 32 := 15#32
  let v2772_r0 : BitVec 32 := Scalar.muli arg21_r0 c15_i32_1319_r0
  let v2773_r0 : BitVec 32 := Scalar.addi c1_i32_1320_r0 v2772_r0
  let c14_i32_1321_r0 : BitVec 32 := 14#32
  let v2774_r0 : BitVec 32 := Scalar.addi v2773_r0 c14_i32_1321_r0
  let c1_i32_1324_r0 : BitVec 32 := 1#32
  let v2779_r0 : BitVec 32 := Scalar.addi v2774_r0 c1_i32_1324_r0
  let c256_i32_1339_r0 : BitVec 32 := 256#32
  let v2808_r0 : BitVec 32 := Scalar.muli v2779_r0 c256_i32_1339_r0
  v2808_r0
def k0_mult89 (k0_t3 : Fin k0_t3_loop.trips) : BitVec 32 :=
  let c1_i32_1320_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1319_r0 : BitVec 32 := 15#32
  let v2772_r0 : BitVec 32 := Scalar.muli arg21_r0 c15_i32_1319_r0
  let v2773_r0 : BitVec 32 := Scalar.addi c1_i32_1320_r0 v2772_r0
  let c14_i32_1321_r0 : BitVec 32 := 14#32
  let v2774_r0 : BitVec 32 := Scalar.addi v2773_r0 c14_i32_1321_r0
  let c256_i32_1369_r0 : BitVec 32 := 256#32
  let v2898_r0 : BitVec 32 := Scalar.muli v2774_r0 c256_i32_1369_r0
  v2898_r0
def k0_mult90 (k0_t3 : Fin k0_t3_loop.trips) : BitVec 32 :=
  let c1_i32_1320_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1319_r0 : BitVec 32 := 15#32
  let v2772_r0 : BitVec 32 := Scalar.muli arg21_r0 c15_i32_1319_r0
  let v2773_r0 : BitVec 32 := Scalar.addi c1_i32_1320_r0 v2772_r0
  let c14_i32_1321_r0 : BitVec 32 := 14#32
  let v2774_r0 : BitVec 32 := Scalar.addi v2773_r0 c14_i32_1321_r0
  let c256_i32_1371_r0 : BitVec 32 := 256#32
  let v2902_r0 : BitVec 32 := Scalar.muli v2774_r0 c256_i32_1371_r0
  v2902_r0
def k0_mult91 (k0_t3 : Fin k0_t3_loop.trips) : BitVec 32 :=
  let c1_i32_1320_r0 : BitVec 32 := 1#32
  let c0_i32_392_r0 : BitVec 32 := 0#32
  let c1_i32_394_r0 : BitVec 32 := 1#32
  let arg21_r0 : BitVec 32 := Scf.iv c0_i32_392_r0 c1_i32_394_r0 k0_t3
  let c15_i32_1319_r0 : BitVec 32 := 15#32
  let v2772_r0 : BitVec 32 := Scalar.muli arg21_r0 c15_i32_1319_r0
  let v2773_r0 : BitVec 32 := Scalar.addi c1_i32_1320_r0 v2772_r0
  let c14_i32_1321_r0 : BitVec 32 := 14#32
  let v2774_r0 : BitVec 32 := Scalar.addi v2773_r0 c14_i32_1321_r0
  let c256_i32_1373_r0 : BitVec 32 := 256#32
  let v2906_r0 : BitVec 32 := Scalar.muli v2774_r0 c256_i32_1373_r0
  v2906_r0
def k0_off276 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c3_i32_372_r0 : BitVec 32 := 3#32
  let v533_r0 : BitVec 32 := Scalar.remsi arg19_r0 c3_i32_372_r0
  let v574_r0 : Index := Scalar.indexCast v533_r0
  let c0_404_r0 : Index := 0#32
  let c0_405_r0 : Index := 0#32
  let c12032_406_r0 : Index := 12032#32
  ![v574_r0.toNat, 0, 0, 12032]
def k0_off277 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c3_i32_372_r0 : BitVec 32 := 3#32
  let v533_r0 : BitVec 32 := Scalar.remsi arg19_r0 c3_i32_372_r0
  let v595_r0 : Index := Scalar.indexCast v533_r0
  let c1_414_r0 : Index := 1#32
  let c0_415_r0 : Index := 0#32
  let c12032_416_r0 : Index := 12032#32
  ![v595_r0.toNat, 1, 0, 12032]
def k0_off278 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v606_r0 : Index := Scalar.indexCast v535_r0
  let c0_424_r0 : Index := 0#32
  let c0_425_r0 : Index := 0#32
  let c0_426_r0 : Index := 0#32
  ![v606_r0.toNat, 0, 0, 0]
def k0_off279 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v617_r0 : Index := Scalar.indexCast v535_r0
  let c1_431_r0 : Index := 1#32
  let c0_432_r0 : Index := 0#32
  let c0_433_r0 : Index := 0#32
  ![v617_r0.toNat, 1, 0, 0]
def k0_off280 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v642_r0 : Index := Scalar.indexCast v535_r0
  let c0_446_r0 : Index := 0#32
  let c0_447_r0 : Index := 0#32
  let c0_448_r0 : Index := 0#32
  ![v642_r0.toNat, 0, 0, 0]
def k0_off281 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v658_r0 : Index := Scalar.indexCast v535_r0
  let c0_452_r0 : Index := 0#32
  let c0_453_r0 : Index := 0#32
  let c128_454_r0 : Index := 128#32
  ![v658_r0.toNat, 0, 0, 128]
def k0_off282 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v678_r0 : Index := Scalar.indexCast v535_r0
  let c1_461_r0 : Index := 1#32
  let c0_462_r0 : Index := 0#32
  let c0_463_r0 : Index := 0#32
  ![v678_r0.toNat, 1, 0, 0]
def k0_off283 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v694_r0 : Index := Scalar.indexCast v535_r0
  let c1_467_r0 : Index := 1#32
  let c0_468_r0 : Index := 0#32
  let c128_469_r0 : Index := 128#32
  ![v694_r0.toNat, 1, 0, 128]
def k0_off284 (k0_t2 : Fin k0_t2_loop.trips) : Fin 3 → Nat :=
  let c0_i32_272_r0 : BitVec 32 := 0#32
  let c1_i32_273_r0 : BitVec 32 := 1#32
  let arg19_r0 : BitVec 32 := Scf.iv c0_i32_272_r0 c1_i32_273_r0 k0_t2
  let c2_i32_478_r0 : BitVec 32 := 2#32
  let v714_r0 : BitVec 32 := Scalar.remsi arg19_r0 c2_i32_478_r0
  let v715_r0 : Index := Scalar.indexCast v714_r0
  let c0_479_r0 : Index := 0#32
  let c0_480_r0 : Index := 0#32
  ![v715_r0.toNat, 0, 0]
def k0_off285 (k0_t2 : Fin k0_t2_loop.trips) : Fin 3 → Nat :=
  let c0_i32_272_r0 : BitVec 32 := 0#32
  let c1_i32_273_r0 : BitVec 32 := 1#32
  let arg19_r0 : BitVec 32 := Scf.iv c0_i32_272_r0 c1_i32_273_r0 k0_t2
  let c2_i32_483_r0 : BitVec 32 := 2#32
  let v729_r0 : BitVec 32 := Scalar.remsi arg19_r0 c2_i32_483_r0
  let v730_r0 : Index := Scalar.indexCast v729_r0
  let c256_484_r0 : Index := 256#32
  let c0_485_r0 : Index := 0#32
  ![v730_r0.toNat, 256, 0]
def k0_off286 (k0_t2 : Fin k0_t2_loop.trips) : Fin 3 → Nat :=
  let c0_i32_272_r0 : BitVec 32 := 0#32
  let c1_i32_273_r0 : BitVec 32 := 1#32
  let arg19_r0 : BitVec 32 := Scf.iv c0_i32_272_r0 c1_i32_273_r0 k0_t2
  let c2_i32_488_r0 : BitVec 32 := 2#32
  let v744_r0 : BitVec 32 := Scalar.remsi arg19_r0 c2_i32_488_r0
  let v745_r0 : Index := Scalar.indexCast v744_r0
  let c512_489_r0 : Index := 512#32
  let c0_490_r0 : Index := 0#32
  ![v745_r0.toNat, 512, 0]
def k0_off287 (k0_t2 : Fin k0_t2_loop.trips) : Fin 3 → Nat :=
  let c0_i32_272_r0 : BitVec 32 := 0#32
  let c1_i32_273_r0 : BitVec 32 := 1#32
  let arg19_r0 : BitVec 32 := Scf.iv c0_i32_272_r0 c1_i32_273_r0 k0_t2
  let c2_i32_493_r0 : BitVec 32 := 2#32
  let v759_r0 : BitVec 32 := Scalar.remsi arg19_r0 c2_i32_493_r0
  let v760_r0 : Index := Scalar.indexCast v759_r0
  let c768_494_r0 : Index := 768#32
  let c0_495_r0 : Index := 0#32
  ![v760_r0.toNat, 768, 0]
def k0_off288 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v778_r0 : Index := Scalar.indexCast v535_r0
  let c0_504_r0 : Index := 0#32
  let c0_505_r0 : Index := 0#32
  let c256_506_r0 : Index := 256#32
  ![v778_r0.toNat, 0, 0, 256]
def k0_off289 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v794_r0 : Index := Scalar.indexCast v535_r0
  let c0_510_r0 : Index := 0#32
  let c0_511_r0 : Index := 0#32
  let c384_512_r0 : Index := 384#32
  ![v794_r0.toNat, 0, 0, 384]
def k0_off290 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v814_r0 : Index := Scalar.indexCast v535_r0
  let c1_519_r0 : Index := 1#32
  let c0_520_r0 : Index := 0#32
  let c256_521_r0 : Index := 256#32
  ![v814_r0.toNat, 1, 0, 256]
def k0_off291 (k0_t2 : Fin k0_t2_loop.trips) : Fin 4 → Nat :=
  let c0_i32_272_r0 : BitVec 32 := 0#32
  let c1_i32_273_r0 : BitVec 32 := 1#32
  let arg19_r0 : BitVec 32 := Scf.iv c0_i32_272_r0 c1_i32_273_r0 k0_t2
  let c1_i32_373_r0 : BitVec 32 := 1#32
  let v534_r0 : BitVec 32 := Scalar.addi arg19_r0 c1_i32_373_r0
  let c3_i32_374_r0 : BitVec 32 := 3#32
  let v535_r0 : BitVec 32 := Scalar.remsi v534_r0 c3_i32_374_r0
  let v830_r0 : Index := Scalar.indexCast v535_r0
  let c1_525_r0 : Index := 1#32
  let c0_526_r0 : Index := 0#32
  let c384_527_r0 : Index := 384#32
  ![v830_r0.toNat, 1, 0, 384]
def k0_off292 (c64_i32_275_r0 : BitVec 32) : Fin 1 → Nat :=
  let c2_i32_276_r0 : BitVec 32 := 2#32
  let v387_r0 : BitVec 32 := Scalar.remsi c64_i32_275_r0 c2_i32_276_r0
  ![v387_r0.toNat]
def k0_off292_at (r : Fin 4) : BitVec 32 :=
  if r.val < 2 then
    if r.val < 1 then
      64#32
    else
      65#32
  else
    if r.val < 3 then
      30#32
    else
      31#32
def k0_off293 (c64_i32_275_r0 : BitVec 32) : Fin 3 → Nat :=
  let c2_i32_276_r0 : BitVec 32 := 2#32
  let v387_r0 : BitVec 32 := Scalar.remsi c64_i32_275_r0 c2_i32_276_r0
  let c0_i32_278_r0 : BitVec 32 := 0#32
  let c0_i32_279_r0 : BitVec 32 := 0#32
  ![v387_r0.toNat, 0, 0]
@[reducible] def k0_t4_loop : Scf.Loop 32 :=
  let c0_i32_285_r0 : BitVec 32 := 0#32
  let c3_i32_286_r0 : BitVec 32 := 3#32
  let v399_r0 : BitVec 32 := Scalar.addi c0_i32_285_r0 c3_i32_286_r0
  let c1_i32_287_r0 : BitVec 32 := 1#32
  ⟨c0_i32_285_r0, v399_r0, c1_i32_287_r0⟩
def k0_mult92 (k0_t4 : Fin k0_t4_loop.trips) : BitVec 32 :=
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let c0_i32_374_r0 : BitVec 32 := 0#32
  let v535_r0 : BitVec 32 := Scalar.addi v534_r0 c0_i32_374_r0
  let c256_i32_375_r0 : BitVec 32 := 256#32
  let v536_r0 : BitVec 32 := Scalar.muli v535_r0 c256_i32_375_r0
  v536_r0
def k0_off294 (k0_t4 : Fin k0_t4_loop.trips) (c0_i32_374_r0 : BitVec 32) : Fin 2 → Nat :=
  let c0_376_r0 : Index := 0#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c256_i32_375_r0 : BitVec 32 := 256#32
  let v536_r0 : BitVec 32 := Scalar.muli v535_r0 c256_i32_375_r0
  let v537_r0 : BitVec 32 := v536_r0
  let v538_r0 : Index := Scalar.indexCast v537_r0
  ![0, v538_r0.toNat]
def k0_mult93 (k0_t4 : Fin k0_t4_loop.trips) : BitVec 32 :=
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let c0_i32_374_r0 : BitVec 32 := 0#32
  let v535_r0 : BitVec 32 := Scalar.addi v534_r0 c0_i32_374_r0
  let c256_i32_377_r0 : BitVec 32 := 256#32
  let v540_r0 : BitVec 32 := Scalar.muli v535_r0 c256_i32_377_r0
  v540_r0
def k0_off295 (k0_t4 : Fin k0_t4_loop.trips) (c0_i32_374_r0 : BitVec 32) : Fin 2 → Nat :=
  let c512_378_r0 : Index := 512#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c256_i32_377_r0 : BitVec 32 := 256#32
  let v540_r0 : BitVec 32 := Scalar.muli v535_r0 c256_i32_377_r0
  let v541_r0 : BitVec 32 := v540_r0
  let v542_r0 : Index := Scalar.indexCast v541_r0
  ![512, v542_r0.toNat]
def k0_mult94 (k0_t4 : Fin k0_t4_loop.trips) : BitVec 32 :=
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let c0_i32_374_r0 : BitVec 32 := 0#32
  let v535_r0 : BitVec 32 := Scalar.addi v534_r0 c0_i32_374_r0
  let c1_i32_379_r0 : BitVec 32 := 1#32
  let v544_r0 : BitVec 32 := Scalar.addi v535_r0 c1_i32_379_r0
  let c8_i32_380_r0 : BitVec 32 := 8#32
  let v545_r0 : BitVec 32 := Scalar.muli v544_r0 c8_i32_380_r0
  let c0_i32_382_r0 : BitVec 32 := 0#32
  let v547_r0 : BitVec 1 := Scalar.cmpi .sgt v545_r0 c0_i32_382_r0
  let v548_r0 : BitVec 32 := Scalar.extui v547_r0
  let c0_i32_383_r0 : BitVec 32 := 0#32
  let v549_r0 : BitVec 1 := Scalar.cmpi .slt v545_r0 c0_i32_383_r0
  let v550_r0 : BitVec 32 := Scalar.extui v549_r0
  let v551_r0 : BitVec 32 := Scalar.subi v548_r0 v550_r0
  let c128_i32_381_r0 : BitVec 32 := 128#32
  let c0_i32_384_r0 : BitVec 32 := 0#32
  let v552_r0 : BitVec 1 := Scalar.cmpi .sgt c128_i32_381_r0 c0_i32_384_r0
  let v553_r0 : BitVec 32 := Scalar.extui v552_r0
  let c0_i32_385_r0 : BitVec 32 := 0#32
  let v554_r0 : BitVec 1 := Scalar.cmpi .slt c128_i32_381_r0 c0_i32_385_r0
  let v555_r0 : BitVec 32 := Scalar.extui v554_r0
  let v556_r0 : BitVec 32 := Scalar.subi v553_r0 v555_r0
  let v557_r0 : BitVec 1 := Scalar.cmpi .ne v551_r0 v556_r0
  let v558_r0 : BitVec 32 := Scalar.remsi v545_r0 c128_i32_381_r0
  let c0_i32_386_r0 : BitVec 32 := 0#32
  let v559_r0 : BitVec 1 := Scalar.cmpi .ne v558_r0 c0_i32_386_r0
  let v560_r0 : BitVec 1 := Scalar.andi v557_r0 v559_r0
  let v546_r0 : BitVec 32 := Scalar.divsi v545_r0 c128_i32_381_r0
  let c1_i32_387_r0 : BitVec 32 := 1#32
  let v561_r0 : BitVec 32 := Scalar.subi v546_r0 c1_i32_387_r0
  let v562_r0 : BitVec 32 := Scalar.select v560_r0 v561_r0 v546_r0
  let c128_i32_395_r0 : BitVec 32 := 128#32
  let v574_r0 : BitVec 32 := Scalar.muli v562_r0 c128_i32_395_r0
  v574_r0
def k0_mult95 (k0_t4 : Fin k0_t4_loop.trips) : BitVec 32 :=
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let c0_i32_374_r0 : BitVec 32 := 0#32
  let v535_r0 : BitVec 32 := Scalar.addi v534_r0 c0_i32_374_r0
  let c1_i32_379_r0 : BitVec 32 := 1#32
  let v544_r0 : BitVec 32 := Scalar.addi v535_r0 c1_i32_379_r0
  let c256_i32_394_r0 : BitVec 32 := 256#32
  let v573_r0 : BitVec 32 := Scalar.muli v544_r0 c256_i32_394_r0
  v573_r0
def k0_off296 (k0_t4 : Fin k0_t4_loop.trips) (c0_i32_374_r0 : BitVec 32) : Fin 3 → Nat :=
  let c0_396_r0 : Index := 0#32
  let c0_397_r0 : Index := 0#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c1_i32_379_r0 : BitVec 32 := 1#32
  let v544_r0 : BitVec 32 := Scalar.addi v535_r0 c1_i32_379_r0
  let c8_i32_380_r0 : BitVec 32 := 8#32
  let v545_r0 : BitVec 32 := Scalar.muli v544_r0 c8_i32_380_r0
  let c0_i32_382_r0 : BitVec 32 := 0#32
  let v547_r0 : BitVec 1 := Scalar.cmpi .sgt v545_r0 c0_i32_382_r0
  let v548_r0 : BitVec 32 := Scalar.extui v547_r0
  let c0_i32_383_r0 : BitVec 32 := 0#32
  let v549_r0 : BitVec 1 := Scalar.cmpi .slt v545_r0 c0_i32_383_r0
  let v550_r0 : BitVec 32 := Scalar.extui v549_r0
  let v551_r0 : BitVec 32 := Scalar.subi v548_r0 v550_r0
  let c128_i32_381_r0 : BitVec 32 := 128#32
  let c0_i32_384_r0 : BitVec 32 := 0#32
  let v552_r0 : BitVec 1 := Scalar.cmpi .sgt c128_i32_381_r0 c0_i32_384_r0
  let v553_r0 : BitVec 32 := Scalar.extui v552_r0
  let c0_i32_385_r0 : BitVec 32 := 0#32
  let v554_r0 : BitVec 1 := Scalar.cmpi .slt c128_i32_381_r0 c0_i32_385_r0
  let v555_r0 : BitVec 32 := Scalar.extui v554_r0
  let v556_r0 : BitVec 32 := Scalar.subi v553_r0 v555_r0
  let v557_r0 : BitVec 1 := Scalar.cmpi .ne v551_r0 v556_r0
  let v558_r0 : BitVec 32 := Scalar.remsi v545_r0 c128_i32_381_r0
  let c0_i32_386_r0 : BitVec 32 := 0#32
  let v559_r0 : BitVec 1 := Scalar.cmpi .ne v558_r0 c0_i32_386_r0
  let v560_r0 : BitVec 1 := Scalar.andi v557_r0 v559_r0
  let v546_r0 : BitVec 32 := Scalar.divsi v545_r0 c128_i32_381_r0
  let c1_i32_387_r0 : BitVec 32 := 1#32
  let v561_r0 : BitVec 32 := Scalar.subi v546_r0 c1_i32_387_r0
  let v562_r0 : BitVec 32 := Scalar.select v560_r0 v561_r0 v546_r0
  let c128_i32_395_r0 : BitVec 32 := 128#32
  let v574_r0 : BitVec 32 := Scalar.muli v562_r0 c128_i32_395_r0
  let v575_r0 : BitVec 32 := v574_r0
  let v577_r0 : Index := Scalar.indexCast v575_r0
  ![0, 0, v577_r0.toNat]
def k0_off297 (k0_t4 : Fin k0_t4_loop.trips) (c0_i32_374_r0 : BitVec 32) (c0_i32_401_r0 : BitVec 32) : Fin 4 → Nat :=
  let c0_402_r0 : Index := 0#32
  let c0_403_r0 : Index := 0#32
  let c0_404_r0 : Index := 0#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c1_i32_379_r0 : BitVec 32 := 1#32
  let v544_r0 : BitVec 32 := Scalar.addi v535_r0 c1_i32_379_r0
  let c256_i32_394_r0 : BitVec 32 := 256#32
  let v573_r0 : BitVec 32 := Scalar.muli v544_r0 c256_i32_394_r0
  let v576_r0 : BitVec 32 := v573_r0
  let v592_r0 : BitVec 32 := Scalar.addi v576_r0 c0_i32_401_r0
  let v593_r0 : Index := Scalar.indexCast v592_r0
  ![0, 0, 0, v593_r0.toNat]
def k0_off298 (k0_t4 : Fin k0_t4_loop.trips) (c0_i32_374_r0 : BitVec 32) : Fin 3 → Nat :=
  let c1_412_r0 : Index := 1#32
  let c0_413_r0 : Index := 0#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c1_i32_379_r0 : BitVec 32 := 1#32
  let v544_r0 : BitVec 32 := Scalar.addi v535_r0 c1_i32_379_r0
  let c8_i32_380_r0 : BitVec 32 := 8#32
  let v545_r0 : BitVec 32 := Scalar.muli v544_r0 c8_i32_380_r0
  let c0_i32_382_r0 : BitVec 32 := 0#32
  let v547_r0 : BitVec 1 := Scalar.cmpi .sgt v545_r0 c0_i32_382_r0
  let v548_r0 : BitVec 32 := Scalar.extui v547_r0
  let c0_i32_383_r0 : BitVec 32 := 0#32
  let v549_r0 : BitVec 1 := Scalar.cmpi .slt v545_r0 c0_i32_383_r0
  let v550_r0 : BitVec 32 := Scalar.extui v549_r0
  let v551_r0 : BitVec 32 := Scalar.subi v548_r0 v550_r0
  let c128_i32_381_r0 : BitVec 32 := 128#32
  let c0_i32_384_r0 : BitVec 32 := 0#32
  let v552_r0 : BitVec 1 := Scalar.cmpi .sgt c128_i32_381_r0 c0_i32_384_r0
  let v553_r0 : BitVec 32 := Scalar.extui v552_r0
  let c0_i32_385_r0 : BitVec 32 := 0#32
  let v554_r0 : BitVec 1 := Scalar.cmpi .slt c128_i32_381_r0 c0_i32_385_r0
  let v555_r0 : BitVec 32 := Scalar.extui v554_r0
  let v556_r0 : BitVec 32 := Scalar.subi v553_r0 v555_r0
  let v557_r0 : BitVec 1 := Scalar.cmpi .ne v551_r0 v556_r0
  let v558_r0 : BitVec 32 := Scalar.remsi v545_r0 c128_i32_381_r0
  let c0_i32_386_r0 : BitVec 32 := 0#32
  let v559_r0 : BitVec 1 := Scalar.cmpi .ne v558_r0 c0_i32_386_r0
  let v560_r0 : BitVec 1 := Scalar.andi v557_r0 v559_r0
  let v546_r0 : BitVec 32 := Scalar.divsi v545_r0 c128_i32_381_r0
  let c1_i32_387_r0 : BitVec 32 := 1#32
  let v561_r0 : BitVec 32 := Scalar.subi v546_r0 c1_i32_387_r0
  let v562_r0 : BitVec 32 := Scalar.select v560_r0 v561_r0 v546_r0
  let c128_i32_395_r0 : BitVec 32 := 128#32
  let v574_r0 : BitVec 32 := Scalar.muli v562_r0 c128_i32_395_r0
  let v575_r0 : BitVec 32 := v574_r0
  let v618_r0 : Index := Scalar.indexCast v575_r0
  ![1, 0, v618_r0.toNat]
def k0_off299 (k0_t4 : Fin k0_t4_loop.trips) (c0_i32_374_r0 : BitVec 32) (c0_i32_417_r0 : BitVec 32) : Fin 4 → Nat :=
  let c0_418_r0 : Index := 0#32
  let c1_419_r0 : Index := 1#32
  let c0_420_r0 : Index := 0#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c1_i32_379_r0 : BitVec 32 := 1#32
  let v544_r0 : BitVec 32 := Scalar.addi v535_r0 c1_i32_379_r0
  let c256_i32_394_r0 : BitVec 32 := 256#32
  let v573_r0 : BitVec 32 := Scalar.muli v544_r0 c256_i32_394_r0
  let v576_r0 : BitVec 32 := v573_r0
  let v633_r0 : BitVec 32 := Scalar.addi v576_r0 c0_i32_417_r0
  let v634_r0 : Index := Scalar.indexCast v633_r0
  ![0, 1, 0, v634_r0.toNat]
def k0_mult96 (k0_t4 : Fin k0_t4_loop.trips) : BitVec 32 :=
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let c0_i32_374_r0 : BitVec 32 := 0#32
  let v535_r0 : BitVec 32 := Scalar.addi v534_r0 c0_i32_374_r0
  let c256_i32_428_r0 : BitVec 32 := 256#32
  let v659_r0 : BitVec 32 := Scalar.muli v535_r0 c256_i32_428_r0
  v659_r0
def k0_off300 (k0_t4 : Fin k0_t4_loop.trips) (c0_i32_374_r0 : BitVec 32) : Fin 2 → Nat :=
  let c256_429_r0 : Index := 256#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c256_i32_428_r0 : BitVec 32 := 256#32
  let v659_r0 : BitVec 32 := Scalar.muli v535_r0 c256_i32_428_r0
  let v660_r0 : BitVec 32 := v659_r0
  let v661_r0 : Index := Scalar.indexCast v660_r0
  ![256, v661_r0.toNat]
def k0_mult97 (k0_t4 : Fin k0_t4_loop.trips) : BitVec 32 :=
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let c0_i32_374_r0 : BitVec 32 := 0#32
  let v535_r0 : BitVec 32 := Scalar.addi v534_r0 c0_i32_374_r0
  let c256_i32_430_r0 : BitVec 32 := 256#32
  let v663_r0 : BitVec 32 := Scalar.muli v535_r0 c256_i32_430_r0
  v663_r0
def k0_off301 (k0_t4 : Fin k0_t4_loop.trips) (c0_i32_374_r0 : BitVec 32) : Fin 2 → Nat :=
  let c768_431_r0 : Index := 768#32
  let c1_i32_373_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_372_r0 : BitVec 32 := 15#32
  let v533_r0 : BitVec 32 := Scalar.muli arg19_r0 c15_i32_372_r0
  let v534_r0 : BitVec 32 := Scalar.addi c1_i32_373_r0 v533_r0
  let v535_r0 : BitVec 32 := Scalar.addi v534_r0 c0_i32_374_r0
  let c256_i32_430_r0 : BitVec 32 := 256#32
  let v663_r0 : BitVec 32 := Scalar.muli v535_r0 c256_i32_430_r0
  let v664_r0 : BitVec 32 := v663_r0
  let v665_r0 : Index := Scalar.indexCast v664_r0
  ![768, v665_r0.toNat]
def k0_mult98 (k0_t4 : Fin k0_t4_loop.trips) : BitVec 32 :=
  let c1_i32_433_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_432_r0 : BitVec 32 := 15#32
  let v667_r0 : BitVec 32 := Scalar.muli arg19_r0 c15_i32_432_r0
  let v668_r0 : BitVec 32 := Scalar.addi c1_i32_433_r0 v667_r0
  let c1_i32_434_r0 : BitVec 32 := 1#32
  let v669_r0 : BitVec 32 := Scalar.addi v668_r0 c1_i32_434_r0
  let c256_i32_435_r0 : BitVec 32 := 256#32
  let v670_r0 : BitVec 32 := Scalar.muli v669_r0 c256_i32_435_r0
  v670_r0
def k0_mult99 (k0_t4 : Fin k0_t4_loop.trips) : BitVec 32 :=
  let c1_i32_433_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_432_r0 : BitVec 32 := 15#32
  let v667_r0 : BitVec 32 := Scalar.muli arg19_r0 c15_i32_432_r0
  let v668_r0 : BitVec 32 := Scalar.addi c1_i32_433_r0 v667_r0
  let c1_i32_434_r0 : BitVec 32 := 1#32
  let v669_r0 : BitVec 32 := Scalar.addi v668_r0 c1_i32_434_r0
  let c256_i32_437_r0 : BitVec 32 := 256#32
  let v674_r0 : BitVec 32 := Scalar.muli v669_r0 c256_i32_437_r0
  v674_r0
def k0_mult100 (k0_t4 : Fin k0_t4_loop.trips) : BitVec 32 :=
  let c1_i32_433_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_432_r0 : BitVec 32 := 15#32
  let v667_r0 : BitVec 32 := Scalar.muli arg19_r0 c15_i32_432_r0
  let v668_r0 : BitVec 32 := Scalar.addi c1_i32_433_r0 v667_r0
  let c1_i32_434_r0 : BitVec 32 := 1#32
  let v669_r0 : BitVec 32 := Scalar.addi v668_r0 c1_i32_434_r0
  let c1_i32_439_r0 : BitVec 32 := 1#32
  let v678_r0 : BitVec 32 := Scalar.addi v669_r0 c1_i32_439_r0
  let c8_i32_440_r0 : BitVec 32 := 8#32
  let v679_r0 : BitVec 32 := Scalar.muli v678_r0 c8_i32_440_r0
  let c0_i32_442_r0 : BitVec 32 := 0#32
  let v681_r0 : BitVec 1 := Scalar.cmpi .sgt v679_r0 c0_i32_442_r0
  let v682_r0 : BitVec 32 := Scalar.extui v681_r0
  let c0_i32_443_r0 : BitVec 32 := 0#32
  let v683_r0 : BitVec 1 := Scalar.cmpi .slt v679_r0 c0_i32_443_r0
  let v684_r0 : BitVec 32 := Scalar.extui v683_r0
  let v685_r0 : BitVec 32 := Scalar.subi v682_r0 v684_r0
  let c128_i32_441_r0 : BitVec 32 := 128#32
  let c0_i32_444_r0 : BitVec 32 := 0#32
  let v686_r0 : BitVec 1 := Scalar.cmpi .sgt c128_i32_441_r0 c0_i32_444_r0
  let v687_r0 : BitVec 32 := Scalar.extui v686_r0
  let c0_i32_445_r0 : BitVec 32 := 0#32
  let v688_r0 : BitVec 1 := Scalar.cmpi .slt c128_i32_441_r0 c0_i32_445_r0
  let v689_r0 : BitVec 32 := Scalar.extui v688_r0
  let v690_r0 : BitVec 32 := Scalar.subi v687_r0 v689_r0
  let v691_r0 : BitVec 1 := Scalar.cmpi .ne v685_r0 v690_r0
  let v692_r0 : BitVec 32 := Scalar.remsi v679_r0 c128_i32_441_r0
  let c0_i32_446_r0 : BitVec 32 := 0#32
  let v693_r0 : BitVec 1 := Scalar.cmpi .ne v692_r0 c0_i32_446_r0
  let v694_r0 : BitVec 1 := Scalar.andi v691_r0 v693_r0
  let v680_r0 : BitVec 32 := Scalar.divsi v679_r0 c128_i32_441_r0
  let c1_i32_447_r0 : BitVec 32 := 1#32
  let v695_r0 : BitVec 32 := Scalar.subi v680_r0 c1_i32_447_r0
  let v696_r0 : BitVec 32 := Scalar.select v694_r0 v695_r0 v680_r0
  let c128_i32_455_r0 : BitVec 32 := 128#32
  let v708_r0 : BitVec 32 := Scalar.muli v696_r0 c128_i32_455_r0
  v708_r0
def k0_mult101 (k0_t4 : Fin k0_t4_loop.trips) : BitVec 32 :=
  let c1_i32_433_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_432_r0 : BitVec 32 := 15#32
  let v667_r0 : BitVec 32 := Scalar.muli arg19_r0 c15_i32_432_r0
  let v668_r0 : BitVec 32 := Scalar.addi c1_i32_433_r0 v667_r0
  let c1_i32_434_r0 : BitVec 32 := 1#32
  let v669_r0 : BitVec 32 := Scalar.addi v668_r0 c1_i32_434_r0
  let c1_i32_439_r0 : BitVec 32 := 1#32
  let v678_r0 : BitVec 32 := Scalar.addi v669_r0 c1_i32_439_r0
  let c256_i32_454_r0 : BitVec 32 := 256#32
  let v707_r0 : BitVec 32 := Scalar.muli v678_r0 c256_i32_454_r0
  v707_r0
def k0_mult102 (k0_t4 : Fin k0_t4_loop.trips) : BitVec 32 :=
  let c1_i32_433_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_432_r0 : BitVec 32 := 15#32
  let v667_r0 : BitVec 32 := Scalar.muli arg19_r0 c15_i32_432_r0
  let v668_r0 : BitVec 32 := Scalar.addi c1_i32_433_r0 v667_r0
  let c1_i32_434_r0 : BitVec 32 := 1#32
  let v669_r0 : BitVec 32 := Scalar.addi v668_r0 c1_i32_434_r0
  let c256_i32_488_r0 : BitVec 32 := 256#32
  let v793_r0 : BitVec 32 := Scalar.muli v669_r0 c256_i32_488_r0
  v793_r0
def k0_mult103 (k0_t4 : Fin k0_t4_loop.trips) : BitVec 32 :=
  let c1_i32_433_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_432_r0 : BitVec 32 := 15#32
  let v667_r0 : BitVec 32 := Scalar.muli arg19_r0 c15_i32_432_r0
  let v668_r0 : BitVec 32 := Scalar.addi c1_i32_433_r0 v667_r0
  let c1_i32_434_r0 : BitVec 32 := 1#32
  let v669_r0 : BitVec 32 := Scalar.addi v668_r0 c1_i32_434_r0
  let c256_i32_490_r0 : BitVec 32 := 256#32
  let v797_r0 : BitVec 32 := Scalar.muli v669_r0 c256_i32_490_r0
  v797_r0
def k0_mult104 (k0_t4 : Fin k0_t4_loop.trips) : BitVec 32 :=
  let c1_i32_493_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_492_r0 : BitVec 32 := 15#32
  let v801_r0 : BitVec 32 := Scalar.muli arg19_r0 c15_i32_492_r0
  let v802_r0 : BitVec 32 := Scalar.addi c1_i32_493_r0 v801_r0
  let c2_i32_494_r0 : BitVec 32 := 2#32
  let v803_r0 : BitVec 32 := Scalar.addi v802_r0 c2_i32_494_r0
  let c256_i32_495_r0 : BitVec 32 := 256#32
  let v804_r0 : BitVec 32 := Scalar.muli v803_r0 c256_i32_495_r0
  v804_r0
def k0_mult105 (k0_t4 : Fin k0_t4_loop.trips) : BitVec 32 :=
  let c1_i32_493_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_492_r0 : BitVec 32 := 15#32
  let v801_r0 : BitVec 32 := Scalar.muli arg19_r0 c15_i32_492_r0
  let v802_r0 : BitVec 32 := Scalar.addi c1_i32_493_r0 v801_r0
  let c2_i32_494_r0 : BitVec 32 := 2#32
  let v803_r0 : BitVec 32 := Scalar.addi v802_r0 c2_i32_494_r0
  let c256_i32_497_r0 : BitVec 32 := 256#32
  let v808_r0 : BitVec 32 := Scalar.muli v803_r0 c256_i32_497_r0
  v808_r0
def k0_mult106 (k0_t4 : Fin k0_t4_loop.trips) : BitVec 32 :=
  let c1_i32_493_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_492_r0 : BitVec 32 := 15#32
  let v801_r0 : BitVec 32 := Scalar.muli arg19_r0 c15_i32_492_r0
  let v802_r0 : BitVec 32 := Scalar.addi c1_i32_493_r0 v801_r0
  let c2_i32_494_r0 : BitVec 32 := 2#32
  let v803_r0 : BitVec 32 := Scalar.addi v802_r0 c2_i32_494_r0
  let c1_i32_499_r0 : BitVec 32 := 1#32
  let v812_r0 : BitVec 32 := Scalar.addi v803_r0 c1_i32_499_r0
  let c8_i32_500_r0 : BitVec 32 := 8#32
  let v813_r0 : BitVec 32 := Scalar.muli v812_r0 c8_i32_500_r0
  let c0_i32_502_r0 : BitVec 32 := 0#32
  let v815_r0 : BitVec 1 := Scalar.cmpi .sgt v813_r0 c0_i32_502_r0
  let v816_r0 : BitVec 32 := Scalar.extui v815_r0
  let c0_i32_503_r0 : BitVec 32 := 0#32
  let v817_r0 : BitVec 1 := Scalar.cmpi .slt v813_r0 c0_i32_503_r0
  let v818_r0 : BitVec 32 := Scalar.extui v817_r0
  let v819_r0 : BitVec 32 := Scalar.subi v816_r0 v818_r0
  let c128_i32_501_r0 : BitVec 32 := 128#32
  let c0_i32_504_r0 : BitVec 32 := 0#32
  let v820_r0 : BitVec 1 := Scalar.cmpi .sgt c128_i32_501_r0 c0_i32_504_r0
  let v821_r0 : BitVec 32 := Scalar.extui v820_r0
  let c0_i32_505_r0 : BitVec 32 := 0#32
  let v822_r0 : BitVec 1 := Scalar.cmpi .slt c128_i32_501_r0 c0_i32_505_r0
  let v823_r0 : BitVec 32 := Scalar.extui v822_r0
  let v824_r0 : BitVec 32 := Scalar.subi v821_r0 v823_r0
  let v825_r0 : BitVec 1 := Scalar.cmpi .ne v819_r0 v824_r0
  let v826_r0 : BitVec 32 := Scalar.remsi v813_r0 c128_i32_501_r0
  let c0_i32_506_r0 : BitVec 32 := 0#32
  let v827_r0 : BitVec 1 := Scalar.cmpi .ne v826_r0 c0_i32_506_r0
  let v828_r0 : BitVec 1 := Scalar.andi v825_r0 v827_r0
  let v814_r0 : BitVec 32 := Scalar.divsi v813_r0 c128_i32_501_r0
  let c1_i32_507_r0 : BitVec 32 := 1#32
  let v829_r0 : BitVec 32 := Scalar.subi v814_r0 c1_i32_507_r0
  let v830_r0 : BitVec 32 := Scalar.select v828_r0 v829_r0 v814_r0
  let c128_i32_515_r0 : BitVec 32 := 128#32
  let v842_r0 : BitVec 32 := Scalar.muli v830_r0 c128_i32_515_r0
  v842_r0
def k0_mult107 (k0_t4 : Fin k0_t4_loop.trips) : BitVec 32 :=
  let c1_i32_493_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_492_r0 : BitVec 32 := 15#32
  let v801_r0 : BitVec 32 := Scalar.muli arg19_r0 c15_i32_492_r0
  let v802_r0 : BitVec 32 := Scalar.addi c1_i32_493_r0 v801_r0
  let c2_i32_494_r0 : BitVec 32 := 2#32
  let v803_r0 : BitVec 32 := Scalar.addi v802_r0 c2_i32_494_r0
  let c1_i32_499_r0 : BitVec 32 := 1#32
  let v812_r0 : BitVec 32 := Scalar.addi v803_r0 c1_i32_499_r0
  let c256_i32_514_r0 : BitVec 32 := 256#32
  let v841_r0 : BitVec 32 := Scalar.muli v812_r0 c256_i32_514_r0
  v841_r0
def k0_mult108 (k0_t4 : Fin k0_t4_loop.trips) : BitVec 32 :=
  let c1_i32_493_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_492_r0 : BitVec 32 := 15#32
  let v801_r0 : BitVec 32 := Scalar.muli arg19_r0 c15_i32_492_r0
  let v802_r0 : BitVec 32 := Scalar.addi c1_i32_493_r0 v801_r0
  let c2_i32_494_r0 : BitVec 32 := 2#32
  let v803_r0 : BitVec 32 := Scalar.addi v802_r0 c2_i32_494_r0
  let c256_i32_548_r0 : BitVec 32 := 256#32
  let v927_r0 : BitVec 32 := Scalar.muli v803_r0 c256_i32_548_r0
  v927_r0
def k0_mult109 (k0_t4 : Fin k0_t4_loop.trips) : BitVec 32 :=
  let c1_i32_493_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_492_r0 : BitVec 32 := 15#32
  let v801_r0 : BitVec 32 := Scalar.muli arg19_r0 c15_i32_492_r0
  let v802_r0 : BitVec 32 := Scalar.addi c1_i32_493_r0 v801_r0
  let c2_i32_494_r0 : BitVec 32 := 2#32
  let v803_r0 : BitVec 32 := Scalar.addi v802_r0 c2_i32_494_r0
  let c256_i32_550_r0 : BitVec 32 := 256#32
  let v931_r0 : BitVec 32 := Scalar.muli v803_r0 c256_i32_550_r0
  v931_r0
def k0_mult110 (k0_t4 : Fin k0_t4_loop.trips) : BitVec 32 :=
  let c1_i32_553_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_552_r0 : BitVec 32 := 15#32
  let v935_r0 : BitVec 32 := Scalar.muli arg19_r0 c15_i32_552_r0
  let v936_r0 : BitVec 32 := Scalar.addi c1_i32_553_r0 v935_r0
  let c3_i32_554_r0 : BitVec 32 := 3#32
  let v937_r0 : BitVec 32 := Scalar.addi v936_r0 c3_i32_554_r0
  let c256_i32_555_r0 : BitVec 32 := 256#32
  let v938_r0 : BitVec 32 := Scalar.muli v937_r0 c256_i32_555_r0
  v938_r0
def k0_mult111 (k0_t4 : Fin k0_t4_loop.trips) : BitVec 32 :=
  let c1_i32_553_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_552_r0 : BitVec 32 := 15#32
  let v935_r0 : BitVec 32 := Scalar.muli arg19_r0 c15_i32_552_r0
  let v936_r0 : BitVec 32 := Scalar.addi c1_i32_553_r0 v935_r0
  let c3_i32_554_r0 : BitVec 32 := 3#32
  let v937_r0 : BitVec 32 := Scalar.addi v936_r0 c3_i32_554_r0
  let c256_i32_557_r0 : BitVec 32 := 256#32
  let v942_r0 : BitVec 32 := Scalar.muli v937_r0 c256_i32_557_r0
  v942_r0
def k0_mult112 (k0_t4 : Fin k0_t4_loop.trips) : BitVec 32 :=
  let c1_i32_553_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_552_r0 : BitVec 32 := 15#32
  let v935_r0 : BitVec 32 := Scalar.muli arg19_r0 c15_i32_552_r0
  let v936_r0 : BitVec 32 := Scalar.addi c1_i32_553_r0 v935_r0
  let c3_i32_554_r0 : BitVec 32 := 3#32
  let v937_r0 : BitVec 32 := Scalar.addi v936_r0 c3_i32_554_r0
  let c1_i32_559_r0 : BitVec 32 := 1#32
  let v946_r0 : BitVec 32 := Scalar.addi v937_r0 c1_i32_559_r0
  let c8_i32_560_r0 : BitVec 32 := 8#32
  let v947_r0 : BitVec 32 := Scalar.muli v946_r0 c8_i32_560_r0
  let c0_i32_562_r0 : BitVec 32 := 0#32
  let v949_r0 : BitVec 1 := Scalar.cmpi .sgt v947_r0 c0_i32_562_r0
  let v950_r0 : BitVec 32 := Scalar.extui v949_r0
  let c0_i32_563_r0 : BitVec 32 := 0#32
  let v951_r0 : BitVec 1 := Scalar.cmpi .slt v947_r0 c0_i32_563_r0
  let v952_r0 : BitVec 32 := Scalar.extui v951_r0
  let v953_r0 : BitVec 32 := Scalar.subi v950_r0 v952_r0
  let c128_i32_561_r0 : BitVec 32 := 128#32
  let c0_i32_564_r0 : BitVec 32 := 0#32
  let v954_r0 : BitVec 1 := Scalar.cmpi .sgt c128_i32_561_r0 c0_i32_564_r0
  let v955_r0 : BitVec 32 := Scalar.extui v954_r0
  let c0_i32_565_r0 : BitVec 32 := 0#32
  let v956_r0 : BitVec 1 := Scalar.cmpi .slt c128_i32_561_r0 c0_i32_565_r0
  let v957_r0 : BitVec 32 := Scalar.extui v956_r0
  let v958_r0 : BitVec 32 := Scalar.subi v955_r0 v957_r0
  let v959_r0 : BitVec 1 := Scalar.cmpi .ne v953_r0 v958_r0
  let v960_r0 : BitVec 32 := Scalar.remsi v947_r0 c128_i32_561_r0
  let c0_i32_566_r0 : BitVec 32 := 0#32
  let v961_r0 : BitVec 1 := Scalar.cmpi .ne v960_r0 c0_i32_566_r0
  let v962_r0 : BitVec 1 := Scalar.andi v959_r0 v961_r0
  let v948_r0 : BitVec 32 := Scalar.divsi v947_r0 c128_i32_561_r0
  let c1_i32_567_r0 : BitVec 32 := 1#32
  let v963_r0 : BitVec 32 := Scalar.subi v948_r0 c1_i32_567_r0
  let v964_r0 : BitVec 32 := Scalar.select v962_r0 v963_r0 v948_r0
  let c128_i32_575_r0 : BitVec 32 := 128#32
  let v976_r0 : BitVec 32 := Scalar.muli v964_r0 c128_i32_575_r0
  v976_r0
def k0_mult113 (k0_t4 : Fin k0_t4_loop.trips) : BitVec 32 :=
  let c1_i32_553_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_552_r0 : BitVec 32 := 15#32
  let v935_r0 : BitVec 32 := Scalar.muli arg19_r0 c15_i32_552_r0
  let v936_r0 : BitVec 32 := Scalar.addi c1_i32_553_r0 v935_r0
  let c3_i32_554_r0 : BitVec 32 := 3#32
  let v937_r0 : BitVec 32 := Scalar.addi v936_r0 c3_i32_554_r0
  let c1_i32_559_r0 : BitVec 32 := 1#32
  let v946_r0 : BitVec 32 := Scalar.addi v937_r0 c1_i32_559_r0
  let c256_i32_574_r0 : BitVec 32 := 256#32
  let v975_r0 : BitVec 32 := Scalar.muli v946_r0 c256_i32_574_r0
  v975_r0
def k0_mult114 (k0_t4 : Fin k0_t4_loop.trips) : BitVec 32 :=
  let c1_i32_553_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_552_r0 : BitVec 32 := 15#32
  let v935_r0 : BitVec 32 := Scalar.muli arg19_r0 c15_i32_552_r0
  let v936_r0 : BitVec 32 := Scalar.addi c1_i32_553_r0 v935_r0
  let c3_i32_554_r0 : BitVec 32 := 3#32
  let v937_r0 : BitVec 32 := Scalar.addi v936_r0 c3_i32_554_r0
  let c256_i32_608_r0 : BitVec 32 := 256#32
  let v1061_r0 : BitVec 32 := Scalar.muli v937_r0 c256_i32_608_r0
  v1061_r0
def k0_mult115 (k0_t4 : Fin k0_t4_loop.trips) : BitVec 32 :=
  let c1_i32_553_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_552_r0 : BitVec 32 := 15#32
  let v935_r0 : BitVec 32 := Scalar.muli arg19_r0 c15_i32_552_r0
  let v936_r0 : BitVec 32 := Scalar.addi c1_i32_553_r0 v935_r0
  let c3_i32_554_r0 : BitVec 32 := 3#32
  let v937_r0 : BitVec 32 := Scalar.addi v936_r0 c3_i32_554_r0
  let c256_i32_610_r0 : BitVec 32 := 256#32
  let v1065_r0 : BitVec 32 := Scalar.muli v937_r0 c256_i32_610_r0
  v1065_r0
def k0_mult116 (k0_t4 : Fin k0_t4_loop.trips) : BitVec 32 :=
  let c1_i32_613_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_612_r0 : BitVec 32 := 15#32
  let v1069_r0 : BitVec 32 := Scalar.muli arg19_r0 c15_i32_612_r0
  let v1070_r0 : BitVec 32 := Scalar.addi c1_i32_613_r0 v1069_r0
  let c4_i32_614_r0 : BitVec 32 := 4#32
  let v1071_r0 : BitVec 32 := Scalar.addi v1070_r0 c4_i32_614_r0
  let c256_i32_615_r0 : BitVec 32 := 256#32
  let v1072_r0 : BitVec 32 := Scalar.muli v1071_r0 c256_i32_615_r0
  v1072_r0
def k0_mult117 (k0_t4 : Fin k0_t4_loop.trips) : BitVec 32 :=
  let c1_i32_613_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_612_r0 : BitVec 32 := 15#32
  let v1069_r0 : BitVec 32 := Scalar.muli arg19_r0 c15_i32_612_r0
  let v1070_r0 : BitVec 32 := Scalar.addi c1_i32_613_r0 v1069_r0
  let c4_i32_614_r0 : BitVec 32 := 4#32
  let v1071_r0 : BitVec 32 := Scalar.addi v1070_r0 c4_i32_614_r0
  let c256_i32_617_r0 : BitVec 32 := 256#32
  let v1076_r0 : BitVec 32 := Scalar.muli v1071_r0 c256_i32_617_r0
  v1076_r0
def k0_mult118 (k0_t4 : Fin k0_t4_loop.trips) : BitVec 32 :=
  let c1_i32_613_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_612_r0 : BitVec 32 := 15#32
  let v1069_r0 : BitVec 32 := Scalar.muli arg19_r0 c15_i32_612_r0
  let v1070_r0 : BitVec 32 := Scalar.addi c1_i32_613_r0 v1069_r0
  let c4_i32_614_r0 : BitVec 32 := 4#32
  let v1071_r0 : BitVec 32 := Scalar.addi v1070_r0 c4_i32_614_r0
  let c1_i32_619_r0 : BitVec 32 := 1#32
  let v1080_r0 : BitVec 32 := Scalar.addi v1071_r0 c1_i32_619_r0
  let c8_i32_620_r0 : BitVec 32 := 8#32
  let v1081_r0 : BitVec 32 := Scalar.muli v1080_r0 c8_i32_620_r0
  let c0_i32_622_r0 : BitVec 32 := 0#32
  let v1083_r0 : BitVec 1 := Scalar.cmpi .sgt v1081_r0 c0_i32_622_r0
  let v1084_r0 : BitVec 32 := Scalar.extui v1083_r0
  let c0_i32_623_r0 : BitVec 32 := 0#32
  let v1085_r0 : BitVec 1 := Scalar.cmpi .slt v1081_r0 c0_i32_623_r0
  let v1086_r0 : BitVec 32 := Scalar.extui v1085_r0
  let v1087_r0 : BitVec 32 := Scalar.subi v1084_r0 v1086_r0
  let c128_i32_621_r0 : BitVec 32 := 128#32
  let c0_i32_624_r0 : BitVec 32 := 0#32
  let v1088_r0 : BitVec 1 := Scalar.cmpi .sgt c128_i32_621_r0 c0_i32_624_r0
  let v1089_r0 : BitVec 32 := Scalar.extui v1088_r0
  let c0_i32_625_r0 : BitVec 32 := 0#32
  let v1090_r0 : BitVec 1 := Scalar.cmpi .slt c128_i32_621_r0 c0_i32_625_r0
  let v1091_r0 : BitVec 32 := Scalar.extui v1090_r0
  let v1092_r0 : BitVec 32 := Scalar.subi v1089_r0 v1091_r0
  let v1093_r0 : BitVec 1 := Scalar.cmpi .ne v1087_r0 v1092_r0
  let v1094_r0 : BitVec 32 := Scalar.remsi v1081_r0 c128_i32_621_r0
  let c0_i32_626_r0 : BitVec 32 := 0#32
  let v1095_r0 : BitVec 1 := Scalar.cmpi .ne v1094_r0 c0_i32_626_r0
  let v1096_r0 : BitVec 1 := Scalar.andi v1093_r0 v1095_r0
  let v1082_r0 : BitVec 32 := Scalar.divsi v1081_r0 c128_i32_621_r0
  let c1_i32_627_r0 : BitVec 32 := 1#32
  let v1097_r0 : BitVec 32 := Scalar.subi v1082_r0 c1_i32_627_r0
  let v1098_r0 : BitVec 32 := Scalar.select v1096_r0 v1097_r0 v1082_r0
  let c128_i32_635_r0 : BitVec 32 := 128#32
  let v1110_r0 : BitVec 32 := Scalar.muli v1098_r0 c128_i32_635_r0
  v1110_r0
def k0_mult119 (k0_t4 : Fin k0_t4_loop.trips) : BitVec 32 :=
  let c1_i32_613_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_612_r0 : BitVec 32 := 15#32
  let v1069_r0 : BitVec 32 := Scalar.muli arg19_r0 c15_i32_612_r0
  let v1070_r0 : BitVec 32 := Scalar.addi c1_i32_613_r0 v1069_r0
  let c4_i32_614_r0 : BitVec 32 := 4#32
  let v1071_r0 : BitVec 32 := Scalar.addi v1070_r0 c4_i32_614_r0
  let c1_i32_619_r0 : BitVec 32 := 1#32
  let v1080_r0 : BitVec 32 := Scalar.addi v1071_r0 c1_i32_619_r0
  let c256_i32_634_r0 : BitVec 32 := 256#32
  let v1109_r0 : BitVec 32 := Scalar.muli v1080_r0 c256_i32_634_r0
  v1109_r0
def k0_mult120 (k0_t4 : Fin k0_t4_loop.trips) : BitVec 32 :=
  let c1_i32_613_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_612_r0 : BitVec 32 := 15#32
  let v1069_r0 : BitVec 32 := Scalar.muli arg19_r0 c15_i32_612_r0
  let v1070_r0 : BitVec 32 := Scalar.addi c1_i32_613_r0 v1069_r0
  let c4_i32_614_r0 : BitVec 32 := 4#32
  let v1071_r0 : BitVec 32 := Scalar.addi v1070_r0 c4_i32_614_r0
  let c256_i32_668_r0 : BitVec 32 := 256#32
  let v1195_r0 : BitVec 32 := Scalar.muli v1071_r0 c256_i32_668_r0
  v1195_r0
def k0_mult121 (k0_t4 : Fin k0_t4_loop.trips) : BitVec 32 :=
  let c1_i32_613_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_612_r0 : BitVec 32 := 15#32
  let v1069_r0 : BitVec 32 := Scalar.muli arg19_r0 c15_i32_612_r0
  let v1070_r0 : BitVec 32 := Scalar.addi c1_i32_613_r0 v1069_r0
  let c4_i32_614_r0 : BitVec 32 := 4#32
  let v1071_r0 : BitVec 32 := Scalar.addi v1070_r0 c4_i32_614_r0
  let c256_i32_670_r0 : BitVec 32 := 256#32
  let v1199_r0 : BitVec 32 := Scalar.muli v1071_r0 c256_i32_670_r0
  v1199_r0
def k0_mult122 (k0_t4 : Fin k0_t4_loop.trips) : BitVec 32 :=
  let c1_i32_673_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_672_r0 : BitVec 32 := 15#32
  let v1203_r0 : BitVec 32 := Scalar.muli arg19_r0 c15_i32_672_r0
  let v1204_r0 : BitVec 32 := Scalar.addi c1_i32_673_r0 v1203_r0
  let c5_i32_674_r0 : BitVec 32 := 5#32
  let v1205_r0 : BitVec 32 := Scalar.addi v1204_r0 c5_i32_674_r0
  let c256_i32_675_r0 : BitVec 32 := 256#32
  let v1206_r0 : BitVec 32 := Scalar.muli v1205_r0 c256_i32_675_r0
  v1206_r0
def k0_mult123 (k0_t4 : Fin k0_t4_loop.trips) : BitVec 32 :=
  let c1_i32_673_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_672_r0 : BitVec 32 := 15#32
  let v1203_r0 : BitVec 32 := Scalar.muli arg19_r0 c15_i32_672_r0
  let v1204_r0 : BitVec 32 := Scalar.addi c1_i32_673_r0 v1203_r0
  let c5_i32_674_r0 : BitVec 32 := 5#32
  let v1205_r0 : BitVec 32 := Scalar.addi v1204_r0 c5_i32_674_r0
  let c256_i32_677_r0 : BitVec 32 := 256#32
  let v1210_r0 : BitVec 32 := Scalar.muli v1205_r0 c256_i32_677_r0
  v1210_r0
def k0_mult124 (k0_t4 : Fin k0_t4_loop.trips) : BitVec 32 :=
  let c1_i32_673_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_672_r0 : BitVec 32 := 15#32
  let v1203_r0 : BitVec 32 := Scalar.muli arg19_r0 c15_i32_672_r0
  let v1204_r0 : BitVec 32 := Scalar.addi c1_i32_673_r0 v1203_r0
  let c5_i32_674_r0 : BitVec 32 := 5#32
  let v1205_r0 : BitVec 32 := Scalar.addi v1204_r0 c5_i32_674_r0
  let c1_i32_679_r0 : BitVec 32 := 1#32
  let v1214_r0 : BitVec 32 := Scalar.addi v1205_r0 c1_i32_679_r0
  let c8_i32_680_r0 : BitVec 32 := 8#32
  let v1215_r0 : BitVec 32 := Scalar.muli v1214_r0 c8_i32_680_r0
  let c0_i32_682_r0 : BitVec 32 := 0#32
  let v1217_r0 : BitVec 1 := Scalar.cmpi .sgt v1215_r0 c0_i32_682_r0
  let v1218_r0 : BitVec 32 := Scalar.extui v1217_r0
  let c0_i32_683_r0 : BitVec 32 := 0#32
  let v1219_r0 : BitVec 1 := Scalar.cmpi .slt v1215_r0 c0_i32_683_r0
  let v1220_r0 : BitVec 32 := Scalar.extui v1219_r0
  let v1221_r0 : BitVec 32 := Scalar.subi v1218_r0 v1220_r0
  let c128_i32_681_r0 : BitVec 32 := 128#32
  let c0_i32_684_r0 : BitVec 32 := 0#32
  let v1222_r0 : BitVec 1 := Scalar.cmpi .sgt c128_i32_681_r0 c0_i32_684_r0
  let v1223_r0 : BitVec 32 := Scalar.extui v1222_r0
  let c0_i32_685_r0 : BitVec 32 := 0#32
  let v1224_r0 : BitVec 1 := Scalar.cmpi .slt c128_i32_681_r0 c0_i32_685_r0
  let v1225_r0 : BitVec 32 := Scalar.extui v1224_r0
  let v1226_r0 : BitVec 32 := Scalar.subi v1223_r0 v1225_r0
  let v1227_r0 : BitVec 1 := Scalar.cmpi .ne v1221_r0 v1226_r0
  let v1228_r0 : BitVec 32 := Scalar.remsi v1215_r0 c128_i32_681_r0
  let c0_i32_686_r0 : BitVec 32 := 0#32
  let v1229_r0 : BitVec 1 := Scalar.cmpi .ne v1228_r0 c0_i32_686_r0
  let v1230_r0 : BitVec 1 := Scalar.andi v1227_r0 v1229_r0
  let v1216_r0 : BitVec 32 := Scalar.divsi v1215_r0 c128_i32_681_r0
  let c1_i32_687_r0 : BitVec 32 := 1#32
  let v1231_r0 : BitVec 32 := Scalar.subi v1216_r0 c1_i32_687_r0
  let v1232_r0 : BitVec 32 := Scalar.select v1230_r0 v1231_r0 v1216_r0
  let c128_i32_695_r0 : BitVec 32 := 128#32
  let v1244_r0 : BitVec 32 := Scalar.muli v1232_r0 c128_i32_695_r0
  v1244_r0
def k0_mult125 (k0_t4 : Fin k0_t4_loop.trips) : BitVec 32 :=
  let c1_i32_673_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_672_r0 : BitVec 32 := 15#32
  let v1203_r0 : BitVec 32 := Scalar.muli arg19_r0 c15_i32_672_r0
  let v1204_r0 : BitVec 32 := Scalar.addi c1_i32_673_r0 v1203_r0
  let c5_i32_674_r0 : BitVec 32 := 5#32
  let v1205_r0 : BitVec 32 := Scalar.addi v1204_r0 c5_i32_674_r0
  let c1_i32_679_r0 : BitVec 32 := 1#32
  let v1214_r0 : BitVec 32 := Scalar.addi v1205_r0 c1_i32_679_r0
  let c256_i32_694_r0 : BitVec 32 := 256#32
  let v1243_r0 : BitVec 32 := Scalar.muli v1214_r0 c256_i32_694_r0
  v1243_r0
def k0_mult126 (k0_t4 : Fin k0_t4_loop.trips) : BitVec 32 :=
  let c1_i32_673_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_672_r0 : BitVec 32 := 15#32
  let v1203_r0 : BitVec 32 := Scalar.muli arg19_r0 c15_i32_672_r0
  let v1204_r0 : BitVec 32 := Scalar.addi c1_i32_673_r0 v1203_r0
  let c5_i32_674_r0 : BitVec 32 := 5#32
  let v1205_r0 : BitVec 32 := Scalar.addi v1204_r0 c5_i32_674_r0
  let c256_i32_728_r0 : BitVec 32 := 256#32
  let v1329_r0 : BitVec 32 := Scalar.muli v1205_r0 c256_i32_728_r0
  v1329_r0
def k0_mult127 (k0_t4 : Fin k0_t4_loop.trips) : BitVec 32 :=
  let c1_i32_673_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_672_r0 : BitVec 32 := 15#32
  let v1203_r0 : BitVec 32 := Scalar.muli arg19_r0 c15_i32_672_r0
  let v1204_r0 : BitVec 32 := Scalar.addi c1_i32_673_r0 v1203_r0
  let c5_i32_674_r0 : BitVec 32 := 5#32
  let v1205_r0 : BitVec 32 := Scalar.addi v1204_r0 c5_i32_674_r0
  let c256_i32_730_r0 : BitVec 32 := 256#32
  let v1333_r0 : BitVec 32 := Scalar.muli v1205_r0 c256_i32_730_r0
  v1333_r0
def k0_mult128 (k0_t4 : Fin k0_t4_loop.trips) : BitVec 32 :=
  let c1_i32_733_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_732_r0 : BitVec 32 := 15#32
  let v1337_r0 : BitVec 32 := Scalar.muli arg19_r0 c15_i32_732_r0
  let v1338_r0 : BitVec 32 := Scalar.addi c1_i32_733_r0 v1337_r0
  let c6_i32_734_r0 : BitVec 32 := 6#32
  let v1339_r0 : BitVec 32 := Scalar.addi v1338_r0 c6_i32_734_r0
  let c256_i32_735_r0 : BitVec 32 := 256#32
  let v1340_r0 : BitVec 32 := Scalar.muli v1339_r0 c256_i32_735_r0
  v1340_r0
def k0_mult129 (k0_t4 : Fin k0_t4_loop.trips) : BitVec 32 :=
  let c1_i32_733_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_732_r0 : BitVec 32 := 15#32
  let v1337_r0 : BitVec 32 := Scalar.muli arg19_r0 c15_i32_732_r0
  let v1338_r0 : BitVec 32 := Scalar.addi c1_i32_733_r0 v1337_r0
  let c6_i32_734_r0 : BitVec 32 := 6#32
  let v1339_r0 : BitVec 32 := Scalar.addi v1338_r0 c6_i32_734_r0
  let c256_i32_737_r0 : BitVec 32 := 256#32
  let v1344_r0 : BitVec 32 := Scalar.muli v1339_r0 c256_i32_737_r0
  v1344_r0
def k0_mult130 (k0_t4 : Fin k0_t4_loop.trips) : BitVec 32 :=
  let c1_i32_733_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_732_r0 : BitVec 32 := 15#32
  let v1337_r0 : BitVec 32 := Scalar.muli arg19_r0 c15_i32_732_r0
  let v1338_r0 : BitVec 32 := Scalar.addi c1_i32_733_r0 v1337_r0
  let c6_i32_734_r0 : BitVec 32 := 6#32
  let v1339_r0 : BitVec 32 := Scalar.addi v1338_r0 c6_i32_734_r0
  let c1_i32_739_r0 : BitVec 32 := 1#32
  let v1348_r0 : BitVec 32 := Scalar.addi v1339_r0 c1_i32_739_r0
  let c8_i32_740_r0 : BitVec 32 := 8#32
  let v1349_r0 : BitVec 32 := Scalar.muli v1348_r0 c8_i32_740_r0
  let c0_i32_742_r0 : BitVec 32 := 0#32
  let v1351_r0 : BitVec 1 := Scalar.cmpi .sgt v1349_r0 c0_i32_742_r0
  let v1352_r0 : BitVec 32 := Scalar.extui v1351_r0
  let c0_i32_743_r0 : BitVec 32 := 0#32
  let v1353_r0 : BitVec 1 := Scalar.cmpi .slt v1349_r0 c0_i32_743_r0
  let v1354_r0 : BitVec 32 := Scalar.extui v1353_r0
  let v1355_r0 : BitVec 32 := Scalar.subi v1352_r0 v1354_r0
  let c128_i32_741_r0 : BitVec 32 := 128#32
  let c0_i32_744_r0 : BitVec 32 := 0#32
  let v1356_r0 : BitVec 1 := Scalar.cmpi .sgt c128_i32_741_r0 c0_i32_744_r0
  let v1357_r0 : BitVec 32 := Scalar.extui v1356_r0
  let c0_i32_745_r0 : BitVec 32 := 0#32
  let v1358_r0 : BitVec 1 := Scalar.cmpi .slt c128_i32_741_r0 c0_i32_745_r0
  let v1359_r0 : BitVec 32 := Scalar.extui v1358_r0
  let v1360_r0 : BitVec 32 := Scalar.subi v1357_r0 v1359_r0
  let v1361_r0 : BitVec 1 := Scalar.cmpi .ne v1355_r0 v1360_r0
  let v1362_r0 : BitVec 32 := Scalar.remsi v1349_r0 c128_i32_741_r0
  let c0_i32_746_r0 : BitVec 32 := 0#32
  let v1363_r0 : BitVec 1 := Scalar.cmpi .ne v1362_r0 c0_i32_746_r0
  let v1364_r0 : BitVec 1 := Scalar.andi v1361_r0 v1363_r0
  let v1350_r0 : BitVec 32 := Scalar.divsi v1349_r0 c128_i32_741_r0
  let c1_i32_747_r0 : BitVec 32 := 1#32
  let v1365_r0 : BitVec 32 := Scalar.subi v1350_r0 c1_i32_747_r0
  let v1366_r0 : BitVec 32 := Scalar.select v1364_r0 v1365_r0 v1350_r0
  let c128_i32_755_r0 : BitVec 32 := 128#32
  let v1378_r0 : BitVec 32 := Scalar.muli v1366_r0 c128_i32_755_r0
  v1378_r0
def k0_mult131 (k0_t4 : Fin k0_t4_loop.trips) : BitVec 32 :=
  let c1_i32_733_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_732_r0 : BitVec 32 := 15#32
  let v1337_r0 : BitVec 32 := Scalar.muli arg19_r0 c15_i32_732_r0
  let v1338_r0 : BitVec 32 := Scalar.addi c1_i32_733_r0 v1337_r0
  let c6_i32_734_r0 : BitVec 32 := 6#32
  let v1339_r0 : BitVec 32 := Scalar.addi v1338_r0 c6_i32_734_r0
  let c1_i32_739_r0 : BitVec 32 := 1#32
  let v1348_r0 : BitVec 32 := Scalar.addi v1339_r0 c1_i32_739_r0
  let c256_i32_754_r0 : BitVec 32 := 256#32
  let v1377_r0 : BitVec 32 := Scalar.muli v1348_r0 c256_i32_754_r0
  v1377_r0
def k0_mult132 (k0_t4 : Fin k0_t4_loop.trips) : BitVec 32 :=
  let c1_i32_733_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_732_r0 : BitVec 32 := 15#32
  let v1337_r0 : BitVec 32 := Scalar.muli arg19_r0 c15_i32_732_r0
  let v1338_r0 : BitVec 32 := Scalar.addi c1_i32_733_r0 v1337_r0
  let c6_i32_734_r0 : BitVec 32 := 6#32
  let v1339_r0 : BitVec 32 := Scalar.addi v1338_r0 c6_i32_734_r0
  let c256_i32_788_r0 : BitVec 32 := 256#32
  let v1463_r0 : BitVec 32 := Scalar.muli v1339_r0 c256_i32_788_r0
  v1463_r0
def k0_mult133 (k0_t4 : Fin k0_t4_loop.trips) : BitVec 32 :=
  let c1_i32_733_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_732_r0 : BitVec 32 := 15#32
  let v1337_r0 : BitVec 32 := Scalar.muli arg19_r0 c15_i32_732_r0
  let v1338_r0 : BitVec 32 := Scalar.addi c1_i32_733_r0 v1337_r0
  let c6_i32_734_r0 : BitVec 32 := 6#32
  let v1339_r0 : BitVec 32 := Scalar.addi v1338_r0 c6_i32_734_r0
  let c256_i32_790_r0 : BitVec 32 := 256#32
  let v1467_r0 : BitVec 32 := Scalar.muli v1339_r0 c256_i32_790_r0
  v1467_r0
def k0_mult134 (k0_t4 : Fin k0_t4_loop.trips) : BitVec 32 :=
  let c1_i32_793_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_792_r0 : BitVec 32 := 15#32
  let v1471_r0 : BitVec 32 := Scalar.muli arg19_r0 c15_i32_792_r0
  let v1472_r0 : BitVec 32 := Scalar.addi c1_i32_793_r0 v1471_r0
  let c7_i32_794_r0 : BitVec 32 := 7#32
  let v1473_r0 : BitVec 32 := Scalar.addi v1472_r0 c7_i32_794_r0
  let c256_i32_795_r0 : BitVec 32 := 256#32
  let v1474_r0 : BitVec 32 := Scalar.muli v1473_r0 c256_i32_795_r0
  v1474_r0
def k0_mult135 (k0_t4 : Fin k0_t4_loop.trips) : BitVec 32 :=
  let c1_i32_793_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_792_r0 : BitVec 32 := 15#32
  let v1471_r0 : BitVec 32 := Scalar.muli arg19_r0 c15_i32_792_r0
  let v1472_r0 : BitVec 32 := Scalar.addi c1_i32_793_r0 v1471_r0
  let c7_i32_794_r0 : BitVec 32 := 7#32
  let v1473_r0 : BitVec 32 := Scalar.addi v1472_r0 c7_i32_794_r0
  let c256_i32_797_r0 : BitVec 32 := 256#32
  let v1478_r0 : BitVec 32 := Scalar.muli v1473_r0 c256_i32_797_r0
  v1478_r0
def k0_mult136 (k0_t4 : Fin k0_t4_loop.trips) : BitVec 32 :=
  let c1_i32_793_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_792_r0 : BitVec 32 := 15#32
  let v1471_r0 : BitVec 32 := Scalar.muli arg19_r0 c15_i32_792_r0
  let v1472_r0 : BitVec 32 := Scalar.addi c1_i32_793_r0 v1471_r0
  let c7_i32_794_r0 : BitVec 32 := 7#32
  let v1473_r0 : BitVec 32 := Scalar.addi v1472_r0 c7_i32_794_r0
  let c1_i32_799_r0 : BitVec 32 := 1#32
  let v1482_r0 : BitVec 32 := Scalar.addi v1473_r0 c1_i32_799_r0
  let c8_i32_800_r0 : BitVec 32 := 8#32
  let v1483_r0 : BitVec 32 := Scalar.muli v1482_r0 c8_i32_800_r0
  let c0_i32_802_r0 : BitVec 32 := 0#32
  let v1485_r0 : BitVec 1 := Scalar.cmpi .sgt v1483_r0 c0_i32_802_r0
  let v1486_r0 : BitVec 32 := Scalar.extui v1485_r0
  let c0_i32_803_r0 : BitVec 32 := 0#32
  let v1487_r0 : BitVec 1 := Scalar.cmpi .slt v1483_r0 c0_i32_803_r0
  let v1488_r0 : BitVec 32 := Scalar.extui v1487_r0
  let v1489_r0 : BitVec 32 := Scalar.subi v1486_r0 v1488_r0
  let c128_i32_801_r0 : BitVec 32 := 128#32
  let c0_i32_804_r0 : BitVec 32 := 0#32
  let v1490_r0 : BitVec 1 := Scalar.cmpi .sgt c128_i32_801_r0 c0_i32_804_r0
  let v1491_r0 : BitVec 32 := Scalar.extui v1490_r0
  let c0_i32_805_r0 : BitVec 32 := 0#32
  let v1492_r0 : BitVec 1 := Scalar.cmpi .slt c128_i32_801_r0 c0_i32_805_r0
  let v1493_r0 : BitVec 32 := Scalar.extui v1492_r0
  let v1494_r0 : BitVec 32 := Scalar.subi v1491_r0 v1493_r0
  let v1495_r0 : BitVec 1 := Scalar.cmpi .ne v1489_r0 v1494_r0
  let v1496_r0 : BitVec 32 := Scalar.remsi v1483_r0 c128_i32_801_r0
  let c0_i32_806_r0 : BitVec 32 := 0#32
  let v1497_r0 : BitVec 1 := Scalar.cmpi .ne v1496_r0 c0_i32_806_r0
  let v1498_r0 : BitVec 1 := Scalar.andi v1495_r0 v1497_r0
  let v1484_r0 : BitVec 32 := Scalar.divsi v1483_r0 c128_i32_801_r0
  let c1_i32_807_r0 : BitVec 32 := 1#32
  let v1499_r0 : BitVec 32 := Scalar.subi v1484_r0 c1_i32_807_r0
  let v1500_r0 : BitVec 32 := Scalar.select v1498_r0 v1499_r0 v1484_r0
  let c128_i32_815_r0 : BitVec 32 := 128#32
  let v1512_r0 : BitVec 32 := Scalar.muli v1500_r0 c128_i32_815_r0
  v1512_r0
def k0_mult137 (k0_t4 : Fin k0_t4_loop.trips) : BitVec 32 :=
  let c1_i32_793_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_792_r0 : BitVec 32 := 15#32
  let v1471_r0 : BitVec 32 := Scalar.muli arg19_r0 c15_i32_792_r0
  let v1472_r0 : BitVec 32 := Scalar.addi c1_i32_793_r0 v1471_r0
  let c7_i32_794_r0 : BitVec 32 := 7#32
  let v1473_r0 : BitVec 32 := Scalar.addi v1472_r0 c7_i32_794_r0
  let c1_i32_799_r0 : BitVec 32 := 1#32
  let v1482_r0 : BitVec 32 := Scalar.addi v1473_r0 c1_i32_799_r0
  let c256_i32_814_r0 : BitVec 32 := 256#32
  let v1511_r0 : BitVec 32 := Scalar.muli v1482_r0 c256_i32_814_r0
  v1511_r0
def k0_mult138 (k0_t4 : Fin k0_t4_loop.trips) : BitVec 32 :=
  let c1_i32_793_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_792_r0 : BitVec 32 := 15#32
  let v1471_r0 : BitVec 32 := Scalar.muli arg19_r0 c15_i32_792_r0
  let v1472_r0 : BitVec 32 := Scalar.addi c1_i32_793_r0 v1471_r0
  let c7_i32_794_r0 : BitVec 32 := 7#32
  let v1473_r0 : BitVec 32 := Scalar.addi v1472_r0 c7_i32_794_r0
  let c256_i32_848_r0 : BitVec 32 := 256#32
  let v1597_r0 : BitVec 32 := Scalar.muli v1473_r0 c256_i32_848_r0
  v1597_r0
def k0_mult139 (k0_t4 : Fin k0_t4_loop.trips) : BitVec 32 :=
  let c1_i32_793_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_792_r0 : BitVec 32 := 15#32
  let v1471_r0 : BitVec 32 := Scalar.muli arg19_r0 c15_i32_792_r0
  let v1472_r0 : BitVec 32 := Scalar.addi c1_i32_793_r0 v1471_r0
  let c7_i32_794_r0 : BitVec 32 := 7#32
  let v1473_r0 : BitVec 32 := Scalar.addi v1472_r0 c7_i32_794_r0
  let c256_i32_850_r0 : BitVec 32 := 256#32
  let v1601_r0 : BitVec 32 := Scalar.muli v1473_r0 c256_i32_850_r0
  v1601_r0
def k0_mult140 (k0_t4 : Fin k0_t4_loop.trips) : BitVec 32 :=
  let c1_i32_853_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_852_r0 : BitVec 32 := 15#32
  let v1605_r0 : BitVec 32 := Scalar.muli arg19_r0 c15_i32_852_r0
  let v1606_r0 : BitVec 32 := Scalar.addi c1_i32_853_r0 v1605_r0
  let c8_i32_854_r0 : BitVec 32 := 8#32
  let v1607_r0 : BitVec 32 := Scalar.addi v1606_r0 c8_i32_854_r0
  let c256_i32_855_r0 : BitVec 32 := 256#32
  let v1608_r0 : BitVec 32 := Scalar.muli v1607_r0 c256_i32_855_r0
  v1608_r0
def k0_mult141 (k0_t4 : Fin k0_t4_loop.trips) : BitVec 32 :=
  let c1_i32_853_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_852_r0 : BitVec 32 := 15#32
  let v1605_r0 : BitVec 32 := Scalar.muli arg19_r0 c15_i32_852_r0
  let v1606_r0 : BitVec 32 := Scalar.addi c1_i32_853_r0 v1605_r0
  let c8_i32_854_r0 : BitVec 32 := 8#32
  let v1607_r0 : BitVec 32 := Scalar.addi v1606_r0 c8_i32_854_r0
  let c256_i32_857_r0 : BitVec 32 := 256#32
  let v1612_r0 : BitVec 32 := Scalar.muli v1607_r0 c256_i32_857_r0
  v1612_r0
def k0_mult142 (k0_t4 : Fin k0_t4_loop.trips) : BitVec 32 :=
  let c1_i32_853_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_852_r0 : BitVec 32 := 15#32
  let v1605_r0 : BitVec 32 := Scalar.muli arg19_r0 c15_i32_852_r0
  let v1606_r0 : BitVec 32 := Scalar.addi c1_i32_853_r0 v1605_r0
  let c8_i32_854_r0 : BitVec 32 := 8#32
  let v1607_r0 : BitVec 32 := Scalar.addi v1606_r0 c8_i32_854_r0
  let c1_i32_859_r0 : BitVec 32 := 1#32
  let v1616_r0 : BitVec 32 := Scalar.addi v1607_r0 c1_i32_859_r0
  let c8_i32_860_r0 : BitVec 32 := 8#32
  let v1617_r0 : BitVec 32 := Scalar.muli v1616_r0 c8_i32_860_r0
  let c0_i32_862_r0 : BitVec 32 := 0#32
  let v1619_r0 : BitVec 1 := Scalar.cmpi .sgt v1617_r0 c0_i32_862_r0
  let v1620_r0 : BitVec 32 := Scalar.extui v1619_r0
  let c0_i32_863_r0 : BitVec 32 := 0#32
  let v1621_r0 : BitVec 1 := Scalar.cmpi .slt v1617_r0 c0_i32_863_r0
  let v1622_r0 : BitVec 32 := Scalar.extui v1621_r0
  let v1623_r0 : BitVec 32 := Scalar.subi v1620_r0 v1622_r0
  let c128_i32_861_r0 : BitVec 32 := 128#32
  let c0_i32_864_r0 : BitVec 32 := 0#32
  let v1624_r0 : BitVec 1 := Scalar.cmpi .sgt c128_i32_861_r0 c0_i32_864_r0
  let v1625_r0 : BitVec 32 := Scalar.extui v1624_r0
  let c0_i32_865_r0 : BitVec 32 := 0#32
  let v1626_r0 : BitVec 1 := Scalar.cmpi .slt c128_i32_861_r0 c0_i32_865_r0
  let v1627_r0 : BitVec 32 := Scalar.extui v1626_r0
  let v1628_r0 : BitVec 32 := Scalar.subi v1625_r0 v1627_r0
  let v1629_r0 : BitVec 1 := Scalar.cmpi .ne v1623_r0 v1628_r0
  let v1630_r0 : BitVec 32 := Scalar.remsi v1617_r0 c128_i32_861_r0
  let c0_i32_866_r0 : BitVec 32 := 0#32
  let v1631_r0 : BitVec 1 := Scalar.cmpi .ne v1630_r0 c0_i32_866_r0
  let v1632_r0 : BitVec 1 := Scalar.andi v1629_r0 v1631_r0
  let v1618_r0 : BitVec 32 := Scalar.divsi v1617_r0 c128_i32_861_r0
  let c1_i32_867_r0 : BitVec 32 := 1#32
  let v1633_r0 : BitVec 32 := Scalar.subi v1618_r0 c1_i32_867_r0
  let v1634_r0 : BitVec 32 := Scalar.select v1632_r0 v1633_r0 v1618_r0
  let c128_i32_875_r0 : BitVec 32 := 128#32
  let v1646_r0 : BitVec 32 := Scalar.muli v1634_r0 c128_i32_875_r0
  v1646_r0
def k0_mult143 (k0_t4 : Fin k0_t4_loop.trips) : BitVec 32 :=
  let c1_i32_853_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_852_r0 : BitVec 32 := 15#32
  let v1605_r0 : BitVec 32 := Scalar.muli arg19_r0 c15_i32_852_r0
  let v1606_r0 : BitVec 32 := Scalar.addi c1_i32_853_r0 v1605_r0
  let c8_i32_854_r0 : BitVec 32 := 8#32
  let v1607_r0 : BitVec 32 := Scalar.addi v1606_r0 c8_i32_854_r0
  let c1_i32_859_r0 : BitVec 32 := 1#32
  let v1616_r0 : BitVec 32 := Scalar.addi v1607_r0 c1_i32_859_r0
  let c256_i32_874_r0 : BitVec 32 := 256#32
  let v1645_r0 : BitVec 32 := Scalar.muli v1616_r0 c256_i32_874_r0
  v1645_r0
def k0_mult144 (k0_t4 : Fin k0_t4_loop.trips) : BitVec 32 :=
  let c1_i32_853_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_852_r0 : BitVec 32 := 15#32
  let v1605_r0 : BitVec 32 := Scalar.muli arg19_r0 c15_i32_852_r0
  let v1606_r0 : BitVec 32 := Scalar.addi c1_i32_853_r0 v1605_r0
  let c8_i32_854_r0 : BitVec 32 := 8#32
  let v1607_r0 : BitVec 32 := Scalar.addi v1606_r0 c8_i32_854_r0
  let c256_i32_908_r0 : BitVec 32 := 256#32
  let v1731_r0 : BitVec 32 := Scalar.muli v1607_r0 c256_i32_908_r0
  v1731_r0
def k0_mult145 (k0_t4 : Fin k0_t4_loop.trips) : BitVec 32 :=
  let c1_i32_853_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_852_r0 : BitVec 32 := 15#32
  let v1605_r0 : BitVec 32 := Scalar.muli arg19_r0 c15_i32_852_r0
  let v1606_r0 : BitVec 32 := Scalar.addi c1_i32_853_r0 v1605_r0
  let c8_i32_854_r0 : BitVec 32 := 8#32
  let v1607_r0 : BitVec 32 := Scalar.addi v1606_r0 c8_i32_854_r0
  let c256_i32_910_r0 : BitVec 32 := 256#32
  let v1735_r0 : BitVec 32 := Scalar.muli v1607_r0 c256_i32_910_r0
  v1735_r0
def k0_mult146 (k0_t4 : Fin k0_t4_loop.trips) : BitVec 32 :=
  let c1_i32_913_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_912_r0 : BitVec 32 := 15#32
  let v1739_r0 : BitVec 32 := Scalar.muli arg19_r0 c15_i32_912_r0
  let v1740_r0 : BitVec 32 := Scalar.addi c1_i32_913_r0 v1739_r0
  let c9_i32_914_r0 : BitVec 32 := 9#32
  let v1741_r0 : BitVec 32 := Scalar.addi v1740_r0 c9_i32_914_r0
  let c256_i32_915_r0 : BitVec 32 := 256#32
  let v1742_r0 : BitVec 32 := Scalar.muli v1741_r0 c256_i32_915_r0
  v1742_r0
def k0_mult147 (k0_t4 : Fin k0_t4_loop.trips) : BitVec 32 :=
  let c1_i32_913_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_912_r0 : BitVec 32 := 15#32
  let v1739_r0 : BitVec 32 := Scalar.muli arg19_r0 c15_i32_912_r0
  let v1740_r0 : BitVec 32 := Scalar.addi c1_i32_913_r0 v1739_r0
  let c9_i32_914_r0 : BitVec 32 := 9#32
  let v1741_r0 : BitVec 32 := Scalar.addi v1740_r0 c9_i32_914_r0
  let c256_i32_917_r0 : BitVec 32 := 256#32
  let v1746_r0 : BitVec 32 := Scalar.muli v1741_r0 c256_i32_917_r0
  v1746_r0
def k0_mult148 (k0_t4 : Fin k0_t4_loop.trips) : BitVec 32 :=
  let c1_i32_913_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_912_r0 : BitVec 32 := 15#32
  let v1739_r0 : BitVec 32 := Scalar.muli arg19_r0 c15_i32_912_r0
  let v1740_r0 : BitVec 32 := Scalar.addi c1_i32_913_r0 v1739_r0
  let c9_i32_914_r0 : BitVec 32 := 9#32
  let v1741_r0 : BitVec 32 := Scalar.addi v1740_r0 c9_i32_914_r0
  let c1_i32_919_r0 : BitVec 32 := 1#32
  let v1750_r0 : BitVec 32 := Scalar.addi v1741_r0 c1_i32_919_r0
  let c8_i32_920_r0 : BitVec 32 := 8#32
  let v1751_r0 : BitVec 32 := Scalar.muli v1750_r0 c8_i32_920_r0
  let c0_i32_922_r0 : BitVec 32 := 0#32
  let v1753_r0 : BitVec 1 := Scalar.cmpi .sgt v1751_r0 c0_i32_922_r0
  let v1754_r0 : BitVec 32 := Scalar.extui v1753_r0
  let c0_i32_923_r0 : BitVec 32 := 0#32
  let v1755_r0 : BitVec 1 := Scalar.cmpi .slt v1751_r0 c0_i32_923_r0
  let v1756_r0 : BitVec 32 := Scalar.extui v1755_r0
  let v1757_r0 : BitVec 32 := Scalar.subi v1754_r0 v1756_r0
  let c128_i32_921_r0 : BitVec 32 := 128#32
  let c0_i32_924_r0 : BitVec 32 := 0#32
  let v1758_r0 : BitVec 1 := Scalar.cmpi .sgt c128_i32_921_r0 c0_i32_924_r0
  let v1759_r0 : BitVec 32 := Scalar.extui v1758_r0
  let c0_i32_925_r0 : BitVec 32 := 0#32
  let v1760_r0 : BitVec 1 := Scalar.cmpi .slt c128_i32_921_r0 c0_i32_925_r0
  let v1761_r0 : BitVec 32 := Scalar.extui v1760_r0
  let v1762_r0 : BitVec 32 := Scalar.subi v1759_r0 v1761_r0
  let v1763_r0 : BitVec 1 := Scalar.cmpi .ne v1757_r0 v1762_r0
  let v1764_r0 : BitVec 32 := Scalar.remsi v1751_r0 c128_i32_921_r0
  let c0_i32_926_r0 : BitVec 32 := 0#32
  let v1765_r0 : BitVec 1 := Scalar.cmpi .ne v1764_r0 c0_i32_926_r0
  let v1766_r0 : BitVec 1 := Scalar.andi v1763_r0 v1765_r0
  let v1752_r0 : BitVec 32 := Scalar.divsi v1751_r0 c128_i32_921_r0
  let c1_i32_927_r0 : BitVec 32 := 1#32
  let v1767_r0 : BitVec 32 := Scalar.subi v1752_r0 c1_i32_927_r0
  let v1768_r0 : BitVec 32 := Scalar.select v1766_r0 v1767_r0 v1752_r0
  let c128_i32_935_r0 : BitVec 32 := 128#32
  let v1780_r0 : BitVec 32 := Scalar.muli v1768_r0 c128_i32_935_r0
  v1780_r0
def k0_mult149 (k0_t4 : Fin k0_t4_loop.trips) : BitVec 32 :=
  let c1_i32_913_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_912_r0 : BitVec 32 := 15#32
  let v1739_r0 : BitVec 32 := Scalar.muli arg19_r0 c15_i32_912_r0
  let v1740_r0 : BitVec 32 := Scalar.addi c1_i32_913_r0 v1739_r0
  let c9_i32_914_r0 : BitVec 32 := 9#32
  let v1741_r0 : BitVec 32 := Scalar.addi v1740_r0 c9_i32_914_r0
  let c1_i32_919_r0 : BitVec 32 := 1#32
  let v1750_r0 : BitVec 32 := Scalar.addi v1741_r0 c1_i32_919_r0
  let c256_i32_934_r0 : BitVec 32 := 256#32
  let v1779_r0 : BitVec 32 := Scalar.muli v1750_r0 c256_i32_934_r0
  v1779_r0
def k0_mult150 (k0_t4 : Fin k0_t4_loop.trips) : BitVec 32 :=
  let c1_i32_913_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_912_r0 : BitVec 32 := 15#32
  let v1739_r0 : BitVec 32 := Scalar.muli arg19_r0 c15_i32_912_r0
  let v1740_r0 : BitVec 32 := Scalar.addi c1_i32_913_r0 v1739_r0
  let c9_i32_914_r0 : BitVec 32 := 9#32
  let v1741_r0 : BitVec 32 := Scalar.addi v1740_r0 c9_i32_914_r0
  let c256_i32_968_r0 : BitVec 32 := 256#32
  let v1865_r0 : BitVec 32 := Scalar.muli v1741_r0 c256_i32_968_r0
  v1865_r0
def k0_mult151 (k0_t4 : Fin k0_t4_loop.trips) : BitVec 32 :=
  let c1_i32_913_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_912_r0 : BitVec 32 := 15#32
  let v1739_r0 : BitVec 32 := Scalar.muli arg19_r0 c15_i32_912_r0
  let v1740_r0 : BitVec 32 := Scalar.addi c1_i32_913_r0 v1739_r0
  let c9_i32_914_r0 : BitVec 32 := 9#32
  let v1741_r0 : BitVec 32 := Scalar.addi v1740_r0 c9_i32_914_r0
  let c256_i32_970_r0 : BitVec 32 := 256#32
  let v1869_r0 : BitVec 32 := Scalar.muli v1741_r0 c256_i32_970_r0
  v1869_r0
def k0_mult152 (k0_t4 : Fin k0_t4_loop.trips) : BitVec 32 :=
  let c1_i32_973_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_972_r0 : BitVec 32 := 15#32
  let v1873_r0 : BitVec 32 := Scalar.muli arg19_r0 c15_i32_972_r0
  let v1874_r0 : BitVec 32 := Scalar.addi c1_i32_973_r0 v1873_r0
  let c10_i32_974_r0 : BitVec 32 := 10#32
  let v1875_r0 : BitVec 32 := Scalar.addi v1874_r0 c10_i32_974_r0
  let c256_i32_975_r0 : BitVec 32 := 256#32
  let v1876_r0 : BitVec 32 := Scalar.muli v1875_r0 c256_i32_975_r0
  v1876_r0
def k0_mult153 (k0_t4 : Fin k0_t4_loop.trips) : BitVec 32 :=
  let c1_i32_973_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_972_r0 : BitVec 32 := 15#32
  let v1873_r0 : BitVec 32 := Scalar.muli arg19_r0 c15_i32_972_r0
  let v1874_r0 : BitVec 32 := Scalar.addi c1_i32_973_r0 v1873_r0
  let c10_i32_974_r0 : BitVec 32 := 10#32
  let v1875_r0 : BitVec 32 := Scalar.addi v1874_r0 c10_i32_974_r0
  let c256_i32_977_r0 : BitVec 32 := 256#32
  let v1880_r0 : BitVec 32 := Scalar.muli v1875_r0 c256_i32_977_r0
  v1880_r0
def k0_mult154 (k0_t4 : Fin k0_t4_loop.trips) : BitVec 32 :=
  let c1_i32_973_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_972_r0 : BitVec 32 := 15#32
  let v1873_r0 : BitVec 32 := Scalar.muli arg19_r0 c15_i32_972_r0
  let v1874_r0 : BitVec 32 := Scalar.addi c1_i32_973_r0 v1873_r0
  let c10_i32_974_r0 : BitVec 32 := 10#32
  let v1875_r0 : BitVec 32 := Scalar.addi v1874_r0 c10_i32_974_r0
  let c1_i32_979_r0 : BitVec 32 := 1#32
  let v1884_r0 : BitVec 32 := Scalar.addi v1875_r0 c1_i32_979_r0
  let c8_i32_980_r0 : BitVec 32 := 8#32
  let v1885_r0 : BitVec 32 := Scalar.muli v1884_r0 c8_i32_980_r0
  let c0_i32_982_r0 : BitVec 32 := 0#32
  let v1887_r0 : BitVec 1 := Scalar.cmpi .sgt v1885_r0 c0_i32_982_r0
  let v1888_r0 : BitVec 32 := Scalar.extui v1887_r0
  let c0_i32_983_r0 : BitVec 32 := 0#32
  let v1889_r0 : BitVec 1 := Scalar.cmpi .slt v1885_r0 c0_i32_983_r0
  let v1890_r0 : BitVec 32 := Scalar.extui v1889_r0
  let v1891_r0 : BitVec 32 := Scalar.subi v1888_r0 v1890_r0
  let c128_i32_981_r0 : BitVec 32 := 128#32
  let c0_i32_984_r0 : BitVec 32 := 0#32
  let v1892_r0 : BitVec 1 := Scalar.cmpi .sgt c128_i32_981_r0 c0_i32_984_r0
  let v1893_r0 : BitVec 32 := Scalar.extui v1892_r0
  let c0_i32_985_r0 : BitVec 32 := 0#32
  let v1894_r0 : BitVec 1 := Scalar.cmpi .slt c128_i32_981_r0 c0_i32_985_r0
  let v1895_r0 : BitVec 32 := Scalar.extui v1894_r0
  let v1896_r0 : BitVec 32 := Scalar.subi v1893_r0 v1895_r0
  let v1897_r0 : BitVec 1 := Scalar.cmpi .ne v1891_r0 v1896_r0
  let v1898_r0 : BitVec 32 := Scalar.remsi v1885_r0 c128_i32_981_r0
  let c0_i32_986_r0 : BitVec 32 := 0#32
  let v1899_r0 : BitVec 1 := Scalar.cmpi .ne v1898_r0 c0_i32_986_r0
  let v1900_r0 : BitVec 1 := Scalar.andi v1897_r0 v1899_r0
  let v1886_r0 : BitVec 32 := Scalar.divsi v1885_r0 c128_i32_981_r0
  let c1_i32_987_r0 : BitVec 32 := 1#32
  let v1901_r0 : BitVec 32 := Scalar.subi v1886_r0 c1_i32_987_r0
  let v1902_r0 : BitVec 32 := Scalar.select v1900_r0 v1901_r0 v1886_r0
  let c128_i32_995_r0 : BitVec 32 := 128#32
  let v1914_r0 : BitVec 32 := Scalar.muli v1902_r0 c128_i32_995_r0
  v1914_r0
def k0_mult155 (k0_t4 : Fin k0_t4_loop.trips) : BitVec 32 :=
  let c1_i32_973_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_972_r0 : BitVec 32 := 15#32
  let v1873_r0 : BitVec 32 := Scalar.muli arg19_r0 c15_i32_972_r0
  let v1874_r0 : BitVec 32 := Scalar.addi c1_i32_973_r0 v1873_r0
  let c10_i32_974_r0 : BitVec 32 := 10#32
  let v1875_r0 : BitVec 32 := Scalar.addi v1874_r0 c10_i32_974_r0
  let c1_i32_979_r0 : BitVec 32 := 1#32
  let v1884_r0 : BitVec 32 := Scalar.addi v1875_r0 c1_i32_979_r0
  let c256_i32_994_r0 : BitVec 32 := 256#32
  let v1913_r0 : BitVec 32 := Scalar.muli v1884_r0 c256_i32_994_r0
  v1913_r0
def k0_mult156 (k0_t4 : Fin k0_t4_loop.trips) : BitVec 32 :=
  let c1_i32_973_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_972_r0 : BitVec 32 := 15#32
  let v1873_r0 : BitVec 32 := Scalar.muli arg19_r0 c15_i32_972_r0
  let v1874_r0 : BitVec 32 := Scalar.addi c1_i32_973_r0 v1873_r0
  let c10_i32_974_r0 : BitVec 32 := 10#32
  let v1875_r0 : BitVec 32 := Scalar.addi v1874_r0 c10_i32_974_r0
  let c256_i32_1028_r0 : BitVec 32 := 256#32
  let v1999_r0 : BitVec 32 := Scalar.muli v1875_r0 c256_i32_1028_r0
  v1999_r0
def k0_mult157 (k0_t4 : Fin k0_t4_loop.trips) : BitVec 32 :=
  let c1_i32_973_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_972_r0 : BitVec 32 := 15#32
  let v1873_r0 : BitVec 32 := Scalar.muli arg19_r0 c15_i32_972_r0
  let v1874_r0 : BitVec 32 := Scalar.addi c1_i32_973_r0 v1873_r0
  let c10_i32_974_r0 : BitVec 32 := 10#32
  let v1875_r0 : BitVec 32 := Scalar.addi v1874_r0 c10_i32_974_r0
  let c256_i32_1030_r0 : BitVec 32 := 256#32
  let v2003_r0 : BitVec 32 := Scalar.muli v1875_r0 c256_i32_1030_r0
  v2003_r0
def k0_mult158 (k0_t4 : Fin k0_t4_loop.trips) : BitVec 32 :=
  let c1_i32_1033_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1032_r0 : BitVec 32 := 15#32
  let v2007_r0 : BitVec 32 := Scalar.muli arg19_r0 c15_i32_1032_r0
  let v2008_r0 : BitVec 32 := Scalar.addi c1_i32_1033_r0 v2007_r0
  let c11_i32_1034_r0 : BitVec 32 := 11#32
  let v2009_r0 : BitVec 32 := Scalar.addi v2008_r0 c11_i32_1034_r0
  let c256_i32_1035_r0 : BitVec 32 := 256#32
  let v2010_r0 : BitVec 32 := Scalar.muli v2009_r0 c256_i32_1035_r0
  v2010_r0
def k0_mult159 (k0_t4 : Fin k0_t4_loop.trips) : BitVec 32 :=
  let c1_i32_1033_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1032_r0 : BitVec 32 := 15#32
  let v2007_r0 : BitVec 32 := Scalar.muli arg19_r0 c15_i32_1032_r0
  let v2008_r0 : BitVec 32 := Scalar.addi c1_i32_1033_r0 v2007_r0
  let c11_i32_1034_r0 : BitVec 32 := 11#32
  let v2009_r0 : BitVec 32 := Scalar.addi v2008_r0 c11_i32_1034_r0
  let c256_i32_1037_r0 : BitVec 32 := 256#32
  let v2014_r0 : BitVec 32 := Scalar.muli v2009_r0 c256_i32_1037_r0
  v2014_r0
def k0_mult160 (k0_t4 : Fin k0_t4_loop.trips) : BitVec 32 :=
  let c1_i32_1033_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1032_r0 : BitVec 32 := 15#32
  let v2007_r0 : BitVec 32 := Scalar.muli arg19_r0 c15_i32_1032_r0
  let v2008_r0 : BitVec 32 := Scalar.addi c1_i32_1033_r0 v2007_r0
  let c11_i32_1034_r0 : BitVec 32 := 11#32
  let v2009_r0 : BitVec 32 := Scalar.addi v2008_r0 c11_i32_1034_r0
  let c1_i32_1039_r0 : BitVec 32 := 1#32
  let v2018_r0 : BitVec 32 := Scalar.addi v2009_r0 c1_i32_1039_r0
  let c8_i32_1040_r0 : BitVec 32 := 8#32
  let v2019_r0 : BitVec 32 := Scalar.muli v2018_r0 c8_i32_1040_r0
  let c0_i32_1042_r0 : BitVec 32 := 0#32
  let v2021_r0 : BitVec 1 := Scalar.cmpi .sgt v2019_r0 c0_i32_1042_r0
  let v2022_r0 : BitVec 32 := Scalar.extui v2021_r0
  let c0_i32_1043_r0 : BitVec 32 := 0#32
  let v2023_r0 : BitVec 1 := Scalar.cmpi .slt v2019_r0 c0_i32_1043_r0
  let v2024_r0 : BitVec 32 := Scalar.extui v2023_r0
  let v2025_r0 : BitVec 32 := Scalar.subi v2022_r0 v2024_r0
  let c128_i32_1041_r0 : BitVec 32 := 128#32
  let c0_i32_1044_r0 : BitVec 32 := 0#32
  let v2026_r0 : BitVec 1 := Scalar.cmpi .sgt c128_i32_1041_r0 c0_i32_1044_r0
  let v2027_r0 : BitVec 32 := Scalar.extui v2026_r0
  let c0_i32_1045_r0 : BitVec 32 := 0#32
  let v2028_r0 : BitVec 1 := Scalar.cmpi .slt c128_i32_1041_r0 c0_i32_1045_r0
  let v2029_r0 : BitVec 32 := Scalar.extui v2028_r0
  let v2030_r0 : BitVec 32 := Scalar.subi v2027_r0 v2029_r0
  let v2031_r0 : BitVec 1 := Scalar.cmpi .ne v2025_r0 v2030_r0
  let v2032_r0 : BitVec 32 := Scalar.remsi v2019_r0 c128_i32_1041_r0
  let c0_i32_1046_r0 : BitVec 32 := 0#32
  let v2033_r0 : BitVec 1 := Scalar.cmpi .ne v2032_r0 c0_i32_1046_r0
  let v2034_r0 : BitVec 1 := Scalar.andi v2031_r0 v2033_r0
  let v2020_r0 : BitVec 32 := Scalar.divsi v2019_r0 c128_i32_1041_r0
  let c1_i32_1047_r0 : BitVec 32 := 1#32
  let v2035_r0 : BitVec 32 := Scalar.subi v2020_r0 c1_i32_1047_r0
  let v2036_r0 : BitVec 32 := Scalar.select v2034_r0 v2035_r0 v2020_r0
  let c128_i32_1055_r0 : BitVec 32 := 128#32
  let v2048_r0 : BitVec 32 := Scalar.muli v2036_r0 c128_i32_1055_r0
  v2048_r0
def k0_mult161 (k0_t4 : Fin k0_t4_loop.trips) : BitVec 32 :=
  let c1_i32_1033_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1032_r0 : BitVec 32 := 15#32
  let v2007_r0 : BitVec 32 := Scalar.muli arg19_r0 c15_i32_1032_r0
  let v2008_r0 : BitVec 32 := Scalar.addi c1_i32_1033_r0 v2007_r0
  let c11_i32_1034_r0 : BitVec 32 := 11#32
  let v2009_r0 : BitVec 32 := Scalar.addi v2008_r0 c11_i32_1034_r0
  let c1_i32_1039_r0 : BitVec 32 := 1#32
  let v2018_r0 : BitVec 32 := Scalar.addi v2009_r0 c1_i32_1039_r0
  let c256_i32_1054_r0 : BitVec 32 := 256#32
  let v2047_r0 : BitVec 32 := Scalar.muli v2018_r0 c256_i32_1054_r0
  v2047_r0
def k0_mult162 (k0_t4 : Fin k0_t4_loop.trips) : BitVec 32 :=
  let c1_i32_1033_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1032_r0 : BitVec 32 := 15#32
  let v2007_r0 : BitVec 32 := Scalar.muli arg19_r0 c15_i32_1032_r0
  let v2008_r0 : BitVec 32 := Scalar.addi c1_i32_1033_r0 v2007_r0
  let c11_i32_1034_r0 : BitVec 32 := 11#32
  let v2009_r0 : BitVec 32 := Scalar.addi v2008_r0 c11_i32_1034_r0
  let c256_i32_1088_r0 : BitVec 32 := 256#32
  let v2133_r0 : BitVec 32 := Scalar.muli v2009_r0 c256_i32_1088_r0
  v2133_r0
def k0_mult163 (k0_t4 : Fin k0_t4_loop.trips) : BitVec 32 :=
  let c1_i32_1033_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1032_r0 : BitVec 32 := 15#32
  let v2007_r0 : BitVec 32 := Scalar.muli arg19_r0 c15_i32_1032_r0
  let v2008_r0 : BitVec 32 := Scalar.addi c1_i32_1033_r0 v2007_r0
  let c11_i32_1034_r0 : BitVec 32 := 11#32
  let v2009_r0 : BitVec 32 := Scalar.addi v2008_r0 c11_i32_1034_r0
  let c256_i32_1090_r0 : BitVec 32 := 256#32
  let v2137_r0 : BitVec 32 := Scalar.muli v2009_r0 c256_i32_1090_r0
  v2137_r0
def k0_mult164 (k0_t4 : Fin k0_t4_loop.trips) : BitVec 32 :=
  let c1_i32_1093_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1092_r0 : BitVec 32 := 15#32
  let v2141_r0 : BitVec 32 := Scalar.muli arg19_r0 c15_i32_1092_r0
  let v2142_r0 : BitVec 32 := Scalar.addi c1_i32_1093_r0 v2141_r0
  let c12_i32_1094_r0 : BitVec 32 := 12#32
  let v2143_r0 : BitVec 32 := Scalar.addi v2142_r0 c12_i32_1094_r0
  let c256_i32_1095_r0 : BitVec 32 := 256#32
  let v2144_r0 : BitVec 32 := Scalar.muli v2143_r0 c256_i32_1095_r0
  v2144_r0
def k0_mult165 (k0_t4 : Fin k0_t4_loop.trips) : BitVec 32 :=
  let c1_i32_1093_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1092_r0 : BitVec 32 := 15#32
  let v2141_r0 : BitVec 32 := Scalar.muli arg19_r0 c15_i32_1092_r0
  let v2142_r0 : BitVec 32 := Scalar.addi c1_i32_1093_r0 v2141_r0
  let c12_i32_1094_r0 : BitVec 32 := 12#32
  let v2143_r0 : BitVec 32 := Scalar.addi v2142_r0 c12_i32_1094_r0
  let c256_i32_1097_r0 : BitVec 32 := 256#32
  let v2148_r0 : BitVec 32 := Scalar.muli v2143_r0 c256_i32_1097_r0
  v2148_r0
def k0_mult166 (k0_t4 : Fin k0_t4_loop.trips) : BitVec 32 :=
  let c1_i32_1093_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1092_r0 : BitVec 32 := 15#32
  let v2141_r0 : BitVec 32 := Scalar.muli arg19_r0 c15_i32_1092_r0
  let v2142_r0 : BitVec 32 := Scalar.addi c1_i32_1093_r0 v2141_r0
  let c12_i32_1094_r0 : BitVec 32 := 12#32
  let v2143_r0 : BitVec 32 := Scalar.addi v2142_r0 c12_i32_1094_r0
  let c1_i32_1099_r0 : BitVec 32 := 1#32
  let v2152_r0 : BitVec 32 := Scalar.addi v2143_r0 c1_i32_1099_r0
  let c8_i32_1100_r0 : BitVec 32 := 8#32
  let v2153_r0 : BitVec 32 := Scalar.muli v2152_r0 c8_i32_1100_r0
  let c0_i32_1102_r0 : BitVec 32 := 0#32
  let v2155_r0 : BitVec 1 := Scalar.cmpi .sgt v2153_r0 c0_i32_1102_r0
  let v2156_r0 : BitVec 32 := Scalar.extui v2155_r0
  let c0_i32_1103_r0 : BitVec 32 := 0#32
  let v2157_r0 : BitVec 1 := Scalar.cmpi .slt v2153_r0 c0_i32_1103_r0
  let v2158_r0 : BitVec 32 := Scalar.extui v2157_r0
  let v2159_r0 : BitVec 32 := Scalar.subi v2156_r0 v2158_r0
  let c128_i32_1101_r0 : BitVec 32 := 128#32
  let c0_i32_1104_r0 : BitVec 32 := 0#32
  let v2160_r0 : BitVec 1 := Scalar.cmpi .sgt c128_i32_1101_r0 c0_i32_1104_r0
  let v2161_r0 : BitVec 32 := Scalar.extui v2160_r0
  let c0_i32_1105_r0 : BitVec 32 := 0#32
  let v2162_r0 : BitVec 1 := Scalar.cmpi .slt c128_i32_1101_r0 c0_i32_1105_r0
  let v2163_r0 : BitVec 32 := Scalar.extui v2162_r0
  let v2164_r0 : BitVec 32 := Scalar.subi v2161_r0 v2163_r0
  let v2165_r0 : BitVec 1 := Scalar.cmpi .ne v2159_r0 v2164_r0
  let v2166_r0 : BitVec 32 := Scalar.remsi v2153_r0 c128_i32_1101_r0
  let c0_i32_1106_r0 : BitVec 32 := 0#32
  let v2167_r0 : BitVec 1 := Scalar.cmpi .ne v2166_r0 c0_i32_1106_r0
  let v2168_r0 : BitVec 1 := Scalar.andi v2165_r0 v2167_r0
  let v2154_r0 : BitVec 32 := Scalar.divsi v2153_r0 c128_i32_1101_r0
  let c1_i32_1107_r0 : BitVec 32 := 1#32
  let v2169_r0 : BitVec 32 := Scalar.subi v2154_r0 c1_i32_1107_r0
  let v2170_r0 : BitVec 32 := Scalar.select v2168_r0 v2169_r0 v2154_r0
  let c128_i32_1115_r0 : BitVec 32 := 128#32
  let v2182_r0 : BitVec 32 := Scalar.muli v2170_r0 c128_i32_1115_r0
  v2182_r0
def k0_mult167 (k0_t4 : Fin k0_t4_loop.trips) : BitVec 32 :=
  let c1_i32_1093_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1092_r0 : BitVec 32 := 15#32
  let v2141_r0 : BitVec 32 := Scalar.muli arg19_r0 c15_i32_1092_r0
  let v2142_r0 : BitVec 32 := Scalar.addi c1_i32_1093_r0 v2141_r0
  let c12_i32_1094_r0 : BitVec 32 := 12#32
  let v2143_r0 : BitVec 32 := Scalar.addi v2142_r0 c12_i32_1094_r0
  let c1_i32_1099_r0 : BitVec 32 := 1#32
  let v2152_r0 : BitVec 32 := Scalar.addi v2143_r0 c1_i32_1099_r0
  let c256_i32_1114_r0 : BitVec 32 := 256#32
  let v2181_r0 : BitVec 32 := Scalar.muli v2152_r0 c256_i32_1114_r0
  v2181_r0
def k0_mult168 (k0_t4 : Fin k0_t4_loop.trips) : BitVec 32 :=
  let c1_i32_1093_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1092_r0 : BitVec 32 := 15#32
  let v2141_r0 : BitVec 32 := Scalar.muli arg19_r0 c15_i32_1092_r0
  let v2142_r0 : BitVec 32 := Scalar.addi c1_i32_1093_r0 v2141_r0
  let c12_i32_1094_r0 : BitVec 32 := 12#32
  let v2143_r0 : BitVec 32 := Scalar.addi v2142_r0 c12_i32_1094_r0
  let c256_i32_1148_r0 : BitVec 32 := 256#32
  let v2267_r0 : BitVec 32 := Scalar.muli v2143_r0 c256_i32_1148_r0
  v2267_r0
def k0_mult169 (k0_t4 : Fin k0_t4_loop.trips) : BitVec 32 :=
  let c1_i32_1093_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1092_r0 : BitVec 32 := 15#32
  let v2141_r0 : BitVec 32 := Scalar.muli arg19_r0 c15_i32_1092_r0
  let v2142_r0 : BitVec 32 := Scalar.addi c1_i32_1093_r0 v2141_r0
  let c12_i32_1094_r0 : BitVec 32 := 12#32
  let v2143_r0 : BitVec 32 := Scalar.addi v2142_r0 c12_i32_1094_r0
  let c256_i32_1150_r0 : BitVec 32 := 256#32
  let v2271_r0 : BitVec 32 := Scalar.muli v2143_r0 c256_i32_1150_r0
  v2271_r0
def k0_mult170 (k0_t4 : Fin k0_t4_loop.trips) : BitVec 32 :=
  let c1_i32_1153_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1152_r0 : BitVec 32 := 15#32
  let v2275_r0 : BitVec 32 := Scalar.muli arg19_r0 c15_i32_1152_r0
  let v2276_r0 : BitVec 32 := Scalar.addi c1_i32_1153_r0 v2275_r0
  let c13_i32_1154_r0 : BitVec 32 := 13#32
  let v2277_r0 : BitVec 32 := Scalar.addi v2276_r0 c13_i32_1154_r0
  let c256_i32_1155_r0 : BitVec 32 := 256#32
  let v2278_r0 : BitVec 32 := Scalar.muli v2277_r0 c256_i32_1155_r0
  v2278_r0
def k0_mult171 (k0_t4 : Fin k0_t4_loop.trips) : BitVec 32 :=
  let c1_i32_1153_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1152_r0 : BitVec 32 := 15#32
  let v2275_r0 : BitVec 32 := Scalar.muli arg19_r0 c15_i32_1152_r0
  let v2276_r0 : BitVec 32 := Scalar.addi c1_i32_1153_r0 v2275_r0
  let c13_i32_1154_r0 : BitVec 32 := 13#32
  let v2277_r0 : BitVec 32 := Scalar.addi v2276_r0 c13_i32_1154_r0
  let c256_i32_1157_r0 : BitVec 32 := 256#32
  let v2282_r0 : BitVec 32 := Scalar.muli v2277_r0 c256_i32_1157_r0
  v2282_r0
def k0_mult172 (k0_t4 : Fin k0_t4_loop.trips) : BitVec 32 :=
  let c1_i32_1153_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1152_r0 : BitVec 32 := 15#32
  let v2275_r0 : BitVec 32 := Scalar.muli arg19_r0 c15_i32_1152_r0
  let v2276_r0 : BitVec 32 := Scalar.addi c1_i32_1153_r0 v2275_r0
  let c13_i32_1154_r0 : BitVec 32 := 13#32
  let v2277_r0 : BitVec 32 := Scalar.addi v2276_r0 c13_i32_1154_r0
  let c1_i32_1159_r0 : BitVec 32 := 1#32
  let v2286_r0 : BitVec 32 := Scalar.addi v2277_r0 c1_i32_1159_r0
  let c8_i32_1160_r0 : BitVec 32 := 8#32
  let v2287_r0 : BitVec 32 := Scalar.muli v2286_r0 c8_i32_1160_r0
  let c0_i32_1162_r0 : BitVec 32 := 0#32
  let v2289_r0 : BitVec 1 := Scalar.cmpi .sgt v2287_r0 c0_i32_1162_r0
  let v2290_r0 : BitVec 32 := Scalar.extui v2289_r0
  let c0_i32_1163_r0 : BitVec 32 := 0#32
  let v2291_r0 : BitVec 1 := Scalar.cmpi .slt v2287_r0 c0_i32_1163_r0
  let v2292_r0 : BitVec 32 := Scalar.extui v2291_r0
  let v2293_r0 : BitVec 32 := Scalar.subi v2290_r0 v2292_r0
  let c128_i32_1161_r0 : BitVec 32 := 128#32
  let c0_i32_1164_r0 : BitVec 32 := 0#32
  let v2294_r0 : BitVec 1 := Scalar.cmpi .sgt c128_i32_1161_r0 c0_i32_1164_r0
  let v2295_r0 : BitVec 32 := Scalar.extui v2294_r0
  let c0_i32_1165_r0 : BitVec 32 := 0#32
  let v2296_r0 : BitVec 1 := Scalar.cmpi .slt c128_i32_1161_r0 c0_i32_1165_r0
  let v2297_r0 : BitVec 32 := Scalar.extui v2296_r0
  let v2298_r0 : BitVec 32 := Scalar.subi v2295_r0 v2297_r0
  let v2299_r0 : BitVec 1 := Scalar.cmpi .ne v2293_r0 v2298_r0
  let v2300_r0 : BitVec 32 := Scalar.remsi v2287_r0 c128_i32_1161_r0
  let c0_i32_1166_r0 : BitVec 32 := 0#32
  let v2301_r0 : BitVec 1 := Scalar.cmpi .ne v2300_r0 c0_i32_1166_r0
  let v2302_r0 : BitVec 1 := Scalar.andi v2299_r0 v2301_r0
  let v2288_r0 : BitVec 32 := Scalar.divsi v2287_r0 c128_i32_1161_r0
  let c1_i32_1167_r0 : BitVec 32 := 1#32
  let v2303_r0 : BitVec 32 := Scalar.subi v2288_r0 c1_i32_1167_r0
  let v2304_r0 : BitVec 32 := Scalar.select v2302_r0 v2303_r0 v2288_r0
  let c128_i32_1175_r0 : BitVec 32 := 128#32
  let v2316_r0 : BitVec 32 := Scalar.muli v2304_r0 c128_i32_1175_r0
  v2316_r0
def k0_mult173 (k0_t4 : Fin k0_t4_loop.trips) : BitVec 32 :=
  let c1_i32_1153_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1152_r0 : BitVec 32 := 15#32
  let v2275_r0 : BitVec 32 := Scalar.muli arg19_r0 c15_i32_1152_r0
  let v2276_r0 : BitVec 32 := Scalar.addi c1_i32_1153_r0 v2275_r0
  let c13_i32_1154_r0 : BitVec 32 := 13#32
  let v2277_r0 : BitVec 32 := Scalar.addi v2276_r0 c13_i32_1154_r0
  let c1_i32_1159_r0 : BitVec 32 := 1#32
  let v2286_r0 : BitVec 32 := Scalar.addi v2277_r0 c1_i32_1159_r0
  let c256_i32_1174_r0 : BitVec 32 := 256#32
  let v2315_r0 : BitVec 32 := Scalar.muli v2286_r0 c256_i32_1174_r0
  v2315_r0
def k0_mult174 (k0_t4 : Fin k0_t4_loop.trips) : BitVec 32 :=
  let c1_i32_1153_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1152_r0 : BitVec 32 := 15#32
  let v2275_r0 : BitVec 32 := Scalar.muli arg19_r0 c15_i32_1152_r0
  let v2276_r0 : BitVec 32 := Scalar.addi c1_i32_1153_r0 v2275_r0
  let c13_i32_1154_r0 : BitVec 32 := 13#32
  let v2277_r0 : BitVec 32 := Scalar.addi v2276_r0 c13_i32_1154_r0
  let c256_i32_1208_r0 : BitVec 32 := 256#32
  let v2401_r0 : BitVec 32 := Scalar.muli v2277_r0 c256_i32_1208_r0
  v2401_r0
def k0_mult175 (k0_t4 : Fin k0_t4_loop.trips) : BitVec 32 :=
  let c1_i32_1153_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1152_r0 : BitVec 32 := 15#32
  let v2275_r0 : BitVec 32 := Scalar.muli arg19_r0 c15_i32_1152_r0
  let v2276_r0 : BitVec 32 := Scalar.addi c1_i32_1153_r0 v2275_r0
  let c13_i32_1154_r0 : BitVec 32 := 13#32
  let v2277_r0 : BitVec 32 := Scalar.addi v2276_r0 c13_i32_1154_r0
  let c256_i32_1210_r0 : BitVec 32 := 256#32
  let v2405_r0 : BitVec 32 := Scalar.muli v2277_r0 c256_i32_1210_r0
  v2405_r0
def k0_mult176 (k0_t4 : Fin k0_t4_loop.trips) : BitVec 32 :=
  let c1_i32_1213_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1212_r0 : BitVec 32 := 15#32
  let v2409_r0 : BitVec 32 := Scalar.muli arg19_r0 c15_i32_1212_r0
  let v2410_r0 : BitVec 32 := Scalar.addi c1_i32_1213_r0 v2409_r0
  let c14_i32_1214_r0 : BitVec 32 := 14#32
  let v2411_r0 : BitVec 32 := Scalar.addi v2410_r0 c14_i32_1214_r0
  let c256_i32_1215_r0 : BitVec 32 := 256#32
  let v2412_r0 : BitVec 32 := Scalar.muli v2411_r0 c256_i32_1215_r0
  v2412_r0
def k0_mult177 (k0_t4 : Fin k0_t4_loop.trips) : BitVec 32 :=
  let c1_i32_1213_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1212_r0 : BitVec 32 := 15#32
  let v2409_r0 : BitVec 32 := Scalar.muli arg19_r0 c15_i32_1212_r0
  let v2410_r0 : BitVec 32 := Scalar.addi c1_i32_1213_r0 v2409_r0
  let c14_i32_1214_r0 : BitVec 32 := 14#32
  let v2411_r0 : BitVec 32 := Scalar.addi v2410_r0 c14_i32_1214_r0
  let c256_i32_1217_r0 : BitVec 32 := 256#32
  let v2416_r0 : BitVec 32 := Scalar.muli v2411_r0 c256_i32_1217_r0
  v2416_r0
def k0_mult178 (k0_t4 : Fin k0_t4_loop.trips) : BitVec 32 :=
  let c1_i32_1213_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1212_r0 : BitVec 32 := 15#32
  let v2409_r0 : BitVec 32 := Scalar.muli arg19_r0 c15_i32_1212_r0
  let v2410_r0 : BitVec 32 := Scalar.addi c1_i32_1213_r0 v2409_r0
  let c14_i32_1214_r0 : BitVec 32 := 14#32
  let v2411_r0 : BitVec 32 := Scalar.addi v2410_r0 c14_i32_1214_r0
  let c1_i32_1219_r0 : BitVec 32 := 1#32
  let v2420_r0 : BitVec 32 := Scalar.addi v2411_r0 c1_i32_1219_r0
  let c8_i32_1220_r0 : BitVec 32 := 8#32
  let v2421_r0 : BitVec 32 := Scalar.muli v2420_r0 c8_i32_1220_r0
  let c0_i32_1222_r0 : BitVec 32 := 0#32
  let v2423_r0 : BitVec 1 := Scalar.cmpi .sgt v2421_r0 c0_i32_1222_r0
  let v2424_r0 : BitVec 32 := Scalar.extui v2423_r0
  let c0_i32_1223_r0 : BitVec 32 := 0#32
  let v2425_r0 : BitVec 1 := Scalar.cmpi .slt v2421_r0 c0_i32_1223_r0
  let v2426_r0 : BitVec 32 := Scalar.extui v2425_r0
  let v2427_r0 : BitVec 32 := Scalar.subi v2424_r0 v2426_r0
  let c128_i32_1221_r0 : BitVec 32 := 128#32
  let c0_i32_1224_r0 : BitVec 32 := 0#32
  let v2428_r0 : BitVec 1 := Scalar.cmpi .sgt c128_i32_1221_r0 c0_i32_1224_r0
  let v2429_r0 : BitVec 32 := Scalar.extui v2428_r0
  let c0_i32_1225_r0 : BitVec 32 := 0#32
  let v2430_r0 : BitVec 1 := Scalar.cmpi .slt c128_i32_1221_r0 c0_i32_1225_r0
  let v2431_r0 : BitVec 32 := Scalar.extui v2430_r0
  let v2432_r0 : BitVec 32 := Scalar.subi v2429_r0 v2431_r0
  let v2433_r0 : BitVec 1 := Scalar.cmpi .ne v2427_r0 v2432_r0
  let v2434_r0 : BitVec 32 := Scalar.remsi v2421_r0 c128_i32_1221_r0
  let c0_i32_1226_r0 : BitVec 32 := 0#32
  let v2435_r0 : BitVec 1 := Scalar.cmpi .ne v2434_r0 c0_i32_1226_r0
  let v2436_r0 : BitVec 1 := Scalar.andi v2433_r0 v2435_r0
  let v2422_r0 : BitVec 32 := Scalar.divsi v2421_r0 c128_i32_1221_r0
  let c1_i32_1227_r0 : BitVec 32 := 1#32
  let v2437_r0 : BitVec 32 := Scalar.subi v2422_r0 c1_i32_1227_r0
  let v2438_r0 : BitVec 32 := Scalar.select v2436_r0 v2437_r0 v2422_r0
  let c128_i32_1235_r0 : BitVec 32 := 128#32
  let v2450_r0 : BitVec 32 := Scalar.muli v2438_r0 c128_i32_1235_r0
  v2450_r0
def k0_mult179 (k0_t4 : Fin k0_t4_loop.trips) : BitVec 32 :=
  let c1_i32_1213_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1212_r0 : BitVec 32 := 15#32
  let v2409_r0 : BitVec 32 := Scalar.muli arg19_r0 c15_i32_1212_r0
  let v2410_r0 : BitVec 32 := Scalar.addi c1_i32_1213_r0 v2409_r0
  let c14_i32_1214_r0 : BitVec 32 := 14#32
  let v2411_r0 : BitVec 32 := Scalar.addi v2410_r0 c14_i32_1214_r0
  let c1_i32_1219_r0 : BitVec 32 := 1#32
  let v2420_r0 : BitVec 32 := Scalar.addi v2411_r0 c1_i32_1219_r0
  let c256_i32_1234_r0 : BitVec 32 := 256#32
  let v2449_r0 : BitVec 32 := Scalar.muli v2420_r0 c256_i32_1234_r0
  v2449_r0
def k0_mult180 (k0_t4 : Fin k0_t4_loop.trips) : BitVec 32 :=
  let c1_i32_1213_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1212_r0 : BitVec 32 := 15#32
  let v2409_r0 : BitVec 32 := Scalar.muli arg19_r0 c15_i32_1212_r0
  let v2410_r0 : BitVec 32 := Scalar.addi c1_i32_1213_r0 v2409_r0
  let c14_i32_1214_r0 : BitVec 32 := 14#32
  let v2411_r0 : BitVec 32 := Scalar.addi v2410_r0 c14_i32_1214_r0
  let c256_i32_1268_r0 : BitVec 32 := 256#32
  let v2535_r0 : BitVec 32 := Scalar.muli v2411_r0 c256_i32_1268_r0
  v2535_r0
def k0_mult181 (k0_t4 : Fin k0_t4_loop.trips) : BitVec 32 :=
  let c1_i32_1213_r0 : BitVec 32 := 1#32
  let c0_i32_285_r0 : BitVec 32 := 0#32
  let c1_i32_287_r0 : BitVec 32 := 1#32
  let arg19_r0 : BitVec 32 := Scf.iv c0_i32_285_r0 c1_i32_287_r0 k0_t4
  let c15_i32_1212_r0 : BitVec 32 := 15#32
  let v2409_r0 : BitVec 32 := Scalar.muli arg19_r0 c15_i32_1212_r0
  let v2410_r0 : BitVec 32 := Scalar.addi c1_i32_1213_r0 v2409_r0
  let c14_i32_1214_r0 : BitVec 32 := 14#32
  let v2411_r0 : BitVec 32 := Scalar.addi v2410_r0 c14_i32_1214_r0
  let c256_i32_1270_r0 : BitVec 32 := 256#32
  let v2539_r0 : BitVec 32 := Scalar.muli v2411_r0 c256_i32_1270_r0
  v2539_r0
def k0_off302 (c30_i32_360_r0 : BitVec 32) : Fin 3 → Nat :=
  let c2_i32_361_r0 : BitVec 32 := 2#32
  let v521_r0 : BitVec 32 := Scalar.remsi c30_i32_360_r0 c2_i32_361_r0
  let c0_i32_364_r0 : BitVec 32 := 0#32
  let c0_i32_365_r0 : BitVec 32 := 0#32
  ![v521_r0.toNat, 0, 0]
abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x256x12160 : Shape := ⟨3, ![4, 256, 12160]⟩
abbrev S17024x12160 : Shape := ⟨2, ![17024, 12160]⟩
abbrev S17024x380 : Shape := ⟨2, ![17024, 380]⟩
abbrev S_ : Shape := ⟨0, ![]⟩
abbrev S4x256 : Shape := ⟨2, ![4, 256]⟩
abbrev S4x256x1 : Shape := ⟨3, ![4, 256, 1]⟩
abbrev S254 : Shape := ⟨1, ![254]⟩
abbrev S1x1x254 : Shape := ⟨3, ![1, 1, 254]⟩
abbrev S4x256x254 : Shape := ⟨3, ![4, 256, 254]⟩
abbrev S17024x380x32 : Shape := ⟨3, ![17024, 380, 32]⟩
abbrev S17024x380x1 : Shape := ⟨3, ![17024, 380, 1]⟩
abbrev S4x256x17024 : Shape := ⟨3, ![4, 256, 17024]⟩

abbrev nBuf : Space → Nat
  | .hbm => 118
  | .vmem => 7
  | .smem => 0
  | _ => 0

abbrev bufTy : (tb : Table) → Fin (tcTables nBuf tb) → BufTy
  | .hbm, ⟨0, _⟩ => ⟨S4x256x12160, .bf16⟩
  | .hbm, ⟨1, _⟩ => ⟨S17024x12160, .fp8e4m3⟩
  | .hbm, ⟨2, _⟩ => ⟨S17024x380, .i8⟩
  | .hbm, ⟨3, _⟩ => ⟨S17024x12160, .fp8e4m3⟩
  | .hbm, ⟨4, _⟩ => ⟨S17024x380, .i8⟩
  | .hbm, ⟨5, _⟩ => ⟨S4x256x12160, .f32⟩
  | .hbm, ⟨6, _⟩ => ⟨S4x256x12160, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S254, .i32⟩
  | .hbm, ⟨14, _⟩ => ⟨S_, .i32⟩
  | .hbm, ⟨15, _⟩ => ⟨S254, .i32⟩
  | .hbm, ⟨16, _⟩ => ⟨S254, .i32⟩
  | .hbm, ⟨17, _⟩ => ⟨S_, .i32⟩
  | .hbm, ⟨18, _⟩ => ⟨S254, .i32⟩
  | .hbm, ⟨19, _⟩ => ⟨S254, .i32⟩
  | .hbm, ⟨20, _⟩ => ⟨S_, .i32⟩
  | .hbm, ⟨21, _⟩ => ⟨S254, .i32⟩
  | .hbm, ⟨22, _⟩ => ⟨S254, .i32⟩
  | .hbm, ⟨23, _⟩ => ⟨S254, .f32⟩
  | .hbm, ⟨24, _⟩ => ⟨S1x1x254, .f32⟩
  | .hbm, ⟨25, _⟩ => ⟨S4x256x254, .f32⟩
  | .hbm, ⟨26, _⟩ => ⟨S4x256x254, .f32⟩
  | .hbm, ⟨27, _⟩ => ⟨S4x256x254, .i1⟩
  | .hbm, ⟨28, _⟩ => ⟨S4x256x254, .i32⟩
  | .hbm, ⟨29, _⟩ => ⟨S_, .i32⟩
  | .hbm, ⟨30, _⟩ => ⟨S4x256, .i32⟩
  | .hbm, ⟨31, _⟩ => ⟨S4x256x1, .i32⟩
  | .hbm, ⟨32, _⟩ => ⟨S_, .i32⟩
  | .hbm, ⟨33, _⟩ => ⟨S4x256x1, .i32⟩
  | .hbm, ⟨34, _⟩ => ⟨S4x256x1, .i1⟩
  | .hbm, ⟨35, _⟩ => ⟨S_, .f32⟩
  | .hbm, ⟨36, _⟩ => ⟨S4x256x1, .f32⟩
  | .hbm, ⟨37, _⟩ => ⟨S4x256x1, .i1⟩
  | .hbm, ⟨38, _⟩ => ⟨S4x256x1, .i1⟩
  | .hbm, ⟨39, _⟩ => ⟨S_, .i32⟩
  | .hbm, ⟨40, _⟩ => ⟨S4x256x1, .i32⟩
  | .hbm, ⟨41, _⟩ => ⟨S4x256x1, .i32⟩
  | .hbm, ⟨42, _⟩ => ⟨S_, .i32⟩
  | .hbm, ⟨43, _⟩ => ⟨S_, .i32⟩
  | .hbm, ⟨44, _⟩ => ⟨S4x256x1, .i32⟩
  | .hbm, ⟨45, _⟩ => ⟨S4x256x1, .i32⟩
  | .hbm, ⟨46, _⟩ => ⟨S_, .i32⟩
  | .hbm, ⟨47, _⟩ => ⟨S4x256x1, .i32⟩
  | .hbm, ⟨48, _⟩ => ⟨S4x256x1, .i32⟩
  | .hbm, ⟨49, _⟩ => ⟨S_, .i32⟩
  | .hbm, ⟨50, _⟩ => ⟨S4x256x1, .i32⟩
  | .hbm, ⟨51, _⟩ => ⟨S4x256x1, .i32⟩
  | .hbm, ⟨52, _⟩ => ⟨S4x256x1, .f32⟩
  | .hbm, ⟨53, _⟩ => ⟨S4x256x1, .i32⟩
  | .hbm, ⟨54, _⟩ => ⟨S_, .i32⟩
  | .hbm, ⟨55, _⟩ => ⟨S4x256x1, .i32⟩
  | .hbm, ⟨56, _⟩ => ⟨S4x256x1, .i32⟩
  | .hbm, ⟨57, _⟩ => ⟨S_, .i32⟩
  | .hbm, ⟨58, _⟩ => ⟨S4x256x1, .i32⟩
  | .hbm, ⟨59, _⟩ => ⟨S4x256x1, .i32⟩
  | .hbm, ⟨60, _⟩ => ⟨S4x256x1, .f32⟩
  | .hbm, ⟨61, _⟩ => ⟨S4x256x12160, .f32⟩
  | .hbm, ⟨62, _⟩ => ⟨S4x256x12160, .f32⟩
  | .hbm, ⟨63, _⟩ => ⟨S4x256x12160, .fp8e4m3⟩
  | .hbm, ⟨64, _⟩ => ⟨S4x256x12160, .bf16⟩
  | .hbm, ⟨65, _⟩ => ⟨S17024x12160, .bf16⟩
  | .hbm, ⟨66, _⟩ => ⟨S17024x12160, .bf16⟩
  | .hbm, ⟨67, _⟩ => ⟨S17024x380x32, .bf16⟩
  | .hbm, ⟨68, _⟩ => ⟨S17024x380, .i32⟩
  | .hbm, ⟨69, _⟩ => ⟨S_, .i32⟩
  | .hbm, ⟨70, _⟩ => ⟨S17024x380, .i32⟩
  | .hbm, ⟨71, _⟩ => ⟨S17024x380, .i32⟩
  | .hbm, ⟨72, _⟩ => ⟨S_, .i32⟩
  | .hbm, ⟨73, _⟩ => ⟨S17024x380, .i32⟩
  | .hbm, ⟨74, _⟩ => ⟨S17024x380, .i32⟩
  | .hbm, ⟨75, _⟩ => ⟨S_, .i32⟩
  | .hbm, ⟨76, _⟩ => ⟨S17024x380, .i32⟩
  | .hbm, ⟨77, _⟩ => ⟨S17024x380, .i32⟩
  | .hbm, ⟨78, _⟩ => ⟨S17024x380, .f32⟩
  | .hbm, ⟨79, _⟩ => ⟨S17024x380, .bf16⟩
  | .hbm, ⟨80, _⟩ => ⟨S17024x380x1, .bf16⟩
  | .hbm, ⟨81, _⟩ => ⟨S17024x380x32, .bf16⟩
  | .hbm, ⟨82, _⟩ => ⟨S17024x380x32, .bf16⟩
  | .hbm, ⟨83, _⟩ => ⟨S17024x12160, .bf16⟩
  | .hbm, ⟨84, _⟩ => ⟨S17024x380x32, .bf16⟩
  | .hbm, ⟨85, _⟩ => ⟨S17024x380, .i32⟩
  | .hbm, ⟨86, _⟩ => ⟨S_, .i32⟩
  | .hbm, ⟨87, _⟩ => ⟨S17024x380, .i32⟩
  | .hbm, ⟨88, _⟩ => ⟨S17024x380, .i32⟩
  | .hbm, ⟨89, _⟩ => ⟨S_, .i32⟩
  | .hbm, ⟨90, _⟩ => ⟨S17024x380, .i32⟩
  | .hbm, ⟨91, _⟩ => ⟨S17024x380, .i32⟩
  | .hbm, ⟨92, _⟩ => ⟨S_, .i32⟩
  | .hbm, ⟨93, _⟩ => ⟨S17024x380, .i32⟩
  | .hbm, ⟨94, _⟩ => ⟨S17024x380, .i32⟩
  | .hbm, ⟨95, _⟩ => ⟨S17024x380, .f32⟩
  | .hbm, ⟨96, _⟩ => ⟨S17024x380, .bf16⟩
  | .hbm, ⟨97, _⟩ => ⟨S17024x380x1, .bf16⟩
  | .hbm, ⟨98, _⟩ => ⟨S17024x380x32, .bf16⟩
  | .hbm, ⟨99, _⟩ => ⟨S17024x380x32, .bf16⟩
  | .hbm, ⟨100, _⟩ => ⟨S17024x12160, .bf16⟩
  | .hbm, ⟨101, _⟩ => ⟨S4x256x17024, .f32⟩
  | .hbm, ⟨102, _⟩ => ⟨S4x256x17024, .f32⟩
  | .hbm, ⟨103, _⟩ => ⟨S4x256x17024, .f32⟩
  | .hbm, ⟨104, _⟩ => ⟨S4x256x17024, .f32⟩
  | .hbm, ⟨105, _⟩ => ⟨S4x256x17024, .f32⟩
  | .hbm, ⟨106, _⟩ => ⟨S4x256x17024, .f32⟩
  | .hbm, ⟨107, _⟩ => ⟨S4x256x17024, .f32⟩
  | .hbm, ⟨108, _⟩ => ⟨S4x256x17024, .f32⟩
  | .hbm, ⟨109, _⟩ => ⟨S_, .f32⟩
  | .hbm, ⟨110, _⟩ => ⟨S4x256x17024, .f32⟩
  | .hbm, ⟨111, _⟩ => ⟨S4x256x17024, .f32⟩
  | .hbm, ⟨112, _⟩ => ⟨S_, .f32⟩
  | .hbm, ⟨113, _⟩ => ⟨S4x256x17024, .f32⟩
  | .hbm, ⟨114, _⟩ => ⟨S4x256x17024, .f32⟩
  | .hbm, ⟨115, _⟩ => ⟨S4x256x17024, .f32⟩
  | .hbm, ⟨116, _⟩ => ⟨S4x256x17024, .f32⟩
  | .hbm, ⟨117, _⟩ => ⟨S4x256x17024, .bf16⟩
  | .local _ .vmem, ⟨0, _⟩ => ⟨S4x256x12160, .f32⟩
  | .local _ .vmem, ⟨1, _⟩ => ⟨S17024x12160, .fp8e4m3⟩
  | .local _ .vmem, ⟨2, _⟩ => ⟨S17024x12160, .fp8e4m3⟩
  | .local _ .vmem, ⟨3, _⟩ => ⟨S4x256x12160, .fp8e4m3⟩
  | .local _ .vmem, ⟨4, _⟩ => ⟨S4x256x12160, .bf16⟩
  | .local _ .vmem, ⟨5, _⟩ => ⟨S17024x12160, .bf16⟩
  | .local _ .vmem, ⟨6, _⟩ => ⟨S17024x12160, .bf16⟩
  | _, _ => ⟨S4x256x12160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v42_3 : Ref sig .tc := ⟨.hbm, 66, rfl⟩
abbrev main_v43 : Ref sig .tc := ⟨.hbm, 67, rfl⟩
abbrev main_v44 : Ref sig .tc := ⟨.hbm, 68, rfl⟩
abbrev main_c_12 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_15 : Ref sig .tc := ⟨.hbm, 86, rfl⟩
abbrev main_v59 : Ref sig .tc := ⟨.hbm, 87, rfl⟩
abbrev main_v60 : Ref sig .tc := ⟨.hbm, 88, rfl⟩
abbrev main_c_16 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_call1_v5 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x256x12160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S17024x12160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17024x12160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x12160 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x12160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S17024x12160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S17024x12160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Mx.Own.lean ====
/-
  Ownership of part of a buffer, read through a memref: the part is a predicate on the memref's
  indices, the contents a function of them. The rules for loads, stores, copies and waits are
  stated over it.
-/
module

public import Idealize.ShloMosaic.Lib.Memref
public import Idealize.ShloMosaic.Lib.Transfers
public import Idealize.ShloMosaic.Lib.Pipeline
public import Idealize.ShloMosaic.Lib.ValueLayout

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

section
variable {nD : Nat} {τ : Topo} {sig : RefSig} {Val : EltTy → Type}
variable {Ix : Type} [DecidableEq Ix] {Name : Type} [DecidableEq Name] {U : Type} [URA U] {Lvl : Type}

variable {sp : Space} {s : Shape} {e : EltTy}

/-- The elements of the buffer under the indices where `p` holds. -/
def dom (d : Dev nD) (m : Memref sig .tc sp s e) (p : s.Idx → Prop) : Finset (Idx (m.view.loc (d.tc : Thread nD τ))) := by
  classical exact (Finset.univ.filter p).map m.view.emb

theorem mem_dom {d : Dev nD} {m : Memref sig .tc sp s e} {p : s.Idx → Prop} {i} :
    i ∈ (dom d m p : Finset (Idx (m.view.loc (d.tc : Thread nD τ)))) ↔ ∃ j, p j ∧ m.view.emb j = i := by
  classical
  unfold dom
  simp only [Finset.mem_map, Finset.mem_filter, Finset.mem_univ, true_and]

theorem emb_mem_dom {d : Dev nD} {m : Memref sig .tc sp s e} {p : s.Idx → Prop} {j : s.Idx} :
    m.view.emb j ∈ (dom d m p : Finset (Idx (m.view.loc (d.tc : Thread nD τ)))) ↔ p j := by
  rw [mem_dom]
  constructor
  · rintro ⟨j', h, e⟩
    rwa [← m.view.emb.injective e]
  · exact fun h => ⟨j, h, rfl⟩

/-- Device `d` holds the elements under the indices where `p` holds, at share `q`, and reads `X` there. -/
def Own (d : Dev nD) (m : Memref sig .tc sp s e) (p : s.Idx → Prop) (q : PosShare TreeShare) (X : s.Idx → Val e) : sProp (MT nD τ sig Ix Val Name U Lvl) :=
  iprop(∃ f, ⌜∀ i, p i → m.view.read Val f i = X i⌝ ∗ (m.view.loc (d.tc : Thread nD τ) ↦[dom d m p]{q} f))

theorem Own.congr {d : Dev nD} {m : Memref sig .tc sp s e} {p p' : s.Idx → Prop} {q : PosShare TreeShare} {X X' : s.Idx → Val e}
    (hp : ∀ i, p i ↔ p' i) (hX : ∀ i, p i → X i = X' i) : (Own d m p q X : sProp (MT nD τ sig Ix Val Name U Lvl)) ⊢ Own d m p' q X' := by
  have : p = p' := funext fun i => propext (hp i)
  subst this
  unfold Own
  iintro ⟨%f, %hf, H⟩
  iexists f
  isplitr
  · ipureintro; exact fun i hi => (hf i hi).trans (hX i hi)
  · iexact H

theorem dom_union {d : Dev nD} {m : Memref sig .tc sp s e} {p p₁ p₂ : s.Idx → Prop} (hp : ∀ i, p i ↔ p₁ i ∨ p₂ i) :
    (dom d m p : Finset (Idx (m.view.loc (d.tc : Thread nD τ)))) = dom d m p₁ ∪ dom d m p₂ := by
  ext i
  rw [Finset.mem_union, mem_dom, mem_dom, mem_dom]
  constructor
  · rintro ⟨j, h, e⟩
    exact ((hp j).mp h).imp (fun h => ⟨j, h, e⟩) fun h => ⟨j, h, e⟩
  · rintro (⟨j, h, e⟩ | ⟨j, h, e⟩)
    · exact ⟨j, (hp j).mpr (.inl h), e⟩
    · exact ⟨j, (hp j).mpr (.inr h), e⟩

theorem dom_disjoint {d : Dev nD} {m : Memref sig .tc sp s e} {p₁ p₂ : s.Idx → Prop} (hd : ∀ i, p₁ i → ¬ p₂ i) :
    Disjoint (dom d m p₁ : Finset (Idx (m.view.loc (d.tc : Thread nD τ)))) (dom d m p₂) := by
  rw [Finset.disjoint_left]
  intro i h₁ h₂
  obtain ⟨j, h₃, rfl⟩ := mem_dom.mp h₁
  exact hd j h₃ (emb_mem_dom.mp h₂)

/-- A part split in two disjoint parts. -/
theorem Own.split {d : Dev nD} {m : Memref sig .tc sp s e} {p p₁ p₂ : s.Idx → Prop} {q : PosShare TreeShare} {X : s.Idx → Val e}
    (hp : ∀ i, p i ↔ p₁ i ∨ p₂ i) (hd : ∀ i, p₁ i → ¬ p₂ i) :
    (Own d m p q X : sProp (MT nD τ sig Ix Val Name U Lvl)) ⊢ iprop(Own d m p₁ q X ∗ Own d m p₂ q X) := by
  unfold Own
  iintro ⟨%f, %hf, H⟩
  rw [dom_union hp]
  icases (pointsTo_union (dom_disjoint hd)).1 $$ H with ⟨H₁, H₂⟩
  isplitl [H₁]
  · iexists f
    isplitr
    · ipureintro; exact fun i hi => hf i ((hp i).mpr (.inl hi))
    · iexact H₁
  · iexists f
    isplitr
    · ipureintro; exact fun i hi => hf i ((hp i).mpr (.inr hi))
    · iexact H₂

/-- Two disjoint parts joined. -/
theorem Own.join {d : Dev nD} {m : Memref sig .tc sp s e} {p p₁ p₂ : s.Idx → Prop} {q : PosShare TreeShare} {X X₁ X₂ : s.Idx → Val e}
    (hp : ∀ i, p i ↔ p₁ i ∨ p₂ i) (hd : ∀ i, p₁ i → ¬ p₂ i)
    (h₁ : ∀ i, p₁ i → X₁ i = X i) (h₂ : ∀ i, p₂ i → X₂ i = X i) :
    iprop(Own d m p₁ q X₁ ∗ Own d m p₂ q X₂) ⊢ (Own d m p q X : sProp (MT nD τ sig Ix Val Name U Lvl)) := by
  classical
  unfold Own
  iintro ⟨⟨%f, %hf, H₁⟩, ⟨%g, %hg, H₂⟩⟩
  let S₂ : Finset (Idx (m.view.loc (d.tc : Thread nD τ))) := dom d m p₂
  iexists S₂.piecewise g f
  isplitr
  · ipureintro
    intro i hi
    by_cases h : p₂ i
    · rw [View.read_apply, Finset.piecewise_eq_of_mem S₂ _ _ (emb_mem_dom.mpr h), ← h₂ i h, ← hg i h, View.read_apply]
    · have h' := ((hp i).mp hi).resolve_right h
      rw [View.read_apply, Finset.piecewise_eq_of_notMem S₂ _ _ (fun hh => h (emb_mem_dom.mp hh)), ← h₁ i h', ← hf i h', View.read_apply]
  · rw [dom_union hp]
    iapply (pointsTo_join (dom_disjoint hd))
    isplitl [H₁]; · iexact H₁
    iexact H₂

/-- A part held at a share split in two shares. -/
theorem Own.share {d : Dev nD} {m : Memref sig .tc sp s e} {p : s.Idx → Prop} {q q₁ q₂ : PosShare TreeShare} {X : s.Idx → Val e}
    (h : q ∈ q₁ ·? q₂) : (Own d m p q X : sProp (MT nD τ sig Ix Val Name U Lvl)) ⊢ iprop(Own d m p q₁ X ∗ Own d m p q₂ X) := by
  unfold Own
  iintro ⟨%f, %hf, H⟩
  icases (pointsTo_share h).1 $$ H with ⟨H₁, H₂⟩
  isplitl [H₁]
  · iexists f
    isplitr
    · ipureintro; exact hf
    · iexact H₁
  · iexists f
    isplitr
    · ipureintro; exact hf
    · iexact H₂

/-- Two shares of a part put together. -/
theorem Own.unshare {d : Dev nD} {m : Memref sig .tc sp s e} {p : s.Idx → Prop} {q q₁ q₂ : PosShare TreeShare} {X X' : s.Idx → Val e}
    (h : q ∈ q₁ ·? q₂) : iprop(Own d m p q₁ X ∗ Own d m p q₂ X') ⊢ (Own d m p q X : sProp (MT nD τ sig Ix Val Name U Lvl)) := by
  unfold Own
  iintro ⟨⟨%f, %hf, H₁⟩, ⟨%g, %hg, H₂⟩⟩
  ihave %hag := pointsTo_agree $$ [H₁ H₂]
  · isplitl [H₁]; · iexact H₁
    iexact H₂
  have e : (m.view.loc (d.tc : Thread nD τ) ↦[dom d m p]{q₂} g : sProp (MT nD τ sig Ix Val Name U Lvl)) = m.view.loc (d.tc : Thread nD τ) ↦[dom d m p]{q₂} f :=
    pointsTo_congr fun i hi => (hag i (Finset.mem_inter.mpr ⟨hi, hi⟩)).1.symm
  have hj : iprop((m.view.loc (d.tc : Thread nD τ) ↦[dom d m p]{q₁} f) ∗ m.view.loc (d.tc : Thread nD τ) ↦[dom d m p]{q₂} g)
      ⊢ (m.view.loc (d.tc : Thread nD τ) ↦[dom d m p]{q} f : sProp (MT nD τ sig Ix Val Name U Lvl)) := by
    rw [e]; exact (pointsTo_share h).2
  iexists f
  isplitr
  · ipureintro; exact hf
  · iapply hj
    isplitl [H₁]; · iexact H₁
    iexact H₂

/-- A rectangle's part, as the whole of the slice. -/
theorem Own.toSlice {d : Dev nD} {m : Memref sig .tc sp s e} {r : Rect s} {hr : ∀ a, r.stride a = 1} {p : s.Idx → Prop}
    {q : PosShare TreeShare} {X : s.Idx → Val e} {p' : r.shape.Idx → Prop}
    (hp : ∀ i, p i ↔ ∃ j, p' j ∧ r.emb j = i) :
    (Own d m p q X : sProp (MT nD τ sig Ix Val Name U Lvl)) ⊢ Own d (m.slice r hr) p' q (fun j => X (r.emb j)) := by
  unfold Own
  iintro ⟨%f, %hf, H⟩
  iexists f
  isplitr
  · ipureintro; exact fun j hj => hf (r.emb j) ((hp _).mpr ⟨j, hj, rfl⟩)
  · have e : (dom d m p : Finset (Idx (m.view.loc (d.tc : Thread nD τ)))) = dom d (m.slice r hr) p' := by
      ext i
      rw [mem_dom, mem_dom]
      constructor
      · rintro ⟨j, h, rfl⟩
        obtain ⟨j', h', rfl⟩ := (hp j).mp h
        exact ⟨j', h', rfl⟩
      · rintro ⟨j', h', rfl⟩
        exact ⟨r.emb j', (hp _).mpr ⟨j', h', rfl⟩, rfl⟩
    rw [e]
    iexact H

theorem Own.ofSlice {d : Dev nD} {m : Memref sig .tc sp s e} {r : Rect s} {hr : ∀ a, r.stride a = 1} {p : s.Idx → Prop}
    {q : PosShare TreeShare} {X : s.Idx → Val e} {p' : r.shape.Idx → Prop} {Y : r.shape.Idx → Val e}
    (hp : ∀ i, p i ↔ ∃ j, p' j ∧ r.emb j = i) (hY : ∀ j, p' j → Y j = X (r.emb j)) :
    (Own d (m.slice r hr) p' q Y : sProp (MT nD τ sig Ix Val Name U Lvl)) ⊢ Own d m p q X := by
  unfold Own
  iintro ⟨%f, %hf, H⟩
  iexists f
  isplitr
  · ipureintro
    intro i hi
    obtain ⟨j, hj, rfl⟩ := (hp i).mp hi
    exact (hf j hj).trans (hY j hj)
  · have e : (dom d m p : Finset (Idx (m.view.loc (d.tc : Thread nD τ)))) = dom d (m.slice r hr) p' := by
      ext i
      rw [mem_dom, mem_dom]
      constructor
      · rintro ⟨j, h, rfl⟩
        obtain ⟨j', h', rfl⟩ := (hp j).mp h
        exact ⟨j', h', rfl⟩
      · rintro ⟨j', h', rfl⟩
        exact ⟨r.emb j', (hp _).mpr ⟨j', h', rfl⟩, rfl⟩
    rw [e]
    iexact H

theorem dom_squeeze {s' : Shape} {d : Dev nD} {m : Memref sig .tc sp s e} {h : s.Squeezes s'} :
    (dom d (m.squeeze s' h) (fun _ => True) : Finset (Idx (m.view.loc (d.tc : Thread nD τ)))) = dom d m (fun _ => True) := by
  ext i
  rw [mem_dom, mem_dom]
  constructor
  · rintro ⟨j, -, rfl⟩
    exact ⟨_, trivial, rfl⟩
  · rintro ⟨j, -, rfl⟩
    refine ⟨(Shape.reshapeEquiv h.numel_eq).symm j, trivial, ?_⟩
    show m.view.emb (Shape.reshapeEquiv _ ((Shape.reshapeEquiv _).symm j)) = _
    rw [Equiv.apply_symm_apply]

/-- The whole of a memref, as the whole of its squeeze. -/
theorem Own.toSqueeze {s' : Shape} {d : Dev nD} {m : Memref sig .tc sp s e} {h : s.Squeezes s'}
    {q : PosShare TreeShare} {X : s.Idx → Val e} :
    (Own d m (fun _ => True) q X : sProp (MT nD τ sig Ix Val Name U Lvl)) ⊢ Own d (m.squeeze s' h) (fun _ => True) q (fun j => X (Shape.reshapeEquiv h.numel_eq j)) := by
  unfold Own
  iintro ⟨%f, %hf, H⟩
  iexists f
  isplitr
  · ipureintro; exact fun j _ => hf _ trivial
  · rw [← dom_squeeze (h := h)]
    iexact H

theorem Own.ofSqueeze {s' : Shape} {d : Dev nD} {m : Memref sig .tc sp s e} {h : s.Squeezes s'}
    {q : PosShare TreeShare} {X : s.Idx → Val e} {Y : s'.Idx → Val e} (hY : ∀ j, Y j = X (Shape.reshapeEquiv h.numel_eq j)) :
    (Own d (m.squeeze s' h) (fun _ => True) q Y : sProp (MT nD τ sig Ix Val Name U Lvl)) ⊢ Own d m (fun _ => True) q X := by
  unfold Own
  iintro ⟨%f, %hf, H⟩
  iexists f
  isplitr
  · ipureintro
    intro i _
    have := (hf ((Shape.reshapeEquiv h.numel_eq).symm i) trivial).trans (hY _)
    rw [Equiv.apply_symm_apply] at this
    rw [← this]
    show _ = m.view.read Val f (Shape.reshapeEquiv _ ((Shape.reshapeEquiv _).symm i))
    rw [Equiv.apply_symm_apply]
  · rw [← dom_squeeze (h := h)]
    iexact H

/-- The whole of a memref is the points-to of its view. -/
theorem dom_true {d : Dev nD} {m : Memref sig .tc sp s e} :
    (dom d m (fun _ => True) : Finset (Idx (m.view.loc (d.tc : Thread nD τ)))) = m.view.set := by
  ext i
  rw [mem_dom]
  simp [View.set]

theorem Own.intro {d : Dev nD} {m : Memref sig .tc sp s e} {q : PosShare TreeShare} (f : Buf Val (m.view.loc (d.tc : Thread nD τ))) :
    (m.view.loc (d.tc : Thread nD τ) ↦[m.view.set]{q} f : sProp (MT nD τ sig Ix Val Name U Lvl)) ⊢ Own d m (fun _ => True) q (m.view.read Val f) := by
  unfold Own
  iintro H
  iexists f
  isplitr
  · ipureintro; exact fun _ _ => rfl
  · rw [dom_true]; iexact H

instance Own.storable (d : Dev nD) (m : Memref sig .tc sp s e) (p : s.Idx → Prop) (q : PosShare TreeShare) (X : s.Idx → Val e) :
    BI.Storable (upEmb : UEmb _ (MT nD τ sig Ix Val Name U Lvl)) (Own d m p q X) := by
  unfold Own; infer_instance
end

section Rules
variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (d : Dev nD) (bd : Option 𝒱.V)
variable {sp : Space} {s : Shape} {e : EltTy} {α : Type} {Q : α → sProp (MT nD τ sig Ix Val Name U Lvl)}

/-- A load. -/
theorem Own.load {cs : CoreSpace} {m : Memref sig .tc cs s e} {r : Rect s} {hl : m.view.LoadsAt r}
    {k : (r.shape.Idx → Val e) → Prog (TpuEff nD τ sig Val Λ .tc) α} {p : s.Idx → Prop} {q : PosShare TreeShare} {X : s.Idx → Val e}
    (hp : ∀ j, p (r.emb j)) :
    (Own d m p q X : sProp (MT nD τ sig Ix Val Name U Lvl)) ⊢ iprop((Own d m p q X -∗ wp frame (wpE defs 𝒱 (d.tc : Thread nD τ) bd) Set.univ (k fun j => X (r.emb j)) Q)
      -∗ wp frame (wpE defs 𝒱 (d.tc : Thread nD τ) bd) Set.univ (.op (.load m r hl) k) Q) := by
  iintro HO HK
  unfold Own
  icases HO with ⟨%f, %hf, H⟩
  have hS : (m.access r).set ⊆ (dom d m p : Finset (Idx (m.view.loc (d.tc : Thread nD τ)))) := by
    intro i hi
    rw [View.set, Finset.mem_map] at hi
    obtain ⟨j, -, rfl⟩ := hi
    exact emb_mem_dom.mpr (hp j)
  have hv : (m.access r).read Val f = fun j => X (r.emb j) := funext fun j => hf _ (hp j)
  rw [← hv]
  iapply (wp_load_rect (defs := defs) 𝒱 (d.tc : Thread nD τ) bd Set.univ (m := m) (r := r) (hl := hl) (k := k) (Q := Q) (q := q) (f := f) hS) $$ H
  iintro H
  iapply HK
  iexists f
  isplitr
  · ipureintro; exact hf
  · iexact H

/-- A store of a whole rectangle. -/
theorem Own.store {cs : CoreSpace} {m : Memref sig .tc cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} {p : s.Idx → Prop} {X : s.Idx → Val e}
    (hp : ∀ j, p (r.emb j)) :
    (Own d m p fullShare X : sProp (MT nD τ sig Ix Val Name U Lvl)) ⊢ iprop((Own d m p fullShare (r.overlay X w) -∗ wp frame (wpE defs 𝒱 (d.tc : Thread nD τ) bd) Set.univ (k ⟨⟩) Q)
      -∗ wp frame (wpE defs 𝒱 (d.tc : Thread nD τ) bd) Set.univ (.op (.store m r w Finset.univ hx hm) k) Q) := by
  iintro HO HK
  unfold Own
  icases HO with ⟨%f, %hf, H⟩
  have hS : (m.access r).setOn Finset.univ ⊆ (dom d m p : Finset (Idx (m.view.loc (d.tc : Thread nD τ)))) := by
    intro i hi
    rw [View.setOn, Finset.mem_map] at hi
    obtain ⟨j, -, rfl⟩ := hi
    exact emb_mem_dom.mpr (hp j)
  iapply (wp_store (defs := defs) 𝒱 (d.tc : Thread nD τ) bd Set.univ (m := m) (r := r) (w := w) (hx := hx) (hm := hm) (k := k) (Q := Q) (f := f) hS) $$ H
  iintro H
  iapply HK
  iexists (m.access r).write Val f w Finset.univ
  isplitr
  · ipureintro
    intro i hi
    by_cases h : ∃ j, r.emb j = i
    · obtain ⟨j, rfl⟩ := h
      rw [Rect.overlay_emb]
      exact View.read_write_of_mem (v := m.access r) f w (Finset.mem_univ j)
    · have hn : i ∉ r.set := fun hh => h (LoadRect.exists_idx_of_mem _ hh)
      rw [Rect.overlay_of_not_mem _ _ _ hn, ← hf i hi, View.read_apply, View.read_apply, View.write_of_not_mem]
      intro hmem
      rw [View.setOn, Finset.mem_map] at hmem
      obtain ⟨j, -, hj⟩ := hmem
      exact h ⟨j, m.view.emb.injective hj⟩
  · iexact H

variable (EC : UEmb Counters (MT nD τ sig Ix Val Name U Lvl)) [Infinite Name] [EC.LandsIn (upEmb : UEmb _ (MT nD τ sig Ix Val Name U Lvl))]

/-- The start of a copy. -/
theorem Own.dma {sp' : Space} {src : Memref sig .tc sp s e} {dst : Memref sig .tc sp' s e} {sm : SemLoc sig}
    {hsrc : src.view.WordExact} {hdst : dst.view.WordExact} {hsem : DmaTarget.Typed (nD := nD) (p := (d.tc : Thread nD τ).2) sp sm (.here dst)}
    {k : PUnit → Prog (TpuEff nD τ sig Val Λ .tc) α} {q : PosShare TreeShare} {X Y : s.Idx → Val e}
    (ι : Ix) (N : ℕ) (hN : dst.view.amount sm = N) (hN0 : 0 < N) :
    iprop(Own d src (fun _ => True) q X ∗ Own d dst (fun _ => True) fullShare Y ∗ semVal ((d.tc : Thread nD τ), sm) 0)
      ⊢ iprop((Flight EC (d.tc : Thread nD τ) sm ι N iprop(Own d dst (fun _ => True) fullShare X ∗ Own d src (fun _ => True) q X)
              -∗ wp frame (wpE defs 𝒱 (d.tc : Thread nD τ) bd) Set.univ (k ⟨⟩) Q)
          -∗ wp frame (wpE defs 𝒱 (d.tc : Thread nD τ) bd) Set.univ (.op (.enqueueDma src (.here dst) sm hsrc hdst hsem) k) Q) := by
  iintro ⟨HS, HD, Hv⟩ HK
  unfold Own
  icases HS with ⟨%f, %hf, HS⟩
  icases HD with ⟨%g, -, HD⟩
  rw [dom_true, dom_true]
  iapply (wp_dmaLocal EC 𝒱 (d.tc : Thread nD τ) bd (src := src) (dst := dst) (sm := sm) (q := q) (fs := f) (fd := g) ι N hN hN0 (Finset.Subset.refl _)) $$ [HS HD Hv]
  · isplitl [HS]; · iexact HS
    isplitl [HD]; · iexact HD
    iexact Hv
  iintro HF
  iapply HK
  iapply (Flight_mono EC (d.tc : Thread nD τ) ?_) $$ HF
  iintro ⟨HD, HS⟩
  isplitl [HD]
  · iexists _
    isplitr
    · ipureintro
      exact fun i _ => (congrFun (View.read_write_univ (v := dst.view) g _) i).trans (hf i trivial)
    · iexact HD
  · iexists f
    isplitr
    · ipureintro; exact hf
    · iexact HS

end Rules
end Cert.Mx
-- ==== Proof.Mx.Prog.lean ====
module

public import Idealize.ShloMosaic.Lib.Pipeline
public import Idealize.ShloMosaic.Lib.Scf
public import Idealize.ShloMosaic.Lib.Sig
public import Idealize.ShloMosaic.PureOps
public import Idealize.ShloMosaic.Lib.Mxu

@[expose] public section

noncomputable section

namespace Cert.Mx

open Idealize.ShloMosaic Idealize.SL.Sem

variable {sig : RefSig} {nD : Nat} {τ : Topo} {Λ : Labels} {F : FTy → Type} [FloatOps F]

abbrev S1024x12288 : Shape := ⟨2, ![1024, 12288]⟩
abbrev S2x256x384 : Shape := ⟨3, ![2, 256, 384]⟩
abbrev S3x2x256x12160 : Shape := ⟨4, ![3, 2, 256, 12160]⟩
abbrev S256x128 : Shape := ⟨2, ![256, 128]⟩
abbrev S256x256 : Shape := ⟨2, ![256, 256]⟩
abbrev S256x128x1 : Shape := ⟨3, ![256, 128, 1]⟩
abbrev S1x256x128 : Shape := ⟨3, ![1, 256, 128]⟩
abbrev S1x1x256x128 : Shape := ⟨4, ![1, 1, 256, 128]⟩

theorem h_S256x256 : 0 < S256x256.numel := by decide
theorem h_S1x256x128 : 0 < S1x256x128.numel := by decide
theorem h_S1x1x256x128 : 0 < S1x1x256x128.numel := by decide
theorem concat_S256x256 : Shape.Concatenates [S256x128, S256x128] S256x256 1 := by decide
theorem fits0 : Mxu.Fits 0 256 := by decide
theorem fits64 : Mxu.Fits 64 256 := by decide
theorem fits128 : Mxu.Fits 128 256 := by decide
theorem fits192 : Mxu.Fits 192 256 := by decide

/-- The lane each lane of a 128-lane piece reads its scale from: `li` (a lane's block of 32) moved by `b`. -/
def laneIdx (li : IVec S256x128 32) (b : BitVec 32) : IVec S256x128 32 :=
  let v := addi li (broadcast S256x128 b)
  shapeCast S256x128
    (shapeCast S256x128x1
      (select (cmpi .slt v (broadcast S256x128 0#32)) (addi v (broadcast S256x128 128#32)) v) (by decide))
    (by decide)

/-- A window of the packed scales as a 256 x 128 f32 array. -/
def scaleWin (sv : Vec F S1x256x128 .bf16) : FVec F S256x128 .f32 :=
  extf .f32 (shapeCast S256x128 sv (by decide)) (by decide)

/-- One 256 x 128 piece of a decoded weight tile: the codes times their scales. -/
def piece (li : IVec S256x128 32) (b : BitVec 32) (sv : Vec F S1x256x128 .bf16)
    (w : Vec F S1x1x256x128 .fp8e4m3) : FVec F S256x128 .bf16 :=
  mulf (extf .bf16 (shapeCast S256x128 w (by decide)) (by decide))
    (truncf .bf16 (dynamicGather 1 (scaleWin sv) (laneIdx li b)) (by decide))

/-- A decoded 256 x 256 weight tile. -/
def wtile (li : IVec S256x128 32) (b : BitVec 32) (sv : Vec F S1x256x128 .bf16)
    (w0 w1 : Vec F S1x1x256x128 .fp8e4m3) : FVec F S256x256 .bf16 :=
  concatenate S256x256 1 [⟨S256x128, piece li (Scalar.addi b 0#32) sv w0⟩, ⟨S256x128, piece li (Scalar.addi b 4#32) sv w1⟩] concat_S256x256

/-- A window inside its array. -/
abbrev Inb {n : Nat} (o sz s : Fin n → Nat) : Prop := ∀ a, o a + sz a ≤ s a

/-- Load a 256 x 256 window of the activations. -/
def ldx (xb : Memref sig .tc .vmem S1024x12288 .bf16) (o : Fin 2 → Nat) (h : Inb o ![256, 256] ![1024, 12288]) :
    Prog (TpuEff nD τ sig (Elt F) Λ .tc) (Vec F S256x256 .bf16) :=
  Prog.lift (.load xb (Rect.unit (s := S1024x12288) o S256x256.size h).toLoadRect (View.loadsAt_vmem h_S256x256))

/-- Load a window of the scales. -/
def lds (scl : Memref sig .tc .vmem S2x256x384 .bf16) (o : Fin 3 → Nat) (h : Inb o ![1, 256, 128] ![2, 256, 384]) :
    Prog (TpuEff nD τ sig (Elt F) Λ .tc) (Vec F S1x256x128 .bf16) :=
  Prog.lift (.load scl (Rect.unit (s := S2x256x384) o S1x256x128.size h).toLoadRect (View.loadsAt_vmem h_S1x256x128))

/-- Load a 256 x 128 window of the codes. -/
def ldw (wb : Memref sig .tc .vmem S3x2x256x12160 .fp8e4m3) (o : Fin 4 → Nat) (h : Inb o ![1, 1, 256, 128] ![3, 2, 256, 12160]) :
    Prog (TpuEff nD τ sig (Elt F) Λ .tc) (Vec F S1x1x256x128 .fp8e4m3) :=
  Prog.lift (.load wb (Rect.unit (s := S3x2x256x12160) o S1x1x256x128.size h).toLoadRect (View.loadsAt_vmem h_S1x1x256x128))

/-- Where one tile's scales and codes are read. -/
structure PushAt where
  s0 : Fin 3 → Nat
  hs0 : Inb s0 ![1, 256, 128] ![2, 256, 384]
  w00 : Fin 4 → Nat
  hw00 : Inb w00 ![1, 1, 256, 128] ![3, 2, 256, 12160]
  w01 : Fin 4 → Nat
  hw01 : Inb w01 ![1, 1, 256, 128] ![3, 2, 256, 12160]
  s1 : Fin 3 → Nat
  hs1 : Inb s1 ![1, 256, 128] ![2, 256, 384]
  w10 : Fin 4 → Nat
  hw10 : Inb w10 ![1, 1, 256, 128] ![3, 2, 256, 12160]
  w11 : Fin 4 → Nat
  hw11 : Inb w11 ![1, 1, 256, 128] ![3, 2, 256, 12160]
  lane : BitVec 32

/-- Decode the gate's and the up's tile and stage them in the two units. -/
def pushP (scl : Memref sig .tc .vmem S2x256x384 .bf16) (wb : Memref sig .tc .vmem S3x2x256x12160 .fp8e4m3)
    (li : IVec S256x128 32) (p : PushAt) (s : Mxu F) : Prog (TpuEff nD τ sig (Elt F) Λ .tc) (Mxu F) := do
  let v0 ← lds scl p.s0 p.hs0
  let w00 ← ldw wb p.w00 p.hw00
  let w01 ← ldw wb p.w01 p.hw01
  let s ← s.pushRhs 0 0 true (wtile li p.lane v0 w00 w01)
  let v1 ← lds scl p.s1 p.hs1
  let w10 ← ldw wb p.w10 p.hw10
  let w11 ← ldw wb p.w11 p.hw11
  s.pushRhs 1 0 true (wtile li p.lane v1 w10 w11)

/-- Where one reduction step reads the activations' four row blocks. -/
structure LhsAt where
  o0 : Fin 2 → Nat
  h0 : Inb o0 ![256, 256] ![1024, 12288]
  o1 : Fin 2 → Nat
  h1 : Inb o1 ![256, 256] ![1024, 12288]
  o2 : Fin 2 → Nat
  h2 : Inb o2 ![256, 256] ![1024, 12288]
  o3 : Fin 2 → Nat
  h3 : Inb o3 ![256, 256] ![1024, 12288]

/-- One reduction step: four row blocks through both units, the next tiles decoded after the first. -/
def stepP (xb : Memref sig .tc .vmem S1024x12288 .bf16) (l : LhsAt)
    (push : Mxu F → Prog (TpuEff nD τ sig (Elt F) Λ .tc) (Mxu F)) (s : Mxu F) : Prog (TpuEff nD τ sig (Elt F) Λ .tc) (Mxu F) := do
  let x0 ← ldx xb l.o0 l.h0
  let s ← push ((s.accLhs 0 0 0 x0 fits0).accLhs 1 0 0 x0 fits0)
  let x1 ← ldx xb l.o1 l.h1
  let s ← s.accLhsLoaded 0 64 x1 fits64
  let s ← s.accLhsLoaded 1 64 x1 fits64
  let x2 ← ldx xb l.o2 l.h2
  let s ← s.accLhsLoaded 0 128 x2 fits128
  let s ← s.accLhsLoaded 1 128 x2 fits128
  let x3 ← ldx xb l.o3 l.h3
  let s ← s.accLhsLoaded 0 192 x3 fits192
  s.accLhsLoaded 1 192 x3 fits192

end Cert.Mx
-- ==== Proof.Mx.Ker.lean ====
/-
  The kernel as a program of named pieces, every offset in closed form: the copies, the quantiser's
  trips, the decoded tiles, the reduction steps, the gated outputs, and their order.
-/
module

public import proofs.«01_k».proof.Proof.Mx.Prog

@[expose] public section

noncomputable section

namespace Cert.Mx

open Idealize.ShloMosaic Idealize.SL.Sem

abbrev S1024x12160 : Shape := ⟨2, ![1024, 12160]⟩
abbrev S17024x12160 : Shape := ⟨2, ![17024, 12160]⟩
abbrev S17024x380 : Shape := ⟨2, ![17024, 380]⟩
abbrev S1024x17024 : Shape := ⟨2, ![1024, 17024]⟩
abbrev S1024x1 : Shape := ⟨2, ![1024, 1]⟩
abbrev S1024x128 : Shape := ⟨2, ![1024, 128]⟩
abbrev S1024x256 : Shape := ⟨2, ![1024, 256]⟩
abbrev S3x2x256x380 : Shape := ⟨4, ![3, 2, 256, 380]⟩
abbrev S2x1024x256 : Shape := ⟨3, ![2, 1024, 256]⟩
abbrev S2x32x12160 : Shape := ⟨3, ![2, 32, 12160]⟩
abbrev S32x12160 : Shape := ⟨2, ![32, 12160]⟩
abbrev S1x32x12160 : Shape := ⟨3, ![1, 32, 12160]⟩
abbrev S32x128 : Shape := ⟨2, ![32, 128]⟩
abbrev S1x32x128 : Shape := ⟨3, ![1, 32, 128]⟩
abbrev S32x1 : Shape := ⟨2, ![32, 1]⟩
abbrev S256x12160 : Shape := ⟨2, ![256, 12160]⟩
abbrev S256x380 : Shape := ⟨2, ![256, 380]⟩
abbrev S128x12160 : Shape := ⟨2, ![128, 12160]⟩
abbrev S128x380 : Shape := ⟨2, ![128, 380]⟩
abbrev S1x1x256x12160 : Shape := ⟨4, ![1, 1, 256, 12160]⟩
abbrev S1x1x256x380 : Shape := ⟨4, ![1, 1, 256, 380]⟩
abbrev S1x1x128x12160 : Shape := ⟨4, ![1, 1, 128, 12160]⟩
abbrev S1x1x128x380 : Shape := ⟨4, ![1, 1, 128, 380]⟩
abbrev S1x1024x256 : Shape := ⟨3, ![1, 1024, 256]⟩
abbrev S1x1024x128 : Shape := ⟨3, ![1, 1024, 128]⟩
abbrev S1x256x380 : Shape := ⟨3, ![1, 256, 380]⟩
abbrev S1x256x256 : Shape := ⟨3, ![1, 256, 256]⟩
abbrev S_ : Shape := ⟨0, ![]⟩
abbrev S1 : Shape := ⟨1, ![1]⟩
abbrev S2 : Shape := ⟨1, ![2]⟩
abbrev S32 : Shape := ⟨1, ![32]⟩
abbrev S1x1 : Shape := ⟨2, ![1, 1]⟩
abbrev S3x12 : Shape := ⟨2, ![3, 12]⟩

theorem inb1 {o z s : Nat} (h : o + z ≤ s) : Inb ![o] ![z] ![s] := fun a => by
  match a with | 0 => exact h
theorem inb2 {o o' z z' s s' : Nat} (h : o + z ≤ s) (h' : o' + z' ≤ s') : Inb ![o, o'] ![z, z'] ![s, s'] := fun a => by
  match a with | 0 => exact h | 1 => exact h'
theorem inb3 {o o' o2 z z' z2 s s' s2 : Nat} (h : o + z ≤ s) (h' : o' + z' ≤ s') (h2 : o2 + z2 ≤ s2) :
    Inb ![o, o', o2] ![z, z', z2] ![s, s', s2] := fun a => by
  match a with | 0 => exact h | 1 => exact h' | 2 => exact h2
theorem inb4 {o o' o2 o3 z z' z2 z3 s s' s2 s3 : Nat} (h : o + z ≤ s) (h' : o' + z' ≤ s') (h2 : o2 + z2 ≤ s2) (h3 : o3 + z3 ≤ s3) :
    Inb ![o, o', o2, o3] ![z, z', z2, z3] ![s, s', s2, s3] := fun a => by
  match a with | 0 => exact h | 1 => exact h' | 2 => exact h2 | 3 => exact h3

variable {sig : RefSig}

/-- The kernel's buffers and semaphores. -/
structure Mem (sig : RefSig) where
  x : Memref sig .tc .hbm S1024x12160 .bf16
  w : Fin 2 → Memref sig .tc .hbm S17024x12160 .fp8e4m3
  s : Fin 2 → Memref sig .tc .hbm S17024x380 .i8
  y : Memref sig .tc .hbm S1024x17024 .bf16
  c : Memref sig .tc .hbm S1024x12160 .fp8e4m3
  xs : Memref sig .tc .vmem S1024x1 .f32
  xb : Memref sig .tc .vmem S1024x12288 .bf16
  wb : Memref sig .tc .vmem S3x2x256x12160 .fp8e4m3
  sb : Memref sig .tc .vmem S3x2x256x380 .i8
  scl : Memref sig .tc .vmem S2x256x384 .bf16
  xsb : Memref sig .tc .vmem S1024x128 .f32
  yb : Memref sig .tc .vmem S2x1024x256 .bf16
  cb : Memref sig .tc .vmem S2x32x12160 .fp8e4m3
  xsem : DmaSems sig S32
  wsem : DmaSems sig S3x12
  ysem : DmaSems sig S2
  csem : DmaSems sig S2
  hx : x.IsWhole
  hw : ∀ g, (w g).IsWhole
  hs : ∀ g, (s g).IsWhole
  hy : y.IsWhole
  hc : c.IsWhole
  hxs : xs.IsWhole
  hxb : xb.IsWhole
  hwb : wb.IsWhole
  hsb : sb.IsWhole
  hscl : scl.IsWhole
  hxsb : xsb.IsWhole
  hyb : yb.IsWhole
  hcb : cb.IsWhole

theorem sq_S1 : S1.Squeezes S_ := by decide
theorem sq_S1x1 : S1x1.Squeezes S_ := by decide
theorem sq_S1x1024x128 : S1x1024x128.Squeezes S1024x128 := by decide
theorem sq_S1x1024x256 : S1x1024x256.Squeezes S1024x256 := by decide
theorem sq_S1x1x128x12160 : S1x1x128x12160.Squeezes S128x12160 := by decide
theorem sq_S1x1x128x380 : S1x1x128x380.Squeezes S128x380 := by decide
theorem sq_S1x1x256x12160 : S1x1x256x12160.Squeezes S256x12160 := by decide
theorem sq_S1x1x256x380 : S1x1x256x380.Squeezes S256x380 := by decide
theorem sq_S1x32x12160 : S1x32x12160.Squeezes S32x12160 := by decide

section Windows
variable {sp : Space}

abbrev xWin (m : Memref sig .tc .hbm S1024x12160 .bf16) (o : Fin 2 → Nat) (h : Inb o ![32, 12160] ![1024, 12160]) : Memref sig .tc .hbm S32x12160 .bf16 :=
  m.slice (Rect.unit (s := S1024x12160) o S32x12160.size h) (fun _ => rfl)
abbrev xbWin (m : Memref sig .tc .vmem S1024x12288 .bf16) (o : Fin 2 → Nat) (h : Inb o ![32, 12160] ![1024, 12288]) : Memref sig .tc .vmem S32x12160 .bf16 :=
  m.slice (Rect.unit (s := S1024x12288) o S32x12160.size h) (fun _ => rfl)
abbrev cWin (m : Memref sig .tc .hbm S1024x12160 .fp8e4m3) (o : Fin 2 → Nat) (h : Inb o ![32, 12160] ![1024, 12160]) : Memref sig .tc .hbm S32x12160 .fp8e4m3 :=
  m.slice (Rect.unit (s := S1024x12160) o S32x12160.size h) (fun _ => rfl)
abbrev cbWin (m : Memref sig .tc .vmem S2x32x12160 .fp8e4m3) (o : Fin 3 → Nat) (h : Inb o ![1, 32, 12160] ![2, 32, 12160]) : Memref sig .tc .vmem S32x12160 .fp8e4m3 :=
  (m.slice (Rect.unit (s := S2x32x12160) o S1x32x12160.size h) (fun _ => rfl)).squeeze S32x12160 sq_S1x32x12160
abbrev yWin (m : Memref sig .tc .hbm S1024x17024 .bf16) (o : Fin 2 → Nat) (h : Inb o ![1024, 256] ![1024, 17024]) : Memref sig .tc .hbm S1024x256 .bf16 :=
  m.slice (Rect.unit (s := S1024x17024) o S1024x256.size h) (fun _ => rfl)
abbrev ybWin (m : Memref sig .tc .vmem S2x1024x256 .bf16) (o : Fin 3 → Nat) (h : Inb o ![1, 1024, 256] ![2, 1024, 256]) : Memref sig .tc .vmem S1024x256 .bf16 :=
  (m.slice (Rect.unit (s := S2x1024x256) o S1x1024x256.size h) (fun _ => rfl)).squeeze S1024x256 sq_S1x1024x256
abbrev yWinT (m : Memref sig .tc .hbm S1024x17024 .bf16) (o : Fin 2 → Nat) (h : Inb o ![1024, 128] ![1024, 17024]) : Memref sig .tc .hbm S1024x128 .bf16 :=
  m.slice (Rect.unit (s := S1024x17024) o S1024x128.size h) (fun _ => rfl)
abbrev ybWinT (m : Memref sig .tc .vmem S2x1024x256 .bf16) (o : Fin 3 → Nat) (h : Inb o ![1, 1024, 128] ![2, 1024, 256]) : Memref sig .tc .vmem S1024x128 .bf16 :=
  (m.slice (Rect.unit (s := S2x1024x256) o S1x1024x128.size h) (fun _ => rfl)).squeeze S1024x128 sq_S1x1024x128
abbrev wWin (m : Memref sig .tc .hbm S17024x12160 .fp8e4m3) (o : Fin 2 → Nat) (h : Inb o ![256, 12160] ![17024, 12160]) : Memref sig .tc .hbm S256x12160 .fp8e4m3 :=
  m.slice (Rect.unit (s := S17024x12160) o S256x12160.size h) (fun _ => rfl)
abbrev wbWin (m : Memref sig .tc .vmem S3x2x256x12160 .fp8e4m3) (o : Fin 4 → Nat) (h : Inb o ![1, 1, 256, 12160] ![3, 2, 256, 12160]) : Memref sig .tc .vmem S256x12160 .fp8e4m3 :=
  (m.slice (Rect.unit (s := S3x2x256x12160) o S1x1x256x12160.size h) (fun _ => rfl)).squeeze S256x12160 sq_S1x1x256x12160
abbrev sWin (m : Memref sig .tc .hbm S17024x380 .i8) (o : Fin 2 → Nat) (h : Inb o ![256, 380] ![17024, 380]) : Memref sig .tc .hbm S256x380 .i8 :=
  m.slice (Rect.unit (s := S17024x380) o S256x380.size h) (fun _ => rfl)
abbrev sbWin (m : Memref sig .tc .vmem S3x2x256x380 .i8) (o : Fin 4 → Nat) (h : Inb o ![1, 1, 256, 380] ![3, 2, 256, 380]) : Memref sig .tc .vmem S256x380 .i8 :=
  (m.slice (Rect.unit (s := S3x2x256x380) o S1x1x256x380.size h) (fun _ => rfl)).squeeze S256x380 sq_S1x1x256x380
abbrev wWinT (m : Memref sig .tc .hbm S17024x12160 .fp8e4m3) (o : Fin 2 → Nat) (h : Inb o ![128, 12160] ![17024, 12160]) : Memref sig .tc .hbm S128x12160 .fp8e4m3 :=
  m.slice (Rect.unit (s := S17024x12160) o S128x12160.size h) (fun _ => rfl)
abbrev wbWinT (m : Memref sig .tc .vmem S3x2x256x12160 .fp8e4m3) (o : Fin 4 → Nat) (h : Inb o ![1, 1, 128, 12160] ![3, 2, 256, 12160]) : Memref sig .tc .vmem S128x12160 .fp8e4m3 :=
  (m.slice (Rect.unit (s := S3x2x256x12160) o S1x1x128x12160.size h) (fun _ => rfl)).squeeze S128x12160 sq_S1x1x128x12160
abbrev sWinT (m : Memref sig .tc .hbm S17024x380 .i8) (o : Fin 2 → Nat) (h : Inb o ![128, 380] ![17024, 380]) : Memref sig .tc .hbm S128x380 .i8 :=
  m.slice (Rect.unit (s := S17024x380) o S128x380.size h) (fun _ => rfl)
abbrev sbWinT (m : Memref sig .tc .vmem S3x2x256x380 .i8) (o : Fin 4 → Nat) (h : Inb o ![1, 1, 128, 380] ![3, 2, 256, 380]) : Memref sig .tc .vmem S128x380 .i8 :=
  (m.slice (Rect.unit (s := S3x2x256x380) o S1x1x128x380.size h) (fun _ => rfl)).squeeze S128x380 sq_S1x1x128x380
abbrev sem32 (m : DmaSems sig S32) (o : Fin 1 → Nat) (h : Inb o ![1] ![32]) : DmaSem sig :=
  ((m.slice (Rect.unit (s := S32) o S1.size h)).squeeze S_ sq_S1).sem
abbrev sem2 (m : DmaSems sig S2) (o : Fin 1 → Nat) (h : Inb o ![1] ![2]) : DmaSem sig :=
  ((m.slice (Rect.unit (s := S2) o S1.size h)).squeeze S_ sq_S1).sem
abbrev semW (m : DmaSems sig S3x12) (o : Fin 2 → Nat) (h : Inb o ![1, 1] ![3, 12]) : DmaSem sig :=
  ((m.slice (Rect.unit (s := S3x12) o S1x1.size h)).squeeze S_ sq_S1x1).sem
end Windows

/-- One copy: its ends and its semaphore. -/
structure Cp (sig : RefSig) (nD : Nat) (τ : Topo) where
  sp : Space
  sp' : Space
  sh : Shape
  e : EltTy
  src : Memref sig .tc sp sh e
  dst : Memref sig .tc sp' sh e
  sm : DmaSem sig
  hs : src.view.WordExact
  hd : dst.view.WordExact
  ht : DmaTarget.Typed (nD := nD) (τ := τ) (p := Proc.tc) sp (.dma sm) (.here dst)

variable {nD : Nat} {τ : Topo} {Λ : Labels} {F : FTy → Type} [FloatOps F]

def Cp.start (c : Cp sig nD τ) : Prog (TpuEff nD τ sig (Elt F) Λ .tc) PUnit :=
  Prog.lift (.enqueueDma c.src (.here c.dst) (.dma c.sm) c.hs c.hd c.ht)

def Cp.wait (c : Cp sig nD τ) : Prog (TpuEff nD τ sig (Elt F) Λ .tc) PUnit :=
  Prog.lift (.waitDma2 c.sm c.src c.dst c.hs c.hd)

section Words

theorem ww_x : ∀ t : Fin 32, (Rect.unit (s := S1024x12160) ![32 * t.val, 0] S32x12160.size (inb2 (by omega) (by omega))).WholeWords (EltTy.packing .bf16) := by decide +kernel
theorem ww_xb : ∀ t : Fin 32, (Rect.unit (s := S1024x12288) ![32 * t.val, 0] S32x12160.size (inb2 (by omega) (by omega))).WholeWords (EltTy.packing .bf16) := by decide +kernel
theorem ww_c : ∀ t : Fin 32, (Rect.unit (s := S1024x12160) ![32 * t.val, 0] S32x12160.size (inb2 (by omega) (by omega))).WholeWords (EltTy.packing .fp8e4m3) := by decide +kernel
theorem ww_cb : ∀ t : Fin 2, (Rect.unit (s := S2x32x12160) ![t.val, 0, 0] S1x32x12160.size (inb3 (by omega) (by omega) (by omega))).WholeWords (EltTy.packing .fp8e4m3) := by decide +kernel
theorem ww_y : ∀ n : Fin 66, (Rect.unit (s := S1024x17024) ![0, 256 * n.val] S1024x256.size (inb2 (by omega) (by omega))).WholeWords (EltTy.packing .bf16) := by decide +kernel
theorem ww_yb : ∀ n : Fin 2, (Rect.unit (s := S2x1024x256) ![n.val, 0, 0] S1x1024x256.size (inb3 (by omega) (by omega) (by omega))).WholeWords (EltTy.packing .bf16) := by decide +kernel
theorem ww_yT : (Rect.unit (s := S1024x17024) ![0, 16896] S1024x128.size (inb2 (by omega) (by omega))).WholeWords (EltTy.packing .bf16) := by decide +kernel
theorem ww_ybT : (Rect.unit (s := S2x1024x256) ![0, 0, 0] S1x1024x128.size (inb3 (by omega) (by omega) (by omega))).WholeWords (EltTy.packing .bf16) := by decide +kernel
theorem ww_w : ∀ n : Fin 66, (Rect.unit (s := S17024x12160) ![256 * n.val, 0] S256x12160.size (inb2 (by omega) (by omega))).WholeWords (EltTy.packing .fp8e4m3) := by decide +kernel
theorem ww_wb : ∀ (n : Fin 3) (g : Fin 2), (Rect.unit (s := S3x2x256x12160) ![n.val, g.val, 0, 0] S1x1x256x12160.size (inb4 (by omega) (by omega) (by omega) (by omega))).WholeWords (EltTy.packing .fp8e4m3) := by decide +kernel
theorem ww_s : ∀ n : Fin 66, (Rect.unit (s := S17024x380) ![256 * n.val, 0] S256x380.size (inb2 (by omega) (by omega))).WholeWords (EltTy.packing .i8) := by decide +kernel
theorem ww_sb : ∀ (n : Fin 3) (g : Fin 2), (Rect.unit (s := S3x2x256x380) ![n.val, g.val, 0, 0] S1x1x256x380.size (inb4 (by omega) (by omega) (by omega) (by omega))).WholeWords (EltTy.packing .i8) := by decide +kernel
theorem ww_wT : (Rect.unit (s := S17024x12160) ![16896, 0] S128x12160.size (inb2 (by omega) (by omega))).WholeWords (EltTy.packing .fp8e4m3) := by decide +kernel
theorem ww_wbT : ∀ (g h : Fin 2), (Rect.unit (s := S3x2x256x12160) ![0, g.val, 128 * h.val, 0] S1x1x128x12160.size (inb4 (by omega) (by omega) (by omega) (by omega))).WholeWords (EltTy.packing .fp8e4m3) := by decide +kernel
theorem ww_sT : (Rect.unit (s := S17024x380) ![16896, 0] S128x380.size (inb2 (by omega) (by omega))).WholeWords (EltTy.packing .i8) := by decide +kernel
theorem ww_sbT : ∀ (g h : Fin 2), (Rect.unit (s := S3x2x256x380) ![0, g.val, 128 * h.val, 0] S1x1x128x380.size (inb4 (by omega) (by omega) (by omega) (by omega))).WholeWords (EltTy.packing .i8) := by decide +kernel
theorem pr_xb : ∀ (t : Fin 32) (c : Fin 96), (Rect.unit (s := S1024x12288) ![32 * t.val, 128 * c.val] S32x128.size (inb2 (by omega) (by omega))).PackedRows (EltTy.packing .bf16) := by decide +kernel
theorem pr_cb : ∀ (t : Fin 2) (c : Fin 95), (Rect.unit (s := S2x32x12160) ![t.val, 0, 128 * c.val] S1x32x128.size (inb3 (by omega) (by omega) (by omega))).PackedRows (EltTy.packing .fp8e4m3) := by decide +kernel
theorem pr_scl : ∀ (g : Fin 2), (Rect.unit (s := S2x256x384) ![g.val, 0, 0] S1x256x380.size (inb3 (by omega) (by omega) (by omega))).PackedRows (EltTy.packing .bf16) := by decide +kernel
theorem pr_yb : ∀ (n : Fin 2) (a : Fin 4), (Rect.unit (s := S2x1024x256) ![n.val, 256 * a.val, 0] S1x256x256.size (inb3 (by omega) (by omega) (by omega))).PackedRows (EltTy.packing .bf16) := by decide +kernel
theorem pr_ybT : ∀ (a : Fin 4), (Rect.unit (s := S2x1024x256) ![0, 256 * a.val, 0] S1x256x128.size (inb3 (by omega) (by omega) (by omega))).PackedRows (EltTy.packing .bf16) := by decide +kernel

end Words

section Copies
variable (M : Mem sig)

/-- Rows `32 t` on of the activations. -/
def xCp (t : Nat) (h : t < 32) : Cp sig nD τ :=
  ⟨_, _, _, _, xWin M.x ![32 * t, 0] (inb2 (by omega) (by omega)), xbWin M.xb ![32 * t, 0] (inb2 (by omega) (by omega)),
    sem32 M.xsem ![t] (inb1 (by omega)), M.hx.wordExact_slice rfl _ (ww_x ⟨t, h⟩), M.hxb.wordExact_slice rfl _ (ww_xb ⟨t, h⟩), ⟨Or.inl rfl, trivial⟩⟩

/-- Rows `32 t` on of the activations' codes. -/
def cCp (t : Nat) (h : t < 32) : Cp sig nD τ :=
  ⟨_, _, _, _, cbWin M.cb ![t % 2, 0, 0] (inb3 (by omega) (by omega) (by omega)), cWin M.c ![32 * t, 0] (inb2 (by omega) (by omega)),
    sem2 M.csem ![t % 2] (inb1 (by omega)), (M.hcb.wordExact_slice rfl _ (ww_cb ⟨t % 2, by omega⟩)).reshape _ _, M.hc.wordExact_slice rfl _ (ww_c ⟨t, h⟩), ⟨Or.inl rfl, trivial⟩⟩

/-- Output tile `n`. -/
def yCp (n : Nat) (h : n < 66) : Cp sig nD τ :=
  ⟨_, _, _, _, ybWin M.yb ![n % 2, 0, 0] (inb3 (by omega) (by omega) (by omega)), yWin M.y ![0, 256 * n] (inb2 (by omega) (by omega)),
    sem2 M.ysem ![n % 2] (inb1 (by omega)), (M.hyb.wordExact_slice rfl _ (ww_yb ⟨n % 2, by omega⟩)).reshape _ _, M.hy.wordExact_slice rfl _ (ww_y ⟨n, h⟩), ⟨Or.inl rfl, trivial⟩⟩

/-- The last, half-width output tile. -/
def yCpT : Cp sig nD τ :=
  ⟨_, _, _, _, ybWinT M.yb ![0, 0, 0] (inb3 (by omega) (by omega) (by omega)), yWinT M.y ![0, 16896] (inb2 (by omega) (by omega)),
    sem2 M.ysem ![0] (inb1 (by omega)), (M.hyb.wordExact_slice rfl _ ww_ybT).reshape _ _, M.hy.wordExact_slice rfl _ ww_yT, ⟨Or.inl rfl, trivial⟩⟩

/-- Weight codes of tile `n`, the gate's or the up's. -/
def wCp (n : Nat) (h : n < 66) (g : Fin 2) : Cp sig nD τ :=
  ⟨_, _, _, _, wWin (M.w g) ![256 * n, 0] (inb2 (by omega) (by omega)), wbWin M.wb ![n % 3, g.val, 0, 0] (inb4 (by omega) (by omega) (by omega) (by omega)),
    semW M.wsem ![n % 3, 2 * g.val] (inb2 (by omega) (by omega)), (M.hw g).wordExact_slice rfl _ (ww_w ⟨n, h⟩), (M.hwb.wordExact_slice rfl _ (ww_wb ⟨n % 3, by omega⟩ g)).reshape _ _, ⟨Or.inl rfl, trivial⟩⟩

/-- Weight scales of tile `n`. -/
def sCp (n : Nat) (h : n < 66) (g : Fin 2) : Cp sig nD τ :=
  ⟨_, _, _, _, sWin (M.s g) ![256 * n, 0] (inb2 (by omega) (by omega)), sbWin M.sb ![n % 3, g.val, 0, 0] (inb4 (by omega) (by omega) (by omega) (by omega)),
    semW M.wsem ![n % 3, 2 * g.val + 1] (inb2 (by omega) (by omega)), (M.hs g).wordExact_slice rfl _ (ww_s ⟨n, h⟩), (M.hsb.wordExact_slice rfl _ (ww_sb ⟨n % 3, by omega⟩ g)).reshape _ _, ⟨Or.inl rfl, trivial⟩⟩

/-- The last rows of the weight codes (`h` = 0 the gate's, 1 the up's) into copy `g` of the last tile. -/
def wCpT (g h : Fin 2) : Cp sig nD τ :=
  ⟨_, _, _, _, wWinT (M.w h) ![16896, 0] (inb2 (by omega) (by omega)), wbWinT M.wb ![0, g.val, 128 * h.val, 0] (inb4 (by omega) (by omega) (by omega) (by omega)),
    semW M.wsem ![0, 4 + 4 * g.val + 2 * h.val] (inb2 (by omega) (by omega)), (M.hw h).wordExact_slice rfl _ ww_wT, (M.hwb.wordExact_slice rfl _ (ww_wbT g h)).reshape _ _, ⟨Or.inl rfl, trivial⟩⟩

/-- The last rows of the weight scales. -/
def sCpT (g h : Fin 2) : Cp sig nD τ :=
  ⟨_, _, _, _, sWinT (M.s h) ![16896, 0] (inb2 (by omega) (by omega)), sbWinT M.sb ![0, g.val, 128 * h.val, 0] (inb4 (by omega) (by omega) (by omega) (by omega)),
    semW M.wsem ![0, 4 + 4 * g.val + 2 * h.val + 1] (inb2 (by omega) (by omega)), (M.hs h).wordExact_slice rfl _ ww_sT, (M.hsb.wordExact_slice rfl _ (ww_sbT g h)).reshape _ _, ⟨Or.inl rfl, trivial⟩⟩

/-- A weight tile's copies, all begun. -/
def wStart (n : Nat) (h : n < 66) : Prog (TpuEff nD τ sig (Elt F) Λ .tc) PUnit := do
  (wCp M n h 0).start; (sCp M n h 0).start; (wCp M n h 1).start; (sCp M n h 1).start
/-- All awaited. -/
def wWait (n : Nat) (h : n < 66) : Prog (TpuEff nD τ sig (Elt F) Λ .tc) PUnit := do
  (wCp M n h 0).wait; (sCp M n h 0).wait; (wCp M n h 1).wait; (sCp M n h 1).wait
/-- The last tile's copies, all begun. -/
def wStartT : Prog (TpuEff nD τ sig (Elt F) Λ .tc) PUnit := do
  (wCpT M 0 0).start; (sCpT M 0 0).start; (wCpT M 0 1).start; (sCpT M 0 1).start
  (wCpT M 1 0).start; (sCpT M 1 0).start; (wCpT M 1 1).start; (sCpT M 1 1).start
/-- All awaited. -/
def wWaitT : Prog (TpuEff nD τ sig (Elt F) Λ .tc) PUnit := do
  (wCpT M 0 0).wait; (sCpT M 0 0).wait; (wCpT M 0 1).wait; (sCpT M 0 1).wait
  (wCpT M 1 0).wait; (sCpT M 1 0).wait; (wCpT M 1 1).wait; (sCpT M 1 1).wait

/-- The starts of the activations' copies from row block `t` on. -/
def xStarts : (n t : Nat) → t + n ≤ 32 → Prog (TpuEff nD τ sig (Elt F) Λ .tc) PUnit
  | 0, _, _ => pure ⟨⟩
  | n + 1, t, h => do
    (xCp M t (by omega)).start
    xStarts n (t + 1) (by omega)

end Copies

section Quantise

theorem h_S32x128 : 0 < S32x128.numel := by decide
theorem h_S1x32x128 : 0 < S1x32x128.numel := by decide
theorem h_S32x1 : 0 < S32x1.numel := by decide
theorem h_S1x1x256x380 : 0 < S1x1x256x380.numel := by decide
theorem h_S1x256x380 : 0 < S1x256x380.numel := by decide
theorem h_S256x128 : 0 < S256x128.numel := by decide
theorem h_S1x256x256 : 0 < S1x256x256.numel := by decide

/-- The rows' largest magnitude over 448, from the lanes' largest magnitudes. -/
def rowScale (a : FVec F S32x128 .bf16) : FVec F S32x1 .f32 :=
  mulf (shapeCast S32x1 (multiReduction .maximumf [1] S32 (extf .f32 a (by decide)) 0xFF800000#32 (by decide) (.inl rfl) rfl) (by decide))
    (broadcast S32x1 (Scalar.ofBits .f32 0x3B124925#32))

/-- An exponent field read as a float. -/
def fieldF (e : IVec S32x1 32) : FVec F S32x1 .f32 := bitcastToFloat .f32 (shli e (broadcast S32x1 23#32))

/-- One step of the search for the exponent field. -/
def search (v : FVec F S32x1 .f32) (b : BitVec 32) (e : IVec S32x1 32) : IVec S32x1 32 :=
  select (cmpf .oge v (fieldF (addi e (broadcast S32x1 b)))) (addi e (broadcast S32x1 b)) e

/-- The exponent field of each row's scale. -/
def field (v : FVec F S32x1 .f32) : IVec S32x1 32 :=
  search v 1#32 (search v 2#32 (search v 4#32 (search v 8#32 (search v 16#32 (search v 32#32 (search v 64#32 (search v 128#32 (broadcast S32x1 0#32))))))))

/-- The exponent `frexp` gives. -/
def expo (v : FVec F S32x1 .f32) : IVec S32x1 32 :=
  select (ori (cmpi .eq (field v) (broadcast S32x1 0#32)) (cmpi .eq (field v) (broadcast S32x1 255#32))) (broadcast S32x1 0#32)
    (subi (field v) (broadcast S32x1 126#32))

/-- The rows' scales. -/
def xsOf (e : IVec S32x1 32) : FVec F S32x1 .f32 := fieldF (addi e (broadcast S32x1 127#32))
/-- The rows' scales across the lanes. -/
def xsbOf (e : IVec S32x1 32) : FVec F S32x128 .f32 :=
  shapeCast S32x128 (broadcastTo S32x128 (shapeCast S32x1 (xsOf e) (by decide)) (by decide)) (by decide)
/-- The rows' inverse scales across the lanes. -/
def invOf (e : IVec S32x1 32) : FVec F S32x128 .bf16 :=
  truncf .bf16 (broadcastTo S32x128 (shapeCast S32x1 (fieldF (addi (subi (broadcast S32x1 0#32) e) (broadcast S32x1 127#32))) (by decide)) (by decide)) (by decide)
/-- A piece of the rows, quantised. -/
def quant (inv v : FVec F S32x128 .bf16) : FVec F S32x128 .fp8e4m3 :=
  truncf .fp8e4m3 (minimumf (broadcast S32x128 (Scalar.truncf .bf16 (by decide) (Scalar.ofBits (F := F) .f32 0x43E00000#32)))
    (maximumf (broadcast S32x128 (Scalar.truncf .bf16 (by decide) (Scalar.ofBits (F := F) .f32 0xC3E00000#32))) (mulf v inv))) (by decide)
def codeOut (inv v : FVec F S32x128 .bf16) : FVec F S1x32x128 .fp8e4m3 := shapeCast S1x32x128 (quant inv v) (by decide)
def quantOut (inv v : FVec F S32x128 .bf16) : FVec F S32x128 .bf16 := shapeCast S32x128 (extf .bf16 (quant inv v) (by decide)) (by decide)

/-- Load 32 rows of 128 lanes of the activations. -/
def ld32 (xb : Memref sig .tc .vmem S1024x12288 .bf16) (o : Fin 2 → Nat) (h : Inb o ![32, 128] ![1024, 12288]) :
    Prog (TpuEff nD τ sig (Elt F) Λ .tc) (Vec F S32x128 .bf16) :=
  Prog.lift (.load xb (Rect.unit (s := S1024x12288) o S32x128.size h).toLoadRect (View.loadsAt_vmem h_S32x128))

variable (M : Mem sig)

def st32 (o : Fin 2 → Nat) (h : Inb o ![32, 128] ![1024, 12288]) (hp : (Rect.unit (s := S1024x12288) o S32x128.size h).PackedRows (EltTy.packing .bf16))
    (v : FVec F S32x128 .bf16) : Prog (TpuEff nD τ sig (Elt F) Λ .tc) PUnit :=
  Prog.lift (.store M.xb (Rect.unit (s := S1024x12288) o S32x128.size h) v Finset.univ
    (View.stores_vmem h_S32x128 (M.hxb.storeExact_slice rfl _ hp) (fun _ => rfl)) (.inl rfl))

def ldc (cb : Memref sig .tc .vmem S2x32x12160 .fp8e4m3) (o : Fin 3 → Nat) (h : Inb o ![1, 32, 128] ![2, 32, 12160]) :
    Prog (TpuEff nD τ sig (Elt F) Λ .tc) (Vec F S1x32x128 .fp8e4m3) :=
  Prog.lift (.load cb (Rect.unit (s := S2x32x12160) o S1x32x128.size h).toLoadRect (View.loadsAt_vmem h_S1x32x128))

def stc (o : Fin 3 → Nat) (h : Inb o ![1, 32, 128] ![2, 32, 12160]) (hp : (Rect.unit (s := S2x32x12160) o S1x32x128.size h).PackedRows (EltTy.packing .fp8e4m3))
    (v : FVec F S1x32x128 .fp8e4m3) : Prog (TpuEff nD τ sig (Elt F) Λ .tc) PUnit :=
  Prog.lift (.store M.cb (Rect.unit (s := S2x32x12160) o S1x32x128.size h) v Finset.univ
    (View.stores_vmem h_S1x32x128 (M.hcb.storeExact_slice rfl _ hp) (fun _ => rfl)) (.inl rfl))

/-- The lanes' largest magnitudes over `n` more pieces from piece `c` on. -/
def amaxGo (xb : Memref sig .tc .vmem S1024x12288 .bf16) (b : Nat) (hb : b + 32 ≤ 1024) : (n c : Nat) → c + n ≤ 95 → FVec F S32x128 .bf16 →
    Prog (TpuEff nD τ sig (Elt F) Λ .tc) (FVec F S32x128 .bf16)
  | 0, _, _, a => pure a
  | n + 1, c, h, a => do
    let v ← ld32 xb ![b, 128 * c] (inb2 hb (by omega))
    amaxGo xb b hb n (c + 1) (by omega) (maximumf a (absf v))

/-- The lanes' largest magnitudes over the 95 pieces. -/
def amaxP (xb : Memref sig .tc .vmem S1024x12288 .bf16) (b : Nat) (hb : b + 32 ≤ 1024) : Prog (TpuEff nD τ sig (Elt F) Λ .tc) (FVec F S32x128 .bf16) := do
  let v ← ld32 xb ![b, 0] (inb2 hb (by omega))
  amaxGo xb b hb 94 1 (by omega) (absf v)

/-- The rows' scales stored. -/
def scalesP (xs : Memref sig .tc .vmem S1024x1 .f32) (xsb : Memref sig .tc .vmem S1024x128 .f32) (b : Nat) (hb : b + 32 ≤ 1024) (e : IVec S32x1 32) :
    Prog (TpuEff nD τ sig (Elt F) Λ .tc) PUnit := do
  let _ ← Prog.lift (.load xs (Rect.unit (s := S1024x1) ![b, 0] S32x1.size (inb2 hb (by omega))).toLoadRect (View.loadsAt_vmem h_S32x1))
  Prog.lift (.store xs (Rect.unit (s := S1024x1) ![b, 0] S32x1.size (inb2 hb (by omega))) (xsOf e) Finset.univ (View.stores_vmem_bits_univ h_S32x1 rfl) (.inl rfl))
  let _ ← Prog.lift (.load xsb (Rect.unit (s := S1024x128) ![b, 0] S32x128.size (inb2 hb (by omega))).toLoadRect (View.loadsAt_vmem h_S32x128))
  Prog.lift (.store xsb (Rect.unit (s := S1024x128) ![b, 0] S32x128.size (inb2 hb (by omega))) (xsbOf e) Finset.univ (View.stores_vmem_bits_univ h_S32x128 rfl) (.inl rfl))

/-- Piece `c` of the rows quantised, in place and into the codes' buffer. -/
def chunkP (b b' : Nat) (hb : b + 32 ≤ 1024) (hb' : b' + 1 ≤ 2)
    (p : ∀ c (h : c < 95), (Rect.unit (s := S1024x12288) ![b, 128 * c] S32x128.size (inb2 hb (by omega))).PackedRows (EltTy.packing .bf16))
    (p' : ∀ c (h : c < 95), (Rect.unit (s := S2x32x12160) ![b', 0, 128 * c] S1x32x128.size (inb3 hb' (by omega) (by omega))).PackedRows (EltTy.packing .fp8e4m3))
    (inv : FVec F S32x128 .bf16) (c : Nat) (h : c < 95) : Prog (TpuEff nD τ sig (Elt F) Λ .tc) PUnit := do
  let v ← ld32 M.xb ![b, 128 * c] (inb2 hb (by omega))
  let _ ← ldc (F := F) M.cb ![b', 0, 128 * c] (inb3 hb' (by omega) (by omega))
  stc M ![b', 0, 128 * c] (inb3 hb' (by omega) (by omega)) (p' c h) (codeOut inv v)
  let _ ← ld32 (F := F) M.xb ![b, 128 * c] (inb2 hb (by omega))
  st32 M ![b, 128 * c] (inb2 hb (by omega)) (p c h) (quantOut inv v)

/-- `n` pieces from piece `c` on. -/
def chunksP (b b' : Nat) (hb : b + 32 ≤ 1024) (hb' : b' + 1 ≤ 2)
    (p : ∀ c (h : c < 95), (Rect.unit (s := S1024x12288) ![b, 128 * c] S32x128.size (inb2 hb (by omega))).PackedRows (EltTy.packing .bf16))
    (p' : ∀ c (h : c < 95), (Rect.unit (s := S2x32x12160) ![b', 0, 128 * c] S1x32x128.size (inb3 hb' (by omega) (by omega))).PackedRows (EltTy.packing .fp8e4m3))
    (inv : FVec F S32x128 .bf16) : (n c : Nat) → c + n ≤ 95 → Prog (TpuEff nD τ sig (Elt F) Λ .tc) PUnit
  | 0, _, _ => pure ⟨⟩
  | n + 1, c, h => do
    chunkP M b b' hb hb' p p' inv c (by omega)
    chunksP b b' hb hb' p p' inv n (c + 1) (by omega)

/-- The closed form's facts. -/
theorem prx {t : Nat} (h : t < 32) : ∀ c (h' : c < 95), (Rect.unit (s := S1024x12288) ![32 * t, 128 * c] S32x128.size (inb2 (by omega) (by omega))).PackedRows (EltTy.packing .bf16) :=
  fun c h' => pr_xb ⟨t, h⟩ ⟨c, by omega⟩
theorem prc {t : Nat} (h : t < 2) : ∀ c (h' : c < 95), (Rect.unit (s := S2x32x12160) ![t, 0, 128 * c] S1x32x128.size (inb3 (by omega) (by omega) (by omega))).PackedRows (EltTy.packing .fp8e4m3) :=
  fun c h' => pr_cb ⟨t, h⟩ ⟨c, by omega⟩

/-- The padding lanes zeroed. -/
def zeroP (b : Nat) (hb : b + 32 ≤ 1024) (p : (Rect.unit (s := S1024x12288) ![b, 12160] S32x128.size (inb2 hb (by omega))).PackedRows (EltTy.packing .bf16)) :
    Prog (TpuEff nD τ sig (Elt F) Λ .tc) PUnit := do
  let _ ← ld32 (F := F) M.xb ![b, 12160] (inb2 hb (by omega))
  st32 M ![b, 12160] (inb2 hb (by omega)) p (shapeCast S32x128 (broadcast S32x128 (FloatOps.ofBits (F := F) .bf16 0#16)) (by decide))

/-- One quantiser trip. -/
def t1body (t : Nat) (h : t < 32) : Prog (TpuEff nD τ sig (Elt F) Λ .tc) PUnit := do
  (xCp M t h).wait
  (if h2 : 2 ≤ t then (cCp M (t - 2) (by omega)).wait else pure ⟨⟩)
  let a ← amaxP M.xb (32 * t) (by omega)
  scalesP (F := F) M.xs M.xsb (32 * t) (by omega) (expo (rowScale a))
  chunksP M (32 * t) (t % 2) (by omega) (by omega) (prx h) (prc (by omega)) (invOf (expo (rowScale a))) 95 0 (by omega)
  zeroP (F := F) M (32 * t) (by omega) (pr_xb ⟨t, h⟩ ⟨95, by omega⟩)
  (cCp M t h).start

end Quantise

end Cert.Mx
-- ==== Proof.Mx.Ker2.lean ====
/-
  The kernel's second half as a program of named pieces: the scales' decoding, the reduction steps
  over the 48 column blocks, the gated outputs, the tiles' loop, the half-width last tile, and the
  whole kernel.
-/
module

public import proofs.«01_k».proof.Proof.Mx.Ker

@[expose] public section

noncomputable section

namespace Cert.Mx

open Idealize.ShloMosaic Idealize.SL.Sem

variable {sig : RefSig} {nD : Nat} {τ : Topo} {Λ : Labels} {F : FTy → Type} [FloatOps F]
variable (M : Mem sig)

/-- Each lane's block of 32. -/
def laneBlock : IVec S256x128 32 :=
  let v171 : IVec S256x128 32 := iota .tc S256x128 32 [1] (by decide)
  let v173 : IVec S256x128 32 := divsi v171 (broadcast S256x128 32#32)
  let v180 : IVec S256x128 32 := subi (extui 32 (cmpi .sgt v171 (broadcast S256x128 0#32)) (by decide)) (extui 32 (cmpi .slt v171 (broadcast S256x128 0#32)) (by decide))
  let v185 : BitVec 32 := Scalar.subi (Scalar.extui (Scalar.cmpi .sgt 32#32 0#32)) (Scalar.extui (Scalar.cmpi .slt 32#32 0#32))
  select (andi (cmpi .ne v180 (broadcast S256x128 v185)) (cmpi .ne (remsi v171 (broadcast S256x128 32#32)) (broadcast S256x128 0#32)))
    (subi v173 (broadcast S256x128 1#32)) v173

/-- The scale codes as scales. -/
def sclOf (v : Vec F S1x1x256x380 .i8) : FVec F S1x256x380 .bf16 :=
  shapeCast S1x256x380
    (truncf .bf16 (bitcastToFloat (F := F) .f32 (shli (extui 32 (shapeCast S256x380 v (by decide) : IVec S256x380 8) (by decide)) (broadcast S256x380 23#32))) (by decide)) (by decide)

/-- The scales of one half of tile `n` decoded. -/
def scaleP (n : Nat) (g : Fin 2) : Prog (TpuEff nD τ sig (Elt F) Λ .tc) PUnit := do
  let v ← Prog.lift (.load M.sb (Rect.unit (s := S3x2x256x380) ![n % 3, g.val, 0, 0] S1x1x256x380.size (inb4 (by omega) (by omega) (by omega) (by omega))).toLoadRect (View.loadsAt_vmem h_S1x1x256x380))
  let _ ← Prog.lift (.load M.scl (Rect.unit (s := S2x256x384) ![g.val, 0, 0] S1x256x380.size (inb3 (by omega) (by omega) (by omega))).toLoadRect (View.loadsAt_vmem h_S1x256x380))
  Prog.lift (.store M.scl (Rect.unit (s := S2x256x384) ![g.val, 0, 0] S1x256x380.size (inb3 (by omega) (by omega) (by omega))) (sclOf (F := F) v) Finset.univ
    (View.stores_vmem h_S1x256x380 (M.hscl.storeExact_slice rfl _ (pr_scl g)) (fun _ => rfl)) (.inl rfl))

/-- Tile `n`'s scales decoded. -/
def scalesC (n : Nat) : Prog (TpuEff nD τ sig (Elt F) Λ .tc) PUnit := do
  scaleP (F := F) M n 0
  scaleP (F := F) M n 1

/-- The activations' blocks of step `k`. -/
def lhsAt (k : Nat) (h : k < 48) : LhsAt :=
  ⟨![0, 256 * k], inb2 (by omega) (by omega), ![256, 256 * k], inb2 (by omega) (by omega),
   ![512, 256 * k], inb2 (by omega) (by omega), ![768, 256 * k], inb2 (by omega) (by omega)⟩

/-- The weight tile of step `k` of output tile `n`. -/
def pushAt (n k : Nat) (h : k < 47) : PushAt :=
  ⟨![0, 0, 128 * (8 * k / 128)], inb3 (by omega) (by omega) (by omega),
   ![n % 3, 0, 0, 256 * k], inb4 (by omega) (by omega) (by omega) (by omega),
   ![n % 3, 0, 0, 256 * k + 128], inb4 (by omega) (by omega) (by omega) (by omega),
   ![1, 0, 128 * (8 * k / 128)], inb3 (by omega) (by omega) (by omega),
   ![n % 3, 1, 0, 256 * k], inb4 (by omega) (by omega) (by omega) (by omega),
   ![n % 3, 1, 0, 256 * k + 128], inb4 (by omega) (by omega) (by omega) (by omega), BitVec.ofNat 32 (8 * k % 128)⟩

theorem LhsAt.eq {l : LhsAt} {k : Nat} (h : k < 48) (e0 : l.o0 = ![0, 256 * k]) (e1 : l.o1 = ![256, 256 * k]) (e2 : l.o2 = ![512, 256 * k])
    (e3 : l.o3 = ![768, 256 * k]) : l = lhsAt k h := by
  cases l; subst e0 e1 e2 e3; rfl

theorem PushAt.eq {p : PushAt} {n k : Nat} (h : k < 47) (e0 : p.s0 = ![0, 0, 128 * (8 * k / 128)]) (e1 : p.w00 = ![n % 3, 0, 0, 256 * k])
    (e2 : p.w01 = ![n % 3, 0, 0, 256 * k + 128]) (e3 : p.s1 = ![1, 0, 128 * (8 * k / 128)]) (e4 : p.w10 = ![n % 3, 1, 0, 256 * k])
    (e5 : p.w11 = ![n % 3, 1, 0, 256 * k + 128]) (e6 : p.lane = BitVec.ofNat 32 (8 * k % 128)) : p = pushAt n k h := by
  cases p; subst e0 e1 e2 e3 e4 e5 e6; rfl

/-- Stage the tiles of step `k`. -/
def pushC (n k : Nat) (h : k < 47) (s : Mxu F) : Prog (TpuEff nD τ sig (Elt F) Λ .tc) (Mxu F) := pushP M.scl M.wb laneBlock (pushAt n k h) s

/-- The last column block's tile: half of it, the rest zero. -/
def whalf (li : IVec S256x128 32) (sv : Vec F S1x256x128 .bf16) (w : Vec F S1x1x256x128 .fp8e4m3) : FVec F S256x256 .bf16 :=
  concatenate S256x256 1 [⟨S256x128, piece li 120#32 sv w⟩, ⟨S256x128, broadcast S256x128 (Scalar.ofBits (F := F) .bf16 0x0000#16)⟩] concat_S256x256

/-- Stage the last column block's tiles. -/
def pushHalf (scl : Memref sig .tc .vmem S2x256x384 .bf16) (wb : Memref sig .tc .vmem S3x2x256x12160 .fp8e4m3) (li : IVec S256x128 32)
    (o0 o1 : Fin 4 → Nat) (h0 : Inb o0 ![1, 1, 256, 128] ![3, 2, 256, 12160]) (h1 : Inb o1 ![1, 1, 256, 128] ![3, 2, 256, 12160]) (s : Mxu F) :
    Prog (TpuEff nD τ sig (Elt F) Λ .tc) (Mxu F) := do
  let v0 ← lds scl ![0, 0, 256] (inb3 (by omega) (by omega) (by omega))
  let w0 ← ldw wb o0 h0
  let s ← s.pushRhs 0 0 true (whalf li v0 w0)
  let v1 ← lds scl ![1, 0, 256] (inb3 (by omega) (by omega) (by omega))
  let w1 ← ldw wb o1 h1
  s.pushRhs 1 0 true (whalf li v1 w1)

def pushH (n : Nat) (s : Mxu F) : Prog (TpuEff nD τ sig (Elt F) Λ .tc) (Mxu F) :=
  pushHalf M.scl M.wb laneBlock ![n % 3, 0, 0, 12032] ![n % 3, 1, 0, 12032] (inb4 (by omega) (by omega) (by omega) (by omega))
    (inb4 (by omega) (by omega) (by omega) (by omega)) s

/-- Step `k` of a full tile. -/
def stepC (k : Nat) (h : k < 48) (push : Mxu F → Prog (TpuEff nD τ sig (Elt F) Λ .tc) (Mxu F)) (s : Mxu F) : Prog (TpuEff nD τ sig (Elt F) Λ .tc) (Mxu F) :=
  stepP M.xb (lhsAt k h) push s

/-- `m` steps from step `k` on. -/
def stepsC (n : Nat) : (m k : Nat) → k + m ≤ 46 → Mxu F → Prog (TpuEff nD τ sig (Elt F) Λ .tc) (Mxu F)
  | 0, _, _, s => pure s
  | m + 1, k, h, s => do
    let s ← stepC M k (by omega) (pushC M n (k + 1) (by omega)) s
    stepsC n m (k + 1) (by omega) s

/-- One reduction step of the last tile: each unit takes half the row blocks. -/
def stepPT (xb : Memref sig .tc .vmem S1024x12288 .bf16) (l : LhsAt)
    (push : Mxu F → Prog (TpuEff nD τ sig (Elt F) Λ .tc) (Mxu F)) (s : Mxu F) : Prog (TpuEff nD τ sig (Elt F) Λ .tc) (Mxu F) := do
  let x0 ← ldx xb l.o0 l.h0
  let x2 ← ldx xb l.o2 l.h2
  let s ← push ((s.accLhs 0 0 0 x0 fits0).accLhs 1 0 128 x2 fits128)
  let x1 ← ldx xb l.o1 l.h1
  let s ← s.accLhsLoaded 0 64 x1 fits64
  let x3 ← ldx xb l.o3 l.h3
  s.accLhsLoaded 1 192 x3 fits192

def stepT (k : Nat) (h : k < 48) (push : Mxu F → Prog (TpuEff nD τ sig (Elt F) Λ .tc) (Mxu F)) (s : Mxu F) : Prog (TpuEff nD τ sig (Elt F) Λ .tc) (Mxu F) :=
  stepPT M.xb (lhsAt k h) push s

def stepsT : (m k : Nat) → k + m ≤ 46 → Mxu F → Prog (TpuEff nD τ sig (Elt F) Λ .tc) (Mxu F)
  | 0, _, _, s => pure s
  | m + 1, k, h, s => do
    let s ← stepT M k (by omega) (pushC M 66 (k + 1) (by omega)) s
    stepsT m (k + 1) (by omega) s

/-- The gated output: `silu (g * xs) * (u * xs)`, rounded. -/
def gated (s : Shape) (g u xs : FVec F s .f32) : FVec F s .bf16 :=
  truncf .bf16 (mulf (mulf (mulf g xs) (logistic (mulf g xs))) (mulf u xs)) (by decide)

def swOut (g u : FVec F S256x256 .f32) (xs : Vec F S256x128 .f32) : FVec F S1x256x256 .bf16 :=
  shapeCast S1x256x256 (gated S256x256 g u (concatenate S256x256 1 [⟨S256x128, xs⟩, ⟨S256x128, xs⟩] concat_S256x256)) (by decide)

theorem slice_lo : S256x256.Slices ![0, 0] S256x128 := by decide
theorem slice_hi : S256x256.Slices ![0, 128] S256x128 := by decide

def swOutT (g : FVec F S256x256 .f32) (xs : Vec F S256x128 .f32) : FVec F S1x256x128 .bf16 :=
  shapeCast S1x256x128 (gated S256x128 (extractStridedSlice S256x128 ![0, 0] g slice_lo) (extractStridedSlice S256x128 ![0, 128] g slice_hi) xs) (by decide)

def ldxs (m : Memref sig .tc .vmem S1024x128 .f32) (o : Fin 2 → Nat) (h : Inb o ![256, 128] ![1024, 128]) :
    Prog (TpuEff nD τ sig (Elt F) Λ .tc) (Vec F S256x128 .f32) :=
  Prog.lift (.load m (Rect.unit (s := S1024x128) o S256x128.size h).toLoadRect (View.loadsAt_vmem h_S256x128))

/-- Row block `a` of output tile `n`, taken off the units' rows `A`. -/
def swP (b : Nat) (hb : b < 2) (a : Fin 4) (A : Nat) (hA : Mxu.Fits A 256) (s : Mxu F) : Prog (TpuEff nD τ sig (Elt F) Λ .tc) (Mxu F) := do
  let xs ← ldxs M.xsb ![256 * a.val, 0] (inb2 (by omega) (by omega))
  let _ ← Prog.lift (.load M.yb (Rect.unit (s := S2x1024x256) ![b, 256 * a.val, 0] S1x256x256.size (inb3 (by omega) (by omega) (by omega))).toLoadRect (View.loadsAt_vmem h_S1x256x256))
  Prog.lift (.store M.yb (Rect.unit (s := S2x1024x256) ![b, 256 * a.val, 0] S1x256x256.size (inb3 (by omega) (by omega) (by omega)))
    (swOut (s.read 0 A hA) ((s.pop 0 A 256 hA).read 1 A hA) xs) Finset.univ
    (View.stores_vmem h_S1x256x256 (M.hyb.storeExact_slice rfl _ (pr_yb ⟨b, hb⟩ a)) (fun _ => rfl)) (.inl rfl))
  pure ((s.pop 0 A 256 hA).pop 1 A 256 hA)

/-- Row block `a` of the last output tile, taken off unit `q`'s rows `A`. -/
def swPT (q : Fin 2) (a : Fin 4) (A : Nat) (hA : Mxu.Fits A 256) (s : Mxu F) : Prog (TpuEff nD τ sig (Elt F) Λ .tc) (Mxu F) := do
  let xs ← ldxs M.xsb ![256 * a.val, 0] (inb2 (by omega) (by omega))
  let _ ← Prog.lift (.load M.yb (Rect.unit (s := S2x1024x256) ![0, 256 * a.val, 0] S1x256x128.size (inb3 (by omega) (by omega) (by omega))).toLoadRect (View.loadsAt_vmem h_S1x256x128))
  Prog.lift (.store M.yb (Rect.unit (s := S2x1024x256) ![0, 256 * a.val, 0] S1x256x128.size (inb3 (by omega) (by omega) (by omega)))
    (swOutT (s.read q A hA) xs) Finset.univ
    (View.stores_vmem h_S1x256x128 (M.hyb.storeExact_slice rfl _ (pr_ybT a)) (fun _ => rfl)) (.inl rfl))
  pure (s.pop q A 256 hA)

@[reducible] def lp1 : Scf.Loop 32 := ⟨0#32, Scalar.addi 0#32 32#32, 1#32⟩
@[reducible] def lp2 : Scf.Loop 32 := ⟨0#32, Scalar.addi 0#32 66#32, 1#32⟩
@[reducible] def lp3 : Scf.Loop 32 := ⟨0#32, Scalar.addi 0#32 3#32, 1#32⟩
theorem lp1_ok : lp1.OK := by decide
theorem lp2_ok : lp2.OK := by decide
theorem lp3_ok : lp3.OK := by decide
theorem lp1_trips : lp1.trips = 32 := by decide
theorem lp2_trips : lp2.trips = 66 := by decide
theorem lp3_trips : lp3.trips = 3 := by decide

/-- One trip of the steps' loop of tile `n`. -/
def t3body (n : Nat) (t : Fin lp3.trips) (s : BitVec 32 × Mxu F) : Prog (TpuEff nD τ sig (Elt F) Λ .tc) (BitVec 32 × Mxu F) := do
  let s ← stepsC M n 15 (15 * t.val + 1) (by have := lt_of_lt_of_eq t.isLt lp3_trips; omega) s.2
  pure (0#32, s)

/-- One trip of the last tile's steps' loop. -/
def t4body (t : Fin lp3.trips) (s : BitVec 32 × Mxu F) : Prog (TpuEff nD τ sig (Elt F) Λ .tc) (BitVec 32 × Mxu F) := do
  let s ← stepsT M 15 (15 * t.val + 1) (by have := lt_of_lt_of_eq t.isLt lp3_trips; omega) s.2
  pure (0#32, s)

/-- The output copies about trip `n`. -/
def yIO (n : Nat) (h : n < 66) : Prog (TpuEff nD τ sig (Elt F) Λ .tc) PUnit := do
  (if h2 : 2 ≤ n then (yCp M (n - 2) (by omega)).wait else pure ⟨⟩)
  (if h1 : 1 ≤ n then (yCp M (n - 1) (by omega)).start else pure ⟨⟩)

/-- The weight copies about trip `n`. -/
def wIO (n : Nat) (h : n < 66) : Prog (TpuEff nD τ sig (Elt F) Λ .tc) PUnit := do
  (if h1 : n + 1 < 66 then wWait (F := F) M (n + 1) h1 else pure ⟨⟩)
  (if h1 : n = 65 then wWaitT (F := F) M else pure ⟨⟩)
  (if h1 : n + 2 < 66 then wStart (F := F) M (n + 2) h1 else pure ⟨⟩)
  (if h1 : n = 64 then wStartT (F := F) M else pure ⟨⟩)

/-- Output tile `n`: the rest of its steps, its outputs, and the next tile's first step. -/
def t2calc (n : Nat) (s : Mxu F) : Prog (TpuEff nD τ sig (Elt F) Λ .tc) (Mxu F) := do
  let s ← lp3.for lp3_ok (0#32, s) (t3body M n)
  let s ← stepC M 46 (by omega) (pushH M n) s.2
  scalesC (F := F) M (n + 1)
  let s ← stepC M 47 (by omega) (pushC M (n + 1) 0 (by omega)) s
  let s ← swP M (n % 2) (by omega) 0 0 fits0 s
  let s ← swP M (n % 2) (by omega) 1 64 fits64 s
  let s ← swP M (n % 2) (by omega) 2 128 fits128 s
  let s ← swP M (n % 2) (by omega) 3 192 fits192 s
  stepC M 0 (by omega) (pushC M (n + 1) 1 (by omega)) s

def t2body (t : Fin lp2.trips) (s : BitVec 32 × Mxu F) : Prog (TpuEff nD τ sig (Elt F) Λ .tc) (BitVec 32 × Mxu F) := do
  yIO (F := F) M t.val (lt_of_lt_of_eq t.isLt lp2_trips)
  wIO (F := F) M t.val (lt_of_lt_of_eq t.isLt lp2_trips)
  let s ← t2calc M t.val s.2
  pure (0#32, s)

/-- The units drained of what they held at the start. -/
def drained0 : Mxu F :=
  ((((((((Mxu.init : Mxu F).pop 0 0 256 fits0).pop 0 64 256 fits64).pop 0 128 256 fits128).pop 0 192 256 fits192).pop 1 0 256 fits0).pop 1 64 256 fits64).pop 1 128 256 fits128).pop 1 192 256 fits192

/-- The first output tile's opening. -/
def opening : Prog (TpuEff nD τ sig (Elt F) Λ .tc) (Mxu F) := do
  wWait (F := F) M 0 (by omega)
  scalesC (F := F) M 0
  let s ← pushC M 0 0 (by omega) drained0
  stepC M 0 (by omega) (pushC M 0 1 (by omega)) s

/-- The last output tile. -/
def closing (s : Mxu F) : Prog (TpuEff nD τ sig (Elt F) Λ .tc) (Mxu F) := do
  let s ← lp3.for lp3_ok (0#32, s) (t4body M)
  let s ← stepT M 46 (by omega) (pushH M 66) s.2
  let s ← stepT M 47 (by omega) pure s
  let s ← swPT M 0 0 0 fits0 s
  let s ← swPT M 1 2 128 fits128 s
  let s ← swPT M 0 1 64 fits64 s
  let s ← swPT M 1 3 192 fits192 s
  pure ((((s.pop 0 128 256 fits128).pop 1 0 256 fits0).pop 0 192 256 fits192).pop 1 64 256 fits64)

/-- The kernel. -/
def kernel : Prog (TpuEff nD τ sig (Elt F) Λ .tc) PUnit := do
  xStarts (F := F) M 32 0 (by omega)
  wStart (F := F) M 0 (by omega)
  wStart (F := F) M 1 (by omega)
  lp1.for lp1_ok PUnit.unit (fun t _ => t1body (F := F) M t.val (lt_of_lt_of_eq t.isLt lp1_trips))
  let s ← opening M
  let s ← lp2.for lp2_ok (0#32, s) (t2body M)
  (yCp M 64 (by omega)).wait
  (yCp M 65 (by omega)).start
  let s ← closing M s.2
  (yCpT M).start
  (yCp M 65 (by omega)).wait
  (yCpT M).wait
  (cCp M 30 (by omega)).wait
  (cCp M 31 (by omega)).wait
  s.exit

end Cert.Mx
-- ==== Proof.Mx.Unit.lean ====
/-
  The two matrix units as a state of named parts: the tile staged in each unit's first register, the
  tile its array holds, and the sums of its four row blocks of 256. The unit operations the kernel
  uses, as equations between such states.
-/
module

public import proofs.«01_k».proof.Proof.Mx.Prog
public import Idealize.ShloMosaic.Lib.Mxu.Lemmas

@[expose] public section

noncomputable section

namespace Cert.Mx

open Idealize.ShloMosaic Idealize.SL.Sem

variable {F : FTy → Type} [FloatOps F]

abbrev Tile (F : FTy → Type) := FVec F S256x256 .bf16
abbrev Sum (F : FTy → Type) := FVec F S256x256 .f32

/-- A tile pushed transposed. -/
def stg (v : Tile F) : Mxu.Staged F := ⟨.bf16, true, v⟩

theorem mxu_ext {s t : Mxu F} (h1 : s.reg = t.reg) (h2 : s.gmr = t.gmr) (h3 : s.acc = t.acc) (h4 : s.live = t.live) : s = t := by
  cases s; cases t
  subst h1 h2 h3 h4
  rfl

/-- The entry of a row block's sum. -/
def ent (o : Option (Sum F)) (r c : Fin 256) : F .f32 :=
  match o with
  | some v => v (Mxu.ix r c)
  | none => FloatOps.ofBits .f32 0

def blk (R : Fin 1024) : Fin 4 := ⟨R.val / 256, by omega⟩
def inblk (R : Fin 1024) : Fin 256 := ⟨R.val % 256, by omega⟩

/-- The units' state. -/
def mx (T G : Fin 2 → Option (Tile F)) (A : Fin 2 → Fin 4 → Option (Sum F)) : Mxu F where
  reg q r := if r = 0 then (T q).map stg else none
  gmr q := (G q).map stg
  acc q R C := ent (A q (blk R)) (inblk R) C
  live q R := (A q (blk R)).isSome
  clean q R C h := by
    have : A q (blk R) = none := by simpa using h
    rw [this]; rfl

/-- One part of a family replaced. -/
def up1 {α : Type} (f : Fin 2 → α) (q : Fin 2) (v : α) : Fin 2 → α := fun q' => if q' = q then v else f q'
def up2 {α : Type} (f : Fin 2 → Fin 4 → α) (q : Fin 2) (a : Fin 4) (v : α) : Fin 2 → Fin 4 → α := fun q' a' => if q' = q ∧ a' = a then v else f q' a'

/-- A pass of rows against a tile. -/
def ps (x : FVec F S256x256 .bf16) (w : Tile F) : Sum F := FloatOps.mxuPass (DotDims.transposedRhs 256 256 256) x w

/-- A pass put onto a row block's sum. -/
def dep (o : Option (Sum F)) (p : Sum F) : Sum F :=
  match o with
  | some v => addf v p
  | none => p

variable (T G : Fin 2 → Option (Tile F)) (A : Fin 2 → Fin 4 → Option (Sum F))

theorem mx_init : (Mxu.init : Mxu F) = mx (fun _ => none) (fun _ => none) (fun _ _ => none) := by
  refine mxu_ext ?_ rfl rfl rfl
  funext q r
  show none = if r = 0 then _ else none
  split <;> rfl

theorem accBy_eq {q : Fin 2} {a : Fin 4} {Ad : Nat} (hA : Ad = 64 * a.val) (w : Tile F) (x : FVec F S256x256 .bf16) (h : Mxu.Fits Ad 256) :
    (mx T G A).accBy q (stg w) Ad x h = mx T G (up2 A q a (some (dep (A q a) (ps x w)))) := by
  subst hA
  refine mxu_ext rfl rfl ?_ ?_
  · funext q' R C
    show (if hq : q' = q ∧ 4 * (64 * a.val) ≤ R.val ∧ R.val < 4 * (64 * a.val) + 256 then
        Mxu.deposit (A q' (blk R)).isSome (ent (A q' (blk R)) (inblk R) C) ((stg w).pass x (Mxu.ix ⟨R.val - 4 * (64 * a.val), by omega⟩ C))
      else ent (A q' (blk R)) (inblk R) C) = ent (if q' = q ∧ blk R = a then _ else A q' (blk R)) (inblk R) C
    by_cases hq : q' = q ∧ 4 * (64 * a.val) ≤ R.val ∧ R.val < 4 * (64 * a.val) + 256
    · have hb : blk R = a := Fin.ext (by show R.val / 256 = a.val; omega)
      have hi : ∀ h0, (⟨R.val - 4 * (64 * a.val), h0⟩ : Fin 256) = inblk R := fun _ => Fin.ext (by show R.val - 4 * (64 * a.val) = R.val % 256; omega)
      rw [dif_pos hq, if_pos ⟨hq.1, hb⟩, hi]
      obtain ⟨rfl, -⟩ := hq
      rw [hb]
      cases A q' a with
      | none => rfl
      | some v => rfl
    · rw [dif_neg hq, if_neg]
      rintro ⟨h1, h2⟩
      have : R.val / 256 = a.val := congrArg Fin.val h2
      exact hq ⟨h1, by omega, by omega⟩
  · funext q' R
    show (if q' = q ∧ 4 * (64 * a.val) ≤ R.val ∧ R.val < 4 * (64 * a.val) + 256 then true else (A q' (blk R)).isSome)
      = (if q' = q ∧ blk R = a then _ else A q' (blk R)).isSome
    by_cases hq : q' = q ∧ 4 * (64 * a.val) ≤ R.val ∧ R.val < 4 * (64 * a.val) + 256
    · have hb : blk R = a := Fin.ext (by show R.val / 256 = a.val; omega)
      rw [if_pos hq, if_pos ⟨hq.1, hb⟩]; rfl
    · rw [if_neg hq, if_neg]
      rintro ⟨h1, h2⟩
      have : R.val / 256 = a.val := congrArg Fin.val h2
      exact hq ⟨h1, by omega, by omega⟩

theorem accLhs_eq {q : Fin 2} {a : Fin 4} {Ad : Nat} (hA : Ad = 64 * a.val) {w : Tile F} (hw : T q = some w) (x : FVec F S256x256 .bf16) (h : Mxu.Fits Ad 256) :
    (mx T G A).accLhs q 0 Ad x h = mx (up1 T q none) (up1 G q (some w)) (up2 A q a (some (dep (A q a) (ps x w)))) := by
  have hs : (mx T G A).staged q 0 = stg w := by
    rw [Mxu.staged_eq]
    show ((if (0 : Fin 2) = 0 then (T q).map stg else none).getD _) = _
    rw [if_pos rfl, hw]; rfl
  have e := accBy_eq T G A (q := q) hA w x h
  refine mxu_ext ?_ ?_ ?_ ?_
  · funext q' r'
    show (if q' = q ∧ r' = 0 then none else (if r' = 0 then (T q').map stg else none)) = if r' = 0 then (if q' = q then none else T q').map stg else none
    by_cases h1 : r' = 0 <;> by_cases h2 : q' = q <;> simp [h1, h2]
  · funext q'
    show (if q' = q then some ((mx T G A).staged q 0) else (G q').map stg) = (if q' = q then some w else G q').map stg
    rw [hs]
    split <;> rfl
  · show ((mx T G A).accBy q ((mx T G A).staged q 0) Ad x h).acc = _
    rw [hs, e]; rfl
  · show ((mx T G A).accBy q ((mx T G A).staged q 0) Ad x h).live = _
    rw [hs, e]; rfl

theorem pop_eq {q : Fin 2} {a : Fin 4} {Ad : Nat} (hA : Ad = 64 * a.val) (h : Mxu.Fits Ad 256) :
    (mx T G A).pop q Ad 256 h = mx T G (up2 A q a none) := by
  subst hA
  refine mxu_ext rfl rfl ?_ ?_
  · funext q' R C
    show (if q' = q ∧ 4 * (64 * a.val) ≤ R.val ∧ R.val < 4 * (64 * a.val) + 256 then FloatOps.ofBits .f32 0 else ent (A q' (blk R)) (inblk R) C)
      = ent (if q' = q ∧ blk R = a then none else A q' (blk R)) (inblk R) C
    by_cases hq : q' = q ∧ 4 * (64 * a.val) ≤ R.val ∧ R.val < 4 * (64 * a.val) + 256
    · have hb : blk R = a := Fin.ext (by show R.val / 256 = a.val; omega)
      rw [if_pos hq, if_pos ⟨hq.1, hb⟩]; rfl
    · rw [if_neg hq, if_neg]
      rintro ⟨h1, h2⟩
      have : R.val / 256 = a.val := congrArg Fin.val h2
      exact hq ⟨h1, by omega, by omega⟩
  · funext q' R
    show (if q' = q ∧ 4 * (64 * a.val) ≤ R.val ∧ R.val < 4 * (64 * a.val) + 256 then false else (A q' (blk R)).isSome)
      = (if q' = q ∧ blk R = a then none else A q' (blk R)).isSome
    by_cases hq : q' = q ∧ 4 * (64 * a.val) ≤ R.val ∧ R.val < 4 * (64 * a.val) + 256
    · have hb : blk R = a := Fin.ext (by show R.val / 256 = a.val; omega)
      rw [if_pos hq, if_pos ⟨hq.1, hb⟩]; rfl
    · rw [if_neg hq, if_neg]
      rintro ⟨h1, h2⟩
      have : R.val / 256 = a.val := congrArg Fin.val h2
      exact hq ⟨h1, by omega, by omega⟩

theorem read_eq {q : Fin 2} {a : Fin 4} {Ad : Nat} (hA : Ad = 64 * a.val) (h : Mxu.Fits Ad 256) {v : Sum F} (hv : A q a = some v) :
    (mx T G A).read q Ad h = v := by
  subst hA
  funext i
  show ent (A q (blk (Mxu.row h (i 0)))) (inblk (Mxu.row h (i 0))) (i 1) = v i
  have hi : (i 0).val < 256 := (i 0).isLt
  have hb : blk (Mxu.row h (i 0)) = a := Fin.ext (by show (4 * (64 * a.val) + (i 0).val) / 256 = a.val; omega)
  have hb' : inblk (Mxu.row h (i 0)) = i 0 := Fin.ext (by show (4 * (64 * a.val) + (i 0).val) % 256 = (i 0).val; omega)
  rw [hb, hb', hv]
  exact congrArg v (Mxu.ix_eta i)

theorem pushed_eq {q : Fin 2} (hn : T q = none) (v : Tile F) :
    (mx T G A).pushed q 0 true v = mx (up1 T q (some v)) G A := by
  have hr : (mx T G A).reg q 0 = none := by
    show (if (0 : Fin 2) = 0 then (T q).map stg else none) = none
    rw [if_pos rfl, hn]; rfl
  refine mxu_ext ?_ (Mxu.gmr_pushed ..) (Mxu.acc_pushed ..) (Mxu.live_pushed ..)
  funext q' r'
  by_cases hq : q' = q ∧ r' = 0
  · obtain ⟨rfl, rfl⟩ := hq
    rw [Mxu.reg_pushed_of_none _ _ _ _ _ hr]
    show _ = if (0 : Fin 2) = 0 then (if q' = q' then some v else T q').map stg else none
    simp [stg]
  · rw [Mxu.reg_pushed_ne _ _ _ _ _ _ _ hq]
    show (if r' = 0 then (T q').map stg else none) = if r' = 0 then (if q' = q then some v else T q').map stg else none
    by_cases h1 : r' = 0
    · have h2 : q' ≠ q := fun e => hq ⟨e, h1⟩
      simp [h1, h2]
    · simp [h1]

theorem pushOk {q : Fin 2} (hn : T q = none) : (mx T G A).PushOk q 0 true :=
  Mxu.pushOk_of_none _ _ _ _ (by
    show (if (0 : Fin 2) = 0 then (T q).map stg else none) = none
    rw [if_pos rfl, hn]; rfl)

theorem drained (hT : ∀ q, T q = none) (hA : ∀ q a, A q a = none) : (mx T G A).Drained := by
  refine ⟨fun q r => ?_, fun q R => ?_⟩
  · show (if r = 0 then (T q).map stg else none).isNone = true
    rw [hT]; split <;> rfl
  · show (A q (blk R)).isSome = false
    rw [hA]; rfl

end Cert.Mx
-- ==== Proof.Mx.Val.lean ====
/-
  What the kernel's buffers hold, as functions of the operands: the quantised activations, their
  codes and scales, the decoded weight tiles, the sums over the column blocks, and the outputs.
-/
module

public import proofs.«01_k».proof.Proof.Mx.Ker2
public import proofs.«01_k».proof.Proof.Mx.Unit
public import Idealize.ShloMosaic.Lib.ValueLayout

@[expose] public section

noncomputable section

namespace Cert.Mx

open Idealize.ShloMosaic Idealize.SL.Sem
open Idealize.ShloMosaic.ValueIdx

variable {F : FTy → Type} [FloatOps F]

/-- The operands. -/
structure In (F : FTy → Type) where
  X : S1024x12160.Idx → Elt F .bf16
  W : Fin 2 → S17024x12160.Idx → Elt F .fp8e4m3
  S : Fin 2 → S17024x380.Idx → Elt F .i8

/-- The index at row `r`, column `c`. -/
def nx2 (m n : Nat) [NeZero m] [NeZero n] (r c : Nat) : (⟨2, ![m, n]⟩ : Shape).Idx := ix2 (Fin.ofNat m r) (Fin.ofNat n c)
def nx3 (l m n : Nat) [NeZero l] [NeZero m] [NeZero n] (a r c : Nat) : (⟨3, ![l, m, n]⟩ : Shape).Idx := ix3 (Fin.ofNat l a) (Fin.ofNat m r) (Fin.ofNat n c)

theorem nx2_eq {m n : Nat} [NeZero m] [NeZero n] {r c : Nat} {i : (⟨2, ![m, n]⟩ : Shape).Idx} (h0 : r = (i 0).val) (h1 : c = (i 1).val) : nx2 m n r c = i := by
  have l0 : (i 0).val < m := (i 0).isLt
  have l1 : (i 1).val < n := (i 1).isLt
  funext a
  match a with
  | 0 => exact Fin.ext (by show r % m = (i 0).val; rw [h0, Nat.mod_eq_of_lt l0])
  | 1 => exact Fin.ext (by show c % n = (i 1).val; rw [h1, Nat.mod_eq_of_lt l1])

theorem nx3_eq {l m n : Nat} [NeZero l] [NeZero m] [NeZero n] {a r c : Nat} {i : (⟨3, ![l, m, n]⟩ : Shape).Idx} (h : a = (i 0).val) (h0 : r = (i 1).val) (h1 : c = (i 2).val) :
    nx3 l m n a r c = i := by
  have l0 : (i 0).val < l := (i 0).isLt
  have l1 : (i 1).val < m := (i 1).isLt
  have l2 : (i 2).val < n := (i 2).isLt
  funext b
  match b with
  | 0 => exact Fin.ext (by show a % l = (i 0).val; rw [h, Nat.mod_eq_of_lt l0])
  | 1 => exact Fin.ext (by show r % m = (i 1).val; rw [h0, Nat.mod_eq_of_lt l1])
  | 2 => exact Fin.ext (by show c % n = (i 2).val; rw [h1, Nat.mod_eq_of_lt l2])

variable (I : In F)

/-- Piece `c` of the rows `32 t` on. -/
def pc (t c : Nat) : FVec F S32x128 .bf16 := fun j => I.X (nx2 1024 12160 (32 * t + (j 0).val) (128 * c + (j 1).val))

/-- The lanes' largest magnitudes. -/
def amaxF (t : Nat) : (n c : Nat) → FVec F S32x128 .bf16 → FVec F S32x128 .bf16
  | 0, _, a => a
  | n + 1, c, a => amaxF t n (c + 1) (maximumf a (absf (pc I t c)))

/-- The exponents of the rows `32 t` on. -/
def EX (t : Nat) : IVec S32x1 32 := expo (F := F) (rowScale (amaxF I t 94 1 (absf (pc I t 0))))

/-- The quantised activations, padded. -/
def XQ : S1024x12288.Idx → Elt F .bf16 := fun i =>
  if (i 1).val < 12160 then quantOut (invOf (F := F) (EX I ((i 0).val / 32))) (pc I ((i 0).val / 32) ((i 1).val / 128)) (nx2 32 128 ((i 0).val % 32) ((i 1).val % 128))
  else FloatOps.ofBits .bf16 0#16

/-- The codes. -/
def CV : S1024x12160.Idx → Elt F .fp8e4m3 := fun i =>
  codeOut (invOf (F := F) (EX I ((i 0).val / 32))) (pc I ((i 0).val / 32) ((i 1).val / 128)) (nx3 1 32 128 0 ((i 0).val % 32) ((i 1).val % 128))

/-- The rows' scales. -/
def XSV : S1024x1.Idx → Elt F .f32 := fun i => xsOf (F := F) (EX I ((i 0).val / 32)) (nx2 32 1 ((i 0).val % 32) 0)
/-- The same across 128 lanes. -/
def XSB : S1024x128.Idx → Elt F .f32 := fun i => xsbOf (F := F) (EX I ((i 0).val / 32)) (nx2 32 128 ((i 0).val % 32) (i 1).val)

/-- Weight codes of tile `n` (66: the last, half of it the gate's and half the up's). -/
def WBf (n : Nat) (g : Fin 2) (r c : Nat) : Elt F .fp8e4m3 :=
  if n < 66 then I.W g (nx2 17024 12160 (256 * n + r) c)
  else if r < 128 then I.W 0 (nx2 17024 12160 (16896 + r) c) else I.W 1 (nx2 17024 12160 (16768 + r) c)
def WB (n : Nat) : S3x2x256x12160.Idx → Elt F .fp8e4m3 := fun i => WBf I n (i 1) (i 2).val (i 3).val

/-- Scale codes of tile `n`. -/
def SBf (n : Nat) (g : Fin 2) (r c : Nat) : Elt F .i8 :=
  if n < 66 then I.S g (nx2 17024 380 (256 * n + r) c)
  else if r < 128 then I.S 0 (nx2 17024 380 (16896 + r) c) else I.S 1 (nx2 17024 380 (16768 + r) c)
def SB (n : Nat) : S3x2x256x380.Idx → Elt F .i8 := fun i => SBf I n (i 1) (i 2).val (i 3).val

/-- The scales of tile `n`, decoded. -/
def SC (n : Nat) (g : Fin 2) (r c : Nat) : Elt F .bf16 :=
  if c < 380 then sclOf (F := F) (fun j => SBf I n g (j 2).val (j 3).val) (nx3 1 256 380 0 r c) else FloatOps.ofBits .bf16 0#16

/-- A window of the codes, and of the scales. -/
def wv (n : Nat) (g : Fin 2) (h : Nat) : Vec F S1x1x256x128 .fp8e4m3 := fun j => WBf I n g (j 2).val (128 * h + (j 3).val)
def scv (n : Nat) (g : Fin 2) (b : Nat) : Vec F S1x256x128 .bf16 := fun j => SC I n g (j 1).val (128 * b + (j 2).val)

/-- The decoded tile of column block `k`. -/
def WT (n k : Nat) (g : Fin 2) : Tile F :=
  if k < 47 then wtile laneBlock (BitVec.ofNat 32 (8 * k % 128)) (scv I n g (8 * k / 128)) (wv I n g (2 * k)) (wv I n g (2 * k + 1))
  else whalf laneBlock (scv I n g 2) (wv I n g 94)

/-- The activations' block `a`, `k`. -/
def XB (k : Nat) (a : Fin 4) : FVec F S256x256 .bf16 := fun j => XQ I (nx2 1024 12288 (256 * a.val + (j 0).val) (256 * k + (j 1).val))

/-- The sum over the column blocks to `k`. -/
def ACC (n : Nat) (q : Fin 2) (a : Fin 4) : Nat → Sum F
  | 0 => ps (XB I 0 a) (WT I n 0 q)
  | k + 1 => addf (ACC n q a k) (ps (XB I (k + 1) a) (WT I n (k + 1) q))

def xsv (a : Fin 4) : Vec F S256x128 .f32 := fun j => XSB I (nx2 1024 128 (256 * a.val + (j 0).val) (j 1).val)

def half (a : Fin 4) : Fin 2 := if a.val < 2 then 0 else 1

/-- Output tile `n`. -/
def YT (n : Nat) (r c : Nat) : Elt F .bf16 :=
  if n < 66 then swOut (ACC I n 0 (Fin.ofNat 4 (r / 256)) 47) (ACC I n 1 (Fin.ofNat 4 (r / 256)) 47) (xsv I (Fin.ofNat 4 (r / 256))) (nx3 1 256 256 0 (r % 256) c)
  else swOutT (ACC I 66 (half (Fin.ofNat 4 (r / 256))) (Fin.ofNat 4 (r / 256)) 47) (xsv I (Fin.ofNat 4 (r / 256))) (nx3 1 256 128 0 (r % 256) c)
/-- The output. -/
def YV : S1024x17024.Idx → Elt F .bf16 := fun i => YT I ((i 1).val / 256) (i 0).val ((i 1).val % 256)

end Cert.Mx
-- ==== Proof.Mx.Rules.lean ====
/-
  Programs that run from an assertion to another with a known result, and the rules for them: the
  kernel's loads, stores, copies, unit operations and loops.
-/
module

public import proofs.«01_k».proof.Proof.Mx.Own
public import proofs.«01_k».proof.Proof.Mx.Val
public import Idealize.ShloMosaic.Lib.Pipeline.FrameSuffixV

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)

/-- The logic's assertions. -/
abbrev PM (nD : Nat) (τ : Topo) (sig : RefSig) (F : FTy → Type) := MT nD τ sig Unit (Elt F) ℕ (Pipeline.UD sig nD τ) ℕ
abbrev PS (nD : Nat) (τ : Topo) (sig : RefSig) (F : FTy → Type) := sProp (PM nD τ sig F)

/-- `p` runs from `P` to `P'` with result `v`. -/
def T (defs : Defs nD τ sig (Elt F) Λ) {α : Type} (P : PS nD τ sig F) (p : Prog (TpuEff nD τ sig (Elt F) Λ .tc) α) (v : α) (P' : PS nD τ sig F) : Prop :=
  ∀ Φ : α → PS nD τ sig F, P ⊢ iprop((P' -∗ Φ v) -∗ wp frame (wpE defs 𝒱 (d.tc : Thread nD τ) bd) Set.univ p Φ)

variable {α β : Type} {P P' P₁ A B : PS nD τ sig F} {p : Prog (TpuEff nD τ sig (Elt F) Λ .tc) α} {v : α}

theorem T.pure : T 𝒱 d bd defs P (Prog.ret v) v P := by
  intro Φ
  iintro H HK
  iapply (le_wp_ret (M := PM nD τ sig F))
  iapply HK; iexact H

theorem T.bind {k : α → Prog (TpuEff nD τ sig (Elt F) Λ .tc) β} {w : β} (h₁ : T 𝒱 d bd defs P p v P₁) (h₂ : T 𝒱 d bd defs P₁ (k v) w P') :
    T 𝒱 d bd defs P (p >>= k) w P' := by
  intro Φ
  rw [wp_bind]
  iintro H HK
  iapply (h₁ _) $$ H
  iintro H
  iapply (h₂ Φ) $$ H
  iexact HK

theorem T.cons (h : T 𝒱 d bd defs P p v P') (hA : A ⊢ P) (hB : P' ⊢ B) : T 𝒱 d bd defs A p v B := by
  intro Φ
  iintro H HK
  iapply (h Φ) $$ [H]
  · iapply hA; iexact H
  iintro H
  iapply HK
  iapply hB; iexact H

theorem T.fr (R : PS nD τ sig F) (h : T 𝒱 d bd defs P p v P') (hA : A ⊢ iprop(P ∗ R)) (hB : iprop(P' ∗ R) ⊢ B) : T 𝒱 d bd defs A p v B := by
  intro Φ
  iintro H HK
  icases hA $$ H with ⟨H, HR⟩
  iapply (h Φ) $$ H
  iintro H
  iapply HK
  iapply hB
  isplitl [H]; · iexact H
  iexact HR

theorem T.loop {σ : Type} {w : Nat} {l : Scf.Loop w} {hok : l.OK} {init : σ} {body : Fin l.trips → σ → Prog (TpuEff nD τ sig (Elt F) Λ .tc) σ}
    (I : Nat → PS nD τ sig F) (s : Nat → σ) {n : Nat} (hn : l.trips = n) (h0 : init = s 0)
    (h : ∀ k : Fin l.trips, T 𝒱 d bd defs (I k.val) (body k (s k.val)) (s (k.val + 1)) (I (k.val + 1))) :
    T 𝒱 d bd defs (I 0) (l.for hok init body) (s n) (I n) := by
  subst hn h0
  intro Φ
  iintro H HK
  iapply (Scf.wp_for (M := PM nD τ sig F) frame (wpE defs 𝒱 (d.tc : Thread nD τ) bd) Set.univ l.lb l.ub l.st hok (s 0) body (fun k a => iprop(⌜a = s k⌝ ∗ I k)) ?_)
  · intro k a
    iintro ⟨%ha, H⟩
    subst ha
    iapply (h k _) $$ H
    iintro H
    isplitr
    · ipureintro; rfl
    · iexact H
  · isplitl [H]
    · isplitr
      · ipureintro; rfl
      · iexact H
    · iintro %a ⟨%ha, H⟩
      subst ha
      iapply HK; iexact H

section Mem
variable {sp : Space} {s : Shape} {e : EltTy}

theorem T_load {cs : CoreSpace} {m : Memref sig .tc cs s e} {r : Rect s} {hl : m.view.LoadsAt r} {p : s.Idx → Prop} {q : PosShare TreeShare}
    {X : s.Idx → Elt F e} {v : r.shape.Idx → Elt F e} (hp : ∀ j, p (r.emb j)) (hv : ∀ j, X (r.emb j) = v j) :
    T 𝒱 d bd defs (Own d m p q X) (Prog.lift (.load m r.toLoadRect hl)) v (Own d m p q X) := by
  obtain rfl : (fun j => X (r.emb j)) = v := funext hv
  intro Φ
  iintro H HK
  iapply (Own.load 𝒱 d bd hp) $$ H
  iintro H
  iapply (le_wp_ret (M := PM nD τ sig F))
  iapply HK; iexact H

theorem T_store {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {p : s.Idx → Prop} {X Y : s.Idx → Elt F e} (hp : ∀ j, p (r.emb j)) (hY : ∀ j, Y (r.emb j) = w j) (hn : ∀ i, p i → (∀ j, r.emb j ≠ i) → Y i = X i) :
    T 𝒱 d bd defs (Own d m p fullShare X) (Prog.lift (.store m r w Finset.univ hx hm)) ⟨⟩ (Own d m p fullShare Y) := by
  intro Φ
  iintro H HK
  iapply (Own.store 𝒱 d bd hp) $$ H
  iintro H
  iapply (le_wp_ret (M := PM nD τ sig F))
  iapply HK
  iapply (Own.congr (fun _ => Iff.rfl) ?_) $$ H
  intro i hi
  by_cases h : ∃ j, r.emb j = i
  · obtain ⟨j, rfl⟩ := h
    rw [Rect.overlay_emb, hY]
  · have hh : i ∉ r.set := fun hh => h (LoadRect.exists_idx_of_mem _ hh)
    rw [Rect.overlay_of_not_mem _ _ _ hh, hn i hi fun j hj => h ⟨j, hj⟩]

/-- The indices of a rectangle of unit strides. -/
theorem unit_mem {o sz : Fin s.rank → Nat} {h : ∀ a, o a + sz a ≤ s.size a} {i : s.Idx} :
    (∃ j, True ∧ (Rect.unit (s := s) o sz h).emb j = i) ↔ ∀ a, o a ≤ (i a).val ∧ (i a).val < o a + sz a := by
  constructor
  · rintro ⟨j, -, rfl⟩ a
    have : ((Rect.unit (s := s) o sz h).emb j a).val = o a + 1 * (j a).val := rfl
    have hj : (j a).val < sz a := (j a).isLt
    omega
  · intro hi
    refine ⟨fun a => ⟨(i a).val - o a, ?_⟩, trivial, ?_⟩
    · have := hi a
      show _ < sz a
      omega
    · funext a
      apply Fin.ext
      have := hi a
      show o a + 1 * ((i a).val - o a) = (i a).val
      omega

theorem unit_val {o sz : Fin s.rank → Nat} {h : ∀ a, o a + sz a ≤ s.size a} (j : (Rect.unit (s := s) o sz h).shape.Idx) (a : Fin s.rank) :
    ((Rect.unit (s := s) o sz h).emb j a).val = o a + (j a).val := by
  show o a + 1 * (j a).val = _
  omega

theorem unit_mem2 {m n o o' z z' : Nat} {h : Inb ![o, o'] ![z, z'] ![m, n]} {i : (⟨2, ![m, n]⟩ : Shape).Idx} :
    (∃ j, True ∧ (Rect.unit (s := ⟨2, ![m, n]⟩) ![o, o'] ![z, z'] h).emb j = i)
      ↔ (o ≤ (i 0).val ∧ (i 0).val < o + z) ∧ (o' ≤ (i 1).val ∧ (i 1).val < o' + z') := by
  rw [unit_mem]
  exact ⟨fun h => ⟨h 0, h 1⟩, fun h a => match a with | 0 => h.1 | 1 => h.2⟩

theorem unit_mem3 {l m n o o' o2 z z' z2 : Nat} {h : Inb ![o, o', o2] ![z, z', z2] ![l, m, n]} {i : (⟨3, ![l, m, n]⟩ : Shape).Idx} :
    (∃ j, True ∧ (Rect.unit (s := ⟨3, ![l, m, n]⟩) ![o, o', o2] ![z, z', z2] h).emb j = i)
      ↔ (o ≤ (i 0).val ∧ (i 0).val < o + z) ∧ (o' ≤ (i 1).val ∧ (i 1).val < o' + z') ∧ (o2 ≤ (i 2).val ∧ (i 2).val < o2 + z2) := by
  rw [unit_mem]
  exact ⟨fun h => ⟨h 0, h 1, h 2⟩, fun h a => match a with | 0 => h.1 | 1 => h.2.1 | 2 => h.2.2⟩

theorem unit_mem4 {l m n k o o' o2 o3 z z' z2 z3 : Nat} {h : Inb ![o, o', o2, o3] ![z, z', z2, z3] ![l, m, n, k]} {i : (⟨4, ![l, m, n, k]⟩ : Shape).Idx} :
    (∃ j, True ∧ (Rect.unit (s := ⟨4, ![l, m, n, k]⟩) ![o, o', o2, o3] ![z, z', z2, z3] h).emb j = i)
      ↔ (o ≤ (i 0).val ∧ (i 0).val < o + z) ∧ (o' ≤ (i 1).val ∧ (i 1).val < o' + z') ∧ (o2 ≤ (i 2).val ∧ (i 2).val < o2 + z2)
        ∧ (o3 ≤ (i 3).val ∧ (i 3).val < o3 + z3) := by
  rw [unit_mem]
  exact ⟨fun h => ⟨h 0, h 1, h 2, h 3⟩, fun h a => match a with | 0 => h.1 | 1 => h.2.1 | 2 => h.2.2.1 | 3 => h.2.2.2⟩

/-- A rectangle's part as the whole of a squeezed slice, and back. -/
theorem Own.toWin {s' : Shape} {m : Memref sig .tc sp s e} {r : Rect s} {hr : ∀ a, r.stride a = 1} {h : r.shape.Squeezes s'} {p : s.Idx → Prop}
    {q : PosShare TreeShare} {X : s.Idx → Elt F e} (hp : ∀ i, p i ↔ ∃ j, True ∧ r.emb j = i) :
    (Own d m p q X : PS nD τ sig F) ⊢ Own d ((m.slice r hr).squeeze s' h) (fun _ => True) q (fun j => X (r.emb (Shape.reshapeEquiv h.numel_eq j))) :=
  (Own.toSlice (hr := hr) (p' := fun _ => True) hp).trans Own.toSqueeze

theorem Own.ofWin {s' : Shape} {m : Memref sig .tc sp s e} {r : Rect s} {hr : ∀ a, r.stride a = 1} {h : r.shape.Squeezes s'} {p : s.Idx → Prop}
    {q : PosShare TreeShare} {X : s.Idx → Elt F e} {Y : s'.Idx → Elt F e} (hp : ∀ i, p i ↔ ∃ j, True ∧ r.emb j = i)
    (hY : ∀ j, Y j = X (r.emb (Shape.reshapeEquiv h.numel_eq j))) :
    (Own d ((m.slice r hr).squeeze s' h) (fun _ => True) q Y : PS nD τ sig F) ⊢ Own d m p q X :=
  (Own.ofSqueeze (X := fun j => X (r.emb j)) hY).trans (Own.ofSlice (p' := fun _ => True) hp fun _ _ => rfl)

/-- A part at contents nothing names. -/
def Junk (m : Memref sig .tc sp s e) (p : s.Idx → Prop) : PS nD τ sig F := iprop(∃ X, Own d m p fullShare X)

theorem Junk.of {m : Memref sig .tc sp s e} {p : s.Idx → Prop} {X : s.Idx → Elt F e} : (Own d m p fullShare X : PS nD τ sig F) ⊢ Junk d m p := by
  unfold Junk
  iintro H
  iexists X
  iexact H

theorem Junk.congr {m : Memref sig .tc sp s e} {p p' : s.Idx → Prop} (hp : ∀ i, p i ↔ p' i) : (Junk (F := F) d m p : PS nD τ sig F) ⊢ Junk d m p' := by
  obtain rfl : p = p' := funext fun i => propext (hp i)
  exact Entails.rfl

theorem Junk.split {m : Memref sig .tc sp s e} {p p₁ p₂ : s.Idx → Prop} (hp : ∀ i, p i ↔ p₁ i ∨ p₂ i) (hd : ∀ i, p₁ i → ¬ p₂ i) :
    (Junk (F := F) d m p : PS nD τ sig F) ⊢ iprop(Junk d m p₁ ∗ Junk d m p₂) := by
  unfold Junk
  iintro ⟨%X, H⟩
  icases (Own.split hp hd) $$ H with ⟨H₁, H₂⟩
  isplitl [H₁]
  · iexists X; iexact H₁
  · iexists X; iexact H₂

theorem Junk.join {m : Memref sig .tc sp s e} {p p₁ p₂ : s.Idx → Prop} (hp : ∀ i, p i ↔ p₁ i ∨ p₂ i) (hd : ∀ i, p₁ i → ¬ p₂ i) :
    iprop(Junk d m p₁ ∗ Junk d m p₂) ⊢ (Junk (F := F) d m p : PS nD τ sig F) := by
  classical
  unfold Junk
  iintro ⟨⟨%X, H₁⟩, ⟨%Y, H₂⟩⟩
  iexists (fun i => if p₁ i then X i else Y i)
  iapply (Own.join hp hd (X₁ := X) (X₂ := Y) (fun i hi => (if_pos hi).symm) fun i hi => (if_neg fun h => hd i h hi).symm)
  isplitl [H₁]; · iexact H₁
  iexact H₂

end Mem

section Unit

theorem T_push {s : Mxu F} {q : Fin 2} {w : Tile F} (h : s.PushOk q 0 true) :
    T 𝒱 d bd defs P (s.pushRhs q 0 true w) (s.pushed q 0 true w) P := by
  intro Φ
  iintro H HK
  unfold Mxu.pushRhs
  iapply (wp_assume (defs := defs) (Q := Φ) (k := fun _ => .ret (s.pushed q 0 true w)) 𝒱 (d.tc : Thread nD τ) bd Set.univ h)
  iapply (le_wp_ret (M := PM nD τ sig F))
  iapply HK; iexact H

theorem T_loaded {s : Mxu F} {q : Fin 2} {w : Mxu.Staged F} {Ad : Nat} {x : FVec F S256x256 .bf16} {h : Mxu.Fits Ad 256} (hg : s.gmr q = some w) :
    T 𝒱 d bd defs P (s.accLhsLoaded q Ad x h) (s.accBy q w Ad x h) P := by
  obtain ⟨hs, e⟩ := Option.eq_some_iff_get_eq.mp hg
  rw [← e]
  intro Φ
  iintro H HK
  unfold Mxu.accLhsLoaded
  iapply (wp_assume (defs := defs) (Q := Φ) (k := fun hl => .ret (s.accBy q ((s.gmr q).get hl.down) Ad x h)) 𝒱 (d.tc : Thread nD τ) bd Set.univ hs)
  iapply (le_wp_ret (M := PM nD τ sig F))
  iapply HK; iexact H

theorem T_exit {s : Mxu F} (h : s.Drained) : T 𝒱 d bd defs P s.exit ⟨⟩ P := by
  intro Φ
  iintro H HK
  unfold Mxu.exit
  iapply (wp_assume (defs := defs) (Q := Φ) (k := fun _ => .ret PUnit.unit) 𝒱 (d.tc : Thread nD τ) bd Set.univ h)
  iapply (le_wp_ret (M := PM nD τ sig F))
  iapply HK; iexact H

end Unit

section Copy
variable (EC : UEmb Counters (MT nD τ sig Unit (Elt F) ℕ (Pipeline.UD sig nD τ) ℕ)) [EC.LandsIn (upEmb : UEmb _ (MT nD τ sig Unit (Elt F) ℕ (Pipeline.UD sig nD τ) ℕ))]
variable (ι : Unit)

/-- A semaphore at zero. -/
abbrev sv (sm : DmaSem sig) : PS nD τ sig F := semVal ((d.tc : Thread nD τ), SemLoc.dma sm) 0

/-- A copy in flight that will deliver `D`. -/
def fl (c : Cp sig nD τ) (D : PS nD τ sig F) : PS nD τ sig F := Flight EC (d.tc : Thread nD τ) (.dma c.sm) ι c.dst.view.dmaCredit D

/-- What the thread owes. -/
def Ow : PS nD τ sig F := iprop(∃ W, owes (d.tc : Thread nD τ) 0 W)

theorem T_start {c : Cp sig nD τ} {q : PosShare TreeShare} {X : c.sh.Idx → Elt F c.e} {S D R : PS nD τ sig F} (hpos : 0 < c.sh.numel)
    (hs : S ⊢ Own d c.src (fun _ => True) q X) (hd : D ⊢ Junk d c.dst (fun _ => True))
    (hR : iprop(Own d c.dst (fun _ => True) fullShare X ∗ Own d c.src (fun _ => True) q X) ⊢ R) :
    T 𝒱 d bd defs iprop(S ∗ D ∗ sv d c.sm) c.start ⟨⟩ (fl d EC ι c R) := by
  intro Φ
  iintro ⟨HS, HD, Hv⟩ HK
  icases hd $$ HD with HD
  unfold Junk
  icases HD with ⟨%Y, HD⟩
  unfold Cp.start Prog.lift
  iapply (Own.dma 𝒱 d bd EC (src := c.src) (dst := c.dst) (sm := .dma c.sm) (X := X) (Y := Y) (q := q) ι c.dst.view.dmaCredit rfl (View.dmaCredit_pos _ hpos)) $$ [HS HD Hv]
  · isplitl [HS]; · iapply hs; iexact HS
    isplitl [HD]; · iexact HD
    iexact Hv
  iintro HF
  iapply (le_wp_ret (M := PM nD τ sig F))
  iapply HK
  unfold fl
  iapply (Flight_mono EC (d.tc : Thread nD τ) hR) $$ HF

theorem T_wait {c : Cp sig nD τ} {R : PS nD τ sig F} : T 𝒱 d bd defs iprop(fl d EC ι c R ∗ Ow d) c.wait ⟨⟩ iprop(R ∗ sv d c.sm ∗ Ow d) := by
  intro Φ
  iintro ⟨HF, HO⟩ HK
  unfold Ow
  icases HO with ⟨%W, HO⟩
  unfold Cp.wait Prog.lift fl
  iapply (wp_waitLocal EC 𝒱 (d.tc : Thread nD τ) bd (srcw := c.src) (dstw := c.dst) ι rfl) $$ [HF HO]
  · isplitl [HF]; · iexact HF
    iexact HO
  iintro ⟨HR, Hv, HO⟩
  iapply (le_wp_ret (M := PM nD τ sig F))
  iapply HK
  isplitl [HR]; · iexact HR
  isplitl [Hv]; · iexact Hv
  iexists _
  iexact HO

end Copy

end Cert.Mx
-- ==== Proof.Mx.Scale.lean ====
/-
  The decoded weight pieces entry by entry: lane `j` of a piece takes the scale of lane `b + j / 32`
  of the scales' window.
-/
module

public import proofs.«01_k».proof.Proof.Mx.Val
public import Idealize.ShloMosaic.Lib.Pipeline.Value

@[expose] public section

noncomputable section

namespace Cert.Mx

open Idealize.ShloMosaic Idealize.SL.Sem
open Idealize.ShloMosaic.ValueIdx

variable {F : FTy → Type} [FloatOps F]

/-- The lane's block of 32 from the lane. -/
def lbOf (v171 : IVec S256x128 32) : IVec S256x128 32 :=
  let v173 : IVec S256x128 32 := divsi v171 (broadcast S256x128 32#32)
  let v180 : IVec S256x128 32 := subi (extui 32 (cmpi .sgt v171 (broadcast S256x128 0#32)) (by decide)) (extui 32 (cmpi .slt v171 (broadcast S256x128 0#32)) (by decide))
  let v185 : BitVec 32 := Scalar.subi (Scalar.extui (Scalar.cmpi .sgt 32#32 0#32)) (Scalar.extui (Scalar.cmpi .slt 32#32 0#32))
  select (andi (cmpi .ne v180 (broadcast S256x128 v185)) (cmpi .ne (remsi v171 (broadcast S256x128 32#32)) (broadcast S256x128 0#32)))
    (subi v173 (broadcast S256x128 1#32)) v173

theorem lbOf_const : ∀ c : Fin 128, lbOf (fun _ => BitVec.ofNat 32 (0 * 128 + c.val)) (nx2 256 128 0 0) = BitVec.ofNat 32 (c.val / 32) := by decide +kernel

theorem laneBlock_apply (i : S256x128.Idx) : laneBlock i = BitVec.ofNat 32 ((i 1).val / 32) :=
  lbOf_const ⟨(i 1).val, (i 1).isLt⟩

/-- The lane read from a lane's block. -/
def liOf (b x : BitVec 32) : IVec S256x128 32 :=
  select (cmpi .slt (addi (broadcast S256x128 x) (broadcast S256x128 b)) (broadcast S256x128 0#32))
    (addi (addi (broadcast S256x128 x) (broadcast S256x128 b)) (broadcast S256x128 128#32)) (addi (broadcast S256x128 x) (broadcast S256x128 b))

theorem liOf_val : ∀ (b : Fin 125) (x : Fin 4), (liOf (BitVec.ofNat 32 b.val) (BitVec.ofNat 32 x.val) (nx2 256 128 0 0)).toNat = b.val + x.val := by decide +kernel

theorem laneIdx_apply {b : Nat} (hb : b < 125) (i : S256x128.Idx) : (laneIdx laneBlock (BitVec.ofNat 32 b) i).toNat = b + (i 1).val / 32 := by
  have h1 : (i 1).val < 128 := (i 1).isLt
  unfold laneIdx
  rw [shapeCast_shapeCast]
  have e : ∀ x, laneBlock i = x → select (cmpi .slt (addi laneBlock (broadcast S256x128 (BitVec.ofNat 32 b))) (broadcast S256x128 0#32))
      (addi (addi laneBlock (broadcast S256x128 (BitVec.ofNat 32 b))) (broadcast S256x128 128#32)) (addi laneBlock (broadcast S256x128 (BitVec.ofNat 32 b))) i
      = liOf (BitVec.ofNat 32 b) x (nx2 256 128 0 0) := by
    intro x hx; subst hx; rfl
  rw [e _ (laneBlock_apply i)]
  exact liOf_val ⟨b, hb⟩ ⟨(i 1).val / 32, by omega⟩

theorem sc3 {α : Type} (x : S1x256x128.Idx → α) (h) (i : S256x128.Idx) : shapeCast S256x128 x h i = x (nx3 1 256 128 0 (i 0).val (i 1).val) := by
  obtain ⟨r, c, rfl⟩ : ∃ (r : Fin 256) (c : Fin 128), i = ix2 r c := ⟨i 0, i 1, by funext a; match a with | 0 => rfl | 1 => rfl⟩
  show x (Shape.reshapeEquiv _ (ix2 r c)) = _
  rw [reshapeEquiv_ix2_1ab]
  exact congrArg x (nx3_eq rfl rfl rfl).symm

/-- Two pieces agree when the scales' lanes they read agree. -/
theorem piece_congr {b : Nat} (hb : b ≤ 124) {sv sv' : Vec F S1x256x128 .bf16} (h : ∀ r l, r < 256 → l < b + 4 → sv (nx3 1 256 128 0 r l) = sv' (nx3 1 256 128 0 r l))
    (w : Vec F S1x1x256x128 .fp8e4m3) : piece laneBlock (BitVec.ofNat 32 b) sv w = piece laneBlock (BitVec.ofNat 32 b) sv' w := by
  have key : dynamicGather 1 (scaleWin sv) (laneIdx laneBlock (BitVec.ofNat 32 b)) = dynamicGather 1 (scaleWin sv') (laneIdx laneBlock (BitVec.ofNat 32 b)) := by
    funext i
    have h1 : (i 1).val < 128 := (i 1).isLt
    have h0 : (i 0).val < 256 := (i 0).isLt
    have hl := laneIdx_apply (b := b) (by omega) i
    show scaleWin sv _ = scaleWin sv' _
    generalize hk : (fun c : Fin S256x128.rank => if c = 1 then (⟨(laneIdx laneBlock (BitVec.ofNat 32 b) i).toNat % S256x128.size c, Nat.mod_lt _ (Fin.pos (i c))⟩ : Fin (S256x128.size c)) else i c) = k
    have k0 : (k 0).val = (i 0).val := by rw [← hk]; rfl
    have k1 : (k 1).val = (laneIdx laneBlock (BitVec.ofNat 32 b) i).toNat % 128 := by rw [← hk]; rfl
    unfold scaleWin
    have : shapeCast S256x128 sv (by decide) k = shapeCast S256x128 sv' (by decide) k := by
      rw [sc3, sc3, k0, k1, hl]
      exact h _ _ h0 (by omega)
    exact congrArg (fun x : F .bf16 => FloatOps.extf (F := F) (φ := .bf16) .f32 (by decide) x) this
  unfold piece
  rw [key]

end Cert.Mx
-- ==== Proof.Mx.Step.lean ====
/-
  The reduction steps, the outputs' blocks and the scales' decoding as programs with known results.
-/
module

public import proofs.«01_k».proof.Proof.Mx.Rules
public import proofs.«01_k».proof.Proof.Mx.Scale

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)

section Frames
variable {α : Type} {P P' R : PS nD τ sig F} {p : Prog (TpuEff nD τ sig (Elt F) Λ .tc) α} {v : α}

theorem T.frl (h : T 𝒱 d bd defs P p v P') : T 𝒱 d bd defs iprop(P ∗ R) p v iprop(P' ∗ R) := h.fr _ _ _ R Entails.rfl Entails.rfl
theorem T.frr (h : T 𝒱 d bd defs P p v P') : T 𝒱 d bd defs iprop(R ∗ P) p v iprop(R ∗ P') := h.fr _ _ _ R BI.sep_comm BI.sep_comm
end Frames

/-- The quantised activations. -/
abbrev xbO : PS nD τ sig F := Own d M.xb (fun _ => True) fullShare (XQ I)
/-- The codes of tile `n`, in their slot. -/
abbrev wbO (n : Nat) : PS nD τ sig F := Own d M.wb (fun i => (i 0).val = n % 3) fullShare (WB I n)
abbrev sbO (n : Nat) : PS nD τ sig F := Own d M.sb (fun i => (i 0).val = n % 3) fullShare (SB I n)
/-- The scales' buffer. -/
abbrev sclO (X : S2x256x384.Idx → Elt F .bf16) : PS nD τ sig F := Own d M.scl (fun _ => True) fullShare X
/-- The scales' buffer holds tile `n`'s scales. -/
def SCok (n : Nat) (X : S2x256x384.Idx → Elt F .bf16) : Prop := ∀ i, (i 2).val < 380 → X i = SC I n (i 0) (i 1).val (i 2).val
abbrev xsbO : PS nD τ sig F := Own d M.xsb (fun _ => True) fullShare (XSB I)
abbrev ybO (b : Nat) (Y : S2x1024x256.Idx → Elt F .bf16) : PS nD τ sig F := Own d M.yb (fun i => (i 0).val = b) fullShare Y

theorem WB_eq {n : Nat} {i : S3x2x256x12160.Idx} {g : Fin 2} {r c : Nat} (h1 : (i 1).val = g.val) (h2 : (i 2).val = r) (h3 : (i 3).val = c) : WB I n i = WBf I n g r c := by
  have e : (i 1 : Fin 2) = g := Fin.ext h1
  show WBf I n (i 1) _ _ = _
  exact congr (congr (congrArg (WBf I n) e) h2) h3

theorem SC_eq {n : Nat} {X : S2x256x384.Idx → Elt F .bf16} (hX : SCok I n X) {i : S2x256x384.Idx} {g : Fin 2} {r c : Nat} (h1 : (i 0).val = g.val) (h2 : (i 1).val = r)
    (h3 : (i 2).val = c) (hc : c < 380) : X i = SC I n g r c := by
  rw [hX i (by omega)]
  have e : (i 0 : Fin 2) = g := Fin.ext h1
  exact congr (congr (congrArg (SC I n) e) h2) h3

/-- A window of the scales' buffer, as loaded. -/
def xw (X : S2x256x384.Idx → Elt F .bf16) (g : Fin 2) (b : Nat) (h : b + 128 ≤ 384) : Vec F S1x256x128 .bf16 :=
  fun j => X ((Rect.unit (s := S2x256x384) ![g.val, 0, b] S1x256x128.size (inb3 (by omega) (by omega) h)).emb j)

theorem xw_eq {n : Nat} {X : S2x256x384.Idx → Elt F .bf16} (hX : SCok I n X) (g : Fin 2) {b : Nat} (h : 128 * b + 128 ≤ 384) {m : Nat} (hm : m ≤ 128) (hm' : 128 * b + m ≤ 380) :
    ∀ r l, r < 256 → l < m → xw X g (128 * b) h (nx3 1 256 128 0 r l) = scv I n g b (nx3 1 256 128 0 r l) := by
  intro r l hr hl
  have e1 : (nx3 1 256 128 0 r l 1).val = r := Nat.mod_eq_of_lt hr
  have e2 : (nx3 1 256 128 0 r l 2).val = l := Nat.mod_eq_of_lt (by omega)
  unfold xw scv
  refine SC_eq I hX ?_ ?_ ?_ ?_
  · rw [unit_val]; show g.val + 0 % 1 = _; omega
  · rw [unit_val]; show 0 + (nx3 1 256 128 0 r l 1).val = _; omega
  · rw [unit_val]; rfl
  · omega

theorem WT_of {n k : Nat} (hk : k < 47) {X : S2x256x384.Idx → Elt F .bf16} (hX : SCok I n X) (g : Fin 2) (h) :
    wtile laneBlock (BitVec.ofNat 32 (8 * k % 128)) (xw X g (128 * (8 * k / 128)) h) (wv I n g (2 * k)) (wv I n g (2 * k + 1)) = WT I n k g := by
  unfold WT
  rw [if_pos hk]
  unfold wtile
  have e0 : Scalar.addi (BitVec.ofNat 32 (8 * k % 128)) 0#32 = BitVec.ofNat 32 (8 * k % 128) := by
    show _ + _ = _; simp
  have e4 : Scalar.addi (BitVec.ofNat 32 (8 * k % 128)) 4#32 = BitVec.ofNat 32 (8 * k % 128 + 4) := by
    show _ + _ = _
    rw [← BitVec.ofNat_add]
  rw [e0, e4, piece_congr (by omega) (xw_eq I hX g h (by omega) (by omega)), piece_congr (by omega) (xw_eq I hX g h (by omega) (by omega))]

theorem WT_half {n : Nat} {X : S2x256x384.Idx → Elt F .bf16} (hX : SCok I n X) (g : Fin 2) (h) :
    whalf laneBlock (xw X g (128 * 2) h) (wv I n g 94) = WT I n 47 g := by
  unfold WT
  rw [if_neg (by omega)]
  unfold whalf
  rw [show (120#32) = BitVec.ofNat 32 120 from rfl, piece_congr (by omega) (xw_eq I hX g h (by omega) (by omega))]

theorem none_up {α : Type} (v : Fin 2 → α) : up1 (up1 (fun _ => none) 0 (some (v 0))) 1 (some (v 1)) = fun q => some (v q) := by
  funext q
  match q with
  | 0 => rfl
  | 1 => rfl

theorem pushed2 (G : Fin 2 → Option (Tile F)) (A : Fin 2 → Fin 4 → Option (Sum F)) (w : Fin 2 → Tile F) :
    ((mx (fun _ => none) G A).pushed 0 0 true (w 0)).pushed 1 0 true (w 1) = mx (fun q => some (w q)) G A := by
  rw [pushed_eq _ _ _ rfl, pushed_eq _ _ _ rfl, none_up]

/-- What a step's loads read. -/
abbrev stO (n : Nat) (X : S2x256x384.Idx → Elt F .bf16) : PS nD τ sig F := iprop(sclO d M X ∗ wbO d M I n)

theorem T_pushC {n k : Nat} (h : k < 47) {X : S2x256x384.Idx → Elt F .bf16} (hX : SCok I n X) (G : Fin 2 → Option (Tile F)) (A : Fin 2 → Fin 4 → Option (Sum F)) :
    T 𝒱 d bd defs (stO d M I n X) (pushC M n k h (mx (fun _ => none) G A)) (mx (fun q => some (WT I n k q)) G A) (stO d M I n X) := by
  rw [← pushed2 G A (fun q => WT I n k q), ← WT_of I h hX 0 (by omega), ← WT_of I h hX 1 (by omega)]
  unfold pushC pushP lds ldw
  refine T.bind 𝒱 d bd (T.frl 𝒱 d bd (T_load 𝒱 d bd (v := xw X 0 (128 * (8 * k / 128)) (by omega)) (fun _ => trivial) (fun _ => rfl))) ?_
  refine T.bind 𝒱 d bd (T.frr 𝒱 d bd (T_load 𝒱 d bd (v := wv I n 0 (2 * k)) (fun j => ?_) (fun j => WB_eq I ?_ ?_ ?_))) ?_
  · rw [unit_val]; show n % 3 + (j 0).val = _; have : (j 0).val < 1 := (j 0).isLt; omega
  · rw [unit_val]; show 0 + (j 1).val = 0; have : (j 1).val < 1 := (j 1).isLt; omega
  · rw [unit_val]; show 0 + (j 2).val = _; omega
  · rw [unit_val]; show 256 * k + (j 3).val = _; omega
  refine T.bind 𝒱 d bd (T.frr 𝒱 d bd (T_load 𝒱 d bd (v := wv I n 0 (2 * k + 1)) (fun j => ?_) (fun j => WB_eq I ?_ ?_ ?_))) ?_
  · rw [unit_val]; show n % 3 + (j 0).val = _; have : (j 0).val < 1 := (j 0).isLt; omega
  · rw [unit_val]; show 0 + (j 1).val = 0; have : (j 1).val < 1 := (j 1).isLt; omega
  · rw [unit_val]; show 0 + (j 2).val = _; omega
  · rw [unit_val]; show 256 * k + 128 + (j 3).val = _; omega
  refine T.bind 𝒱 d bd (T_push 𝒱 d bd (pushOk _ _ _ rfl)) ?_
  refine T.bind 𝒱 d bd (T.frl 𝒱 d bd (T_load 𝒱 d bd (v := xw X 1 (128 * (8 * k / 128)) (by omega)) (fun _ => trivial) (fun _ => rfl))) ?_
  refine T.bind 𝒱 d bd (T.frr 𝒱 d bd (T_load 𝒱 d bd (v := wv I n 1 (2 * k)) (fun j => ?_) (fun j => WB_eq I ?_ ?_ ?_))) ?_
  · rw [unit_val]; show n % 3 + (j 0).val = _; have : (j 0).val < 1 := (j 0).isLt; omega
  · rw [unit_val]; show 1 + (j 1).val = 1; have : (j 1).val < 1 := (j 1).isLt; omega
  · rw [unit_val]; show 0 + (j 2).val = _; omega
  · rw [unit_val]; show 256 * k + (j 3).val = _; omega
  refine T.bind 𝒱 d bd (T.frr 𝒱 d bd (T_load 𝒱 d bd (v := wv I n 1 (2 * k + 1)) (fun j => ?_) (fun j => WB_eq I ?_ ?_ ?_))) ?_
  · rw [unit_val]; show n % 3 + (j 0).val = _; have : (j 0).val < 1 := (j 0).isLt; omega
  · rw [unit_val]; show 1 + (j 1).val = 1; have : (j 1).val < 1 := (j 1).isLt; omega
  · rw [unit_val]; show 0 + (j 2).val = _; omega
  · rw [unit_val]; show 256 * k + 128 + (j 3).val = _; omega
  refine T_push 𝒱 d bd ?_
  rw [pushed_eq _ _ _ rfl]
  exact pushOk _ _ _ rfl

theorem T_pushH {n : Nat} {X : S2x256x384.Idx → Elt F .bf16} (hX : SCok I n X) (G : Fin 2 → Option (Tile F)) (A : Fin 2 → Fin 4 → Option (Sum F)) :
    T 𝒱 d bd defs (stO d M I n X) (pushH M n (mx (fun _ => none) G A)) (mx (fun q => some (WT I n 47 q)) G A) (stO d M I n X) := by
  rw [← pushed2 G A (fun q => WT I n 47 q), ← WT_half I hX 0 (by omega), ← WT_half I hX 1 (by omega)]
  unfold pushH pushHalf lds ldw
  refine T.bind 𝒱 d bd (T.frl 𝒱 d bd (T_load 𝒱 d bd (v := xw X 0 (128 * 2) (by omega)) (fun _ => trivial) (fun _ => rfl))) ?_
  refine T.bind 𝒱 d bd (T.frr 𝒱 d bd (T_load 𝒱 d bd (v := wv I n 0 94) (fun j => ?_) (fun j => WB_eq I ?_ ?_ ?_))) ?_
  · rw [unit_val]; show n % 3 + (j 0).val = _; have : (j 0).val < 1 := (j 0).isLt; omega
  · rw [unit_val]; show 0 + (j 1).val = 0; have : (j 1).val < 1 := (j 1).isLt; omega
  · rw [unit_val]; show 0 + (j 2).val = _; omega
  · rw [unit_val]; show 12032 + (j 3).val = _; omega
  refine T.bind 𝒱 d bd (T_push 𝒱 d bd (pushOk _ _ _ rfl)) ?_
  refine T.bind 𝒱 d bd (T.frl 𝒱 d bd (T_load 𝒱 d bd (v := xw X 1 (128 * 2) (by omega)) (fun _ => trivial) (fun _ => rfl))) ?_
  refine T.bind 𝒱 d bd (T.frr 𝒱 d bd (T_load 𝒱 d bd (v := wv I n 1 94) (fun j => ?_) (fun j => WB_eq I ?_ ?_ ?_))) ?_
  · rw [unit_val]; show n % 3 + (j 0).val = _; have : (j 0).val < 1 := (j 0).isLt; omega
  · rw [unit_val]; show 1 + (j 1).val = 1; have : (j 1).val < 1 := (j 1).isLt; omega
  · rw [unit_val]; show 0 + (j 2).val = _; omega
  · rw [unit_val]; show 12032 + (j 3).val = _; omega
  refine T_push 𝒱 d bd ?_
  rw [pushed_eq _ _ _ rfl]
  exact pushOk _ _ _ rfl

theorem some_up {α : Type} (v : Fin 2 → α) : up1 (up1 (fun q => some (v q)) 0 none) 1 none = fun _ => none := by
  funext q
  match q with
  | 0 => rfl
  | 1 => rfl
theorem gmr_up {α : Type} (G : Fin 2 → Option α) (v : Fin 2 → α) : up1 (up1 G 0 (some (v 0))) 1 (some (v 1)) = fun q => some (v q) := by
  funext q
  match q with
  | 0 => rfl
  | 1 => rfl

/-- The activations' windows. -/
theorem T_ldx {k : Nat} (h : k < 48) (a : Fin 4) {o : Nat} (ho : o = 256 * a.val) (hi : Inb ![o, 256 * k] ![256, 256] ![1024, 12288]) :
    T 𝒱 d bd defs (xbO d M I) (ldx (F := F) M.xb ![o, 256 * k] hi) (XB I k a) (xbO d M I) := by
  subst ho
  unfold ldx
  refine T_load 𝒱 d bd ?_ ?_
  · intro _; trivial
  intro j
  unfold XB
  refine congrArg (XQ I) (nx2_eq ?_ ?_).symm
  · rw [unit_val]; rfl
  · rw [unit_val]; rfl

theorem T_stepC {k : Nat} (h : k < 48) {P P' : PS nD τ sig F} {push : Mxu F → Prog (TpuEff nD τ sig (Elt F) Λ .tc) (Mxu F)} {T' : Fin 2 → Option (Tile F)}
    (hp : ∀ G A, T 𝒱 d bd defs P (push (mx (fun _ => none) G A)) (mx T' G A) P') (W : Fin 2 → Tile F) (G : Fin 2 → Option (Tile F)) (A : Fin 2 → Fin 4 → Option (Sum F)) :
    T 𝒱 d bd defs iprop(xbO d M I ∗ P) (stepC M k h push (mx (fun q => some (W q)) G A))
      (mx T' (fun q => some (W q)) (fun q a => some (dep (A q a) (ps (XB I k a) (W q))))) iprop(xbO d M I ∗ P') := by
  have e : mx T' (fun q => some (W q)) (fun q a => some (dep (A q a) (ps (XB I k a) (W q))))
      = ((((((mx T' (fun q => some (W q)) (up2 (up2 A 0 0 (some (dep (A 0 0) (ps (XB I k 0) (W 0))))) 1 0 (some (dep (A 1 0) (ps (XB I k 0) (W 1)))))).accBy 0 (stg (W 0)) 64 (XB I k 1) fits64).accBy 1 (stg (W 1)) 64 (XB I k 1) fits64).accBy 0 (stg (W 0)) 128 (XB I k 2) fits128).accBy 1 (stg (W 1)) 128 (XB I k 2) fits128).accBy 0 (stg (W 0)) 192 (XB I k 3) fits192).accBy 1 (stg (W 1)) 192 (XB I k 3) fits192 := by
    rw [accBy_eq _ _ _ (a := 1) (Ad := 64) rfl, accBy_eq _ _ _ (a := 1) (Ad := 64) rfl, accBy_eq _ _ _ (a := 2) (Ad := 128) rfl, accBy_eq _ _ _ (a := 2) (Ad := 128) rfl, accBy_eq _ _ _ (a := 3) (Ad := 192) rfl, accBy_eq _ _ _ (a := 3) (Ad := 192) rfl]
    congr 1
    funext q a
    match q, a with
    | 0, 0 => rfl
    | 0, 1 => rfl
    | 0, 2 => rfl
    | 0, 3 => rfl
    | 1, 0 => rfl
    | 1, 1 => rfl
    | 1, 2 => rfl
    | 1, 3 => rfl
  have e1 : ((mx (fun q => some (W q)) G A).accLhs 0 0 0 (XB I k 0) fits0).accLhs 1 0 0 (XB I k 0) fits0
      = mx (fun _ => none) (fun q => some (W q)) (up2 (up2 A 0 0 (some (dep (A 0 0) (ps (XB I k 0) (W 0))))) 1 0 (some (dep (A 1 0) (ps (XB I k 0) (W 1))))) := by
    rw [accLhs_eq (fun q => some (W q)) G A (q := 0) (a := 0) (Ad := 0) rfl (w := W 0) rfl, accLhs_eq _ _ _ (q := 1) (a := 0) (Ad := 0) rfl (w := W 1) rfl, some_up, gmr_up]
    rfl
  rw [e]
  unfold stepC stepP lhsAt
  refine T.bind 𝒱 d bd (T.frl 𝒱 d bd (T_ldx 𝒱 d bd M I h 0 rfl _)) ?_
  rw [e1]
  refine T.bind 𝒱 d bd (T.frr 𝒱 d bd (hp _ _)) ?_
  refine T.bind 𝒱 d bd (T.frl 𝒱 d bd (T_ldx 𝒱 d bd M I h 1 rfl _)) ?_
  refine T.bind 𝒱 d bd (T_loaded 𝒱 d bd (w := stg (W 0)) rfl) ?_
  refine T.bind 𝒱 d bd (T_loaded 𝒱 d bd (w := stg (W 1)) rfl) ?_
  refine T.bind 𝒱 d bd (T.frl 𝒱 d bd (T_ldx 𝒱 d bd M I h 2 rfl _)) ?_
  refine T.bind 𝒱 d bd (T_loaded 𝒱 d bd (w := stg (W 0)) rfl) ?_
  refine T.bind 𝒱 d bd (T_loaded 𝒱 d bd (w := stg (W 1)) rfl) ?_
  refine T.bind 𝒱 d bd (T.frl 𝒱 d bd (T_ldx 𝒱 d bd M I h 3 rfl _)) ?_
  refine T.bind 𝒱 d bd (T_loaded 𝒱 d bd (w := stg (W 0)) rfl) ?_
  exact T_loaded 𝒱 d bd (w := stg (W 1)) rfl

/-- What a step of the last tile adds: unit 0 the first half's blocks, unit 1 the second half's. -/
def depT (k : Nat) (W : Fin 2 → Tile F) (A : Fin 2 → Fin 4 → Option (Sum F)) : Fin 2 → Fin 4 → Option (Sum F) :=
  fun q a => if q = half a then some (dep (A q a) (ps (XB I k a) (W q))) else A q a

theorem T_stepT {k : Nat} (h : k < 48) {P P' : PS nD τ sig F} {push : Mxu F → Prog (TpuEff nD τ sig (Elt F) Λ .tc) (Mxu F)} {T' : Fin 2 → Option (Tile F)}
    (hp : ∀ G A, T 𝒱 d bd defs P (push (mx (fun _ => none) G A)) (mx T' G A) P') (W : Fin 2 → Tile F) (G : Fin 2 → Option (Tile F)) (A : Fin 2 → Fin 4 → Option (Sum F)) :
    T 𝒱 d bd defs iprop(xbO d M I ∗ P) (stepT M k h push (mx (fun q => some (W q)) G A))
      (mx T' (fun q => some (W q)) (depT I k W A)) iprop(xbO d M I ∗ P') := by
  have e : mx T' (fun q => some (W q)) (depT I k W A)
      = ((mx T' (fun q => some (W q)) (up2 (up2 A 0 0 (some (dep (A 0 0) (ps (XB I k 0) (W 0))))) 1 2 (some (dep (A 1 2) (ps (XB I k 2) (W 1)))))).accBy 0 (stg (W 0)) 64 (XB I k 1) fits64).accBy 1 (stg (W 1)) 192 (XB I k 3) fits192 := by
    rw [accBy_eq _ _ _ (a := 1) (Ad := 64) rfl, accBy_eq _ _ _ (a := 3) (Ad := 192) rfl]
    congr 1
    funext q a
    match q, a with
    | 0, 0 => rfl
    | 0, 1 => rfl
    | 0, 2 => rfl
    | 0, 3 => rfl
    | 1, 0 => rfl
    | 1, 1 => rfl
    | 1, 2 => rfl
    | 1, 3 => rfl
  have e1 : ((mx (fun q => some (W q)) G A).accLhs 0 0 0 (XB I k 0) fits0).accLhs 1 0 128 (XB I k 2) fits128
      = mx (fun _ => none) (fun q => some (W q)) (up2 (up2 A 0 0 (some (dep (A 0 0) (ps (XB I k 0) (W 0))))) 1 2 (some (dep (A 1 2) (ps (XB I k 2) (W 1))))) := by
    rw [accLhs_eq (fun q => some (W q)) G A (q := 0) (a := 0) (Ad := 0) rfl (w := W 0) rfl, accLhs_eq _ _ _ (q := 1) (a := 2) (Ad := 128) rfl (w := W 1) rfl, some_up, gmr_up]
    rfl
  rw [e]
  unfold stepT stepPT lhsAt
  refine T.bind 𝒱 d bd (T.frl 𝒱 d bd (T_ldx 𝒱 d bd M I h 0 rfl _)) ?_
  refine T.bind 𝒱 d bd (T.frl 𝒱 d bd (T_ldx 𝒱 d bd M I h 2 rfl _)) ?_
  rw [e1]
  refine T.bind 𝒱 d bd (T.frr 𝒱 d bd (hp _ _)) ?_
  refine T.bind 𝒱 d bd (T.frl 𝒱 d bd (T_ldx 𝒱 d bd M I h 1 rfl _)) ?_
  refine T.bind 𝒱 d bd (T_loaded 𝒱 d bd (w := stg (W 0)) rfl) ?_
  refine T.bind 𝒱 d bd (T.frl 𝒱 d bd (T_ldx 𝒱 d bd M I h 3 rfl _)) ?_
  exact T_loaded 𝒱 d bd (w := stg (W 1)) rfl

/-- The units after step `k` of tile `n`. -/
def U (n k : Nat) : Mxu F := mx (fun q => some (WT I n (k + 1) q)) (fun q => some (WT I n k q)) (fun q a => some (ACC I n q a k))
/-- The sums of the last tile after step `k`. -/
def AT (k : Nat) : Fin 2 → Fin 4 → Option (Sum F) := fun q a => some (ACC I 66 q a (if q = half a then k else 0))
def UT (k : Nat) : Mxu F := mx (fun q => some (WT I 66 (k + 1) q)) (fun q => some (WT I 66 k q)) (AT I k)

/-- What the steps of tile `n` hold. -/
abbrev tileO (n : Nat) (X : S2x256x384.Idx → Elt F .bf16) : PS nD τ sig F := iprop(xbO d M I ∗ stO d M I n X)

theorem T_stepsC {n : Nat} {X : S2x256x384.Idx → Elt F .bf16} (hX : SCok I n X) : ∀ (m k : Nat) (h : k + 1 + m ≤ 46),
    T 𝒱 d bd defs (tileO d M I n X) (stepsC M n m (k + 1) h (U I n k)) (U I n (k + m)) (tileO d M I n X)
  | 0, k, h => T.pure 𝒱 d bd
  | m + 1, k, h => by
    unfold stepsC
    refine T.bind 𝒱 d bd (T_stepC 𝒱 d bd M I _ (fun G A => T_pushC 𝒱 d bd M I _ hX G A) _ _ _) ?_
    have := T_stepsC hX m (k + 1) (by omega)
    rw [show k + (m + 1) = k + 1 + m by omega]
    exact this

theorem AT_step (k : Nat) : depT I (k + 1) (WT I 66 (k + 1)) (AT I k) = AT I (k + 1) := by
  funext q a
  match q, a with
  | 0, 0 => rfl
  | 0, 1 => rfl
  | 0, 2 => rfl
  | 0, 3 => rfl
  | 1, 0 => rfl
  | 1, 1 => rfl
  | 1, 2 => rfl
  | 1, 3 => rfl

theorem T_stepsT {X : S2x256x384.Idx → Elt F .bf16} (hX : SCok I 66 X) : ∀ (m k : Nat) (h : k + 1 + m ≤ 46),
    T 𝒱 d bd defs (tileO d M I 66 X) (stepsT M m (k + 1) h (UT I k)) (UT I (k + m)) (tileO d M I 66 X)
  | 0, k, h => T.pure 𝒱 d bd
  | m + 1, k, h => by
    unfold stepsT
    refine T.bind 𝒱 d bd (T_stepT 𝒱 d bd M I _ (fun G A => T_pushC 𝒱 d bd M I _ hX G A) _ _ _) ?_
    have := T_stepsT hX m (k + 1) (by omega)
    rw [show k + (m + 1) = k + 1 + m by omega]
    rw [AT_step]
    exact this

theorem T_t3 {n : Nat} {X : S2x256x384.Idx → Elt F .bf16} (hX : SCok I n X) :
    T 𝒱 d bd defs (tileO d M I n X) (lp3.for lp3_ok (0#32, U I n 0) (t3body M n)) (0#32, U I n 45) (tileO d M I n X) := by
  refine T.loop 𝒱 d bd (fun _ => tileO d M I n X) (fun t => (0#32, U I n (15 * t))) lp3_trips rfl (fun t => ?_)
  unfold t3body
  refine T.bind 𝒱 d bd (T_stepsC 𝒱 d bd M I hX 15 (15 * t.val) _) ?_
  exact T.pure 𝒱 d bd

theorem T_t4 {X : S2x256x384.Idx → Elt F .bf16} (hX : SCok I 66 X) :
    T 𝒱 d bd defs (tileO d M I 66 X) (lp3.for lp3_ok (0#32, UT I 0) (t4body M)) (0#32, UT I 45) (tileO d M I 66 X) := by
  refine T.loop 𝒱 d bd (fun _ => tileO d M I 66 X) (fun t => (0#32, UT I (15 * t))) lp3_trips rfl (fun t => ?_)
  unfold t4body
  refine T.bind 𝒱 d bd (T_stepsT 𝒱 d bd M I hX 15 (15 * t.val) _) ?_
  exact T.pure 𝒱 d bd

end Cert.Mx
-- ==== Proof.Mx.Quant.lean ====
/-
    The quantiser over 32 rows: the rows’ largest magnitudes, their scales, the codes and the quantised
  values piece by piece, and the padding, as programs with known results.
-/
module

public import proofs.«01_k».proof.Proof.Mx.Step

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)

/-- The rows of block `t` of the activations' buffer. -/
abbrev xrO (t : Nat) (X : S1024x12288.Idx → Elt F .bf16) : PS nD τ sig F := Own d M.xb (fun i => (i 0).val / 32 = t) fullShare X
/-- The codes' slot. -/
abbrev cbO (b : Nat) (X : S2x32x12160.Idx → Elt F .fp8e4m3) : PS nD τ sig F := Own d M.cb (fun i => (i 0).val = b) fullShare X

/-- The activations in their buffer. -/
def XP : S1024x12288.Idx → Elt F .bf16 := fun i => I.X (nx2 1024 12160 (i 0).val (i 1).val)
/-- The rows of the buffer, the first `c` pieces quantised. -/
def QX (c : Nat) (J : S1024x12288.Idx → Elt F .bf16) : S1024x12288.Idx → Elt F .bf16 :=
  fun i => if (i 1).val < 128 * c then XQ I i else if (i 1).val < 12160 then XP I i else J i
/-- The codes of the rows of block `t`. -/
def CB (t : Nat) : S2x32x12160.Idx → Elt F .fp8e4m3 := fun i => CV I (nx2 1024 12160 (32 * t + (i 1).val) (i 2).val)
/-- The codes' slot, the first `c` pieces written. -/
def CX (t c : Nat) (K : S2x32x12160.Idx → Elt F .fp8e4m3) : S2x32x12160.Idx → Elt F .fp8e4m3 :=
  fun i => if (i 2).val < 128 * c then CB I t i else K i

theorem XQ_at {t c a b : Nat} {i : S1024x12288.Idx} (h0 : (i 0).val = 32 * t + a) (ha : a < 32) (h1 : (i 1).val = 128 * c + b) (hb : b < 128) (hc : c < 95) :
    XQ I i = quantOut (invOf (F := F) (EX I t)) (pc I t c) (nx2 32 128 a b) := by
  unfold XQ
  rw [if_pos (by omega), show (i 0).val / 32 = t by omega, show (i 1).val / 128 = c by omega, show (i 0).val % 32 = a by omega, show (i 1).val % 128 = b by omega]

theorem CB_at {t c a b : Nat} {i : S2x32x12160.Idx} (ht : t < 32) (h0 : (i 1).val = a) (ha : a < 32) (h1 : (i 2).val = 128 * c + b) (hb : b < 128) (hc : c < 95) :
    CB I t i = codeOut (invOf (F := F) (EX I t)) (pc I t c) (nx3 1 32 128 0 a b) := by
  unfold CB CV
  have e0 : (nx2 1024 12160 (32 * t + (i 1).val) (i 2).val 0).val = 32 * t + a := by show (32 * t + (i 1).val) % 1024 = _; omega
  have e1 : (nx2 1024 12160 (32 * t + (i 1).val) (i 2).val 1).val = 128 * c + b := by show (i 2).val % 12160 = _; omega
  rw [e0, e1, show (32 * t + a) / 32 = t by omega, show (128 * c + b) / 128 = c by omega, show (32 * t + a) % 32 = a by omega, show (128 * c + b) % 128 = b by omega]

theorem T_ld32 {t c c' o : Nat} (J : S1024x12288.Idx → Elt F .bf16) (hc : c ≤ c') (hc' : c' < 95) (ho : o = 128 * c') (hi : Inb ![32 * t, o] ![32, 128] ![1024, 12288]) :
    T 𝒱 d bd defs (xrO d M t (QX I c J)) (ld32 (F := F) M.xb ![32 * t, o] hi) (pc I t c') (xrO d M t (QX I c J)) := by
  subst ho
  unfold ld32
  refine T_load 𝒱 d bd ?_ ?_
  · intro j
    have : (j 0).val < 32 := (j 0).isLt
    rw [unit_val]; show (32 * t + (j 0).val) / 32 = t; omega
  · intro j
    have : (j 1).val < 128 := (j 1).isLt
    have e0 : ((Rect.unit (s := S1024x12288) ![32 * t, 128 * c'] S32x128.size hi).emb j 0).val = 32 * t + (j 0).val := unit_val ..
    have e1 : ((Rect.unit (s := S1024x12288) ![32 * t, 128 * c'] S32x128.size hi).emb j 1).val = 128 * c' + (j 1).val := unit_val ..
    unfold QX XP pc
    rw [e0, e1, if_neg (by omega), if_pos (by omega)]

theorem T_amaxGo {t : Nat} (hb : 32 * t + 32 ≤ 1024) (J : S1024x12288.Idx → Elt F .bf16) : ∀ (n c : Nat) (h : c + n ≤ 95) (a : FVec F S32x128 .bf16),
    T 𝒱 d bd defs (xrO d M t (QX I 0 J)) (amaxGo (F := F) M.xb (32 * t) hb n c h a) (amaxF I t n c a) (xrO d M t (QX I 0 J))
  | 0, c, h, a => T.pure 𝒱 d bd
  | n + 1, c, h, a => by
    unfold amaxGo amaxF
    exact T.bind 𝒱 d bd (T_ld32 𝒱 d bd M I J (Nat.zero_le _) (by omega) rfl _) (T_amaxGo hb J n (c + 1) (by omega) _)

theorem T_amaxP {t : Nat} (hb : 32 * t + 32 ≤ 1024) (J : S1024x12288.Idx → Elt F .bf16) :
    T 𝒱 d bd defs (xrO d M t (QX I 0 J)) (amaxP (F := F) M.xb (32 * t) hb) (amaxF I t 94 1 (absf (pc I t 0))) (xrO d M t (QX I 0 J)) := by
  unfold amaxP
  exact T.bind 𝒱 d bd (T_ld32 𝒱 d bd M I J (Nat.le_refl _) (by omega) rfl _) (T_amaxGo 𝒱 d bd M I hb J 94 1 (by omega) _)

theorem T_scalesP {t : Nat} (hb : 32 * t + 32 ≤ 1024) :
    T 𝒱 d bd defs iprop((Junk d M.xs fun i => (i 0).val / 32 = t) ∗ Junk d M.xsb fun i => (i 0).val / 32 = t) (scalesP (F := F) M.xs M.xsb (32 * t) hb (EX I t)) ⟨⟩
      iprop(Own d M.xs (fun i => (i 0).val / 32 = t) fullShare (XSV I) ∗ Own d M.xsb (fun i => (i 0).val / 32 = t) fullShare (XSB I)) := by
  intro Φ
  unfold Junk
  iintro ⟨⟨%X, H⟩, ⟨%Y, H'⟩⟩ HK
  unfold scalesP
  rw [wp_bind]
  iapply (T_load 𝒱 d bd (m := M.xs) (X := X) (fun j => ?_) (fun _ => rfl) _) $$ H
  · have : (j 0).val < 32 := (j 0).isLt
    rw [unit_val]; show (32 * t + (j 0).val) / 32 = t; omega
  iintro H
  rw [wp_bind]
  iapply (T_store 𝒱 d bd (m := M.xs) (X := X) (Y := XSV I) (fun j => ?_) (fun j => ?_) (fun i hp hi => ?_) _) $$ H
  · have : (j 0).val < 32 := (j 0).isLt
    rw [unit_val]; show (32 * t + (j 0).val) / 32 = t; omega
  · have h0 : (j 0).val < 32 := (j 0).isLt
    have h1 : (j 1).val < 1 := (j 1).isLt
    unfold XSV
    rw [unit_val]
    rw [show ((![32 * t, 0] : Fin 2 → Nat) 0 + (j 0).val) / 32 = t by show (32 * t + (j 0).val) / 32 = t; omega]
    refine congrArg _ (nx2_eq ?_ ?_)
    · show (32 * t + (j 0).val) % 32 = _; omega
    · omega
  · exfalso
    have h1 : (i 1).val < 1 := (i 1).isLt
    have hp : (i 0).val / 32 = t := hp
    obtain ⟨j, -, hj⟩ := (unit_mem2 (h := inb2 hb (by omega)) (o := 32 * t) (o' := 0) (z := 32) (z' := 1) (i := i)).mpr ⟨by omega, by omega⟩
    exact hi j hj
  iintro H
  rw [wp_bind]
  iapply (T_load 𝒱 d bd (m := M.xsb) (X := Y) (fun j => ?_) (fun _ => rfl) _) $$ H'
  · have : (j 0).val < 32 := (j 0).isLt
    rw [unit_val]; show (32 * t + (j 0).val) / 32 = t; omega
  iintro H'
  iapply (T_store 𝒱 d bd (m := M.xsb) (X := Y) (Y := XSB I) (fun j => ?_) (fun j => ?_) (fun i hp hi => ?_) _) $$ H'
  · have : (j 0).val < 32 := (j 0).isLt
    rw [unit_val]; show (32 * t + (j 0).val) / 32 = t; omega
  · have h0 : (j 0).val < 32 := (j 0).isLt
    unfold XSB
    rw [unit_val, unit_val]
    rw [show ((![32 * t, 0] : Fin 2 → Nat) 0 + (j 0).val) / 32 = t by show (32 * t + (j 0).val) / 32 = t; omega]
    refine congrArg _ (nx2_eq ?_ ?_)
    · show (32 * t + (j 0).val) % 32 = _; omega
    · show 0 + (j 1).val = _; omega
  · exfalso
    have h1 : (i 1).val < 128 := (i 1).isLt
    have hp : (i 0).val / 32 = t := hp
    obtain ⟨j, -, hj⟩ := (unit_mem2 (h := inb2 hb (by omega)) (o := 32 * t) (o' := 0) (z := 32) (z' := 128) (i := i)).mpr ⟨by omega, by omega⟩
    exact hi j hj
  iintro H'
  iapply HK
  isplitl [H]; · iexact H
  iexact H'

theorem T_chunkP {t : Nat} (ht : t < 32) {b : Nat} (hb : 32 * t + 32 ≤ 1024) (hb' : b + 1 ≤ 2) (p) (p') (J : S1024x12288.Idx → Elt F .bf16) (K : S2x32x12160.Idx → Elt F .fp8e4m3)
    (c : Nat) (h : c < 95) :
    T 𝒱 d bd defs iprop(xrO d M t (QX I c J) ∗ cbO d M b (CX I t c K)) (chunkP (F := F) M (32 * t) b hb hb' p p' (invOf (F := F) (EX I t)) c h) ⟨⟩
      iprop(xrO d M t (QX I (c + 1) J) ∗ cbO d M b (CX I t (c + 1) K)) := by
  unfold chunkP
  refine T.bind 𝒱 d bd (T.frl 𝒱 d bd (T_ld32 𝒱 d bd M I J (Nat.le_refl _) h rfl _)) ?_
  unfold ldc
  refine T.bind 𝒱 d bd (T.frr 𝒱 d bd (T_load 𝒱 d bd (fun j => ?_) (fun _ => rfl))) ?_
  · rw [unit_val]; show b + (j 0).val = _; have : (j 0).val < 1 := (j 0).isLt; omega
  unfold stc
  refine T.bind 𝒱 d bd (T.frr 𝒱 d bd (T_store 𝒱 d bd (Y := CX I t (c + 1) K) (fun j => ?_) (fun j => ?_) (fun i hp hi => ?_))) ?_
  · rw [unit_val]; show b + (j 0).val = _; have : (j 0).val < 1 := (j 0).isLt; omega
  · have h0 : (j 0).val < 1 := (j 0).isLt
    have h1 : (j 1).val < 32 := (j 1).isLt
    have h2 : (j 2).val < 128 := (j 2).isLt
    have e1 : ((Rect.unit (s := S2x32x12160) ![b, 0, 128 * c] S1x32x128.size (inb3 hb' (by omega) (by omega))).emb j 1).val = (j 1).val := by rw [unit_val]; show 0 + _ = _; omega
    have e2 : ((Rect.unit (s := S2x32x12160) ![b, 0, 128 * c] S1x32x128.size (inb3 hb' (by omega) (by omega))).emb j 2).val = 128 * c + (j 2).val := unit_val ..
    unfold CX
    rw [if_pos (by omega), CB_at I ht e1 h1 e2 h2 h]
    exact congrArg _ (nx3_eq (by omega) rfl rfl)
  · unfold CX
    have hp : (i 0).val = b := hp
    have h1 : (i 1).val < 32 := (i 1).isLt
    have h2 : ¬ (128 * c ≤ (i 2).val ∧ (i 2).val < 128 * c + 128) := fun h2 => by
      obtain ⟨j, -, hj⟩ := (unit_mem3 (h := inb3 hb' (by omega) (by omega)) (o := b) (o' := 0) (o2 := 128 * c) (z := 1) (z' := 32) (z2 := 128) (i := i)).mpr ⟨by omega, by omega, by omega⟩
      exact hi j hj
    by_cases h3 : (i 2).val < 128 * c
    · rw [if_pos (by omega), if_pos h3]
    · rw [if_neg (by omega), if_neg h3]
  refine T.bind 𝒱 d bd (T.frl 𝒱 d bd (T_ld32 𝒱 d bd M I J (Nat.le_refl _) h rfl _)) ?_
  unfold st32
  refine T.frl 𝒱 d bd (T_store 𝒱 d bd (Y := QX I (c + 1) J) (fun j => ?_) (fun j => ?_) (fun i hp hi => ?_))
  · have : (j 0).val < 32 := (j 0).isLt
    rw [unit_val]; show (32 * t + (j 0).val) / 32 = t; omega
  · have h0 : (j 0).val < 32 := (j 0).isLt
    have h1 : (j 1).val < 128 := (j 1).isLt
    have e1 : ((Rect.unit (s := S1024x12288) ![32 * t, 128 * c] S32x128.size (inb2 hb (by omega))).emb j 0).val = 32 * t + (j 0).val := unit_val ..
    have e2 : ((Rect.unit (s := S1024x12288) ![32 * t, 128 * c] S32x128.size (inb2 hb (by omega))).emb j 1).val = 128 * c + (j 1).val := unit_val ..
    unfold QX
    rw [if_pos (by omega), XQ_at I e1 h0 e2 h1 h]
    exact congrArg _ (nx2_eq rfl rfl)
  · unfold QX
    have hp : (i 0).val / 32 = t := hp
    have h2 : ¬ (128 * c ≤ (i 1).val ∧ (i 1).val < 128 * c + 128) := fun h2 => by
      obtain ⟨j, -, hj⟩ := (unit_mem2 (h := inb2 hb (by omega)) (o := 32 * t) (o' := 128 * c) (z := 32) (z' := 128) (i := i)).mpr ⟨by omega, by omega⟩
      exact hi j hj
    by_cases h3 : (i 1).val < 128 * c
    · rw [if_pos (by omega), if_pos h3]
    · rw [if_neg (by omega), if_neg h3]

theorem T_chunksP {t : Nat} (ht : t < 32) {b : Nat} (hb : 32 * t + 32 ≤ 1024) (hb' : b + 1 ≤ 2) (p) (p') (J : S1024x12288.Idx → Elt F .bf16) (K : S2x32x12160.Idx → Elt F .fp8e4m3) :
    ∀ (n c : Nat) (h : c + n ≤ 95),
    T 𝒱 d bd defs iprop(xrO d M t (QX I c J) ∗ cbO d M b (CX I t c K)) (chunksP (F := F) M (32 * t) b hb hb' p p' (invOf (F := F) (EX I t)) n c h) ⟨⟩
      iprop(xrO d M t (QX I (c + n) J) ∗ cbO d M b (CX I t (c + n) K))
  | 0, c, h => T.pure 𝒱 d bd
  | n + 1, c, h => by
    unfold chunksP
    have := T_chunksP ht hb hb' p p' J K n (c + 1) (by omega)
    rw [show c + (n + 1) = c + 1 + n by omega]
    exact T.bind 𝒱 d bd (T_chunkP 𝒱 d bd M I ht hb hb' p p' J K c (by omega)) this

theorem T_zeroP {t : Nat} (hb : 32 * t + 32 ≤ 1024) (p) (J : S1024x12288.Idx → Elt F .bf16) :
    T 𝒱 d bd defs (xrO d M t (QX I 95 J)) (zeroP (F := F) M (32 * t) hb p) ⟨⟩ (xrO d M t (XQ I)) := by
  unfold zeroP ld32 st32
  refine T.bind 𝒱 d bd (T_load 𝒱 d bd (m := M.xb) (X := QX I 95 J) (fun j => ?_) (fun _ => rfl)) ?_
  · have : (j 0).val < 32 := (j 0).isLt
    rw [unit_val]; show (32 * t + (j 0).val) / 32 = t; omega
  refine T_store 𝒱 d bd (m := M.xb) (X := QX I 95 J) (Y := XQ I) (fun j => ?_) (fun j => ?_) (fun i hp hi => ?_)
  · have : (j 0).val < 32 := (j 0).isLt
    rw [unit_val]; show (32 * t + (j 0).val) / 32 = t; omega
  · have e2 : ((Rect.unit (s := S1024x12288) ![32 * t, 12160] S32x128.size (inb2 hb (by omega))).emb j 1).val = 12160 + (j 1).val := unit_val ..
    unfold XQ
    rw [if_neg (by omega)]
    rfl
  · have hp : (i 0).val / 32 = t := hp
    have h1 : (i 1).val < 12288 := (i 1).isLt
    have h2 : ¬ (12160 ≤ (i 1).val) := fun h2 => by
      obtain ⟨j, -, hj⟩ := (unit_mem2 (h := inb2 hb (by omega)) (o := 32 * t) (o' := 12160) (z := 32) (z' := 128) (i := i)).mpr ⟨by omega, by omega⟩
      exact hi j hj
    unfold QX
    rw [if_pos (by omega)]

end Cert.Mx
-- ==== Proof.Mx.Sw.lean ====
/-
  The scales' decoding, the outputs' blocks, and a whole tile's steps, as programs with known results.
-/
module

public import proofs.«01_k».proof.Proof.Mx.Step

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)

/-- The scales' buffer with one half decoded. -/
def sclUp (n : Nat) (g : Fin 2) (X : S2x256x384.Idx → Elt F .bf16) : S2x256x384.Idx → Elt F .bf16 :=
  fun i => if (i 0).val = g.val ∧ (i 2).val < 380 then SC I n g (i 1).val (i 2).val else X i

theorem T_scaleP (n : Nat) (g : Fin 2) (X : S2x256x384.Idx → Elt F .bf16) :
    T 𝒱 d bd defs iprop(sbO d M I n ∗ sclO d M X) (scaleP (F := F) M n g) ⟨⟩ iprop(sbO d M I n ∗ sclO d M (sclUp I n g X)) := by
  unfold scaleP
  refine T.bind 𝒱 d bd (T.frl 𝒱 d bd (T_load 𝒱 d bd (v := fun j => SBf I n g (j 2).val (j 3).val) (fun j => ?_) (fun j => ?_))) ?_
  · rw [unit_val]; show n % 3 + (j 0).val = _; have : (j 0).val < 1 := (j 0).isLt; omega
  · show SBf I n _ _ _ = _
    have h1 : (j 1).val < 1 := (j 1).isLt
    have e : ((Rect.unit (s := S3x2x256x380) ![n % 3, g.val, 0, 0] S1x1x256x380.size (inb4 (by omega) (by omega) (by omega) (by omega))).emb j 1 : Fin 2) = g := Fin.ext (by rw [unit_val]; show g.val + (j 1).val = _; omega)
    refine congr (congr (congrArg (SBf I n) e) ?_) ?_
    · rw [unit_val]; show 0 + (j 2).val = _; omega
    · rw [unit_val]; show 0 + (j 3).val = _; omega
  refine T.bind 𝒱 d bd (T.frr 𝒱 d bd (T_load 𝒱 d bd (fun _ => trivial) (fun _ => rfl))) ?_
  refine T.frr 𝒱 d bd (T_store 𝒱 d bd (fun _ => trivial) (fun j => ?_) (fun i _ hi => ?_))
  · have h0 : (j 0).val < 1 := (j 0).isLt
    have h2 : (j 2).val < 380 := (j 2).isLt
    unfold sclUp SC
    rw [unit_val, unit_val, unit_val]
    have c : (![g.val, 0, 0] : Fin 3 → Nat) 0 + (j 0).val = g.val ∧ (![g.val, 0, 0] : Fin 3 → Nat) 2 + (j 2).val < 380 :=
      ⟨by show g.val + (j 0).val = _; omega, by show 0 + (j 2).val < _; omega⟩
    rw [if_pos c, if_pos c.2]
    refine congrArg _ (nx3_eq ?_ ?_ ?_)
    · omega
    · show 0 + (j 1).val = _; omega
    · show 0 + (j 2).val = _; omega
  · unfold sclUp
    rw [if_neg]
    rintro ⟨h0, h2⟩
    have h1 : (i 1).val < 256 := (i 1).isLt
    obtain ⟨j, -, hj⟩ := (unit_mem3 (h := inb3 (by omega) (by omega) (by omega)) (o := g.val) (o' := 0) (o2 := 0) (z := 1) (z' := 256) (z2 := 380) (i := i)).mpr ⟨by omega, by omega, by omega⟩
    exact hi j hj

/-- The scales' buffer holding tile `n`'s scales. -/
def sclS (n : Nat) : PS nD τ sig F := iprop(∃ X, ⌜SCok I n X⌝ ∗ sclO d M X)

theorem T_scalesC (n : Nat) (X : S2x256x384.Idx → Elt F .bf16) :
    T 𝒱 d bd defs iprop(sbO d M I n ∗ sclO d M X) (scalesC (F := F) M n) ⟨⟩ iprop(sbO d M I n ∗ sclS d M I n) := by
  unfold scalesC
  refine T.bind 𝒱 d bd (T_scaleP 𝒱 d bd M I n 0 X) ?_
  refine T.cons 𝒱 d bd (T_scaleP 𝒱 d bd M I n 1 _) Entails.rfl ?_
  unfold sclS
  iintro ⟨H, HX⟩
  isplitl [H]; · iexact H
  iexists (sclUp I n 1 (sclUp I n 0 X))
  isplitr
  · ipureintro
    intro i hi
    unfold sclUp
    obtain h | h : i 0 = (0 : Fin 2) ∨ i 0 = (1 : Fin 2) := by
      have : (i 0).val < 2 := (i 0).isLt
      rcases Nat.lt_or_ge (i 0).val 1 with h | h
      · exact .inl (Fin.ext (by show (i 0).val = 0; omega))
      · exact .inr (Fin.ext (by show (i 0).val = 1; omega))
    · have e0 : (i 0).val = 0 := congrArg Fin.val h
      rw [if_neg (by rintro ⟨h1, -⟩; have : (i 0).val = 1 := h1; omega), if_pos ⟨e0, hi⟩, h]
    · rw [if_pos ⟨congrArg Fin.val h, hi⟩, h]
  · iexact HX

/-- The outputs' slot with a block of rows written. -/
def ybUp (n : Nat) (a : Fin 4) (Y : S2x1024x256.Idx → Elt F .bf16) : S2x1024x256.Idx → Elt F .bf16 :=
  fun i => if (i 1).val / 256 = a.val then YT I n (i 1).val (i 2).val else Y i
def ybUpT (a : Fin 4) (Y : S2x1024x256.Idx → Elt F .bf16) : S2x1024x256.Idx → Elt F .bf16 :=
  fun i => if (i 1).val / 256 = a.val ∧ (i 2).val < 128 then YT I 66 (i 1).val (i 2).val else Y i

/-- The row scales' windows. -/
theorem T_ldxs (a : Fin 4) (hi : Inb ![256 * a.val, 0] ![256, 128] ![1024, 128]) :
    T 𝒱 d bd defs (xsbO d M I) (ldxs (F := F) M.xsb ![256 * a.val, 0] hi) (xsv I a) (xsbO d M I) := by
  unfold ldxs
  refine T_load 𝒱 d bd ?_ ?_
  · intro _; trivial
  intro j
  unfold xsv
  refine congrArg (XSB I) (nx2_eq ?_ ?_).symm
  · rw [unit_val]; rfl
  · rw [unit_val]; show _ = 0 + (j 1).val; omega

theorem T_swP {n : Nat} (hn : n < 66) (b : Nat) (hb : b < 2) (a : Fin 4) {Ad : Nat} (hAd : Ad = 64 * a.val) (hA : Mxu.Fits Ad 256) (Y : S2x1024x256.Idx → Elt F .bf16)
    (T' G : Fin 2 → Option (Tile F)) (A : Fin 2 → Fin 4 → Option (Sum F)) (h : ∀ q, A q a = some (ACC I n q a 47)) :
    T 𝒱 d bd defs iprop(xsbO d M I ∗ ybO d M b Y) (swP M b hb a Ad hA (mx T' G A)) (mx T' G (up2 (up2 A 0 a none) 1 a none)) iprop(xsbO d M I ∗ ybO d M b (ybUp I n a Y)) := by
  unfold swP
  rw [pop_eq _ _ _ hAd, pop_eq _ _ _ hAd, read_eq _ _ _ hAd hA (h 0), read_eq _ _ _ hAd hA (v := ACC I n 1 a 47) (by rw [← h 1]; rfl)]
  refine T.bind 𝒱 d bd (T.frl 𝒱 d bd (T_ldxs 𝒱 d bd M I a _)) ?_
  refine T.bind 𝒱 d bd (T.frr 𝒱 d bd (T_load 𝒱 d bd (fun j => ?_) (fun _ => rfl))) ?_
  · rw [unit_val]; show b + (j 0).val = _; have : (j 0).val < 1 := (j 0).isLt; omega
  refine T.bind 𝒱 d bd (T.frr 𝒱 d bd (T_store 𝒱 d bd (Y := ybUp I n a Y) (fun j => ?_) (fun j => ?_) (fun i hp hi => ?_))) (T.pure 𝒱 d bd)
  · rw [unit_val]; show b + (j 0).val = _; have : (j 0).val < 1 := (j 0).isLt; omega
  · have h0 : (j 0).val < 1 := (j 0).isLt
    have h1 : (j 1).val < 256 := (j 1).isLt
    unfold ybUp YT
    rw [unit_val, unit_val]
    have c : ((![b, 256 * a.val, 0] : Fin 3 → Nat) 1 + (j 1).val) / 256 = a.val := by show (256 * a.val + (j 1).val) / 256 = _; omega
    have c' : Fin.ofNat 4 a.val = a := Fin.ext (Nat.mod_eq_of_lt a.isLt)
    rw [if_pos c, if_pos hn, c, c']
    refine congrArg _ (nx3_eq ?_ ?_ ?_)
    · omega
    · show (256 * a.val + (j 1).val) % 256 = _; omega
    · show 0 + (j 2).val = _; omega
  · unfold ybUp
    rw [if_neg]
    intro h1
    have hp : (i 0).val = b := hp
    have h2 : (i 2).val < 256 := (i 2).isLt
    obtain ⟨j, -, hj⟩ := (unit_mem3 (h := inb3 (by omega) (by omega) (by omega)) (o := b) (o' := 256 * a.val) (o2 := 0) (z := 1) (z' := 256) (z2 := 256) (i := i)).mpr ⟨by omega, by omega, by omega⟩
    exact hi j hj

theorem T_swPT (q : Fin 2) (a : Fin 4) (hq : q = half a) {Ad : Nat} (hAd : Ad = 64 * a.val) (hA : Mxu.Fits Ad 256) (Y : S2x1024x256.Idx → Elt F .bf16)
    (T' G : Fin 2 → Option (Tile F)) (A : Fin 2 → Fin 4 → Option (Sum F)) (h : A q a = some (ACC I 66 q a 47)) :
    T 𝒱 d bd defs iprop(xsbO d M I ∗ ybO d M 0 Y) (swPT M q a Ad hA (mx T' G A)) (mx T' G (up2 A q a none)) iprop(xsbO d M I ∗ ybO d M 0 (ybUpT I a Y)) := by
  unfold swPT
  rw [pop_eq _ _ _ hAd, read_eq _ _ _ hAd hA h]
  refine T.bind 𝒱 d bd (T.frl 𝒱 d bd (T_ldxs 𝒱 d bd M I a _)) ?_
  refine T.bind 𝒱 d bd (T.frr 𝒱 d bd (T_load 𝒱 d bd (fun j => ?_) (fun _ => rfl))) ?_
  · rw [unit_val]; show 0 + (j 0).val = _; have : (j 0).val < 1 := (j 0).isLt; omega
  refine T.bind 𝒱 d bd (T.frr 𝒱 d bd (T_store 𝒱 d bd (Y := ybUpT I a Y) (fun j => ?_) (fun j => ?_) (fun i hp hi => ?_))) (T.pure 𝒱 d bd)
  · rw [unit_val]; show 0 + (j 0).val = _; have : (j 0).val < 1 := (j 0).isLt; omega
  · have h0 : (j 0).val < 1 := (j 0).isLt
    have h1 : (j 1).val < 256 := (j 1).isLt
    have h2 : (j 2).val < 128 := (j 2).isLt
    unfold ybUpT YT
    rw [unit_val, unit_val]
    have c : ((![0, 256 * a.val, 0] : Fin 3 → Nat) 1 + (j 1).val) / 256 = a.val ∧ (![0, 256 * a.val, 0] : Fin 3 → Nat) 2 + (j 2).val < 128 :=
      ⟨by show (256 * a.val + (j 1).val) / 256 = _; omega, by show 0 + (j 2).val < _; omega⟩
    have c' : Fin.ofNat 4 a.val = a := Fin.ext (Nat.mod_eq_of_lt a.isLt)
    rw [if_pos c, if_neg (by omega), c.1, c', ← hq]
    refine congrArg _ (nx3_eq ?_ ?_ ?_)
    · omega
    · show (256 * a.val + (j 1).val) % 256 = _; omega
    · show 0 + (j 2).val = _; omega
  · unfold ybUpT
    rw [if_neg]
    rintro ⟨h1, h2⟩
    have hp : (i 0).val = 0 := hp
    obtain ⟨j, -, hj⟩ := (unit_mem3 (h := inb3 (by omega) (by omega) (by omega)) (o := 0) (o' := 256 * a.val) (o2 := 0) (z := 1) (z' := 256) (z2 := 128) (i := i)).mpr ⟨by omega, by omega, by omega⟩
    exact hi j hj

/-- Output tile `n` in its slot. -/
abbrev ytO (n : Nat) : PS nD τ sig F := ybO d M (n % 2) (fun i => YT I n (i 1).val (i 2).val)

/-- What a tile's trip works on. -/
def calcI (n : Nat) : PS nD τ sig F := iprop(xbO d M I ∗ sclS d M I n ∗ wbO d M I n ∗ wbO d M I (n + 1) ∗ sbO d M I (n + 1) ∗ xsbO d M I)
def calcO (n : Nat) : PS nD τ sig F := iprop(xbO d M I ∗ sclS d M I (n + 1) ∗ wbO d M I n ∗ wbO d M I (n + 1) ∗ sbO d M I (n + 1) ∗ xsbO d M I)

theorem T_t2calc {n : Nat} (hn : n < 66) :
    T 𝒱 d bd defs iprop(calcI d M I n ∗ Junk d M.yb fun i => (i 0).val = n % 2) (t2calc (F := F) M n (U I n 0)) (U I (n + 1) 0) iprop(calcO d M I n ∗ ytO d M I n) := by
  intro Φ
  unfold calcI calcO sclS Junk
  iintro ⟨⟨Hx, ⟨%X, %hX, Hs⟩, Hw, Hw', Hb, Hr⟩, ⟨%Y, HY⟩⟩ HK
  unfold t2calc
  rw [wp_bind]
  iapply (T_t3 𝒱 d bd M I hX _) $$ [Hx Hs Hw]
  · isplitl [Hx]; · iexact Hx
    isplitl [Hs]; · iexact Hs
    iexact Hw
  iintro ⟨Hx, Hs, Hw⟩
  rw [wp_bind]
  iapply (T_stepC 𝒱 d bd M I _ (fun G A => T_pushH 𝒱 d bd M I hX G A) (fun q => WT I n 46 q) _ _ _) $$ [Hx Hs Hw]
  · isplitl [Hx]; · iexact Hx
    isplitl [Hs]; · iexact Hs
    iexact Hw
  iintro ⟨Hx, Hs, Hw⟩
  rw [wp_bind]
  iapply (T_scalesC 𝒱 d bd M I (n + 1) X _) $$ [Hb Hs]
  · isplitl [Hb]; · iexact Hb
    iexact Hs
  unfold sclS
  iintro ⟨Hb, ⟨%X', %hX', Hs⟩⟩
  rw [wp_bind]
  iapply (T_stepC 𝒱 d bd M I _ (fun G A => T_pushC 𝒱 d bd M I _ hX' G A) (fun q => WT I n 47 q) _ _ _) $$ [Hx Hs Hw']
  · isplitl [Hx]; · iexact Hx
    isplitl [Hs]; · iexact Hs
    iexact Hw'
  iintro ⟨Hx, Hs, Hw'⟩
  rw [wp_bind]
  iapply (T_swP 𝒱 d bd M I hn _ _ 0 (Ad := 0) rfl _ Y _ _ _ (fun q => rfl) _) $$ [Hr HY]
  · isplitl [Hr]; · iexact Hr
    iexact HY
  iintro ⟨Hr, HY⟩
  rw [wp_bind]
  iapply (T_swP 𝒱 d bd M I hn _ _ 1 (Ad := 64) rfl _ _ _ _ _ (fun q => ?_) _) $$ [Hr HY]
  · match q with | 0 => rfl | 1 => rfl
  · isplitl [Hr]; · iexact Hr
    iexact HY
  iintro ⟨Hr, HY⟩
  rw [wp_bind]
  iapply (T_swP 𝒱 d bd M I hn _ _ 2 (Ad := 128) rfl _ _ _ _ _ (fun q => ?_) _) $$ [Hr HY]
  · match q with | 0 => rfl | 1 => rfl
  · isplitl [Hr]; · iexact Hr
    iexact HY
  iintro ⟨Hr, HY⟩
  rw [wp_bind]
  iapply (T_swP 𝒱 d bd M I hn _ _ 3 (Ad := 192) rfl _ _ _ _ _ (fun q => ?_) _) $$ [Hr HY]
  · match q with | 0 => rfl | 1 => rfl
  · isplitl [Hr]; · iexact Hr
    iexact HY
  iintro ⟨Hr, HY⟩
  iapply (T_stepC 𝒱 d bd M I _ (fun G A => T_pushC 𝒱 d bd M I _ hX' G A) (fun q => WT I (n + 1) 0 q) _ _ _) $$ [Hx Hs Hw']
  · isplitl [Hx]; · iexact Hx
    isplitl [Hs]; · iexact Hs
    iexact Hw'
  iintro ⟨Hx, Hs, Hw'⟩
  have e : ∀ A : Fin 2 → Fin 4 → Option (Sum F), (∀ q a, A q a = none) → mx (fun q => some (WT I (n + 1) 1 q)) (fun q => some (WT I (n + 1) 0 q)) (fun q a => some (dep (A q a) (ps (XB I 0 a) (WT I (n + 1) 0 q)))) = U I (n + 1) 0 := by
    intro A hA
    unfold U
    congr 1
    funext q a
    rw [hA]; rfl
  rw [e _ (by
    intro q a
    match q, a with
    | 0, 0 => rfl
    | 0, 1 => rfl
    | 0, 2 => rfl
    | 0, 3 => rfl
    | 1, 0 => rfl
    | 1, 1 => rfl
    | 1, 2 => rfl
    | 1, 3 => rfl)]
  iapply HK
  isplitr [HY]
  · isplitl [Hx]; · iexact Hx
    isplitl [Hs]
    · iexists _
      isplitr
      · ipureintro; exact hX'
      · iexact Hs
    isplitl [Hw]; · iexact Hw
    isplitl [Hw']; · iexact Hw'
    isplitl [Hb]; · iexact Hb
    iexact Hr
  · iapply (Own.congr (fun _ => Iff.rfl) (fun i _ => ?_)) $$ HY
    have h1 : (i 1).val < 1024 := (i 1).isLt
    simp only [ybUp]
    split_ifs with h3 h2 h1' h0 <;> first | rfl | skip
    exfalso
    have e0 : ((0 : Fin 4) : Nat) = 0 := rfl
    have e1 : ((1 : Fin 4) : Nat) = 1 := rfl
    have e2 : ((2 : Fin 4) : Nat) = 2 := rfl
    have e3 : ((3 : Fin 4) : Nat) = 3 := rfl
    omega

theorem drained0_eq : (drained0 : Mxu F) = mx (fun _ => none) (fun _ => none) (fun _ _ => none) := by
  unfold drained0
  rw [mx_init, pop_eq _ _ _ (a := 0) (Ad := 0) rfl, pop_eq _ _ _ (a := 1) (Ad := 64) rfl, pop_eq _ _ _ (a := 2) (Ad := 128) rfl, pop_eq _ _ _ (a := 3) (Ad := 192) rfl,
    pop_eq _ _ _ (a := 0) (Ad := 0) rfl, pop_eq _ _ _ (a := 1) (Ad := 64) rfl, pop_eq _ _ _ (a := 2) (Ad := 128) rfl, pop_eq _ _ _ (a := 3) (Ad := 192) rfl]
  congr 1
  funext q a
  match q, a with
  | 0, 0 => rfl
  | 0, 1 => rfl
  | 0, 2 => rfl
  | 0, 3 => rfl
  | 1, 0 => rfl
  | 1, 1 => rfl
  | 1, 2 => rfl
  | 1, 3 => rfl

/-- The opening after its waits. -/
def open0 : Prog (TpuEff nD τ sig (Elt F) Λ .tc) (Mxu F) := do
  scalesC (F := F) M 0
  let s ← pushC M 0 0 (by omega) drained0
  stepC M 0 (by omega) (pushC M 0 1 (by omega)) s

theorem T_open0 : T 𝒱 d bd defs iprop(xbO d M I ∗ (Junk d M.scl fun _ => True) ∗ wbO d M I 0 ∗ sbO d M I 0) (open0 M) (U I 0 0)
    iprop(xbO d M I ∗ sclS d M I 0 ∗ wbO d M I 0 ∗ sbO d M I 0) := by
  intro Φ
  unfold Junk
  iintro ⟨Hx, ⟨%X, Hs⟩, Hw, Hb⟩ HK
  unfold open0
  rw [wp_bind]
  iapply (T_scalesC 𝒱 d bd M I 0 X _) $$ [Hb Hs]
  · isplitl [Hb]; · iexact Hb
    iexact Hs
  unfold sclS
  iintro ⟨Hb, ⟨%X', %hX', Hs⟩⟩
  rw [wp_bind, drained0_eq]
  iapply (T_pushC 𝒱 d bd M I _ hX' _ _ _) $$ [Hs Hw]
  · isplitl [Hs]; · iexact Hs
    iexact Hw
  iintro ⟨Hs, Hw⟩
  iapply (T_stepC 𝒱 d bd M I _ (fun G A => T_pushC 𝒱 d bd M I _ hX' G A) (fun q => WT I 0 0 q) _ _ _) $$ [Hx Hs Hw]
  · isplitl [Hx]; · iexact Hx
    isplitl [Hs]; · iexact Hs
    iexact Hw
  iintro ⟨Hx, Hs, Hw⟩
  rw [show mx (fun q => some (WT I 0 1 q)) (fun q => some (WT I 0 0 q)) (fun q a => some (dep none (ps (XB I 0 a) (WT I 0 0 q)))) = U I 0 0 from rfl]
  iapply HK
  isplitl [Hx]; · iexact Hx
  isplitl [Hs]
  · iexists _
    isplitr
    · ipureintro; exact hX'
    · iexact Hs
  isplitl [Hw]; · iexact Hw
  iexact Hb

/-- The units at the end. -/
def UE : Mxu F := mx (fun _ => none) (fun q => some (WT I 66 47 q)) (fun _ _ => none)

theorem T_closing : T 𝒱 d bd defs iprop((xbO d M I ∗ sclS d M I 66 ∗ wbO d M I 66 ∗ xsbO d M I) ∗ Junk d M.yb fun i => (i 0).val = 0) (closing (F := F) M (U I 66 0)) (UE I)
    iprop((xbO d M I ∗ sclS d M I 66 ∗ wbO d M I 66 ∗ xsbO d M I) ∗ ∃ Y, ⌜∀ i, (i 2).val < 128 → Y i = YT I 66 (i 1).val (i 2).val⌝ ∗ ybO d M 0 Y) := by
  intro Φ
  unfold Junk
  iintro ⟨⟨Hx, HS, Hw, Hr⟩, ⟨%Y, HY⟩⟩ HK
  unfold sclS
  icases HS with ⟨%X, %hX, Hs⟩
  unfold closing
  have e0 : U I 66 0 = UT I 0 := by
    unfold U UT AT
    congr 1
    funext q a
    rw [ite_self]
  rw [wp_bind, e0]
  iapply (T_t4 𝒱 d bd M I hX _) $$ [Hx Hs Hw]
  · isplitl [Hx]; · iexact Hx
    isplitl [Hs]; · iexact Hs
    iexact Hw
  iintro ⟨Hx, Hs, Hw⟩
  rw [wp_bind]
  iapply (T_stepT 𝒱 d bd M I _ (fun G A => T_pushH 𝒱 d bd M I hX G A) (fun q => WT I 66 46 q) _ _ _) $$ [Hx Hs Hw]
  · isplitl [Hx]; · iexact Hx
    isplitl [Hs]; · iexact Hs
    iexact Hw
  iintro ⟨Hx, Hs, Hw⟩
  rw [wp_bind, show depT I 46 (fun q => WT I 66 46 q) (AT I 45) = AT I 46 from AT_step I 45]
  iapply (T_stepT 𝒱 d bd M I (P := stO d M I 66 X) (push := pure) (T' := fun _ => none) _ (fun G A => T.pure 𝒱 d bd) (fun q => WT I 66 47 q) _ _ _) $$ [Hx Hs Hw]
  · isplitl [Hx]; · iexact Hx
    isplitl [Hs]; · iexact Hs
    iexact Hw
  iintro ⟨Hx, Hs, Hw⟩
  rw [wp_bind, show depT I 47 (fun q => WT I 66 47 q) (AT I 46) = AT I 47 from AT_step I 46]
  iapply (T_swPT 𝒱 d bd M I 0 0 rfl (Ad := 0) rfl _ Y _ _ _ rfl _) $$ [Hr HY]
  · isplitl [Hr]; · iexact Hr
    iexact HY
  iintro ⟨Hr, HY⟩
  rw [wp_bind]
  iapply (T_swPT 𝒱 d bd M I 1 2 rfl (Ad := 128) rfl _ _ _ _ _ rfl _) $$ [Hr HY]
  · isplitl [Hr]; · iexact Hr
    iexact HY
  iintro ⟨Hr, HY⟩
  rw [wp_bind]
  iapply (T_swPT 𝒱 d bd M I 0 1 rfl (Ad := 64) rfl _ _ _ _ _ rfl _) $$ [Hr HY]
  · isplitl [Hr]; · iexact Hr
    iexact HY
  iintro ⟨Hr, HY⟩
  rw [wp_bind]
  iapply (T_swPT 𝒱 d bd M I 1 3 rfl (Ad := 192) rfl _ _ _ _ _ rfl _) $$ [Hr HY]
  · isplitl [Hr]; · iexact Hr
    iexact HY
  iintro ⟨Hr, HY⟩
  rw [pop_eq _ _ _ (a := 2) (Ad := 128) rfl, pop_eq _ _ _ (a := 0) (Ad := 0) rfl, pop_eq _ _ _ (a := 3) (Ad := 192) rfl, pop_eq _ _ _ (a := 1) (Ad := 64) rfl]
  have e : ∀ A : Fin 2 → Fin 4 → Option (Sum F), (∀ q a, A q a = none) → mx (fun _ => none) (fun q => some (WT I 66 47 q)) A = UE I := by
    intro A hA
    unfold UE
    congr 1
    funext q a
    rw [hA]
  rw [e _ (by
    intro q a
    match q, a with
    | 0, 0 => rfl
    | 0, 1 => rfl
    | 0, 2 => rfl
    | 0, 3 => rfl
    | 1, 0 => rfl
    | 1, 1 => rfl
    | 1, 2 => rfl
    | 1, 3 => rfl)]
  iapply (le_wp_ret (M := PM nD τ sig F))
  iapply HK
  isplitr [HY]
  · isplitl [Hx]; · iexact Hx
    isplitl [Hs]
    · iexists _
      isplitr
      · ipureintro; exact hX
      · iexact Hs
    isplitl [Hw]; · iexact Hw
    iexact Hr
  · iexists _
    isplitr
    rotate_left
    · iexact HY
    ipureintro
    intro i hi
    have h1 : (i 1).val < 1024 := (i 1).isLt
    simp only [ybUpT]
    have e0 : ((0 : Fin 4) : Nat) = 0 := rfl
    have e1 : ((1 : Fin 4) : Nat) = 1 := rfl
    have e2 : ((2 : Fin 4) : Nat) = 2 := rfl
    have e3 : ((3 : Fin 4) : Nat) = 3 := rfl
    split_ifs with h3 h2 h1' h0 <;> first | rfl | skip
    exfalso
    simp only [hi, and_true] at h3 h2 h1' h0
    omega

end Cert.Mx
-- ==== Proof.Mx.Copies.lean ====
/-
  The kernel’s copies: what each takes and what it delivers, on the buffers themselves.
-/
module

public import proofs.«01_k».proof.Proof.Mx.Quant
public import proofs.«01_k».proof.Proof.Mx.Sw

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)
variable (EC : UEmb Counters (PM nD τ sig F)) [EC.LandsIn (upEmb : UEmb _ (PM nD τ sig F))] (ι : Unit)

theorem mem2 {m n o o' z z' : Nat} {h : Inb ![o, o'] ![z, z'] ![m, n]} {p : (⟨2, ![m, n]⟩ : Shape).Idx → Prop}
    (hp : ∀ i, p i ↔ (o ≤ (i 0).val ∧ (i 0).val < o + z) ∧ (o' ≤ (i 1).val ∧ (i 1).val < o' + z')) :
    ∀ i, p i ↔ ∃ j, True ∧ (Rect.unit (s := ⟨2, ![m, n]⟩) ![o, o'] ![z, z'] h).emb j = i := fun i => (hp i).trans unit_mem2.symm
theorem mem3 {l m n o o' o2 z z' z2 : Nat} {h : Inb ![o, o', o2] ![z, z', z2] ![l, m, n]} {p : (⟨3, ![l, m, n]⟩ : Shape).Idx → Prop}
    (hp : ∀ i, p i ↔ (o ≤ (i 0).val ∧ (i 0).val < o + z) ∧ (o' ≤ (i 1).val ∧ (i 1).val < o' + z') ∧ (o2 ≤ (i 2).val ∧ (i 2).val < o2 + z2)) :
    ∀ i, p i ↔ ∃ j, True ∧ (Rect.unit (s := ⟨3, ![l, m, n]⟩) ![o, o', o2] ![z, z', z2] h).emb j = i := fun i => (hp i).trans unit_mem3.symm
theorem mem4 {l m n k o o' o2 o3 z z' z2 z3 : Nat} {h : Inb ![o, o', o2, o3] ![z, z', z2, z3] ![l, m, n, k]} {p : (⟨4, ![l, m, n, k]⟩ : Shape).Idx → Prop}
    (hp : ∀ i, p i ↔ (o ≤ (i 0).val ∧ (i 0).val < o + z) ∧ (o' ≤ (i 1).val ∧ (i 1).val < o' + z') ∧ (o2 ≤ (i 2).val ∧ (i 2).val < o2 + z2) ∧ (o3 ≤ (i 3).val ∧ (i 3).val < o3 + z3)) :
    ∀ i, p i ↔ ∃ j, True ∧ (Rect.unit (s := ⟨4, ![l, m, n, k]⟩) ![o, o', o2, o3] ![z, z', z2, z3] h).emb j = i := fun i => (hp i).trans unit_mem4.symm

theorem sq3 {a b : Nat} (h : (⟨2, ![a, b]⟩ : Shape).numel = (⟨3, ![1, a, b]⟩ : Shape).numel) (j : (⟨2, ![a, b]⟩ : Shape).Idx) :
    (Shape.reshapeEquiv h j 0).val = 0 ∧ (Shape.reshapeEquiv h j 1).val = (j 0).val ∧ (Shape.reshapeEquiv h j 2).val = (j 1).val := by
  obtain ⟨r, c, rfl⟩ : ∃ (r : Fin a) (c : Fin b), j = ValueIdx.ix2 r c := ⟨j 0, j 1, by funext a; match a with | 0 => rfl | 1 => rfl⟩
  rw [ValueIdx.reshapeEquiv_ix2_1ab]
  exact ⟨rfl, rfl, rfl⟩
theorem sq4 {a b : Nat} (h : (⟨2, ![a, b]⟩ : Shape).numel = (⟨4, ![1, 1, a, b]⟩ : Shape).numel) (j : (⟨2, ![a, b]⟩ : Shape).Idx) :
    (Shape.reshapeEquiv h j 0).val = 0 ∧ (Shape.reshapeEquiv h j 1).val = 0 ∧ (Shape.reshapeEquiv h j 2).val = (j 0).val ∧ (Shape.reshapeEquiv h j 3).val = (j 1).val := by
  obtain ⟨r, c, rfl⟩ : ∃ (r : Fin a) (c : Fin b), j = ValueIdx.ix2 r c := ⟨j 0, j 1, by funext a; match a with | 0 => rfl | 1 => rfl⟩
  rw [ValueIdx.reshapeEquiv_ix2_11ab]
  exact ⟨rfl, rfl, rfl, rfl⟩

section Junks
variable {sp : Space} {s s' : Shape} {e : EltTy} {m : Memref sig .tc sp s e} {r : Rect s} {hr : ∀ a, r.stride a = 1} {p : s.Idx → Prop}

theorem Junk.toSlice (hp : ∀ i, p i ↔ ∃ j, True ∧ r.emb j = i) : (Junk d m p : PS nD τ sig F) ⊢ Junk d (m.slice r hr) fun _ => True := by
  unfold Junk
  iintro ⟨%X, H⟩
  iexists (fun j => X (r.emb j))
  iapply (Own.toSlice (p' := fun _ => True) hp) $$ H

theorem Junk.toWin {h : r.shape.Squeezes s'} (hp : ∀ i, p i ↔ ∃ j, True ∧ r.emb j = i) : (Junk d m p : PS nD τ sig F) ⊢ Junk d ((m.slice r hr).squeeze s' h) fun _ => True := by
  unfold Junk
  iintro ⟨%X, H⟩
  iexists (fun j => X (r.emb (Shape.reshapeEquiv h.numel_eq j)))
  iapply (Own.toWin d hp) $$ H

theorem two {A A' B B' : PS nD τ sig F} (h : A ⊢ A') (h' : B ⊢ B') : iprop(A ∗ B) ⊢ iprop(B' ∗ A') := by
  iintro ⟨H, H'⟩
  isplitl [H']
  · iapply h'; iexact H'
  · iapply h; iexact H
end Junks

/-! The activations' rows. -/

def xR (t : Nat) : PS nD τ sig F :=
  iprop(Own d M.x (fun i => (i 0).val / 32 = t) fullShare I.X ∗ Own d M.xb (fun i => (i 0).val / 32 = t ∧ (i 1).val < 12160) fullShare (XP I))

theorem T_xStart (t : Nat) (h : t < 32) : T 𝒱 d bd defs
    iprop(Own d M.x (fun i => (i 0).val / 32 = t) fullShare I.X ∗ (Junk d M.xb fun i => (i 0).val / 32 = t ∧ (i 1).val < 12160) ∗ sv d (sem32 M.xsem ![t] (inb1 (by omega))))
    (xCp M t h).start ⟨⟩ (fl d EC ι (xCp M t h) (xR d M I t)) := by
  have hx : ∀ i : S1024x12160.Idx, (i 0).val / 32 = t ↔ (32 * t ≤ (i 0).val ∧ (i 0).val < 32 * t + 32) ∧ (0 ≤ (i 1).val ∧ (i 1).val < 0 + 12160) := fun i => by
    have : (i 1).val < 12160 := (i 1).isLt
    omega
  have hb : ∀ i : S1024x12288.Idx, ((i 0).val / 32 = t ∧ (i 1).val < 12160) ↔ (32 * t ≤ (i 0).val ∧ (i 0).val < 32 * t + 32) ∧ (0 ≤ (i 1).val ∧ (i 1).val < 0 + 12160) := fun i => by omega
  refine T_start 𝒱 d bd EC ι (c := xCp M t h) (by show 0 < S32x12160.numel; decide) (Own.toSlice (hr := fun _ => rfl) (p' := fun _ => True) (mem2 hx)) (Junk.toSlice d (hr := fun _ => rfl) (mem2 hb)) ?_
  unfold xR
  refine two (Own.ofSlice (hr := fun _ => rfl) (p' := fun _ => True) (mem2 hb) fun j _ => ?_) (Own.ofSlice (hr := fun _ => rfl) (p' := fun _ => True) (mem2 hx) fun j _ => rfl)
  refine congrArg I.X (nx2_eq ?_ ?_).symm <;> rw [unit_val, unit_val] <;> rfl

/-! The codes' rows. -/

def cR (t : Nat) : PS nD τ sig F :=
  iprop(cbO d M (t % 2) (CB I t) ∗ Own d M.c (fun i => (i 0).val / 32 = t) fullShare (CV I))

theorem T_cStart (t : Nat) (h : t < 32) : T 𝒱 d bd defs
    iprop(cbO d M (t % 2) (CB I t) ∗ (Junk d M.c fun i => (i 0).val / 32 = t) ∗ sv d (sem2 M.csem ![t % 2] (inb1 (by omega))))
    (cCp M t h).start ⟨⟩ (fl d EC ι (cCp M t h) (cR d M I t)) := by
  have hx : ∀ i : S1024x12160.Idx, (i 0).val / 32 = t ↔ (32 * t ≤ (i 0).val ∧ (i 0).val < 32 * t + 32) ∧ (0 ≤ (i 1).val ∧ (i 1).val < 0 + 12160) := fun i => by
    have : (i 1).val < 12160 := (i 1).isLt
    omega
  have hb : ∀ i : S2x32x12160.Idx, (i 0).val = t % 2 ↔ (t % 2 ≤ (i 0).val ∧ (i 0).val < t % 2 + 1) ∧ (0 ≤ (i 1).val ∧ (i 1).val < 0 + 32) ∧ (0 ≤ (i 2).val ∧ (i 2).val < 0 + 12160) := fun i => by
    have : (i 1).val < 32 := (i 1).isLt
    have : (i 2).val < 12160 := (i 2).isLt
    omega
  refine T_start 𝒱 d bd EC ι (c := cCp M t h) (by show 0 < S32x12160.numel; decide) (Own.toWin d (h := sq_S1x32x12160) (mem3 hb)) (Junk.toSlice d (hr := fun _ => rfl) (mem2 hx)) ?_
  unfold cR
  refine two (Own.ofSlice (hr := fun _ => rfl) (p' := fun _ => True) (mem2 hx) fun (j : S32x12160.Idx) _ => ?_) (Own.ofWin d (h := sq_S1x32x12160) (mem3 hb) fun (j : S32x12160.Idx) => rfl)
  obtain ⟨-, k1, k2⟩ := sq3 (a := 32) (b := 12160) sq_S1x32x12160.numel_eq j
  refine congrArg (CV I) (nx2_eq ?_ ?_)
  · rw [unit_val, unit_val]; show 32 * t + (0 + (Shape.reshapeEquiv sq_S1x32x12160.numel_eq j 1).val) = 32 * t + (j 0).val; rw [k1]; omega
  · rw [unit_val, unit_val]; show 0 + (Shape.reshapeEquiv sq_S1x32x12160.numel_eq j 2).val = 0 + (j 1).val; rw [k2]

/-! The outputs' tiles. -/

def yR (n : Nat) : PS nD τ sig F :=
  iprop(ytO d M I n ∗ Own d M.y (fun i => (i 1).val / 256 = n) fullShare (YV I))

theorem T_yStart (n : Nat) (h : n < 66) : T 𝒱 d bd defs
    iprop(ytO d M I n ∗ (Junk d M.y fun i => (i 1).val / 256 = n) ∗ sv d (sem2 M.ysem ![n % 2] (inb1 (by omega))))
    (yCp M n h).start ⟨⟩ (fl d EC ι (yCp M n h) (yR d M I n)) := by
  have hx : ∀ i : S1024x17024.Idx, (i 1).val / 256 = n ↔ (0 ≤ (i 0).val ∧ (i 0).val < 0 + 1024) ∧ (256 * n ≤ (i 1).val ∧ (i 1).val < 256 * n + 256) := fun i => by
    have : (i 0).val < 1024 := (i 0).isLt
    omega
  have hb : ∀ i : S2x1024x256.Idx, (i 0).val = n % 2 ↔ (n % 2 ≤ (i 0).val ∧ (i 0).val < n % 2 + 1) ∧ (0 ≤ (i 1).val ∧ (i 1).val < 0 + 1024) ∧ (0 ≤ (i 2).val ∧ (i 2).val < 0 + 256) := fun i => by
    have : (i 1).val < 1024 := (i 1).isLt
    have : (i 2).val < 256 := (i 2).isLt
    omega
  refine T_start 𝒱 d bd EC ι (c := yCp M n h) (by show 0 < S1024x256.numel; decide) (Own.toWin d (h := sq_S1x1024x256) (mem3 hb)) (Junk.toSlice d (hr := fun _ => rfl) (mem2 hx)) ?_
  unfold yR
  refine two (Own.ofSlice (hr := fun _ => rfl) (p' := fun _ => True) (mem2 hx) fun (j : S1024x256.Idx) _ => ?_) (Own.ofWin d (h := sq_S1x1024x256) (mem3 hb) fun (j : S1024x256.Idx) => rfl)
  obtain ⟨-, k1, k2⟩ := sq3 (a := 1024) (b := 256) sq_S1x1024x256.numel_eq j
  have hj : (j 1).val < 256 := (j 1).isLt
  unfold YV
  rw [unit_val, unit_val, unit_val, unit_val]
  show YT I n (0 + (Shape.reshapeEquiv sq_S1x1024x256.numel_eq j 1).val) (0 + (Shape.reshapeEquiv sq_S1x1024x256.numel_eq j 2).val)
    = YT I ((256 * n + (j 1).val) / 256) (0 + (j 0).val) ((256 * n + (j 1).val) % 256)
  rw [k1, k2, show (256 * n + (j 1).val) / 256 = n by omega, show (256 * n + (j 1).val) % 256 = 0 + (j 1).val by omega]

/-- The last tile in its half slot. -/
abbrev ytT : PS nD τ sig F := Own d M.yb (fun i => (i 0).val = 0 ∧ (i 2).val < 128) fullShare (fun i => YT I 66 (i 1).val (i 2).val)
def yRT : PS nD τ sig F := iprop(ytT d M I ∗ Own d M.y (fun i => (i 1).val / 256 = 66) fullShare (YV I))

theorem T_yStartT : T 𝒱 d bd defs
    iprop(ytT d M I ∗ (Junk d M.y fun i => (i 1).val / 256 = 66) ∗ sv d (sem2 M.ysem ![0] (inb1 (by omega))))
    (yCpT M).start ⟨⟩ (fl d EC ι (yCpT M) (yRT d M I)) := by
  have hx : ∀ i : S1024x17024.Idx, (i 1).val / 256 = 66 ↔ (0 ≤ (i 0).val ∧ (i 0).val < 0 + 1024) ∧ (16896 ≤ (i 1).val ∧ (i 1).val < 16896 + 128) := fun i => by
    have : (i 0).val < 1024 := (i 0).isLt
    have : (i 1).val < 17024 := (i 1).isLt
    omega
  have hb : ∀ i : S2x1024x256.Idx, ((i 0).val = 0 ∧ (i 2).val < 128) ↔ (0 ≤ (i 0).val ∧ (i 0).val < 0 + 1) ∧ (0 ≤ (i 1).val ∧ (i 1).val < 0 + 1024) ∧ (0 ≤ (i 2).val ∧ (i 2).val < 0 + 128) := fun i => by
    have : (i 1).val < 1024 := (i 1).isLt
    omega
  refine T_start 𝒱 d bd EC ι (c := yCpT M) (by show 0 < S1024x128.numel; decide) (Own.toWin d (h := sq_S1x1024x128) (mem3 hb)) (Junk.toSlice d (hr := fun _ => rfl) (mem2 hx)) ?_
  unfold yRT
  refine two (Own.ofSlice (hr := fun _ => rfl) (p' := fun _ => True) (mem2 hx) fun (j : S1024x128.Idx) _ => ?_) (Own.ofWin d (h := sq_S1x1024x128) (mem3 hb) fun (j : S1024x128.Idx) => rfl)
  obtain ⟨-, k1, k2⟩ := sq3 (a := 1024) (b := 128) sq_S1x1024x128.numel_eq j
  have hj : (j 1).val < 128 := (j 1).isLt
  unfold YV
  rw [unit_val, unit_val, unit_val, unit_val]
  show YT I 66 (0 + (Shape.reshapeEquiv sq_S1x1024x128.numel_eq j 1).val) (0 + (Shape.reshapeEquiv sq_S1x1024x128.numel_eq j 2).val)
    = YT I ((16896 + (j 1).val) / 256) (0 + (j 0).val) ((16896 + (j 1).val) % 256)
  rw [k1, k2, show (16896 + (j 1).val) / 256 = 66 by omega, show (16896 + (j 1).val) % 256 = 0 + (j 1).val by omega]

/-! The weights' tiles. -/

def wR (n : Nat) (g : Fin 2) : PS nD τ sig F :=
  iprop(Own d (M.w g) (fun i => (i 0).val / 256 = n) fullShare (I.W g) ∗ Own d M.wb (fun i => (i 0).val = n % 3 ∧ (i 1).val = g.val) fullShare (WB I n))

theorem T_wStart1 (n : Nat) (h : n < 66) (g : Fin 2) : T 𝒱 d bd defs
    iprop(Own d (M.w g) (fun i => (i 0).val / 256 = n) fullShare (I.W g) ∗ (Junk d M.wb fun i => (i 0).val = n % 3 ∧ (i 1).val = g.val) ∗ sv d (semW M.wsem ![n % 3, 2 * g.val] (inb2 (by omega) (by omega))))
    (wCp M n h g).start ⟨⟩ (fl d EC ι (wCp M n h g) (wR d M I n g)) := by
  have hx : ∀ i : S17024x12160.Idx, (i 0).val / 256 = n ↔ (256 * n ≤ (i 0).val ∧ (i 0).val < 256 * n + 256) ∧ (0 ≤ (i 1).val ∧ (i 1).val < 0 + 12160) := fun i => by
    have : (i 1).val < 12160 := (i 1).isLt
    omega
  have hb : ∀ i : S3x2x256x12160.Idx, ((i 0).val = n % 3 ∧ (i 1).val = g.val) ↔ (n % 3 ≤ (i 0).val ∧ (i 0).val < n % 3 + 1) ∧ (g.val ≤ (i 1).val ∧ (i 1).val < g.val + 1)
      ∧ (0 ≤ (i 2).val ∧ (i 2).val < 0 + 256) ∧ (0 ≤ (i 3).val ∧ (i 3).val < 0 + 12160) := fun i => by
    have : (i 2).val < 256 := (i 2).isLt
    have : (i 3).val < 12160 := (i 3).isLt
    omega
  refine T_start 𝒱 d bd EC ι (c := wCp M n h g) (by show 0 < S256x12160.numel; decide) (Own.toSlice (hr := fun _ => rfl) (p' := fun _ => True) (mem2 hx)) (Junk.toWin d (h := sq_S1x1x256x12160) (mem4 hb)) ?_
  unfold wR
  refine two (Own.ofWin d (h := sq_S1x1x256x12160) (mem4 hb) fun (j : S256x12160.Idx) => ?_) (Own.ofSlice (hr := fun _ => rfl) (p' := fun _ => True) (mem2 hx) fun j _ => rfl)
  obtain ⟨-, k1, k2, k3⟩ := sq4 (a := 256) (b := 12160) sq_S1x1x256x12160.numel_eq j
  rw [WB_eq I (g := g) (r := (j 0).val) (c := (j 1).val)]
  · unfold WBf
    rw [if_pos h]
    refine congrArg (I.W g) (nx2_eq ?_ ?_).symm
    · rw [unit_val]; rfl
    · rw [unit_val]; show _ = 0 + _; omega
  · rw [unit_val]; show g.val + (Shape.reshapeEquiv sq_S1x1x256x12160.numel_eq j 1).val = _; rw [k1]; omega
  · rw [unit_val]; show 0 + (Shape.reshapeEquiv sq_S1x1x256x12160.numel_eq j 2).val = _; rw [k2]; omega
  · rw [unit_val]; show 0 + (Shape.reshapeEquiv sq_S1x1x256x12160.numel_eq j 3).val = _; rw [k3]; omega

theorem SB_eq {n : Nat} {i : S3x2x256x380.Idx} {g : Fin 2} {r c : Nat} (h1 : (i 1).val = g.val) (h2 : (i 2).val = r) (h3 : (i 3).val = c) : SB I n i = SBf I n g r c := by
  have e : (i 1 : Fin 2) = g := Fin.ext h1
  show SBf I n (i 1) _ _ = _
  exact congr (congr (congrArg (SBf I n) e) h2) h3

def sR (n : Nat) (g : Fin 2) : PS nD τ sig F :=
  iprop(Own d (M.s g) (fun i => (i 0).val / 256 = n) fullShare (I.S g) ∗ Own d M.sb (fun i => (i 0).val = n % 3 ∧ (i 1).val = g.val) fullShare (SB I n))

theorem T_sStart1 (n : Nat) (h : n < 66) (g : Fin 2) : T 𝒱 d bd defs
    iprop(Own d (M.s g) (fun i => (i 0).val / 256 = n) fullShare (I.S g) ∗ (Junk d M.sb fun i => (i 0).val = n % 3 ∧ (i 1).val = g.val) ∗ sv d (semW M.wsem ![n % 3, 2 * g.val + 1] (inb2 (by omega) (by omega))))
    (sCp M n h g).start ⟨⟩ (fl d EC ι (sCp M n h g) (sR d M I n g)) := by
  have hx : ∀ i : S17024x380.Idx, (i 0).val / 256 = n ↔ (256 * n ≤ (i 0).val ∧ (i 0).val < 256 * n + 256) ∧ (0 ≤ (i 1).val ∧ (i 1).val < 0 + 380) := fun i => by
    have : (i 1).val < 380 := (i 1).isLt
    omega
  have hb : ∀ i : S3x2x256x380.Idx, ((i 0).val = n % 3 ∧ (i 1).val = g.val) ↔ (n % 3 ≤ (i 0).val ∧ (i 0).val < n % 3 + 1) ∧ (g.val ≤ (i 1).val ∧ (i 1).val < g.val + 1)
      ∧ (0 ≤ (i 2).val ∧ (i 2).val < 0 + 256) ∧ (0 ≤ (i 3).val ∧ (i 3).val < 0 + 380) := fun i => by
    have : (i 2).val < 256 := (i 2).isLt
    have : (i 3).val < 380 := (i 3).isLt
    omega
  refine T_start 𝒱 d bd EC ι (c := sCp M n h g) (by show 0 < S256x380.numel; decide) (Own.toSlice (hr := fun _ => rfl) (p' := fun _ => True) (mem2 hx)) (Junk.toWin d (h := sq_S1x1x256x380) (mem4 hb)) ?_
  unfold sR
  refine two (Own.ofWin d (h := sq_S1x1x256x380) (mem4 hb) fun (j : S256x380.Idx) => ?_) (Own.ofSlice (hr := fun _ => rfl) (p' := fun _ => True) (mem2 hx) fun j _ => rfl)
  obtain ⟨-, k1, k2, k3⟩ := sq4 (a := 256) (b := 380) sq_S1x1x256x380.numel_eq j
  rw [SB_eq I (g := g) (r := (j 0).val) (c := (j 1).val)]
  · unfold SBf
    rw [if_pos h]
    refine congrArg (I.S g) (nx2_eq ?_ ?_).symm
    · rw [unit_val]; rfl
    · rw [unit_val]; show _ = 0 + _; omega
  · rw [unit_val]; show g.val + (Shape.reshapeEquiv sq_S1x1x256x380.numel_eq j 1).val = _; rw [k1]; omega
  · rw [unit_val]; show 0 + (Shape.reshapeEquiv sq_S1x1x256x380.numel_eq j 2).val = _; rw [k2]; omega
  · rw [unit_val]; show 0 + (Shape.reshapeEquiv sq_S1x1x256x380.numel_eq j 3).val = _; rw [k3]; omega

/-! The last tile's weights: its rows, read twice at half the share. -/

theorem WBf_T (g h : Fin 2) {r c : Nat} (hr : r < 128) : WBf I 66 g (128 * h.val + r) c = I.W h (nx2 17024 12160 (16896 + r) c) := by
  unfold WBf
  rw [if_neg (by omega)]
  match h with
  | 0 => rw [if_pos (by show 128 * 0 + r < 128; omega)]; congr 2; show 16896 + (128 * 0 + r) = _; omega
  | 1 => rw [if_neg (by show ¬ 128 * 1 + r < 128; omega)]; congr 2; show 16768 + (128 * 1 + r) = _; omega
theorem SBf_T (g h : Fin 2) {r c : Nat} (hr : r < 128) : SBf I 66 g (128 * h.val + r) c = I.S h (nx2 17024 380 (16896 + r) c) := by
  unfold SBf
  rw [if_neg (by omega)]
  match h with
  | 0 => rw [if_pos (by show 128 * 0 + r < 128; omega)]; congr 2; show 16896 + (128 * 0 + r) = _; omega
  | 1 => rw [if_neg (by show ¬ 128 * 1 + r < 128; omega)]; congr 2; show 16768 + (128 * 1 + r) = _; omega

def wRT (q : PosShare TreeShare) (g h : Fin 2) : PS nD τ sig F :=
  iprop(Own d (M.w h) (fun i => (i 0).val / 256 = 66) q (I.W h) ∗ Own d M.wb (fun i => (i 0).val = 0 ∧ (i 1).val = g.val ∧ (i 2).val / 128 = h.val) fullShare (WB I 66))
def sRT (q : PosShare TreeShare) (g h : Fin 2) : PS nD τ sig F :=
  iprop(Own d (M.s h) (fun i => (i 0).val / 256 = 66) q (I.S h) ∗ Own d M.sb (fun i => (i 0).val = 0 ∧ (i 1).val = g.val ∧ (i 2).val / 128 = h.val) fullShare (SB I 66))

theorem T_wStartT1 (q : PosShare TreeShare) (g h : Fin 2) : T 𝒱 d bd defs
    iprop(Own d (M.w h) (fun i => (i 0).val / 256 = 66) q (I.W h) ∗ (Junk d M.wb fun i => (i 0).val = 0 ∧ (i 1).val = g.val ∧ (i 2).val / 128 = h.val)
      ∗ sv d (semW M.wsem ![0, 4 + 4 * g.val + 2 * h.val] (inb2 (by omega) (by omega))))
    (wCpT M g h).start ⟨⟩ (fl d EC ι (wCpT M g h) (wRT d M I q g h)) := by
  have hx : ∀ i : S17024x12160.Idx, (i 0).val / 256 = 66 ↔ (16896 ≤ (i 0).val ∧ (i 0).val < 16896 + 128) ∧ (0 ≤ (i 1).val ∧ (i 1).val < 0 + 12160) := fun i => by
    have : (i 0).val < 17024 := (i 0).isLt
    have : (i 1).val < 12160 := (i 1).isLt
    omega
  have hb : ∀ i : S3x2x256x12160.Idx, ((i 0).val = 0 ∧ (i 1).val = g.val ∧ (i 2).val / 128 = h.val) ↔ (0 ≤ (i 0).val ∧ (i 0).val < 0 + 1) ∧ (g.val ≤ (i 1).val ∧ (i 1).val < g.val + 1)
      ∧ (128 * h.val ≤ (i 2).val ∧ (i 2).val < 128 * h.val + 128) ∧ (0 ≤ (i 3).val ∧ (i 3).val < 0 + 12160) := fun i => by
    have : (i 3).val < 12160 := (i 3).isLt
    omega
  refine T_start 𝒱 d bd EC ι (c := wCpT M g h) (by show 0 < S128x12160.numel; decide) (Own.toSlice (hr := fun _ => rfl) (p' := fun _ => True) (mem2 hx)) (Junk.toWin d (h := sq_S1x1x128x12160) (mem4 hb)) ?_
  unfold wRT
  refine two (Own.ofWin d (h := sq_S1x1x128x12160) (mem4 hb) fun (j : S128x12160.Idx) => ?_) (Own.ofSlice (hr := fun _ => rfl) (p' := fun _ => True) (mem2 hx) fun j _ => rfl)
  obtain ⟨-, k1, k2, k3⟩ := sq4 (a := 128) (b := 12160) sq_S1x1x128x12160.numel_eq j
  rw [WB_eq I (g := g) (r := 128 * h.val + (j 0).val) (c := (j 1).val)]
  · rw [WBf_T I g h (j 0).isLt]
    refine congrArg (I.W h) (nx2_eq ?_ ?_).symm
    · rw [unit_val]; rfl
    · rw [unit_val]; show _ = 0 + _; omega
  · rw [unit_val]; show g.val + (Shape.reshapeEquiv sq_S1x1x128x12160.numel_eq j 1).val = _; rw [k1]; omega
  · rw [unit_val]; show 128 * h.val + (Shape.reshapeEquiv sq_S1x1x128x12160.numel_eq j 2).val = _; rw [k2]
  · rw [unit_val]; show 0 + (Shape.reshapeEquiv sq_S1x1x128x12160.numel_eq j 3).val = _; rw [k3]; omega

theorem T_sStartT1 (q : PosShare TreeShare) (g h : Fin 2) : T 𝒱 d bd defs
    iprop(Own d (M.s h) (fun i => (i 0).val / 256 = 66) q (I.S h) ∗ (Junk d M.sb fun i => (i 0).val = 0 ∧ (i 1).val = g.val ∧ (i 2).val / 128 = h.val)
      ∗ sv d (semW M.wsem ![0, 4 + 4 * g.val + 2 * h.val + 1] (inb2 (by omega) (by omega))))
    (sCpT M g h).start ⟨⟩ (fl d EC ι (sCpT M g h) (sRT d M I q g h)) := by
  have hx : ∀ i : S17024x380.Idx, (i 0).val / 256 = 66 ↔ (16896 ≤ (i 0).val ∧ (i 0).val < 16896 + 128) ∧ (0 ≤ (i 1).val ∧ (i 1).val < 0 + 380) := fun i => by
    have : (i 0).val < 17024 := (i 0).isLt
    have : (i 1).val < 380 := (i 1).isLt
    omega
  have hb : ∀ i : S3x2x256x380.Idx, ((i 0).val = 0 ∧ (i 1).val = g.val ∧ (i 2).val / 128 = h.val) ↔ (0 ≤ (i 0).val ∧ (i 0).val < 0 + 1) ∧ (g.val ≤ (i 1).val ∧ (i 1).val < g.val + 1)
      ∧ (128 * h.val ≤ (i 2).val ∧ (i 2).val < 128 * h.val + 128) ∧ (0 ≤ (i 3).val ∧ (i 3).val < 0 + 380) := fun i => by
    have : (i 3).val < 380 := (i 3).isLt
    omega
  refine T_start 𝒱 d bd EC ι (c := sCpT M g h) (by show 0 < S128x380.numel; decide) (Own.toSlice (hr := fun _ => rfl) (p' := fun _ => True) (mem2 hx)) (Junk.toWin d (h := sq_S1x1x128x380) (mem4 hb)) ?_
  unfold sRT
  refine two (Own.ofWin d (h := sq_S1x1x128x380) (mem4 hb) fun (j : S128x380.Idx) => ?_) (Own.ofSlice (hr := fun _ => rfl) (p' := fun _ => True) (mem2 hx) fun j _ => rfl)
  obtain ⟨-, k1, k2, k3⟩ := sq4 (a := 128) (b := 380) sq_S1x1x128x380.numel_eq j
  rw [SB_eq I (g := g) (r := 128 * h.val + (j 0).val) (c := (j 1).val)]
  · rw [SBf_T I g h (j 0).isLt]
    refine congrArg (I.S h) (nx2_eq ?_ ?_).symm
    · rw [unit_val]; rfl
    · rw [unit_val]; show _ = 0 + _; omega
  · rw [unit_val]; show g.val + (Shape.reshapeEquiv sq_S1x1x128x380.numel_eq j 1).val = _; rw [k1]; omega
  · rw [unit_val]; show 128 * h.val + (Shape.reshapeEquiv sq_S1x1x128x380.numel_eq j 2).val = _; rw [k2]
  · rw [unit_val]; show 0 + (Shape.reshapeEquiv sq_S1x1x128x380.numel_eq j 3).val = _; rw [k3]; omega

end Cert.Mx
-- ==== Proof.Mx.Loop1.lean ====
/-
  The quantiser’s loop over the 32 row blocks: the activations’ copies awaited one by one, the codes’
  copies two at a time.
-/
module

public import proofs.«01_k».proof.Proof.Mx.Copies
public import proofs.«01_k».proof.Proof.Mx.Ker2

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)
section Frontier
variable {sp : Space} {s : Shape} {e : EltTy} {m : Memref sig .tc sp s e}

theorem Own.grow {k : s.Idx → Nat} {t : Nat} {q : PosShare TreeShare} {X : s.Idx → Elt F e} :
    iprop(Own d m (fun i => k i < t) q X ∗ Own d m (fun i => k i = t) q X) ⊢ (Own d m (fun i => k i < t + 1) q X : PS nD τ sig F) :=
  Own.join (by intro i; show k i < t + 1 ↔ k i < t ∨ k i = t; omega) (by intro i h; show ¬ k i = t; have : k i < t := h; omega) (fun _ _ => rfl) (fun _ _ => rfl)

theorem Own.peel {k : s.Idx → Nat} {t : Nat} {q : PosShare TreeShare} {X : s.Idx → Elt F e} :
    (Own d m (fun i => t ≤ k i) q X : PS nD τ sig F) ⊢ iprop(Own d m (fun i => k i = t) q X ∗ Own d m (fun i => t + 1 ≤ k i) q X) :=
  Own.split (by intro i; show t ≤ k i ↔ k i = t ∨ t + 1 ≤ k i; omega) (by intro i h; show ¬ t + 1 ≤ k i; have : k i = t := h; omega)

theorem Junk.peel {k : s.Idx → Nat} {t : Nat} :
    (Junk (F := F) d m (fun i => t ≤ k i) : PS nD τ sig F) ⊢ iprop(Junk d m (fun i => k i = t) ∗ Junk d m (fun i => t + 1 ≤ k i)) :=
  Junk.split d (by intro i; show t ≤ k i ↔ k i = t ∨ t + 1 ≤ k i; omega) (by intro i h; show ¬ t + 1 ≤ k i; have : k i = t := h; omega)

theorem Junk.peelAnd {k : s.Idx → Nat} {p : s.Idx → Prop} {t : Nat} :
    (Junk (F := F) d m (fun i => t ≤ k i ∧ p i) : PS nD τ sig F) ⊢ iprop(Junk d m (fun i => k i = t ∧ p i) ∗ Junk d m (fun i => t + 1 ≤ k i ∧ p i)) :=
  Junk.split d (by intro i; show t ≤ k i ∧ p i ↔ (k i = t ∧ p i) ∨ (t + 1 ≤ k i ∧ p i); constructor
                   · rintro ⟨h, h'⟩; rcases Nat.eq_or_lt_of_le h with e | e
                     · exact Or.inl ⟨e.symm, h'⟩
                     · exact Or.inr ⟨e, h'⟩
                   · rintro (⟨h, h'⟩ | ⟨h, h'⟩)
                     · exact ⟨by omega, h'⟩
                     · exact ⟨by omega, h'⟩)
    (by intro i h; show ¬ (t + 1 ≤ k i ∧ p i); have : k i = t := h.1; omega)
end Frontier

variable (EC : UEmb Counters (PM nD τ sig F)) [EC.LandsIn (upEmb : UEmb _ (PM nD τ sig F))] (ι : Unit)

/-! The activations' copies. -/

/-- Row block `t`'s semaphore at rest. -/
def xsm (t : Nat) : PS nD τ sig F := if h : t < 32 then sv d (sem32 M.xsem ![t] (inb1 (by omega))) else iprop(⌜True⌝)
def xsvs : Nat → Nat → PS nD τ sig F
  | 0, _ => iprop(⌜True⌝)
  | n + 1, t => iprop(xsm d M t ∗ xsvs n (t + 1))
def xsvD : Nat → PS nD τ sig F
  | 0 => iprop(⌜True⌝)
  | t + 1 => iprop(xsvD t ∗ xsm d M t)
/-- Row block `t` in flight. -/
def xf (t : Nat) : PS nD τ sig F := if h : t < 32 then fl d EC ι (xCp M t h) (xR d M I t) else iprop(⌜True⌝)
def xfs : Nat → Nat → PS nD τ sig F
  | 0, _ => iprop(⌜True⌝)
  | n + 1, t => iprop(xf d M I EC ι t ∗ xfs n (t + 1))

theorem xsm_lt {t : Nat} (h : t < 32) : (xsm d M t : PS nD τ sig F) = sv d (sem32 M.xsem ![t] (inb1 (by omega))) := dif_pos h
theorem xf_lt {t : Nat} (h : t < 32) : (xf d M I EC ι t : PS nD τ sig F) = fl d EC ι (xCp M t h) (xR d M I t) := dif_pos h

theorem xsvD_xsvs : ∀ (t n : Nat), iprop(xsvD d M t ∗ xsvs d M n t) ⊢ (xsvs d M (t + n) 0 : PS nD τ sig F)
  | 0, n => by
    rw [Nat.zero_add]
    iintro ⟨-, H⟩
    iexact H
  | t + 1, n => by
    rw [show t + 1 + n = t + (n + 1) by omega]
    rw [show (xsvD d M (t + 1) : PS nD τ sig F) = iprop(xsvD d M t ∗ xsm d M t) from rfl]
    iintro ⟨⟨H, H'⟩, H2⟩
    iapply (xsvD_xsvs t (n + 1))
    isplitl [H]; · iexact H
    rw [show (xsvs d M (n + 1) t : PS nD τ sig F) = iprop(xsm d M t ∗ xsvs d M n (t + 1)) from rfl]
    isplitl [H']; · iexact H'
    iexact H2

theorem T_xStarts : ∀ (n t : Nat) (h : t + n ≤ 32), T 𝒱 d bd defs
    iprop(Own d M.x (fun i => t ≤ (i 0).val / 32) fullShare I.X ∗ (Junk d M.xb fun i => t ≤ (i 0).val / 32 ∧ (i 1).val < 12160) ∗ xsvs d M n t)
    (xStarts (F := F) M n t h) ⟨⟩ (xfs d M I EC ι n t)
  | 0, t, h => by
    intro Φ
    unfold xStarts
    iintro - HK
    iapply (le_wp_ret (M := PM nD τ sig F))
    iapply HK
    rw [show (xfs d M I EC ι 0 t : PS nD τ sig F) = iprop(⌜True⌝) from rfl]
    ipureintro; trivial
  | n + 1, t, h => by
    intro Φ
    unfold xStarts
    rw [show (xsvs d M (n + 1) t : PS nD τ sig F) = iprop(xsm d M t ∗ xsvs d M n (t + 1)) from rfl, xsm_lt d M (by omega : t < 32),
      show (xfs d M I EC ι (n + 1) t : PS nD τ sig F) = iprop(xf d M I EC ι t ∗ xfs d M I EC ι n (t + 1)) from rfl, xf_lt d M I EC ι (by omega : t < 32)]
    iintro ⟨Hx, Hb, Hs, Hss⟩ HK
    icases (Own.peel d (k := fun i : S1024x12160.Idx => (i 0).val / 32)) $$ Hx with ⟨Hx, Hx'⟩
    icases (Junk.peelAnd d (k := fun i : S1024x12288.Idx => (i 0).val / 32) (p := fun i => (i 1).val < 12160)) $$ Hb with ⟨Hb, Hb'⟩
    rw [wp_bind]
    iapply (T_xStart 𝒱 d bd M I EC ι t _ _) $$ [Hx Hb Hs]
    · isplitl [Hx]; · iexact Hx
      isplitl [Hb]; · iexact Hb
      iexact Hs
    iintro HF
    iapply (T_xStarts n (t + 1) _ _) $$ [Hx' Hb' Hss]
    · isplitl [Hx']; · iexact Hx'
      isplitl [Hb']; · iexact Hb'
      iexact Hss
    iintro HFs
    iapply HK
    isplitl [HF]; · iexact HF
    iexact HFs

/-! The codes' copies. -/

/-- The codes' slot of trip `u`: free at first, then in flight since two trips before. -/
def cst (u : Nat) : PS nD τ sig F :=
  if h : 2 ≤ u ∧ u < 34 then fl d EC ι (cCp M (u - 2) (by omega)) (cR d M I (u - 2))
  else iprop((Junk d M.cb fun i => (i 0).val = u % 2) ∗ sv d (sem2 M.csem ![u % 2] (inb1 (by omega))))

theorem csem_eq {a b : Nat} (ha : a < 2) (hb : b < 2) (h : a = b) : (sv d (sem2 M.csem ![a] (inb1 (by omega))) : PS nD τ sig F) = sv d (sem2 M.csem ![b] (inb1 (by omega))) := by
  subst h; rfl

theorem T_cWait {t : Nat} (ht : t < 32) : T 𝒱 d bd defs
    iprop(cst d M I EC ι t ∗ Own d M.c (fun i => (i 0).val / 32 < t - 2) fullShare (CV I) ∗ Ow d)
    (if h2 : 2 ≤ t then (cCp M (t - 2) (by omega)).wait else pure ⟨⟩) ⟨⟩
    iprop((Junk d M.cb fun i => (i 0).val = t % 2) ∗ sv d (sem2 M.csem ![t % 2] (inb1 (by omega))) ∗ Own d M.c (fun i => (i 0).val / 32 < t + 1 - 2) fullShare (CV I) ∗ Ow d) := by
  intro Φ
  by_cases h2 : 2 ≤ t
  · rw [dif_pos h2]
    unfold cst
    rw [dif_pos ⟨h2, by omega⟩, show t + 1 - 2 = t - 2 + 1 by omega]
    iintro ⟨HF, Hc, HO⟩ HK
    iapply (T_wait 𝒱 d bd EC ι _) $$ [HF HO]
    · isplitl [HF]; · iexact HF
      iexact HO
    iintro ⟨HR, Hs, HO⟩
    unfold cR
    icases HR with ⟨Hb, Hc'⟩
    iapply HK
    isplitl [Hb]
    · iapply Junk.congr d (p := fun i : S2x32x12160.Idx => (i 0).val = (t - 2) % 2) (by intro i; omega)
      iapply (Junk.of d); iexact Hb
    isplitl [Hs]
    · rw [csem_eq d M (show t % 2 < 2 by omega) (show (t - 2) % 2 < 2 by omega) (by omega)]
      iexact Hs
    isplitl [Hc Hc']
    · iapply (Own.grow d (k := fun i : S1024x12160.Idx => (i 0).val / 32))
      isplitl [Hc]; · iexact Hc
      iexact Hc'
    iexact HO
  · rw [dif_neg h2]
    unfold cst
    rw [dif_neg (by omega), show t + 1 - 2 = t - 2 by omega]
    iintro ⟨⟨Hb, Hs⟩, Hc, HO⟩ HK
    iapply (le_wp_ret (M := PM nD τ sig F))
    iapply HK
    isplitl [Hb]; · iexact Hb
    isplitl [Hs]; · iexact Hs
    isplitl [Hc]; · iexact Hc
    iexact HO

/-! One trip. -/

/-- The trip past its waits. -/
def t1calc (t : Nat) (h : t < 32) : Prog (TpuEff nD τ sig (Elt F) Λ .tc) PUnit := do
  let a ← amaxP M.xb (32 * t) (by omega)
  scalesP (F := F) M.xs M.xsb (32 * t) (by omega) (expo (rowScale a))
  chunksP M (32 * t) (t % 2) (by omega) (by omega) (prx h) (prc (by omega)) (invOf (expo (rowScale a))) 95 0 (by omega)
  zeroP (F := F) M (32 * t) (by omega) (pr_xb ⟨t, h⟩ ⟨95, by omega⟩)
  (cCp M t h).start

theorem T_t1calc {t : Nat} (h : t < 32) : T 𝒱 d bd defs
    iprop(Own d M.xb (fun i => (i 0).val / 32 = t ∧ (i 1).val < 12160) fullShare (XP I) ∗ (Junk d M.xb fun i => (i 0).val / 32 = t ∧ 12160 ≤ (i 1).val)
      ∗ (Junk d M.xs fun i => (i 0).val / 32 = t) ∗ (Junk d M.xsb fun i => (i 0).val / 32 = t) ∗ (Junk d M.cb fun i => (i 0).val = t % 2)
      ∗ (Junk d M.c fun i => (i 0).val / 32 = t) ∗ sv d (sem2 M.csem ![t % 2] (inb1 (by omega))))
    (t1calc (F := F) M t h) ⟨⟩
    iprop(Own d M.xb (fun i => (i 0).val / 32 = t) fullShare (XQ I) ∗ Own d M.xs (fun i => (i 0).val / 32 = t) fullShare (XSV I)
      ∗ Own d M.xsb (fun i => (i 0).val / 32 = t) fullShare (XSB I) ∗ cst d M I EC ι (t + 2)) := by
  intro Φ
  unfold Junk
  iintro ⟨Hx, ⟨%J, Hp⟩, Hs, Hsb, ⟨%K, Hb⟩, Hc, Hsem⟩ HK
  ihave Hx := (Own.join (X := QX I 0 J) (p := fun i : S1024x12288.Idx => (i 0).val / 32 = t) (p₁ := fun i : S1024x12288.Idx => (i 0).val / 32 = t ∧ (i 1).val < 12160)
    (p₂ := fun i : S1024x12288.Idx => (i 0).val / 32 = t ∧ 12160 ≤ (i 1).val) (by intro i; omega) (by intro i; omega)
    (fun i hi => by unfold QX; rw [if_neg (by omega), if_pos hi.2]) (fun i hi => by unfold QX; rw [if_neg (by omega), if_neg (by have := hi.2; omega)])) $$ [Hx Hp]
  · isplitl [Hx]; · iexact Hx
    iexact Hp
  ihave Hb := (Own.congr (X' := CX I t 0 K) (p' := fun i : S2x32x12160.Idx => (i 0).val = t % 2) (fun _ => Iff.rfl) (fun i _ => by unfold CX; rw [if_neg (by omega)])) $$ Hb
  unfold t1calc
  rw [wp_bind]
  iapply (T_amaxP 𝒱 d bd M I _ J _) $$ Hx
  iintro Hx
  rw [wp_bind]
  iapply (T_scalesP 𝒱 d bd M I (t := t) (by omega) _) $$ [Hs Hsb]
  · unfold Junk
    isplitl [Hs]; · iexact Hs
    iexact Hsb
  iintro ⟨Hs, Hsb⟩
  rw [wp_bind]
  iapply (T_chunksP 𝒱 d bd M I h (by omega) (by omega) _ _ J K 95 0 (by omega) _) $$ [Hx Hb]
  · isplitl [Hx]; · iexact Hx
    iexact Hb
  iintro ⟨Hx, Hb⟩
  rw [wp_bind]
  iapply (T_zeroP 𝒱 d bd M I _ _ J _) $$ Hx
  iintro Hx
  ihave Hb := (Own.congr (X' := CB I t) (p' := fun i : S2x32x12160.Idx => (i 0).val = t % 2) (fun _ => Iff.rfl) (fun i _ => by
    have : (i 2).val < 12160 := (i 2).isLt
    unfold CX; rw [if_pos (by omega)])) $$ Hb
  iapply (T_cStart 𝒱 d bd M I EC ι t h _) $$ [Hb Hc Hsem]
  · isplitl [Hb]; · iexact Hb
    isplitl [Hc]
    · unfold Junk; iexact Hc
    iexact Hsem
  iintro HF
  iapply HK
  isplitl [Hx]; · iexact Hx
  isplitl [Hs]; · iexact Hs
  isplitl [Hsb]; · iexact Hsb
  unfold cst
  rw [dif_pos ⟨by omega, by omega⟩]
  iexact HF

/-- Before trip `t`. -/
def J1 (t : Nat) : PS nD τ sig F :=
  iprop(xfs d M I EC ι (32 - t) t ∗ Own d M.x (fun i => (i 0).val / 32 < t) fullShare I.X ∗ xsvD d M t
    ∗ Own d M.xb (fun i => (i 0).val / 32 < t) fullShare (XQ I) ∗ (Junk d M.xb fun i => t ≤ (i 0).val / 32 ∧ 12160 ≤ (i 1).val)
    ∗ Own d M.xs (fun i => (i 0).val / 32 < t) fullShare (XSV I) ∗ (Junk d M.xs fun i => t ≤ (i 0).val / 32)
    ∗ Own d M.xsb (fun i => (i 0).val / 32 < t) fullShare (XSB I) ∗ (Junk d M.xsb fun i => t ≤ (i 0).val / 32)
    ∗ Own d M.c (fun i => (i 0).val / 32 < t - 2) fullShare (CV I) ∗ (Junk d M.c fun i => t ≤ (i 0).val / 32)
    ∗ cst d M I EC ι t ∗ cst d M I EC ι (t + 1) ∗ Ow d)

theorem T_t1body {t : Nat} (h : t < 32) : T 𝒱 d bd defs (J1 d M I EC ι t) (t1body (F := F) M t h) ⟨⟩ (J1 d M I EC ι (t + 1)) := by
  intro Φ
  unfold J1
  rw [show 32 - t = (32 - (t + 1)) + 1 by omega, show (xfs d M I EC ι (32 - (t + 1) + 1) t : PS nD τ sig F) = iprop(xf d M I EC ι t ∗ xfs d M I EC ι (32 - (t + 1)) (t + 1)) from rfl,
    xf_lt d M I EC ι h, show (xsvD d M (t + 1) : PS nD τ sig F) = iprop(xsvD d M t ∗ xsm d M t) from rfl, xsm_lt d M h,
    show (t1body (F := F) (Λ := Λ) (nD := nD) (τ := τ) M t h) = ((xCp M t h).wait >>= fun _ =>
      (if h2 : 2 ≤ t then (cCp M (t - 2) (by omega)).wait else pure ⟨⟩) >>= fun _ => t1calc (F := F) M t h) from rfl]
  iintro ⟨⟨HF, HFs⟩, Hx, HS, Hxb, Hpad, Hs, Hs', Hsb, Hsb', Hc, Hc', HC0, HC1, HO⟩ HK
  icases (Junk.peelAnd d (k := fun i : S1024x12288.Idx => (i 0).val / 32) (p := fun i => 12160 ≤ (i 1).val)) $$ Hpad with ⟨Hpad0, Hpad⟩
  icases (Junk.peel d (k := fun i : S1024x1.Idx => (i 0).val / 32)) $$ Hs' with ⟨Hs0, Hs'⟩
  icases (Junk.peel d (k := fun i : S1024x128.Idx => (i 0).val / 32)) $$ Hsb' with ⟨Hsb0, Hsb'⟩
  icases (Junk.peel d (k := fun i : S1024x12160.Idx => (i 0).val / 32)) $$ Hc' with ⟨Hc0, Hc'⟩
  rw [wp_bind]
  iapply (T_wait 𝒱 d bd EC ι _) $$ [HF HO]
  · isplitl [HF]; · iexact HF
    iexact HO
  iintro ⟨HR, Hsem, HO⟩
  unfold xR
  icases HR with ⟨Hx0, Hxb0⟩
  rw [wp_bind]
  iapply (T_cWait 𝒱 d bd M I EC ι h _) $$ [HC0 Hc HO]
  · isplitl [HC0]; · iexact HC0
    isplitl [Hc]; · iexact Hc
    iexact HO
  iintro ⟨Hcb, Hcs, Hc, HO⟩
  iapply (T_t1calc 𝒱 d bd M I EC ι h _) $$ [Hxb0 Hpad0 Hs0 Hsb0 Hcb Hc0 Hcs]
  · isplitl [Hxb0]; · iexact Hxb0
    isplitl [Hpad0]; · iexact Hpad0
    isplitl [Hs0]; · iexact Hs0
    isplitl [Hsb0]; · iexact Hsb0
    isplitl [Hcb]; · iexact Hcb
    isplitl [Hc0]; · iexact Hc0
    iexact Hcs
  iintro ⟨Hxb0, Hs0, Hsb0, HC2⟩
  iapply HK
  isplitl [HFs]; · iexact HFs
  isplitl [Hx Hx0]
  · iapply (Own.grow d (k := fun i : S1024x12160.Idx => (i 0).val / 32))
    isplitl [Hx]; · iexact Hx
    iexact Hx0
  isplitl [HS Hsem]
  · isplitl [HS]; · iexact HS
    iexact Hsem
  isplitl [Hxb Hxb0]
  · iapply (Own.grow d (k := fun i : S1024x12288.Idx => (i 0).val / 32))
    isplitl [Hxb]; · iexact Hxb
    iexact Hxb0
  isplitl [Hpad]; · iexact Hpad
  isplitl [Hs Hs0]
  · iapply (Own.grow d (k := fun i : S1024x1.Idx => (i 0).val / 32))
    isplitl [Hs]; · iexact Hs
    iexact Hs0
  isplitl [Hs']; · iexact Hs'
  isplitl [Hsb Hsb0]
  · iapply (Own.grow d (k := fun i : S1024x128.Idx => (i 0).val / 32))
    isplitl [Hsb]; · iexact Hsb
    iexact Hsb0
  isplitl [Hsb']; · iexact Hsb'
  isplitl [Hc]; · iexact Hc
  isplitl [Hc']; · iexact Hc'
  isplitl [HC1]; · iexact HC1
  isplitl [HC2]; · iexact HC2
  iexact HO

theorem T_loop1 : T 𝒱 d bd defs (J1 d M I EC ι 0)
    (lp1.for lp1_ok PUnit.unit (fun t _ => t1body (F := F) M t.val (lt_of_lt_of_eq t.isLt lp1_trips))) PUnit.unit (J1 d M I EC ι 32) :=
  T.loop 𝒱 d bd (J1 d M I EC ι) (fun _ => PUnit.unit) lp1_trips rfl fun k => T_t1body 𝒱 d bd M I EC ι (lt_of_lt_of_eq k.isLt lp1_trips)

end Cert.Mx
-- ==== Proof.Mx.Wio.lean ====
/-
  The weights’ copies over the output tiles, and the output tiles’ own copies.
-/
module

public import proofs.«01_k».proof.Proof.Mx.Loop1

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)
variable (EC : UEmb Counters (PM nD τ sig F)) [EC.LandsIn (upEmb : UEmb _ (PM nD τ sig F))] (ι : Unit)

/-! The weights. -/

/-- The sources' tiles below `n`, and from `n` on. -/
def srcLt (n : Nat) : PS nD τ sig F :=
  iprop(Own d (M.w 0) (fun i => (i 0).val / 256 < n) fullShare (I.W 0) ∗ Own d (M.s 0) (fun i => (i 0).val / 256 < n) fullShare (I.S 0)
    ∗ Own d (M.w 1) (fun i => (i 0).val / 256 < n) fullShare (I.W 1) ∗ Own d (M.s 1) (fun i => (i 0).val / 256 < n) fullShare (I.S 1))
def srcGe (n : Nat) : PS nD τ sig F :=
  iprop(Own d (M.w 0) (fun i => n ≤ (i 0).val / 256) fullShare (I.W 0) ∗ Own d (M.s 0) (fun i => n ≤ (i 0).val / 256) fullShare (I.S 0)
    ∗ Own d (M.w 1) (fun i => n ≤ (i 0).val / 256) fullShare (I.W 1) ∗ Own d (M.s 1) (fun i => n ≤ (i 0).val / 256) fullShare (I.S 1))
def srcEq (n : Nat) : PS nD τ sig F :=
  iprop(Own d (M.w 0) (fun i => (i 0).val / 256 = n) fullShare (I.W 0) ∗ Own d (M.s 0) (fun i => (i 0).val / 256 = n) fullShare (I.S 0)
    ∗ Own d (M.w 1) (fun i => (i 0).val / 256 = n) fullShare (I.W 1) ∗ Own d (M.s 1) (fun i => (i 0).val / 256 = n) fullShare (I.S 1))

theorem src_peel (n : Nat) : srcGe d M I n ⊢ (iprop(srcEq d M I n ∗ srcGe d M I (n + 1)) : PS nD τ sig F) := by
  unfold srcGe srcEq
  iintro ⟨H0, H1, H2, H3⟩
  icases (Own.peel d (k := fun i : S17024x12160.Idx => (i 0).val / 256)) $$ H0 with ⟨H0, H0'⟩
  icases (Own.peel d (k := fun i : S17024x380.Idx => (i 0).val / 256)) $$ H1 with ⟨H1, H1'⟩
  icases (Own.peel d (k := fun i : S17024x12160.Idx => (i 0).val / 256)) $$ H2 with ⟨H2, H2'⟩
  icases (Own.peel d (k := fun i : S17024x380.Idx => (i 0).val / 256)) $$ H3 with ⟨H3, H3'⟩
  isplitl [H0 H1 H2 H3]
  · isplitl [H0]; · iexact H0
    isplitl [H1]; · iexact H1
    isplitl [H2]; · iexact H2
    iexact H3
  · isplitl [H0']; · iexact H0'
    isplitl [H1']; · iexact H1'
    isplitl [H2']; · iexact H2'
    iexact H3'

theorem src_grow (n : Nat) : iprop(srcLt d M I n ∗ srcEq d M I n) ⊢ (srcLt d M I (n + 1) : PS nD τ sig F) := by
  unfold srcLt srcEq
  iintro ⟨⟨H0, H1, H2, H3⟩, ⟨H0', H1', H2', H3'⟩⟩
  isplitl [H0 H0']
  · iapply (Own.grow d (k := fun i : S17024x12160.Idx => (i 0).val / 256))
    isplitl [H0]; · iexact H0
    iexact H0'
  isplitl [H1 H1']
  · iapply (Own.grow d (k := fun i : S17024x380.Idx => (i 0).val / 256))
    isplitl [H1]; · iexact H1
    iexact H1'
  isplitl [H2 H2']
  · iapply (Own.grow d (k := fun i : S17024x12160.Idx => (i 0).val / 256))
    isplitl [H2]; · iexact H2
    iexact H2'
  iapply (Own.grow d (k := fun i : S17024x380.Idx => (i 0).val / 256))
  isplitl [H3]; · iexact H3
  iexact H3'

/-- A tile's four semaphores, by its slot. -/
def wsem (u : Nat) : PS nD τ sig F :=
  iprop(sv d (semW M.wsem ![u % 3, 2 * (0 : Fin 2).val] (inb2 (by omega) (by decide))) ∗ sv d (semW M.wsem ![u % 3, 2 * (0 : Fin 2).val + 1] (inb2 (by omega) (by decide)))
    ∗ sv d (semW M.wsem ![u % 3, 2 * (1 : Fin 2).val] (inb2 (by omega) (by decide))) ∗ sv d (semW M.wsem ![u % 3, 2 * (1 : Fin 2).val + 1] (inb2 (by omega) (by decide))))
theorem wsem_mod (u u' : Nat) (h : u % 3 = u' % 3) : (wsem d M u : PS nD τ sig F) = wsem d M u' := by
  unfold wsem
  have : ∀ a b, a < 3 → (e : a = b) → ∀ c (hc : c < 12) (p : Inb ![a, c] ![1, 1] ![3, 12]) (p' : Inb ![b, c] ![1, 1] ![3, 12]), semW M.wsem ![a, c] p = semW M.wsem ![b, c] p' := by
    intro a b _ e; subst e; intros; rfl
  rw [this _ _ (by omega) h (2 * (0 : Fin 2).val) (by decide), this _ _ (by omega) h (2 * (0 : Fin 2).val + 1) (by decide),
    this _ _ (by omega) h (2 * (1 : Fin 2).val) (by decide), this _ _ (by omega) h (2 * (1 : Fin 2).val + 1) (by decide)]
/-- A slot of the weights' buffers, free. -/
def wslot (u : Nat) : PS nD τ sig F := iprop((Junk d M.wb fun i => (i 0).val = u % 3) ∗ (Junk d M.sb fun i => (i 0).val = u % 3))
theorem wslot_mod (u u' : Nat) (h : u % 3 = u' % 3) : (wslot d M u : PS nD τ sig F) = wslot d M u' := by unfold wslot; rw [h]

/-- Tile `n`'s weights in flight. -/
def wfl (n : Nat) (h : n < 66) : PS nD τ sig F :=
  iprop(fl d EC ι (wCp M n h 0) (wR d M I n 0) ∗ fl d EC ι (sCp M n h 0) (sR d M I n 0) ∗ fl d EC ι (wCp M n h 1) (wR d M I n 1) ∗ fl d EC ι (sCp M n h 1) (sR d M I n 1))

theorem halves {s : Shape} {sp : Space} {e : EltTy} {m : Memref sig .tc sp s e} {k : s.Idx → Nat} {p : s.Idx → Prop} (h : ∀ i, k i < 2) :
    (Junk (F := F) d m p : PS nD τ sig F) ⊢ iprop(Junk d m (fun i => p i ∧ k i = (0 : Fin 2).val) ∗ Junk d m (fun i => p i ∧ k i = (1 : Fin 2).val)) := by
  refine Junk.split d (fun i => ?_) (fun i h' h2 => ?_)
  · have := h i
    constructor
    · intro hp
      rcases Nat.eq_zero_or_pos (k i) with e | e
      · exact Or.inl ⟨hp, e⟩
      · exact Or.inr ⟨hp, by show k i = 1; omega⟩
    · rintro (h | h) <;> exact h.1
  · have h0 : k i = 0 := h'.2
    have h1 : k i = 1 := h2.2
    omega

theorem unhalve {s : Shape} {sp : Space} {e : EltTy} {m : Memref sig .tc sp s e} {k : s.Idx → Nat} {p : s.Idx → Prop} {X : s.Idx → Elt F e} (h : ∀ i, k i < 2) :
    iprop(Own d m (fun i => p i ∧ k i = (0 : Fin 2).val) fullShare X ∗ Own d m (fun i => p i ∧ k i = (1 : Fin 2).val) fullShare X) ⊢ (Own d m p fullShare X : PS nD τ sig F) := by
  refine Own.join (fun i => ?_) (fun i h' h2 => ?_) (fun _ _ => rfl) (fun _ _ => rfl)
  · have := h i
    constructor
    · intro hp
      rcases Nat.eq_zero_or_pos (k i) with e | e
      · exact Or.inl ⟨hp, e⟩
      · exact Or.inr ⟨hp, by show k i = 1; omega⟩
    · rintro (h | h) <;> exact h.1
  · have h0 : k i = 0 := h'.2
    have h1 : k i = 1 := h2.2
    omega

theorem T_wStart {n : Nat} (h : n < 66) : T 𝒱 d bd defs iprop(srcEq d M I n ∗ wslot d M n ∗ wsem d M n) (wStart (F := F) M n h) ⟨⟩ (wfl d M I EC ι n h) := by
  intro Φ
  unfold srcEq wslot wsem wfl wStart
  iintro ⟨⟨A0, A1, A2, A3⟩, ⟨Hw, Hs⟩, ⟨S0, S1, S2, S3⟩⟩ HK
  icases (halves d (k := fun i : S3x2x256x12160.Idx => (i 1).val) (fun i => (i 1).isLt)) $$ Hw with ⟨B0, B2⟩
  icases (halves d (k := fun i : S3x2x256x380.Idx => (i 1).val) (fun i => (i 1).isLt)) $$ Hs with ⟨B1, B3⟩
  rw [wp_bind]
  iapply (T_wStart1 𝒱 d bd M I EC ι n h 0 _) $$ [A0 B0 S0]
  · isplitl [A0]; · iexact A0
    isplitl [B0]; · iexact B0
    iexact S0
  iintro F0
  rw [wp_bind]
  iapply (T_sStart1 𝒱 d bd M I EC ι n h 0 _) $$ [A1 B1 S1]
  · isplitl [A1]; · iexact A1
    isplitl [B1]; · iexact B1
    iexact S1
  iintro F1
  rw [wp_bind]
  iapply (T_wStart1 𝒱 d bd M I EC ι n h 1 _) $$ [A2 B2 S2]
  · isplitl [A2]; · iexact A2
    isplitl [B2]; · iexact B2
    iexact S2
  iintro F2
  iapply (T_sStart1 𝒱 d bd M I EC ι n h 1 _) $$ [A3 B3 S3]
  · isplitl [A3]; · iexact A3
    isplitl [B3]; · iexact B3
    iexact S3
  iintro F3
  iapply HK
  isplitl [F0]; · iexact F0
  isplitl [F1]; · iexact F1
  isplitl [F2]; · iexact F2
  iexact F3

theorem T_wWait {n : Nat} (h : n < 66) : T 𝒱 d bd defs iprop(wfl d M I EC ι n h ∗ Ow d) (wWait (F := F) M n h) ⟨⟩
    iprop(wbO d M I n ∗ sbO d M I n ∗ srcEq d M I n ∗ wsem d M n ∗ Ow d) := by
  intro Φ
  unfold srcEq wsem wfl wWait
  iintro ⟨⟨F0, F1, F2, F3⟩, HO⟩ HK
  rw [wp_bind]
  iapply (T_wait 𝒱 d bd EC ι _) $$ [F0 HO]
  · isplitl [F0]; · iexact F0
    iexact HO
  iintro ⟨R0, S0, HO⟩
  rw [wp_bind]
  iapply (T_wait 𝒱 d bd EC ι _) $$ [F1 HO]
  · isplitl [F1]; · iexact F1
    iexact HO
  iintro ⟨R1, S1, HO⟩
  rw [wp_bind]
  iapply (T_wait 𝒱 d bd EC ι _) $$ [F2 HO]
  · isplitl [F2]; · iexact F2
    iexact HO
  iintro ⟨R2, S2, HO⟩
  iapply (T_wait 𝒱 d bd EC ι _) $$ [F3 HO]
  · isplitl [F3]; · iexact F3
    iexact HO
  iintro ⟨R3, S3, HO⟩
  unfold wR sR
  icases R0 with ⟨A0, B0⟩
  icases R1 with ⟨A1, B1⟩
  icases R2 with ⟨A2, B2⟩
  icases R3 with ⟨A3, B3⟩
  iapply HK
  isplitl [B0 B2]
  · iapply (unhalve d (k := fun i : S3x2x256x12160.Idx => (i 1).val) (fun i => (i 1).isLt))
    isplitl [B0]; · iexact B0
    iexact B2
  isplitl [B1 B3]
  · iapply (unhalve d (k := fun i : S3x2x256x380.Idx => (i 1).val) (fun i => (i 1).isLt))
    isplitl [B1]; · iexact B1
    iexact B3
  isplitl [A0 A1 A2 A3]
  · isplitl [A0]; · iexact A0
    isplitl [A1]; · iexact A1
    isplitl [A2]; · iexact A2
    iexact A3
  isplitl [S0 S1 S2 S3]
  · isplitl [S0]; · iexact S0
    isplitl [S1]; · iexact S1
    isplitl [S2]; · iexact S2
    iexact S3
  iexact HO

/-! The last tile's weights. -/

/-- The two halves' shares of the last rows. -/
def qh : Fin 2 → PosShare TreeShare
  | 0 => fullShare.left
  | 1 => fullShare.right
theorem qh_full : (fullShare : PosShare TreeShare) ∈ qh 0 ·? qh 1 := PosShare.mem_left_op_right _

def wtsv (g h : Fin 2) : PS nD τ sig F :=
  iprop(sv d (semW M.wsem ![0, 4 + 4 * g.val + 2 * h.val] (inb2 (by omega) (by omega))) ∗ sv d (semW M.wsem ![0, 4 + 4 * g.val + 2 * h.val + 1] (inb2 (by omega) (by omega))))
/-- The last tile's eight semaphores. -/
def wtsem : PS nD τ sig F := iprop(wtsv d M 0 0 ∗ wtsv d M 0 1 ∗ wtsv d M 1 0 ∗ wtsv d M 1 1)
def wfl2 (g h : Fin 2) : PS nD τ sig F := iprop(fl d EC ι (wCpT M g h) (wRT d M I (qh g) g h) ∗ fl d EC ι (sCpT M g h) (sRT d M I (qh g) g h))
/-- The last tile's weights in flight. -/
def wflT : PS nD τ sig F := iprop(wfl2 d M I EC ι 0 0 ∗ wfl2 d M I EC ι 0 1 ∗ wfl2 d M I EC ι 1 0 ∗ wfl2 d M I EC ι 1 1)
def src2 (g h : Fin 2) : PS nD τ sig F :=
  iprop(Own d (M.w h) (fun i => (i 0).val / 256 = 66) (qh g) (I.W h) ∗ Own d (M.s h) (fun i => (i 0).val / 256 = 66) (qh g) (I.S h))
def slot2 (g h : Fin 2) : PS nD τ sig F :=
  iprop((Junk d M.wb fun i => (i 0).val = 0 ∧ (i 1).val = g.val ∧ (i 2).val / 128 = h.val) ∗ (Junk d M.sb fun i => (i 0).val = 0 ∧ (i 1).val = g.val ∧ (i 2).val / 128 = h.val))
def full2 (g h : Fin 2) : PS nD τ sig F :=
  iprop(Own d M.wb (fun i => (i 0).val = 0 ∧ (i 1).val = g.val ∧ (i 2).val / 128 = h.val) fullShare (WB I 66)
    ∗ Own d M.sb (fun i => (i 0).val = 0 ∧ (i 1).val = g.val ∧ (i 2).val / 128 = h.val) fullShare (SB I 66))

theorem src2_split : srcEq d M I 66 ⊢ (iprop(src2 d M I 0 0 ∗ src2 d M I 0 1 ∗ src2 d M I 1 0 ∗ src2 d M I 1 1) : PS nD τ sig F) := by
  unfold srcEq src2
  iintro ⟨H0, H1, H2, H3⟩
  icases (Own.share qh_full) $$ H0 with ⟨H0, H0'⟩
  icases (Own.share qh_full) $$ H1 with ⟨H1, H1'⟩
  icases (Own.share qh_full) $$ H2 with ⟨H2, H2'⟩
  icases (Own.share qh_full) $$ H3 with ⟨H3, H3'⟩
  isplitl [H0 H1]
  · isplitl [H0]; · iexact H0
    iexact H1
  isplitl [H2 H3]
  · isplitl [H2]; · iexact H2
    iexact H3
  isplitl [H0' H1']
  · isplitl [H0']; · iexact H0'
    iexact H1'
  isplitl [H2']; · iexact H2'
  iexact H3'

theorem src2_join : iprop(src2 d M I 0 0 ∗ src2 d M I 0 1 ∗ src2 d M I 1 0 ∗ src2 d M I 1 1) ⊢ (srcEq d M I 66 : PS nD τ sig F) := by
  unfold srcEq src2
  iintro ⟨⟨H0, H1⟩, ⟨H2, H3⟩, ⟨H0', H1'⟩, ⟨H2', H3'⟩⟩
  isplitl [H0 H0']
  · iapply (Own.unshare qh_full)
    isplitl [H0]; · iexact H0
    iexact H0'
  isplitl [H1 H1']
  · iapply (Own.unshare qh_full)
    isplitl [H1]; · iexact H1
    iexact H1'
  isplitl [H2 H2']
  · iapply (Own.unshare qh_full)
    isplitl [H2]; · iexact H2
    iexact H2'
  iapply (Own.unshare qh_full)
  isplitl [H3]; · iexact H3
  iexact H3'

theorem quarter {s : Shape} {sp : Space} {e : EltTy} {m : Memref sig .tc sp s e} {p : s.Idx → Prop} {k l : s.Idx → Nat} (h : ∀ i, k i < 2) (h' : ∀ i, l i < 2) :
    (Junk (F := F) d m p : PS nD τ sig F) ⊢ iprop(Junk d m (fun i => p i ∧ k i = (0 : Fin 2).val ∧ l i = (0 : Fin 2).val) ∗ Junk d m (fun i => p i ∧ k i = (0 : Fin 2).val ∧ l i = (1 : Fin 2).val)
      ∗ Junk d m (fun i => p i ∧ k i = (1 : Fin 2).val ∧ l i = (0 : Fin 2).val) ∗ Junk d m (fun i => p i ∧ k i = (1 : Fin 2).val ∧ l i = (1 : Fin 2).val)) := by
  iintro H
  icases (halves d h) $$ H with ⟨H, H'⟩
  icases (halves d h') $$ H with ⟨H0, H1⟩
  icases (halves d h') $$ H' with ⟨H2, H3⟩
  isplitl [H0]; · iapply (Junk.congr d (fun _ => and_assoc)) $$ H0
  isplitl [H1]; · iapply (Junk.congr d (fun _ => and_assoc)) $$ H1
  isplitl [H2]; · iapply (Junk.congr d (fun _ => and_assoc)) $$ H2
  iapply (Junk.congr d (fun _ => and_assoc)) $$ H3

theorem unquarter {s : Shape} {sp : Space} {e : EltTy} {m : Memref sig .tc sp s e} {p : s.Idx → Prop} {k l : s.Idx → Nat} {X : s.Idx → Elt F e} (h : ∀ i, k i < 2) (h' : ∀ i, l i < 2) :
    iprop(Own d m (fun i => p i ∧ k i = (0 : Fin 2).val ∧ l i = (0 : Fin 2).val) fullShare X ∗ Own d m (fun i => p i ∧ k i = (0 : Fin 2).val ∧ l i = (1 : Fin 2).val) fullShare X
      ∗ Own d m (fun i => p i ∧ k i = (1 : Fin 2).val ∧ l i = (0 : Fin 2).val) fullShare X ∗ Own d m (fun i => p i ∧ k i = (1 : Fin 2).val ∧ l i = (1 : Fin 2).val) fullShare X)
      ⊢ (Own d m p fullShare X : PS nD τ sig F) := by
  iintro ⟨H0, H1, H2, H3⟩
  iapply (unhalve d h)
  isplitl [H0 H1]
  · iapply (unhalve d h')
    isplitl [H0]; · iapply (Own.congr (fun _ => and_assoc.symm) (fun _ _ => rfl)) $$ H0
    iapply (Own.congr (fun _ => and_assoc.symm) (fun _ _ => rfl)) $$ H1
  · iapply (unhalve d h')
    isplitl [H2]; · iapply (Own.congr (fun _ => and_assoc.symm) (fun _ _ => rfl)) $$ H2
    iapply (Own.congr (fun _ => and_assoc.symm) (fun _ _ => rfl)) $$ H3

theorem i2lt {i : S3x2x256x12160.Idx} : (i 2).val / 128 < 2 := by have : (i 2).val < 256 := (i 2).isLt; omega
theorem i2lt' {i : S3x2x256x380.Idx} : (i 2).val / 128 < 2 := by have : (i 2).val < 256 := (i 2).isLt; omega

theorem slot2_split : wslot d M 66 ⊢ (iprop(slot2 d M 0 0 ∗ slot2 d M 0 1 ∗ slot2 d M 1 0 ∗ slot2 d M 1 1) : PS nD τ sig F) := by
  unfold wslot slot2
  iintro ⟨Hw, Hs⟩
  icases (quarter d (p := fun i : S3x2x256x12160.Idx => (i 0).val = 0) (k := fun i : S3x2x256x12160.Idx => (i 1).val) (l := fun i => (i 2).val / 128) (fun i => (i 1).isLt) (fun i => i2lt)) $$ Hw with ⟨H0, H2, H4, H6⟩
  icases (quarter d (p := fun i : S3x2x256x380.Idx => (i 0).val = 0) (k := fun i : S3x2x256x380.Idx => (i 1).val) (l := fun i => (i 2).val / 128) (fun i => (i 1).isLt) (fun i => i2lt')) $$ Hs with ⟨H1, H3, H5, H7⟩
  isplitl [H0 H1]
  · isplitl [H0]; · iexact H0
    iexact H1
  isplitl [H2 H3]
  · isplitl [H2]; · iexact H2
    iexact H3
  isplitl [H4 H5]
  · isplitl [H4]; · iexact H4
    iexact H5
  isplitl [H6]; · iexact H6
  iexact H7

theorem full2_join : iprop(full2 d M I 0 0 ∗ full2 d M I 0 1 ∗ full2 d M I 1 0 ∗ full2 d M I 1 1) ⊢ (iprop(wbO d M I 66 ∗ sbO d M I 66) : PS nD τ sig F) := by
  unfold full2
  iintro ⟨⟨H0, H1⟩, ⟨H2, H3⟩, ⟨H4, H5⟩, ⟨H6, H7⟩⟩
  isplitl [H0 H2 H4 H6]
  · iapply (unquarter d (p := fun i : S3x2x256x12160.Idx => (i 0).val = 0) (k := fun i : S3x2x256x12160.Idx => (i 1).val) (l := fun i => (i 2).val / 128) (fun i => (i 1).isLt) (fun i => i2lt))
    isplitl [H0]; · iexact H0
    isplitl [H2]; · iexact H2
    isplitl [H4]; · iexact H4
    iexact H6
  · iapply (unquarter d (p := fun i : S3x2x256x380.Idx => (i 0).val = 0) (k := fun i : S3x2x256x380.Idx => (i 1).val) (l := fun i => (i 2).val / 128) (fun i => (i 1).isLt) (fun i => i2lt'))
    isplitl [H1]; · iexact H1
    isplitl [H3]; · iexact H3
    isplitl [H5]; · iexact H5
    iexact H7

/-- One pair of the last tile's copies. -/
theorem T_start2 (g h : Fin 2) {β : Type} (k : Prog (TpuEff nD τ sig (Elt F) Λ .tc) β) (v : β) (P P' : PS nD τ sig F)
    (hk : T 𝒱 d bd defs iprop(wfl2 d M I EC ι g h ∗ P) k v P') :
    T 𝒱 d bd defs iprop((src2 d M I g h ∗ slot2 d M g h ∗ wtsv d M g h) ∗ P) ((wCpT M g h).start >>= fun _ => (sCpT M g h).start >>= fun _ => k) v P' := by
  intro Φ
  unfold src2 slot2 wtsv
  iintro ⟨⟨⟨A0, A1⟩, ⟨B0, B1⟩, ⟨S0, S1⟩⟩, HP⟩ HK
  rw [wp_bind]
  iapply (T_wStartT1 𝒱 d bd M I EC ι (qh g) g h _) $$ [A0 B0 S0]
  · isplitl [A0]; · iexact A0
    isplitl [B0]; · iexact B0
    iexact S0
  iintro F0
  rw [wp_bind]
  iapply (T_sStartT1 𝒱 d bd M I EC ι (qh g) g h _) $$ [A1 B1 S1]
  · isplitl [A1]; · iexact A1
    isplitl [B1]; · iexact B1
    iexact S1
  iintro F1
  iapply (hk Φ) $$ [F0 F1 HP]
  · unfold wfl2
    isplitl [F0 F1]
    · isplitl [F0]; · iexact F0
      iexact F1
    iexact HP
  iexact HK

theorem T_wait2 (g h : Fin 2) {β : Type} (k : Prog (TpuEff nD τ sig (Elt F) Λ .tc) β) (v : β) (P P' : PS nD τ sig F)
    (hk : T 𝒱 d bd defs iprop((src2 d M I g h ∗ full2 d M I g h ∗ wtsv d M g h) ∗ Ow d ∗ P) k v P') :
    T 𝒱 d bd defs iprop(wfl2 d M I EC ι g h ∗ Ow d ∗ P) ((wCpT M g h).wait >>= fun _ => (sCpT M g h).wait >>= fun _ => k) v P' := by
  intro Φ
  unfold wfl2
  iintro ⟨⟨F0, F1⟩, HO, HP⟩ HK
  rw [wp_bind]
  iapply (T_wait 𝒱 d bd EC ι _) $$ [F0 HO]
  · isplitl [F0]; · iexact F0
    iexact HO
  iintro ⟨R0, S0, HO⟩
  rw [wp_bind]
  iapply (T_wait 𝒱 d bd EC ι _) $$ [F1 HO]
  · isplitl [F1]; · iexact F1
    iexact HO
  iintro ⟨R1, S1, HO⟩
  unfold wRT sRT
  icases R0 with ⟨A0, B0⟩
  icases R1 with ⟨A1, B1⟩
  iapply (hk Φ) $$ [A0 A1 B0 B1 S0 S1 HO HP]
  · unfold src2 full2 wtsv
    isplitl [A0 A1 B0 B1 S0 S1]
    · isplitl [A0 A1]
      · isplitl [A0]; · iexact A0
        iexact A1
      isplitl [B0 B1]
      · isplitl [B0]; · iexact B0
        iexact B1
      isplitl [S0]; · iexact S0
      iexact S1
    isplitl [HO]; · iexact HO
    iexact HP
  iexact HK

theorem bind_unit {p : Prog (TpuEff nD τ sig (Elt F) Λ .tc) PUnit} : (p >>= fun _ => (pure ⟨⟩ : Prog (TpuEff nD τ sig (Elt F) Λ .tc) PUnit)) = p := by
  have := bind_pure (m := Prog (TpuEff nD τ sig (Elt F) Λ .tc)) p
  exact this

theorem T_wStartT : T 𝒱 d bd defs iprop(srcEq d M I 66 ∗ wslot d M 66 ∗ wtsem d M) (wStartT (F := F) M) ⟨⟩ (wflT d M I EC ι) := by
  intro Φ
  unfold wStartT wtsem wflT
  rw [← bind_unit (p := (sCpT M 1 1).start)]
  iintro ⟨HA, HB, ⟨S0, S1, S2, S3⟩⟩ HK
  icases (src2_split d M I) $$ HA with ⟨A0, A1, A2, A3⟩
  icases (slot2_split d M) $$ HB with ⟨B0, B1, B2, B3⟩
  iapply (T_start2 𝒱 d bd M I EC ι 0 0 _ PUnit.unit iprop((src2 d M I 0 1 ∗ slot2 d M 0 1 ∗ wtsv d M 0 1) ∗ (src2 d M I 1 0 ∗ slot2 d M 1 0 ∗ wtsv d M 1 0) ∗ (src2 d M I 1 1 ∗ slot2 d M 1 1 ∗ wtsv d M 1 1)) (wflT d M I EC ι) ?_ _)
    $$ [A0 A1 A2 A3 B0 B1 B2 B3 S0 S1 S2 S3]
  · refine T.cons 𝒱 d bd (T_start2 𝒱 d bd M I EC ι 0 1 _ PUnit.unit iprop(wfl2 d M I EC ι 0 0 ∗ (src2 d M I 1 0 ∗ slot2 d M 1 0 ∗ wtsv d M 1 0) ∗ (src2 d M I 1 1 ∗ slot2 d M 1 1 ∗ wtsv d M 1 1)) (wflT d M I EC ι) ?_)
      (by iintro ⟨H, H0, H1⟩
          isplitl [H0]; · iexact H0
          isplitl [H]; · iexact H
          iexact H1) Entails.rfl
    refine T.cons 𝒱 d bd (T_start2 𝒱 d bd M I EC ι 1 0 _ PUnit.unit iprop(wfl2 d M I EC ι 0 0 ∗ wfl2 d M I EC ι 0 1 ∗ (src2 d M I 1 1 ∗ slot2 d M 1 1 ∗ wtsv d M 1 1)) (wflT d M I EC ι) ?_)
      (by iintro ⟨H, H0, H1, H2⟩
          isplitl [H1]; · iexact H1
          isplitl [H0]; · iexact H0
          isplitl [H]; · iexact H
          iexact H2) Entails.rfl
    refine T.cons 𝒱 d bd (T_start2 𝒱 d bd M I EC ι 1 1 _ PUnit.unit iprop(wfl2 d M I EC ι 0 0 ∗ wfl2 d M I EC ι 0 1 ∗ wfl2 d M I EC ι 1 0) (wflT d M I EC ι) ?_)
      (by iintro ⟨H, H0, H1, H2⟩
          isplitl [H2]; · iexact H2
          isplitl [H0]; · iexact H0
          isplitl [H1]; · iexact H1
          iexact H) Entails.rfl
    refine T.cons 𝒱 d bd (T.pure 𝒱 d bd (P := wflT d M I EC ι)) ?_ Entails.rfl
    unfold wflT
    iintro ⟨H, H0, H1, H2⟩
    isplitl [H0]; · iexact H0
    isplitl [H1]; · iexact H1
    isplitl [H2]; · iexact H2
    iexact H
  · isplitl [A0 B0 S0]
    · isplitl [A0]; · iexact A0
      isplitl [B0]; · iexact B0
      iexact S0
    isplitl [A1 B1 S1]
    · isplitl [A1]; · iexact A1
      isplitl [B1]; · iexact B1
      iexact S1
    isplitl [A2 B2 S2]
    · isplitl [A2]; · iexact A2
      isplitl [B2]; · iexact B2
      iexact S2
    isplitl [A3]; · iexact A3
    isplitl [B3]; · iexact B3
    iexact S3
  · unfold wflT
    iexact HK

def got2 (g h : Fin 2) : PS nD τ sig F := iprop(src2 d M I g h ∗ full2 d M I g h ∗ wtsv d M g h)

theorem T_wWaitT : T 𝒱 d bd defs iprop(wflT d M I EC ι ∗ Ow d) (wWaitT (F := F) M) ⟨⟩
    iprop((wbO d M I 66 ∗ sbO d M I 66) ∗ srcEq d M I 66 ∗ wtsem d M ∗ Ow d) := by
  unfold wWaitT wflT
  rw [← bind_unit (p := (sCpT M 1 1).wait)]
  refine T.cons 𝒱 d bd (T_wait2 𝒱 d bd M I EC ι 0 0 _ _ iprop(wfl2 d M I EC ι 0 1 ∗ wfl2 d M I EC ι 1 0 ∗ wfl2 d M I EC ι 1 1) _
    (T.cons 𝒱 d bd (T_wait2 𝒱 d bd M I EC ι 0 1 _ _ iprop(got2 d M I 0 0 ∗ wfl2 d M I EC ι 1 0 ∗ wfl2 d M I EC ι 1 1) _
      (T.cons 𝒱 d bd (T_wait2 𝒱 d bd M I EC ι 1 0 _ _ iprop(got2 d M I 0 0 ∗ got2 d M I 0 1 ∗ wfl2 d M I EC ι 1 1) _
        (T.cons 𝒱 d bd (T_wait2 𝒱 d bd M I EC ι 1 1 _ _ iprop(got2 d M I 0 0 ∗ got2 d M I 0 1 ∗ got2 d M I 1 0) _ (T.pure 𝒱 d bd)) ?_ Entails.rfl)) ?_ Entails.rfl)) ?_ Entails.rfl)) ?_ ?_
  · unfold got2
    iintro ⟨G, HO, G0, G1, F⟩
    isplitl [F]; · iexact F
    isplitl [HO]; · iexact HO
    isplitl [G0]; · iexact G0
    isplitl [G1]; · iexact G1
    iexact G
  · unfold got2
    iintro ⟨G, HO, G0, F, F'⟩
    isplitl [F]; · iexact F
    isplitl [HO]; · iexact HO
    isplitl [G0]; · iexact G0
    isplitl [G]; · iexact G
    iexact F'
  · unfold got2
    iintro ⟨G, HO, F, F', F2⟩
    isplitl [F]; · iexact F
    isplitl [HO]; · iexact HO
    isplitl [G]; · iexact G
    isplitl [F']; · iexact F'
    iexact F2
  · iintro ⟨⟨F0, F1, F2, F3⟩, HO⟩
    isplitl [F0]; · iexact F0
    isplitl [HO]; · iexact HO
    isplitl [F1]; · iexact F1
    isplitl [F2]; · iexact F2
    iexact F3
  · unfold got2 wtsem
    iintro ⟨⟨A3, B3, S3⟩, HO, ⟨A0, B0, S0⟩, ⟨A1, B1, S1⟩, ⟨A2, B2, S2⟩⟩
    isplitl [B0 B1 B2 B3]
    · iapply (full2_join d M I)
      isplitl [B0]; · iexact B0
      isplitl [B1]; · iexact B1
      isplitl [B2]; · iexact B2
      iexact B3
    isplitl [A0 A1 A2 A3]
    · iapply (src2_join d M I)
      isplitl [A0]; · iexact A0
      isplitl [A1]; · iexact A1
      isplitl [A2]; · iexact A2
      iexact A3
    isplitl [S0 S1 S2 S3]
    · isplitl [S0]; · iexact S0
      isplitl [S1]; · iexact S1
      isplitl [S2]; · iexact S2
      iexact S3
    iexact HO

end Cert.Mx
-- ==== Proof.Mx.Loop2.lean ====
/-
  The loop over the output tiles.
-/
module

public import proofs.«01_k».proof.Proof.Mx.Wio

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)
variable (EC : UEmb Counters (PM nD τ sig F)) [EC.LandsIn (upEmb : UEmb _ (PM nD τ sig F))] (ι : Unit)

/-! The weights about a trip. -/

/-- The weights of tile `m`, ahead of the tile at work: in flight, or no such tile. -/
def wfq (m : Nat) : PS nD τ sig F :=
  if h : m < 66 then iprop(wfl d M I EC ι m h ∗ wtsem d M)
  else if m = 66 then iprop(wflT d M I EC ι ∗ wsem d M m)
  else iprop(wslot d M m ∗ wsem d M m ∗ wtsem d M)

theorem wfq_lt {m : Nat} (h : m < 66) : (wfq d M I EC ι m : PS nD τ sig F) = iprop(wfl d M I EC ι m h ∗ wtsem d M) := dif_pos h
theorem wfq_66 : (wfq d M I EC ι 66 : PS nD τ sig F) = iprop(wflT d M I EC ι ∗ wsem d M 66) := by unfold wfq; rw [dif_neg (by omega), if_pos rfl]
theorem wfq_67 : (wfq d M I EC ι 67 : PS nD τ sig F) = iprop(wslot d M 67 ∗ wsem d M 67 ∗ wtsem d M) := by unfold wfq; rw [dif_neg (by omega), if_neg (by omega)]

/-- Nothing of the sources lies past the last tile. -/
theorem src_none : srcGe d M I 67 ⊢ (srcGe d M I 68 : PS nD τ sig F) := by
  have e : (fun i : S17024x12160.Idx => 67 ≤ (i 0).val / 256) = fun i => 68 ≤ (i 0).val / 256 := funext fun i => propext (by have : (i 0).val < 17024 := (i 0).isLt; omega)
  have e' : (fun i : S17024x380.Idx => 67 ≤ (i 0).val / 256) = fun i => 68 ≤ (i 0).val / 256 := funext fun i => propext (by have : (i 0).val < 17024 := (i 0).isLt; omega)
  unfold srcGe
  rw [e, e']

theorem T_wIO {n : Nat} (h : n < 66) : T 𝒱 d bd defs
    iprop(wfq d M I EC ι (n + 1) ∗ wslot d M (n + 2) ∗ wsem d M (n + 2) ∗ srcLt d M I (n + 1) ∗ srcGe d M I (n + 2) ∗ Ow d)
    (wIO (F := F) M n h) ⟨⟩
    iprop(wbO d M I (n + 1) ∗ sbO d M I (n + 1) ∗ wsem d M (n + 1) ∗ wfq d M I EC ι (n + 2) ∗ srcLt d M I (n + 2) ∗ srcGe d M I (n + 3) ∗ Ow d) := by
  intro Φ
  unfold wIO
  by_cases h1 : n < 64
  · rw [dif_pos (by omega : n + 1 < 66), dif_neg (by omega : ¬ n = 65), dif_pos (by omega : n + 2 < 66), dif_neg (by omega : ¬ n = 64),
      wfq_lt d M I EC ι (by omega : n + 1 < 66), wfq_lt d M I EC ι (by omega : n + 2 < 66)]
    iintro ⟨⟨HF, HT⟩, Hsl, Hse, HL, HG, HO⟩ HK
    rw [wp_bind]
    iapply (T_wWait 𝒱 d bd M I EC ι _ _) $$ [HF HO]
    · isplitl [HF]; · iexact HF
      iexact HO
    iintro ⟨Hw, Hs, HE, Hse1, HO⟩
    rw [wp_bind]
    iapply (le_wp_ret (M := PM nD τ sig F))
    rw [wp_bind]
    icases (src_peel d M I (n + 2)) $$ HG with ⟨HG0, HG⟩
    iapply (T_wStart 𝒱 d bd M I EC ι _ _) $$ [HG0 Hsl Hse]
    · isplitl [HG0]; · iexact HG0
      isplitl [Hsl]; · iexact Hsl
      iexact Hse
    iintro HF
    iapply (le_wp_ret (M := PM nD τ sig F))
    iapply HK
    isplitl [Hw]; · iexact Hw
    isplitl [Hs]; · iexact Hs
    isplitl [Hse1]; · iexact Hse1
    isplitl [HF HT]
    · isplitl [HF]; · iexact HF
      iexact HT
    isplitl [HL HE]
    · iapply (src_grow d M I (n + 1))
      isplitl [HL]; · iexact HL
      iexact HE
    isplitl [HG]; · iexact HG
    iexact HO
  by_cases h2 : n = 64
  · subst h2
    rw [dif_pos (by omega), dif_neg (by omega), dif_neg (by omega), dif_pos rfl, wfq_lt d M I EC ι (by omega : 64 + 1 < 66), show 64 + 2 = 66 from rfl, wfq_66]
    iintro ⟨⟨HF, HT⟩, Hsl, Hse, HL, HG, HO⟩ HK
    rw [wp_bind]
    iapply (T_wWait 𝒱 d bd M I EC ι _ _) $$ [HF HO]
    · isplitl [HF]; · iexact HF
      iexact HO
    iintro ⟨Hw, Hs, HE, Hse1, HO⟩
    rw [wp_bind]
    iapply (le_wp_ret (M := PM nD τ sig F))
    rw [wp_bind]
    iapply (le_wp_ret (M := PM nD τ sig F))
    icases (src_peel d M I 66) $$ HG with ⟨HG0, HG⟩
    iapply (T_wStartT 𝒱 d bd M I EC ι _) $$ [HG0 Hsl HT]
    · isplitl [HG0]; · iexact HG0
      isplitl [Hsl]; · iexact Hsl
      iexact HT
    iintro HF
    iapply HK
    isplitl [Hw]; · iexact Hw
    isplitl [Hs]; · iexact Hs
    isplitl [Hse1]; · iexact Hse1
    isplitl [HF Hse]
    · isplitl [HF]; · iexact HF
      iexact Hse
    isplitl [HL HE]
    · iapply (src_grow d M I 65)
      isplitl [HL]; · iexact HL
      iexact HE
    isplitl [HG]; · iexact HG
    iexact HO
  · obtain rfl : n = 65 := by omega
    rw [dif_neg (by omega), dif_pos rfl, dif_neg (by omega), dif_neg (by omega), show 65 + 1 = 66 from rfl, show 65 + 2 = 67 from rfl, wfq_66, wfq_67]
    iintro ⟨⟨HF, Hse1⟩, Hsl, Hse, HL, HG, HO⟩ HK
    rw [wp_bind]
    iapply (le_wp_ret (M := PM nD τ sig F))
    rw [wp_bind]
    iapply (T_wWaitT 𝒱 d bd M I EC ι _) $$ [HF HO]
    · isplitl [HF]; · iexact HF
      iexact HO
    iintro ⟨⟨Hw, Hs⟩, HE, HT, HO⟩
    rw [wp_bind]
    iapply (le_wp_ret (M := PM nD τ sig F))
    iapply (le_wp_ret (M := PM nD τ sig F))
    iapply HK
    isplitl [Hw]; · iexact Hw
    isplitl [Hs]; · iexact Hs
    isplitl [Hse1]; · iexact Hse1
    isplitl [Hsl Hse HT]
    · isplitl [Hsl]; · iexact Hsl
      isplitl [Hse]; · iexact Hse
      iexact HT
    isplitl [HL HE]
    · iapply (src_grow d M I 66)
      isplitl [HL]; · iexact HL
      iexact HE
    isplitl [HG]; · iapply (src_none d M I); iexact HG
    iexact HO

/-! The output tiles about a trip. -/

theorem ysem_eq {a b : Nat} (ha : a < 2) (hb : b < 2) (h : a = b) : (sv d (sem2 M.ysem ![a] (inb1 (by omega))) : PS nD τ sig F) = sv d (sem2 M.ysem ![b] (inb1 (by omega))) := by
  subst h; rfl

/-- The slot of trip `n`: free at first, then in flight since the trip before. -/
def ycur (n : Nat) : PS nD τ sig F :=
  if h : 2 ≤ n ∧ n < 68 then fl d EC ι (yCp M (n - 2) (by omega)) (yR d M I (n - 2))
  else iprop((Junk d M.yb fun i => (i 0).val = n % 2) ∗ sv d (sem2 M.ysem ![n % 2] (inb1 (by omega))))
/-- The slot of the trip before `n`: free at first, then holding that trip's tile. -/
def yprev (n : Nat) : PS nD τ sig F :=
  if h : 1 ≤ n then iprop(ytO d M I (n - 1) ∗ sv d (sem2 M.ysem ![(n - 1) % 2] (inb1 (by omega))))
  else iprop((Junk d M.yb fun i => (i 0).val = 1) ∗ sv d (sem2 M.ysem ![1] (inb1 (by omega))))

theorem T_yW {n : Nat} (hn : n < 67) : T 𝒱 d bd defs
    iprop(ycur d M I EC ι n ∗ Own d M.y (fun i => (i 1).val / 256 < n - 2) fullShare (YV I) ∗ Ow d)
    (if h2 : 2 ≤ n then (yCp M (n - 2) (by omega)).wait else pure ⟨⟩) ⟨⟩
    iprop((Junk d M.yb fun i => (i 0).val = n % 2) ∗ sv d (sem2 M.ysem ![n % 2] (inb1 (by omega))) ∗ Own d M.y (fun i => (i 1).val / 256 < n + 1 - 2) fullShare (YV I) ∗ Ow d) := by
  intro Φ
  by_cases h2 : 2 ≤ n
  · rw [dif_pos h2]
    unfold ycur
    rw [dif_pos ⟨h2, by omega⟩, show n + 1 - 2 = n - 2 + 1 by omega]
    iintro ⟨HF, Hc, HO⟩ HK
    iapply (T_wait 𝒱 d bd EC ι _) $$ [HF HO]
    · isplitl [HF]; · iexact HF
      iexact HO
    iintro ⟨HR, Hs, HO⟩
    unfold yR
    icases HR with ⟨Hb, Hc'⟩
    iapply HK
    isplitl [Hb]
    · iapply Junk.congr d (p := fun i : S2x1024x256.Idx => (i 0).val = (n - 2) % 2) (by intro i; omega)
      iapply (Junk.of d); iexact Hb
    isplitl [Hs]
    · rw [ysem_eq d M (show n % 2 < 2 by omega) (show (n - 2) % 2 < 2 by omega) (by omega)]
      iexact Hs
    isplitl [Hc Hc']
    · iapply (Own.grow d (k := fun i : S1024x17024.Idx => (i 1).val / 256))
      isplitl [Hc]; · iexact Hc
      iexact Hc'
    iexact HO
  · rw [dif_neg h2]
    unfold ycur
    rw [dif_neg (by omega), show n + 1 - 2 = n - 2 by omega]
    iintro ⟨⟨Hb, Hs⟩, Hc, HO⟩ HK
    iapply (le_wp_ret (M := PM nD τ sig F))
    iapply HK
    isplitl [Hb]; · iexact Hb
    isplitl [Hs]; · iexact Hs
    isplitl [Hc]; · iexact Hc
    iexact HO

theorem T_yS {n : Nat} (hn : n < 67) : T 𝒱 d bd defs
    iprop(yprev d M I n ∗ (Junk d M.y fun i => n - 1 ≤ (i 1).val / 256))
    (if h1 : 1 ≤ n then (yCp M (n - 1) (by omega)).start else pure ⟨⟩) ⟨⟩
    iprop(ycur d M I EC ι (n + 1) ∗ (Junk d M.y fun i => n ≤ (i 1).val / 256)) := by
  intro Φ
  by_cases h1 : 1 ≤ n
  · obtain ⟨n, rfl⟩ : ∃ m, n = m + 1 := ⟨n - 1, by omega⟩
    rw [dif_pos h1]
    unfold ycur yprev
    rw [dif_pos h1, dif_pos ⟨by omega, by omega⟩]
    iintro ⟨⟨Hb, Hs⟩, Hy⟩ HK
    icases (Junk.peel d (k := fun i : S1024x17024.Idx => (i 1).val / 256)) $$ Hy with ⟨Hy0, Hy⟩
    iapply (T_yStart 𝒱 d bd M I EC ι n _ _) $$ [Hb Hy0 Hs]
    · isplitl [Hb]; · iexact Hb
      isplitl [Hy0]; · iexact Hy0
      iexact Hs
    iintro HF
    iapply HK
    isplitl [HF]; · iexact HF
    iexact Hy
  · obtain rfl : n = 0 := by omega
    rw [dif_neg h1]
    unfold ycur yprev
    rw [dif_neg (by omega), dif_neg (by omega)]
    iintro ⟨⟨Hb, Hs⟩, Hy⟩ HK
    iapply (le_wp_ret (M := PM nD τ sig F))
    iapply HK
    isplitl [Hb Hs]
    · isplitl [Hb]; · iexact Hb
      iexact Hs
    iexact Hy

/-! One trip. -/

/-- Before trip `n`. -/
def J2 (n : Nat) : PS nD τ sig F :=
  iprop((ycur d M I EC ι n ∗ yprev d M I n ∗ Own d M.y (fun i => (i 1).val / 256 < n - 2) fullShare (YV I) ∗ (Junk d M.y fun i => n - 1 ≤ (i 1).val / 256))
    ∗ (wbO d M I n ∗ sbO d M I n ∗ wsem d M n ∗ wfq d M I EC ι (n + 1) ∗ wslot d M (n + 2) ∗ wsem d M (n + 2) ∗ srcLt d M I (n + 1) ∗ srcGe d M I (n + 2))
    ∗ (xbO d M I ∗ sclS d M I n ∗ xsbO d M I) ∗ Ow d)

theorem T_t2body (t : Fin lp2.trips) : T 𝒱 d bd defs (J2 d M I EC ι t.val) (t2body (F := F) M t (0#32, U I t.val 0)) (0#32, U I (t.val + 1) 0) (J2 d M I EC ι (t.val + 1)) := by
  obtain ⟨n, hn⟩ := t
  have h : n < 66 := lt_of_lt_of_eq hn lp2_trips
  intro Φ
  show J2 d M I EC ι n ⊢ _
  unfold J2 t2body yIO
  dsimp only
  rw [wp_bind, wp_bind]
  iintro ⟨⟨Hyc, Hyp, Hy, Hyj⟩, ⟨Hw, Hs, Hse, Hq, Hsl, Hse2, HL, HG⟩, ⟨Hx, Hscl, Hxs⟩, HO⟩ HK
  iapply (T_yW 𝒱 d bd M I EC ι (n := n) (by omega) _) $$ [Hyc Hy HO]
  · isplitl [Hyc]; · iexact Hyc
    isplitl [Hy]; · iexact Hy
    iexact HO
  iintro ⟨Hyb, Hys, Hy, HO⟩
  iapply (T_yS 𝒱 d bd M I EC ι (n := n) (by omega) _) $$ [Hyp Hyj]
  · isplitl [Hyp]; · iexact Hyp
    iexact Hyj
  iintro ⟨Hyc, Hyj⟩
  rw [wp_bind]
  iapply (T_wIO 𝒱 d bd M I EC ι _ _) $$ [Hq Hsl Hse2 HL HG HO]
  · isplitl [Hq]; · iexact Hq
    isplitl [Hsl]; · iexact Hsl
    isplitl [Hse2]; · iexact Hse2
    isplitl [HL]; · iexact HL
    isplitl [HG]; · iexact HG
    iexact HO
  iintro ⟨Hw1, Hs1, Hse1, Hq, HL, HG, HO⟩
  rw [wp_bind]
  iapply (T_t2calc 𝒱 d bd M I h _) $$ [Hx Hscl Hw Hw1 Hs1 Hxs Hyb]
  · unfold calcI
    isplitl [Hx Hscl Hw Hw1 Hs1 Hxs]
    · isplitl [Hx]; · iexact Hx
      isplitl [Hscl]; · iexact Hscl
      isplitl [Hw]; · iexact Hw
      isplitl [Hw1]; · iexact Hw1
      isplitl [Hs1]; · iexact Hs1
      iexact Hxs
    iexact Hyb
  unfold calcO
  iintro ⟨⟨Hx, Hscl, Hw, Hw1, Hs1, Hxs⟩, Hyt⟩
  iapply (le_wp_ret (M := PM nD τ sig F))
  iapply HK
  isplitl [Hyc Hyt Hys Hy Hyj]
  · isplitl [Hyc]; · iexact Hyc
    isplitl [Hyt Hys]
    · unfold yprev
      rw [dif_pos (by omega)]
      isplitl [Hyt]; · iexact Hyt
      iexact Hys
    isplitl [Hy]; · iexact Hy
    iexact Hyj
  isplitl [Hw1 Hs1 Hse1 Hq Hw Hs Hse HL HG]
  · isplitl [Hw1]; · iexact Hw1
    isplitl [Hs1]; · iexact Hs1
    isplitl [Hse1]; · iexact Hse1
    isplitl [Hq]; · iexact Hq
    isplitl [Hw Hs]
    · rw [wslot_mod d M (n + 1 + 2) n (by omega)]
      unfold wslot
      isplitl [Hw]; · iapply (Junk.of d); iexact Hw
      iapply (Junk.of d); iexact Hs
    isplitl [Hse]
    · rw [wsem_mod d M (n + 1 + 2) n (by omega)]
      iexact Hse
    isplitl [HL]; · iexact HL
    iexact HG
  isplitl [Hx Hscl Hxs]
  · isplitl [Hx]; · iexact Hx
    isplitl [Hscl]; · iexact Hscl
    iexact Hxs
  iexact HO

theorem T_loop2 : T 𝒱 d bd defs (J2 d M I EC ι 0) (lp2.for lp2_ok (0#32, U I 0 0) (t2body (F := F) M)) (0#32, U I 66 0) (J2 d M I EC ι 66) :=
  T.loop 𝒱 d bd (J2 d M I EC ι) (fun n => (0#32, U I n 0)) lp2_trips rfl fun k => T_t2body 𝒱 d bd M I EC ι k

end Cert.Mx
-- ==== Proof.Mx.Run.lean ====
/-
  The whole kernel: from its operands and scratch to its results.
-/
module

public import proofs.«01_k».proof.Proof.Mx.Loop2

@[expose] public section

noncomputable section

namespace Cert.Mx

open Idealize.ShloMosaic Idealize.ShloMosaic.TcCoe
open Idealize.SL
open Idealize.SL.BI (sProp Storable)
open scoped Idealize.SL.BI
open Idealize.SL.BI.BIBase Idealize.SL.BI.Laws Idealize.SL.Sem Idealize.SL.ProofMode
open Idealize.SL.RA
open Idealize.SL.RA.PCS
open Idealize.ShloMosaic.Transfers

variable {nD : Nat} {τ : Topo} {sig : RefSig} {F : FTy → Type} [FloatOps F]
variable {Λ : Labels} {defs : Defs nD τ sig (Elt F) Λ} (𝒱 : Variants) (d : Dev nD) (bd : Option 𝒱.V)
variable (M : Mem sig) (I : In F)
variable (EC : UEmb Counters (PM nD τ sig F)) [EC.LandsIn (upEmb : UEmb _ (PM nD τ sig F))] (ι : Unit)

section Ends
variable {sp : Space} {s : Shape} {e : EltTy} {m : Memref sig .tc sp s e}

theorem Junk.start {k : s.Idx → Nat} {X : s.Idx → Elt F e} :
    (Junk (F := F) d m (fun _ => True) : PS nD τ sig F) ⊢ iprop(Own d m (fun i => k i < 0) fullShare X ∗ Junk d m (fun i => 0 ≤ k i)) := by
  iintro H
  icases (Junk.split d (p₁ := fun i => k i < 0) (p₂ := fun i => 0 ≤ k i) (fun i => ⟨fun _ => Or.inr (Nat.zero_le _), fun _ => trivial⟩) (fun i h => absurd h (Nat.not_lt_zero _))) $$ H with ⟨H, H'⟩
  unfold Junk
  icases H with ⟨%Y, H⟩
  isplitl [H]
  · iapply (Own.congr (fun _ => Iff.rfl) (fun i h => absurd h (Nat.not_lt_zero _))) $$ H
  · iexact H'

theorem Own.start {k : s.Idx → Nat} {q : PosShare TreeShare} {X : s.Idx → Elt F e} :
    (Own d m (fun _ => True) q X : PS nD τ sig F) ⊢ iprop(Own d m (fun i => k i < 0) q X ∗ Own d m (fun i => 0 ≤ k i) q X) :=
  Own.split (fun i => ⟨fun _ => Or.inr (Nat.zero_le _), fun _ => trivial⟩) (fun i h => absurd h (Nat.not_lt_zero _))

theorem Own.all {p : s.Idx → Prop} (hp : ∀ i, p i) {q : PosShare TreeShare} {X : s.Idx → Elt F e} :
    (Own d m p q X : PS nD τ sig F) ⊢ Own d m (fun _ => True) q X := Own.congr (fun i => ⟨fun _ => trivial, fun _ => hp i⟩) (fun _ _ => rfl)
theorem Own.junk {p : s.Idx → Prop} (hp : ∀ i, p i) {X : s.Idx → Elt F e} :
    (Own d m p fullShare X : PS nD τ sig F) ⊢ Junk d m (fun _ => True) := (Own.all d hp).trans (Junk.of d)
end Ends

theorem k32 {n : Nat} (i : (⟨2, ![1024, n]⟩ : Shape).Idx) : (i 0).val / 32 < 32 := by have : (i 0).val < 1024 := (i 0).isLt; omega

/-! What the kernel is given and gives back. -/

def srcAll : PS nD τ sig F :=
  iprop(Own d (M.w 0) (fun _ => True) fullShare (I.W 0) ∗ Own d (M.s 0) (fun _ => True) fullShare (I.S 0)
    ∗ Own d (M.w 1) (fun _ => True) fullShare (I.W 1) ∗ Own d (M.s 1) (fun _ => True) fullShare (I.S 1))

def ysv : PS nD τ sig F := iprop(sv d (sem2 M.ysem ![0] (inb1 (by omega))) ∗ sv d (sem2 M.ysem ![1] (inb1 (by omega))))
def csv : PS nD τ sig F := iprop(sv d (sem2 M.csem ![0] (inb1 (by omega))) ∗ sv d (sem2 M.csem ![1] (inb1 (by omega))))
def wsv : PS nD τ sig F := iprop(wsem d M 0 ∗ wsem d M 1 ∗ wsem d M 2 ∗ wtsem d M)
/-- All the semaphores, at rest. -/
def Sems : PS nD τ sig F := iprop(xsvs d M 32 0 ∗ wsv d M ∗ ysv d M ∗ csv d M)
/-- The scratch, whatever it holds. -/
def Scr : PS nD τ sig F :=
  iprop((Junk d M.xb fun _ => True) ∗ (Junk d M.wb fun _ => True) ∗ (Junk d M.sb fun _ => True) ∗ (Junk d M.scl fun _ => True) ∗ (Junk d M.xsb fun _ => True)
    ∗ (Junk d M.yb fun _ => True) ∗ (Junk d M.cb fun _ => True))
def KPre : PS nD τ sig F :=
  iprop(Own d M.x (fun _ => True) fullShare I.X ∗ srcAll d M I ∗ ((Junk d M.y fun _ => True) ∗ (Junk d M.c fun _ => True) ∗ (Junk d M.xs fun _ => True))
    ∗ Scr d M ∗ Sems d M ∗ Ow d)
def KPost : PS nD τ sig F :=
  iprop(Own d M.x (fun _ => True) fullShare I.X ∗ srcAll d M I
    ∗ (Own d M.y (fun _ => True) fullShare (YV I) ∗ Own d M.c (fun _ => True) fullShare (CV I) ∗ Own d M.xs (fun _ => True) fullShare (XSV I))
    ∗ Scr d M ∗ Sems d M ∗ Ow d)

theorem src_start : srcAll d M I ⊢ (iprop(srcLt d M I 0 ∗ srcEq d M I 0 ∗ srcEq d M I 1 ∗ srcGe d M I 2) : PS nD τ sig F) := by
  unfold srcAll
  iintro ⟨H0, H1, H2, H3⟩
  icases (Own.start d (k := fun i : S17024x12160.Idx => (i 0).val / 256)) $$ H0 with ⟨H0, H0'⟩
  icases (Own.start d (k := fun i : S17024x380.Idx => (i 0).val / 256)) $$ H1 with ⟨H1, H1'⟩
  icases (Own.start d (k := fun i : S17024x12160.Idx => (i 0).val / 256)) $$ H2 with ⟨H2, H2'⟩
  icases (Own.start d (k := fun i : S17024x380.Idx => (i 0).val / 256)) $$ H3 with ⟨H3, H3'⟩
  isplitl [H0 H1 H2 H3]
  · unfold srcLt
    isplitl [H0]; · iexact H0
    isplitl [H1]; · iexact H1
    isplitl [H2]; · iexact H2
    iexact H3
  ihave HG : (srcGe d M I 0 : PS nD τ sig F) $$ [H0' H1' H2' H3']
  · unfold srcGe
    isplitl [H0']; · iexact H0'
    isplitl [H1']; · iexact H1'
    isplitl [H2']; · iexact H2'
    iexact H3'
  icases (src_peel d M I 0) $$ HG with ⟨HE, HG⟩
  isplitl [HE]; · iexact HE
  iapply (src_peel d M I 1) $$ HG

theorem src_end : srcLt d M I 67 ⊢ (srcAll d M I : PS nD τ sig F) := by
  have h : ∀ i : S17024x12160.Idx, (i 0).val / 256 < 67 := fun i => by have : (i 0).val < 17024 := (i 0).isLt; omega
  have h' : ∀ i : S17024x380.Idx, (i 0).val / 256 < 67 := fun i => by have : (i 0).val < 17024 := (i 0).isLt; omega
  unfold srcAll srcLt
  iintro ⟨H0, H1, H2, H3⟩
  isplitl [H0]; · iapply (Own.all d h) $$ H0
  isplitl [H1]; · iapply (Own.all d h') $$ H1
  isplitl [H2]; · iapply (Own.all d h) $$ H2
  iapply (Own.all d h') $$ H3

/-- The weights' buffers by slots. -/
theorem slots : iprop((Junk d M.wb fun _ => True) ∗ (Junk d M.sb fun _ => True)) ⊢ (iprop(wslot d M 0 ∗ wslot d M 1 ∗ wslot d M 2) : PS nD τ sig F) := by
  unfold wslot
  iintro ⟨Hw, Hs⟩
  icases (Junk.split d (p₁ := fun i : S3x2x256x12160.Idx => (i 0).val = 0 % 3) (p₂ := fun i : S3x2x256x12160.Idx => (i 0).val ≠ 0) (by intro i; simp only [true_iff]; omega) (by intro i; omega)) $$ Hw with ⟨W0, Hw⟩
  icases (Junk.split d (p₁ := fun i : S3x2x256x12160.Idx => (i 0).val = 1 % 3) (p₂ := fun i : S3x2x256x12160.Idx => (i 0).val = 2 % 3)
    (by intro i; have : (i 0).val < 3 := (i 0).isLt; omega) (by intro i; omega)) $$ Hw with ⟨W1, W2⟩
  icases (Junk.split d (p₁ := fun i : S3x2x256x380.Idx => (i 0).val = 0 % 3) (p₂ := fun i : S3x2x256x380.Idx => (i 0).val ≠ 0) (by intro i; simp only [true_iff]; omega) (by intro i; omega)) $$ Hs with ⟨S0, Hs⟩
  icases (Junk.split d (p₁ := fun i : S3x2x256x380.Idx => (i 0).val = 1 % 3) (p₂ := fun i : S3x2x256x380.Idx => (i 0).val = 2 % 3)
    (by intro i; have : (i 0).val < 3 := (i 0).isLt; omega) (by intro i; omega)) $$ Hs with ⟨S1, S2⟩
  isplitl [W0 S0]
  · isplitl [W0]; · iexact W0
    iexact S0
  isplitl [W1 S1]
  · isplitl [W1]; · iexact W1
    iexact S1
  isplitl [W2]; · iexact W2
  iexact S2

theorem unslots : iprop(wslot d M 0 ∗ wslot d M 1 ∗ wslot d M 2) ⊢ (iprop((Junk d M.wb fun _ => True) ∗ (Junk d M.sb fun _ => True)) : PS nD τ sig F) := by
  unfold wslot
  iintro ⟨⟨W0, S0⟩, ⟨W1, S1⟩, ⟨W2, S2⟩⟩
  isplitl [W0 W1 W2]
  · iapply (Junk.join d (p₁ := fun i : S3x2x256x12160.Idx => (i 0).val = 0 % 3) (p₂ := fun i : S3x2x256x12160.Idx => (i 0).val ≠ 0) (by intro i; simp only [true_iff]; omega) (by intro i; omega))
    isplitl [W0]; · iexact W0
    iapply (Junk.join d (p₁ := fun i : S3x2x256x12160.Idx => (i 0).val = 1 % 3) (p₂ := fun i : S3x2x256x12160.Idx => (i 0).val = 2 % 3)
      (by intro i; have : (i 0).val < 3 := (i 0).isLt; omega) (by intro i; omega))
    isplitl [W1]; · iexact W1
    iexact W2
  · iapply (Junk.join d (p₁ := fun i : S3x2x256x380.Idx => (i 0).val = 0 % 3) (p₂ := fun i : S3x2x256x380.Idx => (i 0).val ≠ 0) (by intro i; simp only [true_iff]; omega) (by intro i; omega))
    isplitl [S0]; · iexact S0
    iapply (Junk.join d (p₁ := fun i : S3x2x256x380.Idx => (i 0).val = 1 % 3) (p₂ := fun i : S3x2x256x380.Idx => (i 0).val = 2 % 3)
      (by intro i; have : (i 0).val < 3 := (i 0).isLt; omega) (by intro i; omega))
    isplitl [S1]; · iexact S1
    iexact S2

/-- Before the quantiser's loop, from the copies begun and fresh buffers. -/
theorem J1_start : iprop(xfs d M I EC ι 32 0 ∗ Own d M.x (fun i => (i 0).val / 32 < 0) fullShare I.X ∗ Own d M.xb (fun i => (i 0).val / 32 < 0) fullShare (XQ I)
      ∗ (Junk d M.xb fun i => 0 ≤ (i 0).val / 32 ∧ 12160 ≤ (i 1).val)
      ∗ (Junk d M.xs fun _ => True) ∗ (Junk d M.xsb fun _ => True) ∗ (Junk d M.c fun _ => True) ∗ (Junk d M.cb fun _ => True) ∗ csv d M ∗ Ow d)
    ⊢ (J1 d M I EC ι 0 : PS nD τ sig F) := by
  unfold J1
  rw [show (xsvD d M 0 : PS nD τ sig F) = iprop(⌜True⌝) from rfl, show 0 - 2 = 0 from rfl]
  iintro ⟨HF, Hx, Hxb, Hpad, Hs, Hsb, Hc, Hcb, HC, HO⟩
  icases (Junk.start d (X := XSV I) (k := fun i : S1024x1.Idx => (i 0).val / 32)) $$ Hs with ⟨Hs0, Hs⟩
  icases (Junk.start d (X := XSB I) (k := fun i : S1024x128.Idx => (i 0).val / 32)) $$ Hsb with ⟨Hsb0, Hsb⟩
  icases (Junk.start d (X := CV I) (k := fun i : S1024x12160.Idx => (i 0).val / 32)) $$ Hc with ⟨Hc0, Hc⟩
  icases (Junk.split d (p₁ := fun i : S2x32x12160.Idx => (i 0).val = 0 % 2) (p₂ := fun i : S2x32x12160.Idx => (i 0).val = (0 + 1) % 2)
    (by intro i; have : (i 0).val < 2 := (i 0).isLt; simp only [true_iff]; omega) (by intro i; omega)) $$ Hcb with ⟨B0, B1⟩
  unfold csv
  icases HC with ⟨C0, C1⟩
  isplitl [HF]; · iexact HF
  isplitl [Hx]; · iexact Hx
  isplitr
  · ipureintro; trivial
  isplitl [Hxb]; · iexact Hxb
  isplitl [Hpad]; · iexact Hpad
  isplitl [Hs0]; · iexact Hs0
  isplitl [Hs]; · iexact Hs
  isplitl [Hsb0]; · iexact Hsb0
  isplitl [Hsb]; · iexact Hsb
  isplitl [Hc0]; · iexact Hc0
  isplitl [Hc]; · iexact Hc
  isplitl [B0 C0]
  · unfold cst
    rw [dif_neg (by omega)]
    isplitl [B0]; · iexact B0
    iexact C0
  isplitl [B1 C1]
  · unfold cst
    rw [dif_neg (by omega)]
    isplitl [B1]; · iexact B1
    iexact C1
  iexact HO

/-- The codes' last two copies. -/
def clast : PS nD τ sig F := iprop(fl d EC ι (cCp M 30 (by omega)) (cR d M I 30) ∗ fl d EC ι (cCp M 31 (by omega)) (cR d M I 31))

/-- After the quantiser's loop. -/
theorem J1_end : J1 d M I EC ι 32 ⊢ (iprop(Own d M.x (fun _ => True) fullShare I.X ∗ xsvs d M 32 0 ∗ xbO d M I ∗ Own d M.xs (fun _ => True) fullShare (XSV I) ∗ xsbO d M I
      ∗ Own d M.c (fun i => (i 0).val / 32 < 30) fullShare (CV I) ∗ clast d M I EC ι ∗ Ow d) : PS nD τ sig F) := by
  unfold J1 clast cst
  rw [dif_pos ⟨by omega, by omega⟩, dif_pos ⟨by omega, by omega⟩]
  iintro ⟨-, Hx, HS, Hxb, -, Hs, -, Hsb, -, Hc, -, C0, C1, HO⟩
  isplitl [Hx]; · iapply (Own.all d k32) $$ Hx
  isplitl [HS]
  · iapply (xsvD_xsvs d M 32 0)
    isplitl [HS]; · iexact HS
    rw [show (xsvs d M 0 32 : PS nD τ sig F) = iprop(⌜True⌝) from rfl]
    ipureintro; trivial
  isplitl [Hxb]; · iapply (Own.all d k32) $$ Hxb
  isplitl [Hs]; · iapply (Own.all d k32) $$ Hs
  isplitl [Hsb]; · iapply (Own.all d k32) $$ Hsb
  isplitl [Hc]; · iexact Hc
  isplitl [C0 C1]
  · isplitl [C0]; · iexact C0
    iexact C1
  iexact HO

/-- Before the tiles' loop. -/
theorem J2_start : iprop((Junk d M.yb fun _ => True) ∗ ysv d M ∗ (Junk d M.y fun _ => True)
      ∗ (wbO d M I 0 ∗ sbO d M I 0 ∗ wsem d M 0 ∗ wfl d M I EC ι 1 (by omega) ∗ wtsem d M ∗ wslot d M 2 ∗ wsem d M 2 ∗ srcLt d M I 1 ∗ srcGe d M I 2)
      ∗ (xbO d M I ∗ sclS d M I 0 ∗ xsbO d M I) ∗ Ow d)
    ⊢ (J2 d M I EC ι 0 : PS nD τ sig F) := by
  unfold J2 ysv
  rw [show 0 - 2 = 0 from rfl, show 0 + 1 = 1 from rfl, show 0 + 2 = 2 from rfl, wfq_lt d M I EC ι (by omega : 1 < 66)]
  iintro ⟨Hyb, ⟨S0, S1⟩, Hy, ⟨H0, H1, H2, H3, H4, H5, H6, H7, H8⟩, HX, HO⟩
  icases (Junk.start d (X := YV I) (k := fun i : S1024x17024.Idx => (i 1).val / 256)) $$ Hy with ⟨Hy0, Hy⟩
  icases (Junk.split d (p₁ := fun i : S2x1024x256.Idx => (i 0).val = 0 % 2) (p₂ := fun i : S2x1024x256.Idx => (i 0).val = 1)
    (by intro i; have : (i 0).val < 2 := (i 0).isLt; simp only [true_iff]; omega) (by intro i; omega)) $$ Hyb with ⟨B0, B1⟩
  isplitl [B0 S0 B1 S1 Hy0 Hy]
  · isplitl [B0 S0]
    · unfold ycur
      rw [dif_neg (by omega)]
      isplitl [B0]; · iexact B0
      iexact S0
    isplitl [B1 S1]
    · unfold yprev
      rw [dif_neg (by omega)]
      isplitl [B1]; · iexact B1
      iexact S1
    isplitl [Hy0]; · iexact Hy0
    iexact Hy
  isplitl [H0 H1 H2 H3 H4 H5 H6 H7 H8]
  · isplitl [H0]; · iexact H0
    isplitl [H1]; · iexact H1
    isplitl [H2]; · iexact H2
    isplitl [H3 H4]
    · isplitl [H3]; · iexact H3
      iexact H4
    isplitl [H5]; · iexact H5
    isplitl [H6]; · iexact H6
    isplitl [H7]; · iexact H7
    iexact H8
  isplitl [HX]; · iexact HX
  iexact HO

/-! The kernel after its tiles' loop. -/

def tailP (s : Mxu F) : Prog (TpuEff nD τ sig (Elt F) Λ .tc) PUnit := do
  (yCp M 64 (by omega)).wait
  (yCp M 65 (by omega)).start
  let s ← closing M s
  (yCpT M).start
  (yCp M 65 (by omega)).wait
  (yCpT M).wait
  (cCp M 30 (by omega)).wait
  (cCp M 31 (by omega)).wait
  s.exit

theorem ycur67 : ycur d M I EC ι (66 + 1) ⊢ (fl d EC ι (yCp M 65 (by omega)) (yR d M I 65) : PS nD τ sig F) := by
  unfold ycur
  rw [dif_pos ⟨by omega, by omega⟩]

theorem T_tail : T 𝒱 d bd defs
    iprop(J2 d M I EC ι 66 ∗ (Own d M.c (fun i => (i 0).val / 32 < 30) fullShare (CV I) ∗ clast d M I EC ι)) (tailP (F := F) M (U I 66 0)) ⟨⟩
    iprop((Own d M.y (fun _ => True) fullShare (YV I) ∗ Own d M.c (fun _ => True) fullShare (CV I)) ∗ srcAll d M I ∗ Scr d M ∗ (wsv d M ∗ ysv d M ∗ csv d M) ∗ Ow d) := by
  intro Φ
  unfold J2 tailP
  rw [wp_bind, show 66 + 1 = 67 from rfl, show 66 + 2 = 68 from rfl, wfq_67]
  iintro ⟨⟨⟨Hyc, Hyp, Hy, Hyj⟩, ⟨Hw, Hs, Hse0, ⟨Hsl1, Hse1, HT⟩, Hsl2, Hse2, HL, -⟩, ⟨Hx, Hscl, Hxs⟩, HO⟩, ⟨Hc, HCl⟩⟩ HK
  rw [show (yCp M 64 (by omega)).wait (Λ := Λ) (F := F) (nD := nD) (τ := τ) = (if h2 : 2 ≤ 66 then (yCp M (66 - 2) (by omega)).wait else pure ⟨⟩) from rfl]
  iapply (T_yW 𝒱 d bd M I EC ι (n := 66) (by omega) _) $$ [Hyc Hy HO]
  · isplitl [Hyc]; · iexact Hyc
    isplitl [Hy]; · iexact Hy
    iexact HO
  iintro ⟨Hyb, Hys, Hy, HO⟩
  rw [wp_bind]
  rw [show (yCp M 65 (by omega)).start (Λ := Λ) (F := F) (nD := nD) (τ := τ) = (if h1 : 1 ≤ 66 then (yCp M (66 - 1) (by omega)).start else pure ⟨⟩) from rfl]
  iapply (T_yS 𝒱 d bd M I EC ι (n := 66) (by omega) _) $$ [Hyp Hyj]
  · isplitl [Hyp]; · iexact Hyp
    iexact Hyj
  iintro ⟨Hyc, Hyj⟩
  rw [wp_bind]
  iapply (T_closing 𝒱 d bd M I _) $$ [Hx Hscl Hw Hxs Hyb]
  · isplitl [Hx Hscl Hw Hxs]
    · isplitl [Hx]; · iexact Hx
      isplitl [Hscl]; · iexact Hscl
      isplitl [Hw]; · iexact Hw
      iexact Hxs
    iexact Hyb
  iintro ⟨⟨Hx, Hscl, Hw, Hxs⟩, ⟨%Y, %hY, Hyb⟩⟩
  icases (Own.split (p₁ := fun i : S2x1024x256.Idx => (i 0).val = 0 ∧ (i 2).val < 128) (p₂ := fun i : S2x1024x256.Idx => (i 0).val = 0 ∧ 128 ≤ (i 2).val)
    (by intro i; omega) (by intro i; omega)) $$ Hyb with ⟨Hyb, Hyb2⟩
  ihave Hyb := (Own.congr (X' := fun i => YT I 66 (i 1).val (i 2).val) (p' := fun i : S2x1024x256.Idx => (i 0).val = 0 ∧ (i 2).val < 128) (fun _ => Iff.rfl) (fun i h => hY i h.2)) $$ Hyb
  icases (Junk.peel d (k := fun i : S1024x17024.Idx => (i 1).val / 256)) $$ Hyj with ⟨Hyj, -⟩
  rw [wp_bind]
  iapply (T_yStartT 𝒱 d bd M I EC ι _) $$ [Hyb Hyj Hys]
  · isplitl [Hyb]; · iexact Hyb
    isplitl [Hyj]; · iexact Hyj
    iexact Hys
  iintro HFT
  rw [wp_bind]
  ihave Hyc := (ycur67 d M I EC ι) $$ Hyc
  iapply (T_wait 𝒱 d bd EC ι _) $$ [Hyc HO]
  · isplitl [Hyc]; · iexact Hyc
    iexact HO
  iintro ⟨HR, S1, HO⟩
  unfold yR
  icases HR with ⟨B1, Hy1⟩
  rw [wp_bind]
  iapply (T_wait 𝒱 d bd EC ι _) $$ [HFT HO]
  · isplitl [HFT]; · iexact HFT
    iexact HO
  iintro ⟨HR, S0, HO⟩
  unfold yRT
  icases HR with ⟨B0, Hy2⟩
  unfold clast
  icases HCl with ⟨F0, F1⟩
  rw [wp_bind]
  iapply (T_wait 𝒱 d bd EC ι _) $$ [F0 HO]
  · isplitl [F0]; · iexact F0
    iexact HO
  iintro ⟨HR, C0, HO⟩
  unfold cR
  icases HR with ⟨D0, Hc0⟩
  rw [wp_bind]
  iapply (T_wait 𝒱 d bd EC ι _) $$ [F1 HO]
  · isplitl [F1]; · iexact F1
    iexact HO
  iintro ⟨HR, C1, HO⟩
  icases HR with ⟨D1, Hc1⟩
  iapply (T_exit 𝒱 d bd (P := iprop(⌜True⌝)) (drained _ _ _ (fun _ => rfl) (fun _ _ => rfl)) _)
  · ipureintro; trivial
  iintro -
  iapply HK
  isplitl [Hy Hy1 Hy2 Hc Hc0 Hc1]
  · isplitl [Hy Hy1 Hy2]
    · iapply (Own.all d (p := fun i : S1024x17024.Idx => (i 1).val / 256 < 66 + 1) (fun i => by have : (i 1).val < 17024 := (i 1).isLt; omega))
      iapply (Own.grow d (k := fun i : S1024x17024.Idx => (i 1).val / 256))
      isplitl [Hy Hy1]
      · iapply (Own.grow d (k := fun i : S1024x17024.Idx => (i 1).val / 256) (t := 65))
        isplitl [Hy]; · iexact Hy
        iexact Hy1
      iexact Hy2
    · iapply (Own.all d (p := fun i : S1024x12160.Idx => (i 0).val / 32 < 31 + 1) k32)
      iapply (Own.grow d (k := fun i : S1024x12160.Idx => (i 0).val / 32))
      isplitl [Hc Hc0]
      · iapply (Own.grow d (k := fun i : S1024x12160.Idx => (i 0).val / 32) (t := 30))
        isplitl [Hc]; · iexact Hc
        iexact Hc0
      iexact Hc1
  isplitl [HL]; · iapply (src_end d M I) $$ HL
  isplitl [Hx Hscl Hxs Hw Hs Hsl1 Hsl2 B0 B1 Hyb2 D0 D1]
  · unfold Scr
    isplitl [Hx]; · iapply (Junk.of d) $$ Hx
    ihave HW := (unslots d M) $$ [Hw Hs Hsl1 Hsl2]
    · isplitl [Hw Hs]
      · unfold wslot
        isplitl [Hw]; · iapply (Junk.of d) $$ Hw
        iapply (Junk.of d) $$ Hs
      isplitl [Hsl1]
      · rw [wslot_mod d M 1 67 (by omega)]; iexact Hsl1
      rw [wslot_mod d M 2 68 (by omega)]; iexact Hsl2
    icases HW with ⟨Hw, Hs⟩
    isplitl [Hw]; · iexact Hw
    isplitl [Hs]; · iexact Hs
    isplitl [Hscl]
    · unfold sclS
      icases Hscl with ⟨%X, -, Hscl⟩
      iapply (Junk.of d) $$ Hscl
    isplitl [Hxs]; · iapply (Junk.of d) $$ Hxs
    isplitl [B0 B1 Hyb2]
    · iapply (Junk.join d (p₁ := fun i : S2x1024x256.Idx => (i 0).val = 0) (p₂ := fun i : S2x1024x256.Idx => (i 0).val = 1)
        (by intro i; have : (i 0).val < 2 := (i 0).isLt; simp only [true_iff]; omega) (by intro i; omega))
      isplitl [B0 Hyb2]
      · iapply (Junk.join d (p₁ := fun i : S2x1024x256.Idx => (i 0).val = 0 ∧ (i 2).val < 128) (p₂ := fun i : S2x1024x256.Idx => (i 0).val = 0 ∧ 128 ≤ (i 2).val)
          (by intro i; omega) (by intro i; omega))
        isplitl [B0]; · iapply (Junk.of d) $$ B0
        iapply (Junk.of d) $$ Hyb2
      iapply (Junk.of d) $$ B1
    iapply (Junk.join d (p₁ := fun i : S2x32x12160.Idx => (i 0).val = 0) (p₂ := fun i : S2x32x12160.Idx => (i 0).val = 1)
      (by intro i; have : (i 0).val < 2 := (i 0).isLt; simp only [true_iff]; omega) (by intro i; omega))
    isplitl [D0]; · iapply (Junk.of d) $$ D0
    iapply (Junk.of d) $$ D1
  isplitl [Hse0 Hse1 Hse2 HT S0 S1 C0 C1]
  · unfold wsv ysv csv
    isplitl [Hse0 Hse1 Hse2 HT]
    · isplitl [Hse0]
      · rw [wsem_mod d M 0 66 (by omega)]; iexact Hse0
      isplitl [Hse1]
      · rw [wsem_mod d M 1 67 (by omega)]; iexact Hse1
      isplitl [Hse2]
      · rw [wsem_mod d M 2 68 (by omega)]; iexact Hse2
      iexact HT
    isplitl [S0 S1]
    · isplitl [S0]; · iexact S0
      iexact S1
    isplitl [C0]; · iexact C0
    iexact C1
  iexact HO

include EC ι in
/-- The kernel, from start to end. -/
theorem T_kernel : T 𝒱 d bd defs (KPre d M I) (kernel (F := F) M) ⟨⟩ (KPost d M I) := by
  intro Φ
  unfold KPre KPost Scr Sems wsv
  rw [show (kernel (F := F) (Λ := Λ) (nD := nD) (τ := τ) M) = (xStarts (F := F) M 32 0 (by omega) >>= fun _ => wStart (F := F) M 0 (by omega) >>= fun _ => wStart (F := F) M 1 (by omega) >>= fun _ =>
    lp1.for lp1_ok PUnit.unit (fun t _ => t1body (F := F) M t.val (lt_of_lt_of_eq t.isLt lp1_trips)) >>= fun _ =>
    (wWait (F := F) M 0 (by omega) >>= fun _ => open0 M) >>= fun s => lp2.for lp2_ok (0#32, s) (t2body M) >>= fun s => tailP M s.2) from rfl]
  iintro ⟨Hx, Hsrc, ⟨Hy, Hc, Hxs⟩, ⟨Hxb, Hwb, Hsb, Hscl, Hxsb, Hyb, Hcb⟩, ⟨HX, ⟨W0, W1, W2, WT⟩, HY, HC⟩, HO⟩ HK
  icases (Own.start d (k := fun i : S1024x12160.Idx => (i 0).val / 32)) $$ Hx with ⟨Hx0, Hx⟩
  icases (Junk.start d (X := XQ I) (k := fun i : S1024x12288.Idx => (i 0).val / 32)) $$ Hxb with ⟨Hxb0, Hxb⟩
  icases (Junk.split d (p₁ := fun i : S1024x12288.Idx => 0 ≤ (i 0).val / 32 ∧ (i 1).val < 12160) (p₂ := fun i : S1024x12288.Idx => 0 ≤ (i 0).val / 32 ∧ 12160 ≤ (i 1).val)
    (by intro i; omega) (by intro i; omega)) $$ Hxb with ⟨Hxb, Hpad⟩
  icases (src_start d M I) $$ Hsrc with ⟨HL, HE0, HE1, HG⟩
  ihave Hsl := (slots d M) $$ [Hwb Hsb]
  · isplitl [Hwb]; · iexact Hwb
    iexact Hsb
  icases Hsl with ⟨L0, L1, L2⟩
  rw [wp_bind]
  iapply (T_xStarts 𝒱 d bd M I EC ι 32 0 _ _) $$ [Hx Hxb HX]
  · isplitl [Hx]; · iexact Hx
    isplitl [Hxb]; · iexact Hxb
    iexact HX
  iintro HFx
  rw [wp_bind]
  iapply (T_wStart 𝒱 d bd M I EC ι _ _) $$ [HE0 L0 W0]
  · isplitl [HE0]; · iexact HE0
    isplitl [L0]; · iexact L0
    iexact W0
  iintro HF0
  rw [wp_bind]
  iapply (T_wStart 𝒱 d bd M I EC ι _ _) $$ [HE1 L1 W1]
  · isplitl [HE1]; · iexact HE1
    isplitl [L1]; · iexact L1
    iexact W1
  iintro HF1
  rw [wp_bind]
  iapply (T_loop1 𝒱 d bd M I EC ι _) $$ [HFx Hx0 Hxb0 Hpad Hxs Hxsb Hc Hcb HC HO]
  · iapply (J1_start d M I EC ι)
    isplitl [HFx]; · iexact HFx
    isplitl [Hx0]; · iexact Hx0
    isplitl [Hxb0]; · iexact Hxb0
    isplitl [Hpad]; · iexact Hpad
    isplitl [Hxs]; · iexact Hxs
    isplitl [Hxsb]; · iexact Hxsb
    isplitl [Hc]; · iexact Hc
    isplitl [Hcb]; · iexact Hcb
    isplitl [HC]; · iexact HC
    iexact HO
  iintro HJ
  icases (J1_end d M I EC ι) $$ HJ with ⟨Hx, HX, Hxb, Hxs, Hxsb, Hc, HCl, HO⟩
  rw [wp_bind, wp_bind]
  iapply (T_wWait 𝒱 d bd M I EC ι _ _) $$ [HF0 HO]
  · isplitl [HF0]; · iexact HF0
    iexact HO
  iintro ⟨Hw, Hs, HE, Hse0, HO⟩
  iapply (T_open0 𝒱 d bd M I _) $$ [Hxb Hscl Hw Hs]
  · isplitl [Hxb]; · iexact Hxb
    isplitl [Hscl]; · iexact Hscl
    isplitl [Hw]; · iexact Hw
    iexact Hs
  iintro ⟨Hxb, Hscl, Hw, Hs⟩
  rw [wp_bind]
  iapply (T_loop2 𝒱 d bd M I EC ι _) $$ [Hyb HY Hy Hw Hs Hse0 HF1 WT L2 W2 HL HE HG Hxb Hscl Hxsb HO]
  · iapply (J2_start d M I EC ι)
    isplitl [Hyb]; · iexact Hyb
    isplitl [HY]; · iexact HY
    isplitl [Hy]; · iexact Hy
    isplitl [Hw Hs Hse0 HF1 WT L2 W2 HL HE HG]
    · isplitl [Hw]; · iexact Hw
      isplitl [Hs]; · iexact Hs
      isplitl [Hse0]; · iexact Hse0
      isplitl [HF1]; · iexact HF1
      isplitl [WT]; · iexact WT
      isplitl [L2]; · iexact L2
      isplitl [W2]; · iexact W2
      isplitl [HL HE]
      · iapply (src_grow d M I 0)
        isplitl [HL]; · iexact HL
        iexact HE
      iexact HG
    isplitl [Hxb Hscl Hxsb]
    · isplitl [Hxb]; · iexact Hxb
      isplitl [Hscl]; · iexact Hscl
      iexact Hxsb
    iexact HO
  iintro HJ
  iapply (T_tail 𝒱 d bd M I EC ι _) $$ [HJ Hc HCl]
  · isplitl [HJ]; · iexact HJ
    isplitl [Hc]; · iexact Hc
    iexact HCl
  unfold Scr wsv
  iintro ⟨⟨Hy, Hc⟩, Hsrc, HScr, ⟨HW, HY, HC⟩, HO⟩
  iapply HK
  isplitl [Hx]; · iexact Hx
  isplitl [Hsrc]; · iexact Hsrc
  isplitl [Hy Hc Hxs]
  · isplitl [Hy]; · iexact Hy
    isplitl [Hc]; · iexact Hc
    iexact Hxs
  isplitl [HScr]; · iexact HScr
  isplitl [HX HW HY HC]
  · isplitl [HX]; · iexact HX
    isplitl [HW]; · iexact HW
    isplitl [HY]; · iexact HY
    iexact HC
  iexact HO

end Cert.Mx
-- ==== Proof.M0o.lean ====
module

public import proofs.«01_k».proof.Proof.Gen.KernelIdeal.Skeleton
public import Idealize.ShloMosaic.Lib.Tactic.OpenCalls
public import Idealize.ShloMosaic.Lib.Tactic.Stretches

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

open_calls m0o := cc0_mx_gated_linear [k0_part166, k0_part167, k0_part168, k0_part169, k0_part170, k0_part171, k0_part172, k0_part173, k0_part174, k0_part175, k0_part176, k0_part177, k0_part178, k0_part179, k0_part180, k0_part181, k0_part182, k0_part183]

end Cert.KernelIdeal.Eq
-- ==== Proof.M0s.lean ====
module

public import proofs.«01_k».proof.Proof.M0o

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

cut_chain m0s := m0o at 33, 41, 42, 46, 52, 60, 78, 79, 81, 82, 94, 100, 112

end Cert.KernelIdeal.Eq
-- ==== Proof.T1o.lean ====
module

public import proofs.«01_k».proof.Proof.Gen.KernelIdeal.Skeleton
public import Idealize.ShloMosaic.Lib.Tactic.OpenCalls
public import Idealize.ShloMosaic.Lib.Tactic.Stretches

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

open_calls t1o := k0_t1_body [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54]

end Cert.KernelIdeal.Eq
-- ==== Proof.T1s.lean ====
module

public import proofs.«01_k».proof.Proof.T1o

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

cut_chain t1s := t1o at 3, 98, 102, 152, 202, 252, 302, 352, 402, 452, 502, 552, 577

end Cert.KernelIdeal.Eq
-- ==== Proof.Mx.CpO.lean ====
/-
  The copies with their offsets as the kernel computes them, equal to the copies in closed form.
-/
module

public import proofs.«01_k».proof.Proof.Mx.Ker2

@[expose] public section

noncomputable section

namespace Cert.Mx

open Idealize.ShloMosaic Idealize.SL.Sem

variable {sig : RefSig} {nD : Nat} {τ : Topo} {Λ : Labels} {F : FTy → Type} [FloatOps F] (M : Mem sig)

def xCpO {t : Nat} (h : t < 32) {os : Fin 2 → Nat} {od : Fin 2 → Nat} {om : Fin 1 → Nat} (es : os = ![32 * t, 0]) (ed : od = ![32 * t, 0]) (em : om = ![t]) : Cp sig nD τ :=
  ⟨_, _, _, _, xWin M.x os (by subst es; exact inb2 (by omega) (by omega)), xbWin M.xb od (by subst ed; exact inb2 (by omega) (by omega)),
    sem32 M.xsem om (by subst em; exact inb1 (by omega)), by subst es; exact M.hx.wordExact_slice rfl _ (ww_x ⟨t, h⟩), by subst ed; exact M.hxb.wordExact_slice rfl _ (ww_xb ⟨t, h⟩), ⟨Or.inl rfl, trivial⟩⟩
theorem xCpO_eq {t : Nat} (h : t < 32) {os : Fin 2 → Nat} {od : Fin 2 → Nat} {om : Fin 1 → Nat} (es : os = ![32 * t, 0]) (ed : od = ![32 * t, 0]) (em : om = ![t]) :
    (xCpO M h es ed em : Cp sig nD τ) = xCp M t h := by subst es ed em; rfl

def cCpO {t : Nat} (h : t < 32) {os : Fin 3 → Nat} {od : Fin 2 → Nat} {om : Fin 1 → Nat} (es : os = ![t % 2, 0, 0]) (ed : od = ![32 * t, 0]) (em : om = ![t % 2]) : Cp sig nD τ :=
  ⟨_, _, _, _, cbWin M.cb os (by subst es; exact inb3 (by omega) (by omega) (by omega)), cWin M.c od (by subst ed; exact inb2 (by omega) (by omega)),
    sem2 M.csem om (by subst em; exact inb1 (by omega)), by subst es; exact (M.hcb.wordExact_slice rfl _ (ww_cb ⟨t % 2, by omega⟩)).reshape _ _, by subst ed; exact M.hc.wordExact_slice rfl _ (ww_c ⟨t, h⟩), ⟨Or.inl rfl, trivial⟩⟩
theorem cCpO_eq {t : Nat} (h : t < 32) {os : Fin 3 → Nat} {od : Fin 2 → Nat} {om : Fin 1 → Nat} (es : os = ![t % 2, 0, 0]) (ed : od = ![32 * t, 0]) (em : om = ![t % 2]) :
    (cCpO M h es ed em : Cp sig nD τ) = cCp M t h := by subst es ed em; rfl

def yCpO {n : Nat} (h : n < 66) {os : Fin 3 → Nat} {od : Fin 2 → Nat} {om : Fin 1 → Nat} (es : os = ![n % 2, 0, 0]) (ed : od = ![0, 256 * n]) (em : om = ![n % 2]) : Cp sig nD τ :=
  ⟨_, _, _, _, ybWin M.yb os (by subst es; exact inb3 (by omega) (by omega) (by omega)), yWin M.y od (by subst ed; exact inb2 (by omega) (by omega)),
    sem2 M.ysem om (by subst em; exact inb1 (by omega)), by subst es; exact (M.hyb.wordExact_slice rfl _ (ww_yb ⟨n % 2, by omega⟩)).reshape _ _, by subst ed; exact M.hy.wordExact_slice rfl _ (ww_y ⟨n, h⟩), ⟨Or.inl rfl, trivial⟩⟩
theorem yCpO_eq {n : Nat} (h : n < 66) {os : Fin 3 → Nat} {od : Fin 2 → Nat} {om : Fin 1 → Nat} (es : os = ![n % 2, 0, 0]) (ed : od = ![0, 256 * n]) (em : om = ![n % 2]) :
    (yCpO M h es ed em : Cp sig nD τ) = yCp M n h := by subst es ed em; rfl

def wCpO {n : Nat} (h : n < 66) (g : Fin 2) {os : Fin 2 → Nat} {od : Fin 4 → Nat} {om : Fin 2 → Nat} (es : os = ![256 * n, 0]) (ed : od = ![n % 3, g.val, 0, 0]) (em : om = ![n % 3, 2 * g.val]) : Cp sig nD τ :=
  ⟨_, _, _, _, wWin (M.w g) os (by subst es; exact inb2 (by omega) (by omega)), wbWin M.wb od (by subst ed; exact inb4 (by omega) (by omega) (by omega) (by omega)),
    semW M.wsem om (by subst em; exact inb2 (by omega) (by omega)), by subst es; exact (M.hw g).wordExact_slice rfl _ (ww_w ⟨n, h⟩), by subst ed; exact (M.hwb.wordExact_slice rfl _ (ww_wb ⟨n % 3, by omega⟩ g)).reshape _ _, ⟨Or.inl rfl, trivial⟩⟩
theorem wCpO_eq {n : Nat} (h : n < 66) (g : Fin 2) {os : Fin 2 → Nat} {od : Fin 4 → Nat} {om : Fin 2 → Nat} (es : os = ![256 * n, 0]) (ed : od = ![n % 3, g.val, 0, 0]) (em : om = ![n % 3, 2 * g.val]) :
    (wCpO M h g es ed em : Cp sig nD τ) = wCp M n h g := by subst es ed em; rfl

def sCpO {n : Nat} (h : n < 66) (g : Fin 2) {os : Fin 2 → Nat} {od : Fin 4 → Nat} {om : Fin 2 → Nat} (es : os = ![256 * n, 0]) (ed : od = ![n % 3, g.val, 0, 0]) (em : om = ![n % 3, 2 * g.val + 1]) : Cp sig nD τ :=
  ⟨_, _, _, _, sWin (M.s g) os (by subst es; exact inb2 (by omega) (by omega)), sbWin M.sb od (by subst ed; exact inb4 (by omega) (by omega) (by omega) (by omega)),
    semW M.wsem om (by subst em; exact inb2 (by omega) (by omega)), by subst es; exact (M.hs g).wordExact_slice rfl _ (ww_s ⟨n, h⟩), by subst ed; exact (M.hsb.wordExact_slice rfl _ (ww_sb ⟨n % 3, by omega⟩ g)).reshape _ _, ⟨Or.inl rfl, trivial⟩⟩
theorem sCpO_eq {n : Nat} (h : n < 66) (g : Fin 2) {os : Fin 2 → Nat} {od : Fin 4 → Nat} {om : Fin 2 → Nat} (es : os = ![256 * n, 0]) (ed : od = ![n % 3, g.val, 0, 0]) (em : om = ![n % 3, 2 * g.val + 1]) :
    (sCpO M h g es ed em : Cp sig nD τ) = sCp M n h g := by subst es ed em; rfl

def wCpTO (g h : Fin 2) {os : Fin 2 → Nat} {od : Fin 4 → Nat} {om : Fin 2 → Nat} (es : os = ![16896, 0]) (ed : od = ![0, g.val, 128 * h.val, 0]) (em : om = ![0, 4 + 4 * g.val + 2 * h.val]) : Cp sig nD τ :=
  ⟨_, _, _, _, wWinT (M.w h) os (by subst es; exact inb2 (by omega) (by omega)), wbWinT M.wb od (by subst ed; exact inb4 (by omega) (by omega) (by omega) (by omega)),
    semW M.wsem om (by subst em; exact inb2 (by omega) (by omega)), by subst es; exact (M.hw h).wordExact_slice rfl _ ww_wT, by subst ed; exact (M.hwb.wordExact_slice rfl _ (ww_wbT g h)).reshape _ _, ⟨Or.inl rfl, trivial⟩⟩
theorem wCpTO_eq (g h : Fin 2) {os : Fin 2 → Nat} {od : Fin 4 → Nat} {om : Fin 2 → Nat} (es : os = ![16896, 0]) (ed : od = ![0, g.val, 128 * h.val, 0]) (em : om = ![0, 4 + 4 * g.val + 2 * h.val]) :
    (wCpTO M g h es ed em : Cp sig nD τ) = wCpT M g h := by subst es ed em; rfl

def sCpTO (g h : Fin 2) {os : Fin 2 → Nat} {od : Fin 4 → Nat} {om : Fin 2 → Nat} (es : os = ![16896, 0]) (ed : od = ![0, g.val, 128 * h.val, 0]) (em : om = ![0, 4 + 4 * g.val + 2 * h.val + 1]) : Cp sig nD τ :=
  ⟨_, _, _, _, sWinT (M.s h) os (by subst es; exact inb2 (by omega) (by omega)), sbWinT M.sb od (by subst ed; exact inb4 (by omega) (by omega) (by omega) (by omega)),
    semW M.wsem om (by subst em; exact inb2 (by omega) (by omega)), by subst es; exact (M.hs h).wordExact_slice rfl _ ww_sT, by subst ed; exact (M.hsb.wordExact_slice rfl _ (ww_sbT g h)).reshape _ _, ⟨Or.inl rfl, trivial⟩⟩
theorem sCpTO_eq (g h : Fin 2) {os : Fin 2 → Nat} {od : Fin 4 → Nat} {om : Fin 2 → Nat} (es : os = ![16896, 0]) (ed : od = ![0, g.val, 128 * h.val, 0]) (em : om = ![0, 4 + 4 * g.val + 2 * h.val + 1]) :
    (sCpTO M g h es ed em : Cp sig nD τ) = sCpT M g h := by subst es ed em; rfl

/-- Two programs that agree after the same first part. -/
theorem bindCongr {E : Type → Type} {α β : Type} (p : Prog E α) {κ κ' : α → Prog E β} (h : ∀ a, κ a = κ' a) : p.bind κ = p.bind κ' := by
  rw [funext h]

/-- A step of a full tile, and the rest. -/
theorem stepsC_bind {R : Type} (n m k : Nat) (h : k + (m + 1) ≤ 46) (s : Mxu F) (κ : Mxu F → Prog (TpuEff nD τ sig (Elt F) Λ .tc) R) :
    (stepsC M n (m + 1) k h s).bind κ = (stepC M k (by omega) (pushC M n (k + 1) (by omega)) s).bind fun s => (stepsC M n m (k + 1) (by omega) s).bind κ :=
  Prog.bind_assoc _ _ _

theorem stepsT_bind {R : Type} (m k : Nat) (h : k + (m + 1) ≤ 46) (s : Mxu F) (κ : Mxu F → Prog (TpuEff nD τ sig (Elt F) Λ .tc) R) :
    (stepsT M (m + 1) k h s).bind κ = (stepT M k (by omega) (pushC M 66 (k + 1) (by omega)) s).bind fun s => (stepsT M m (k + 1) (by omega) s).bind κ :=
  Prog.bind_assoc _ _ _

end Cert.Mx
-- ==== Proof.T1.lean ====
/-
  The quantiser's trip is the closed form's.
-/
module

public import proofs.«01_k».proof.Proof.T1s
public import proofs.«01_k».proof.Proof.Mx.CpO

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

theorem off12_eq : ∀ t : Fin k0_t1_loop.trips, 2 ≤ t.val → k0_off12 t = ![(t.val - 2) % 2] := by decide +kernel
theorem off13_eq : ∀ t : Fin k0_t1_loop.trips, 2 ≤ t.val → k0_off13 t = ![32 * (t.val - 2), 0] := by decide +kernel
theorem off14_eq : ∀ t : Fin k0_t1_loop.trips, 2 ≤ t.val → k0_off14 t = ![(t.val - 2) % 2, 0, 0] := by decide +kernel
theorem cond1_iff : ∀ t : Fin k0_t1_loop.trips, k0_cond1 t = 1#1 ↔ 2 ≤ t.val := by decide +kernel
theorem t1_lt (t : Fin k0_t1_loop.trips) : t.val < 32 := lt_of_lt_of_eq t.isLt (by decide)

/-- The row and the code slot a trip works at. -/
def row (t : Fin k0_t1_loop.trips) : Nat := k0_off15 t 0
def slot (t : Fin k0_t1_loop.trips) : Nat := k0_off112 t 0
theorem row_eq (t : Fin k0_t1_loop.trips) : row t = 32 * t.val := congrFun (k0_off15_eq t) 0
theorem slot_eq (t : Fin k0_t1_loop.trips) : slot t = t.val % 2 := congrFun (k0_off112_eq t) 0
theorem row_le (t : Fin k0_t1_loop.trips) : row t + 32 ≤ 1024 := by have := row_eq t; have := t1_lt t; omega
theorem slot_le (t : Fin k0_t1_loop.trips) : slot t + 1 ≤ 2 := by have := slot_eq t; omega
theorem prRow {b t : Nat} (e : b = 32 * t) (h : t < 32) (hb : b + 32 ≤ 1024) :
    ∀ c (h' : c < 95), (Rect.unit (s := Mx.S1024x12288) ![b, 128 * c] Mx.S32x128.size (Mx.inb2 hb (by omega))).PackedRows (EltTy.packing .bf16) := by
  subst e; exact Mx.prx h
theorem prZero {b t : Nat} (e : b = 32 * t) (h : t < 32) (hb : b + 32 ≤ 1024) :
    (Rect.unit (s := Mx.S1024x12288) ![b, 12160] Mx.S32x128.size (Mx.inb2 hb (by omega))).PackedRows (EltTy.packing .bf16) := by
  subst e; exact Mx.pr_xb ⟨t, h⟩ ⟨95, by omega⟩
theorem prSlot {b t : Nat} (e : b = t % 2) (hb : b + 1 ≤ 2) :
    ∀ c (h' : c < 95), (Rect.unit (s := Mx.S2x32x12160) ![b, 0, 128 * c] Mx.S1x32x128.size (Mx.inb3 hb (by omega) (by omega))).PackedRows (EltTy.packing .fp8e4m3) :=
  Mx.prc (by omega)

/-- The lanes' largest magnitudes. -/
def chain (v : FVec F Mx.S32x128 .bf16) (l : List (FVec F Mx.S32x128 .bf16)) : FVec F Mx.S32x128 .bf16 :=
  l.foldl (fun a v => maximumf a (absf v)) (absf v)

variable (M : Mx.Mem sig) (t : Fin k0_t1_loop.trips)

/-- Pieces of the rows, at the trip's own row and slot. -/
def chunks (inv : FVec F Mx.S32x128 .bf16) (n c : Nat) (h : c + n ≤ 95) : Prog (TpuEff nD τ sig (Elt F) Λ₀ .tc) PUnit :=
  Mx.chunksP M (row t) (slot t) (row_le t) (slot_le t) (prRow (row_eq t) (t1_lt t) (row_le t)) (prSlot (slot_eq t) (slot_le t)) inv n c h

theorem chunksP_congr {b c b' c' : Nat} (e : b = c) (e' : b' = c') (hb hb' p p' hc hc' r r') (inv : FVec F Mx.S32x128 .bf16) (n k : Nat) (h : k + n ≤ 95) :
    (Mx.chunksP M b b' hb hb' p p' inv n k h : Prog (TpuEff nD τ sig (Elt F) Λ₀ .tc) PUnit) = Mx.chunksP M c c' hc hc' r r' inv n k h := by
  subst e e'; rfl
theorem amaxP_congr {b c : Nat} (e : b = c) (hb hc) : (Mx.amaxP M.xb b hb : Prog (TpuEff nD τ sig (Elt F) Λ₀ .tc) _) = Mx.amaxP M.xb c hc := by
  subst e; rfl
theorem scalesP_congr {b c : Nat} (e : b = c) (hb hc) (x : IVec Mx.S32x1 32) :
    (Mx.scalesP (F := F) M.xs M.xsb b hb x : Prog (TpuEff nD τ sig (Elt F) Λ₀ .tc) _) = Mx.scalesP M.xs M.xsb c hc x := by
  subst e; rfl
theorem zeroP_congr {b c : Nat} (e : b = c) (hb hc p q) :
    (Mx.zeroP (F := F) M b hb p : Prog (TpuEff nD τ sig (Elt F) Λ₀ .tc) _) = Mx.zeroP M c hc q := by
  subst e; rfl

theorem chunks_bind {R : Type} (inv : FVec F Mx.S32x128 .bf16) (n : Nat) : ∀ (m c : Nat) (h : c + (m + n) ≤ 95) (κ : PUnit → Prog (TpuEff nD τ sig (Elt F) Λ₀ .tc) R),
    (chunks M t inv (m + n) c h).bind κ = (chunks M t inv m c (by omega)).bind fun _ => (chunks M t inv n (c + m) (by omega)).bind κ
  | 0, c, h, κ => by
    have e : chunks M t inv (0 + n) c h = chunks M t inv n (c + 0) (by omega) := by
      congr 1; omega
    rw [e]; rfl
  | m + 1, c, h, κ => by
    have e : chunks M t inv (m + 1 + n) c h = (Mx.chunkP M (row t) (slot t) (row_le t) (slot_le t) (prRow (row_eq t) (t1_lt t) (row_le t)) (prSlot (slot_eq t) (slot_le t)) inv c (by omega)).bind
        fun _ => chunks M t inv (m + n) (c + 1) (by omega) := by
      have : chunks M t inv (m + 1 + n) c h = chunks M t inv (m + n + 1) c (by omega) := by congr 1; omega
      rw [this]; rfl
    have e' : chunks M t inv (m + 1) c (by omega) = (Mx.chunkP M (row t) (slot t) (row_le t) (slot_le t) (prRow (row_eq t) (t1_lt t) (row_le t)) (prSlot (slot_eq t) (slot_le t)) inv c (by omega)).bind
        fun _ => chunks M t inv m (c + 1) (by omega) := rfl
    rw [e, e']
    refine (Prog.bind_assoc _ _ _).trans (Eq.trans ?_ (Prog.bind_assoc _ _ _).symm)
    refine Mx.bindCongr _ fun _ => ?_
    refine (chunks_bind inv n m (c + 1) (by omega) κ).trans ?_
    have e'' : chunks M t inv n (c + 1 + m) (by omega) = chunks M t inv n (c + (m + 1)) (by omega) := by congr 1; omega
    rw [e'']; rfl

variable {R : Type}

theorem e1_1 (κ : Prog (TpuEff nD τ sig (Elt F) Λ₀ .tc) R) : t1s1 M.x M.hx M.c M.hc M.xb M.hxb M.cb M.hcb M.xsem M.csem t κ
    = (Mx.xCp M t.val (t1_lt t)).wait.bind fun _ =>
        ((if h2 : 2 ≤ t.val then (Mx.cCp M (t.val - 2) (by have := t1_lt t; omega)).wait else pure ⟨⟩ : Prog (TpuEff nD τ sig (Elt F) Λ₀ .tc) PUnit)).bind fun _ => κ := by
  rw [← Mx.xCpO_eq M (t1_lt t) (k0_off11_eq t) (k0_off10_eq t) (k0_off9_eq t)]
  refine (Mx.bindCongr (Mx.xCpO M (t1_lt t) (k0_off11_eq t) (k0_off10_eq t) (k0_off9_eq t)).wait fun _ => ?_ : _)
  by_cases h : 2 ≤ t.val
  · refine (dif_pos ((cond1_iff t).mpr h)).trans ?_
    rw [dif_pos h, ← Mx.cCpO_eq M (by have := t1_lt t; omega) (off14_eq t h) (off13_eq t h) (off12_eq t h)]
    rfl
  · refine (dif_neg (mt (cond1_iff t).mp h)).trans ?_
    rw [dif_neg h]
    rfl

theorem e1_2 {κ : Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Vec F S32x128 .bf16 → Prog (TpuEff nD τ sig (Elt F) Λ₀ .tc) R}
    {κ' : FVec F Mx.S32x128 .bf16 → Prog (TpuEff nD τ sig (Elt F) Λ₀ .tc) R}
    (h : ∀ v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582, κ v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 = κ' (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])) :
    t1s2 M.xb t κ = (Mx.amaxP M.xb (row t) (row_le t)).bind κ' := by
  have e : κ = fun v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 => κ' (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582]) := by
    funext v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582; exact h v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582
  rw [e]
  rfl

variable (v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 : Vec F S32x128 .bf16) (κ : Prog (TpuEff nD τ sig (Elt F) Λ₀ .tc) R)

theorem e1_3 : t1s3 M.xs M.xsb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (Mx.scalesP (F := F) M.xs M.xsb (row t) (row_le t) (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))).bind fun _ => κ := by
  rfl
theorem e1_4 : t1s4 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 0 (by omega)).bind fun _ => κ := by
  rfl
theorem e1_5 : t1s5 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 10 (by omega)).bind fun _ => κ := by
  rfl
theorem e1_6 : t1s6 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 20 (by omega)).bind fun _ => κ := by
  rfl
theorem e1_7 : t1s7 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 30 (by omega)).bind fun _ => κ := by
  rfl
theorem e1_8 : t1s8 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 40 (by omega)).bind fun _ => κ := by
  rfl
theorem e1_9 : t1s9 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 50 (by omega)).bind fun _ => κ := by
  rfl
theorem e1_10 : t1s10 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 60 (by omega)).bind fun _ => κ := by
  rfl
theorem e1_11 : t1s11 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 70 (by omega)).bind fun _ => κ := by
  rfl
theorem e1_12 : t1s12 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 10 80 (by omega)).bind fun _ => κ := by
  rfl
theorem e1_13 : t1s13 M.xb M.hxb M.cb M.hcb t v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582 κ
    = (chunks M t (Mx.invOf (Mx.expo (Mx.rowScale (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582])))) 5 90 (by omega)).bind fun _ => κ := by
  rfl

theorem e1_14 (κ : Prog (TpuEff nD τ sig (Elt F) Λ₀ .tc) R) : t1s14 M.c M.hc M.xb M.hxb M.cb M.hcb M.csem t κ
    = (Mx.zeroP (F := F) M (row t) (row_le t) (prZero (row_eq t) (t1_lt t) (row_le t))).bind fun _ => (Mx.cCp M t.val (t1_lt t)).start.bind fun _ => κ := by
  rw [← Mx.cCpO_eq M (t1_lt t) (k0_off209_eq t) (k0_off11_eq t) (k0_off208_eq t)]
  rfl

/-- A trip of the quantiser. -/
theorem t1_eq (mx : Mxu F) (u : Unit) : k0_t1_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem mx t u = Mx.t1body M t.val (t1_lt t) := by
  have ht := t1_lt t
  rw [t1o.eq, t1s1.eq, e1_1]
  unfold Mx.t1body
  refine Mx.bindCongr _ fun _ => Mx.bindCongr _ fun _ => ?_
  rw [t1s2.eq, ← amaxP_congr (F := F) M (row_eq t) (row_le t)]
  refine e1_2 (F := F) M t ?_
  intro v207 v210 v214 v218 v222 v226 v230 v234 v238 v242 v246 v250 v254 v258 v262 v266 v270 v274 v278 v282 v286 v290 v294 v298 v302 v306 v310 v314 v318 v322 v326 v330 v334 v338 v342 v346 v350 v354 v358 v362 v366 v370 v374 v378 v382 v386 v390 v394 v398 v402 v406 v410 v414 v418 v422 v426 v430 v434 v438 v442 v446 v450 v454 v458 v462 v466 v470 v474 v478 v482 v486 v490 v494 v498 v502 v506 v510 v514 v518 v522 v526 v530 v534 v538 v542 v546 v550 v554 v558 v562 v566 v570 v574 v578 v582
  rw [t1s3.eq, e1_3, ← scalesP_congr (F := F) M (row_eq t) (row_le t)]
  refine Mx.bindCongr _ fun _ => ?_
  generalize hI : Mx.invOf (F := F) (Mx.expo (F := F) (Mx.rowScale (F := F) (chain v207 [v210, v214, v218, v222, v226, v230, v234, v238, v242, v246, v250, v254, v258, v262, v266, v270, v274, v278, v282, v286, v290, v294, v298, v302, v306, v310, v314, v318, v322, v326, v330, v334, v338, v342, v346, v350, v354, v358, v362, v366, v370, v374, v378, v382, v386, v390, v394, v398, v402, v406, v410, v414, v418, v422, v426, v430, v434, v438, v442, v446, v450, v454, v458, v462, v466, v470, v474, v478, v482, v486, v490, v494, v498, v502, v506, v510, v514, v518, v522, v526, v530, v534, v538, v542, v546, v550, v554, v558, v562, v566, v570, v574, v578, v582]))) = I
  rw [← chunksP_congr (F := F) M (row_eq t) (slot_eq t) (row_le t) (slot_le t) (prRow (row_eq t) (t1_lt t) (row_le t)) (prSlot (slot_eq t) (slot_le t))]
  rw [t1s4.eq, e1_4, hI]
  refine Eq.trans (Mx.bindCongr _ fun _ => ?_) (chunks_bind M t I 85 10 0 (by omega) _).symm
  rw [t1s5.eq, e1_5, hI]
  refine Eq.trans (Mx.bindCongr _ fun _ => ?_) (chunks_bind M t I 75 10 10 (by omega) _).symm
  rw [t1s6.eq, e1_6, hI]
  refine Eq.trans (Mx.bindCongr _ fun _ => ?_) (chunks_bind M t I 65 10 20 (by omega) _).symm
  rw [t1s7.eq, e1_7, hI]
  refine Eq.trans (Mx.bindCongr _ fun _ => ?_) (chunks_bind M t I 55 10 30 (by omega) _).symm
  rw [t1s8.eq, e1_8, hI]
  refine Eq.trans (Mx.bindCongr _ fun _ => ?_) (chunks_bind M t I 45 10 40 (by omega) _).symm
  rw [t1s9.eq, e1_9, hI]
  refine Eq.trans (Mx.bindCongr _ fun _ => ?_) (chunks_bind M t I 35 10 50 (by omega) _).symm
  rw [t1s10.eq, e1_10, hI]
  refine Eq.trans (Mx.bindCongr _ fun _ => ?_) (chunks_bind M t I 25 10 60 (by omega) _).symm
  rw [t1s11.eq, e1_11, hI]
  refine Eq.trans (Mx.bindCongr _ fun _ => ?_) (chunks_bind M t I 15 10 70 (by omega) _).symm
  rw [t1s12.eq, e1_12, hI]
  refine Eq.trans (Mx.bindCongr _ fun _ => ?_) (chunks_bind M t I 5 10 80 (by omega) _).symm
  rw [t1s13.eq, e1_13, hI]
  refine Mx.bindCongr _ fun _ => ?_
  rw [t1s14.eq, e1_14, ← zeroP_congr (F := F) M (row_eq t) (row_le t) _ (prZero (row_eq t) (t1_lt t) (row_le t))]
  refine Mx.bindCongr _ fun _ => ?_
  rfl

end Cert.KernelIdeal.Eq
-- ==== Proof.T2o.lean ====
module

public import proofs.«01_k».proof.Proof.Gen.KernelIdeal.Skeleton
public import Idealize.ShloMosaic.Lib.Tactic.OpenCalls
public import Idealize.ShloMosaic.Lib.Tactic.Stretches

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

open_calls t2o := k0_t2_body [k0_part108, k0_part109, k0_part110, k0_part111, k0_part112, k0_part113, k0_part114, k0_part115]

end Cert.KernelIdeal.Eq
-- ==== Proof.T2s.lean ====
module

public import proofs.«01_k».proof.Proof.T2o

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

cut_chain t2s := t2o at 2, 3, 4, 5, 6, 7, 8, 24, 30, 48, 51, 54, 57, 60

end Cert.KernelIdeal.Eq
-- ==== Proof.T3o.lean ====
module

public import proofs.«01_k».proof.Proof.Gen.KernelIdeal.Skeleton
public import Idealize.ShloMosaic.Lib.Tactic.OpenCalls
public import Idealize.ShloMosaic.Lib.Tactic.Stretches

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

open_calls t3o := k0_t3_body [k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, k0_part95, k0_part96, k0_part97, k0_part98, k0_part99, k0_part100, k0_part101, k0_part102, k0_part103, k0_part104, k0_part105, k0_part106, k0_part107]

cut_chain t3s := t3o at 19, 37, 55, 73, 91, 109, 127, 145, 163, 181, 199, 217, 235, 253

end Cert.KernelIdeal.Eq
-- ==== Proof.T3.lean ====
/-
  The reduction steps' loop is the closed form's.
-/
module

public import proofs.«01_k».proof.Proof.T3o
public import proofs.«01_k».proof.Proof.Mx.CpO

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

/-- A trip's step number. -/
def kx (k0_t3 : Fin k0_t3_loop.trips) (j : BitVec 32) : BitVec 32 :=
  Scalar.addi (Scalar.addi 1#32 (Scalar.muli (Scf.iv 0#32 1#32 k0_t3) 15#32)) j

/-- Lane base of the next step. -/
def lane (k : BitVec 32) : BitVec 32 :=
  let a := Scalar.muli (Scalar.addi k 1#32) 8#32
  let d := Scalar.select (Scalar.cmpi .eq 128#32 0#32) 1#32 128#32
  let r := Scalar.remsi a d
  Scalar.select (Scalar.andi (Scalar.xori (Scalar.cmpi .slt r 0#32) (Scalar.cmpi .slt d 0#32)) (Scalar.cmpi .ne r 0#32)) (Scalar.addi r d) r

theorem lane_eq : ∀ (t : Fin k0_t3_loop.trips) (j : Fin 15), lane (kx t (BitVec.ofNat 32 j.val)) = BitVec.ofNat 32 (8 * (15 * t.val + j.val + 2) % 128) := by decide +kernel
theorem t3_lt (t : Fin k0_t3_loop.trips) : t.val < 3 := lt_of_lt_of_eq t.isLt (by decide)

def lhs3 (k0_t3 : Fin k0_t3_loop.trips) (j : Fin 15) : Mx.LhsAt :=
  ⟨k0_off268 k0_t3 (BitVec.ofNat 32 j.val), k0_off268_inb k0_t3 j, k0_off273 k0_t3 (BitVec.ofNat 32 j.val), k0_off273_inb k0_t3 j,
   k0_off274 k0_t3 (BitVec.ofNat 32 j.val), k0_off274_inb k0_t3 j, k0_off275 k0_t3 (BitVec.ofNat 32 j.val), k0_off275_inb k0_t3 j⟩

def push3 (k0_t2 : Fin k0_t2_loop.trips) (k0_t3 : Fin k0_t3_loop.trips) (j : Fin 15) : Mx.PushAt :=
  ⟨k0_off269 k0_t3 (BitVec.ofNat 32 j.val), k0_off269_inb k0_t3 j, k0_off270 k0_t2 k0_t3 (BitVec.ofNat 32 j.val) 0#32, k0_off270_inb k0_t2 k0_t3 j 0,
   k0_off270 k0_t2 k0_t3 (BitVec.ofNat 32 j.val) 128#32, k0_off270_inb k0_t2 k0_t3 j 1,
   k0_off271 k0_t3 (BitVec.ofNat 32 j.val), k0_off271_inb k0_t3 j, k0_off272 k0_t2 k0_t3 (BitVec.ofNat 32 j.val) 0#32, k0_off272_inb k0_t2 k0_t3 j 0,
   k0_off272 k0_t2 k0_t3 (BitVec.ofNat 32 j.val) 128#32, k0_off272_inb k0_t2 k0_t3 j 1, lane (kx k0_t3 (BitVec.ofNat 32 j.val))⟩

variable (M : Mx.Mem sig)

def step3 (k0_t2 : Fin k0_t2_loop.trips) (k0_t3 : Fin k0_t3_loop.trips) (j : Fin 15) (s : Mxu F) :
    Prog (TpuEff nD τ sig (Elt F) Λ₀ .tc) (Mxu F) :=
  Mx.stepP M.xb (lhs3 k0_t3 j) (Mx.pushP M.scl M.wb Mx.laneBlock (push3 k0_t2 k0_t3 j)) s

variable (k0_t2 : Fin k0_t2_loop.trips) (k0_t3 : Fin k0_t3_loop.trips)

theorem lhs3_eq (j : Fin 15) (h : 15 * k0_t3.val + 1 + j.val < 48) : lhs3 k0_t3 j = Mx.lhsAt (15 * k0_t3.val + 1 + j.val) h :=
  Mx.LhsAt.eq h ((k0_off268_eq k0_t3 j).trans (congrArg (fun n => ![0, n]) (by omega))) ((k0_off273_eq k0_t3 j).trans (congrArg (fun n => ![256, n]) (by omega)))
    ((k0_off274_eq k0_t3 j).trans (congrArg (fun n => ![512, n]) (by omega))) ((k0_off275_eq k0_t3 j).trans (congrArg (fun n => ![768, n]) (by omega)))

theorem push3_eq (j : Fin 15) (h : 15 * k0_t3.val + 1 + j.val + 1 < 47) : push3 k0_t2 k0_t3 j = Mx.pushAt k0_t2.val (15 * k0_t3.val + 1 + j.val + 1) h :=
  Mx.PushAt.eq h ((k0_off269_eq k0_t3 j).trans (congrArg (fun n => ![0, 0, 128 * (n / 128)]) (by omega)))
    ((k0_off270_eq k0_t2 k0_t3 j 0).trans (congrArg (fun n => ![k0_t2.val % 3, 0, 0, n]) (by simp only [Fin.val_zero]; omega)))
    ((k0_off270_eq k0_t2 k0_t3 j 1).trans (congrArg (fun n => ![k0_t2.val % 3, 0, 0, n]) (by simp only [Fin.val_one]; omega)))
    ((k0_off271_eq k0_t3 j).trans (congrArg (fun n => ![1, 0, 128 * (n / 128)]) (by omega)))
    ((k0_off272_eq k0_t2 k0_t3 j 0).trans (congrArg (fun n => ![k0_t2.val % 3, 1, 0, n]) (by simp only [Fin.val_zero]; omega)))
    ((k0_off272_eq k0_t2 k0_t3 j 1).trans (congrArg (fun n => ![k0_t2.val % 3, 1, 0, n]) (by simp only [Fin.val_one]; omega)))
    ((lane_eq k0_t3 j).trans (congrArg (fun n => BitVec.ofNat 32 (n % 128)) (by omega)))

theorem step3_eq (j : Fin 15) (s : Mxu F) : step3 M k0_t2 k0_t3 j s
    = Mx.stepC M (15 * k0_t3.val + 1 + j.val) (by have := t3_lt k0_t3; omega) (Mx.pushC M k0_t2.val (15 * k0_t3.val + 1 + j.val + 1) (by have := t3_lt k0_t3; omega)) s := by
  have := t3_lt k0_t3
  unfold step3 Mx.stepC Mx.pushC
  rw [lhs3_eq k0_t3 j (by omega), push3_eq k0_t2 k0_t3 j (by omega)]

/-- One more step. -/
theorem link3 {R : Type} (j m : Nat) (hj : j < 15) (h : 15 * k0_t3.val + 1 + j + (m + 1) ≤ 46) (s : Mxu F)
    {κ κ' : Mxu F → Prog (TpuEff nD τ sig (Elt F) Λ₀ .tc) R}
    (hκ : ∀ s, κ s = (Mx.stepsC M k0_t2.val m (15 * k0_t3.val + 1 + (j + 1)) (by omega) s).bind κ') :
    (step3 M k0_t2 k0_t3 ⟨j, hj⟩ s).bind κ = (Mx.stepsC M k0_t2.val (m + 1) (15 * k0_t3.val + 1 + j) h s).bind κ' := by
  rw [step3_eq]
  refine Eq.trans ?_ (Mx.stepsC_bind M k0_t2.val m (15 * k0_t3.val + 1 + j) h s κ').symm
  exact Mx.bindCongr _ hκ

variable (s : Mxu F) {R : Type} (κ : Mxu F → Prog (TpuEff nD τ sig (Elt F) Λ₀ .tc) R)

theorem e3_1 : t3s1 M.xb M.wb M.scl Mx.laneBlock k0_t2 k0_t3 s κ = (step3 M k0_t2 k0_t3 0 s).bind κ := by
  rfl
theorem e3_2 : t3s2 M.xb M.wb M.scl Mx.laneBlock k0_t2 k0_t3 s κ = (step3 M k0_t2 k0_t3 1 s).bind κ := by
  rfl
theorem e3_3 : t3s3 M.xb M.wb M.scl Mx.laneBlock k0_t2 k0_t3 s κ = (step3 M k0_t2 k0_t3 2 s).bind κ := by
  rfl
theorem e3_4 : t3s4 M.xb M.wb M.scl Mx.laneBlock k0_t2 k0_t3 s κ = (step3 M k0_t2 k0_t3 3 s).bind κ := by
  rfl
theorem e3_5 : t3s5 M.xb M.wb M.scl Mx.laneBlock k0_t2 k0_t3 s κ = (step3 M k0_t2 k0_t3 4 s).bind κ := by
  rfl
theorem e3_6 : t3s6 M.xb M.wb M.scl Mx.laneBlock k0_t2 k0_t3 s κ = (step3 M k0_t2 k0_t3 5 s).bind κ := by
  rfl
theorem e3_7 : t3s7 M.xb M.wb M.scl Mx.laneBlock k0_t2 k0_t3 s κ = (step3 M k0_t2 k0_t3 6 s).bind κ := by
  rfl
theorem e3_8 : t3s8 M.xb M.wb M.scl Mx.laneBlock k0_t2 k0_t3 s κ = (step3 M k0_t2 k0_t3 7 s).bind κ := by
  rfl
theorem e3_9 : t3s9 M.xb M.wb M.scl Mx.laneBlock k0_t2 k0_t3 s κ = (step3 M k0_t2 k0_t3 8 s).bind κ := by
  rfl
theorem e3_10 : t3s10 M.xb M.wb M.scl Mx.laneBlock k0_t2 k0_t3 s κ = (step3 M k0_t2 k0_t3 9 s).bind κ := by
  rfl
theorem e3_11 : t3s11 M.xb M.wb M.scl Mx.laneBlock k0_t2 k0_t3 s κ = (step3 M k0_t2 k0_t3 10 s).bind κ := by
  rfl
theorem e3_12 : t3s12 M.xb M.wb M.scl Mx.laneBlock k0_t2 k0_t3 s κ = (step3 M k0_t2 k0_t3 11 s).bind κ := by
  rfl
theorem e3_13 : t3s13 M.xb M.wb M.scl Mx.laneBlock k0_t2 k0_t3 s κ = (step3 M k0_t2 k0_t3 12 s).bind κ := by
  rfl
theorem e3_14 : t3s14 M.xb M.wb M.scl Mx.laneBlock k0_t2 k0_t3 s κ = (step3 M k0_t2 k0_t3 13 s).bind κ := by
  rfl
theorem e3_15 : t3s15 M.xb M.wb M.scl Mx.laneBlock k0_t2 k0_t3 s κ = (step3 M k0_t2 k0_t3 14 s).bind κ := by
  rfl

/-- A trip of the steps' loop. -/
theorem t3_eq (mx : Mxu F) (c c0 c1 : BitVec 32) (st : BitVec 32 × Mxu F) :
    k0_t3_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem Mx.laneBlock c0 c1 k0_t2 mx c k0_t3 st = Mx.t3body M k0_t2.val k0_t3 st := by
  obtain ⟨b, s⟩ := st
  have ht := t3_lt k0_t3
  rw [t3o.eq]
  rw [t3s1.eq, e3_1]
  refine link3 M k0_t2 k0_t3 0 14 (by omega) (by omega) s (κ' := fun s => pure (0#32, s)) fun s => ?_
  rw [t3s2.eq, e3_2]
  refine link3 M k0_t2 k0_t3 1 13 (by omega) (by omega) s (κ' := fun s => pure (0#32, s)) fun s => ?_
  rw [t3s3.eq, e3_3]
  refine link3 M k0_t2 k0_t3 2 12 (by omega) (by omega) s (κ' := fun s => pure (0#32, s)) fun s => ?_
  rw [t3s4.eq, e3_4]
  refine link3 M k0_t2 k0_t3 3 11 (by omega) (by omega) s (κ' := fun s => pure (0#32, s)) fun s => ?_
  rw [t3s5.eq, e3_5]
  refine link3 M k0_t2 k0_t3 4 10 (by omega) (by omega) s (κ' := fun s => pure (0#32, s)) fun s => ?_
  rw [t3s6.eq, e3_6]
  refine link3 M k0_t2 k0_t3 5 9 (by omega) (by omega) s (κ' := fun s => pure (0#32, s)) fun s => ?_
  rw [t3s7.eq, e3_7]
  refine link3 M k0_t2 k0_t3 6 8 (by omega) (by omega) s (κ' := fun s => pure (0#32, s)) fun s => ?_
  rw [t3s8.eq, e3_8]
  refine link3 M k0_t2 k0_t3 7 7 (by omega) (by omega) s (κ' := fun s => pure (0#32, s)) fun s => ?_
  rw [t3s9.eq, e3_9]
  refine link3 M k0_t2 k0_t3 8 6 (by omega) (by omega) s (κ' := fun s => pure (0#32, s)) fun s => ?_
  rw [t3s10.eq, e3_10]
  refine link3 M k0_t2 k0_t3 9 5 (by omega) (by omega) s (κ' := fun s => pure (0#32, s)) fun s => ?_
  rw [t3s11.eq, e3_11]
  refine link3 M k0_t2 k0_t3 10 4 (by omega) (by omega) s (κ' := fun s => pure (0#32, s)) fun s => ?_
  rw [t3s12.eq, e3_12]
  refine link3 M k0_t2 k0_t3 11 3 (by omega) (by omega) s (κ' := fun s => pure (0#32, s)) fun s => ?_
  rw [t3s13.eq, e3_13]
  refine link3 M k0_t2 k0_t3 12 2 (by omega) (by omega) s (κ' := fun s => pure (0#32, s)) fun s => ?_
  rw [t3s14.eq, e3_14]
  refine link3 M k0_t2 k0_t3 13 1 (by omega) (by omega) s (κ' := fun s => pure (0#32, s)) fun s => ?_
  rw [t3s15.eq, e3_15]
  refine link3 M k0_t2 k0_t3 14 0 (by omega) (by omega) s (κ' := fun s => pure (0#32, s)) fun s => ?_
  rfl

end Cert.KernelIdeal.Eq
-- ==== Proof.T2.lean ====
/-
  The output tiles' loop is the closed form's.
-/
module

public import proofs.«01_k».proof.Proof.T2s
public import proofs.«01_k».proof.Proof.T3

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

theorem off210_eq : ∀ t : Fin k0_t2_loop.trips, 2 ≤ t.val → k0_off210 t = ![(t.val - 2) % 2] := by decide +kernel
theorem off211_eq : ∀ t : Fin k0_t2_loop.trips, 2 ≤ t.val → k0_off211 t = ![0, 256 * (t.val - 2)] := by decide +kernel
theorem off212_eq : ∀ t : Fin k0_t2_loop.trips, 2 ≤ t.val → k0_off212 t = ![(t.val - 2) % 2, 0, 0] := by decide +kernel
theorem off213_eq : ∀ t : Fin k0_t2_loop.trips, 1 ≤ t.val → k0_off213 t = ![(t.val - 1) % 2] := by decide +kernel
theorem off214_eq : ∀ t : Fin k0_t2_loop.trips, 1 ≤ t.val → k0_off214 t = ![0, 256 * (t.val - 1)] := by decide +kernel
theorem off215_eq : ∀ t : Fin k0_t2_loop.trips, 1 ≤ t.val → k0_off215 t = ![(t.val - 1) % 2, 0, 0] := by decide +kernel
theorem cond2_iff : ∀ t : Fin k0_t2_loop.trips, k0_cond2 t = 1#1 ↔ 2 ≤ t.val := by decide +kernel
theorem cond3_iff : ∀ t : Fin k0_t2_loop.trips, k0_cond3 t = 1#1 ↔ 1 ≤ t.val := by decide +kernel
theorem cond4_iff : ∀ t : Fin k0_t2_loop.trips, k0_cond4 t = 1#1 ↔ t.val + 1 < 66 := by decide +kernel
theorem cond5_iff : ∀ t : Fin k0_t2_loop.trips, k0_cond5 t = 1#1 ↔ t.val = 65 := by decide +kernel
theorem cond6_iff : ∀ t : Fin k0_t2_loop.trips, k0_cond6 t = 1#1 ↔ t.val + 2 < 66 := by decide +kernel
theorem cond7_iff : ∀ t : Fin k0_t2_loop.trips, k0_cond7 t = 1#1 ↔ t.val = 64 := by decide +kernel
theorem t2_lt (t : Fin k0_t2_loop.trips) : t.val < 66 := lt_of_lt_of_eq t.isLt (by decide)

theorem off216_eq : ∀ t : Fin k0_t2_loop.trips, t.val + 1 < 66 → k0_off216 t = ![(t.val + 1) % 3, 0] := by decide +kernel
theorem off217_eq : ∀ t : Fin k0_t2_loop.trips, t.val + 1 < 66 → k0_off217 t = ![(t.val + 1) % 3, 0, 0, 0] := by decide +kernel
theorem off218_eq : ∀ t : Fin k0_t2_loop.trips, t.val + 1 < 66 → k0_off218 t = ![256 * (t.val + 1), 0] := by decide +kernel
theorem off219_eq : ∀ t : Fin k0_t2_loop.trips, t.val + 1 < 66 → k0_off219 t = ![(t.val + 1) % 3, 1] := by decide +kernel
theorem off220_eq : ∀ t : Fin k0_t2_loop.trips, t.val + 1 < 66 → k0_off220 t = ![(t.val + 1) % 3, 0, 0, 0] := by decide +kernel
theorem off221_eq : ∀ t : Fin k0_t2_loop.trips, t.val + 1 < 66 → k0_off221 t = ![256 * (t.val + 1), 0] := by decide +kernel
theorem off222_eq : ∀ t : Fin k0_t2_loop.trips, t.val + 1 < 66 → k0_off222 t = ![(t.val + 1) % 3, 2] := by decide +kernel
theorem off223_eq : ∀ t : Fin k0_t2_loop.trips, t.val + 1 < 66 → k0_off223 t = ![(t.val + 1) % 3, 1, 0, 0] := by decide +kernel
theorem off224_eq : ∀ t : Fin k0_t2_loop.trips, t.val + 1 < 66 → k0_off224 t = ![(t.val + 1) % 3, 3] := by decide +kernel
theorem off225_eq : ∀ t : Fin k0_t2_loop.trips, t.val + 1 < 66 → k0_off225 t = ![(t.val + 1) % 3, 1, 0, 0] := by decide +kernel
theorem off242_eq : ∀ t : Fin k0_t2_loop.trips, t.val + 2 < 66 → k0_off242 t = ![(t.val + 2) % 3, 0] := by decide +kernel
theorem off243_eq : ∀ t : Fin k0_t2_loop.trips, t.val + 2 < 66 → k0_off243 t = ![(t.val + 2) % 3, 0, 0, 0] := by decide +kernel
theorem off244_eq : ∀ t : Fin k0_t2_loop.trips, t.val + 2 < 66 → k0_off244 t = ![256 * (t.val + 2), 0] := by decide +kernel
theorem off245_eq : ∀ t : Fin k0_t2_loop.trips, t.val + 2 < 66 → k0_off245 t = ![(t.val + 2) % 3, 1] := by decide +kernel
theorem off246_eq : ∀ t : Fin k0_t2_loop.trips, t.val + 2 < 66 → k0_off246 t = ![(t.val + 2) % 3, 0, 0, 0] := by decide +kernel
theorem off247_eq : ∀ t : Fin k0_t2_loop.trips, t.val + 2 < 66 → k0_off247 t = ![256 * (t.val + 2), 0] := by decide +kernel
theorem off248_eq : ∀ t : Fin k0_t2_loop.trips, t.val + 2 < 66 → k0_off248 t = ![(t.val + 2) % 3, 2] := by decide +kernel
theorem off249_eq : ∀ t : Fin k0_t2_loop.trips, t.val + 2 < 66 → k0_off249 t = ![(t.val + 2) % 3, 1, 0, 0] := by decide +kernel
theorem off250_eq : ∀ t : Fin k0_t2_loop.trips, t.val + 2 < 66 → k0_off250 t = ![(t.val + 2) % 3, 3] := by decide +kernel
theorem off251_eq : ∀ t : Fin k0_t2_loop.trips, t.val + 2 < 66 → k0_off251 t = ![(t.val + 2) % 3, 1, 0, 0] := by decide +kernel
theorem off226_eq : ∀ t : Fin k0_t2_loop.trips, t.val = 65 → k0_off226 t = ![0, 4] := by decide +kernel
theorem off227_eq : ∀ t : Fin k0_t2_loop.trips, t.val = 65 → k0_off227 t = ![0, 0, 0, 0] := by decide +kernel
theorem off228_eq : ∀ t : Fin k0_t2_loop.trips, t.val = 65 → k0_off228 t = ![0, 5] := by decide +kernel
theorem off229_eq : ∀ t : Fin k0_t2_loop.trips, t.val = 65 → k0_off229 t = ![0, 0, 0, 0] := by decide +kernel
theorem off230_eq : ∀ t : Fin k0_t2_loop.trips, t.val = 65 → k0_off230 t = ![0, 6] := by decide +kernel
theorem off231_eq : ∀ t : Fin k0_t2_loop.trips, t.val = 65 → k0_off231 t = ![0, 0, 128, 0] := by decide +kernel
theorem off232_eq : ∀ t : Fin k0_t2_loop.trips, t.val = 65 → k0_off232 t = ![0, 7] := by decide +kernel
theorem off233_eq : ∀ t : Fin k0_t2_loop.trips, t.val = 65 → k0_off233 t = ![0, 0, 128, 0] := by decide +kernel
theorem off234_eq : ∀ t : Fin k0_t2_loop.trips, t.val = 65 → k0_off234 t = ![0, 8] := by decide +kernel
theorem off235_eq : ∀ t : Fin k0_t2_loop.trips, t.val = 65 → k0_off235 t = ![0, 1, 0, 0] := by decide +kernel
theorem off236_eq : ∀ t : Fin k0_t2_loop.trips, t.val = 65 → k0_off236 t = ![0, 9] := by decide +kernel
theorem off237_eq : ∀ t : Fin k0_t2_loop.trips, t.val = 65 → k0_off237 t = ![0, 1, 0, 0] := by decide +kernel
theorem off238_eq : ∀ t : Fin k0_t2_loop.trips, t.val = 65 → k0_off238 t = ![0, 10] := by decide +kernel
theorem off239_eq : ∀ t : Fin k0_t2_loop.trips, t.val = 65 → k0_off239 t = ![0, 1, 128, 0] := by decide +kernel
theorem off240_eq : ∀ t : Fin k0_t2_loop.trips, t.val = 65 → k0_off240 t = ![0, 11] := by decide +kernel
theorem off241_eq : ∀ t : Fin k0_t2_loop.trips, t.val = 65 → k0_off241 t = ![0, 1, 128, 0] := by decide +kernel
theorem off252_eq : ∀ t : Fin k0_t2_loop.trips, t.val = 64 → k0_off252 t = ![0, 4] := by decide +kernel
theorem off253_eq : ∀ t : Fin k0_t2_loop.trips, t.val = 64 → k0_off253 t = ![0, 0, 0, 0] := by decide +kernel
theorem off254_eq : ∀ t : Fin k0_t2_loop.trips, t.val = 64 → k0_off254 t = ![0, 5] := by decide +kernel
theorem off255_eq : ∀ t : Fin k0_t2_loop.trips, t.val = 64 → k0_off255 t = ![0, 0, 0, 0] := by decide +kernel
theorem off256_eq : ∀ t : Fin k0_t2_loop.trips, t.val = 64 → k0_off256 t = ![0, 6] := by decide +kernel
theorem off257_eq : ∀ t : Fin k0_t2_loop.trips, t.val = 64 → k0_off257 t = ![0, 0, 128, 0] := by decide +kernel
theorem off258_eq : ∀ t : Fin k0_t2_loop.trips, t.val = 64 → k0_off258 t = ![0, 7] := by decide +kernel
theorem off259_eq : ∀ t : Fin k0_t2_loop.trips, t.val = 64 → k0_off259 t = ![0, 0, 128, 0] := by decide +kernel
theorem off260_eq : ∀ t : Fin k0_t2_loop.trips, t.val = 64 → k0_off260 t = ![0, 8] := by decide +kernel
theorem off261_eq : ∀ t : Fin k0_t2_loop.trips, t.val = 64 → k0_off261 t = ![0, 1, 0, 0] := by decide +kernel
theorem off262_eq : ∀ t : Fin k0_t2_loop.trips, t.val = 64 → k0_off262 t = ![0, 9] := by decide +kernel
theorem off263_eq : ∀ t : Fin k0_t2_loop.trips, t.val = 64 → k0_off263 t = ![0, 1, 0, 0] := by decide +kernel
theorem off264_eq : ∀ t : Fin k0_t2_loop.trips, t.val = 64 → k0_off264 t = ![0, 10] := by decide +kernel
theorem off265_eq : ∀ t : Fin k0_t2_loop.trips, t.val = 64 → k0_off265 t = ![0, 1, 128, 0] := by decide +kernel
theorem off266_eq : ∀ t : Fin k0_t2_loop.trips, t.val = 64 → k0_off266 t = ![0, 11] := by decide +kernel
theorem off267_eq : ∀ t : Fin k0_t2_loop.trips, t.val = 64 → k0_off267 t = ![0, 1, 128, 0] := by decide +kernel

variable (M : Mx.Mem sig) (t : Fin k0_t2_loop.trips) {R : Type}

theorem e2_1 (κ : Prog (TpuEff nD τ sig (Elt F) Λ₀ .tc) R) : t2s1 M.y M.hy M.yb M.hyb M.ysem t κ
    = ((if h2 : 2 ≤ t.val then (Mx.yCp M (t.val - 2) (by have := t2_lt t; omega)).wait else pure ⟨⟩ : Prog (TpuEff nD τ sig (Elt F) Λ₀ .tc) PUnit)).bind fun _ => κ := by
  by_cases h : 2 ≤ t.val
  · refine (dif_pos ((cond2_iff t).mpr h)).trans ?_
    rw [dif_pos h, ← Mx.yCpO_eq M (by have := t2_lt t; omega) (off212_eq t h) (off211_eq t h) (off210_eq t h)]
    rfl
  · refine (dif_neg (mt (cond2_iff t).mp h)).trans ?_
    rw [dif_neg h]
    rfl

theorem e2_2 (κ : Prog (TpuEff nD τ sig (Elt F) Λ₀ .tc) R) : t2s2 M.y M.hy M.yb M.hyb M.ysem t κ
    = ((if h1 : 1 ≤ t.val then (Mx.yCp M (t.val - 1) (by have := t2_lt t; omega)).start else pure ⟨⟩ : Prog (TpuEff nD τ sig (Elt F) Λ₀ .tc) PUnit)).bind fun _ => κ := by
  by_cases h : 1 ≤ t.val
  · refine (dif_pos ((cond3_iff t).mpr h)).trans ?_
    rw [dif_pos h, ← Mx.yCpO_eq M (by have := t2_lt t; omega) (off215_eq t h) (off214_eq t h) (off213_eq t h)]
    rfl
  · refine (dif_neg (mt (cond3_iff t).mp h)).trans ?_
    rw [dif_neg h]
    rfl

theorem e2_3 (κ : Prog (TpuEff nD τ sig (Elt F) Λ₀ .tc) R) : t2s3 (M.w 0) (M.hw 0) (M.s 0) (M.hs 0) (M.w 1) (M.hw 1) (M.s 1) (M.hs 1) M.wb M.hwb M.sb M.hsb M.wsem t κ
    = ((if h1 : t.val + 1 < 66 then Mx.wWait (F := F) M (t.val + 1) h1 else pure ⟨⟩ : Prog (TpuEff nD τ sig (Elt F) Λ₀ .tc) PUnit)).bind fun _ => κ := by
  by_cases h : t.val + 1 < 66
  · refine (dif_pos ((cond4_iff t).mpr h)).trans ?_
    rw [dif_pos h]
    unfold Mx.wWait
    rw [← Mx.wCpO_eq M h 0 (off218_eq t h) (off217_eq t h) (off216_eq t h), ← Mx.sCpO_eq M h 0 (off221_eq t h) (off220_eq t h) (off219_eq t h), ← Mx.wCpO_eq M h 1 (off218_eq t h) (off223_eq t h) (off222_eq t h), ← Mx.sCpO_eq M h 1 (off221_eq t h) (off225_eq t h) (off224_eq t h)]
    rfl
  · refine (dif_neg (mt (cond4_iff t).mp h)).trans ?_
    rw [dif_neg h]
    rfl

theorem e2_5 (κ : Prog (TpuEff nD τ sig (Elt F) Λ₀ .tc) R) : t2s5 (M.w 0) (M.hw 0) (M.s 0) (M.hs 0) (M.w 1) (M.hw 1) (M.s 1) (M.hs 1) M.wb M.hwb M.sb M.hsb M.wsem t κ
    = ((if h1 : t.val + 2 < 66 then Mx.wStart (F := F) M (t.val + 2) h1 else pure ⟨⟩ : Prog (TpuEff nD τ sig (Elt F) Λ₀ .tc) PUnit)).bind fun _ => κ := by
  by_cases h : t.val + 2 < 66
  · refine (dif_pos ((cond6_iff t).mpr h)).trans ?_
    rw [dif_pos h]
    unfold Mx.wStart
    rw [← Mx.wCpO_eq M h 0 (off244_eq t h) (off243_eq t h) (off242_eq t h), ← Mx.sCpO_eq M h 0 (off247_eq t h) (off246_eq t h) (off245_eq t h), ← Mx.wCpO_eq M h 1 (off244_eq t h) (off249_eq t h) (off248_eq t h), ← Mx.sCpO_eq M h 1 (off247_eq t h) (off251_eq t h) (off250_eq t h)]
    rfl
  · refine (dif_neg (mt (cond6_iff t).mp h)).trans ?_
    rw [dif_neg h]
    rfl

theorem e2_4 (κ : Prog (TpuEff nD τ sig (Elt F) Λ₀ .tc) R) : t2s4 M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem t κ
    = ((if h1 : t.val = 65 then Mx.wWaitT (F := F) M else pure ⟨⟩ : Prog (TpuEff nD τ sig (Elt F) Λ₀ .tc) PUnit)).bind fun _ => κ := by
  by_cases h : t.val = 65
  · refine (dif_pos ((cond5_iff t).mpr h)).trans ?_
    rw [dif_pos h]
    unfold Mx.wWaitT
    rw [← Mx.wCpTO_eq M 0 0 rfl (off227_eq t h) (off226_eq t h), ← Mx.sCpTO_eq M 0 0 rfl (off229_eq t h) (off228_eq t h), ← Mx.wCpTO_eq M 0 1 rfl (off231_eq t h) (off230_eq t h), ← Mx.sCpTO_eq M 0 1 rfl (off233_eq t h) (off232_eq t h), ← Mx.wCpTO_eq M 1 0 rfl (off235_eq t h) (off234_eq t h), ← Mx.sCpTO_eq M 1 0 rfl (off237_eq t h) (off236_eq t h), ← Mx.wCpTO_eq M 1 1 rfl (off239_eq t h) (off238_eq t h), ← Mx.sCpTO_eq M 1 1 rfl (off241_eq t h) (off240_eq t h)]
    rw [k0_part55_eq_skeleton]
    rfl
  · refine (dif_neg (mt (cond5_iff t).mp h)).trans ?_
    rw [dif_neg h]
    rfl

theorem e2_6 (κ : Prog (TpuEff nD τ sig (Elt F) Λ₀ .tc) R) : t2s6 M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem t κ
    = ((if h1 : t.val = 64 then Mx.wStartT (F := F) M else pure ⟨⟩ : Prog (TpuEff nD τ sig (Elt F) Λ₀ .tc) PUnit)).bind fun _ => κ := by
  by_cases h : t.val = 64
  · refine (dif_pos ((cond7_iff t).mpr h)).trans ?_
    rw [dif_pos h]
    unfold Mx.wStartT
    rw [← Mx.wCpTO_eq M 0 0 rfl (off253_eq t h) (off252_eq t h), ← Mx.sCpTO_eq M 0 0 rfl (off255_eq t h) (off254_eq t h), ← Mx.wCpTO_eq M 0 1 rfl (off257_eq t h) (off256_eq t h), ← Mx.sCpTO_eq M 0 1 rfl (off259_eq t h) (off258_eq t h), ← Mx.wCpTO_eq M 1 0 rfl (off261_eq t h) (off260_eq t h), ← Mx.sCpTO_eq M 1 0 rfl (off263_eq t h) (off262_eq t h), ← Mx.wCpTO_eq M 1 1 rfl (off265_eq t h) (off264_eq t h), ← Mx.sCpTO_eq M 1 1 rfl (off267_eq t h) (off266_eq t h)]
    rw [k0_part56_eq_skeleton]
    rfl
  · refine (dif_neg (mt (cond7_iff t).mp h)).trans ?_
    rw [dif_neg h]
    rfl

theorem e2_7 (s : Mxu F) (κ : Mxu F → Prog (TpuEff nD τ sig (Elt F) Λ₀ .tc) R) : t2s7 M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem Mx.laneBlock t s κ
    = (Mx.lp3.for Mx.lp3_ok (0#32, s) (Mx.t3body M t.val)).bind fun x => κ x.2 := by
  have e : k0_t3_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem Mx.laneBlock (0#32) (1#32) t s (Scalar.remsi (Scf.iv 0#32 1#32 t) 3#32) = Mx.t3body M t.val := by
    funext i st
    exact t3_eq M t i s _ _ _ st
  unfold t2s7
  rw [e]
  rfl

/-- The last block's blocks and halves, at the trip's offsets. -/
theorem pushHalf_congr (sc wb) (li : IVec Mx.S256x128 32) {o o' p p'} (e : o = p) (e' : o' = p') (h h' k k') (s : Mxu F) :
    (Mx.pushHalf sc wb li o o' h h' s : Prog (TpuEff nD τ sig (Elt F) Λ₀ .tc) (Mxu F)) = Mx.pushHalf sc wb li p p' k k' s := by
  subst e e'; rfl

theorem e2_8 (s : Mxu F) (κ : Mxu F → Prog (TpuEff nD τ sig (Elt F) Λ₀ .tc) R) : t2s8 M.xb M.wb M.scl Mx.laneBlock t s κ
    = (Mx.stepC M 46 (by omega) (Mx.pushH M t.val) s).bind κ := by
  have e : (Mx.pushH M t.val : Mxu F → Prog (TpuEff nD τ sig (Elt F) Λ₀ .tc) (Mxu F)) = Mx.pushHalf M.scl M.wb Mx.laneBlock (k0_off276 t) (k0_off277 t) (k0_off276_inb t) (k0_off277_inb t) := by
    funext s
    exact (pushHalf_congr _ _ _ (k0_off276_eq t) (k0_off277_eq t) _ _ _ _ s).symm
  rw [e]
  rfl

/-- A decoding of scales at the kernel's offset. -/
def scaleAt (g : Fin 2) (o : Fin 4 → Nat) (h : Mx.Inb o ![1, 1, 256, 380] ![3, 2, 256, 380]) : Prog (TpuEff nD τ sig (Elt F) Λ₀ .tc) PUnit := do
  let v ← Prog.lift (.load M.sb (Rect.unit (s := Mx.S3x2x256x380) o Mx.S1x1x256x380.size h).toLoadRect (View.loadsAt_vmem Mx.h_S1x1x256x380))
  let _ ← Prog.lift (.load M.scl (Rect.unit (s := Mx.S2x256x384) ![g.val, 0, 0] Mx.S1x256x380.size (Mx.inb3 (by omega) (by omega) (by omega))).toLoadRect (View.loadsAt_vmem Mx.h_S1x256x380))
  Prog.lift (.store M.scl (Rect.unit (s := Mx.S2x256x384) ![g.val, 0, 0] Mx.S1x256x380.size (Mx.inb3 (by omega) (by omega) (by omega))) (Mx.sclOf (F := F) v) Finset.univ
    (View.stores_vmem Mx.h_S1x256x380 (M.hscl.storeExact_slice rfl _ (Mx.pr_scl g)) (fun _ => rfl)) (.inl rfl))
theorem scaleAt_eq (n : Nat) (g : Fin 2) {o} (e : o = ![n % 3, g.val, 0, 0]) (h) : (scaleAt (F := F) M g o h) = Mx.scaleP M n g := by
  subst e; rfl

theorem e2_9 (κ : Prog (TpuEff nD τ sig (Elt F) Λ₀ .tc) R) : t2s9 (F := F) M.sb M.scl M.hscl t κ
    = (Mx.scalesC (F := F) M (t.val + 1)).bind fun _ => κ := by
  unfold Mx.scalesC
  rw [← scaleAt_eq M (t.val + 1) 0 (k0_off278_eq t) (k0_off278_inb t), ← scaleAt_eq M (t.val + 1) 1 (k0_off279_eq t) (k0_off279_inb t)]
  rfl

theorem e2_10 (s : Mxu F) (κ : Mxu F → Prog (TpuEff nD τ sig (Elt F) Λ₀ .tc) R) : t2s10 M.xb M.wb M.scl Mx.laneBlock t s κ
    = (Mx.stepC M 47 (by omega) (Mx.pushC M (t.val + 1) 0 (by omega)) s).bind κ := by
  have e : Mx.pushAt (t.val + 1) 0 (by omega) = ⟨![0, 0, 0], by decide, k0_off280 t, k0_off280_inb t, k0_off281 t, k0_off281_inb t, ![1, 0, 0], by decide, k0_off282 t, k0_off282_inb t, k0_off283 t, k0_off283_inb t, 0#32⟩ :=
    (Mx.PushAt.eq (by omega) rfl (k0_off280_eq t) (k0_off281_eq t) rfl (k0_off282_eq t) (k0_off283_eq t) rfl).symm
  unfold Mx.pushC
  rw [e]
  rfl

/-- The swiglu of a row block at the kernel's offset. -/
def swAt (o : Fin 3 → Nat) (h : Mx.Inb o ![1, 256, 256] ![2, 1024, 256]) (hp : (Rect.unit (s := Mx.S2x1024x256) o Mx.S1x256x256.size h).PackedRows (EltTy.packing .bf16))
    (a : Fin 4) (A : Nat) (hA : Mxu.Fits A 256) (s : Mxu F) : Prog (TpuEff nD τ sig (Elt F) Λ₀ .tc) (Mxu F) := do
  let xs ← Mx.ldxs M.xsb ![256 * a.val, 0] (Mx.inb2 (by omega) (by omega))
  let _ ← Prog.lift (.load M.yb (Rect.unit (s := Mx.S2x1024x256) o Mx.S1x256x256.size h).toLoadRect (View.loadsAt_vmem Mx.h_S1x256x256))
  Prog.lift (.store M.yb (Rect.unit (s := Mx.S2x1024x256) o Mx.S1x256x256.size h)
    (Mx.swOut (s.read 0 A hA) ((s.pop 0 A 256 hA).read 1 A hA) xs) Finset.univ
    (View.stores_vmem Mx.h_S1x256x256 (M.hyb.storeExact_slice rfl _ hp) (fun _ => rfl)) (.inl rfl))
  pure ((s.pop 0 A 256 hA).pop 1 A 256 hA)
theorem swAt_eq (b : Nat) (hb : b < 2) (a : Fin 4) (A : Nat) (hA : Mxu.Fits A 256) {o} (e : o = ![b, 256 * a.val, 0]) (h hp) (s : Mxu F) :
    swAt M o h hp a A hA s = Mx.swP M b hb a A hA s := by
  subst e; rfl
theorem prY {b : Nat} (hb : b < 2) (a : Fin 4) {o : Fin 3 → Nat} (e : o = ![b, 256 * a.val, 0]) (h : Mx.Inb o ![1, 256, 256] ![2, 1024, 256]) :
    (Rect.unit (s := Mx.S2x1024x256) o Mx.S1x256x256.size h).PackedRows (EltTy.packing .bf16) := by
  subst e; exact Mx.pr_yb ⟨b, hb⟩ a

/-- The units after the first row blocks are taken off. -/
def popped (s : Mxu F) : Fin 5 → Mxu F
  | 0 => s
  | 1 => (s.pop 0 0 256 Mx.fits0).pop 1 0 256 Mx.fits0
  | 2 => ((((s.pop 0 0 256 Mx.fits0).pop 1 0 256 Mx.fits0).pop 0 64 256 Mx.fits64).pop 1 64 256 Mx.fits64)
  | 3 => ((((((s.pop 0 0 256 Mx.fits0).pop 1 0 256 Mx.fits0).pop 0 64 256 Mx.fits64).pop 1 64 256 Mx.fits64).pop 0 128 256 Mx.fits128).pop 1 128 256 Mx.fits128)
  | 4 => ((((((((s.pop 0 0 256 Mx.fits0).pop 1 0 256 Mx.fits0).pop 0 64 256 Mx.fits64).pop 1 64 256 Mx.fits64).pop 0 128 256 Mx.fits128).pop 1 128 256 Mx.fits128).pop 0 192 256 Mx.fits192).pop 1 192 256 Mx.fits192)

theorem e2_11 (s : Mxu F) (κ : Prog (TpuEff nD τ sig (Elt F) Λ₀ .tc) R) : t2s11 M.xsb M.yb M.hyb t s κ
    = (Mx.swP M (t.val % 2) (by omega) 0 0 Mx.fits0 (popped s 0)).bind fun _ => κ := by
  rw [← swAt_eq M (t.val % 2) (by omega) 0 0 Mx.fits0 (k0_off284_eq t) (k0_off284_inb t) (prY (by omega) 0 (k0_off284_eq t) _)]
  rfl
theorem e2_12 (s : Mxu F) (κ : Prog (TpuEff nD τ sig (Elt F) Λ₀ .tc) R) : t2s12 M.xsb M.yb M.hyb t s κ
    = (Mx.swP M (t.val % 2) (by omega) 1 64 Mx.fits64 (popped s 1)).bind fun _ => κ := by
  rw [← swAt_eq M (t.val % 2) (by omega) 1 64 Mx.fits64 (k0_off285_eq t) (k0_off285_inb t) (prY (by omega) 1 (k0_off285_eq t) _)]
  rfl
theorem e2_13 (s : Mxu F) (κ : Prog (TpuEff nD τ sig (Elt F) Λ₀ .tc) R) : t2s13 M.xsb M.yb M.hyb t s κ
    = (Mx.swP M (t.val % 2) (by omega) 2 128 Mx.fits128 (popped s 2)).bind fun _ => κ := by
  rw [← swAt_eq M (t.val % 2) (by omega) 2 128 Mx.fits128 (k0_off286_eq t) (k0_off286_inb t) (prY (by omega) 2 (k0_off286_eq t) _)]
  rfl
theorem e2_14 (s : Mxu F) (κ : Prog (TpuEff nD τ sig (Elt F) Λ₀ .tc) R) : t2s14 M.xsb M.yb M.hyb t s κ
    = (Mx.swP M (t.val % 2) (by omega) 3 192 Mx.fits192 (popped s 3)).bind fun _ => κ := by
  rw [← swAt_eq M (t.val % 2) (by omega) 3 192 Mx.fits192 (k0_off287_eq t) (k0_off287_inb t) (prY (by omega) 3 (k0_off287_eq t) _)]
  rfl

/-- A row block's program ends in the units with that row block taken off. -/
theorem swP_bind (b : Nat) (hb : b < 2) (a : Fin 4) (A : Nat) (hA : Mxu.Fits A 256) (s : Mxu F) (κ : Mxu F → Prog (TpuEff nD τ sig (Elt F) Λ₀ .tc) R) :
    (Mx.swP M b hb a A hA s).bind κ = (Mx.swP M b hb a A hA s).bind fun _ => κ ((s.pop 0 A 256 hA).pop 1 A 256 hA) := rfl

theorem e2_15 (s : Mxu F) (κ : Mxu F → Prog (TpuEff nD τ sig (Elt F) Λ₀ .tc) R) : t2s15 M.xb M.wb M.scl Mx.laneBlock t s κ
    = (Mx.stepC M 0 (by omega) (Mx.pushC M (t.val + 1) 1 (by omega)) (popped s 4)).bind κ := by
  have e : Mx.pushAt (t.val + 1) 1 (by omega) = ⟨![0, 0, 0], by decide, k0_off288 t, k0_off288_inb t, k0_off289 t, k0_off289_inb t, ![1, 0, 0], by decide, k0_off290 t, k0_off290_inb t, k0_off291 t, k0_off291_inb t, 8#32⟩ :=
    (Mx.PushAt.eq (by omega) rfl (k0_off288_eq t) (k0_off289_eq t) rfl (k0_off290_eq t) (k0_off291_eq t) rfl).symm
  unfold Mx.pushC
  rw [e]
  rfl

/-- A trip of the output tiles' loop. -/
theorem t2_eq (mx : Mxu F) (st : BitVec 32 × Mxu F) : k0_t2_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem Mx.laneBlock mx t st = Mx.t2body M t st := by
  obtain ⟨b, s⟩ := st
  rw [t2o.eq, t2s1.eq, e2_1]
  unfold Mx.t2body Mx.yIO Mx.wIO Mx.t2calc
  simp only [Prog.bind_assoc]
  refine Mx.bindCongr _ fun _ => ?_
  rw [t2s2.eq, e2_2]
  refine Mx.bindCongr _ fun _ => ?_
  rw [t2s3.eq, e2_3]
  refine Mx.bindCongr _ fun _ => ?_
  rw [t2s4.eq, e2_4]
  refine Mx.bindCongr _ fun _ => ?_
  rw [t2s5.eq, e2_5]
  refine Mx.bindCongr _ fun _ => ?_
  rw [t2s6.eq, e2_6]
  refine Mx.bindCongr _ fun _ => ?_
  rw [t2s7.eq, e2_7]
  refine Mx.bindCongr _ fun x => ?_
  rw [t2s8.eq, e2_8]
  refine Mx.bindCongr _ fun s => ?_
  rw [t2s9.eq, e2_9]
  refine Mx.bindCongr _ fun _ => ?_
  rw [t2s10.eq, e2_10]
  refine Mx.bindCongr _ fun s => ?_
  rw [t2s11.eq, e2_11]
  refine Eq.trans ?_ (swP_bind M _ _ _ _ _ _ _).symm
  refine Mx.bindCongr _ fun _ => ?_
  rw [t2s12.eq, e2_12]
  refine Eq.trans ?_ (swP_bind M _ _ _ _ _ _ _).symm
  refine Mx.bindCongr _ fun _ => ?_
  rw [t2s13.eq, e2_13]
  refine Eq.trans ?_ (swP_bind M _ _ _ _ _ _ _).symm
  refine Mx.bindCongr _ fun _ => ?_
  rw [t2s14.eq, e2_14]
  refine Eq.trans ?_ (swP_bind M _ _ _ _ _ _ _).symm
  refine Mx.bindCongr _ fun _ => ?_
  rw [t2s15.eq, e2_15]
  refine Mx.bindCongr _ fun s => ?_
  rfl

end Cert.KernelIdeal.Eq
-- ==== Proof.T4o.lean ====
module

public import proofs.«01_k».proof.Proof.Gen.KernelIdeal.Skeleton
public import Idealize.ShloMosaic.Lib.Tactic.OpenCalls
public import Idealize.ShloMosaic.Lib.Tactic.Stretches

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

open_calls t4o := k0_t4_body [k0_part116, k0_part117, k0_part118, k0_part119, k0_part120, k0_part121, k0_part122, k0_part123, k0_part124, k0_part125, k0_part126, k0_part127, k0_part128, k0_part129, k0_part130, k0_part131, k0_part132, k0_part133, k0_part134, k0_part135, k0_part136, k0_part137, k0_part138, k0_part139, k0_part140, k0_part141, k0_part142, k0_part143, k0_part144, k0_part145, k0_part146, k0_part147, k0_part148, k0_part149, k0_part150, k0_part151, k0_part152, k0_part153, k0_part154, k0_part155, k0_part156, k0_part157, k0_part158, k0_part159, k0_part160, k0_part161, k0_part162, k0_part163, k0_part164, k0_part165]

end Cert.KernelIdeal.Eq
-- ==== Proof.T4s.lean ====
module

public import proofs.«01_k».proof.Proof.T4o

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

cut_chain t4s := t4o at 15, 29, 43, 57, 71, 85, 99, 113, 127, 141, 155, 169, 183, 197

end Cert.KernelIdeal.Eq
-- ==== Proof.T4.lean ====
/-
  The last tile's reduction steps' loop is the closed form's.
-/
module

public import proofs.«01_k».proof.Proof.T4s
public import proofs.«01_k».proof.Proof.T3

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

def kx4 (k0_t4 : Fin k0_t4_loop.trips) (j : BitVec 32) : BitVec 32 :=
  Scalar.addi (Scalar.addi 1#32 (Scalar.muli (Scf.iv 0#32 1#32 k0_t4) 15#32)) j
theorem lane4_eq : ∀ (t : Fin k0_t4_loop.trips) (j : Fin 15), lane (kx4 t (BitVec.ofNat 32 j.val)) = BitVec.ofNat 32 (8 * (15 * t.val + j.val + 2) % 128) := by decide +kernel
theorem t4_lt (t : Fin k0_t4_loop.trips) : t.val < 3 := lt_of_lt_of_eq t.isLt (by decide)

def lhs4 (k0_t4 : Fin k0_t4_loop.trips) (j : Fin 15) : Mx.LhsAt :=
  ⟨k0_off294 k0_t4 (BitVec.ofNat 32 j.val), k0_off294_inb k0_t4 j, k0_off300 k0_t4 (BitVec.ofNat 32 j.val), k0_off300_inb k0_t4 j,
   k0_off295 k0_t4 (BitVec.ofNat 32 j.val), k0_off295_inb k0_t4 j, k0_off301 k0_t4 (BitVec.ofNat 32 j.val), k0_off301_inb k0_t4 j⟩

def push4 (k0_t4 : Fin k0_t4_loop.trips) (j : Fin 15) : Mx.PushAt :=
  ⟨k0_off296 k0_t4 (BitVec.ofNat 32 j.val), k0_off296_inb k0_t4 j, k0_off297 k0_t4 (BitVec.ofNat 32 j.val) 0#32, k0_off297_inb k0_t4 j 0,
   k0_off297 k0_t4 (BitVec.ofNat 32 j.val) 128#32, k0_off297_inb k0_t4 j 1,
   k0_off298 k0_t4 (BitVec.ofNat 32 j.val), k0_off298_inb k0_t4 j, k0_off299 k0_t4 (BitVec.ofNat 32 j.val) 0#32, k0_off299_inb k0_t4 j 0,
   k0_off299 k0_t4 (BitVec.ofNat 32 j.val) 128#32, k0_off299_inb k0_t4 j 1, lane (kx4 k0_t4 (BitVec.ofNat 32 j.val))⟩

variable (M : Mx.Mem sig)

def step4 (k0_t4 : Fin k0_t4_loop.trips) (j : Fin 15) (s : Mxu F) :
    Prog (TpuEff nD τ sig (Elt F) Λ₀ .tc) (Mxu F) :=
  Mx.stepPT M.xb (lhs4 k0_t4 j) (Mx.pushP M.scl M.wb Mx.laneBlock (push4 k0_t4 j)) s

variable (k0_t4 : Fin k0_t4_loop.trips)

theorem lhs4_eq (j : Fin 15) (h : 15 * k0_t4.val + 1 + j.val < 48) : lhs4 k0_t4 j = Mx.lhsAt (15 * k0_t4.val + 1 + j.val) h :=
  Mx.LhsAt.eq h ((k0_off294_eq k0_t4 j).trans (congrArg (fun n => ![0, n]) (by omega))) ((k0_off300_eq k0_t4 j).trans (congrArg (fun n => ![256, n]) (by omega)))
    ((k0_off295_eq k0_t4 j).trans (congrArg (fun n => ![512, n]) (by omega))) ((k0_off301_eq k0_t4 j).trans (congrArg (fun n => ![768, n]) (by omega)))

theorem push4_eq (j : Fin 15) (h : 15 * k0_t4.val + 1 + j.val + 1 < 47) : push4 k0_t4 j = Mx.pushAt 66 (15 * k0_t4.val + 1 + j.val + 1) h :=
  Mx.PushAt.eq h ((k0_off296_eq k0_t4 j).trans (congrArg (fun n => ![0, 0, 128 * (n / 128)]) (by omega)))
    ((k0_off297_eq k0_t4 j 0).trans (congrArg (fun n => ![0, 0, 0, n]) (by simp only [Fin.val_zero]; omega)))
    ((k0_off297_eq k0_t4 j 1).trans (congrArg (fun n => ![0, 0, 0, n]) (by simp only [Fin.val_one]; omega)))
    ((k0_off298_eq k0_t4 j).trans (congrArg (fun n => ![1, 0, 128 * (n / 128)]) (by omega)))
    ((k0_off299_eq k0_t4 j 0).trans (congrArg (fun n => ![0, 1, 0, n]) (by simp only [Fin.val_zero]; omega)))
    ((k0_off299_eq k0_t4 j 1).trans (congrArg (fun n => ![0, 1, 0, n]) (by simp only [Fin.val_one]; omega)))
    ((lane4_eq k0_t4 j).trans (congrArg (fun n => BitVec.ofNat 32 (n % 128)) (by omega)))

theorem step4_eq (j : Fin 15) (s : Mxu F) : step4 M k0_t4 j s
    = Mx.stepT M (15 * k0_t4.val + 1 + j.val) (by have := t4_lt k0_t4; omega) (Mx.pushC M 66 (15 * k0_t4.val + 1 + j.val + 1) (by have := t4_lt k0_t4; omega)) s := by
  have := t4_lt k0_t4
  unfold step4 Mx.stepT Mx.pushC
  rw [lhs4_eq k0_t4 j (by omega), push4_eq k0_t4 j (by omega)]

theorem link4 {R : Type} (j m : Nat) (hj : j < 15) (h : 15 * k0_t4.val + 1 + j + (m + 1) ≤ 46) (s : Mxu F)
    {κ κ' : Mxu F → Prog (TpuEff nD τ sig (Elt F) Λ₀ .tc) R}
    (hκ : ∀ s, κ s = (Mx.stepsT M m (15 * k0_t4.val + 1 + (j + 1)) (by omega) s).bind κ') :
    (step4 M k0_t4 ⟨j, hj⟩ s).bind κ = (Mx.stepsT M (m + 1) (15 * k0_t4.val + 1 + j) h s).bind κ' := by
  rw [step4_eq]
  refine Eq.trans ?_ (Mx.stepsT_bind M m (15 * k0_t4.val + 1 + j) h s κ').symm
  exact Mx.bindCongr _ hκ

variable (s : Mxu F) {R : Type} (κ : Mxu F → Prog (TpuEff nD τ sig (Elt F) Λ₀ .tc) R)

theorem e4_1 : t4s1 M.xb M.wb M.scl Mx.laneBlock k0_t4 s κ = (step4 M k0_t4 0 s).bind κ := by
  rfl
theorem e4_2 : t4s2 M.xb M.wb M.scl Mx.laneBlock k0_t4 s κ = (step4 M k0_t4 1 s).bind κ := by
  rfl
theorem e4_3 : t4s3 M.xb M.wb M.scl Mx.laneBlock k0_t4 s κ = (step4 M k0_t4 2 s).bind κ := by
  rfl
theorem e4_4 : t4s4 M.xb M.wb M.scl Mx.laneBlock k0_t4 s κ = (step4 M k0_t4 3 s).bind κ := by
  rfl
theorem e4_5 : t4s5 M.xb M.wb M.scl Mx.laneBlock k0_t4 s κ = (step4 M k0_t4 4 s).bind κ := by
  rfl
theorem e4_6 : t4s6 M.xb M.wb M.scl Mx.laneBlock k0_t4 s κ = (step4 M k0_t4 5 s).bind κ := by
  rfl
theorem e4_7 : t4s7 M.xb M.wb M.scl Mx.laneBlock k0_t4 s κ = (step4 M k0_t4 6 s).bind κ := by
  rfl
theorem e4_8 : t4s8 M.xb M.wb M.scl Mx.laneBlock k0_t4 s κ = (step4 M k0_t4 7 s).bind κ := by
  rfl
theorem e4_9 : t4s9 M.xb M.wb M.scl Mx.laneBlock k0_t4 s κ = (step4 M k0_t4 8 s).bind κ := by
  rfl
theorem e4_10 : t4s10 M.xb M.wb M.scl Mx.laneBlock k0_t4 s κ = (step4 M k0_t4 9 s).bind κ := by
  rfl
theorem e4_11 : t4s11 M.xb M.wb M.scl Mx.laneBlock k0_t4 s κ = (step4 M k0_t4 10 s).bind κ := by
  rfl
theorem e4_12 : t4s12 M.xb M.wb M.scl Mx.laneBlock k0_t4 s κ = (step4 M k0_t4 11 s).bind κ := by
  rfl
theorem e4_13 : t4s13 M.xb M.wb M.scl Mx.laneBlock k0_t4 s κ = (step4 M k0_t4 12 s).bind κ := by
  rfl
theorem e4_14 : t4s14 M.xb M.wb M.scl Mx.laneBlock k0_t4 s κ = (step4 M k0_t4 13 s).bind κ := by
  rfl
theorem e4_15 : t4s15 M.xb M.wb M.scl Mx.laneBlock k0_t4 s κ = (step4 M k0_t4 14 s).bind κ := by
  rfl

/-- A trip of the last tile's steps' loop. -/
theorem t4_eq (mx : Mxu F) (st : BitVec 32 × Mxu F) :
    k0_t4_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem Mx.laneBlock mx k0_t4 st = Mx.t4body M k0_t4 st := by
  obtain ⟨b, s⟩ := st
  have ht := t4_lt k0_t4
  rw [t4o.eq]
  rw [t4s1.eq, e4_1]
  refine link4 M k0_t4 0 14 (by omega) (by omega) s (κ' := fun s => pure (0#32, s)) fun s => ?_
  rw [t4s2.eq, e4_2]
  refine link4 M k0_t4 1 13 (by omega) (by omega) s (κ' := fun s => pure (0#32, s)) fun s => ?_
  rw [t4s3.eq, e4_3]
  refine link4 M k0_t4 2 12 (by omega) (by omega) s (κ' := fun s => pure (0#32, s)) fun s => ?_
  rw [t4s4.eq, e4_4]
  refine link4 M k0_t4 3 11 (by omega) (by omega) s (κ' := fun s => pure (0#32, s)) fun s => ?_
  rw [t4s5.eq, e4_5]
  refine link4 M k0_t4 4 10 (by omega) (by omega) s (κ' := fun s => pure (0#32, s)) fun s => ?_
  rw [t4s6.eq, e4_6]
  refine link4 M k0_t4 5 9 (by omega) (by omega) s (κ' := fun s => pure (0#32, s)) fun s => ?_
  rw [t4s7.eq, e4_7]
  refine link4 M k0_t4 6 8 (by omega) (by omega) s (κ' := fun s => pure (0#32, s)) fun s => ?_
  rw [t4s8.eq, e4_8]
  refine link4 M k0_t4 7 7 (by omega) (by omega) s (κ' := fun s => pure (0#32, s)) fun s => ?_
  rw [t4s9.eq, e4_9]
  refine link4 M k0_t4 8 6 (by omega) (by omega) s (κ' := fun s => pure (0#32, s)) fun s => ?_
  rw [t4s10.eq, e4_10]
  refine link4 M k0_t4 9 5 (by omega) (by omega) s (κ' := fun s => pure (0#32, s)) fun s => ?_
  rw [t4s11.eq, e4_11]
  refine link4 M k0_t4 10 4 (by omega) (by omega) s (κ' := fun s => pure (0#32, s)) fun s => ?_
  rw [t4s12.eq, e4_12]
  refine link4 M k0_t4 11 3 (by omega) (by omega) s (κ' := fun s => pure (0#32, s)) fun s => ?_
  rw [t4s13.eq, e4_13]
  refine link4 M k0_t4 12 2 (by omega) (by omega) s (κ' := fun s => pure (0#32, s)) fun s => ?_
  rw [t4s14.eq, e4_14]
  refine link4 M k0_t4 13 1 (by omega) (by omega) s (κ' := fun s => pure (0#32, s)) fun s => ?_
  rw [t4s15.eq, e4_15]
  refine link4 M k0_t4 14 0 (by omega) (by omega) s (κ' := fun s => pure (0#32, s)) fun s => ?_
  rfl

end Cert.KernelIdeal.Eq
-- ==== Proof.M0.lean ====
/-
  The kernel is the closed form.
-/
module

public import proofs.«01_k».proof.Proof.M0s
public import proofs.«01_k».proof.Proof.T1
public import proofs.«01_k».proof.Proof.T2
public import proofs.«01_k».proof.Proof.T4

@[expose] public section

set_option maxHeartbeats 0
set_option maxRecDepth 65536

noncomputable section

namespace Cert.KernelIdeal.Eq

open Idealize.ShloMosaic Idealize.SL.Sem Cert.KernelIdeal.Gen Cert.KernelIdeal

variable {F : FTy → Type} [FloatOps F]

variable (M : Mx.Mem sig) {R : Type}

theorem e0_1 (κ : Prog (TpuEff nD τ sig (Elt F) Λ₀ .tc) R) : m0s1 M.x M.hx M.xb M.hxb M.xsem κ
    = (Mx.xStarts (F := F) M 32 0 (by omega)).bind fun _ => κ := by
  rfl

theorem e0_2 (κ : Prog (TpuEff nD τ sig (Elt F) Λ₀ .tc) R) : m0s2 (M.w 0) (M.hw 0) (M.s 0) (M.hs 0) (M.w 1) (M.hw 1) (M.s 1) (M.hs 1) M.wb M.hwb M.sb M.hsb M.wsem κ
    = (Mx.wStart (F := F) M 0 (by omega)).bind fun _ => (Mx.wStart (F := F) M 1 (by omega)).bind fun _ => κ := by
  unfold Mx.wStart
  rw [← Mx.wCpO_eq M (n := 0) (by omega) 0 (os := ![0, 0]) (od := k0_off2 0#32) (om := k0_off1 0#32) (by decide +kernel) (by decide +kernel) (by decide +kernel), ← Mx.sCpO_eq M (n := 0) (by omega) 0 (os := ![0, 0]) (od := k0_off4 0#32) (om := k0_off3 0#32) (by decide +kernel) (by decide +kernel) (by decide +kernel), ← Mx.wCpO_eq M (n := 0) (by omega) 1 (os := ![0, 0]) (od := k0_off6 0#32) (om := k0_off5 0#32) (by decide +kernel) (by decide +kernel) (by decide +kernel), ← Mx.sCpO_eq M (n := 0) (by omega) 1 (os := ![0, 0]) (od := k0_off8 0#32) (om := k0_off7 0#32) (by decide +kernel) (by decide +kernel) (by decide +kernel), ← Mx.wCpO_eq M (n := 1) (by omega) 0 (os := ![256, 0]) (od := k0_off2 1#32) (om := k0_off1 1#32) (by decide +kernel) (by decide +kernel) (by decide +kernel), ← Mx.sCpO_eq M (n := 1) (by omega) 0 (os := ![256, 0]) (od := k0_off4 1#32) (om := k0_off3 1#32) (by decide +kernel) (by decide +kernel) (by decide +kernel), ← Mx.wCpO_eq M (n := 1) (by omega) 1 (os := ![256, 0]) (od := k0_off6 1#32) (om := k0_off5 1#32) (by decide +kernel) (by decide +kernel) (by decide +kernel), ← Mx.sCpO_eq M (n := 1) (by omega) 1 (os := ![256, 0]) (od := k0_off8 1#32) (om := k0_off7 1#32) (by decide +kernel) (by decide +kernel) (by decide +kernel)]
  rfl

theorem e0_3 (κ : Prog (TpuEff nD τ sig (Elt F) Λ₀ .tc) R) : m0s3 M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem κ
    = (Mx.lp1.for Mx.lp1_ok PUnit.unit (fun t _ => Mx.t1body (F := F) M t.val (lt_of_lt_of_eq t.isLt Mx.lp1_trips))).bind fun _ => κ := by
  have e : ∀ mx : Mxu F, k0_t1_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem mx = fun t _ => Mx.t1body (F := F) M t.val (lt_of_lt_of_eq t.isLt Mx.lp1_trips) := by
    intro mx
    funext t u
    exact t1_eq M t mx u
  unfold m0s3
  rw [e]
  rfl

theorem e0_4 (κ : Prog (TpuEff nD τ sig (Elt F) Λ₀ .tc) R) : m0s4 (M.w 0) (M.hw 0) (M.s 0) (M.hs 0) (M.w 1) (M.hw 1) (M.s 1) (M.hs 1) M.wb M.hwb M.sb M.hsb M.wsem κ
    = (Mx.wWait (F := F) M 0 (by omega)).bind fun _ => κ := by
  unfold Mx.wWait
  rw [← Mx.wCpO_eq M (n := 0) (by omega) 0 (os := ![0, 0]) (od := k0_off2 0#32) (om := k0_off1 0#32) (by decide +kernel) (by decide +kernel) (by decide +kernel), ← Mx.sCpO_eq M (n := 0) (by omega) 0 (os := ![0, 0]) (od := k0_off4 0#32) (om := k0_off3 0#32) (by decide +kernel) (by decide +kernel) (by decide +kernel), ← Mx.wCpO_eq M (n := 0) (by omega) 1 (os := ![0, 0]) (od := k0_off6 0#32) (om := k0_off5 0#32) (by decide +kernel) (by decide +kernel) (by decide +kernel), ← Mx.sCpO_eq M (n := 0) (by omega) 1 (os := ![0, 0]) (od := k0_off8 0#32) (om := k0_off7 0#32) (by decide +kernel) (by decide +kernel) (by decide +kernel)]
  rfl

theorem e0_5 (κ : Prog (TpuEff nD τ sig (Elt F) Λ₀ .tc) R) : m0s5 (F := F) M.sb M.scl M.hscl κ
    = (Mx.scalesC (F := F) M 0).bind fun _ => κ := by
  rfl

theorem e0_6 (κ : Mxu F → Prog (TpuEff nD τ sig (Elt F) Λ₀ .tc) R) : m0s6 M.wb M.scl κ
    = (Mx.pushC M 0 0 (by omega) Mx.drained0).bind κ := by
  rfl

theorem e0_7 (s : Mxu F) (κ : Mxu F → Prog (TpuEff nD τ sig (Elt F) Λ₀ .tc) R) : m0s7 M.xb M.wb M.scl s (fun _ => κ)
    = (Mx.stepC M 0 (by omega) (Mx.pushC M 0 1 (by omega)) s).bind κ := by
  rfl

theorem e0_8 (mx s : Mxu F) (κ : Mxu F → Prog (TpuEff nD τ sig (Elt F) Λ₀ .tc) R) : m0s8 M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem mx s κ
    = (Mx.lp2.for Mx.lp2_ok (0#32, s) (Mx.t2body M)).bind fun x => κ x.2 := by
  have e : k0_t2_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem k0_pay546 mx = Mx.t2body M := by
    funext t st
    exact t2_eq M t mx st
  unfold m0s8
  rw [e]
  rfl

theorem e0_9 (κ : Prog (TpuEff nD τ sig (Elt F) Λ₀ .tc) R) : m0s9 M.y M.hy M.yb M.hyb M.ysem κ
    = ((Mx.yCp M 64 (by omega)).wait : Prog (TpuEff nD τ sig (Elt F) Λ₀ .tc) PUnit).bind fun _ => (Mx.yCp M 65 (by omega)).start.bind fun _ => κ := by
  rw [← Mx.yCpO_eq M (n := 64) (by omega) (os := k0_off293 64#32) (od := ![0, 16384]) (om := k0_off292 64#32) (by decide +kernel) (by decide +kernel) (by decide +kernel),
    ← Mx.yCpO_eq M (n := 65) (by omega) (os := k0_off293 65#32) (od := ![0, 16640]) (om := k0_off292 65#32) (by decide +kernel) (by decide +kernel) (by decide +kernel)]
  rfl

theorem e0_10 (mx s : Mxu F) (κ : Mxu F → Prog (TpuEff nD τ sig (Elt F) Λ₀ .tc) R) : m0s10 M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem mx s κ
    = (Mx.lp3.for Mx.lp3_ok (0#32, s) (Mx.t4body M)).bind fun x => κ x.2 := by
  have e : k0_t4_body M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem k0_pay546 mx = Mx.t4body M := by
    funext t st
    exact t4_eq M t mx st
  unfold m0s10
  rw [e]
  rfl

theorem e0_11 (s : Mxu F) (κ : Mxu F → Prog (TpuEff nD τ sig (Elt F) Λ₀ .tc) R) : m0s11 M.xb M.wb M.scl s κ
    = (Mx.stepT M 46 (by omega) (Mx.pushH M 66) s).bind κ := by
  rfl

theorem e0_12 (s : Mxu F) (κ : Mxu F → Prog (TpuEff nD τ sig (Elt F) Λ₀ .tc) R) : m0s12 M.xb s κ
    = (Mx.stepT M 47 (by omega) pure s).bind κ := by
  rfl

theorem e0_13 (s : Mxu F) (κ : Mxu F → Prog (TpuEff nD τ sig (Elt F) Λ₀ .tc) R) : m0s13 M.xsb M.yb M.hyb s (κ ((((((((s.pop 0 0 256 Mx.fits0).pop 1 128 256 Mx.fits128).pop 0 64 256 Mx.fits64).pop 1 192 256 Mx.fits192).pop 0 128 256 Mx.fits128).pop 1 0 256 Mx.fits0).pop 0 192 256 Mx.fits192).pop 1 64 256 Mx.fits64))
    = (Mx.swPT M 0 0 0 Mx.fits0 s).bind fun s => (Mx.swPT M 1 2 128 Mx.fits128 s).bind fun s => (Mx.swPT M 0 1 64 Mx.fits64 s).bind fun s => (Mx.swPT M 1 3 192 Mx.fits192 s).bind fun s =>
      κ ((((s.pop 0 128 256 Mx.fits128).pop 1 0 256 Mx.fits0).pop 0 192 256 Mx.fits192).pop 1 64 256 Mx.fits64) := by
  rfl

theorem e0_14 (s : Mxu F) (κ : Prog (TpuEff nD τ sig (Elt F) Λ₀ .tc) R) : m0s14 M.y M.hy M.c M.hc M.yb M.hyb M.cb M.hcb M.ysem M.csem s κ
    = ((Mx.yCpT M).start : Prog (TpuEff nD τ sig (Elt F) Λ₀ .tc) PUnit).bind fun _ => (Mx.yCp M 65 (by omega)).wait.bind fun _ => (Mx.yCpT M).wait.bind fun _ =>
      (Mx.cCp M 30 (by omega)).wait.bind fun _ => (Mx.cCp M 31 (by omega)).wait.bind fun _ =>
      (((((((((s.pop 0 0 256 Mx.fits0).pop 1 128 256 Mx.fits128).pop 0 64 256 Mx.fits64).pop 1 192 256 Mx.fits192).pop 0 128 256 Mx.fits128).pop 1 0 256 Mx.fits0).pop 0 192 256 Mx.fits192).pop 1 64 256 Mx.fits64).exit).bind fun _ => κ := by
  rw [← Mx.yCpO_eq M (n := 65) (by omega) (os := k0_off293 65#32) (od := ![0, 16640]) (om := k0_off292 65#32) (by decide +kernel) (by decide +kernel) (by decide +kernel),
    ← Mx.cCpO_eq M (t := 30) (by omega) (os := k0_off302 30#32) (od := ![960, 0]) (om := k0_off292 30#32) (by decide +kernel) (by decide +kernel) (by decide +kernel),
    ← Mx.cCpO_eq M (t := 31) (by omega) (os := k0_off302 31#32) (od := ![992, 0]) (om := k0_off292 31#32) (by decide +kernel) (by decide +kernel) (by decide +kernel)]
  rfl

/-- The kernel after its opening. -/
def after (s : Mxu F) : Prog (TpuEff nD τ sig (Elt F) Λ₀ .tc) PUnit := do
  let s ← Mx.lp2.for Mx.lp2_ok (0#32, s) (Mx.t2body M)
  (Mx.yCp M 64 (by omega)).wait
  (Mx.yCp M 65 (by omega)).start
  let s ← Mx.closing M s.2
  (Mx.yCpT M).start
  (Mx.yCp M 65 (by omega)).wait
  (Mx.yCpT M).wait
  (Mx.cCp M 30 (by omega)).wait
  (Mx.cCp M 31 (by omega)).wait
  s.exit

theorem after_eq (mx s : Mxu F) : m0s7.tail M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem mx s = after M s := by
  unfold after Mx.closing
  simp only [Prog.bind_assoc]
  rw [m0s8.eq, e0_8]
  refine Mx.bindCongr _ fun x => ?_
  rw [m0s9.eq, e0_9]
  refine Mx.bindCongr _ fun _ => Mx.bindCongr _ fun _ => ?_
  rw [m0s10.eq, e0_10]
  refine Mx.bindCongr _ fun x => ?_
  rw [m0s11.eq, e0_11]
  refine Mx.bindCongr _ fun s => ?_
  rw [m0s12.eq, e0_12]
  refine Mx.bindCongr _ fun s => ?_
  rw [m0s13.eq, m0s14.eq, e0_14]
  refine Eq.trans ?_ (e0_13 M s (fun s => ((Mx.yCpT M).start : Prog (TpuEff nD τ sig (Elt F) Λ₀ .tc) PUnit).bind fun _ => (Mx.yCp M 65 (by omega)).wait.bind fun _ => (Mx.yCpT M).wait.bind fun _ =>
      (Mx.cCp M 30 (by omega)).wait.bind fun _ => (Mx.cCp M 31 (by omega)).wait.bind fun _ => s.exit))
  rfl

/-- The kernel. -/
theorem kernel_eq : cc0_mx_gated_linear (F := F) M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem = Mx.kernel M := by
  rw [m0o.eq, m0s1.eq, e0_1]
  unfold Mx.kernel Mx.opening
  simp only [Prog.bind_assoc]
  refine Mx.bindCongr _ fun _ => ?_
  rw [m0s2.eq, e0_2]
  refine Mx.bindCongr _ fun _ => Mx.bindCongr _ fun _ => ?_
  rw [m0s3.eq, e0_3]
  refine Mx.bindCongr _ fun _ => ?_
  rw [m0s4.eq, e0_4]
  refine Mx.bindCongr _ fun _ => ?_
  rw [m0s5.eq, e0_5]
  refine Mx.bindCongr _ fun _ => ?_
  rw [m0s6.eq, e0_6]
  refine Mx.bindCongr _ fun s => ?_
  have e : (fun mx s => m0s7.tail M.x M.hx (M.w 0) (M.hw 0) (M.s 0) (M.hs 0) (M.w 1) (M.hw 1) (M.s 1) (M.hs 1) M.y M.hy M.c M.hc M.xs M.hxs M.xb M.hxb M.wb M.hwb M.sb M.hsb M.scl M.hscl M.xsb M.hxsb M.yb M.hyb M.cb M.hcb M.xsem M.wsem M.ysem M.csem mx s) = fun (_ s : Mxu F) => after M s := by
    funext mx s
    exact after_eq M mx s
  rw [m0s7.eq, e, e0_7]
  refine Mx.bindCongr _ fun s => ?_
  rfl

end Cert.KernelIdeal.Eq
-- ==== Proof.Launch.lean ====
/-
  The run of the whole program, at any float semantics: what the launch hands the kernel is what
  `Mx.T_kernel` asks for, and what the kernel gives back is what the launch asks back, with the
  results at the values `Mx.YV`, `Mx.CV` and `Mx.XSV`.
-/
module

public import proofs.«01_k».proof.Proof.Mx.Run
public import proofs.«01_k».proof.Proof.M0
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameSuffixV
public import Idealize.ShloMosaic.Lib.Pipeline.BigSepL

@[expose] public section

set_option maxRecDepth 16384
set_option maxHeartbeats 0

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mx (PM PS Own Junk)

variable {F : FTy → Type} [FloatOps F]

variable (m : (ℓ : Loc nD τ sig) → Buf (Elt F) ℓ) (ρ : Dev nD → PrngReg)

/-! ## The kernel's operands -/

/-- The memrefs and semaphores the kernel is called on. -/
def MM (t : Fin cfg0.N) : Mx.Mem sig where
  x := Memref.whole main_v0
  w := ![Memref.whole main_arg1, Memref.whole main_arg3]
  s := ![Memref.whole main_arg2, Memref.whole main_arg4]
  y := Memref.whole main_v1_0
  c := Memref.whole main_v1_1
  xs := win0_0.stage (cfg0.slots t 0)
  xb := Memref.whole cc0_scratch0
  wb := Memref.whole cc0_scratch1
  sb := Memref.whole cc0_scratch2
  scl := Memref.whole cc0_scratch3
  xsb := Memref.whole cc0_scratch4
  yb := Memref.whole cc0_scratch5
  cb := Memref.whole cc0_scratch6
  xsem := cc0_scratch7
  wsem := cc0_scratch8
  ysem := cc0_scratch9
  csem := cc0_scratch10
  hx := Memref.isWhole_whole _
  hw := fun | 0 => Memref.isWhole_whole _ | 1 => Memref.isWhole_whole _
  hs := fun | 0 => Memref.isWhole_whole _ | 1 => Memref.isWhole_whole _
  hy := Memref.isWhole_whole _
  hc := Memref.isWhole_whole _
  hxs := hstage0_0 0
  hxb := Memref.isWhole_whole _
  hwb := Memref.isWhole_whole _
  hsb := Memref.isWhole_whole _
  hscl := Memref.isWhole_whole _
  hxsb := Memref.isWhole_whole _
  hyb := Memref.isWhole_whole _
  hcb := Memref.isWhole_whole _

theorem body_eq (t : Fin cfg0.N) : bodyAt0 (F := F) t = Mx.kernel (MM t) := Eq.kernel_eq (MM t)

/-- What the kernel reads: the activations as reshaped before it, and the arguments. -/
def II (c : Dev nD) : Mx.In F where
  X := V m c main_v0
  W := ![V m c main_arg1, V m c main_arg3]
  S := ![V m c main_arg2, V m c main_arg4]

/-! ## Buffers -/

section Bufs
variable (c : Dev nD)

theorem pt_own (b : Ref sig .tc) (f : Buf (Elt F) ((c : Thread nD τ).loc b)) :
    (((c : Thread nD τ).loc b) ↦{fullShare} f : PS nD τ sig F) ⊢ Own c (Memref.whole b) (fun _ => True) fullShare f := by
  have h := Own.intro (Ix := Unit) (Name := ℕ) (U := Pipeline.UD sig nD τ) (Lvl := ℕ) (Val := Elt F) (d := c) (m := Memref.whole b) (q := fullShare) f
  rw [(Memref.isWhole_whole b).set_eq_univ] at h
  exact h

theorem own_pt (b : Ref sig .tc) (f : Buf (Elt F) ((c : Thread nD τ).loc b)) :
    (Own c (Memref.whole b) (fun _ => True) fullShare f : PS nD τ sig F) ⊢ (((c : Thread nD τ).loc b) ↦{fullShare} f) := by
  unfold Own
  rw [Mx.dom_true, (Memref.isWhole_whole b).set_eq_univ]
  iintro ⟨%g, %hg, H⟩
  obtain rfl : g = f := funext fun i => hg i trivial
  iexact H

theorem ex_junk (b : Ref sig .tc) :
    (iprop(∃ f : Buf (Elt F) ((c : Thread nD τ).loc b), ((c : Thread nD τ).loc b) ↦{fullShare} f) : PS nD τ sig F) ⊢ Junk (F := F) c (Memref.whole b) (fun _ => True) := by
  unfold Junk
  iintro ⟨%f, H⟩
  iexists f
  iapply (pt_own c b f) $$ H

theorem junk_ex (b : Ref sig .tc) :
    (Junk (F := F) c (Memref.whole b) (fun _ => True) : PS nD τ sig F) ⊢ iprop(∃ f : Buf (Elt F) ((c : Thread nD τ).loc b), ((c : Thread nD τ).loc b) ↦{fullShare} f) := by
  unfold Junk
  iintro ⟨%f, H⟩
  iexists f
  iapply (own_pt c b f) $$ H

variable {sp : Space} {s : Shape} {e : EltTy} (mr : Memref sig .tc sp s e) (X : s.Idx → Elt F e)

theorem owns_junk : (owns (c : Thread nD τ) mr fullShare X : PS nD τ sig F) ⊢ Junk (F := F) c mr (fun _ => True) := by
  unfold owns Junk
  iintro ⟨%f, -, H⟩
  iexists _
  iapply (Own.intro f) $$ H

theorem own_owns : (Own c mr (fun _ => True) fullShare X : PS nD τ sig F) ⊢ owns (c : Thread nD τ) mr fullShare X := by
  unfold owns Own
  rw [Mx.dom_true]
  iintro ⟨%f, %hf, H⟩
  iexists f
  isplitr
  · ipureintro; exact funext fun i => hf i trivial
  · iexact H
end Bufs

/-! ## Semaphores -/

/-- The kernel's own semaphores, in the order of the pool: the first of the pool is the pipeline's. -/
abbrev osem0 : Fin 72 → SemLoc sig := fun j => SemLoc.dma (⟨j.val + 1, Nat.succ_lt_succ j.isLt⟩ : Fin 73)

theorem ownSemFacts0 : Pipeline.OwnSemFacts spec0 osem0 :=
  ⟨by decide, fun a b h => by
    have := congrArg Fin.val (SemLoc.dma.inj h)
    exact Fin.ext (Nat.succ.inj this), by decide⟩

section Sems
variable (c : Dev nD)

/-- Semaphore `k` of them at zero. -/
def sat (k : Nat) : PS nD τ sig F := if h : k < 72 then semVal ((c : Thread nD τ), osem0 ⟨k, h⟩) 0 else iprop(⌜True⌝)
/-- `n` of them from `t` on. -/
def satL (t n : Nat) : PS nD τ sig F := bigSepL (List.range' t n) (sat (F := F) c)

theorem sems_eq : (Pipeline.ownSems0 (Ix := Unit) (Name := ℕ) (U := Pipeline.UD sig nD τ) (Lvl := ℕ) (Val := Elt F) (τ := τ) osem0 c : PS nD τ sig F)
    = satL c 0 72 := by
  rw [Pipeline.ownSems0_eq_of_list c osem0 (List.finRange 72) (by ext j; simp) (List.nodup_finRange 72)]
  unfold satL
  rw [← List.range_eq_range', ← List.map_coe_finRange_eq_range, bigSepL_map]
  refine congrArg (bigSepL (List.finRange 72)) (funext fun j => ?_)
  unfold sat
  rw [dif_pos j.isLt]

theorem sat_split (t a b : Nat) : (satL c t (a + b) : PS nD τ sig F) = iprop(satL c t a ∗ satL c (t + a) b) := by
  unfold satL
  rw [← List.range'_append_1, bigSepL_append]

theorem x_sem : ∀ t : Fin 32, Mx.sem32 (cc0_scratch7) ![t.val] (Mx.inb1 (by omega)) = (⟨t.val + 1, by omega⟩ : Fin 73) := by decide

theorem xs_sat (t0 : Fin cfg0.N) : ∀ n t, n + t = 32 → (Mx.xsvs (F := F) c (MM t0) n t ⊢ satL c t n) ∧ (satL c t n ⊢ (Mx.xsvs c (MM t0) n t : PS nD τ sig F))
  | 0, t, h => ⟨by unfold satL; iintro -; iempintro, by unfold Mx.xsvs; iintro -; ipureintro; trivial⟩
  | n + 1, t, h => by
    have ih := xs_sat t0 n (t + 1) (by omega)
    have e : (Mx.xsm c (MM t0) t : PS nD τ sig F) = sat c t := by
      unfold sat
      rw [Mx.xsm_lt _ _ (by omega), dif_pos (by omega)]
      unfold Mx.sv
      exact congrArg (fun s => semVal ((c : Thread nD τ), SemLoc.dma s) 0) (x_sem ⟨t, by omega⟩)
    have e2 : (satL c t (n + 1) : PS nD τ sig F) = iprop(sat c t ∗ satL c (t + 1) n) := by
      unfold satL
      rw [List.range'_succ, bigSepL_cons']
    rw [e2]
    unfold Mx.xsvs
    rw [e]
    constructor
    · iintro ⟨H, H'⟩
      isplitl [H]; · iexact H
      iapply ih.1 $$ H'
    · iintro ⟨H, H'⟩
      isplitl [H]; · iexact H
      iapply ih.2 $$ H'

theorem w0_eq (t : Fin cfg0.N) : (Mx.wsem c (MM t) 0 : PS nD τ sig F) = satL c 32 4 := rfl
theorem w1_eq (t : Fin cfg0.N) : (Mx.wsem c (MM t) 1 : PS nD τ sig F) = satL c 44 4 := rfl
theorem w2_eq (t : Fin cfg0.N) : (Mx.wsem c (MM t) 2 : PS nD τ sig F) = satL c 56 4 := rfl
theorem wt_eq (t : Fin cfg0.N) : (Mx.wtsem c (MM t) : PS nD τ sig F) = iprop(satL c 36 2 ∗ satL c 38 2 ∗ satL c 40 2 ∗ satL c 42 2) := rfl
theorem y_eq (t : Fin cfg0.N) : (Mx.ysv c (MM t) : PS nD τ sig F) = satL c 68 2 := rfl
theorem c_eq (t : Fin cfg0.N) : (Mx.csv c (MM t) : PS nD τ sig F) = satL c 70 2 := rfl

/-- The semaphores the kernel declares and never uses. -/
def idle : PS nD τ sig F := iprop(satL c 48 8 ∗ satL c 60 8)

theorem sat_all : (satL c 0 72 : PS nD τ sig F) = iprop(satL c 0 32 ∗ satL c 32 4 ∗ satL c 36 2 ∗ satL c 38 2 ∗ satL c 40 2 ∗ satL c 42 2
    ∗ satL c 44 4 ∗ satL c 48 8 ∗ satL c 56 4 ∗ satL c 60 8 ∗ satL c 68 2 ∗ satL c 70 2) := by
  rw [show 72 = 32 + (4 + (2 + (2 + (2 + (2 + (4 + (8 + (4 + (8 + (2 + 2)))))))))) from rfl]
  simp only [sat_split]

theorem sems_in (t : Fin cfg0.N) : (satL c 0 72 : PS nD τ sig F) ⊢ iprop(Mx.Sems c (MM t) ∗ idle c) := by
  rw [sat_all]
  unfold Mx.Sems Mx.wsv idle
  rw [w0_eq, w1_eq, w2_eq, wt_eq, y_eq, c_eq]
  iintro ⟨X, A, B, C, D, E, G, I, J, K, L, N⟩
  isplitr [I K]
  · isplitl [X]; · iapply (xs_sat c t 32 0 rfl).2 $$ X
    isplitr [L N]
    · isplitl [A]; · iexact A
      isplitl [G]; · iexact G
      isplitl [J]; · iexact J
      isplitl [B]; · iexact B
      isplitl [C]; · iexact C
      isplitl [D]; · iexact D
      iexact E
    isplitl [L]; · iexact L
    iexact N
  isplitl [I]; · iexact I
  iexact K

theorem sems_out (t : Fin cfg0.N) : iprop(Mx.Sems c (MM t) ∗ idle c) ⊢ (satL c 0 72 : PS nD τ sig F) := by
  rw [sat_all]
  unfold Mx.Sems Mx.wsv idle
  rw [w0_eq, w1_eq, w2_eq, wt_eq, y_eq, c_eq]
  iintro ⟨⟨X, ⟨A, G, J, B, C, D, E⟩, L, N⟩, I, K⟩
  isplitl [X]; · iapply (xs_sat c t 32 0 rfl).1 $$ X
  isplitl [A]; · iexact A
  isplitl [B]; · iexact B
  isplitl [C]; · iexact C
  isplitl [D]; · iexact D
  isplitl [E]; · iexact E
  isplitl [G]; · iexact G
  isplitl [I]; · iexact I
  isplitl [J]; · iexact J
  isplitl [K]; · iexact K
  isplitl [L]; · iexact L
  iexact N
end Sems

/-! ## What the region takes and gives back -/

/-- The buffers the kernel's copies read, and those they write. -/
def H0 : Finset (Ref sig .tc) := {main_v0, main_arg1, main_arg2, main_arg3, main_arg4}
def R0 : Finset (Ref sig .tc) := {main_v1_0, main_v1_1}
theorem H0_sub : H0 ⊆ Pipeline.restRefs sig spec0 := by decide
theorem R0_sub : R0 ⊆ Pipeline.restRefs sig spec0 \ H0 := by decide

/-- The written buffers after the region. -/
def G (c : Dev nD) (b : Ref sig .tc) : Buf (Elt F) ((c : Thread nD τ).loc b) :=
  Function.update (Function.update (V m c) main_v1_0 (Mx.YV (II m c))) main_v1_1 (Mx.CV (II m c)) b

theorem G_y (c : Dev nD) : G m c main_v1_0 = Mx.YV (II m c) := by
  unfold G
  rw [Function.update_of_ne (by decide), Function.update_self]
theorem G_c (c : Dev nD) : G m c main_v1_1 = Mx.CV (II m c) := by
  unfold G
  rw [Function.update_self]

abbrev PhiV (c : Dev nD) (G : (c : Dev nD) → (b : Ref sig .tc) → Buf (Elt F) ((c.tc : Thread nD τ).loc b)) : PS nD τ sig F :=
  Pipeline.ΦDRV osem0 spec0 H0 R0 (V m) G c

theorem reads_eq (c : Dev nD) : (bigSep H0 (fun b => ((c : Thread nD τ).loc b) ↦{fullShare} V m c b) : PS nD τ sig F)
    = iprop((((c : Thread nD τ).loc main_v0) ↦{fullShare} V m c main_v0) ∗ (((c : Thread nD τ).loc main_arg1) ↦{fullShare} V m c main_arg1)
      ∗ (((c : Thread nD τ).loc main_arg2) ↦{fullShare} V m c main_arg2) ∗ (((c : Thread nD τ).loc main_arg3) ↦{fullShare} V m c main_arg3)
      ∗ (((c : Thread nD τ).loc main_arg4) ↦{fullShare} V m c main_arg4)) := by
  rw [bigSep_eq_bigSepL_of_eq [main_v0, main_arg1, main_arg2, main_arg3, main_arg4] (by decide) (by decide)]; rfl

theorem writes_eq (c : Dev nD) (G : (c : Dev nD) → (b : Ref sig .tc) → Buf (Elt F) ((c.tc : Thread nD τ).loc b)) :
    (bigSep R0 (fun b => ((c : Thread nD τ).loc b) ↦{fullShare} G c b) : PS nD τ sig F)
    = iprop((((c : Thread nD τ).loc main_v1_0) ↦{fullShare} G c main_v1_0) ∗ (((c : Thread nD τ).loc main_v1_1) ↦{fullShare} G c main_v1_1)) := by
  rw [bigSep_eq_bigSepL_of_eq [main_v1_0, main_v1_1] (by decide) (by decide)]; rfl

theorem pre_in (c : Dev nD) (t : Fin cfg0.N) :
    iprop(PhiV m c (V m) ∗ Junk (F := F) c (MM t).xs (fun _ => True) ∗ Mx.Ow c) ⊢ (iprop(Mx.KPre c (MM t) (II m c) ∗ idle c) : PS nD τ sig F) := by
  unfold PhiV Pipeline.ΦDRV Mx.KPre Mx.srcAll Mx.Scr
  rw [scopedRest0_eq, sems_eq, reads_eq, writes_eq]
  iintro ⟨⟨⟨S0, S1, S2, S3, S4, S5, S6⟩, Q, ⟨A0, A1, A2, A3, A4⟩, Y, C⟩, XS, O⟩
  icases (sems_in c t) $$ Q with ⟨Q, Z⟩
  isplitr [Z]
  · isplitl [A0]; · iapply (pt_own c main_v0 _) $$ A0
    isplitl [A1 A2 A3 A4]
    · isplitl [A1]; · iapply (pt_own c main_arg1 _) $$ A1
      isplitl [A2]; · iapply (pt_own c main_arg2 _) $$ A2
      isplitl [A3]; · iapply (pt_own c main_arg3 _) $$ A3
      iapply (pt_own c main_arg4 _) $$ A4
    isplitl [Y C XS]
    · isplitl [Y]; · iapply (ex_junk c main_v1_0); iexists _; iexact Y
      isplitl [C]; · iapply (ex_junk c main_v1_1); iexists _; iexact C
      iexact XS
    isplitl [S0 S1 S2 S3 S4 S5 S6]
    · isplitl [S0]; · iapply (ex_junk c cc0_scratch0) $$ S0
      isplitl [S1]; · iapply (ex_junk c cc0_scratch1) $$ S1
      isplitl [S2]; · iapply (ex_junk c cc0_scratch2) $$ S2
      isplitl [S3]; · iapply (ex_junk c cc0_scratch3) $$ S3
      isplitl [S4]; · iapply (ex_junk c cc0_scratch4) $$ S4
      isplitl [S5]; · iapply (ex_junk c cc0_scratch5) $$ S5
      iapply (ex_junk c cc0_scratch6) $$ S6
    isplitl [Q]; · iexact Q
    iexact O
  iexact Z

theorem post_out (c : Dev nD) (t : Fin cfg0.N) :
    (iprop(Mx.KPost c (MM t) (II m c) ∗ idle c) : PS nD τ sig F)
      ⊢ iprop(PhiV m c (G m) ∗ Own c (MM t).xs (fun _ => True) fullShare (Mx.XSV (II m c)) ∗ Mx.Ow c) := by
  unfold PhiV Pipeline.ΦDRV Mx.KPost Mx.srcAll Mx.Scr
  rw [scopedRest0_eq, sems_eq, reads_eq, writes_eq, G_y, G_c]
  iintro ⟨⟨A0, ⟨A1, A2, A3, A4⟩, ⟨Y, C, XS⟩, ⟨S0, S1, S2, S3, S4, S5, S6⟩, Q, O⟩, Z⟩
  isplitr [XS O]
  · isplitl [S0 S1 S2 S3 S4 S5 S6]
    · isplitl [S0]; · iapply (show (Junk (F := F) c (MM t).xb (fun _ => True) : PS nD τ sig F) ⊢ _ from junk_ex c cc0_scratch0) $$ S0
      isplitl [S1]; · iapply (show (Junk (F := F) c (MM t).wb (fun _ => True) : PS nD τ sig F) ⊢ _ from junk_ex c cc0_scratch1) $$ S1
      isplitl [S2]; · iapply (show (Junk (F := F) c (MM t).sb (fun _ => True) : PS nD τ sig F) ⊢ _ from junk_ex c cc0_scratch2) $$ S2
      isplitl [S3]; · iapply (show (Junk (F := F) c (MM t).scl (fun _ => True) : PS nD τ sig F) ⊢ _ from junk_ex c cc0_scratch3) $$ S3
      isplitl [S4]; · iapply (show (Junk (F := F) c (MM t).xsb (fun _ => True) : PS nD τ sig F) ⊢ _ from junk_ex c cc0_scratch4) $$ S4
      isplitl [S5]; · iapply (show (Junk (F := F) c (MM t).yb (fun _ => True) : PS nD τ sig F) ⊢ _ from junk_ex c cc0_scratch5) $$ S5
      iapply (show (Junk (F := F) c (MM t).cb (fun _ => True) : PS nD τ sig F) ⊢ _ from junk_ex c cc0_scratch6) $$ S6
    isplitl [Q Z]
    · iapply (sems_out c t); isplitl [Q]; · iexact Q
      iexact Z
    isplitl [A0 A1 A2 A3 A4]
    · isplitl [A0]; · iapply (show (Own c ((MM t).x) (fun _ => True) fullShare ((II m c).X) : PS nD τ sig F) ⊢ _ from own_pt c main_v0 ((II m c).X)) $$ A0
      isplitl [A1]; · iapply (show (Own c ((MM t).w 0) (fun _ => True) fullShare ((II m c).W 0) : PS nD τ sig F) ⊢ _ from own_pt c main_arg1 ((II m c).W 0)) $$ A1
      isplitl [A2]; · iapply (show (Own c ((MM t).s 0) (fun _ => True) fullShare ((II m c).S 0) : PS nD τ sig F) ⊢ _ from own_pt c main_arg2 ((II m c).S 0)) $$ A2
      isplitl [A3]; · iapply (show (Own c ((MM t).w 1) (fun _ => True) fullShare ((II m c).W 1) : PS nD τ sig F) ⊢ _ from own_pt c main_arg3 ((II m c).W 1)) $$ A3
      iapply (show (Own c ((MM t).s 1) (fun _ => True) fullShare ((II m c).S 1) : PS nD τ sig F) ⊢ _ from own_pt c main_arg4 ((II m c).S 1)) $$ A4
    isplitl [Y]; · iapply (show (Own c ((MM t).y) (fun _ => True) fullShare (Mx.YV (II m c)) : PS nD τ sig F) ⊢ _ from own_pt c main_v1_0 (Mx.YV (II m c))) $$ Y
    iapply (show (Own c ((MM t).c) (fun _ => True) fullShare (Mx.CV (II m c)) : PS nD τ sig F) ⊢ _ from own_pt c main_v1_1 (Mx.CV (II m c))) $$ C
  isplitl [XS]; · iexact XS
  iexact O

/-! ## The run -/

/-- The proof data of the region: one point, the row scales its one staged result. -/
def dats (_ : Fin 1) (c : Dev nD) : Dat τ (Elt F) Unit ℕ (Pipeline.UD sig nD τ) ℕ cfg0 c where
  A w := V m c (Pipeline.arrRef spec0 w)
  after w t := match w with
    | ⟨0, _⟩ => Mx.XSV (II m c)
  Φ t := if t.val = 0 then PhiV m c (V m) else PhiV m c (G m)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = Mx.XSV (II m c) := by dsimp only [dats]

def bodyPre (c : Dev nD) (t : Fin cfg0.N) : PS nD τ sig F :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : PS nD τ sig F :=
  iprop((dats m 0 c).Φ t.succ ∗ (dats m 0 c).owesAt () t.succ
    ∗ owns (c : Thread nD τ) (st0_0 t) fullShare ((dats m 0 c).after 0 t))

theorem phi_pre (c : Dev nD) (t : Fin cfg0.N) : (dats m 0 c).Φ t.castSucc = PhiV m c (V m) := by
  rw [fin_N0 t]; rfl
theorem phi_post (c : Dev nD) (t : Fin cfg0.N) : (dats m 0 c).Φ t.succ = PhiV m c (G m) := rfl

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [phi_pre, phi_post, after0_0, body_eq]
  unfold Dat.owesAt Pipeline.owesWithin
  rw [show (dats m 0 c).owed t.castSucc = 0 from rfl, show (dats m 0 c).owed t.succ = 0 from rfl]
  iintro ⟨HP, ⟨%W, -, HW⟩, ⟨%d0, H0⟩⟩
  icases (pre_in m c t) $$ [HP HW H0] with ⟨HK, Z⟩
  · isplitl [HP]; · iexact HP
    isplitl [H0]; · iapply (owns_junk c (st0_0 t) _) $$ H0
    unfold Mx.Ow; iexists W; iexact HW
  iapply (Mx.T_kernel (defs := defs₀ (F := F)) Variants.none c none (MM t) (II m c) (countersEmb (U := Pipeline.UD sig nD τ)) () _) $$ HK
  iintro HK
  icases (post_out m c t) $$ [HK Z] with ⟨HP, HX, HO⟩
  · isplitl [HK]; · iexact HK
    iexact Z
  isplitl [HP]; · iexact HP
  isplitl [HO]
  · unfold Mx.Ow
    icases HO with ⟨%W', HO⟩
    iexists W'; isplitr; · ipureintro; exact fun _ _ => Or.inl trivial
    iexact HO
  iapply (show (Own c (MM t).xs (fun _ => True) fullShare (Mx.XSV (II m c)) : PS nD τ sig F) ⊢ owns (c : Thread nD τ) (st0_0 t) fullShare (Mx.XSV (II m c)) from own_owns c (MM t).xs _) $$ HX

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The memory at the end, at core `c`: what the lines after the region make of the region's results. -/
abbrev Wend (c : Dev nD) : Valuation τ sig (Elt F) :=
  StableHlo.after [hostOps1].flatten (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD, ∀ b ∈ Pipeline.restRefs sig spec0,
      r.2.mem ((c.tc : Thread nD τ).loc b) = Wend m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m) (hA := A_eq m) (hin := fun _ => .rfl) (hout := fun _ => .rfl)
    (hQ' := fun r h => ⟨fun c => (h.1 c).2, h.2⟩)

/-! ## The arguments are left alone -/

theorem Wend_of (c : Dev nD) (b : Ref sig .tc) (h2 : b ≠ main_v2) (h3 : b ≠ main_v3) (h4 : b ≠ main_v4) (hx : main_v1_2 ≠ b) (hR : b ∉ R0) :
    Wend m c (Proc.devRef .tc b) = V m c b := by
  unfold Wend
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h2, StableHlo.devRef_ne_of_ne h3, StableHlo.devRef_ne_of_ne h4⟩)),
    Pipeline.withArrays_of_ne _ c _ _ b (fun w => by fin_cases w; exact hx), Pipeline.withR_of_not_mem _ _ _ _ b hR]

/-- The frame, at any float semantics. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c main_arg0 (Pipeline.mem_restRefs_of main_arg0 (by decide) (by decide))).trans (Wend_of m c main_arg0 (by decide) (by decide) (by decide) (by decide) (by decide))).trans (V_main_arg0 m c),
     ((h.1 c main_arg1 (Pipeline.mem_restRefs_of main_arg1 (by decide) (by decide))).trans (Wend_of m c main_arg1 (by decide) (by decide) (by decide) (by decide) (by decide))).trans (V_main_arg1 m c),
     ((h.1 c main_arg2 (Pipeline.mem_restRefs_of main_arg2 (by decide) (by decide))).trans (Wend_of m c main_arg2 (by decide) (by decide) (by decide) (by decide) (by decide))).trans (V_main_arg2 m c),
     ((h.1 c main_arg3 (Pipeline.mem_restRefs_of main_arg3 (by decide) (by decide))).trans (Wend_of m c main_arg3 (by decide) (by decide) (by decide) (by decide) (by decide))).trans (V_main_arg3 m c),
     ((h.1 c main_arg4 (Pipeline.mem_restRefs_of main_arg4 (by decide) (by decide))).trans (Wend_of m c main_arg4 (by decide) (by decide) (by decide) (by decide) (by decide))).trans (V_main_arg4 m c)⟩, h.2⟩) (run_main m ρ)

end Cert.KernelIdeal.Run

end
-- ==== Proof.Mx.Same.lean ====
/-
  The program and its idealization are the same text: with no rewrites, the two printed modules
  define the same kernel, the same table and the same main function at every float semantics.
-/
module

public import proofs.«01_k».proof.Proof.Gen.KernelIdeal
public import proofs.«01_k».proof.Proof.Gen.Kernel

@[expose] public section

set_option maxHeartbeats 0
set_option maxRecDepth 65536

noncomputable section

namespace Cert.Same

open Idealize.ShloMosaic

variable {F : FTy → Type} [FloatOps F] [Cert.Kernel.Facts] [Cert.KernelIdeal.Facts]

theorem cc0_same : Cert.Kernel.cc0_mx_gated_linear (F := F) = Cert.KernelIdeal.cc0_mx_gated_linear (F := F) := rfl

theorem d0_same : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl

theorem defs_same : Cert.Kernel.defs (F := F) = Cert.KernelIdeal.defs (F := F) :=
  congrArg (Pipeline.defs (Cert.Kernel.pcfgs (F := F))) d0_same

theorem main_same : Cert.Kernel.main (F := F) = Cert.KernelIdeal.main (F := F) := rfl

end Cert.Same

end
-- ==== Proof.Alg.Thr.lean ====
/-
  The exponent of a scale, over the extended reals: the largest exponent field whose power of two is
  no more than the value. Both the binary search over the field and the count of the powers of two
  up to the value find it.
-/
module

public import proofs.«01_k».proof.Proof.Mx.Val
public import Idealize.ShloMosaic.PureOps.Ideal
public import Idealize.ShloMosaic.PureOps.Ideal.Laws

@[expose] public section

noncomputable section

namespace Cert.Alg

open Idealize.ShloMosaic Idealize.SL.Sem
open Idealize.ShloMosaic.ValueIdx
open Cert.Mx

/-- The float whose exponent field is `t`. -/
def Fb (t : Nat) : EReal := FloatOps.ofBits (F := Ideal) .f32 (BitVec.ofNat 32 t <<< 23#32)

theorem shl23 (u : ArithUnit) (x : BitVec 32) : IntOp.shli u x 23#32 = x <<< 23#32 := by
  unfold IntOp.shli; rw [if_pos (by decide)]

theorem field_ex : ∀ t : Fin 256, ((BitVec.ofNat 32 t.val <<< 23#32).extractLsb' 31 1 == 1#1) = false ∧
    ((BitVec.ofNat 32 t.val <<< 23#32).extractLsb' 23 8).toNat = t.val ∧ ((BitVec.ofNat 32 t.val <<< 23#32).extractLsb' 0 23).toNat = 0 := by
  decide +kernel

theorem Fb_eq (t : Nat) (h0 : 0 < t) (h : t < 255) : Fb t = (((2 : ℝ) ^ ((t : Int) - 127) : ℝ) : EReal) := by
  obtain ⟨h1, h2, h3⟩ := field_ex ⟨t, by omega⟩
  show Ideal.ieee 8 23 (BitVec.ofNat 32 t <<< 23#32) = _
  unfold Ideal.ieee
  simp only [Nat.reduceAdd, h1, h2, h3]
  rw [if_neg (by omega), if_neg (by omega)]
  refine congrArg Real.toEReal ?_
  have : ((t : Int) - 127) = ((t : Int) - (2 ^ (8 - 1) - 1) - (23 : Nat)) + (23 : Nat) := by norm_num
  rw [this, zpow_add₀ (by norm_num : (2 : ℝ) ≠ 0)]
  simp
  ring

theorem Fb_top : Fb 255 = ⊤ := by
  obtain ⟨h1, h2, h3⟩ := field_ex ⟨255, by omega⟩
  show Ideal.ieee 8 23 (BitVec.ofNat 32 255 <<< 23#32) = _
  unfold Ideal.ieee
  simp only [Nat.reduceAdd, h1, h2, h3]
  simp

theorem Fb_mono {s t : Nat} (h0 : 0 < s) (hst : s ≤ t) (h : t ≤ 255) : Fb s ≤ Fb t := by
  rcases Nat.lt_or_ge t 255 with ht | ht
  · rw [Fb_eq s h0 (by omega), Fb_eq t (by omega) ht, EReal.coe_le_coe_iff]
    exact zpow_le_zpow_right₀ (by norm_num) (by omega)
  · rw [show t = 255 by omega, Fb_top]; exact le_top

/-- The largest field whose power is no more than `v`. -/
def fieldOf (v : EReal) : Nat := Nat.findGreatest (fun t => Fb t ≤ v) 255

theorem fieldOf_le (v : EReal) : fieldOf v ≤ 255 := Nat.findGreatest_le _

theorem le_fieldOf (v : EReal) {t : Nat} (h0 : 0 < t) (h : t ≤ 255) : Fb t ≤ v ↔ t ≤ fieldOf v := by
  constructor
  · exact fun hv => Nat.le_findGreatest h hv
  · intro hle
    have hne : fieldOf v ≠ 0 := by omega
    have := Nat.findGreatest_of_ne_zero (P := fun t => Fb t ≤ v) (n := 255) (m := fieldOf v) rfl hne
    exact le_trans (Fb_mono h0 hle (fieldOf_le v)) this

/-- The exponent `frexp` gives: 0 for the smallest and for the infinite. -/
def expOf (v : EReal) : BitVec 32 := if fieldOf v = 0 ∨ fieldOf v = 255 then 0#32 else BitVec.ofNat 32 (fieldOf v) - 126#32

/-- A step of the search, over the fields. -/
def stepN (n b e : Nat) : Nat := if e + b ≤ n then e + b else e

theorem search_nat : ∀ n : Fin 256, stepN n 1 (stepN n 2 (stepN n 4 (stepN n 8 (stepN n 16 (stepN n 32 (stepN n 64 (stepN n 128 0))))))) = n.val := by
  decide +kernel

/-- A float read as the field `e` has the value `Fb e`. -/
theorem fieldF_apply (e : IVec S32x1 32) (j : S32x1.Idx) (t : Nat) (h : e j = BitVec.ofNat 32 t) : fieldF (F := Ideal) e j = Fb t := by
  show FloatOps.ofBits (F := Ideal) .f32 (IntOp.shli .vector (e j) 23#32) = _
  rw [shl23, h]; rfl

theorem cmp_oge (x y : EReal) : FloatOps.cmpf (F := Ideal) (φ := .f32) .oge x y = BitVec.ofBool (decide (y ≤ x)) := rfl

theorem sel_true {α : Type} (p : Prop) [Decidable p] (a b : α) : Scalar.select (BitVec.ofBool (decide p)) a b = if p then a else b := by
  by_cases hp : p <;> simp [Scalar.select, hp]

theorem search_apply (v : FVec Ideal S32x1 .f32) (j : S32x1.Idx) (e : IVec S32x1 32) (t b : Nat) (hb : 0 < b) (ht : t + b ≤ 255)
    (h : e j = BitVec.ofNat 32 t) : search (F := Ideal) v (BitVec.ofNat 32 b) e j = BitVec.ofNat 32 (stepN (fieldOf (v j)) b t) := by
  have ha : addi e (broadcast S32x1 (BitVec.ofNat 32 b)) j = BitVec.ofNat 32 (t + b) := by
    show e j + BitVec.ofNat 32 b = _
    rw [h, BitVec.ofNat_add]
  show Scalar.select (FloatOps.cmpf (F := Ideal) (φ := .f32) .oge (v j) (fieldF (F := Ideal) (addi e (broadcast S32x1 (BitVec.ofNat 32 b))) j)) (addi e (broadcast S32x1 (BitVec.ofNat 32 b)) j) (e j) = _
  rw [fieldF_apply _ j _ ha, cmp_oge, sel_true, ha, h]
  unfold stepN
  simp only [le_fieldOf (v j) (show 0 < t + b by omega) ht]
  split <;> rfl

theorem stepN_le {n b e c : Nat} (h : e + b ≤ c) : stepN n b e ≤ c := by unfold stepN; split <;> omega

theorem field_apply (v : FVec Ideal S32x1 .f32) (j : S32x1.Idx) : field (F := Ideal) v j = BitVec.ofNat 32 (fieldOf (v j)) := by
  have h128 := search_apply v j (broadcast S32x1 0#32) 0 128 (by omega) (by omega) rfl
  have l128 : stepN (fieldOf (v j)) 128 0 ≤ 128 := stepN_le (by omega)
  have h64 := search_apply v j _ _ 64 (by omega) (by omega) h128
  have l64 := stepN_le (n := fieldOf (v j)) (b := 64) (c := 192) (show _ + 64 ≤ 192 from Nat.add_le_add_right l128 64)
  have h32 := search_apply v j _ _ 32 (by omega) (by omega) h64
  have l32 := stepN_le (n := fieldOf (v j)) (b := 32) (c := 224) (show _ + 32 ≤ 224 from Nat.add_le_add_right l64 32)
  have h16 := search_apply v j _ _ 16 (by omega) (by omega) h32
  have l16 := stepN_le (n := fieldOf (v j)) (b := 16) (c := 240) (show _ + 16 ≤ 240 from Nat.add_le_add_right l32 16)
  have h8 := search_apply v j _ _ 8 (by omega) (by omega) h16
  have l8 := stepN_le (n := fieldOf (v j)) (b := 8) (c := 248) (show _ + 8 ≤ 248 from Nat.add_le_add_right l16 8)
  have h4 := search_apply v j _ _ 4 (by omega) (by omega) h8
  have l4 := stepN_le (n := fieldOf (v j)) (b := 4) (c := 252) (show _ + 4 ≤ 252 from Nat.add_le_add_right l8 4)
  have h2 := search_apply v j _ _ 2 (by omega) (by omega) h4
  have l2 := stepN_le (n := fieldOf (v j)) (b := 2) (c := 254) (show _ + 2 ≤ 254 from Nat.add_le_add_right l4 2)
  have h1 := search_apply v j _ _ 1 (by omega) (by omega) h2
  have hs := search_nat ⟨fieldOf (v j), by have := fieldOf_le (v j); omega⟩
  simp only at hs
  rw [hs] at h1
  exact h1

theorem ori_ofBool (p q : Prop) [Decidable p] [Decidable q] : BitVec.ofBool (decide p) ||| BitVec.ofBool (decide q) = BitVec.ofBool (decide (p ∨ q)) := by
  by_cases hp : p <;> by_cases hq : q <;> simp [hp, hq]

theorem eq_ofNat {n m : Nat} (hn : n ≤ 255) (hm : m ≤ 255) : (BitVec.ofNat 32 n == BitVec.ofNat 32 m) = decide (n = m) := by
  by_cases h : n = m
  · simp [h]
  · simp only [h, decide_false, beq_eq_false_iff_ne, ne_eq]
    intro hc
    have := congrArg BitVec.toNat hc
    simp only [BitVec.toNat_ofNat] at this
    omega

/-- The kernel's exponent. -/
theorem expo_apply (v : FVec Ideal S32x1 .f32) (j : S32x1.Idx) : expo (F := Ideal) v j = expOf (v j) := by
  show Scalar.select (BitVec.ofBool (field (F := Ideal) v j == 0#32) ||| BitVec.ofBool (field (F := Ideal) v j == 255#32)) 0#32 (field (F := Ideal) v j - 126#32) = _
  rw [field_apply, eq_ofNat (fieldOf_le _) (m := 0) (by omega), eq_ofNat (fieldOf_le _) (m := 255) (by omega), ori_ofBool, sel_true]
  rfl

/-- The count of the powers of two up to `v`. -/
def countOf (v : EReal) : Nat := (Finset.univ.filter fun k : Fin 254 => Fb (k.val + 1) ≤ v).card

theorem countOf_eq (v : EReal) : countOf v = min (fieldOf v) 254 := by
  unfold countOf
  have : (Finset.univ.filter fun k : Fin 254 => Fb (k.val + 1) ≤ v) = Finset.univ.filter fun k : Fin 254 => k.val < min (fieldOf v) 254 := by
    ext k
    simp only [Finset.mem_filter, Finset.mem_univ, true_and]
    rw [le_fieldOf v (by omega) (by omega)]
    have := k.isLt
    omega
  rw [this, Fin.card_filter_val_lt]
  omega

theorem top_iff (v : EReal) : v = ⊤ ↔ fieldOf v = 255 := by
  rw [← top_le_iff, ← Fb_top, le_fieldOf v (by omega) le_rfl]
  have := fieldOf_le v
  omega

/-- The reference's exponent, from its count. -/
theorem expOf_count (v : EReal) :
    Scalar.select (BitVec.ofBool (BitVec.ofNat 32 (countOf v) == 0#32) ||| FloatOps.cmpf (F := Ideal) (φ := .f32) .oeq v (FloatOps.ofBits (F := Ideal) .f32 0x7F800000#32)) 0#32
      (BitVec.ofNat 32 (countOf v) - 126#32) = expOf v := by
  have hc := countOf_eq v
  have hn := fieldOf_le v
  have ht : FloatOps.ofBits (F := Ideal) .f32 0x7F800000#32 = (⊤ : EReal) := Fb_top
  have hq : FloatOps.cmpf (F := Ideal) (φ := .f32) .oeq v (FloatOps.ofBits (F := Ideal) .f32 0x7F800000#32) = BitVec.ofBool (decide (v = ⊤)) := by
    rw [ht]; rfl
  rw [eq_ofNat (show countOf v ≤ 255 by omega) (m := 0) (by omega), hq, ori_ofBool, sel_true]
  unfold expOf
  by_cases h : fieldOf v = 0 ∨ fieldOf v = 255
  · rw [if_pos h, if_pos]
    rw [top_iff]; omega
  · rw [if_neg h, if_neg, show countOf v = fieldOf v by omega]
    rw [top_iff]; omega

end Cert.Alg
-- ==== Proof.Alg.Row.lean ====
/-
  The activations, over the extended reals: the largest magnitude of a row, the scale and the codes,
  each as a function of the row and column, and the kernel's buffers read as these functions.
-/
module

public import proofs.«01_k».proof.Proof.Alg.Thr
public import Idealize.ShloMosaic.Lib.Pipeline.Value
public import Idealize.ShloMosaic.Lib.ValueIdx

@[expose] public section

noncomputable section

namespace Cert.Alg

open Idealize.ShloMosaic Idealize.SL.Sem
open Idealize.ShloMosaic.ValueIdx
open Cert.Mx

/-- The magnitude. -/
def mag (x : EReal) : EReal := max x (-x)

/-- The exponent of a row whose largest magnitude is `a`. -/
def expA (a : EReal) : BitVec 32 := expOf (a * FloatOps.ofBits (F := Ideal) .f32 0x3B124925#32)
/-- Two to the exponent `e`. -/
def pow2 (e : BitVec 32) : EReal := FloatOps.ofBits (F := Ideal) .f32 ((e + 127#32) <<< 23#32)
/-- The value clipped to the codes' range. -/
def clip (x : EReal) : EReal :=
  min (FloatOps.ofBits (F := Ideal) .f32 0x43E00000#32) (max (FloatOps.ofBits (F := Ideal) .f32 0xC3E00000#32) x)

variable (I : In Ideal)

/-- The activation at row `r`, column `c`. -/
def xat (r c : Nat) : EReal := I.X (nx2 1024 12160 r c)
/-- The largest magnitude of row `r`. -/
def amax (r : Nat) : EReal := Finset.univ.sup fun k : Fin 12160 => mag (xat I r k.val)
/-- The code at row `r`, column `c`. -/
def code (r c : Nat) : EReal := clip (xat I r c * pow2 (-(expA (amax I r))))

theorem nx2_0 {m n : Nat} [NeZero m] [NeZero n] {r c : Nat} (h : r < m) : (nx2 m n r c 0).val = r := Nat.mod_eq_of_lt h
theorem nx2_1 {m n : Nat} [NeZero m] [NeZero n] {r c : Nat} (h : c < n) : (nx2 m n r c 1).val = c := Nat.mod_eq_of_lt h

theorem pc_apply (t c : Nat) (j : S32x128.Idx) : pc I t c j = xat I (32 * t + (j 0).val) (128 * c + (j 1).val) := rfl

theorem amaxF_le (t : Nat) (j : S32x128.Idx) (b : EReal) : ∀ (n c : Nat) (a : FVec Ideal S32x128 .bf16),
    (amaxF I t n c a j : EReal) ≤ b ↔ (a j : EReal) ≤ b ∧ ∀ i < n, mag (xat I (32 * t + (j 0).val) (128 * (c + i) + (j 1).val)) ≤ b := by
  intro n
  induction n with
  | zero => intro c a; simp [amaxF]
  | succ n ih =>
    intro c a
    unfold amaxF
    rw [ih]
    have hm : (maximumf a (absf (pc I t c)) j : EReal) = max (a j) (mag (xat I (32 * t + (j 0).val) (128 * c + (j 1).val))) := rfl
    rw [hm, max_le_iff]
    constructor
    · rintro ⟨⟨h1, h2⟩, h3⟩
      refine ⟨h1, fun i hi => ?_⟩
      rcases i with _ | i
      · exact h2
      · have := h3 i (by omega); rwa [show c + 1 + i = c + (i + 1) by omega] at this
    · rintro ⟨h1, h2⟩
      refine ⟨⟨h1, h2 0 (by omega)⟩, fun i hi => ?_⟩
      have := h2 (i + 1) (by omega); rwa [show c + (i + 1) = c + 1 + i by omega] at this

theorem ofBits_neg_top : (FloatOps.ofBits (F := Ideal) .f32 0xFF800000#32 : EReal) = ⊥ := by
  have h1 : ((0xFF800000#32).extractLsb' 31 1 == 1#1) = true := by decide
  have h2 : ((0xFF800000#32).extractLsb' 23 8).toNat = 255 := by decide
  have h3 : ((0xFF800000#32).extractLsb' 0 23).toNat = 0 := by decide
  show Ideal.ieee 8 23 0xFF800000#32 = _
  unfold Ideal.ieee
  simp only [Nat.reduceAdd, h1, h2, h3]
  simp

theorem ofBits_zero_b : (FloatOps.ofBits (F := Ideal) .bf16 0#16 : EReal) = 0 := by
  have h1 : ((0#16).extractLsb' 15 1 == 1#1) = false := by decide
  have h2 : ((0#16).extractLsb' 7 8).toNat = 0 := by decide
  have h3 : ((0#16).extractLsb' 0 7).toNat = 0 := by decide
  show Ideal.ieee 8 7 0#16 = _
  unfold Ideal.ieee
  simp only [Nat.reduceAdd, h1, h2, h3]
  simp

theorem fold_bot_le {n : Nat} (f : Fin n → EReal) (b : EReal) :
    (Finset.univ : Finset (Fin n)).fold max (FloatOps.ofBits (F := Ideal) .f32 0xFF800000#32) f ≤ b ↔ ∀ k, f k ≤ b := by
  rw [ofBits_neg_top, Finset.fold_max_le]
  simp

theorem red_S32 : S32x128.Reduces [1] S32 := by decide

theorem lanes_le (a : FVec Ideal S32x128 .bf16) (j : S32.Idx) (b : EReal) (h hφ hacc) :
    (multiReduction .maximumf [1] S32 (extf .f32 a (by decide)) 0xFF800000#32 h hφ hacc j : EReal) ≤ b
      ↔ ∀ l : Fin 128, (a (ix2 (n0 := 32) (n1 := 128) (j 0) l) : EReal) ≤ b := by
  rw [Ideal.multiReduction_maximumf_single]
  have : (Finset.univ : Finset (Fin (S32x128.size 1))).fold max (FloatOps.ofBits (F := Ideal) .f32 0xFF800000#32)
      (extf (F := Ideal) .f32 a (by decide) ∘ h.lift j) ≤ b ↔ _ := fold_bot_le (n := 128) _ b
  refine Iff.trans this (forall_congr' fun l => ?_)
  have e : h.lift j l = ix2 (n0 := 32) (n1 := 128) (j 0) l := by
    funext x; match x with | ⟨0, _⟩ => rfl | ⟨1, _⟩ => rfl
  show (a (h.lift j l) : EReal) ≤ b ↔ _
  rw [e]

/-- The largest over the lanes of the largest over the pieces is the row's largest. -/
theorem amax_eq (t : Nat) (j : S32.Idx) (h hφ hacc) :
    (multiReduction .maximumf [1] S32 (extf .f32 (amaxF I t 94 1 (absf (pc I t 0))) (by decide)) 0xFF800000#32 h hφ hacc j : EReal)
      = amax I (32 * t + (j 0).val) := by
  refine eq_of_forall_ge_iff fun b => ?_
  rw [lanes_le]
  unfold amax
  rw [Finset.sup_le_iff]
  constructor
  · intro hl k _
    have hk := k.isLt
    have := (amaxF_le I t (ix2 (n0 := 32) (n1 := 128) (j 0) ⟨k.val % 128, by omega⟩) b 94 1 _).mp (hl ⟨k.val % 128, by omega⟩)
    rcases Nat.lt_or_ge k.val 128 with hc | hc
    · have h0 : mag (xat I (32 * t + (j 0).val) (128 * 0 + k.val % 128)) ≤ b := this.1
      rwa [show 128 * 0 + k.val % 128 = k.val by omega] at h0
    · have h1 : mag (xat I (32 * t + (j 0).val) (128 * (1 + (k.val / 128 - 1)) + k.val % 128)) ≤ b := this.2 (k.val / 128 - 1) (by omega)
      rwa [show 128 * (1 + (k.val / 128 - 1)) + k.val % 128 = k.val by omega] at h1
  · intro hk l
    rw [amaxF_le]
    refine ⟨?_, fun i hi => ?_⟩
    · exact hk ⟨128 * 0 + l.val, by omega⟩ (Finset.mem_univ _)
    · exact hk ⟨128 * (1 + i) + l.val, by omega⟩ (Finset.mem_univ _)

theorem rowScale_apply (t : Nat) (j : S32x1.Idx) :
    (rowScale (F := Ideal) (amaxF I t 94 1 (absf (pc I t 0))) j : EReal) = amax I (32 * t + (j 0).val) * FloatOps.ofBits (F := Ideal) .f32 0x3B124925#32 := by
  have h1 : (j 1).val < 1 := (j 1).isLt
  unfold rowScale
  rw [mulf_apply]
  rw [shapeCast_apply _ _ j (ix1 (n := 32) (j 0)) (by
    rw [Shape.rowMajor_val_one, Shape.rowMajor_val_two]
    show (j 0).val = (j 0).val * 1 + (j 1).val
    omega)]
  exact congrArg (· * FloatOps.ofBits (F := Ideal) .f32 0x3B124925#32) (amax_eq I t (ix1 (n := 32) (j 0)) _ _ _)

/-- The exponents of the rows. -/
theorem EX_apply (t : Nat) (j : S32x1.Idx) : EX I t j = expA (amax I (32 * t + (j 0).val)) := by
  unfold EX
  rw [expo_apply, rowScale_apply]; rfl

theorem fieldF_shl (e : IVec S32x1 32) (j : S32x1.Idx) : (fieldF (F := Ideal) e j : EReal) = FloatOps.ofBits (F := Ideal) .f32 (e j <<< 23#32) := by
  show FloatOps.ofBits (F := Ideal) .f32 (IntOp.shli .vector (e j) 23#32) = _
  rw [shl23]

theorem xsOf_apply (e : IVec S32x1 32) (j : S32x1.Idx) : (xsOf (F := Ideal) e j : EReal) = pow2 (e j) := by
  unfold xsOf; rw [fieldF_shl]; rfl

theorem bcast_row (v : FVec Ideal S32x1 .f32) (j : S32x128.Idx) (h h') :
    (broadcastTo S32x128 (shapeCast S32x1 v h) h' j : EReal) = v (ix2 (n0 := 32) (n1 := 1) (j 0) 0) := by
  rw [shapeCast_self]
  refine broadcastTo_apply _ _ _ _ fun a => ?_
  match a with | ⟨0, _⟩ => rfl | ⟨1, _⟩ => rfl

theorem xsbOf_apply (e : IVec S32x1 32) (j : S32x128.Idx) : (xsbOf (F := Ideal) e j : EReal) = pow2 (e (ix2 (n0 := 32) (n1 := 1) (j 0) 0)) := by
  unfold xsbOf
  rw [shapeCast_self, bcast_row, xsOf_apply]

theorem invOf_apply (e : IVec S32x1 32) (j : S32x128.Idx) : (invOf (F := Ideal) e j : EReal) = pow2 (-(e (ix2 (n0 := 32) (n1 := 1) (j 0) 0))) := by
  show (broadcastTo S32x128 (shapeCast S32x1 (fieldF (F := Ideal) (addi (subi (broadcast S32x1 0#32) e) (broadcast S32x1 127#32))) (by decide)) (by decide) j : EReal) = _
  rw [bcast_row, fieldF_shl]
  show FloatOps.ofBits (F := Ideal) .f32 ((0#32 - e _ + 127#32) <<< 23#32) = _
  rw [BitVec.zero_sub]; rfl

theorem quant_apply (inv v : FVec Ideal S32x128 .bf16) (j : S32x128.Idx) : (quant (F := Ideal) inv v j : EReal) = clip (v j * inv j) := rfl

theorem quant_code (t c : Nat) (j : S32x128.Idx) :
    (quant (F := Ideal) (invOf (F := Ideal) (EX I t)) (pc I t c) j : EReal) = code I (32 * t + (j 0).val) (128 * c + (j 1).val) := by
  rw [quant_apply, invOf_apply, EX_apply]; rfl

/-- The codes. -/
theorem CV_apply (i : S1024x12160.Idx) : (CV I i : EReal) = code I (i 0).val (i 1).val := by
  unfold CV codeOut
  rw [nx3, shapeCast_ab_1ab_apply, quant_code]
  show code I (32 * ((i 0).val / 32) + ((i 0).val % 32) % 32) (128 * ((i 1).val / 128) + ((i 1).val % 128) % 128) = _
  congr 1 <;> omega

/-- The quantised activations, zero past the last column. -/
theorem XQ_apply (i : S1024x12288.Idx) : (XQ I i : EReal) = if (i 1).val < 12160 then code I (i 0).val (i 1).val else 0 := by
  unfold XQ
  split
  · unfold quantOut
    rw [shapeCast_self]
    show (quant (F := Ideal) _ _ _ : EReal) = _
    rw [quant_code]
    show code I (32 * ((i 0).val / 32) + ((i 0).val % 32) % 32) (128 * ((i 1).val / 128) + ((i 1).val % 128) % 128) = _
    congr 1 <;> omega
  · exact ofBits_zero_b

/-- The rows' scales. -/
theorem XSV_apply (i : S1024x1.Idx) : (XSV I i : EReal) = pow2 (expA (amax I (i 0).val)) := by
  unfold XSV
  rw [xsOf_apply, EX_apply]
  show pow2 (expA (amax I (32 * ((i 0).val / 32) + ((i 0).val % 32) % 32))) = _
  congr 3; omega

theorem XSB_apply (i : S1024x128.Idx) : (XSB I i : EReal) = pow2 (expA (amax I (i 0).val)) := by
  unfold XSB
  rw [xsbOf_apply, EX_apply]
  show pow2 (expA (amax I (32 * ((i 0).val / 32) + ((i 0).val % 32) % 32))) = _
  congr 3; omega

end Cert.Alg
-- ==== Proof.Alg.Weight.lean ====
/-
  The decoded weights, over the extended reals: each code times the scale of its block of 32 columns,
  and zero past the last column.
-/
module

public import proofs.«01_k».proof.Proof.Alg.Row

@[expose] public section

noncomputable section

namespace Cert.Alg

open Idealize.ShloMosaic Idealize.SL.Sem
open Idealize.ShloMosaic.ValueIdx
open Cert.Mx

/-- The scale a scale code stands for. -/
def wsc (s : BitVec 8) : EReal := FloatOps.ofBits (F := Ideal) .f32 (s.setWidth 32 <<< 23#32)

variable (I : In Ideal)

/-- Row `r` of tile `n`, column `c`, decoded. -/
def wt (n : Nat) (g : Fin 2) (r c : Nat) : EReal := WBf I n g r c * wsc (SBf I n g r (c / 32))

/-- A lane's block, from the lane. -/
def lbF (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32) (IntOp.divsi .vector x 32#32)

theorem lbF_eq : ∀ l : Fin 128, lbF (BitVec.ofNat 32 l.val) = BitVec.ofNat 32 (l.val / 32) := by decide +kernel

theorem laneBlock_apply (j : S256x128.Idx) : laneBlock j = BitVec.ofNat 32 ((j 1).val / 32) := by
  have h1 : (j 1).val < 128 := (j 1).isLt
  have : laneBlock j = lbF (iota .tc S256x128 32 [1] (by decide) j) := rfl
  rw [this]
  have e : iota .tc S256x128 32 [1] (by decide) j = BitVec.ofNat 32 (j 1).val := by
    show BitVec.ofNat 32 (0 * _ + (j 1).val) = _
    rw [Nat.zero_mul, Nat.zero_add]
  rw [e]
  exact lbF_eq ⟨(j 1).val, h1⟩

theorem wrap_eq : ∀ x : Fin 128, Scalar.select (IntOp.cmpi .slt (BitVec.ofNat 32 x.val) 0#32) (IntOp.addi (BitVec.ofNat 32 x.val) 128#32) (BitVec.ofNat 32 x.val) = BitVec.ofNat 32 x.val := by
  decide +kernel

theorem laneIdx_apply (m : Nat) (hm : m ≤ 124) (j : S256x128.Idx) : laneIdx laneBlock (BitVec.ofNat 32 m) j = BitVec.ofNat 32 ((j 1).val / 32 + m) := by
  have h1 : (j 1).val < 128 := (j 1).isLt
  unfold laneIdx
  simp only []
  rw [shapeCast_shapeCast]
  show Scalar.select (IntOp.cmpi .slt (laneBlock j + BitVec.ofNat 32 m) 0#32) (IntOp.addi (laneBlock j + BitVec.ofNat 32 m) 128#32) (laneBlock j + BitVec.ofNat 32 m) = _
  rw [laneBlock_apply, ← BitVec.ofNat_add]
  exact wrap_eq ⟨(j 1).val / 32 + m, by omega⟩

theorem cast4 {α : Type} (x : S1x1x256x128.Idx → α) (h) (j : S256x128.Idx) : shapeCast S256x128 x h j = x (ix4 (0 : Fin 1) (0 : Fin 1) (j 0) (j 1)) := by
  refine shapeCast_apply _ _ _ _ ?_
  rw [Shape.rowMajor_val_four, Shape.rowMajor_val_two]
  show ((0 * 1 + 0) * 256 + (j 0).val) * 128 + (j 1).val = (j 0).val * 128 + (j 1).val
  omega

theorem cast3 {α : Type} (x : S1x256x128.Idx → α) (h) (j : S256x128.Idx) : shapeCast S256x128 x h j = x (ix3 (0 : Fin 1) (j 0) (j 1)) := by
  refine shapeCast_apply _ _ _ _ ?_
  rw [Shape.rowMajor_val_three, Shape.rowMajor_val_two]
  show (0 * 256 + (j 0).val) * 128 + (j 1).val = (j 0).val * 128 + (j 1).val
  omega

theorem piece_apply (m : Nat) (hm : m ≤ 124) (sv : Vec Ideal S1x256x128 .bf16) (w : Vec Ideal S1x1x256x128 .fp8e4m3) (j : S256x128.Idx)
    (l : Fin 128) (hl : l.val = (j 1).val / 32 + m) :
    (piece (F := Ideal) laneBlock (BitVec.ofNat 32 m) sv w j : EReal) = w (ix4 (0 : Fin 1) (0 : Fin 1) (j 0) (j 1)) * sv (ix3 (0 : Fin 1) (j 0) l) := by
  have h1 : (j 1).val < 128 := (j 1).isLt
  have e : (fun b : Fin S256x128.rank => if b = 1 then ⟨(laneIdx laneBlock (BitVec.ofNat 32 m) j).toNat % S256x128.size b, Nat.mod_lt _ (Fin.pos (j b))⟩ else j b : S256x128.Idx)
      = ix2 (n0 := 256) (n1 := 128) (j 0) l := by
    funext b
    match b with
    | ⟨0, _⟩ => rfl
    | ⟨1, _⟩ =>
      apply Fin.ext
      show (laneIdx laneBlock (BitVec.ofNat 32 m) j).toNat % 128 = l.val
      rw [laneIdx_apply m hm, BitVec.toNat_ofNat, hl]
      omega
  have hg : (dynamicGather 1 (scaleWin (F := Ideal) sv) (laneIdx laneBlock (BitVec.ofNat 32 m)) j : EReal) = sv (ix3 (0 : Fin 1) (j 0) l) := by
    unfold dynamicGather
    refine (congrArg (scaleWin (F := Ideal) sv) e).trans ?_
    exact cast3 sv (by decide) _
  have hw : (shapeCast S256x128 w (by decide) j : EReal) = w (ix4 (0 : Fin 1) (0 : Fin 1) (j 0) (j 1)) := cast4 w (by decide) j
  exact congrArg₂ (fun a b : EReal => a * b) hw hg

theorem sclOf_apply (v : Vec Ideal S1x1x256x380 .i8) (r : Fin 256) (c : Fin 380) :
    (sclOf (F := Ideal) v (ix3 (0 : Fin 1) r c) : EReal) = wsc (v (ix4 (0 : Fin 1) (0 : Fin 1) r c)) := by
  unfold sclOf
  rw [shapeCast_ab_1ab_apply]
  show FloatOps.ofBits (F := Ideal) .f32 (IntOp.shli .vector ((shapeCast S256x380 v (by decide) (ix2 r c) : BitVec 8).setWidth 32) 23#32) = _
  rw [shl23]
  unfold wsc
  rw [shapeCast_apply v _ (ix2 r c) (ix4 (0 : Fin 1) (0 : Fin 1) r c) (by
    rw [Shape.rowMajor_val_four, Shape.rowMajor_val_two]
    show ((0 * 1 + 0) * 256 + r.val) * 380 + c.val = r.val * 380 + c.val
    omega)]

theorem SC_apply (n : Nat) (g : Fin 2) (r c : Nat) (hr : r < 256) (hc : c < 380) : (SC I n g r c : EReal) = wsc (SBf I n g r c) := by
  unfold SC
  rw [if_pos hc, nx3]
  refine (sclOf_apply _ _ _).trans ?_
  show wsc (SBf I n g (r % 256) (c % 380)) = _
  rw [Nat.mod_eq_of_lt hr, Nat.mod_eq_of_lt hc]

/-- A piece of 128 columns from column `128 h` on. -/
theorem piece_wt (n h : Nat) (g : Fin 2) (m b : Nat) (hm : m ≤ 124) (hb : 128 * b + m = 4 * h) (hh : h < 95) (j : S256x128.Idx) :
    (piece (F := Ideal) laneBlock (BitVec.ofNat 32 m) (scv I n g b) (wv I n g h) j : EReal) = wt I n g (j 0).val (128 * h + (j 1).val) := by
  have h1 : (j 1).val < 128 := (j 1).isLt
  have h0 : (j 0).val < 256 := (j 0).isLt
  rw [piece_apply m hm _ _ j ⟨(j 1).val / 32 + m, by omega⟩ rfl]
  show WBf I n g (j 0).val (128 * h + (j 1).val) * (SC I n g (j 0).val (128 * b + ((j 1).val / 32 + m)) : EReal) = _
  rw [SC_apply _ _ _ _ _ h0 (by omega)]
  unfold wt
  rw [show 128 * b + ((j 1).val / 32 + m) = (128 * h + (j 1).val) / 32 by omega]

theorem cat_left (x y : S256x128.Idx → EReal) (h) (j : S256x256.Idx) (hj : (j 1).val < 128) :
    concatenate S256x256 1 [⟨S256x128, x⟩, ⟨S256x128, y⟩] h j = x (ix2 (n0 := 256) (n1 := 128) (j 0) ⟨(j 1).val, hj⟩) := by
  refine concatenate_pair_apply_left (t := S256x256) 1 x y h j rfl _ fun b => ?_
  match b with | ⟨0, _⟩ => rfl | ⟨1, _⟩ => rfl

theorem cat_right (x y : S256x128.Idx → EReal) (h) (j : S256x256.Idx) (hj : 128 ≤ (j 1).val) (hj' : (j 1).val - 128 < 128) :
    concatenate S256x256 1 [⟨S256x128, x⟩, ⟨S256x128, y⟩] h j = y (ix2 (n0 := 256) (n1 := 128) (j 0) ⟨(j 1).val - 128, hj'⟩) := by
  refine concatenate_pair_apply_right (t := S256x256) 1 x y h j rfl rfl _ (fun b hb => ?_) ?_
  · match b with | ⟨0, _⟩ => rfl | ⟨1, _⟩ => exact absurd rfl hb
  · show (j 1).val - 128 + 128 = (j 1).val
    omega

/-- The decoded tile of column block `k`. -/
theorem WT_apply (n k : Nat) (g : Fin 2) (hk : k < 48) (j : S256x256.Idx) :
    (WT I n k g j : EReal) = if 256 * k + (j 1).val < 12160 then wt I n g (j 0).val (256 * k + (j 1).val) else 0 := by
  have h1 : (j 1).val < 256 := (j 1).isLt
  unfold WT
  split
  · next hk' =>
    rw [if_pos (by omega)]
    have e0 : Scalar.addi (BitVec.ofNat 32 (8 * k % 128)) 0#32 = BitVec.ofNat 32 (8 * k % 128) := BitVec.add_zero _
    have e4 : Scalar.addi (BitVec.ofNat 32 (8 * k % 128)) 4#32 = BitVec.ofNat 32 (8 * k % 128 + 4) := (BitVec.ofNat_add _ _).symm
    unfold wtile
    rw [e0, e4]
    rcases Nat.lt_or_ge (j 1).val 128 with h | h
    · refine (cat_left _ _ _ j h).trans ((piece_wt I n (2 * k) g (8 * k % 128) (8 * k / 128) (by omega) (by omega) (by omega) _).trans ?_)
      show wt I n g (j 0).val (128 * (2 * k) + (j 1).val) = _
      congr 1; omega
    · refine (cat_right _ _ _ j h (by omega)).trans ((piece_wt I n (2 * k + 1) g (8 * k % 128 + 4) (8 * k / 128) (by omega) (by omega) (by omega) _).trans ?_)
      show wt I n g (j 0).val (128 * (2 * k + 1) + ((j 1).val - 128)) = _
      congr 1; omega
  · next hk' =>
    obtain rfl : k = 47 := by omega
    unfold whalf
    rcases Nat.lt_or_ge (j 1).val 128 with h | h
    · rw [if_pos (by omega)]
      refine (cat_left _ _ _ j h).trans ((piece_wt I n 94 g 120 2 (by omega) (by omega) (by omega) _).trans ?_)
      show wt I n g (j 0).val (128 * 94 + (j 1).val) = _
      congr 1
    · rw [if_neg (by omega)]
      exact (cat_right _ _ _ j h (by omega)).trans ofBits_zero_b

end Cert.Alg
-- ==== Proof.Alg.Out.lean ====
/-
  The output, over the extended reals: the blocks of 256 columns add up to the sum over all the columns,
  and each output is the gated product of two such sums.
-/
module

public import proofs.«01_k».proof.Proof.Alg.Weight
public import Idealize.ShloMosaic.Lib.MatmulPlain

@[expose] public section

noncomputable section

namespace Cert.Alg

open Idealize.ShloMosaic Idealize.SL.Sem
open Idealize.ShloMosaic.ValueIdx
open Cert.Mx

variable (I : In Ideal)

/-- One pass of the unit at row `i`, column `j`. -/
theorem ps_apply (x : FVec Ideal S256x256 .bf16) (w : Tile Ideal) (i j : Fin 256) :
    (ps (F := Ideal) x w (ix2 (n0 := 256) (n1 := 256) i j) : EReal) = ∑ k : Fin 256, (x (ix2 i k) : EReal) * w (ix2 j k) := by
  show ∑ k, (x ((DotDims.transposedRhs 256 256 256).lhsIdx (ix2 i j) k) : EReal) * w ((DotDims.transposedRhs 256 256 256).rhsIdx (ix2 i j) k) = _
  rw [← Equiv.sum_comp (DotDims.transposedRhsContr 256 256 256).symm]
  refine Finset.sum_congr rfl fun k _ => ?_
  have hk := contrEquiv1_symm_val _ 256 (DotDims.transposedRhs_contr_rank 256 256 256) (DotDims.transposedRhs_contr_size 256 256 256) k
  have el : (DotDims.transposedRhs 256 256 256).lhsIdx (ix2 i j) ((DotDims.transposedRhsContr 256 256 256).symm k) = ix2 i k := by
    funext a; apply Fin.ext
    match a with
    | ⟨0, _⟩ => rfl
    | ⟨1, _⟩ => exact hk
  have er : (DotDims.transposedRhs 256 256 256).rhsIdx (ix2 i j) ((DotDims.transposedRhsContr 256 256 256).symm k) = ix2 j k := by
    funext a; apply Fin.ext
    match a with
    | ⟨0, _⟩ => rfl
    | ⟨1, _⟩ => exact hk
  rw [el, er]

/-- The product at column `p`, zero past the last column. -/
def term (n : Nat) (q : Fin 2) (r o p : Nat) : EReal := if p < 12160 then code I r p * wt I n q o p else 0

theorem block_sum (n : Nat) (q : Fin 2) (a : Fin 4) (k : Nat) (hk : k < 48) (i j : Fin 256) :
    (ps (F := Ideal) (XB I k a) (WT I n k q) (ix2 (n0 := 256) (n1 := 256) i j) : EReal)
      = ∑ c ∈ Finset.range 256, term I n q (256 * a.val + i.val) j.val (256 * k + c) := by
  rw [ps_apply, ← Fin.sum_univ_eq_sum_range (fun c => term I n q (256 * a.val + i.val) j.val (256 * k + c)) 256]
  refine Finset.sum_congr rfl fun c _ => ?_
  have hx : (XB I k a (ix2 i c) : EReal) = if 256 * k + c.val < 12160 then code I (256 * a.val + i.val) (256 * k + c.val) else 0 := by
    unfold XB
    rw [XQ_apply]
    rw [show (nx2 1024 12288 (256 * a.val + (ix2 i c 0).val) (256 * k + (ix2 i c 1).val) 0).val = 256 * a.val + i.val from nx2_0 (by show 256 * a.val + i.val < 1024; omega),
      show (nx2 1024 12288 (256 * a.val + (ix2 i c 0).val) (256 * k + (ix2 i c 1).val) 1).val = 256 * k + c.val from nx2_1 (by show 256 * k + c.val < 12288; omega)]
  rw [hx, WT_apply I n k q hk]
  unfold term
  show _ * (if 256 * k + c.val < 12160 then wt I n q j.val (256 * k + c.val) else 0) = _
  split
  · rfl
  · exact zero_mul 0

theorem ACC_range (n : Nat) (q : Fin 2) (a : Fin 4) (i j : Fin 256) : ∀ k < 48,
    (ACC I n q a k (ix2 (n0 := 256) (n1 := 256) i j) : EReal) = ∑ p ∈ Finset.range (256 * (k + 1)), term I n q (256 * a.val + i.val) j.val p := by
  intro k
  induction k with
  | zero =>
    intro _
    refine (block_sum I n q a 0 (by omega) i j).trans (Finset.sum_congr rfl fun c _ => ?_)
    rw [Nat.mul_zero, Nat.zero_add]
  | succ k ih =>
    intro hk
    have e : (ACC I n q a (k + 1) (ix2 (n0 := 256) (n1 := 256) i j) : EReal)
      = (ACC I n q a k (ix2 (n0 := 256) (n1 := 256) i j) : EReal) + (ps (F := Ideal) (XB I (k + 1) a) (WT I n (k + 1) q) (ix2 (n0 := 256) (n1 := 256) i j) : EReal) := rfl
    rw [e, ih (by omega), block_sum I n q a (k + 1) hk, show 256 * (k + 1 + 1) = 256 * (k + 1) + 256 by ring, Finset.sum_range_add]

/-- The product of row `r` with row `o` of the tile. -/
def dotT (n : Nat) (q : Fin 2) (r o : Nat) : EReal := ∑ p : Fin 12160, code I r p.val * wt I n q o p.val

theorem ACC_apply (n : Nat) (q : Fin 2) (a : Fin 4) (i j : Fin 256) :
    (ACC I n q a 47 (ix2 (n0 := 256) (n1 := 256) i j) : EReal) = dotT I n q (256 * a.val + i.val) j.val := by
  rw [ACC_range I n q a i j 47 (by omega), show 256 * (47 + 1) = 12160 + 128 from rfl, Finset.sum_range_add]
  rw [Finset.sum_eq_zero (s := Finset.range 128) fun p _ => by unfold term; rw [if_neg (by omega)], add_zero]
  unfold dotT
  rw [← Fin.sum_univ_eq_sum_range (fun p => term I n q (256 * a.val + i.val) j.val p) 12160]
  refine Finset.sum_congr rfl fun p _ => ?_
  unfold term
  rw [if_pos p.isLt]

/-- Row `o` of the weights `q`, column `p`, decoded. -/
def wat (q : Fin 2) (o p : Nat) : EReal := I.W q (nx2 17024 12160 o p) * wsc (I.S q (nx2 17024 380 o (p / 32)))
/-- The product of row `r` with row `o` of the weights `q`. -/
def dotW (q : Fin 2) (r o : Nat) : EReal := ∑ p : Fin 12160, code I r p.val * wat I q o p.val
/-- `silu (g * s) * (u * s)`. -/
def gate (g u s : EReal) : EReal := g * s * Ideal.logistic (g * s) * (u * s)
/-- The output at row `r`, column `o`. -/
def yat (r o : Nat) : EReal := gate (dotW I 0 r o) (dotW I 1 r o) (pow2 (expA (amax I r)))

theorem dotT_full (n : Nat) (hn : n < 66) (q : Fin 2) (r o : Nat) : dotT I n q r o = dotW I q r (256 * n + o) := by
  unfold dotT dotW wt wat WBf SBf
  simp only [if_pos hn]

theorem dotT_gate (q : Fin 2) (r o : Nat) (h : o < 128) : dotT I 66 q r o = dotW I 0 r (16896 + o) := by
  unfold dotT dotW wt wat WBf SBf
  simp only [if_neg (show ¬ 66 < 66 by omega), if_pos h]

theorem dotT_up (q : Fin 2) (r o : Nat) (h : 128 ≤ o) : dotT I 66 q r o = dotW I 1 r (16768 + o) := by
  unfold dotT dotW wt wat WBf SBf
  simp only [if_neg (show ¬ 66 < 66 by omega), if_neg (show ¬ o < 128 by omega)]

theorem xsv_apply (a : Fin 4) (i : Fin 256) (l : Fin 128) : (xsv I a (ix2 i l) : EReal) = pow2 (expA (amax I (256 * a.val + i.val))) := by
  unfold xsv
  rw [XSB_apply]
  rw [show (nx2 1024 128 (256 * a.val + (ix2 i l 0).val) (ix2 i l 1).val 0).val = 256 * a.val + i.val from nx2_0 (by show 256 * a.val + i.val < 1024; omega)]

theorem swOut_apply (g u : FVec Ideal S256x256 .f32) (a : Fin 4) (i c : Fin 256) :
    (swOut (F := Ideal) g u (xsv I a) (ix3 (0 : Fin 1) i c) : EReal) = gate (g (ix2 i c)) (u (ix2 i c)) (pow2 (expA (amax I (256 * a.val + i.val)))) := by
  unfold swOut
  rw [shapeCast_ab_1ab_apply]
  have hx : (concatenate S256x256 1 [⟨S256x128, xsv I a⟩, ⟨S256x128, xsv I a⟩] concat_S256x256 (ix2 i c) : EReal) = pow2 (expA (amax I (256 * a.val + i.val))) := by
    rcases Nat.lt_or_ge c.val 128 with h | h
    · exact (cat_left _ _ _ (ix2 i c) h).trans (xsv_apply I a i _)
    · exact (cat_right _ _ _ (ix2 i c) h (by show c.val - 128 < 128; omega)).trans (xsv_apply I a i _)
  show gate (g (ix2 i c)) (u (ix2 i c)) (concatenate S256x256 1 [⟨S256x128, xsv I a⟩, ⟨S256x128, xsv I a⟩] concat_S256x256 (ix2 i c) : EReal) = _
  rw [hx]

theorem swOutT_apply (g : FVec Ideal S256x256 .f32) (a : Fin 4) (i : Fin 256) (c : Fin 128) :
    (swOutT (F := Ideal) g (xsv I a) (ix3 (0 : Fin 1) i c) : EReal)
      = gate (g (ix2 i ⟨c.val, by omega⟩)) (g (ix2 i ⟨128 + c.val, by omega⟩)) (pow2 (expA (amax I (256 * a.val + i.val)))) := by
  unfold swOutT
  rw [shapeCast_ab_1ab_apply]
  have hlo : (extractStridedSlice S256x128 ![0, 0] g slice_lo (ix2 i c) : EReal) = g (ix2 i ⟨c.val, by omega⟩) := by
    refine extractStridedSlice_apply _ _ _ _ _ fun b => ?_
    match b with
    | ⟨0, _⟩ => exact (Nat.zero_add _).symm
    | ⟨1, _⟩ => exact (Nat.zero_add _).symm
  have hhi : (extractStridedSlice S256x128 ![0, 128] g slice_hi (ix2 i c) : EReal) = g (ix2 i ⟨128 + c.val, by omega⟩) := by
    refine extractStridedSlice_apply _ _ _ _ _ fun b => ?_
    match b with
    | ⟨0, _⟩ => exact (Nat.zero_add _).symm
    | ⟨1, _⟩ => rfl
  show gate (extractStridedSlice S256x128 ![0, 0] g slice_lo (ix2 i c) : EReal) (extractStridedSlice S256x128 ![0, 128] g slice_hi (ix2 i c) : EReal) (xsv I a (ix2 i c) : EReal) = _
  rw [hlo, hhi, xsv_apply]

/-- The output. -/
theorem YV_apply (i : S1024x17024.Idx) : (YV I i : EReal) = yat I (i 0).val (i 1).val := by
  have h0 : (i 0).val < 1024 := (i 0).isLt
  have h1 : (i 1).val < 17024 := (i 1).isLt
  have ha : (Fin.ofNat 4 ((i 0).val / 256)).val = (i 0).val / 256 := Nat.mod_eq_of_lt (by omega)
  have hi : (Fin.ofNat 256 ((i 0).val % 256)).val = (i 0).val % 256 := Nat.mod_eq_of_lt (by omega)
  have hr : 256 * (Fin.ofNat 4 ((i 0).val / 256)).val + (Fin.ofNat 256 ((i 0).val % 256)).val = (i 0).val := by rw [ha, hi]; omega
  unfold YV YT
  split
  · next hn =>
    have hc : (Fin.ofNat 256 ((i 1).val % 256)).val = (i 1).val % 256 := Nat.mod_eq_of_lt (by omega)
    refine (swOut_apply I _ _ _ _ _).trans ?_
    rw [ACC_apply, ACC_apply, hr, dotT_full I _ hn, dotT_full I _ hn, hc, show 256 * ((i 1).val / 256) + (i 1).val % 256 = (i 1).val by omega]
    rfl
  · next hn =>
    have hc : (Fin.ofNat 128 ((i 1).val % 256)).val = (i 1).val % 256 := Nat.mod_eq_of_lt (by omega)
    refine (swOutT_apply I _ _ _ _).trans ?_
    rw [ACC_apply, ACC_apply, hr]
    show gate (dotT I 66 _ (i 0).val (Fin.ofNat 128 ((i 1).val % 256)).val) (dotT I 66 _ (i 0).val (128 + (Fin.ofNat 128 ((i 1).val % 256)).val)) _ = _
    rw [hc, dotT_gate I _ _ _ (by omega), dotT_up I _ _ _ (by omega), show 16896 + (i 1).val % 256 = (i 1).val by omega, show 16768 + (128 + (i 1).val % 256) = (i 1).val by omega]
    rfl

end Cert.Alg
-- ==== Proof.Alg.KerOut.lean ====
/-
  The kernel program's three results, over the extended reals, read at an index: the output, the codes
  and the scales of the flattened rows.
-/
module

public import proofs.«01_k».proof.Proof.Alg.Out
public import proofs.«01_k».proof.Proof.Launch
public import Idealize.ShloMosaic.Lib.Pipeline.ValueKit

@[expose] public section

noncomputable section

namespace Cert.Alg

open Idealize.ShloMosaic Idealize.ShloMosaic.TcCoe Idealize.SL.Sem
open Idealize.ShloMosaic.ValueIdx
open Cert.KernelIdeal Cert.KernelIdeal.Gen Cert.KernelIdeal.Run Idealize.ShloMosaic.StableHlo

variable (m : (ℓ : Loc nD τ sig) → Buf (Elt Ideal) ℓ) (c : Dev nD)

/-- The scales' array after the region. -/
theorem arr_xs : (Run.dats m 0 c).arrAt 0 cfg0.N = Mx.XSV (II m c) := by
  refine (Run.dats m 0 c).arrAt_eq_of_after_last 0 t0_0 (by decide +kernel) _ fun j => ?_
  blk_simp
  rw [Run.after0_0]

theorem end_y : Wend m c (Proc.devRef .tc main_v2) = shapeCast S4x256x17024 (Mx.YV (II m c)) (by decide) := by
  unfold Wend
  simp only [hostOps1, List.flatten_cons, List.flatten_nil, List.append_nil, List.cons_append, List.nil_append]
  after_results_simp
  rw [Pipeline.withArrays_of_ne _ c _ _ main_v1_0 (by decide), Pipeline.withR_of_mem _ _ _ _ main_v1_0 (by decide), G_y]
  rfl

theorem end_c : Wend m c (Proc.devRef .tc main_v3) = shapeCast S4x256x12160 (Mx.CV (II m c)) (by decide) := by
  unfold Wend
  simp only [hostOps1, List.flatten_cons, List.flatten_nil, List.append_nil, List.cons_append, List.nil_append]
  after_results_simp
  rw [Pipeline.withArrays_of_ne _ c _ _ main_v1_1 (by decide), Pipeline.withR_of_mem _ _ _ _ main_v1_1 (by decide), G_c]
  rfl

theorem end_s : Wend m c (Proc.devRef .tc main_v4) = shapeCast S4x256x1 (Mx.XSV (II m c)) (by decide) := by
  unfold Wend
  simp only [hostOps1, List.flatten_cons, List.flatten_nil, List.append_nil, List.cons_append, List.nil_append]
  after_results_simp
  rw [show Pipeline.withArrays spec0 c (Pipeline.withR (V0 m c) R0 c (G m c)) (fun w => (Run.dats m 0 c).arrAt w cfg0.N) (Proc.devRef .tc main_v1_2) = Mx.XSV (II m c) from
    (Pipeline.withArrays_arr spec0 launch0.win.arr_inj c _ _ 0).trans (arr_xs m c)]
  rfl

/-- The flattened rows are the argument's. -/
theorem V_v0 : V m c main_v0 = shapeCast S1024x12160 (s := S4x256x12160) (m ((c.tc : Thread nD τ).loc main_arg0)) (by decide) := by
  show V0 m c (Proc.devRef .tc main_v0) = _
  simp only [V0, hostOps0, List.flatten_cons, List.flatten_nil, List.append_nil, List.cons_append, List.nil_append]
  after_results_simp
  rfl

theorem x_at (b : Fin 4) (s : Fin 256) (k : Fin 12160) : (m ((c.tc : Thread nD τ).loc main_arg0) (ValueIdx.ix3 b s k) : EReal) = xat (II m c) (256 * b.val + s.val) k.val := by
  have hb := b.isLt
  have hs := s.isLt
  unfold xat
  show _ = V m c main_v0 (Cert.Mx.nx2 1024 12160 (256 * b.val + s.val) k.val)
  rw [V_v0]
  symm
  refine shapeCast_apply (s := S4x256x12160) _ _ _ _ ?_
  rw [Shape.rowMajor_val_three, Shape.rowMajor_val_two]
  show (b.val * 256 + s.val) * 12160 + k.val = (Cert.Mx.nx2 1024 12160 (256 * b.val + s.val) k.val 0).val * 12160 + (Cert.Mx.nx2 1024 12160 (256 * b.val + s.val) k.val 1).val
  rw [nx2_0 (by omega), nx2_1 k.isLt]
  omega

theorem row3 {n : Nat} {α : Type} (f : (⟨2, ![1024, n]⟩ : Shape).Idx → α) (h) (b : Fin 4) (s : Fin 256) (o : Fin n) :
    shapeCast (⟨3, ![4, 256, n]⟩ : Shape) f h (ValueIdx.ix3 b s o) = f (ValueIdx.ix2 (n0 := 1024) (n1 := n) ⟨256 * b.val + s.val, by omega⟩ o) := by
  refine shapeCast_apply _ _ _ _ ?_
  rw [Shape.rowMajor_val_three, Shape.rowMajor_val_two]
  show (256 * b.val + s.val) * n + o.val = (b.val * 256 + s.val) * n + o.val
  rw [Nat.mul_comm 256]

theorem y_at (b : Fin 4) (s : Fin 256) (o : Fin 17024) : (Wend m c (Proc.devRef .tc main_v2) (ValueIdx.ix3 b s o) : EReal) = yat (II m c) (256 * b.val + s.val) o.val := by
  rw [end_y]
  exact (row3 (n := 17024) _ _ b s o).trans (YV_apply _ _)

theorem c_at (b : Fin 4) (s : Fin 256) (k : Fin 12160) : (Wend m c (Proc.devRef .tc main_v3) (ValueIdx.ix3 b s k) : EReal) = code (II m c) (256 * b.val + s.val) k.val := by
  rw [end_c]
  exact (row3 (n := 12160) _ _ b s k).trans (CV_apply _ _)

theorem s_at (b : Fin 4) (s : Fin 256) : (Wend m c (Proc.devRef .tc main_v4) (ValueIdx.ix3 b s (0 : Fin 1)) : EReal) = pow2 (expA (amax (II m c) (256 * b.val + s.val))) := by
  rw [end_s]
  exact (row3 (n := 1) _ _ b s 0).trans (XSV_apply _ _)

theorem W_at (q : Fin 2) : (II m c).W q = (![m ((c.tc : Thread nD τ).loc main_arg1), m ((c.tc : Thread nD τ).loc main_arg3)] : Fin 2 → _) q := by
  fin_cases q
  · exact V_main_arg1 m c
  · exact V_main_arg3 m c

theorem S_at (q : Fin 2) : (II m c).S q = (![m ((c.tc : Thread nD τ).loc main_arg2), m ((c.tc : Thread nD τ).loc main_arg4)] : Fin 2 → _) q := by
  fin_cases q
  · exact V_main_arg2 m c
  · exact V_main_arg4 m c

end Cert.Alg
-- ==== Proof.Alg.RefScale.lean ====
/-
  The reference's scales, over the extended reals: its row maximum, its count of the powers of two
  and its exponent, read at an index.
-/
module

public import proofs.«01_k».proof.Proof.Alg.Row
public import proofs.«01_k».proof.Proof.Gen.ReferenceIdeal.Run

@[expose] public section

noncomputable section

namespace Cert.Alg

open Idealize.ShloMosaic Idealize.ShloMosaic.TcCoe Idealize.SL.Sem
open Idealize.ShloMosaic.ValueIdx
open Cert.ReferenceIdeal Cert.ReferenceIdeal.Gen Idealize.ShloMosaic.StableHlo

/-- The reference's largest magnitudes. -/
def rM (A : FVec Ideal S4x256x12160 .bf16) : FVec Ideal S4x256 .f32 :=
  Host.reduce FloatOps.maximumf (Host.absf (extf .f32 A bitsLt_bf16_f32)) (constant S_ .f32 0xFF800000#32) reducesTo_S4x256x12160_S4x256_d2 h_S_
/-- The reference's largest magnitudes over 448. -/
def rV (A : FVec Ideal S4x256x12160 .bf16) : FVec Ideal S4x256x1 .f32 :=
  mulf (broadcastInDim S4x256x1 ![0, 1] bcast_S4x256_S4x256x1_0_1 (rM A))
    (broadcastInDim S4x256x1 ![] bcast_S_S4x256x1 (constant S_ .f32 0x3B124925#32))
/-- The powers of two. -/
def rT : FVec Ideal S254 .f32 :=
  bitcastToFloat (F := Ideal) .f32 (Host.shli (addi (addi (broadcastInDim S254 ![] bcast_S_S254 (constantI S_ 32 4294967170#32)) (iotaInDim S254 32 0)) (broadcastInDim S254 ![] bcast_S_S254 (constantI S_ 32 127#32))) (broadcastInDim S254 ![] bcast_S_S254 (constantI S_ 32 23#32)))
/-- Which powers are no more than the value. -/
def rC (v : FVec Ideal S4x256x1 .f32) : IVec S4x256x254 32 :=
  extui 32 (cmpf .oge (broadcastInDim S4x256x254 ![0, 1, 2] bcast_S4x256x1_S4x256x254_0_1_2 v) (broadcastInDim S4x256x254 ![0, 1, 2] bcast_S1x1x254_S4x256x254_0_1_2 (broadcastInDim S1x1x254 ![2] bcast_S254_S1x1x254_2 rT))) natLt_1_32
/-- How many. -/
def rN (v : FVec Ideal S4x256x1 .f32) : IVec S4x256x1 32 :=
  broadcastInDim S4x256x1 ![0, 1] bcast_S4x256_S4x256x1_0_1 (Host.reduce IntOp.addi (rC v) (constantI S_ 32 0#32) reducesTo_S4x256x254_S4x256_d2 h_S_)
/-- The reference's exponents. -/
def rE (v : FVec Ideal S4x256x1 .f32) : IVec S4x256x1 32 :=
  select (ori (cmpi .eq (rN v) (broadcastInDim S4x256x1 ![] bcast_S_S4x256x1 (constantI S_ 32 0#32))) (cmpf .oeq v (broadcastInDim S4x256x1 ![] bcast_S_S4x256x1 (constant S_ .f32 0x7F800000#32))))
    (broadcastInDim S4x256x1 ![] bcast_S_S4x256x1 (id (constantI S_ 32 0#32))) (subi (rN v) (broadcastInDim S4x256x1 ![] bcast_S_S4x256x1 (constantI S_ 32 126#32)))
/-- Two to the exponents. -/
def rP (e : IVec S4x256x1 32) : FVec Ideal S4x256x1 .f32 :=
  bitcastToFloat (F := Ideal) .f32 (Host.shli (addi e (broadcastInDim S4x256x1 ![] bcast_S_S4x256x1 (constantI S_ 32 127#32))) (broadcastInDim S4x256x1 ![] bcast_S_S4x256x1 (constantI S_ 32 23#32)))

theorem red_max : S4x256x12160.Reduces [2] S4x256 := by decide
theorem red_cnt : S4x256x254.Reduces [2] S4x256 := by decide

theorem bc1 {α : Type} (x : S4x256.Idx → α) (j : S4x256x1.Idx) : broadcastInDim S4x256x1 ![0, 1] bcast_S4x256_S4x256x1_0_1 x j = x (ix2 (n0 := 4) (n1 := 256) (j 0) (j 1)) := by
  refine broadcastInDim_apply _ _ _ _ _ fun a => ?_
  match a with | ⟨0, _⟩ => rfl | ⟨1, _⟩ => rfl

theorem bcv {α : Type} (x : S4x256x1.Idx → α) (b : Fin 4) (s : Fin 256) (k : Fin 254) :
    broadcastInDim S4x256x254 ![0, 1, 2] bcast_S4x256x1_S4x256x254_0_1_2 x (ix3 b s k) = x (ix3 b s (0 : Fin 1)) := by
  refine broadcastInDim_apply _ _ _ _ _ fun a => ?_
  match a with | ⟨0, _⟩ => rfl | ⟨1, _⟩ => rfl | ⟨2, _⟩ => rfl

theorem bct {α : Type} (x : S254.Idx → α) (b : Fin 4) (s : Fin 256) (k : Fin 254) :
    broadcastInDim S4x256x254 ![0, 1, 2] bcast_S1x1x254_S4x256x254_0_1_2 (broadcastInDim S1x1x254 ![2] bcast_S254_S1x1x254_2 x) (ix3 b s k) = x (ix1 k) := by
  refine (broadcastInDim_apply _ _ _ _ (ix3 (0 : Fin 1) (0 : Fin 1) k) fun a => ?_).trans (broadcastInDim_apply _ _ _ _ _ fun a => ?_)
  · match a with | ⟨0, _⟩ => rfl | ⟨1, _⟩ => rfl | ⟨2, _⟩ => rfl
  · match a with | ⟨0, _⟩ => rfl

/-- The `k`-th power's exponent field. -/
theorem fld (k : Fin 254) : 4294967170#32 + BitVec.ofNat 32 k.val + 127#32 = BitVec.ofNat 32 (k.val + 1) := by
  have := k.isLt
  apply BitVec.eq_of_toNat_eq
  simp only [BitVec.toNat_add, BitVec.toNat_ofNat]
  omega

theorem rT_apply (k : Fin 254) : (rT (ix1 k) : EReal) = Fb (k.val + 1) := by
  show FloatOps.ofBits (F := Ideal) .f32 (IntOp.shli .host (4294967170#32 + BitVec.ofNat 32 k.val + 127#32) 23#32) = _
  rw [shl23, fld]; rfl

theorem setWidth_ofBool (p : Prop) [Decidable p] : (BitVec.ofBool (decide p)).setWidth 32 = if p then 1#32 else 0#32 := by
  by_cases h : p <;> simp [h]

theorem rC_apply (v : FVec Ideal S4x256x1 .f32) (b : Fin 4) (s : Fin 256) (k : Fin 254) :
    rC v (ix3 b s k) = if Fb (k.val + 1) ≤ (v (ix3 b s (0 : Fin 1)) : EReal) then 1#32 else 0#32 := by
  show (FloatOps.cmpf (F := Ideal) (φ := .f32) .oge (broadcastInDim S4x256x254 ![0, 1, 2] bcast_S4x256x1_S4x256x254_0_1_2 v (ix3 b s k))
    (broadcastInDim S4x256x254 ![0, 1, 2] bcast_S1x1x254_S4x256x254_0_1_2 (broadcastInDim S1x1x254 ![2] bcast_S254_S1x1x254_2 rT) (ix3 b s k))).setWidth 32 = _
  rw [bcv, bct, cmp_oge, setWidth_ofBool, rT_apply]

theorem fold_count {ι : Type} [DecidableEq ι] (s : Finset ι) (p : ι → Prop) [DecidablePred p] :
    s.fold IntOp.addi 0#32 (fun k => if p k then 1#32 else 0#32) = BitVec.ofNat 32 (s.filter p).card := by
  induction s using Finset.induction_on with
  | empty => rfl
  | insert a s ha ih =>
    rw [Finset.fold_insert ha, ih, Finset.filter_insert]
    split
    · rw [Finset.card_insert_of_notMem (by simp [ha]), Nat.add_comm, BitVec.ofNat_add]; rfl
    · exact BitVec.zero_add _

theorem rN_apply (v : FVec Ideal S4x256x1 .f32) (j : S4x256x1.Idx) : rN v j = BitVec.ofNat 32 (countOf (v (ix3 (n0 := 4) (n1 := 256) (j 0) (j 1) (0 : Fin 1)))) := by
  unfold rN
  rw [bc1, Host.reduce_eq_fold_single IntOp.addi _ _ _ red_cnt]
  have e : (rC v ∘ red_cnt.lift (ix2 (n0 := 4) (n1 := 256) (j 0) (j 1))) = fun k : Fin 254 => if Fb (k.val + 1) ≤ (v (ix3 (n0 := 4) (n1 := 256) (j 0) (j 1) (0 : Fin 1)) : EReal) then 1#32 else 0#32 := by
    funext k
    refine Eq.trans (congrArg (rC v) ?_) (rC_apply v (j 0) (j 1) k)
    funext a; match a with | ⟨0, _⟩ => rfl | ⟨1, _⟩ => rfl | ⟨2, _⟩ => rfl
  rw [e]
  exact fold_count _ _

theorem ix3_row (j : S4x256x1.Idx) : ix3 (n0 := 4) (n1 := 256) (n2 := 1) (j 0) (j 1) (0 : Fin 1) = j := by
  have h2 : (j 2).val < 1 := (j 2).isLt
  funext a
  match a with
  | ⟨0, _⟩ => rfl
  | ⟨1, _⟩ => rfl
  | ⟨2, _⟩ => exact Fin.ext (by show 0 = (j 2).val; omega)

/-- The reference's exponent. -/
theorem rE_apply (v : FVec Ideal S4x256x1 .f32) (j : S4x256x1.Idx) : rE v j = expOf (v j) := by
  rw [← expOf_count]
  have h := rN_apply v j
  rw [ix3_row] at h
  rw [← h]
  rfl

theorem rP_apply (e : IVec S4x256x1 32) (j : S4x256x1.Idx) : (rP e j : EReal) = pow2 (e j) := by
  show FloatOps.ofBits (F := Ideal) .f32 (IntOp.shli .host (e j + 127#32) 23#32) = _
  rw [shl23]; rfl

variable (I : Cert.Mx.In Ideal) (A : FVec Ideal S4x256x12160 .bf16)

/-- The operands as rows: row `256 b + s` is row `s` of batch `b`. -/
def Rows : Prop := ∀ (b : Fin 4) (s : Fin 256) (k : Fin 12160), (A (ix3 b s k) : EReal) = xat I (256 * b.val + s.val) k.val

variable {I A}

/-- A maximum over one axis from the least value is at most a bound when each element is. -/
theorem max_le {n : Nat} (f : Fin n → EReal) (z : EReal) (hz : z = ⊥) (b : EReal) :
    (Finset.univ : Finset (Fin n)).fold (FloatOps.maximumf (F := Ideal) (φ := .f32)) z f ≤ b ↔ ∀ k, f k ≤ b := by
  subst hz
  have : (Finset.univ : Finset (Fin n)).fold (FloatOps.maximumf (F := Ideal) (φ := .f32)) ⊥ f = (Finset.univ : Finset (Fin n)).fold max ⊥ f := rfl
  rw [this, Finset.fold_max_le]
  simp

theorem habs (A : FVec Ideal S4x256x12160 .bf16) (i : S4x256x12160.Idx) : (Host.absf (extf .f32 A bitsLt_bf16_f32) i : EReal) = mag (A i) := rfl

theorem lift_max (b : Fin 4) (s : Fin 256) (k : Fin (S4x256x12160.size 2)) : red_max.lift (ix2 (n0 := 4) (n1 := 256) b s) k = ix3 (n0 := 4) (n1 := 256) (n2 := 12160) b s k := by
  funext a; match a with | ⟨0, _⟩ => rfl | ⟨1, _⟩ => rfl | ⟨2, _⟩ => rfl

/-- The reference's row maxima. -/
theorem rM_apply (h : Rows I A) (b : Fin 4) (s : Fin 256) :
    (rM A (ix2 (n0 := 4) (n1 := 256) b s) : EReal)
      = amax I (256 * b.val + s.val) := by
  unfold rM
  rw [Host.reduce_eq_fold_single FloatOps.maximumf _ _ _ red_max]
  refine eq_of_forall_ge_iff fun y => ?_
  refine Iff.trans (max_le _ _ ofBits_neg_top y) ?_
  unfold amax
  rw [Finset.sup_le_iff]
  have e : ∀ k : Fin (S4x256x12160.size 2), ((Host.absf (extf .f32 A bitsLt_bf16_f32) ∘ red_max.lift (ix2 (n0 := 4) (n1 := 256) b s)) k : EReal) = mag (xat I (256 * b.val + s.val) k.val) := by
    intro k
    rw [Function.comp_apply, lift_max, habs]
    exact congrArg mag (h b s k)
  refine ⟨fun hk k _ => ?_, fun hk k => ?_⟩
  · exact (e k).symm.le.trans (hk k)
  · exact (e k).le.trans (hk k (Finset.mem_univ _))

theorem rV_apply (h : Rows I A) (j : S4x256x1.Idx) :
    (rV A j : EReal) = amax I (256 * (j 0).val + (j 1).val) * FloatOps.ofBits (F := Ideal) .f32 0x3B124925#32 := by
  have e := (bc1 (rM A) j).trans (rM_apply h (j 0) (j 1))
  unfold rV
  rw [mulf_apply]
  exact congrArg (· * FloatOps.ofBits (F := Ideal) .f32 0x3B124925#32) e

/-- The reference's scales. -/
theorem rS_apply (h : Rows I A) (j : S4x256x1.Idx) : (rP (rE (rV A)) j : EReal) = pow2 (expA (amax I (256 * (j 0).val + (j 1).val))) := by
  rw [rP_apply, rE_apply, rV_apply h]; rfl

/-- The reference's scaled activations. -/
def rX (A : FVec Ideal S4x256x12160 .bf16) : FVec Ideal S4x256x12160 .f32 :=
  mulf (extf .f32 A bitsLt_bf16_f32) (broadcastInDim S4x256x12160 ![0, 1, 2] bcast_S4x256x1_S4x256x12160_0_1_2 (rP (negi (rE (rV A)))))

theorem rX_apply (h : Rows I A) (b : Fin 4) (s : Fin 256) (k : Fin 12160) :
    (rX A (ix3 b s k) : EReal) = xat I (256 * b.val + s.val) k.val * pow2 (-(expA (amax I (256 * b.val + s.val)))) := by
  rw [← h b s k]
  refine congrArg (A (ix3 b s k) * ·) ?_
  refine (broadcastInDim_apply _ _ _ _ (ix3 b s (0 : Fin 1)) fun a => ?_).trans ?_
  · match a with | ⟨0, _⟩ => rfl | ⟨1, _⟩ => rfl | ⟨2, _⟩ => rfl
  · rw [rP_apply]
    show pow2 (-(rE (rV A) (ix3 b s (0 : Fin 1)))) = _
    rw [rE_apply, rV_apply h]; rfl

end Cert.Alg
-- ==== Proof.Alg.RefRegion.lean ====
/-
  The reference kernel region's four results, as functions of the arrays it is launched on: the codes
  twice (as 8-bit floats and widened) and the two code arrays of the weights, widened.
-/
module

public import proofs.«01_k».proof.Proof.Alg.RefScale
public import Idealize.ShloMosaic.Lib.Pipeline.ValueKit

@[expose] public section

noncomputable section

namespace Cert.Alg

open Idealize.ShloMosaic Idealize.ShloMosaic.TcCoe Idealize.SL.Sem
open Idealize.ShloMosaic.ValueIdx
open Cert.ReferenceIdeal Cert.ReferenceIdeal.Gen Idealize.ShloMosaic.StableHlo

variable (m : (ℓ : Loc nD τ sig) → Buf (Elt Ideal) ℓ) (c : Dev nD)

set_option maxRecDepth 8192 in
set_option maxHeartbeats 2000000 in
/-- What the region finds in its first array: the rows over their scales. -/
theorem V_v41 : V m c main_v41 = rX (m ((c.tc : Thread nD τ).loc main_arg0)) := by
  show Gen.V0 m c (Proc.devRef .tc main_v41) = _
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results_simp <;> rfl

/-- The value at `main_v33`. -/
theorem exit_v33 : Cert.ReferenceIdeal.Value.exitV m c (Proc.devRef .tc main_v33) = rP (rE (rV (m ((c.tc : Thread nD τ).loc main_arg0)))) :=
  (Cert.ReferenceIdeal.Value.exit_main_v33 m c).trans rfl

theorem idx0 : ∀ t : Fin cfg0.N, ∀ a, win0_0.index t a = 0 := (by decide +kernel : ∀ t : Fin grid0.N, ∀ a, win0_0.index t a = 0)
theorem idx1 : ∀ t : Fin cfg0.N, ∀ a, win0_1.index t a = 0 := (by decide +kernel : ∀ t : Fin grid0.N, ∀ a, win0_1.index t a = 0)
theorem idx2 : ∀ t : Fin cfg0.N, ∀ a, win0_2.index t a = 0 := (by decide +kernel : ∀ t : Fin grid0.N, ∀ a, win0_2.index t a = 0)

theorem iblk0 (t : Fin cfg0.N) : iblk m c 0 t = V m c main_v41 := by
  funext y
  show V m c main_v41 ((win0_0.rect t).emb y) = V m c main_v41 y
  exact congrArg (V m c main_v41) (funext fun a => Fin.ext (Pipeline.Window.rect_emb_val_of_index_zero win0_0 t a (idx0 t a) y))

theorem iblk1 (t : Fin cfg0.N) : iblk m c 1 t = V m c main_arg1 := by
  funext y
  show V m c main_arg1 ((win0_1.rect t).emb y) = V m c main_arg1 y
  exact congrArg (V m c main_arg1) (funext fun a => Fin.ext (Pipeline.Window.rect_emb_val_of_index_zero win0_1 t a (idx1 t a) y))

theorem iblk2 (t : Fin cfg0.N) : iblk m c 2 t = V m c main_arg3 := by
  funext y
  show V m c main_arg3 ((win0_2.rect t).emb y) = V m c main_arg3 y
  exact congrArg (V m c main_arg3) (funext fun a => Fin.ext (Pipeline.Window.rect_emb_val_of_index_zero win0_2 t a (idx2 t a) y))

theorem reg0 : Cert.ReferenceIdeal.Value.reg_main_v42_0 m c = out0_3 (V m c main_v41) (V m c main_arg1) (V m c main_arg3) := by
  unfold Cert.ReferenceIdeal.Value.reg_main_v42_0
  refine (dats m 0 c).arrAt_eq_of_after_last 3 t0_0 (by decide +kernel) _ fun j => ?_
  blk_simp
  rw [after0_3, iblk0, iblk1, iblk2]

theorem reg1 : Cert.ReferenceIdeal.Value.reg_main_v42_1 m c = out0_4 (V m c main_v41) (V m c main_arg1) (V m c main_arg3) := by
  unfold Cert.ReferenceIdeal.Value.reg_main_v42_1
  refine (dats m 0 c).arrAt_eq_of_after_last 4 t0_0 (by decide +kernel) _ fun j => ?_
  blk_simp
  rw [after0_4, iblk0, iblk1, iblk2]

theorem reg2 : Cert.ReferenceIdeal.Value.reg_main_v42_2 m c = out0_5 (V m c main_v41) (V m c main_arg1) (V m c main_arg3) := by
  unfold Cert.ReferenceIdeal.Value.reg_main_v42_2
  refine (dats m 0 c).arrAt_eq_of_after_last 5 t0_0 (by decide +kernel) _ fun j => ?_
  blk_simp
  rw [after0_5, iblk0, iblk1, iblk2]

theorem reg3 : Cert.ReferenceIdeal.Value.reg_main_v42_3 m c = out0_6 (V m c main_v41) (V m c main_arg1) (V m c main_arg3) := by
  unfold Cert.ReferenceIdeal.Value.reg_main_v42_3
  refine (dats m 0 c).arrAt_eq_of_after_last 6 t0_0 (by decide +kernel) _ fun j => ?_
  blk_simp
  rw [after0_6, iblk0, iblk1, iblk2]

theorem o3 (x0 : Vec Ideal S4x256x12160 .f32) (x1 x2 : Vec Ideal S17024x12160 .fp8e4m3) (j) : (out0_3 x0 x1 x2 j : EReal) = clip (x0 j) := by
  unfold out0_3
  have e : k0_pay1 (View.ld x0 r0_0) = k0_pay1 x0 := congrArg k0_pay1 (View.ld_unit_zero (by funext a; match a with | ⟨0, _⟩ => rfl | ⟨1, _⟩ => rfl | ⟨2, _⟩ => rfl) _ x0)
  rw [e]
  refine (congrFun (View.canon_unit_zero (by funext a; match a with | ⟨0, _⟩ => rfl | ⟨1, _⟩ => rfl | ⟨2, _⟩ => rfl) _ _) j).trans ?_
  unfold k0_pay1
  rw [shapeCast_self]
  rfl

theorem o4 (x0 : Vec Ideal S4x256x12160 .f32) (x1 x2 : Vec Ideal S17024x12160 .fp8e4m3) (j) : (out0_4 x0 x1 x2 j : EReal) = clip (x0 j) := by
  unfold out0_4
  have e : k0_pay2 (View.ld x0 r0_0) = k0_pay2 x0 := congrArg k0_pay2 (View.ld_unit_zero (by funext a; match a with | ⟨0, _⟩ => rfl | ⟨1, _⟩ => rfl | ⟨2, _⟩ => rfl) _ x0)
  rw [e]
  refine (congrFun (View.canon_unit_zero (by funext a; match a with | ⟨0, _⟩ => rfl | ⟨1, _⟩ => rfl | ⟨2, _⟩ => rfl) _ _) j).trans ?_
  unfold k0_pay2
  unfold k0_pay1
  rw [shapeCast_self]
  rfl

theorem o5 (x0 : Vec Ideal S4x256x12160 .f32) (x1 x2 : Vec Ideal S17024x12160 .fp8e4m3) (j) : (out0_5 x0 x1 x2 j : EReal) = x1 j := by
  unfold out0_5
  have e : k0_pay3 (View.ld x1 r0_1) = k0_pay3 x1 := congrArg k0_pay3 (View.ld_unit_zero (by funext a; match a with | ⟨0, _⟩ => rfl | ⟨1, _⟩ => rfl) _ x1)
  rw [e]
  refine (congrFun (View.canon_unit_zero (by funext a; match a with | ⟨0, _⟩ => rfl | ⟨1, _⟩ => rfl) _ _) j).trans ?_
  rfl

theorem o6 (x0 : Vec Ideal S4x256x12160 .f32) (x1 x2 : Vec Ideal S17024x12160 .fp8e4m3) (j) : (out0_6 x0 x1 x2 j : EReal) = x2 j := by
  unfold out0_6
  have e : k0_pay4 (View.ld x2 r0_1) = k0_pay4 x2 := congrArg k0_pay4 (View.ld_unit_zero (by funext a; match a with | ⟨0, _⟩ => rfl | ⟨1, _⟩ => rfl) _ x2)
  rw [e]
  refine (congrFun (View.canon_unit_zero (by funext a; match a with | ⟨0, _⟩ => rfl | ⟨1, _⟩ => rfl) _ _) j).trans ?_
  rfl

end Cert.Alg
-- ==== Proof.Alg.RefOut.lean ====
/-
  The reference's output, over the extended reals: the two matrix products, their scaling and the gate,
  read at an index.
-/
module

public import proofs.«01_k».proof.Proof.Alg.RefScale
public import proofs.«01_k».proof.Proof.Alg.Out
public import proofs.«01_k».proof.Proof.Gen.ReferenceIdeal.Read
public import Idealize.ShloMosaic.Lib.IdealHost

@[expose] public section

noncomputable section

namespace Cert.Alg

open Idealize.ShloMosaic Idealize.ShloMosaic.TcCoe Idealize.SL.Sem
open Idealize.ShloMosaic.ValueIdx
open Cert.ReferenceIdeal Cert.ReferenceIdeal.Gen Idealize.ShloMosaic.StableHlo

open Cert.ReferenceIdeal.Read

variable (I : Cert.Mx.In Ideal)

/-- The reference's decoded scale. -/
theorem v52_eq (s : BitVec 8) : IntOp.shli .host (IntOp.addi (IntOp.subi (s.setWidth 32) 127#32) 127#32) 23#32 = s.setWidth 32 <<< 23#32 := by
  rw [shl23]
  show (s.setWidth 32 - 127#32 + 127#32) <<< 23#32 = _
  rw [BitVec.sub_add_cancel]

theorem wr2 (x2 : IVec S17024x380 8) (r2 : FVec Ideal S17024x12160 .bf16) (o : Fin 17024) (k : Fin 12160) :
    (val_main_v56 (F := Ideal) x2 r2 (ix2 o k) : EReal) = r2 (ix2 o k) * wsc (x2 (ix2 o ⟨k.val / 32, by omega⟩)) := by
  have ho := o.isLt
  have hk := k.isLt
  rw [val_main_v56_apply, val_main_v55_apply, val_main_v43_apply, val_main_v54_apply, val_main_v53_apply]
  have e1 : idx_main_v43 (idx_main_v56 (ix2 o k)) = ix2 o k := by
    funext a
    match a with
    | ⟨0, _⟩ => exact Fin.ext (by show ((((o.val * 12160 + k.val) / 12160) * 380 + (o.val * 12160 + k.val) / 32 % 380) * 32 + (o.val * 12160 + k.val) % 32) / 12160 = o.val; omega)
    | ⟨1, _⟩ => exact Fin.ext (by show ((((o.val * 12160 + k.val) / 12160) * 380 + (o.val * 12160 + k.val) / 32 % 380) * 32 + (o.val * 12160 + k.val) % 32) % 12160 = k.val; omega)
  have e2 : idx_main_v53 (idx_main_v54 (idx_main_v56 (ix2 o k))) = ix2 o ⟨k.val / 32, by omega⟩ := by
    funext a
    match a with
    | ⟨0, _⟩ => exact Fin.ext (by show (o.val * 12160 + k.val) / 12160 = o.val; omega)
    | ⟨1, _⟩ => exact Fin.ext (by show (o.val * 12160 + k.val) / 32 % 380 = k.val / 32; omega)
  rw [e1, e2]
  show (r2 (ix2 o k) : EReal) * FloatOps.ofBits (F := Ideal) .f32 (IntOp.shli .host (IntOp.addi (IntOp.subi ((x2 (ix2 o ⟨k.val / 32, by omega⟩)).setWidth 32) 127#32) 127#32) 23#32) = _
  rw [v52_eq]
  rfl

theorem wr3 (x4 : IVec S17024x380 8) (r3 : FVec Ideal S17024x12160 .bf16) (o : Fin 17024) (k : Fin 12160) :
    (val_main_v70 (F := Ideal) x4 r3 (ix2 o k) : EReal) = r3 (ix2 o k) * wsc (x4 (ix2 o ⟨k.val / 32, by omega⟩)) := by
  have ho := o.isLt
  have hk := k.isLt
  rw [val_main_v70_apply, val_main_v69_apply, val_main_v57_apply, val_main_v68_apply, val_main_v67_apply]
  have e1 : idx_main_v57 (idx_main_v70 (ix2 o k)) = ix2 o k := by
    funext a
    match a with
    | ⟨0, _⟩ => exact Fin.ext (by show ((((o.val * 12160 + k.val) / 12160) * 380 + (o.val * 12160 + k.val) / 32 % 380) * 32 + (o.val * 12160 + k.val) % 32) / 12160 = o.val; omega)
    | ⟨1, _⟩ => exact Fin.ext (by show ((((o.val * 12160 + k.val) / 12160) * 380 + (o.val * 12160 + k.val) / 32 % 380) * 32 + (o.val * 12160 + k.val) % 32) % 12160 = k.val; omega)
  have e2 : idx_main_v67 (idx_main_v68 (idx_main_v70 (ix2 o k))) = ix2 o ⟨k.val / 32, by omega⟩ := by
    funext a
    match a with
    | ⟨0, _⟩ => exact Fin.ext (by show (o.val * 12160 + k.val) / 12160 = o.val; omega)
    | ⟨1, _⟩ => exact Fin.ext (by show (o.val * 12160 + k.val) / 32 % 380 = k.val / 32; omega)
  rw [e1, e2]
  show (r3 (ix2 o k) : EReal) * FloatOps.ofBits (F := Ideal) .f32 (IntOp.shli .host (IntOp.addi (IntOp.subi ((x4 (ix2 o ⟨k.val / 32, by omega⟩)).setWidth 32) 127#32) 127#32) 23#32) = _
  rw [v52_eq]
  rfl

theorem wat_eq (q : Fin 2) (x : IVec S17024x380 8) (r : FVec Ideal S17024x12160 .bf16) (hx : ∀ j, x j = I.S q j) (hr : ∀ j, (r j : EReal) = I.W q j)
    (o : Fin 17024) (k : Fin 12160) : (r (ix2 o k) : EReal) * wsc (x (ix2 o ⟨k.val / 32, by omega⟩)) = wat I q o.val k.val := by
  have ho := o.isLt
  have hk := k.isLt
  have e1 : Cert.Mx.nx2 17024 12160 o.val k.val = ix2 o k := by
    funext a
    match a with
    | ⟨0, _⟩ => exact Fin.ext (nx2_0 ho)
    | ⟨1, _⟩ => exact Fin.ext (nx2_1 hk)
  have e2 : Cert.Mx.nx2 17024 380 o.val (k.val / 32) = ix2 o ⟨k.val / 32, by omega⟩ := by
    funext a
    match a with
    | ⟨0, _⟩ => exact Fin.ext (nx2_0 ho)
    | ⟨1, _⟩ => exact Fin.ext (nx2_1 (by omega))
  unfold wat
  rw [e1, e2, hx, hr]

/-- The reference's codes, flattened. -/
def Codes (r1 : FVec Ideal S4x256x12160 .bf16) : Prop := ∀ (b : Fin 4) (s : Fin 256) (k : Fin 12160), (r1 (ix3 b s k) : EReal) = code I (256 * b.val + s.val) k.val

variable {I}

theorem dot2 (x2 : IVec S17024x380 8) (r1 : FVec Ideal S4x256x12160 .bf16) (r2 : FVec Ideal S17024x12160 .bf16) (hc : Codes I r1)
    (hx : ∀ j, x2 j = I.S 0 j) (hr : ∀ j, (r2 j : EReal) = I.W 0 j) (b : Fin 4) (s : Fin 256) (o : Fin 17024) :
    (val_main_v71 (F := Ideal) x2 r1 r2 (ix3 b s o) : EReal) = dotW I 0 (256 * b.val + s.val) o.val := by
  rw [val_main_v71_apply]
  unfold dotW
  refine Finset.sum_congr rfl fun k _ => ?_
  have el : lidx_main_v71 (ix3 b s o) k = ix3 b s k := by
    funext a
    match a with | ⟨0, _⟩ => rfl | ⟨1, _⟩ => rfl | ⟨2, _⟩ => rfl
  have er : ridx_main_v71 (ix3 b s o) k = ix2 o k := by
    funext a
    match a with | ⟨0, _⟩ => rfl | ⟨1, _⟩ => rfl
  rw [el, er]
  exact congrArg₂ (fun x y : EReal => x * y) (hc b s k) ((wr2 x2 r2 o k).trans (wat_eq I 0 x2 r2 hx hr o k))

theorem dot3 (x4 : IVec S17024x380 8) (r1 : FVec Ideal S4x256x12160 .bf16) (r3 : FVec Ideal S17024x12160 .bf16) (hc : Codes I r1)
    (hx : ∀ j, x4 j = I.S 1 j) (hr : ∀ j, (r3 j : EReal) = I.W 1 j) (b : Fin 4) (s : Fin 256) (o : Fin 17024) :
    (val_main_v74 (F := Ideal) x4 r1 r3 (ix3 b s o) : EReal) = dotW I 1 (256 * b.val + s.val) o.val := by
  rw [val_main_v74_apply]
  unfold dotW
  refine Finset.sum_congr rfl fun k _ => ?_
  have el : lidx_main_v74 (ix3 b s o) k = ix3 b s k := by
    funext a
    match a with | ⟨0, _⟩ => rfl | ⟨1, _⟩ => rfl | ⟨2, _⟩ => rfl
  have er : ridx_main_v74 (ix3 b s o) k = ix2 o k := by
    funext a
    match a with | ⟨0, _⟩ => rfl | ⟨1, _⟩ => rfl
  rw [el, er]
  exact congrArg₂ (fun x y : EReal => x * y) (hc b s k) ((wr3 x4 r3 o k).trans (wat_eq I 1 x4 r3 hx hr o k))

/-- The reference's gate is the kernel's. -/
theorem silu_eq (g : EReal) : g * FloatOps.hostDivf (F := Ideal) (φ := .f32) (FloatOps.ofBits (F := Ideal) .f32 0x3F800000#32)
    (FloatOps.addf (F := Ideal) (φ := .f32) (FloatOps.ofBits (F := Ideal) .f32 0x3F800000#32) (FloatOps.hostUnary (F := Ideal) (φ := .f32) .exp (FloatOps.hostNegf (F := Ideal) (φ := .f32) g)))
    = g * Ideal.logistic g := by
  rw [show FloatOps.ofBits (F := Ideal) .f32 0x3F800000#32 = (1 : EReal) from Ideal.ofBits_one_f32]
  rfl

theorem out_apply (x2 x4 : IVec S17024x380 8) (r1 : FVec Ideal S4x256x12160 .bf16) (r2 r3 : FVec Ideal S17024x12160 .bf16) (e0 : FVec Ideal S4x256x1 .f32)
    (hc : Codes I r1) (h2 : ∀ j, x2 j = I.S 0 j) (h4 : ∀ j, x4 j = I.S 1 j) (hr2 : ∀ j, (r2 j : EReal) = I.W 0 j) (hr3 : ∀ j, (r3 j : EReal) = I.W 1 j)
    (b : Fin 4) (s : Fin 256) (o : Fin 17024) (he : (e0 (ix3 b s (0 : Fin 1)) : EReal) = pow2 (expA (amax I (256 * b.val + s.val)))) :
    (val_main_v79 (F := Ideal) x2 x4 r1 r2 r3 e0 (ix3 b s o) : EReal) = yat I (256 * b.val + s.val) o.val := by
  have i72 : idx_main_v72 (ix3 b s o) = ix3 b s (0 : Fin 1) := by
    funext a
    match a with | ⟨0, _⟩ => rfl | ⟨1, _⟩ => rfl | ⟨2, _⟩ => rfl
  have i75 : idx_main_v75 (ix3 b s o) = ix3 b s (0 : Fin 1) := by
    funext a
    match a with | ⟨0, _⟩ => rfl | ⟨1, _⟩ => rfl | ⟨2, _⟩ => rfl
  have h73 : (val_main_v73 (F := Ideal) x2 r1 r2 e0 (ix3 b s o) : EReal) = dotW I 0 (256 * b.val + s.val) o.val * pow2 (expA (amax I (256 * b.val + s.val))) := by
    rw [val_main_v73_apply, val_main_v72_apply, i72]
    exact congrArg₂ (fun x y : EReal => x * y) (dot2 x2 r1 r2 hc h2 hr2 b s o) he
  have h76 : (val_main_v76 (F := Ideal) x4 r1 r3 e0 (ix3 b s o) : EReal) = dotW I 1 (256 * b.val + s.val) o.val * pow2 (expA (amax I (256 * b.val + s.val))) := by
    rw [val_main_v76_apply, val_main_v75_apply, i75]
    exact congrArg₂ (fun x y : EReal => x * y) (dot3 x4 r1 r3 hc h4 hr3 b s o) he
  rw [val_main_v79_apply, val_main_v78_apply, val_main_v77_apply, val_main_call1_v5_apply, val_main_call1_v4_apply, val_main_call1_cst_0_apply,
    val_main_call1_v3_apply, val_main_call1_v2_apply, val_main_call1_cst_apply, val_main_call1_v1_apply, val_main_call1_v0_apply]
  unfold yat gate
  rw [← h73, ← h76]
  exact congrArg (fun x : EReal => x * val_main_v76 (F := Ideal) x4 r1 r3 e0 (ix3 b s o)) (silu_eq _)

end Cert.Alg
-- ==== Proof.Alg.RefVal.lean ====
/-
  The reference program's three results at an index, for arguments that are the given rows, codes and
  scale codes.
-/
module

public import proofs.«01_k».proof.Proof.Alg.RefRegion
public import proofs.«01_k».proof.Proof.Alg.RefOut

@[expose] public section

noncomputable section

namespace Cert.Alg

open Idealize.ShloMosaic Idealize.ShloMosaic.TcCoe Idealize.SL.Sem
open Idealize.ShloMosaic.ValueIdx
open Cert.ReferenceIdeal Cert.ReferenceIdeal.Gen Idealize.ShloMosaic.StableHlo

open Cert.ReferenceIdeal.Value Cert.ReferenceIdeal.Read

variable {I : Cert.Mx.In Ideal} (m : (ℓ : Loc nD τ sig) → Buf (Elt Ideal) ℓ) (c : Dev nD)

theorem ref_c (h : Rows I (m ((c.tc : Thread nD τ).loc main_arg0))) (b : Fin 4) (s : Fin 256) (k : Fin 12160) :
    (reg_main_v42_0 m c (ValueIdx.ix3 b s k) : EReal) = code I (256 * b.val + s.val) k.val := by
  rw [reg0]
  refine (o3 _ _ _ _).trans ?_
  rw [V_v41]
  exact congrArg clip (rX_apply h b s k)

theorem ref_codes (h : Rows I (m ((c.tc : Thread nD τ).loc main_arg0))) : Codes I (reg_main_v42_1 m c) := fun b s k => by
  rw [reg1]
  refine (o4 _ _ _ _).trans ?_
  rw [V_v41]
  exact congrArg clip (rX_apply h b s k)

theorem ref_w2 (hw : ∀ j, (m ((c.tc : Thread nD τ).loc main_arg1) j : EReal) = I.W 0 j) (j) : (reg_main_v42_2 m c j : EReal) = I.W 0 j := by
  rw [reg2]
  refine (o5 _ _ _ _).trans ?_
  rw [V_main_arg1]
  exact hw j

theorem ref_w3 (hw : ∀ j, (m ((c.tc : Thread nD τ).loc main_arg3) j : EReal) = I.W 1 j) (j) : (reg_main_v42_3 m c j : EReal) = I.W 1 j := by
  rw [reg3]
  refine (o6 _ _ _ _).trans ?_
  rw [V_main_arg3]
  exact hw j

theorem res_eq : res_main_v79 m c = val_main_v79 (F := Ideal) (m ((c.tc : Thread nD τ).loc main_arg2)) (m ((c.tc : Thread nD τ).loc main_arg4))
    (reg_main_v42_1 m c) (reg_main_v42_2 m c) (reg_main_v42_3 m c) (rP (rE (rV (m ((c.tc : Thread nD τ).loc main_arg0))))) := by
  have h := val_main_v79_eq (F := Ideal) (exitV m c)
  rw [exit_main_arg2, exit_main_arg4, exit_main_v42_1, exit_main_v42_2, exit_main_v42_3, exit_v33] at h
  unfold res_main_v79
  exact h

theorem ref_y (h : Rows I (m ((c.tc : Thread nD τ).loc main_arg0)))
    (h1 : ∀ j, (m ((c.tc : Thread nD τ).loc main_arg1) j : EReal) = I.W 0 j) (h2 : ∀ j, m ((c.tc : Thread nD τ).loc main_arg2) j = I.S 0 j)
    (h3 : ∀ j, (m ((c.tc : Thread nD τ).loc main_arg3) j : EReal) = I.W 1 j) (h4 : ∀ j, m ((c.tc : Thread nD τ).loc main_arg4) j = I.S 1 j)
    (b : Fin 4) (s : Fin 256) (o : Fin 17024) : (res_main_v79 m c (ValueIdx.ix3 b s o) : EReal) = yat I (256 * b.val + s.val) o.val := by
  rw [res_eq]
  exact out_apply _ _ _ _ _ _ (ref_codes m c h) h2 h4 (ref_w2 m c h1) (ref_w3 m c h3) b s o (rS_apply h _)

end Cert.Alg
-- ==== Proof.Alg.Meet.lean ====
/-
  Over the extended reals the two programs, run on the same arguments, leave the same three results:
  each is, at every index, the same function of the flattened rows, the codes and the scale codes.
-/
module

public import proofs.«01_k».proof.Defs
public import proofs.«01_k».proof.Proof.Alg.KerOut
public import proofs.«01_k».proof.Proof.Alg.RefVal

@[expose] public section

noncomputable section

namespace Cert.Alg

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Two arrays of three axes are equal if they are at every index. -/
theorem ext3 {a b n : Nat} {f g : (⟨3, ![a, b, n]⟩ : Shape).Idx → EReal} (h : ∀ i j k, f (ValueIdx.ix3 i j k) = g (ValueIdx.ix3 i j k)) : f = g := by
  funext i
  have e : i = ValueIdx.ix3 (n0 := a) (n1 := b) (n2 := n) (i 0) (i 1) (i 2) := by
    funext q
    match q with | ⟨0, _⟩ => rfl | ⟨1, _⟩ => rfl | ⟨2, _⟩ => rfl
  rw [e]
  exact h _ _ _

theorem meet_y
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v79 m' c = Cert.KernelIdeal.Run.Wend m c (Proc.devRef .tc Cert.KernelIdeal.main_v2) := by
  refine ext3 (a := 4) (b := 256) (n := 17024) fun b s o => ?_
  refine (ref_y (I := Cert.KernelIdeal.Run.II m c) m' c ?_ ?_ ?_ ?_ ?_ b s o).trans (y_at m c b s o).symm
  · rw [h0]; exact x_at m c
  · intro j; rw [h1]; exact (congrFun (W_at m c 0) j).symm
  · intro j; rw [h2]; exact (congrFun (S_at m c 0) j).symm
  · intro j; rw [h3]; exact (congrFun (W_at m c 1) j).symm
  · intro j; rw [h4]; exact (congrFun (S_at m c 1) j).symm

theorem meet_c
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.reg_main_v42_0 m' c = Cert.KernelIdeal.Run.Wend m c (Proc.devRef .tc Cert.KernelIdeal.main_v3) := by
  refine ext3 (a := 4) (b := 256) (n := 12160) fun b s k => ?_
  refine (ref_c (I := Cert.KernelIdeal.Run.II m c) m' c ?_ b s k).trans (c_at m c b s k).symm
  rw [h0]; exact x_at m c

theorem meet_s
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    rP (rE (rV (m' ((c.tc : Thread Cert.ReferenceIdeal.nD Cert.ReferenceIdeal.τ).loc Cert.ReferenceIdeal.main_arg0)))) = Cert.KernelIdeal.Run.Wend m c (Proc.devRef .tc Cert.KernelIdeal.main_v4) := by
  refine ext3 (a := 4) (b := 256) (n := 1) fun b s k => ?_
  obtain rfl : k = 0 := Subsingleton.elim _ _
  rw [h0]
  exact (rS_apply (I := Cert.KernelIdeal.Run.II m c) (x_at m c) _).trans (s_at m c b s).symm

/-- The claim that the results meet. -/
theorem algebraic : algebraic_KernelIdeal_ReferenceIdeal (hKernelIdeal := Cert.KernelIdeal.Gen.facts) (hReferenceIdeal := Cert.ReferenceIdeal.Gen.facts) := by
  intro m g m' g' _ hag
  letI := Cert.KernelIdeal.Gen.facts
  letI := Cert.ReferenceIdeal.Gen.facts
  refine ⟨fun c => Cert.KernelIdeal.Run.Wend m c (Proc.devRef .tc Cert.KernelIdeal.main_v2), fun c => Cert.KernelIdeal.Run.Wend m c (Proc.devRef .tc Cert.KernelIdeal.main_v3),
    fun c => Cert.KernelIdeal.Run.Wend m c (Proc.devRef .tc Cert.KernelIdeal.main_v4), ?_, ?_⟩
  · exact (θ_run (Cert.KernelIdeal.defs (F := Ideal)) _ _).mono (fun r h c =>
      ⟨h.1 c Cert.KernelIdeal.main_v2 (Pipeline.mem_restRefs_of Cert.KernelIdeal.main_v2 (by decide) (by decide)),
       h.1 c Cert.KernelIdeal.main_v3 (Pipeline.mem_restRefs_of Cert.KernelIdeal.main_v3 (by decide) (by decide)),
       h.1 c Cert.KernelIdeal.main_v4 (Pipeline.mem_restRefs_of Cert.KernelIdeal.main_v4 (by decide) (by decide)),
       ((h.1 c Cert.KernelIdeal.main_arg0 (Pipeline.mem_restRefs_of Cert.KernelIdeal.main_arg0 (by decide) (by decide))).trans (Cert.KernelIdeal.Run.Wend_of m c Cert.KernelIdeal.main_arg0 (by decide) (by decide) (by decide) (by decide) (by decide))).trans (Cert.KernelIdeal.Gen.V_main_arg0 m c),
       ((h.1 c Cert.KernelIdeal.main_arg1 (Pipeline.mem_restRefs_of Cert.KernelIdeal.main_arg1 (by decide) (by decide))).trans (Cert.KernelIdeal.Run.Wend_of m c Cert.KernelIdeal.main_arg1 (by decide) (by decide) (by decide) (by decide) (by decide))).trans (Cert.KernelIdeal.Gen.V_main_arg1 m c),
       ((h.1 c Cert.KernelIdeal.main_arg2 (Pipeline.mem_restRefs_of Cert.KernelIdeal.main_arg2 (by decide) (by decide))).trans (Cert.KernelIdeal.Run.Wend_of m c Cert.KernelIdeal.main_arg2 (by decide) (by decide) (by decide) (by decide) (by decide))).trans (Cert.KernelIdeal.Gen.V_main_arg2 m c),
       ((h.1 c Cert.KernelIdeal.main_arg3 (Pipeline.mem_restRefs_of Cert.KernelIdeal.main_arg3 (by decide) (by decide))).trans (Cert.KernelIdeal.Run.Wend_of m c Cert.KernelIdeal.main_arg3 (by decide) (by decide) (by decide) (by decide) (by decide))).trans (Cert.KernelIdeal.Gen.V_main_arg3 m c),
       ((h.1 c Cert.KernelIdeal.main_arg4 (Pipeline.mem_restRefs_of Cert.KernelIdeal.main_arg4 (by decide) (by decide))).trans (Cert.KernelIdeal.Run.Wend_of m c Cert.KernelIdeal.main_arg4 (by decide) (by decide) (by decide) (by decide) (by decide))).trans (Cert.KernelIdeal.Gen.V_main_arg4 m c)⟩)
      (Cert.KernelIdeal.Run.run_main m g)
  · exact (θ_run (Cert.ReferenceIdeal.defs (F := Ideal)) _ _).mono (fun r h c => by
      obtain ⟨a0, a1, a2, a3, a4⟩ := hag c
      obtain ⟨e0, e1, e2, er⟩ := h c
      exact ⟨e0.trans (meet_y m m' c a0 a1 a2 a3 a4), e1.trans (meet_c m m' c a0), e2.trans (meet_s m m' c a0), er⟩)
      (Cert.ReferenceIdeal.Value.run m' g')

end Cert.Alg
-- ==== Proof.lean ====
/-
  The proof of `Cert.Claim`. The frame of the idealized program is `Proof/Launch.lean`'s at `Ideal`;
  the program's own is the same theorem at `Bits`, the two programs being one text
  (`Proof/Mx/Same.lean`). The reference's frame is its generated one. The equality of the results over
  the extended reals is `Proof/Alg/Meet.lean`'s.
-/
module

public import proofs.«01_k».proof.Defs
public import proofs.«01_k».proof.Proof.Launch
public import proofs.«01_k».proof.Proof.Mx.Same
public import proofs.«01_k».proof.Proof.Alg.Meet
public import proofs.«01_k».proof.Proof.Gen.ReferenceIdeal.Run
public import proofs.«01_k».proof.Proof.Gen.ReferenceIdeal.Read

@[expose] public section

set_option maxHeartbeats 0

noncomputable section

namespace Cert.Proof

open Idealize.ShloMosaic Idealize.SL.Sem

theorem frame_kernel : quiescent_Kernel (hKernel := Cert.Kernel.Gen.facts) := by
  intro m g _
  letI := Cert.Kernel.Gen.facts
  letI := Cert.KernelIdeal.Gen.facts
  rw [Same.defs_same (F := Bits), Same.main_same (F := Bits)]
  exact Cert.KernelIdeal.Run.frame (F := Bits) m g

theorem frame_kernelIdeal : quiescent_KernelIdeal (hKernelIdeal := Cert.KernelIdeal.Gen.facts) := fun m g _ =>
  Cert.KernelIdeal.Run.frame (F := Ideal) m g

theorem frame_referenceIdeal : quiescent_ReferenceIdeal (hReferenceIdeal := Cert.ReferenceIdeal.Gen.facts) := fun m g _ =>
  Cert.ReferenceIdeal.Gen.frame m g

theorem claim : Cert.Claim := ⟨Cert.Kernel.Gen.facts, Cert.KernelIdeal.Gen.facts, Cert.ReferenceIdeal.Gen.facts,
  frame_kernel, frame_kernelIdeal, frame_referenceIdeal, trivial, Cert.Alg.algebraic⟩

end Cert.Proof

end
